-- ==== Defs.lean ====
def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleIdeal_finite_ple [hPre_finite_ple : Cert.Pre_finite_ple.Facts] (m : (ℓ : Loc Cert.PleIdeal.nD Cert.PleIdeal.τ Cert.PleIdeal.sig) → Buf (Elt Ideal) ℓ) : Prop :=
  ∀ c : Dev Cert.PleIdeal.nD,
    (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6)) (m ((c.tc : Thread Cert.PleIdeal.nD Cert.PleIdeal.τ).loc Cert.PleIdeal.main_arg7)) (m ((c.tc : Thread Cert.PleIdeal.nD Cert.PleIdeal.τ).loc Cert.PleIdeal.main_arg8)) (m ((c.tc : Thread Cert.PleIdeal.nD Cert.PleIdeal.τ).loc Cert.PleIdeal.main_arg9))) = (fun _ => 1#1)

def Pre_PleRefIdeal (m : (ℓ : Loc Cert.PleRefIdeal.nD Cert.PleRefIdeal.τ Cert.PleRefIdeal.sig) → Buf (Elt Ideal) ℓ) : Prop :=
  True

def Pre_PleRefIdeal_finite_ple [hPre_finite_ple : Cert.Pre_finite_ple.Facts] (m : (ℓ : Loc Cert.PleRefIdeal.nD Cert.PleRefIdeal.τ Cert.PleRefIdeal.sig) → Buf (Elt Ideal) ℓ) : Prop :=
  ∀ c : Dev Cert.PleRefIdeal.nD,
    (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6)) (m ((c.tc : Thread Cert.PleRefIdeal.nD Cert.PleRefIdeal.τ).loc Cert.PleRefIdeal.main_arg7)) (m ((c.tc : Thread Cert.PleRefIdeal.nD Cert.PleRefIdeal.τ).loc Cert.PleRefIdeal.main_arg8)) (m ((c.tc : Thread Cert.PleRefIdeal.nD Cert.PleRefIdeal.τ).loc Cert.PleRefIdeal.main_arg9))) = (fun _ => 1#1)

def Pre_AttnB (m : (ℓ : Loc Cert.AttnB.nD Cert.AttnB.τ Cert.AttnB.sig) → Buf (Elt Bits) ℓ) : Prop :=
  True

def Pre_AttnBIdeal (m : (ℓ : Loc Cert.AttnBIdeal.nD Cert.AttnBIdeal.τ Cert.AttnBIdeal.sig) → Buf (Elt Ideal) ℓ) : Prop :=
  True

def Pre_AttnBIdeal_finite_attn_b [hPre_finite_attn_b : Cert.Pre_finite_attn_b.Facts] (m : (ℓ : Loc Cert.AttnBIdeal.nD Cert.AttnBIdeal.τ Cert.AttnBIdeal.sig) → Buf (Elt Ideal) ℓ) : Prop :=
  ∀ c : Dev Cert.AttnBIdeal.nD,
    (Cert.Pre_finite_attn_b.fn (F := Ideal) (m ((c.tc : Thread Cert.AttnBIdeal.nD Cert.AttnBIdeal.τ).loc Cert.AttnBIdeal.main_arg0)) (m ((c.tc : Thread Cert.AttnBIdeal.nD Cert.AttnBIdeal.τ).loc Cert.AttnBIdeal.main_arg1)) (m ((c.tc : Thread Cert.AttnBIdeal.nD Cert.AttnBIdeal.τ).loc Cert.AttnBIdeal.main_arg2)) (m ((c.tc : Thread Cert.AttnBIdeal.nD Cert.AttnBIdeal.τ).loc Cert.AttnBIdeal.main_arg3))) = (fun _ => 1#1)

def Pre_AttnBRefIdeal (m : (ℓ : Loc Cert.AttnBRefIdeal.nD Cert.AttnBRefIdeal.τ Cert.AttnBRefIdeal.sig) → Buf (Elt Ideal) ℓ) : Prop :=
  True

def Pre_AttnBRefIdeal_finite_attn_b [hPre_finite_attn_b : Cert.Pre_finite_attn_b.Facts] (m : (ℓ : Loc Cert.AttnBRefIdeal.nD Cert.AttnBRefIdeal.τ Cert.AttnBRefIdeal.sig) → Buf (Elt Ideal) ℓ) : Prop :=
  ∀ c : Dev Cert.AttnBRefIdeal.nD,
    (Cert.Pre_finite_attn_b.fn (F := Ideal) (m ((c.tc : Thread Cert.AttnBRefIdeal.nD Cert.AttnBRefIdeal.τ).loc Cert.AttnBRefIdeal.main_arg0)) (m ((c.tc : Thread Cert.AttnBRefIdeal.nD Cert.AttnBRefIdeal.τ).loc Cert.AttnBRefIdeal.main_arg1)) (m ((c.tc : Thread Cert.AttnBRefIdeal.nD Cert.AttnBRefIdeal.τ).loc Cert.AttnBRefIdeal.main_arg2)) (m ((c.tc : Thread Cert.AttnBRefIdeal.nD Cert.AttnBRefIdeal.τ).loc Cert.AttnBRefIdeal.main_arg3))) = (fun _ => 1#1)

def Pre_AttnA (m : (ℓ : Loc Cert.AttnA.nD Cert.AttnA.τ Cert.AttnA.sig) → Buf (Elt Bits) ℓ) : Prop :=
  True

def Pre_AttnAIdeal (m : (ℓ : Loc Cert.AttnAIdeal.nD Cert.AttnAIdeal.τ Cert.AttnAIdeal.sig) → Buf (Elt Ideal) ℓ) : Prop :=
  True

def Pre_AttnAIdeal_finite_attn_a [hPre_finite_attn_a : Cert.Pre_finite_attn_a.Facts] (m : (ℓ : Loc Cert.AttnAIdeal.nD Cert.AttnAIdeal.τ Cert.AttnAIdeal.sig) → Buf (Elt Ideal) ℓ) : Prop :=
  ∀ c : Dev Cert.AttnAIdeal.nD,
    (Cert.Pre_finite_attn_a.fn (F := Ideal) (m ((c.tc : Thread Cert.AttnAIdeal.nD Cert.AttnAIdeal.τ).loc Cert.AttnAIdeal.main_arg0)) (m ((c.tc : Thread Cert.AttnAIdeal.nD Cert.AttnAIdeal.τ).loc Cert.AttnAIdeal.main_arg1)) (m ((c.tc : Thread Cert.AttnAIdeal.nD Cert.AttnAIdeal.τ).loc Cert.AttnAIdeal.main_arg2)) (m ((c.tc : Thread Cert.AttnAIdeal.nD Cert.AttnAIdeal.τ).loc Cert.AttnAIdeal.main_arg3))) = (fun _ => 1#1)

def Pre_AttnARefIdeal (m : (ℓ : Loc Cert.AttnARefIdeal.nD Cert.AttnARefIdeal.τ Cert.AttnARefIdeal.sig) → Buf (Elt Ideal) ℓ) : Prop :=
  True

def Pre_AttnARefIdeal_finite_attn_a [hPre_finite_attn_a : Cert.Pre_finite_attn_a.Facts] (m : (ℓ : Loc Cert.AttnARefIdeal.nD Cert.AttnARefIdeal.τ Cert.AttnARefIdeal.sig) → Buf (Elt Ideal) ℓ) : Prop :=
  ∀ c : Dev Cert.AttnARefIdeal.nD,
    (Cert.Pre_finite_attn_a.fn (F := Ideal) (m ((c.tc : Thread Cert.AttnARefIdeal.nD Cert.AttnARefIdeal.τ).loc Cert.AttnARefIdeal.main_arg0)) (m ((c.tc : Thread Cert.AttnARefIdeal.nD Cert.AttnARefIdeal.τ).loc Cert.AttnARefIdeal.main_arg1)) (m ((c.tc : Thread Cert.AttnARefIdeal.nD Cert.AttnARefIdeal.τ).loc Cert.AttnARefIdeal.main_arg2)) (m ((c.tc : Thread Cert.AttnARefIdeal.nD Cert.AttnARefIdeal.τ).loc Cert.AttnARefIdeal.main_arg3))) = (fun _ => 1#1)

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InIdeal_finite_in [hPre_finite_in : Cert.Pre_finite_in.Facts] (m : (ℓ : Loc Cert.InIdeal.nD Cert.InIdeal.τ Cert.InIdeal.sig) → Buf (Elt Ideal) ℓ) : Prop :=
  ∀ c : Dev Cert.InIdeal.nD,
    (Cert.Pre_finite_in.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4))) = (fun _ => 1#1)

def Pre_InRefIdeal (m : (ℓ : Loc Cert.InRefIdeal.nD Cert.InRefIdeal.τ Cert.InRefIdeal.sig) → Buf (Elt Ideal) ℓ) : Prop :=
  True

def Pre_InRefIdeal_finite_in [hPre_finite_in : Cert.Pre_finite_in.Facts] (m : (ℓ : Loc Cert.InRefIdeal.nD Cert.InRefIdeal.τ Cert.InRefIdeal.sig) → Buf (Elt Ideal) ℓ) : Prop :=
  ∀ c : Dev Cert.InRefIdeal.nD,
    (Cert.Pre_finite_in.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_finite_mlp [hPre_finite_mlp : Cert.Pre_finite_mlp.Facts] (m : (ℓ : Loc Cert.MlpIdeal.nD Cert.MlpIdeal.τ Cert.MlpIdeal.sig) → Buf (Elt Ideal) ℓ) : Prop :=
  ∀ c : Dev Cert.MlpIdeal.nD,
    (Cert.Pre_finite_mlp.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4))) = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_finite_mlp [hPre_finite_mlp : Cert.Pre_finite_mlp.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_finite_mlp.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_merge [hPre_finite_merge : Cert.Pre_finite_merge.Facts] (m : (ℓ : Loc Cert.MergeIdeal.nD Cert.MergeIdeal.τ Cert.MergeIdeal.sig) → Buf (Elt Ideal) ℓ) : Prop :=
  ∀ c : Dev Cert.MergeIdeal.nD,
    (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_finite_merge [hPre_finite_merge : Cert.Pre_finite_merge.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9))) = (fun _ => 1#1)

def Pre_FwdA (m : (ℓ : Loc Cert.FwdA.nD Cert.FwdA.τ Cert.FwdA.sig) → Buf (Elt Bits) ℓ) : Prop :=
  True

def Pre_FwdAIdeal (m : (ℓ : Loc Cert.FwdAIdeal.nD Cert.FwdAIdeal.τ Cert.FwdAIdeal.sig) → Buf (Elt Ideal) ℓ) : Prop :=
  True

def Pre_FwdAIdeal_finite_fwd_a [hPre_finite_fwd_a : Cert.Pre_finite_fwd_a.Facts] (m : (ℓ : Loc Cert.FwdAIdeal.nD Cert.FwdAIdeal.τ Cert.FwdAIdeal.sig) → Buf (Elt Ideal) ℓ) : Prop :=
  ∀ c : Dev Cert.FwdAIdeal.nD,
    (Cert.Pre_finite_fwd_a.fn (F := Ideal) (m ((c.tc : Thread Cert.FwdAIdeal.nD Cert.FwdAIdeal.τ).loc Cert.FwdAIdeal.main_arg0)) (m ((c.tc : Thread Cert.FwdAIdeal.nD Cert.FwdAIdeal.τ).loc Cert.FwdAIdeal.main_arg1)) (m ((c.tc : Thread Cert.FwdAIdeal.nD Cert.FwdAIdeal.τ).loc Cert.FwdAIdeal.main_arg2))) = (fun _ => 1#1)

def Pre_FwdARefIdeal (m : (ℓ : Loc Cert.FwdARefIdeal.nD Cert.FwdARefIdeal.τ Cert.FwdARefIdeal.sig) → Buf (Elt Ideal) ℓ) : Prop :=
  True

def Pre_FwdARefIdeal_finite_fwd_a [hPre_finite_fwd_a : Cert.Pre_finite_fwd_a.Facts] (m : (ℓ : Loc Cert.FwdARefIdeal.nD Cert.FwdARefIdeal.τ Cert.FwdARefIdeal.sig) → Buf (Elt Ideal) ℓ) : Prop :=
  ∀ c : Dev Cert.FwdARefIdeal.nD,
    (Cert.Pre_finite_fwd_a.fn (F := Ideal) (m ((c.tc : Thread Cert.FwdARefIdeal.nD Cert.FwdARefIdeal.τ).loc Cert.FwdARefIdeal.main_arg0)) (m ((c.tc : Thread Cert.FwdARefIdeal.nD Cert.FwdARefIdeal.τ).loc Cert.FwdARefIdeal.main_arg1)) (m ((c.tc : Thread Cert.FwdARefIdeal.nD Cert.FwdARefIdeal.τ).loc Cert.FwdARefIdeal.main_arg2))) = (fun _ => 1#1)

def Pre_FwdB (m : (ℓ : Loc Cert.FwdB.nD Cert.FwdB.τ Cert.FwdB.sig) → Buf (Elt Bits) ℓ) : Prop :=
  True

def Pre_FwdBIdeal (m : (ℓ : Loc Cert.FwdBIdeal.nD Cert.FwdBIdeal.τ Cert.FwdBIdeal.sig) → Buf (Elt Ideal) ℓ) : Prop :=
  True

def Pre_FwdBIdeal_finite_fwd_b [hPre_finite_fwd_b : Cert.Pre_finite_fwd_b.Facts] (m : (ℓ : Loc Cert.FwdBIdeal.nD Cert.FwdBIdeal.τ Cert.FwdBIdeal.sig) → Buf (Elt Ideal) ℓ) : Prop :=
  ∀ c : Dev Cert.FwdBIdeal.nD,
    (Cert.Pre_finite_fwd_b.fn (F := Ideal) (m ((c.tc : Thread Cert.FwdBIdeal.nD Cert.FwdBIdeal.τ).loc Cert.FwdBIdeal.main_arg0)) (m ((c.tc : Thread Cert.FwdBIdeal.nD Cert.FwdBIdeal.τ).loc Cert.FwdBIdeal.main_arg1)) (m ((c.tc : Thread Cert.FwdBIdeal.nD Cert.FwdBIdeal.τ).loc Cert.FwdBIdeal.main_arg2))) = (fun _ => 1#1)

def Pre_FwdBRefIdeal (m : (ℓ : Loc Cert.FwdBRefIdeal.nD Cert.FwdBRefIdeal.τ Cert.FwdBRefIdeal.sig) → Buf (Elt Ideal) ℓ) : Prop :=
  True

def Pre_FwdBRefIdeal_finite_fwd_b [hPre_finite_fwd_b : Cert.Pre_finite_fwd_b.Facts] (m : (ℓ : Loc Cert.FwdBRefIdeal.nD Cert.FwdBRefIdeal.τ Cert.FwdBRefIdeal.sig) → Buf (Elt Ideal) ℓ) : Prop :=
  ∀ c : Dev Cert.FwdBRefIdeal.nD,
    (Cert.Pre_finite_fwd_b.fn (F := Ideal) (m ((c.tc : Thread Cert.FwdBRefIdeal.nD Cert.FwdBRefIdeal.τ).loc Cert.FwdBRefIdeal.main_arg0)) (m ((c.tc : Thread Cert.FwdBRefIdeal.nD Cert.FwdBRefIdeal.τ).loc Cert.FwdBRefIdeal.main_arg1)) (m ((c.tc : Thread Cert.FwdBRefIdeal.nD Cert.FwdBRefIdeal.τ).loc Cert.FwdBRefIdeal.main_arg2))) = (fun _ => 1#1)

def Pre_FwdMlp (m : (ℓ : Loc Cert.FwdMlp.nD Cert.FwdMlp.τ Cert.FwdMlp.sig) → Buf (Elt Bits) ℓ) : Prop :=
  True

def Pre_FwdMlpIdeal (m : (ℓ : Loc Cert.FwdMlpIdeal.nD Cert.FwdMlpIdeal.τ Cert.FwdMlpIdeal.sig) → Buf (Elt Ideal) ℓ) : Prop :=
  True

def Pre_FwdMlpIdeal_finite_fwd_mlp [hPre_finite_fwd_mlp : Cert.Pre_finite_fwd_mlp.Facts] (m : (ℓ : Loc Cert.FwdMlpIdeal.nD Cert.FwdMlpIdeal.τ Cert.FwdMlpIdeal.sig) → Buf (Elt Ideal) ℓ) : Prop :=
  ∀ c : Dev Cert.FwdMlpIdeal.nD,
    (Cert.Pre_finite_fwd_mlp.fn (F := Ideal) (m ((c.tc : Thread Cert.FwdMlpIdeal.nD Cert.FwdMlpIdeal.τ).loc Cert.FwdMlpIdeal.main_arg0)) (m ((c.tc : Thread Cert.FwdMlpIdeal.nD Cert.FwdMlpIdeal.τ).loc Cert.FwdMlpIdeal.main_arg1)) (m ((c.tc : Thread Cert.FwdMlpIdeal.nD Cert.FwdMlpIdeal.τ).loc Cert.FwdMlpIdeal.main_arg2)) (m ((c.tc : Thread Cert.FwdMlpIdeal.nD Cert.FwdMlpIdeal.τ).loc Cert.FwdMlpIdeal.main_arg3))) = (fun _ => 1#1)

def Pre_FwdMlpRefIdeal (m : (ℓ : Loc Cert.FwdMlpRefIdeal.nD Cert.FwdMlpRefIdeal.τ Cert.FwdMlpRefIdeal.sig) → Buf (Elt Ideal) ℓ) : Prop :=
  True

def Pre_FwdMlpRefIdeal_finite_fwd_mlp [hPre_finite_fwd_mlp : Cert.Pre_finite_fwd_mlp.Facts] (m : (ℓ : Loc Cert.FwdMlpRefIdeal.nD Cert.FwdMlpRefIdeal.τ Cert.FwdMlpRefIdeal.sig) → Buf (Elt Ideal) ℓ) : Prop :=
  ∀ c : Dev Cert.FwdMlpRefIdeal.nD,
    (Cert.Pre_finite_fwd_mlp.fn (F := Ideal) (m ((c.tc : Thread Cert.FwdMlpRefIdeal.nD Cert.FwdMlpRefIdeal.τ).loc Cert.FwdMlpRefIdeal.main_arg0)) (m ((c.tc : Thread Cert.FwdMlpRefIdeal.nD Cert.FwdMlpRefIdeal.τ).loc Cert.FwdMlpRefIdeal.main_arg1)) (m ((c.tc : Thread Cert.FwdMlpRefIdeal.nD Cert.FwdMlpRefIdeal.τ).loc Cert.FwdMlpRefIdeal.main_arg2)) (m ((c.tc : Thread Cert.FwdMlpRefIdeal.nD Cert.FwdMlpRefIdeal.τ).loc Cert.FwdMlpRefIdeal.main_arg3))) = (fun _ => 1#1)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6)
      ∧ r.2.mem ((c.tc : Thread Cert.Ple.nD Cert.Ple.τ).loc Cert.Ple.main_arg7) = m ((c.tc : Thread Cert.Ple.nD Cert.Ple.τ).loc Cert.Ple.main_arg7)
      ∧ r.2.mem ((c.tc : Thread Cert.Ple.nD Cert.Ple.τ).loc Cert.Ple.main_arg8) = m ((c.tc : Thread Cert.Ple.nD Cert.Ple.τ).loc Cert.Ple.main_arg8)
      ∧ r.2.mem ((c.tc : Thread Cert.Ple.nD Cert.Ple.τ).loc Cert.Ple.main_arg9) = m ((c.tc : Thread Cert.Ple.nD Cert.Ple.τ).loc Cert.Ple.main_arg9))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6)
      ∧ r.2.mem ((c.tc : Thread Cert.PleIdeal.nD Cert.PleIdeal.τ).loc Cert.PleIdeal.main_arg7) = m ((c.tc : Thread Cert.PleIdeal.nD Cert.PleIdeal.τ).loc Cert.PleIdeal.main_arg7)
      ∧ r.2.mem ((c.tc : Thread Cert.PleIdeal.nD Cert.PleIdeal.τ).loc Cert.PleIdeal.main_arg8) = m ((c.tc : Thread Cert.PleIdeal.nD Cert.PleIdeal.τ).loc Cert.PleIdeal.main_arg8)
      ∧ r.2.mem ((c.tc : Thread Cert.PleIdeal.nD Cert.PleIdeal.τ).loc Cert.PleIdeal.main_arg9) = m ((c.tc : Thread Cert.PleIdeal.nD Cert.PleIdeal.τ).loc Cert.PleIdeal.main_arg9))
      ∧ r.2.sem = fun _ => 0)

def quiescent_PleIdeal_pre_finite_ple [hPleIdeal : Cert.PleIdeal.Facts] [hPre_finite_ple : Cert.Pre_finite_ple.Facts] : Prop :=
  ∀ (m : (ℓ : Loc Cert.PleIdeal.nD Cert.PleIdeal.τ Cert.PleIdeal.sig) → Buf (Elt Ideal) ℓ) (g : Dev Cert.PleIdeal.nD → PrngReg), Pre_PleIdeal_finite_ple m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6)
      ∧ r.2.mem ((c.tc : Thread Cert.PleIdeal.nD Cert.PleIdeal.τ).loc Cert.PleIdeal.main_arg7) = m ((c.tc : Thread Cert.PleIdeal.nD Cert.PleIdeal.τ).loc Cert.PleIdeal.main_arg7)
      ∧ r.2.mem ((c.tc : Thread Cert.PleIdeal.nD Cert.PleIdeal.τ).loc Cert.PleIdeal.main_arg8) = m ((c.tc : Thread Cert.PleIdeal.nD Cert.PleIdeal.τ).loc Cert.PleIdeal.main_arg8)
      ∧ r.2.mem ((c.tc : Thread Cert.PleIdeal.nD Cert.PleIdeal.τ).loc Cert.PleIdeal.main_arg9) = m ((c.tc : Thread Cert.PleIdeal.nD Cert.PleIdeal.τ).loc Cert.PleIdeal.main_arg9))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6)
      ∧ r.2.mem ((c.tc : Thread Cert.PleRefIdeal.nD Cert.PleRefIdeal.τ).loc Cert.PleRefIdeal.main_arg7) = m ((c.tc : Thread Cert.PleRefIdeal.nD Cert.PleRefIdeal.τ).loc Cert.PleRefIdeal.main_arg7)
      ∧ r.2.mem ((c.tc : Thread Cert.PleRefIdeal.nD Cert.PleRefIdeal.τ).loc Cert.PleRefIdeal.main_arg8) = m ((c.tc : Thread Cert.PleRefIdeal.nD Cert.PleRefIdeal.τ).loc Cert.PleRefIdeal.main_arg8)
      ∧ r.2.mem ((c.tc : Thread Cert.PleRefIdeal.nD Cert.PleRefIdeal.τ).loc Cert.PleRefIdeal.main_arg9) = m ((c.tc : Thread Cert.PleRefIdeal.nD Cert.PleRefIdeal.τ).loc Cert.PleRefIdeal.main_arg9))
      ∧ r.2.sem = fun _ => 0)

def quiescent_PleRefIdeal_pre_finite_ple [hPleRefIdeal : Cert.PleRefIdeal.Facts] [hPre_finite_ple : Cert.Pre_finite_ple.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal_finite_ple m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6)
      ∧ r.2.mem ((c.tc : Thread Cert.PleRefIdeal.nD Cert.PleRefIdeal.τ).loc Cert.PleRefIdeal.main_arg7) = m ((c.tc : Thread Cert.PleRefIdeal.nD Cert.PleRefIdeal.τ).loc Cert.PleRefIdeal.main_arg7)
      ∧ r.2.mem ((c.tc : Thread Cert.PleRefIdeal.nD Cert.PleRefIdeal.τ).loc Cert.PleRefIdeal.main_arg8) = m ((c.tc : Thread Cert.PleRefIdeal.nD Cert.PleRefIdeal.τ).loc Cert.PleRefIdeal.main_arg8)
      ∧ r.2.mem ((c.tc : Thread Cert.PleRefIdeal.nD Cert.PleRefIdeal.τ).loc Cert.PleRefIdeal.main_arg9) = m ((c.tc : Thread Cert.PleRefIdeal.nD Cert.PleRefIdeal.τ).loc Cert.PleRefIdeal.main_arg9))
      ∧ r.2.sem = fun _ => 0)

def quiescent_AttnB [hAttnB : Cert.AttnB.Facts] : Prop :=
  ∀ (m : (ℓ : Loc Cert.AttnB.nD Cert.AttnB.τ Cert.AttnB.sig) → Buf (Elt Bits) ℓ) (g : Dev Cert.AttnB.nD → PrngReg), Pre_AttnB m →
    θ_run (Cert.AttnB.defs (F := Bits)) (onTc (τ := Cert.AttnB.τ) (Cert.AttnB.main (F := Bits))) ⟨m, fun _ => 0, g⟩ (fun r => (∀ c : Dev Cert.AttnB.nD,
      r.2.mem ((c.tc : Thread Cert.AttnB.nD Cert.AttnB.τ).loc Cert.AttnB.main_arg0) = m ((c.tc : Thread Cert.AttnB.nD Cert.AttnB.τ).loc Cert.AttnB.main_arg0)
      ∧ r.2.mem ((c.tc : Thread Cert.AttnB.nD Cert.AttnB.τ).loc Cert.AttnB.main_arg1) = m ((c.tc : Thread Cert.AttnB.nD Cert.AttnB.τ).loc Cert.AttnB.main_arg1)
      ∧ r.2.mem ((c.tc : Thread Cert.AttnB.nD Cert.AttnB.τ).loc Cert.AttnB.main_arg2) = m ((c.tc : Thread Cert.AttnB.nD Cert.AttnB.τ).loc Cert.AttnB.main_arg2)
      ∧ r.2.mem ((c.tc : Thread Cert.AttnB.nD Cert.AttnB.τ).loc Cert.AttnB.main_arg3) = m ((c.tc : Thread Cert.AttnB.nD Cert.AttnB.τ).loc Cert.AttnB.main_arg3))
      ∧ r.2.sem = fun _ => 0)

def quiescent_AttnBIdeal [hAttnBIdeal : Cert.AttnBIdeal.Facts] : Prop :=
  ∀ (m : (ℓ : Loc Cert.AttnBIdeal.nD Cert.AttnBIdeal.τ Cert.AttnBIdeal.sig) → Buf (Elt Ideal) ℓ) (g : Dev Cert.AttnBIdeal.nD → PrngReg), Pre_AttnBIdeal m →
    θ_run (Cert.AttnBIdeal.defs (F := Ideal)) (onTc (τ := Cert.AttnBIdeal.τ) (Cert.AttnBIdeal.main (F := Ideal))) ⟨m, fun _ => 0, g⟩ (fun r => (∀ c : Dev Cert.AttnBIdeal.nD,
      r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0)
      ∧ r.2.mem ((c.tc : Thread Cert.AttnBIdeal.nD Cert.AttnBIdeal.τ).loc Cert.AttnBIdeal.main_arg1) = m ((c.tc : Thread Cert.AttnBIdeal.nD Cert.AttnBIdeal.τ).loc Cert.AttnBIdeal.main_arg1)
      ∧ r.2.mem ((c.tc : Thread Cert.AttnBIdeal.nD Cert.AttnBIdeal.τ).loc Cert.AttnBIdeal.main_arg2) = m ((c.tc : Thread Cert.AttnBIdeal.nD Cert.AttnBIdeal.τ).loc Cert.AttnBIdeal.main_arg2)
      ∧ r.2.mem ((c.tc : Thread Cert.AttnBIdeal.nD Cert.AttnBIdeal.τ).loc Cert.AttnBIdeal.main_arg3) = m ((c.tc : Thread Cert.AttnBIdeal.nD Cert.AttnBIdeal.τ).loc Cert.AttnBIdeal.main_arg3))
      ∧ r.2.sem = fun _ => 0)

def quiescent_AttnBIdeal_pre_finite_attn_b [hAttnBIdeal : Cert.AttnBIdeal.Facts] [hPre_finite_attn_b : Cert.Pre_finite_attn_b.Facts] : Prop :=
  ∀ (m : (ℓ : Loc Cert.AttnBIdeal.nD Cert.AttnBIdeal.τ Cert.AttnBIdeal.sig) → Buf (Elt Ideal) ℓ) (g : Dev Cert.AttnBIdeal.nD → PrngReg), Pre_AttnBIdeal_finite_attn_b m →
    θ_run (Cert.AttnBIdeal.defs (F := Ideal)) (onTc (τ := Cert.AttnBIdeal.τ) (Cert.AttnBIdeal.main (F := Ideal))) ⟨m, fun _ => 0, g⟩ (fun r => (∀ c : Dev Cert.AttnBIdeal.nD,
      r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0)
      ∧ r.2.mem ((c.tc : Thread Cert.AttnBIdeal.nD Cert.AttnBIdeal.τ).loc Cert.AttnBIdeal.main_arg1) = m ((c.tc : Thread Cert.AttnBIdeal.nD Cert.AttnBIdeal.τ).loc Cert.AttnBIdeal.main_arg1)
      ∧ r.2.mem ((c.tc : Thread Cert.AttnBIdeal.nD Cert.AttnBIdeal.τ).loc Cert.AttnBIdeal.main_arg2) = m ((c.tc : Thread Cert.AttnBIdeal.nD Cert.AttnBIdeal.τ).loc Cert.AttnBIdeal.main_arg2)
      ∧ r.2.mem ((c.tc : Thread Cert.AttnBIdeal.nD Cert.AttnBIdeal.τ).loc Cert.AttnBIdeal.main_arg3) = m ((c.tc : Thread Cert.AttnBIdeal.nD Cert.AttnBIdeal.τ).loc Cert.AttnBIdeal.main_arg3))
      ∧ r.2.sem = fun _ => 0)

def quiescent_AttnBRefIdeal [hAttnBRefIdeal : Cert.AttnBRefIdeal.Facts] : Prop :=
  ∀ (m : (ℓ : Loc Cert.AttnBRefIdeal.nD Cert.AttnBRefIdeal.τ Cert.AttnBRefIdeal.sig) → Buf (Elt Ideal) ℓ) (g : Dev Cert.AttnBRefIdeal.nD → PrngReg), Pre_AttnBRefIdeal m →
    θ_run (Cert.AttnBRefIdeal.defs (F := Ideal)) (onTc (τ := Cert.AttnBRefIdeal.τ) (Cert.AttnBRefIdeal.main (F := Ideal))) ⟨m, fun _ => 0, g⟩ (fun r => (∀ c : Dev Cert.AttnBRefIdeal.nD,
      r.2.mem ((c.tc : Thread Cert.AttnBRefIdeal.nD Cert.AttnBRefIdeal.τ).loc Cert.AttnBRefIdeal.main_arg0) = m ((c.tc : Thread Cert.AttnBRefIdeal.nD Cert.AttnBRefIdeal.τ).loc Cert.AttnBRefIdeal.main_arg0)
      ∧ r.2.mem ((c.tc : Thread Cert.AttnBRefIdeal.nD Cert.AttnBRefIdeal.τ).loc Cert.AttnBRefIdeal.main_arg1) = m ((c.tc : Thread Cert.AttnBRefIdeal.nD Cert.AttnBRefIdeal.τ).loc Cert.AttnBRefIdeal.main_arg1)
      ∧ r.2.mem ((c.tc : Thread Cert.AttnBRefIdeal.nD Cert.AttnBRefIdeal.τ).loc Cert.AttnBRefIdeal.main_arg2) = m ((c.tc : Thread Cert.AttnBRefIdeal.nD Cert.AttnBRefIdeal.τ).loc Cert.AttnBRefIdeal.main_arg2)
      ∧ r.2.mem ((c.tc : Thread Cert.AttnBRefIdeal.nD Cert.AttnBRefIdeal.τ).loc Cert.AttnBRefIdeal.main_arg3) = m ((c.tc : Thread Cert.AttnBRefIdeal.nD Cert.AttnBRefIdeal.τ).loc Cert.AttnBRefIdeal.main_arg3))
      ∧ r.2.sem = fun _ => 0)

def quiescent_AttnBRefIdeal_pre_finite_attn_b [hAttnBRefIdeal : Cert.AttnBRefIdeal.Facts] [hPre_finite_attn_b : Cert.Pre_finite_attn_b.Facts] : Prop :=
  ∀ (m : (ℓ : Loc Cert.AttnBRefIdeal.nD Cert.AttnBRefIdeal.τ Cert.AttnBRefIdeal.sig) → Buf (Elt Ideal) ℓ) (g : Dev Cert.AttnBRefIdeal.nD → PrngReg), Pre_AttnBRefIdeal_finite_attn_b m →
    θ_run (Cert.AttnBRefIdeal.defs (F := Ideal)) (onTc (τ := Cert.AttnBRefIdeal.τ) (Cert.AttnBRefIdeal.main (F := Ideal))) ⟨m, fun _ => 0, g⟩ (fun r => (∀ c : Dev Cert.AttnBRefIdeal.nD,
      r.2.mem ((c.tc : Thread Cert.AttnBRefIdeal.nD Cert.AttnBRefIdeal.τ).loc Cert.AttnBRefIdeal.main_arg0) = m ((c.tc : Thread Cert.AttnBRefIdeal.nD Cert.AttnBRefIdeal.τ).loc Cert.AttnBRefIdeal.main_arg0)
      ∧ r.2.mem ((c.tc : Thread Cert.AttnBRefIdeal.nD Cert.AttnBRefIdeal.τ).loc Cert.AttnBRefIdeal.main_arg1) = m ((c.tc : Thread Cert.AttnBRefIdeal.nD Cert.AttnBRefIdeal.τ).loc Cert.AttnBRefIdeal.main_arg1)
      ∧ r.2.mem ((c.tc : Thread Cert.AttnBRefIdeal.nD Cert.AttnBRefIdeal.τ).loc Cert.AttnBRefIdeal.main_arg2) = m ((c.tc : Thread Cert.AttnBRefIdeal.nD Cert.AttnBRefIdeal.τ).loc Cert.AttnBRefIdeal.main_arg2)
      ∧ r.2.mem ((c.tc : Thread Cert.AttnBRefIdeal.nD Cert.AttnBRefIdeal.τ).loc Cert.AttnBRefIdeal.main_arg3) = m ((c.tc : Thread Cert.AttnBRefIdeal.nD Cert.AttnBRefIdeal.τ).loc Cert.AttnBRefIdeal.main_arg3))
      ∧ r.2.sem = fun _ => 0)

def quiescent_AttnA [hAttnA : Cert.AttnA.Facts] : Prop :=
  ∀ (m : (ℓ : Loc Cert.AttnA.nD Cert.AttnA.τ Cert.AttnA.sig) → Buf (Elt Bits) ℓ) (g : Dev Cert.AttnA.nD → PrngReg), Pre_AttnA m →
    θ_run (Cert.AttnA.defs (F := Bits)) (onTc (τ := Cert.AttnA.τ) (Cert.AttnA.main (F := Bits))) ⟨m, fun _ => 0, g⟩ (fun r => (∀ c : Dev Cert.AttnA.nD,
      r.2.mem ((c.tc : Thread Cert.AttnA.nD Cert.AttnA.τ).loc Cert.AttnA.main_arg0) = m ((c.tc : Thread Cert.AttnA.nD Cert.AttnA.τ).loc Cert.AttnA.main_arg0)
      ∧ r.2.mem ((c.tc : Thread Cert.AttnA.nD Cert.AttnA.τ).loc Cert.AttnA.main_arg1) = m ((c.tc : Thread Cert.AttnA.nD Cert.AttnA.τ).loc Cert.AttnA.main_arg1)
      ∧ r.2.mem ((c.tc : Thread Cert.AttnA.nD Cert.AttnA.τ).loc Cert.AttnA.main_arg2) = m ((c.tc : Thread Cert.AttnA.nD Cert.AttnA.τ).loc Cert.AttnA.main_arg2)
      ∧ r.2.mem ((c.tc : Thread Cert.AttnA.nD Cert.AttnA.τ).loc Cert.AttnA.main_arg3) = m ((c.tc : Thread Cert.AttnA.nD Cert.AttnA.τ).loc Cert.AttnA.main_arg3))
      ∧ r.2.sem = fun _ => 0)

def quiescent_AttnAIdeal [hAttnAIdeal : Cert.AttnAIdeal.Facts] : Prop :=
  ∀ (m : (ℓ : Loc Cert.AttnAIdeal.nD Cert.AttnAIdeal.τ Cert.AttnAIdeal.sig) → Buf (Elt Ideal) ℓ) (g : Dev Cert.AttnAIdeal.nD → PrngReg), Pre_AttnAIdeal m →
    θ_run (Cert.AttnAIdeal.defs (F := Ideal)) (onTc (τ := Cert.AttnAIdeal.τ) (Cert.AttnAIdeal.main (F := Ideal))) ⟨m, fun _ => 0, g⟩ (fun r => (∀ c : Dev Cert.AttnAIdeal.nD,
      r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
      ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1)
      ∧ r.2.mem ((c.tc : Thread Cert.AttnAIdeal.nD Cert.AttnAIdeal.τ).loc Cert.AttnAIdeal.main_arg2) = m ((c.tc : Thread Cert.AttnAIdeal.nD Cert.AttnAIdeal.τ).loc Cert.AttnAIdeal.main_arg2)
      ∧ r.2.mem ((c.tc : Thread Cert.AttnAIdeal.nD Cert.AttnAIdeal.τ).loc Cert.AttnAIdeal.main_arg3) = m ((c.tc : Thread Cert.AttnAIdeal.nD Cert.AttnAIdeal.τ).loc Cert.AttnAIdeal.main_arg3))
      ∧ r.2.sem = fun _ => 0)

def quiescent_AttnAIdeal_pre_finite_attn_a [hAttnAIdeal : Cert.AttnAIdeal.Facts] [hPre_finite_attn_a : Cert.Pre_finite_attn_a.Facts] : Prop :=
  ∀ (m : (ℓ : Loc Cert.AttnAIdeal.nD Cert.AttnAIdeal.τ Cert.AttnAIdeal.sig) → Buf (Elt Ideal) ℓ) (g : Dev Cert.AttnAIdeal.nD → PrngReg), Pre_AttnAIdeal_finite_attn_a m →
    θ_run (Cert.AttnAIdeal.defs (F := Ideal)) (onTc (τ := Cert.AttnAIdeal.τ) (Cert.AttnAIdeal.main (F := Ideal))) ⟨m, fun _ => 0, g⟩ (fun r => (∀ c : Dev Cert.AttnAIdeal.nD,
      r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
      ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1)
      ∧ r.2.mem ((c.tc : Thread Cert.AttnAIdeal.nD Cert.AttnAIdeal.τ).loc Cert.AttnAIdeal.main_arg2) = m ((c.tc : Thread Cert.AttnAIdeal.nD Cert.AttnAIdeal.τ).loc Cert.AttnAIdeal.main_arg2)
      ∧ r.2.mem ((c.tc : Thread Cert.AttnAIdeal.nD Cert.AttnAIdeal.τ).loc Cert.AttnAIdeal.main_arg3) = m ((c.tc : Thread Cert.AttnAIdeal.nD Cert.AttnAIdeal.τ).loc Cert.AttnAIdeal.main_arg3))
      ∧ r.2.sem = fun _ => 0)

def quiescent_AttnARefIdeal [hAttnARefIdeal : Cert.AttnARefIdeal.Facts] : Prop :=
  ∀ (m : (ℓ : Loc Cert.AttnARefIdeal.nD Cert.AttnARefIdeal.τ Cert.AttnARefIdeal.sig) → Buf (Elt Ideal) ℓ) (g : Dev Cert.AttnARefIdeal.nD → PrngReg), Pre_AttnARefIdeal m →
    θ_run (Cert.AttnARefIdeal.defs (F := Ideal)) (onTc (τ := Cert.AttnARefIdeal.τ) (Cert.AttnARefIdeal.main (F := Ideal))) ⟨m, fun _ => 0, g⟩ (fun r => (∀ c : Dev Cert.AttnARefIdeal.nD,
      r.2.mem ((c.tc : Thread Cert.AttnARefIdeal.nD Cert.AttnARefIdeal.τ).loc Cert.AttnARefIdeal.main_arg0) = m ((c.tc : Thread Cert.AttnARefIdeal.nD Cert.AttnARefIdeal.τ).loc Cert.AttnARefIdeal.main_arg0)
      ∧ r.2.mem ((c.tc : Thread Cert.AttnARefIdeal.nD Cert.AttnARefIdeal.τ).loc Cert.AttnARefIdeal.main_arg1) = m ((c.tc : Thread Cert.AttnARefIdeal.nD Cert.AttnARefIdeal.τ).loc Cert.AttnARefIdeal.main_arg1)
      ∧ r.2.mem ((c.tc : Thread Cert.AttnARefIdeal.nD Cert.AttnARefIdeal.τ).loc Cert.AttnARefIdeal.main_arg2) = m ((c.tc : Thread Cert.AttnARefIdeal.nD Cert.AttnARefIdeal.τ).loc Cert.AttnARefIdeal.main_arg2)
      ∧ r.2.mem ((c.tc : Thread Cert.AttnARefIdeal.nD Cert.AttnARefIdeal.τ).loc Cert.AttnARefIdeal.main_arg3) = m ((c.tc : Thread Cert.AttnARefIdeal.nD Cert.AttnARefIdeal.τ).loc Cert.AttnARefIdeal.main_arg3))
      ∧ r.2.sem = fun _ => 0)

def quiescent_AttnARefIdeal_pre_finite_attn_a [hAttnARefIdeal : Cert.AttnARefIdeal.Facts] [hPre_finite_attn_a : Cert.Pre_finite_attn_a.Facts] : Prop :=
  ∀ (m : (ℓ : Loc Cert.AttnARefIdeal.nD Cert.AttnARefIdeal.τ Cert.AttnARefIdeal.sig) → Buf (Elt Ideal) ℓ) (g : Dev Cert.AttnARefIdeal.nD → PrngReg), Pre_AttnARefIdeal_finite_attn_a m →
    θ_run (Cert.AttnARefIdeal.defs (F := Ideal)) (onTc (τ := Cert.AttnARefIdeal.τ) (Cert.AttnARefIdeal.main (F := Ideal))) ⟨m, fun _ => 0, g⟩ (fun r => (∀ c : Dev Cert.AttnARefIdeal.nD,
      r.2.mem ((c.tc : Thread Cert.AttnARefIdeal.nD Cert.AttnARefIdeal.τ).loc Cert.AttnARefIdeal.main_arg0) = m ((c.tc : Thread Cert.AttnARefIdeal.nD Cert.AttnARefIdeal.τ).loc Cert.AttnARefIdeal.main_arg0)
      ∧ r.2.mem ((c.tc : Thread Cert.AttnARefIdeal.nD Cert.AttnARefIdeal.τ).loc Cert.AttnARefIdeal.main_arg1) = m ((c.tc : Thread Cert.AttnARefIdeal.nD Cert.AttnARefIdeal.τ).loc Cert.AttnARefIdeal.main_arg1)
      ∧ r.2.mem ((c.tc : Thread Cert.AttnARefIdeal.nD Cert.AttnARefIdeal.τ).loc Cert.AttnARefIdeal.main_arg2) = m ((c.tc : Thread Cert.AttnARefIdeal.nD Cert.AttnARefIdeal.τ).loc Cert.AttnARefIdeal.main_arg2)
      ∧ r.2.mem ((c.tc : Thread Cert.AttnARefIdeal.nD Cert.AttnARefIdeal.τ).loc Cert.AttnARefIdeal.main_arg3) = m ((c.tc : Thread Cert.AttnARefIdeal.nD Cert.AttnARefIdeal.τ).loc Cert.AttnARefIdeal.main_arg3))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4))
      ∧ r.2.sem = fun _ => 0)

def quiescent_InIdeal_pre_finite_in [hInIdeal : Cert.InIdeal.Facts] [hPre_finite_in : Cert.Pre_finite_in.Facts] : Prop :=
  ∀ (m : (ℓ : Loc Cert.InIdeal.nD Cert.InIdeal.τ Cert.InIdeal.sig) → Buf (Elt Ideal) ℓ) (g : Dev Cert.InIdeal.nD → PrngReg), Pre_InIdeal_finite_in m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_InRefIdeal_pre_finite_in [hInRefIdeal : Cert.InRefIdeal.Facts] [hPre_finite_in : Cert.Pre_finite_in.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal_finite_in m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpIdeal_pre_finite_mlp [hMlpIdeal : Cert.MlpIdeal.Facts] [hPre_finite_mlp : Cert.Pre_finite_mlp.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_finite_mlp m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_MlpRefIdeal_pre_finite_mlp [hMlpRefIdeal : Cert.MlpRefIdeal.Facts] [hPre_finite_mlp : Cert.Pre_finite_mlp.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_finite_mlp m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeIdeal_pre_finite_merge [hMergeIdeal : Cert.MergeIdeal.Facts] [hPre_finite_merge : Cert.Pre_finite_merge.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_merge m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_MergeRefIdeal_pre_finite_merge [hMergeRefIdeal : Cert.MergeRefIdeal.Facts] [hPre_finite_merge : Cert.Pre_finite_merge.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_finite_merge m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_FwdA [hFwdA : Cert.FwdA.Facts] : Prop :=
  ∀ (m : (ℓ : Loc Cert.FwdA.nD Cert.FwdA.τ Cert.FwdA.sig) → Buf (Elt Bits) ℓ) (g : Dev Cert.FwdA.nD → PrngReg), Pre_FwdA m →
    θ_run (Cert.FwdA.defs (F := Bits)) (onTc (τ := Cert.FwdA.τ) (Cert.FwdA.main (F := Bits))) ⟨m, fun _ => 0, g⟩ (fun r => (∀ c : Dev Cert.FwdA.nD,
      r.2.mem ((c.tc : Thread Cert.FwdA.nD Cert.FwdA.τ).loc Cert.FwdA.main_arg0) = m ((c.tc : Thread Cert.FwdA.nD Cert.FwdA.τ).loc Cert.FwdA.main_arg0)
      ∧ r.2.mem ((c.tc : Thread Cert.FwdA.nD Cert.FwdA.τ).loc Cert.FwdA.main_arg1) = m ((c.tc : Thread Cert.FwdA.nD Cert.FwdA.τ).loc Cert.FwdA.main_arg1)
      ∧ r.2.mem ((c.tc : Thread Cert.FwdA.nD Cert.FwdA.τ).loc Cert.FwdA.main_arg2) = m ((c.tc : Thread Cert.FwdA.nD Cert.FwdA.τ).loc Cert.FwdA.main_arg2))
      ∧ r.2.sem = fun _ => 0)

def quiescent_FwdAIdeal [hFwdAIdeal : Cert.FwdAIdeal.Facts] : Prop :=
  ∀ (m : (ℓ : Loc Cert.FwdAIdeal.nD Cert.FwdAIdeal.τ Cert.FwdAIdeal.sig) → Buf (Elt Ideal) ℓ) (g : Dev Cert.FwdAIdeal.nD → PrngReg), Pre_FwdAIdeal m →
    θ_run (Cert.FwdAIdeal.defs (F := Ideal)) (onTc (τ := Cert.FwdAIdeal.τ) (Cert.FwdAIdeal.main (F := Ideal))) ⟨m, fun _ => 0, g⟩ (fun r => (∀ c : Dev Cert.FwdAIdeal.nD,
      r.2.mem ((c.tc : Thread Cert.FwdAIdeal.nD Cert.FwdAIdeal.τ).loc Cert.FwdAIdeal.main_arg0) = m ((c.tc : Thread Cert.FwdAIdeal.nD Cert.FwdAIdeal.τ).loc Cert.FwdAIdeal.main_arg0)
      ∧ r.2.mem ((c.tc : Thread Cert.FwdAIdeal.nD Cert.FwdAIdeal.τ).loc Cert.FwdAIdeal.main_arg1) = m ((c.tc : Thread Cert.FwdAIdeal.nD Cert.FwdAIdeal.τ).loc Cert.FwdAIdeal.main_arg1)
      ∧ r.2.mem ((c.tc : Thread Cert.FwdAIdeal.nD Cert.FwdAIdeal.τ).loc Cert.FwdAIdeal.main_arg2) = m ((c.tc : Thread Cert.FwdAIdeal.nD Cert.FwdAIdeal.τ).loc Cert.FwdAIdeal.main_arg2))
      ∧ r.2.sem = fun _ => 0)

def quiescent_FwdAIdeal_pre_finite_fwd_a [hFwdAIdeal : Cert.FwdAIdeal.Facts] [hPre_finite_fwd_a : Cert.Pre_finite_fwd_a.Facts] : Prop :=
  ∀ (m : (ℓ : Loc Cert.FwdAIdeal.nD Cert.FwdAIdeal.τ Cert.FwdAIdeal.sig) → Buf (Elt Ideal) ℓ) (g : Dev Cert.FwdAIdeal.nD → PrngReg), Pre_FwdAIdeal_finite_fwd_a m →
    θ_run (Cert.FwdAIdeal.defs (F := Ideal)) (onTc (τ := Cert.FwdAIdeal.τ) (Cert.FwdAIdeal.main (F := Ideal))) ⟨m, fun _ => 0, g⟩ (fun r => (∀ c : Dev Cert.FwdAIdeal.nD,
      r.2.mem ((c.tc : Thread Cert.FwdAIdeal.nD Cert.FwdAIdeal.τ).loc Cert.FwdAIdeal.main_arg0) = m ((c.tc : Thread Cert.FwdAIdeal.nD Cert.FwdAIdeal.τ).loc Cert.FwdAIdeal.main_arg0)
      ∧ r.2.mem ((c.tc : Thread Cert.FwdAIdeal.nD Cert.FwdAIdeal.τ).loc Cert.FwdAIdeal.main_arg1) = m ((c.tc : Thread Cert.FwdAIdeal.nD Cert.FwdAIdeal.τ).loc Cert.FwdAIdeal.main_arg1)
      ∧ r.2.mem ((c.tc : Thread Cert.FwdAIdeal.nD Cert.FwdAIdeal.τ).loc Cert.FwdAIdeal.main_arg2) = m ((c.tc : Thread Cert.FwdAIdeal.nD Cert.FwdAIdeal.τ).loc Cert.FwdAIdeal.main_arg2))
      ∧ r.2.sem = fun _ => 0)

def quiescent_FwdARefIdeal [hFwdARefIdeal : Cert.FwdARefIdeal.Facts] : Prop :=
  ∀ (m : (ℓ : Loc Cert.FwdARefIdeal.nD Cert.FwdARefIdeal.τ Cert.FwdARefIdeal.sig) → Buf (Elt Ideal) ℓ) (g : Dev Cert.FwdARefIdeal.nD → PrngReg), Pre_FwdARefIdeal m →
    θ_run (Cert.FwdARefIdeal.defs (F := Ideal)) (onTc (τ := Cert.FwdARefIdeal.τ) (Cert.FwdARefIdeal.main (F := Ideal))) ⟨m, fun _ => 0, g⟩ (fun r => (∀ c : Dev Cert.FwdARefIdeal.nD,
      r.2.mem ((c.tc : Thread Cert.FwdARefIdeal.nD Cert.FwdARefIdeal.τ).loc Cert.FwdARefIdeal.main_arg0) = m ((c.tc : Thread Cert.FwdARefIdeal.nD Cert.FwdARefIdeal.τ).loc Cert.FwdARefIdeal.main_arg0)
      ∧ r.2.mem ((c.tc : Thread Cert.FwdARefIdeal.nD Cert.FwdARefIdeal.τ).loc Cert.FwdARefIdeal.main_arg1) = m ((c.tc : Thread Cert.FwdARefIdeal.nD Cert.FwdARefIdeal.τ).loc Cert.FwdARefIdeal.main_arg1)
      ∧ r.2.mem ((c.tc : Thread Cert.FwdARefIdeal.nD Cert.FwdARefIdeal.τ).loc Cert.FwdARefIdeal.main_arg2) = m ((c.tc : Thread Cert.FwdARefIdeal.nD Cert.FwdARefIdeal.τ).loc Cert.FwdARefIdeal.main_arg2))
      ∧ r.2.sem = fun _ => 0)

def quiescent_FwdARefIdeal_pre_finite_fwd_a [hFwdARefIdeal : Cert.FwdARefIdeal.Facts] [hPre_finite_fwd_a : Cert.Pre_finite_fwd_a.Facts] : Prop :=
  ∀ (m : (ℓ : Loc Cert.FwdARefIdeal.nD Cert.FwdARefIdeal.τ Cert.FwdARefIdeal.sig) → Buf (Elt Ideal) ℓ) (g : Dev Cert.FwdARefIdeal.nD → PrngReg), Pre_FwdARefIdeal_finite_fwd_a m →
    θ_run (Cert.FwdARefIdeal.defs (F := Ideal)) (onTc (τ := Cert.FwdARefIdeal.τ) (Cert.FwdARefIdeal.main (F := Ideal))) ⟨m, fun _ => 0, g⟩ (fun r => (∀ c : Dev Cert.FwdARefIdeal.nD,
      r.2.mem ((c.tc : Thread Cert.FwdARefIdeal.nD Cert.FwdARefIdeal.τ).loc Cert.FwdARefIdeal.main_arg0) = m ((c.tc : Thread Cert.FwdARefIdeal.nD Cert.FwdARefIdeal.τ).loc Cert.FwdARefIdeal.main_arg0)
      ∧ r.2.mem ((c.tc : Thread Cert.FwdARefIdeal.nD Cert.FwdARefIdeal.τ).loc Cert.FwdARefIdeal.main_arg1) = m ((c.tc : Thread Cert.FwdARefIdeal.nD Cert.FwdARefIdeal.τ).loc Cert.FwdARefIdeal.main_arg1)
      ∧ r.2.mem ((c.tc : Thread Cert.FwdARefIdeal.nD Cert.FwdARefIdeal.τ).loc Cert.FwdARefIdeal.main_arg2) = m ((c.tc : Thread Cert.FwdARefIdeal.nD Cert.FwdARefIdeal.τ).loc Cert.FwdARefIdeal.main_arg2))
      ∧ r.2.sem = fun _ => 0)

def quiescent_FwdB [hFwdB : Cert.FwdB.Facts] : Prop :=
  ∀ (m : (ℓ : Loc Cert.FwdB.nD Cert.FwdB.τ Cert.FwdB.sig) → Buf (Elt Bits) ℓ) (g : Dev Cert.FwdB.nD → PrngReg), Pre_FwdB m →
    θ_run (Cert.FwdB.defs (F := Bits)) (onTc (τ := Cert.FwdB.τ) (Cert.FwdB.main (F := Bits))) ⟨m, fun _ => 0, g⟩ (fun r => (∀ c : Dev Cert.FwdB.nD,
      r.2.mem ((c.tc : Thread Cert.FwdB.nD Cert.FwdB.τ).loc Cert.FwdB.main_arg0) = m ((c.tc : Thread Cert.FwdB.nD Cert.FwdB.τ).loc Cert.FwdB.main_arg0)
      ∧ r.2.mem ((c.tc : Thread Cert.FwdB.nD Cert.FwdB.τ).loc Cert.FwdB.main_arg1) = m ((c.tc : Thread Cert.FwdB.nD Cert.FwdB.τ).loc Cert.FwdB.main_arg1)
      ∧ r.2.mem ((c.tc : Thread Cert.FwdB.nD Cert.FwdB.τ).loc Cert.FwdB.main_arg2) = m ((c.tc : Thread Cert.FwdB.nD Cert.FwdB.τ).loc Cert.FwdB.main_arg2))
      ∧ r.2.sem = fun _ => 0)

def quiescent_FwdBIdeal [hFwdBIdeal : Cert.FwdBIdeal.Facts] : Prop :=
  ∀ (m : (ℓ : Loc Cert.FwdBIdeal.nD Cert.FwdBIdeal.τ Cert.FwdBIdeal.sig) → Buf (Elt Ideal) ℓ) (g : Dev Cert.FwdBIdeal.nD → PrngReg), Pre_FwdBIdeal m →
    θ_run (Cert.FwdBIdeal.defs (F := Ideal)) (onTc (τ := Cert.FwdBIdeal.τ) (Cert.FwdBIdeal.main (F := Ideal))) ⟨m, fun _ => 0, g⟩ (fun r => (∀ c : Dev Cert.FwdBIdeal.nD,
      r.2.mem ((c.tc : Thread Cert.FwdBIdeal.nD Cert.FwdBIdeal.τ).loc Cert.FwdBIdeal.main_arg0) = m ((c.tc : Thread Cert.FwdBIdeal.nD Cert.FwdBIdeal.τ).loc Cert.FwdBIdeal.main_arg0)
      ∧ r.2.mem ((c.tc : Thread Cert.FwdBIdeal.nD Cert.FwdBIdeal.τ).loc Cert.FwdBIdeal.main_arg1) = m ((c.tc : Thread Cert.FwdBIdeal.nD Cert.FwdBIdeal.τ).loc Cert.FwdBIdeal.main_arg1)
      ∧ r.2.mem ((c.tc : Thread Cert.FwdBIdeal.nD Cert.FwdBIdeal.τ).loc Cert.FwdBIdeal.main_arg2) = m ((c.tc : Thread Cert.FwdBIdeal.nD Cert.FwdBIdeal.τ).loc Cert.FwdBIdeal.main_arg2))
      ∧ r.2.sem = fun _ => 0)

def quiescent_FwdBIdeal_pre_finite_fwd_b [hFwdBIdeal : Cert.FwdBIdeal.Facts] [hPre_finite_fwd_b : Cert.Pre_finite_fwd_b.Facts] : Prop :=
  ∀ (m : (ℓ : Loc Cert.FwdBIdeal.nD Cert.FwdBIdeal.τ Cert.FwdBIdeal.sig) → Buf (Elt Ideal) ℓ) (g : Dev Cert.FwdBIdeal.nD → PrngReg), Pre_FwdBIdeal_finite_fwd_b m →
    θ_run (Cert.FwdBIdeal.defs (F := Ideal)) (onTc (τ := Cert.FwdBIdeal.τ) (Cert.FwdBIdeal.main (F := Ideal))) ⟨m, fun _ => 0, g⟩ (fun r => (∀ c : Dev Cert.FwdBIdeal.nD,
      r.2.mem ((c.tc : Thread Cert.FwdBIdeal.nD Cert.FwdBIdeal.τ).loc Cert.FwdBIdeal.main_arg0) = m ((c.tc : Thread Cert.FwdBIdeal.nD Cert.FwdBIdeal.τ).loc Cert.FwdBIdeal.main_arg0)
      ∧ r.2.mem ((c.tc : Thread Cert.FwdBIdeal.nD Cert.FwdBIdeal.τ).loc Cert.FwdBIdeal.main_arg1) = m ((c.tc : Thread Cert.FwdBIdeal.nD Cert.FwdBIdeal.τ).loc Cert.FwdBIdeal.main_arg1)
      ∧ r.2.mem ((c.tc : Thread Cert.FwdBIdeal.nD Cert.FwdBIdeal.τ).loc Cert.FwdBIdeal.main_arg2) = m ((c.tc : Thread Cert.FwdBIdeal.nD Cert.FwdBIdeal.τ).loc Cert.FwdBIdeal.main_arg2))
      ∧ r.2.sem = fun _ => 0)

def quiescent_FwdBRefIdeal [hFwdBRefIdeal : Cert.FwdBRefIdeal.Facts] : Prop :=
  ∀ (m : (ℓ : Loc Cert.FwdBRefIdeal.nD Cert.FwdBRefIdeal.τ Cert.FwdBRefIdeal.sig) → Buf (Elt Ideal) ℓ) (g : Dev Cert.FwdBRefIdeal.nD → PrngReg), Pre_FwdBRefIdeal m →
    θ_run (Cert.FwdBRefIdeal.defs (F := Ideal)) (onTc (τ := Cert.FwdBRefIdeal.τ) (Cert.FwdBRefIdeal.main (F := Ideal))) ⟨m, fun _ => 0, g⟩ (fun r => (∀ c : Dev Cert.FwdBRefIdeal.nD,
      r.2.mem ((c.tc : Thread Cert.FwdBRefIdeal.nD Cert.FwdBRefIdeal.τ).loc Cert.FwdBRefIdeal.main_arg0) = m ((c.tc : Thread Cert.FwdBRefIdeal.nD Cert.FwdBRefIdeal.τ).loc Cert.FwdBRefIdeal.main_arg0)
      ∧ r.2.mem ((c.tc : Thread Cert.FwdBRefIdeal.nD Cert.FwdBRefIdeal.τ).loc Cert.FwdBRefIdeal.main_arg1) = m ((c.tc : Thread Cert.FwdBRefIdeal.nD Cert.FwdBRefIdeal.τ).loc Cert.FwdBRefIdeal.main_arg1)
      ∧ r.2.mem ((c.tc : Thread Cert.FwdBRefIdeal.nD Cert.FwdBRefIdeal.τ).loc Cert.FwdBRefIdeal.main_arg2) = m ((c.tc : Thread Cert.FwdBRefIdeal.nD Cert.FwdBRefIdeal.τ).loc Cert.FwdBRefIdeal.main_arg2))
      ∧ r.2.sem = fun _ => 0)

def quiescent_FwdBRefIdeal_pre_finite_fwd_b [hFwdBRefIdeal : Cert.FwdBRefIdeal.Facts] [hPre_finite_fwd_b : Cert.Pre_finite_fwd_b.Facts] : Prop :=
  ∀ (m : (ℓ : Loc Cert.FwdBRefIdeal.nD Cert.FwdBRefIdeal.τ Cert.FwdBRefIdeal.sig) → Buf (Elt Ideal) ℓ) (g : Dev Cert.FwdBRefIdeal.nD → PrngReg), Pre_FwdBRefIdeal_finite_fwd_b m →
    θ_run (Cert.FwdBRefIdeal.defs (F := Ideal)) (onTc (τ := Cert.FwdBRefIdeal.τ) (Cert.FwdBRefIdeal.main (F := Ideal))) ⟨m, fun _ => 0, g⟩ (fun r => (∀ c : Dev Cert.FwdBRefIdeal.nD,
      r.2.mem ((c.tc : Thread Cert.FwdBRefIdeal.nD Cert.FwdBRefIdeal.τ).loc Cert.FwdBRefIdeal.main_arg0) = m ((c.tc : Thread Cert.FwdBRefIdeal.nD Cert.FwdBRefIdeal.τ).loc Cert.FwdBRefIdeal.main_arg0)
      ∧ r.2.mem ((c.tc : Thread Cert.FwdBRefIdeal.nD Cert.FwdBRefIdeal.τ).loc Cert.FwdBRefIdeal.main_arg1) = m ((c.tc : Thread Cert.FwdBRefIdeal.nD Cert.FwdBRefIdeal.τ).loc Cert.FwdBRefIdeal.main_arg1)
      ∧ r.2.mem ((c.tc : Thread Cert.FwdBRefIdeal.nD Cert.FwdBRefIdeal.τ).loc Cert.FwdBRefIdeal.main_arg2) = m ((c.tc : Thread Cert.FwdBRefIdeal.nD Cert.FwdBRefIdeal.τ).loc Cert.FwdBRefIdeal.main_arg2))
      ∧ r.2.sem = fun _ => 0)

def quiescent_FwdMlp [hFwdMlp : Cert.FwdMlp.Facts] : Prop :=
  ∀ (m : (ℓ : Loc Cert.FwdMlp.nD Cert.FwdMlp.τ Cert.FwdMlp.sig) → Buf (Elt Bits) ℓ) (g : Dev Cert.FwdMlp.nD → PrngReg), Pre_FwdMlp m →
    θ_run (Cert.FwdMlp.defs (F := Bits)) (onTc (τ := Cert.FwdMlp.τ) (Cert.FwdMlp.main (F := Bits))) ⟨m, fun _ => 0, g⟩ (fun r => (∀ c : Dev Cert.FwdMlp.nD,
      r.2.mem ((c.tc : Thread Cert.FwdMlp.nD Cert.FwdMlp.τ).loc Cert.FwdMlp.main_arg0) = m ((c.tc : Thread Cert.FwdMlp.nD Cert.FwdMlp.τ).loc Cert.FwdMlp.main_arg0)
      ∧ r.2.mem ((c.tc : Thread Cert.FwdMlp.nD Cert.FwdMlp.τ).loc Cert.FwdMlp.main_arg1) = m ((c.tc : Thread Cert.FwdMlp.nD Cert.FwdMlp.τ).loc Cert.FwdMlp.main_arg1)
      ∧ r.2.mem ((c.tc : Thread Cert.FwdMlp.nD Cert.FwdMlp.τ).loc Cert.FwdMlp.main_arg2) = m ((c.tc : Thread Cert.FwdMlp.nD Cert.FwdMlp.τ).loc Cert.FwdMlp.main_arg2)
      ∧ r.2.mem ((c.tc : Thread Cert.FwdMlp.nD Cert.FwdMlp.τ).loc Cert.FwdMlp.main_arg3) = m ((c.tc : Thread Cert.FwdMlp.nD Cert.FwdMlp.τ).loc Cert.FwdMlp.main_arg3))
      ∧ r.2.sem = fun _ => 0)

def quiescent_FwdMlpIdeal [hFwdMlpIdeal : Cert.FwdMlpIdeal.Facts] : Prop :=
  ∀ (m : (ℓ : Loc Cert.FwdMlpIdeal.nD Cert.FwdMlpIdeal.τ Cert.FwdMlpIdeal.sig) → Buf (Elt Ideal) ℓ) (g : Dev Cert.FwdMlpIdeal.nD → PrngReg), Pre_FwdMlpIdeal m →
    θ_run (Cert.FwdMlpIdeal.defs (F := Ideal)) (onTc (τ := Cert.FwdMlpIdeal.τ) (Cert.FwdMlpIdeal.main (F := Ideal))) ⟨m, fun _ => 0, g⟩ (fun r => (∀ c : Dev Cert.FwdMlpIdeal.nD,
      r.2.mem ((c.tc : Thread Cert.FwdMlpIdeal.nD Cert.FwdMlpIdeal.τ).loc Cert.FwdMlpIdeal.main_arg0) = m ((c.tc : Thread Cert.FwdMlpIdeal.nD Cert.FwdMlpIdeal.τ).loc Cert.FwdMlpIdeal.main_arg0)
      ∧ r.2.mem ((c.tc : Thread Cert.FwdMlpIdeal.nD Cert.FwdMlpIdeal.τ).loc Cert.FwdMlpIdeal.main_arg1) = m ((c.tc : Thread Cert.FwdMlpIdeal.nD Cert.FwdMlpIdeal.τ).loc Cert.FwdMlpIdeal.main_arg1)
      ∧ r.2.mem ((c.tc : Thread Cert.FwdMlpIdeal.nD Cert.FwdMlpIdeal.τ).loc Cert.FwdMlpIdeal.main_arg2) = m ((c.tc : Thread Cert.FwdMlpIdeal.nD Cert.FwdMlpIdeal.τ).loc Cert.FwdMlpIdeal.main_arg2)
      ∧ r.2.mem ((c.tc : Thread Cert.FwdMlpIdeal.nD Cert.FwdMlpIdeal.τ).loc Cert.FwdMlpIdeal.main_arg3) = m ((c.tc : Thread Cert.FwdMlpIdeal.nD Cert.FwdMlpIdeal.τ).loc Cert.FwdMlpIdeal.main_arg3))
      ∧ r.2.sem = fun _ => 0)

def quiescent_FwdMlpIdeal_pre_finite_fwd_mlp [hFwdMlpIdeal : Cert.FwdMlpIdeal.Facts] [hPre_finite_fwd_mlp : Cert.Pre_finite_fwd_mlp.Facts] : Prop :=
  ∀ (m : (ℓ : Loc Cert.FwdMlpIdeal.nD Cert.FwdMlpIdeal.τ Cert.FwdMlpIdeal.sig) → Buf (Elt Ideal) ℓ) (g : Dev Cert.FwdMlpIdeal.nD → PrngReg), Pre_FwdMlpIdeal_finite_fwd_mlp m →
    θ_run (Cert.FwdMlpIdeal.defs (F := Ideal)) (onTc (τ := Cert.FwdMlpIdeal.τ) (Cert.FwdMlpIdeal.main (F := Ideal))) ⟨m, fun _ => 0, g⟩ (fun r => (∀ c : Dev Cert.FwdMlpIdeal.nD,
      r.2.mem ((c.tc : Thread Cert.FwdMlpIdeal.nD Cert.FwdMlpIdeal.τ).loc Cert.FwdMlpIdeal.main_arg0) = m ((c.tc : Thread Cert.FwdMlpIdeal.nD Cert.FwdMlpIdeal.τ).loc Cert.FwdMlpIdeal.main_arg0)
      ∧ r.2.mem ((c.tc : Thread Cert.FwdMlpIdeal.nD Cert.FwdMlpIdeal.τ).loc Cert.FwdMlpIdeal.main_arg1) = m ((c.tc : Thread Cert.FwdMlpIdeal.nD Cert.FwdMlpIdeal.τ).loc Cert.FwdMlpIdeal.main_arg1)
      ∧ r.2.mem ((c.tc : Thread Cert.FwdMlpIdeal.nD Cert.FwdMlpIdeal.τ).loc Cert.FwdMlpIdeal.main_arg2) = m ((c.tc : Thread Cert.FwdMlpIdeal.nD Cert.FwdMlpIdeal.τ).loc Cert.FwdMlpIdeal.main_arg2)
      ∧ r.2.mem ((c.tc : Thread Cert.FwdMlpIdeal.nD Cert.FwdMlpIdeal.τ).loc Cert.FwdMlpIdeal.main_arg3) = m ((c.tc : Thread Cert.FwdMlpIdeal.nD Cert.FwdMlpIdeal.τ).loc Cert.FwdMlpIdeal.main_arg3))
      ∧ r.2.sem = fun _ => 0)

def quiescent_FwdMlpRefIdeal [hFwdMlpRefIdeal : Cert.FwdMlpRefIdeal.Facts] : Prop :=
  ∀ (m : (ℓ : Loc Cert.FwdMlpRefIdeal.nD Cert.FwdMlpRefIdeal.τ Cert.FwdMlpRefIdeal.sig) → Buf (Elt Ideal) ℓ) (g : Dev Cert.FwdMlpRefIdeal.nD → PrngReg), Pre_FwdMlpRefIdeal m →
    θ_run (Cert.FwdMlpRefIdeal.defs (F := Ideal)) (onTc (τ := Cert.FwdMlpRefIdeal.τ) (Cert.FwdMlpRefIdeal.main (F := Ideal))) ⟨m, fun _ => 0, g⟩ (fun r => (∀ c : Dev Cert.FwdMlpRefIdeal.nD,
      r.2.mem ((c.tc : Thread Cert.FwdMlpRefIdeal.nD Cert.FwdMlpRefIdeal.τ).loc Cert.FwdMlpRefIdeal.main_arg0) = m ((c.tc : Thread Cert.FwdMlpRefIdeal.nD Cert.FwdMlpRefIdeal.τ).loc Cert.FwdMlpRefIdeal.main_arg0)
      ∧ r.2.mem ((c.tc : Thread Cert.FwdMlpRefIdeal.nD Cert.FwdMlpRefIdeal.τ).loc Cert.FwdMlpRefIdeal.main_arg1) = m ((c.tc : Thread Cert.FwdMlpRefIdeal.nD Cert.FwdMlpRefIdeal.τ).loc Cert.FwdMlpRefIdeal.main_arg1)
      ∧ r.2.mem ((c.tc : Thread Cert.FwdMlpRefIdeal.nD Cert.FwdMlpRefIdeal.τ).loc Cert.FwdMlpRefIdeal.main_arg2) = m ((c.tc : Thread Cert.FwdMlpRefIdeal.nD Cert.FwdMlpRefIdeal.τ).loc Cert.FwdMlpRefIdeal.main_arg2)
      ∧ r.2.mem ((c.tc : Thread Cert.FwdMlpRefIdeal.nD Cert.FwdMlpRefIdeal.τ).loc Cert.FwdMlpRefIdeal.main_arg3) = m ((c.tc : Thread Cert.FwdMlpRefIdeal.nD Cert.FwdMlpRefIdeal.τ).loc Cert.FwdMlpRefIdeal.main_arg3))
      ∧ r.2.sem = fun _ => 0)

def quiescent_FwdMlpRefIdeal_pre_finite_fwd_mlp [hFwdMlpRefIdeal : Cert.FwdMlpRefIdeal.Facts] [hPre_finite_fwd_mlp : Cert.Pre_finite_fwd_mlp.Facts] : Prop :=
  ∀ (m : (ℓ : Loc Cert.FwdMlpRefIdeal.nD Cert.FwdMlpRefIdeal.τ Cert.FwdMlpRefIdeal.sig) → Buf (Elt Ideal) ℓ) (g : Dev Cert.FwdMlpRefIdeal.nD → PrngReg), Pre_FwdMlpRefIdeal_finite_fwd_mlp m →
    θ_run (Cert.FwdMlpRefIdeal.defs (F := Ideal)) (onTc (τ := Cert.FwdMlpRefIdeal.τ) (Cert.FwdMlpRefIdeal.main (F := Ideal))) ⟨m, fun _ => 0, g⟩ (fun r => (∀ c : Dev Cert.FwdMlpRefIdeal.nD,
      r.2.mem ((c.tc : Thread Cert.FwdMlpRefIdeal.nD Cert.FwdMlpRefIdeal.τ).loc Cert.FwdMlpRefIdeal.main_arg0) = m ((c.tc : Thread Cert.FwdMlpRefIdeal.nD Cert.FwdMlpRefIdeal.τ).loc Cert.FwdMlpRefIdeal.main_arg0)
      ∧ r.2.mem ((c.tc : Thread Cert.FwdMlpRefIdeal.nD Cert.FwdMlpRefIdeal.τ).loc Cert.FwdMlpRefIdeal.main_arg1) = m ((c.tc : Thread Cert.FwdMlpRefIdeal.nD Cert.FwdMlpRefIdeal.τ).loc Cert.FwdMlpRefIdeal.main_arg1)
      ∧ r.2.mem ((c.tc : Thread Cert.FwdMlpRefIdeal.nD Cert.FwdMlpRefIdeal.τ).loc Cert.FwdMlpRefIdeal.main_arg2) = m ((c.tc : Thread Cert.FwdMlpRefIdeal.nD Cert.FwdMlpRefIdeal.τ).loc Cert.FwdMlpRefIdeal.main_arg2)
      ∧ r.2.mem ((c.tc : Thread Cert.FwdMlpRefIdeal.nD Cert.FwdMlpRefIdeal.τ).loc Cert.FwdMlpRefIdeal.main_arg3) = m ((c.tc : Thread Cert.FwdMlpRefIdeal.nD Cert.FwdMlpRefIdeal.τ).loc Cert.FwdMlpRefIdeal.main_arg3))
      ∧ r.2.sem = fun _ => 0)

def preserves_Ple_PleIdeal : Prop :=
  True

def algebraic_PleIdeal_PleRefIdeal_pre_finite_ple [hPleIdeal : Cert.PleIdeal.Facts] [hPleRefIdeal : Cert.PleRefIdeal.Facts] [hPre_finite_ple : Cert.Pre_finite_ple.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal_finite_ple m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)
      ∧ m' ((c.tc : Thread Cert.PleRefIdeal.nD Cert.PleRefIdeal.τ).loc Cert.PleRefIdeal.main_arg6) = m ((c.tc : Thread Cert.PleIdeal.nD Cert.PleIdeal.τ).loc Cert.PleIdeal.main_arg6)
      ∧ m' ((c.tc : Thread Cert.PleRefIdeal.nD Cert.PleRefIdeal.τ).loc Cert.PleRefIdeal.main_arg7) = m ((c.tc : Thread Cert.PleIdeal.nD Cert.PleIdeal.τ).loc Cert.PleIdeal.main_arg7)
      ∧ m' ((c.tc : Thread Cert.PleRefIdeal.nD Cert.PleRefIdeal.τ).loc Cert.PleRefIdeal.main_arg8) = m ((c.tc : Thread Cert.PleIdeal.nD Cert.PleIdeal.τ).loc Cert.PleIdeal.main_arg8)
      ∧ m' ((c.tc : Thread Cert.PleRefIdeal.nD Cert.PleRefIdeal.τ).loc Cert.PleRefIdeal.main_arg9) = m ((c.tc : Thread Cert.PleIdeal.nD Cert.PleIdeal.τ).loc Cert.PleIdeal.main_arg9)) →
    ∃ (v0 : (c : Dev Cert.PleIdeal.nD) → Buf (Elt Ideal) ((c.tc : Thread Cert.PleIdeal.nD Cert.PleIdeal.τ).loc Cert.PleIdeal.main_v25_0)) (v1 : (c : Dev Cert.PleIdeal.nD) → Buf (Elt Ideal) ((c.tc : Thread Cert.PleIdeal.nD Cert.PleIdeal.τ).loc Cert.PleIdeal.main_v25_1)) (v2 : (c : Dev Cert.PleIdeal.nD) → Buf (Elt Ideal) ((c.tc : Thread Cert.PleIdeal.nD Cert.PleIdeal.τ).loc Cert.PleIdeal.main_v25_2)) (v3 : (c : Dev Cert.PleIdeal.nD) → Buf (Elt Ideal) ((c.tc : Thread Cert.PleIdeal.nD Cert.PleIdeal.τ).loc Cert.PleIdeal.main_v25_3)) (v4 : (c : Dev Cert.PleIdeal.nD) → Buf (Elt Ideal) ((c.tc : Thread Cert.PleIdeal.nD Cert.PleIdeal.τ).loc Cert.PleIdeal.main_v25_4)) (v5 : (c : Dev Cert.PleIdeal.nD) → Buf (Elt Ideal) ((c.tc : Thread Cert.PleIdeal.nD Cert.PleIdeal.τ).loc Cert.PleIdeal.main_v25_5)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v25_0) = v0 c
          ∧ r.2.mem ((c.tc : Thread Cert.PleIdeal.nD Cert.PleIdeal.τ).loc Cert.PleIdeal.main_v25_1) = v1 c
          ∧ r.2.mem ((c.tc : Thread Cert.PleIdeal.nD Cert.PleIdeal.τ).loc Cert.PleIdeal.main_v25_2) = v2 c
          ∧ r.2.mem ((c.tc : Thread Cert.PleIdeal.nD Cert.PleIdeal.τ).loc Cert.PleIdeal.main_v25_3) = v3 c
          ∧ r.2.mem ((c.tc : Thread Cert.PleIdeal.nD Cert.PleIdeal.τ).loc Cert.PleIdeal.main_v25_4) = v4 c
          ∧ r.2.mem ((c.tc : Thread Cert.PleIdeal.nD Cert.PleIdeal.τ).loc Cert.PleIdeal.main_v25_5) = v5 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6)
          ∧ r.2.mem ((c.tc : Thread Cert.PleIdeal.nD Cert.PleIdeal.τ).loc Cert.PleIdeal.main_arg7) = m ((c.tc : Thread Cert.PleIdeal.nD Cert.PleIdeal.τ).loc Cert.PleIdeal.main_arg7)
          ∧ r.2.mem ((c.tc : Thread Cert.PleIdeal.nD Cert.PleIdeal.τ).loc Cert.PleIdeal.main_arg8) = m ((c.tc : Thread Cert.PleIdeal.nD Cert.PleIdeal.τ).loc Cert.PleIdeal.main_arg8)
          ∧ r.2.mem ((c.tc : Thread Cert.PleIdeal.nD Cert.PleIdeal.τ).loc Cert.PleIdeal.main_arg9) = m ((c.tc : Thread Cert.PleIdeal.nD Cert.PleIdeal.τ).loc Cert.PleIdeal.main_arg9))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v134) = v0 c
          ∧ r.2.mem ((c.tc : Thread Cert.PleRefIdeal.nD Cert.PleRefIdeal.τ).loc Cert.PleRefIdeal.main_v136) = v1 c
          ∧ r.2.mem ((c.tc : Thread Cert.PleRefIdeal.nD Cert.PleRefIdeal.τ).loc Cert.PleRefIdeal.main_v138) = v2 c
          ∧ r.2.mem ((c.tc : Thread Cert.PleRefIdeal.nD Cert.PleRefIdeal.τ).loc Cert.PleRefIdeal.main_v140) = v3 c
          ∧ r.2.mem ((c.tc : Thread Cert.PleRefIdeal.nD Cert.PleRefIdeal.τ).loc Cert.PleRefIdeal.main_v119) = v4 c
          ∧ r.2.mem ((c.tc : Thread Cert.PleRefIdeal.nD Cert.PleRefIdeal.τ).loc Cert.PleRefIdeal.main_v142) = v5 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5)
          ∧ r.2.mem ((c.tc : Thread Cert.PleRefIdeal.nD Cert.PleRefIdeal.τ).loc Cert.PleRefIdeal.main_arg6) = m' ((c.tc : Thread Cert.PleRefIdeal.nD Cert.PleRefIdeal.τ).loc Cert.PleRefIdeal.main_arg6)
          ∧ r.2.mem ((c.tc : Thread Cert.PleRefIdeal.nD Cert.PleRefIdeal.τ).loc Cert.PleRefIdeal.main_arg7) = m' ((c.tc : Thread Cert.PleRefIdeal.nD Cert.PleRefIdeal.τ).loc Cert.PleRefIdeal.main_arg7)
          ∧ r.2.mem ((c.tc : Thread Cert.PleRefIdeal.nD Cert.PleRefIdeal.τ).loc Cert.PleRefIdeal.main_arg8) = m' ((c.tc : Thread Cert.PleRefIdeal.nD Cert.PleRefIdeal.τ).loc Cert.PleRefIdeal.main_arg8)
          ∧ r.2.mem ((c.tc : Thread Cert.PleRefIdeal.nD Cert.PleRefIdeal.τ).loc Cert.PleRefIdeal.main_arg9) = m' ((c.tc : Thread Cert.PleRefIdeal.nD Cert.PleRefIdeal.τ).loc Cert.PleRefIdeal.main_arg9))

def preserves_AttnB_AttnBIdeal : Prop :=
  True

def algebraic_AttnBIdeal_AttnBRefIdeal_pre_finite_attn_b [hAttnBIdeal : Cert.AttnBIdeal.Facts] [hAttnBRefIdeal : Cert.AttnBRefIdeal.Facts] [hPre_finite_attn_b : Cert.Pre_finite_attn_b.Facts] : Prop :=
  ∀ (m : (ℓ : Loc Cert.AttnBIdeal.nD Cert.AttnBIdeal.τ Cert.AttnBIdeal.sig) → Buf (Elt Ideal) ℓ) (g : Dev Cert.AttnBIdeal.nD → PrngReg)
    (m' : (ℓ : Loc Cert.AttnBRefIdeal.nD Cert.AttnBRefIdeal.τ Cert.AttnBRefIdeal.sig) → Buf (Elt Ideal) ℓ) (g' : Dev Cert.AttnBRefIdeal.nD → PrngReg), Pre_AttnBIdeal_finite_attn_b m →
    (∀ c : Dev Cert.AttnBIdeal.nD,
      m' ((c.tc : Thread Cert.AttnBRefIdeal.nD Cert.AttnBRefIdeal.τ).loc Cert.AttnBRefIdeal.main_arg0) = m ((c.tc : Thread Cert.AttnBIdeal.nD Cert.AttnBIdeal.τ).loc Cert.AttnBIdeal.main_arg0)
      ∧ m' ((c.tc : Thread Cert.AttnBRefIdeal.nD Cert.AttnBRefIdeal.τ).loc Cert.AttnBRefIdeal.main_arg1) = m ((c.tc : Thread Cert.AttnBIdeal.nD Cert.AttnBIdeal.τ).loc Cert.AttnBIdeal.main_arg1)
      ∧ m' ((c.tc : Thread Cert.AttnBRefIdeal.nD Cert.AttnBRefIdeal.τ).loc Cert.AttnBRefIdeal.main_arg2) = m ((c.tc : Thread Cert.AttnBIdeal.nD Cert.AttnBIdeal.τ).loc Cert.AttnBIdeal.main_arg2)
      ∧ m' ((c.tc : Thread Cert.AttnBRefIdeal.nD Cert.AttnBRefIdeal.τ).loc Cert.AttnBRefIdeal.main_arg3) = m ((c.tc : Thread Cert.AttnBIdeal.nD Cert.AttnBIdeal.τ).loc Cert.AttnBIdeal.main_arg3)) →
    ∃ (v0 : (c : Dev Cert.AttnBIdeal.nD) → Buf (Elt Ideal) ((c.tc : Thread Cert.AttnBIdeal.nD Cert.AttnBIdeal.τ).loc Cert.AttnBIdeal.main_v45_0)) (v1 : (c : Dev Cert.AttnBIdeal.nD) → Buf (Elt Ideal) ((c.tc : Thread Cert.AttnBIdeal.nD Cert.AttnBIdeal.τ).loc Cert.AttnBIdeal.main_v45_1)) (v2 : (c : Dev Cert.AttnBIdeal.nD) → Buf (Elt Ideal) ((c.tc : Thread Cert.AttnBIdeal.nD Cert.AttnBIdeal.τ).loc Cert.AttnBIdeal.main_v45_2)),
      θ_run (Cert.AttnBIdeal.defs (F := Ideal)) (onTc (τ := Cert.AttnBIdeal.τ) (Cert.AttnBIdeal.main (F := Ideal))) ⟨m, fun _ => 0, g⟩ (fun r => ∀ c : Dev Cert.AttnBIdeal.nD,
          r.2.mem ((c.tc : Thread Cert.AttnBIdeal.nD Cert.AttnBIdeal.τ).loc Cert.AttnBIdeal.main_v45_0) = v0 c
          ∧ r.2.mem ((c.tc : Thread Cert.AttnBIdeal.nD Cert.AttnBIdeal.τ).loc Cert.AttnBIdeal.main_v45_1) = v1 c
          ∧ r.2.mem ((c.tc : Thread Cert.AttnBIdeal.nD Cert.AttnBIdeal.τ).loc Cert.AttnBIdeal.main_v45_2) = v2 c
          ∧ r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0)
          ∧ r.2.mem ((c.tc : Thread Cert.AttnBIdeal.nD Cert.AttnBIdeal.τ).loc Cert.AttnBIdeal.main_arg1) = m ((c.tc : Thread Cert.AttnBIdeal.nD Cert.AttnBIdeal.τ).loc Cert.AttnBIdeal.main_arg1)
          ∧ r.2.mem ((c.tc : Thread Cert.AttnBIdeal.nD Cert.AttnBIdeal.τ).loc Cert.AttnBIdeal.main_arg2) = m ((c.tc : Thread Cert.AttnBIdeal.nD Cert.AttnBIdeal.τ).loc Cert.AttnBIdeal.main_arg2)
          ∧ r.2.mem ((c.tc : Thread Cert.AttnBIdeal.nD Cert.AttnBIdeal.τ).loc Cert.AttnBIdeal.main_arg3) = m ((c.tc : Thread Cert.AttnBIdeal.nD Cert.AttnBIdeal.τ).loc Cert.AttnBIdeal.main_arg3))
      ∧ θ_run (Cert.AttnBRefIdeal.defs (F := Ideal)) (onTc (τ := Cert.AttnBRefIdeal.τ) (Cert.AttnBRefIdeal.main (F := Ideal))) ⟨m', fun _ => 0, g'⟩ (fun r => ∀ c : Dev Cert.AttnBRefIdeal.nD,
          r.2.mem ((c.tc : Thread Cert.AttnBRefIdeal.nD Cert.AttnBRefIdeal.τ).loc Cert.AttnBRefIdeal.main_v56) = v0 c
          ∧ r.2.mem ((c.tc : Thread Cert.AttnBRefIdeal.nD Cert.AttnBRefIdeal.τ).loc Cert.AttnBRefIdeal.main_v60) = v1 c
          ∧ r.2.mem ((c.tc : Thread Cert.AttnBRefIdeal.nD Cert.AttnBRefIdeal.τ).loc Cert.AttnBRefIdeal.main_v64) = v2 c
          ∧ r.2.mem ((c.tc : Thread Cert.AttnBRefIdeal.nD Cert.AttnBRefIdeal.τ).loc Cert.AttnBRefIdeal.main_arg0) = m' ((c.tc : Thread Cert.AttnBRefIdeal.nD Cert.AttnBRefIdeal.τ).loc Cert.AttnBRefIdeal.main_arg0)
          ∧ r.2.mem ((c.tc : Thread Cert.AttnBRefIdeal.nD Cert.AttnBRefIdeal.τ).loc Cert.AttnBRefIdeal.main_arg1) = m' ((c.tc : Thread Cert.AttnBRefIdeal.nD Cert.AttnBRefIdeal.τ).loc Cert.AttnBRefIdeal.main_arg1)
          ∧ r.2.mem ((c.tc : Thread Cert.AttnBRefIdeal.nD Cert.AttnBRefIdeal.τ).loc Cert.AttnBRefIdeal.main_arg2) = m' ((c.tc : Thread Cert.AttnBRefIdeal.nD Cert.AttnBRefIdeal.τ).loc Cert.AttnBRefIdeal.main_arg2)
          ∧ r.2.mem ((c.tc : Thread Cert.AttnBRefIdeal.nD Cert.AttnBRefIdeal.τ).loc Cert.AttnBRefIdeal.main_arg3) = m' ((c.tc : Thread Cert.AttnBRefIdeal.nD Cert.AttnBRefIdeal.τ).loc Cert.AttnBRefIdeal.main_arg3))

def preserves_AttnA_AttnAIdeal : Prop :=
  True

def algebraic_AttnAIdeal_AttnARefIdeal_pre_finite_attn_a [hAttnAIdeal : Cert.AttnAIdeal.Facts] [hAttnARefIdeal : Cert.AttnARefIdeal.Facts] [hPre_finite_attn_a : Cert.Pre_finite_attn_a.Facts] : Prop :=
  ∀ (m : (ℓ : Loc Cert.AttnAIdeal.nD Cert.AttnAIdeal.τ Cert.AttnAIdeal.sig) → Buf (Elt Ideal) ℓ) (g : Dev Cert.AttnAIdeal.nD → PrngReg)
    (m' : (ℓ : Loc Cert.AttnARefIdeal.nD Cert.AttnARefIdeal.τ Cert.AttnARefIdeal.sig) → Buf (Elt Ideal) ℓ) (g' : Dev Cert.AttnARefIdeal.nD → PrngReg), Pre_AttnAIdeal_finite_attn_a m →
    (∀ c : Dev Cert.AttnAIdeal.nD,
      m' ((c.tc : Thread Cert.AttnARefIdeal.nD Cert.AttnARefIdeal.τ).loc Cert.AttnARefIdeal.main_arg0) = m ((c.tc : Thread Cert.AttnAIdeal.nD Cert.AttnAIdeal.τ).loc Cert.AttnAIdeal.main_arg0)
      ∧ m' ((c.tc : Thread Cert.AttnARefIdeal.nD Cert.AttnARefIdeal.τ).loc Cert.AttnARefIdeal.main_arg1) = m ((c.tc : Thread Cert.AttnAIdeal.nD Cert.AttnAIdeal.τ).loc Cert.AttnAIdeal.main_arg1)
      ∧ m' ((c.tc : Thread Cert.AttnARefIdeal.nD Cert.AttnARefIdeal.τ).loc Cert.AttnARefIdeal.main_arg2) = m ((c.tc : Thread Cert.AttnAIdeal.nD Cert.AttnAIdeal.τ).loc Cert.AttnAIdeal.main_arg2)
      ∧ m' ((c.tc : Thread Cert.AttnARefIdeal.nD Cert.AttnARefIdeal.τ).loc Cert.AttnARefIdeal.main_arg3) = m ((c.tc : Thread Cert.AttnAIdeal.nD Cert.AttnAIdeal.τ).loc Cert.AttnAIdeal.main_arg3)) →
    ∃ (v0 : (c : Dev Cert.AttnAIdeal.nD) → Buf (Elt Ideal) ((c.tc : Thread Cert.AttnAIdeal.nD Cert.AttnAIdeal.τ).loc Cert.AttnAIdeal.main_v45_0)) (v1 : (c : Dev Cert.AttnAIdeal.nD) → Buf (Elt Ideal) ((c.tc : Thread Cert.AttnAIdeal.nD Cert.AttnAIdeal.τ).loc Cert.AttnAIdeal.main_v45_1)) (v2 : (c : Dev Cert.AttnAIdeal.nD) → Buf (Elt Ideal) ((c.tc : Thread Cert.AttnAIdeal.nD Cert.AttnAIdeal.τ).loc Cert.AttnAIdeal.main_v45_2)),
      θ_run (Cert.AttnAIdeal.defs (F := Ideal)) (onTc (τ := Cert.AttnAIdeal.τ) (Cert.AttnAIdeal.main (F := Ideal))) ⟨m, fun _ => 0, g⟩ (fun r => ∀ c : Dev Cert.AttnAIdeal.nD,
          r.2.mem ((c.tc : Thread Cert.AttnAIdeal.nD Cert.AttnAIdeal.τ).loc Cert.AttnAIdeal.main_v45_0) = v0 c
          ∧ r.2.mem ((c.tc : Thread Cert.AttnAIdeal.nD Cert.AttnAIdeal.τ).loc Cert.AttnAIdeal.main_v45_1) = v1 c
          ∧ r.2.mem ((c.tc : Thread Cert.AttnAIdeal.nD Cert.AttnAIdeal.τ).loc Cert.AttnAIdeal.main_v45_2) = v2 c
          ∧ r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
          ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1)
          ∧ r.2.mem ((c.tc : Thread Cert.AttnAIdeal.nD Cert.AttnAIdeal.τ).loc Cert.AttnAIdeal.main_arg2) = m ((c.tc : Thread Cert.AttnAIdeal.nD Cert.AttnAIdeal.τ).loc Cert.AttnAIdeal.main_arg2)
          ∧ r.2.mem ((c.tc : Thread Cert.AttnAIdeal.nD Cert.AttnAIdeal.τ).loc Cert.AttnAIdeal.main_arg3) = m ((c.tc : Thread Cert.AttnAIdeal.nD Cert.AttnAIdeal.τ).loc Cert.AttnAIdeal.main_arg3))
      ∧ θ_run (Cert.AttnARefIdeal.defs (F := Ideal)) (onTc (τ := Cert.AttnARefIdeal.τ) (Cert.AttnARefIdeal.main (F := Ideal))) ⟨m', fun _ => 0, g'⟩ (fun r => ∀ c : Dev Cert.AttnARefIdeal.nD,
          r.2.mem ((c.tc : Thread Cert.AttnARefIdeal.nD Cert.AttnARefIdeal.τ).loc Cert.AttnARefIdeal.main_v57) = v0 c
          ∧ r.2.mem ((c.tc : Thread Cert.AttnARefIdeal.nD Cert.AttnARefIdeal.τ).loc Cert.AttnARefIdeal.main_v61) = v1 c
          ∧ r.2.mem ((c.tc : Thread Cert.AttnARefIdeal.nD Cert.AttnARefIdeal.τ).loc Cert.AttnARefIdeal.main_v65) = v2 c
          ∧ r.2.mem ((c.tc : Thread Cert.AttnARefIdeal.nD Cert.AttnARefIdeal.τ).loc Cert.AttnARefIdeal.main_arg0) = m' ((c.tc : Thread Cert.AttnARefIdeal.nD Cert.AttnARefIdeal.τ).loc Cert.AttnARefIdeal.main_arg0)
          ∧ r.2.mem ((c.tc : Thread Cert.AttnARefIdeal.nD Cert.AttnARefIdeal.τ).loc Cert.AttnARefIdeal.main_arg1) = m' ((c.tc : Thread Cert.AttnARefIdeal.nD Cert.AttnARefIdeal.τ).loc Cert.AttnARefIdeal.main_arg1)
          ∧ r.2.mem ((c.tc : Thread Cert.AttnARefIdeal.nD Cert.AttnARefIdeal.τ).loc Cert.AttnARefIdeal.main_arg2) = m' ((c.tc : Thread Cert.AttnARefIdeal.nD Cert.AttnARefIdeal.τ).loc Cert.AttnARefIdeal.main_arg2)
          ∧ r.2.mem ((c.tc : Thread Cert.AttnARefIdeal.nD Cert.AttnARefIdeal.τ).loc Cert.AttnARefIdeal.main_arg3) = m' ((c.tc : Thread Cert.AttnARefIdeal.nD Cert.AttnARefIdeal.τ).loc Cert.AttnARefIdeal.main_arg3))

def preserves_In_InIdeal : Prop :=
  True

def algebraic_InIdeal_InRefIdeal_pre_finite_in [hInIdeal : Cert.InIdeal.Facts] [hInRefIdeal : Cert.InRefIdeal.Facts] [hPre_finite_in : Cert.Pre_finite_in.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal_finite_in m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)) →
    ∃ (v0 : (c : Dev Cert.InIdeal.nD) → Buf (Elt Ideal) ((c.tc : Thread Cert.InIdeal.nD Cert.InIdeal.τ).loc Cert.InIdeal.main_v47_0)) (v1 : (c : Dev Cert.InIdeal.nD) → Buf (Elt Ideal) ((c.tc : Thread Cert.InIdeal.nD Cert.InIdeal.τ).loc Cert.InIdeal.main_v47_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v47_0) = v0 c
          ∧ r.2.mem ((c.tc : Thread Cert.InIdeal.nD Cert.InIdeal.τ).loc Cert.InIdeal.main_v47_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v42) = v0 c
          ∧ r.2.mem ((c.tc : Thread Cert.InRefIdeal.nD Cert.InRefIdeal.τ).loc Cert.InRefIdeal.main_v41) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4))

def preserves_Mlp_MlpIdeal : Prop :=
  True

def algebraic_MlpIdeal_MlpRefIdeal_pre_finite_mlp [hMlpIdeal : Cert.MlpIdeal.Facts] [hMlpRefIdeal : Cert.MlpRefIdeal.Facts] [hPre_finite_mlp : Cert.Pre_finite_mlp.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal_finite_mlp m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v29_0)) (v1 : (c : Dev Cert.MlpIdeal.nD) → Buf (Elt Ideal) ((c.tc : Thread Cert.MlpIdeal.nD Cert.MlpIdeal.τ).loc Cert.MlpIdeal.main_v29_1)) (v2 : (c : Dev Cert.MlpIdeal.nD) → Buf (Elt Ideal) ((c.tc : Thread Cert.MlpIdeal.nD Cert.MlpIdeal.τ).loc Cert.MlpIdeal.main_v29_2)) (v3 : (c : Dev Cert.MlpIdeal.nD) → Buf (Elt Ideal) ((c.tc : Thread Cert.MlpIdeal.nD Cert.MlpIdeal.τ).loc Cert.MlpIdeal.main_v29_3)) (v4 : (c : Dev Cert.MlpIdeal.nD) → Buf (Elt Ideal) ((c.tc : Thread Cert.MlpIdeal.nD Cert.MlpIdeal.τ).loc Cert.MlpIdeal.main_v29_4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v29_0) = v0 c
          ∧ r.2.mem ((c.tc : Thread Cert.MlpIdeal.nD Cert.MlpIdeal.τ).loc Cert.MlpIdeal.main_v29_1) = v1 c
          ∧ r.2.mem ((c.tc : Thread Cert.MlpIdeal.nD Cert.MlpIdeal.τ).loc Cert.MlpIdeal.main_v29_2) = v2 c
          ∧ r.2.mem ((c.tc : Thread Cert.MlpIdeal.nD Cert.MlpIdeal.τ).loc Cert.MlpIdeal.main_v29_3) = v3 c
          ∧ r.2.mem ((c.tc : Thread Cert.MlpIdeal.nD Cert.MlpIdeal.τ).loc Cert.MlpIdeal.main_v29_4) = v4 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v71) = v0 c
          ∧ r.2.mem ((c.tc : Thread Cert.MlpRefIdeal.nD Cert.MlpRefIdeal.τ).loc Cert.MlpRefIdeal.main_v73) = v1 c
          ∧ r.2.mem ((c.tc : Thread Cert.MlpRefIdeal.nD Cert.MlpRefIdeal.τ).loc Cert.MlpRefIdeal.main_v75) = v2 c
          ∧ r.2.mem ((c.tc : Thread Cert.MlpRefIdeal.nD Cert.MlpRefIdeal.τ).loc Cert.MlpRefIdeal.main_v56) = v3 c
          ∧ r.2.mem ((c.tc : Thread Cert.MlpRefIdeal.nD Cert.MlpRefIdeal.τ).loc Cert.MlpRefIdeal.main_v77) = v4 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Merge_MergeIdeal : Prop :=
  True

def algebraic_MergeIdeal_MergeRefIdeal_on_written_merge_pre_finite_merge [hMergeIdeal : Cert.MergeIdeal.Facts] [hMergeRefIdeal : Cert.MergeRefIdeal.Facts] [hPre_finite_merge : Cert.Pre_finite_merge.Facts] [hOn_written_merge : Cert.On_written_merge.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_finite_merge m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v41_0)) (v1 : (c : Dev Cert.MergeIdeal.nD) → Buf (Elt Ideal) ((c.tc : Thread Cert.MergeIdeal.nD Cert.MergeIdeal.τ).loc Cert.MergeIdeal.main_v41_1)) (v2 : (c : Dev Cert.MergeIdeal.nD) → Buf (Elt Ideal) ((c.tc : Thread Cert.MergeIdeal.nD Cert.MergeIdeal.τ).loc Cert.MergeIdeal.main_v41_2)) (v3 : (c : Dev Cert.MergeIdeal.nD) → Buf (Elt Ideal) ((c.tc : Thread Cert.MergeIdeal.nD Cert.MergeIdeal.τ).loc Cert.MergeIdeal.main_v41_3)) (v4 : (c : Dev Cert.MergeIdeal.nD) → Buf (Elt Ideal) ((c.tc : Thread Cert.MergeIdeal.nD Cert.MergeIdeal.τ).loc Cert.MergeIdeal.main_v41_4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          (∀ i : (⟨2, ![4096, 1024]⟩ : Shape).Idx, (Cert.On_written_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9))).1 i = 1#1 → r.2.mem ((c.tc : Thread Cert.MergeIdeal.nD Cert.MergeIdeal.τ).loc Cert.MergeIdeal.main_v41_0) i = v0 c i)
          ∧ (∀ i : (⟨2, ![4096, 1024]⟩ : Shape).Idx, (Cert.On_written_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9))).2.1 i = 1#1 → r.2.mem ((c.tc : Thread Cert.MergeIdeal.nD Cert.MergeIdeal.τ).loc Cert.MergeIdeal.main_v41_1) i = v1 c i)
          ∧ (∀ i : (⟨2, ![4096, 4096]⟩ : Shape).Idx, (Cert.On_written_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9))).2.2.1 i = 1#1 → r.2.mem ((c.tc : Thread Cert.MergeIdeal.nD Cert.MergeIdeal.τ).loc Cert.MergeIdeal.main_v41_2) i = v2 c i)
          ∧ (∀ i : (⟨2, ![4096, 1024]⟩ : Shape).Idx, (Cert.On_written_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9))).2.2.2.1 i = 1#1 → r.2.mem ((c.tc : Thread Cert.MergeIdeal.nD Cert.MergeIdeal.τ).loc Cert.MergeIdeal.main_v41_3) i = v3 c i)
          ∧ (∀ i : (⟨2, ![4096, 1024]⟩ : Shape).Idx, (Cert.On_written_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9))).2.2.2.2 i = 1#1 → r.2.mem ((c.tc : Thread Cert.MergeIdeal.nD Cert.MergeIdeal.τ).loc Cert.MergeIdeal.main_v41_4) i = v4 c i)
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          (∀ i : (⟨2, ![4096, 1024]⟩ : Shape).Idx, (Cert.On_written_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9))).1 i = 1#1 → r.2.mem ((c.tc : Thread Cert.MergeRefIdeal.nD Cert.MergeRefIdeal.τ).loc Cert.MergeRefIdeal.main_v43) i = v0 c i)
          ∧ (∀ i : (⟨2, ![4096, 1024]⟩ : Shape).Idx, (Cert.On_written_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9))).2.1 i = 1#1 → r.2.mem ((c.tc : Thread Cert.MergeRefIdeal.nD Cert.MergeRefIdeal.τ).loc Cert.MergeRefIdeal.main_v47) i = v1 c i)
          ∧ (∀ i : (⟨2, ![4096, 4096]⟩ : Shape).Idx, (Cert.On_written_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9))).2.2.1 i = 1#1 → r.2.mem ((c.tc : Thread Cert.MergeRefIdeal.nD Cert.MergeRefIdeal.τ).loc Cert.MergeRefIdeal.main_v39) i = v2 c i)
          ∧ (∀ i : (⟨2, ![4096, 1024]⟩ : Shape).Idx, (Cert.On_written_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9))).2.2.2.1 i = 1#1 → r.2.mem ((c.tc : Thread Cert.MergeRefIdeal.nD Cert.MergeRefIdeal.τ).loc Cert.MergeRefIdeal.main_v49) i = v3 c i)
          ∧ (∀ i : (⟨2, ![4096, 1024]⟩ : Shape).Idx, (Cert.On_written_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9))).2.2.2.2 i = 1#1 → r.2.mem ((c.tc : Thread Cert.MergeRefIdeal.nD Cert.MergeRefIdeal.τ).loc Cert.MergeRefIdeal.main_v51) i = v4 c i)
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_FwdA_FwdAIdeal : Prop :=
  True

def algebraic_FwdAIdeal_FwdARefIdeal_pre_finite_fwd_a [hFwdAIdeal : Cert.FwdAIdeal.Facts] [hFwdARefIdeal : Cert.FwdARefIdeal.Facts] [hPre_finite_fwd_a : Cert.Pre_finite_fwd_a.Facts] : Prop :=
  ∀ (m : (ℓ : Loc Cert.FwdAIdeal.nD Cert.FwdAIdeal.τ Cert.FwdAIdeal.sig) → Buf (Elt Ideal) ℓ) (g : Dev Cert.FwdAIdeal.nD → PrngReg)
    (m' : (ℓ : Loc Cert.FwdARefIdeal.nD Cert.FwdARefIdeal.τ Cert.FwdARefIdeal.sig) → Buf (Elt Ideal) ℓ) (g' : Dev Cert.FwdARefIdeal.nD → PrngReg), Pre_FwdAIdeal_finite_fwd_a m →
    (∀ c : Dev Cert.FwdAIdeal.nD,
      m' ((c.tc : Thread Cert.FwdARefIdeal.nD Cert.FwdARefIdeal.τ).loc Cert.FwdARefIdeal.main_arg0) = m ((c.tc : Thread Cert.FwdAIdeal.nD Cert.FwdAIdeal.τ).loc Cert.FwdAIdeal.main_arg0)
      ∧ m' ((c.tc : Thread Cert.FwdARefIdeal.nD Cert.FwdARefIdeal.τ).loc Cert.FwdARefIdeal.main_arg1) = m ((c.tc : Thread Cert.FwdAIdeal.nD Cert.FwdAIdeal.τ).loc Cert.FwdAIdeal.main_arg1)
      ∧ m' ((c.tc : Thread Cert.FwdARefIdeal.nD Cert.FwdARefIdeal.τ).loc Cert.FwdARefIdeal.main_arg2) = m ((c.tc : Thread Cert.FwdAIdeal.nD Cert.FwdAIdeal.τ).loc Cert.FwdAIdeal.main_arg2)) →
    ∃ (v0 : (c : Dev Cert.FwdAIdeal.nD) → Buf (Elt Ideal) ((c.tc : Thread Cert.FwdAIdeal.nD Cert.FwdAIdeal.τ).loc Cert.FwdAIdeal.main_v15_0)) (v1 : (c : Dev Cert.FwdAIdeal.nD) → Buf (Elt Ideal) ((c.tc : Thread Cert.FwdAIdeal.nD Cert.FwdAIdeal.τ).loc Cert.FwdAIdeal.main_v15_1)),
      θ_run (Cert.FwdAIdeal.defs (F := Ideal)) (onTc (τ := Cert.FwdAIdeal.τ) (Cert.FwdAIdeal.main (F := Ideal))) ⟨m, fun _ => 0, g⟩ (fun r => ∀ c : Dev Cert.FwdAIdeal.nD,
          r.2.mem ((c.tc : Thread Cert.FwdAIdeal.nD Cert.FwdAIdeal.τ).loc Cert.FwdAIdeal.main_v15_0) = v0 c
          ∧ r.2.mem ((c.tc : Thread Cert.FwdAIdeal.nD Cert.FwdAIdeal.τ).loc Cert.FwdAIdeal.main_v15_1) = v1 c
          ∧ r.2.mem ((c.tc : Thread Cert.FwdAIdeal.nD Cert.FwdAIdeal.τ).loc Cert.FwdAIdeal.main_arg0) = m ((c.tc : Thread Cert.FwdAIdeal.nD Cert.FwdAIdeal.τ).loc Cert.FwdAIdeal.main_arg0)
          ∧ r.2.mem ((c.tc : Thread Cert.FwdAIdeal.nD Cert.FwdAIdeal.τ).loc Cert.FwdAIdeal.main_arg1) = m ((c.tc : Thread Cert.FwdAIdeal.nD Cert.FwdAIdeal.τ).loc Cert.FwdAIdeal.main_arg1)
          ∧ r.2.mem ((c.tc : Thread Cert.FwdAIdeal.nD Cert.FwdAIdeal.τ).loc Cert.FwdAIdeal.main_arg2) = m ((c.tc : Thread Cert.FwdAIdeal.nD Cert.FwdAIdeal.τ).loc Cert.FwdAIdeal.main_arg2))
      ∧ θ_run (Cert.FwdARefIdeal.defs (F := Ideal)) (onTc (τ := Cert.FwdARefIdeal.τ) (Cert.FwdARefIdeal.main (F := Ideal))) ⟨m', fun _ => 0, g'⟩ (fun r => ∀ c : Dev Cert.FwdARefIdeal.nD,
          r.2.mem ((c.tc : Thread Cert.FwdARefIdeal.nD Cert.FwdARefIdeal.τ).loc Cert.FwdARefIdeal.main_v18) = v0 c
          ∧ r.2.mem ((c.tc : Thread Cert.FwdARefIdeal.nD Cert.FwdARefIdeal.τ).loc Cert.FwdARefIdeal.main_v32) = v1 c
          ∧ r.2.mem ((c.tc : Thread Cert.FwdARefIdeal.nD Cert.FwdARefIdeal.τ).loc Cert.FwdARefIdeal.main_arg0) = m' ((c.tc : Thread Cert.FwdARefIdeal.nD Cert.FwdARefIdeal.τ).loc Cert.FwdARefIdeal.main_arg0)
          ∧ r.2.mem ((c.tc : Thread Cert.FwdARefIdeal.nD Cert.FwdARefIdeal.τ).loc Cert.FwdARefIdeal.main_arg1) = m' ((c.tc : Thread Cert.FwdARefIdeal.nD Cert.FwdARefIdeal.τ).loc Cert.FwdARefIdeal.main_arg1)
          ∧ r.2.mem ((c.tc : Thread Cert.FwdARefIdeal.nD Cert.FwdARefIdeal.τ).loc Cert.FwdARefIdeal.main_arg2) = m' ((c.tc : Thread Cert.FwdARefIdeal.nD Cert.FwdARefIdeal.τ).loc Cert.FwdARefIdeal.main_arg2))

def preserves_FwdB_FwdBIdeal : Prop :=
  True

def algebraic_FwdBIdeal_FwdBRefIdeal_pre_finite_fwd_b [hFwdBIdeal : Cert.FwdBIdeal.Facts] [hFwdBRefIdeal : Cert.FwdBRefIdeal.Facts] [hPre_finite_fwd_b : Cert.Pre_finite_fwd_b.Facts] : Prop :=
  ∀ (m : (ℓ : Loc Cert.FwdBIdeal.nD Cert.FwdBIdeal.τ Cert.FwdBIdeal.sig) → Buf (Elt Ideal) ℓ) (g : Dev Cert.FwdBIdeal.nD → PrngReg)
    (m' : (ℓ : Loc Cert.FwdBRefIdeal.nD Cert.FwdBRefIdeal.τ Cert.FwdBRefIdeal.sig) → Buf (Elt Ideal) ℓ) (g' : Dev Cert.FwdBRefIdeal.nD → PrngReg), Pre_FwdBIdeal_finite_fwd_b m →
    (∀ c : Dev Cert.FwdBIdeal.nD,
      m' ((c.tc : Thread Cert.FwdBRefIdeal.nD Cert.FwdBRefIdeal.τ).loc Cert.FwdBRefIdeal.main_arg0) = m ((c.tc : Thread Cert.FwdBIdeal.nD Cert.FwdBIdeal.τ).loc Cert.FwdBIdeal.main_arg0)
      ∧ m' ((c.tc : Thread Cert.FwdBRefIdeal.nD Cert.FwdBRefIdeal.τ).loc Cert.FwdBRefIdeal.main_arg1) = m ((c.tc : Thread Cert.FwdBIdeal.nD Cert.FwdBIdeal.τ).loc Cert.FwdBIdeal.main_arg1)
      ∧ m' ((c.tc : Thread Cert.FwdBRefIdeal.nD Cert.FwdBRefIdeal.τ).loc Cert.FwdBRefIdeal.main_arg2) = m ((c.tc : Thread Cert.FwdBIdeal.nD Cert.FwdBIdeal.τ).loc Cert.FwdBIdeal.main_arg2)) →
    ∃ (v0 : (c : Dev Cert.FwdBIdeal.nD) → Buf (Elt Ideal) ((c.tc : Thread Cert.FwdBIdeal.nD Cert.FwdBIdeal.τ).loc Cert.FwdBIdeal.main_v15_0)) (v1 : (c : Dev Cert.FwdBIdeal.nD) → Buf (Elt Ideal) ((c.tc : Thread Cert.FwdBIdeal.nD Cert.FwdBIdeal.τ).loc Cert.FwdBIdeal.main_v15_1)),
      θ_run (Cert.FwdBIdeal.defs (F := Ideal)) (onTc (τ := Cert.FwdBIdeal.τ) (Cert.FwdBIdeal.main (F := Ideal))) ⟨m, fun _ => 0, g⟩ (fun r => ∀ c : Dev Cert.FwdBIdeal.nD,
          r.2.mem ((c.tc : Thread Cert.FwdBIdeal.nD Cert.FwdBIdeal.τ).loc Cert.FwdBIdeal.main_v15_0) = v0 c
          ∧ r.2.mem ((c.tc : Thread Cert.FwdBIdeal.nD Cert.FwdBIdeal.τ).loc Cert.FwdBIdeal.main_v15_1) = v1 c
          ∧ r.2.mem ((c.tc : Thread Cert.FwdBIdeal.nD Cert.FwdBIdeal.τ).loc Cert.FwdBIdeal.main_arg0) = m ((c.tc : Thread Cert.FwdBIdeal.nD Cert.FwdBIdeal.τ).loc Cert.FwdBIdeal.main_arg0)
          ∧ r.2.mem ((c.tc : Thread Cert.FwdBIdeal.nD Cert.FwdBIdeal.τ).loc Cert.FwdBIdeal.main_arg1) = m ((c.tc : Thread Cert.FwdBIdeal.nD Cert.FwdBIdeal.τ).loc Cert.FwdBIdeal.main_arg1)
          ∧ r.2.mem ((c.tc : Thread Cert.FwdBIdeal.nD Cert.FwdBIdeal.τ).loc Cert.FwdBIdeal.main_arg2) = m ((c.tc : Thread Cert.FwdBIdeal.nD Cert.FwdBIdeal.τ).loc Cert.FwdBIdeal.main_arg2))
      ∧ θ_run (Cert.FwdBRefIdeal.defs (F := Ideal)) (onTc (τ := Cert.FwdBRefIdeal.τ) (Cert.FwdBRefIdeal.main (F := Ideal))) ⟨m', fun _ => 0, g'⟩ (fun r => ∀ c : Dev Cert.FwdBRefIdeal.nD,
          r.2.mem ((c.tc : Thread Cert.FwdBRefIdeal.nD Cert.FwdBRefIdeal.τ).loc Cert.FwdBRefIdeal.main_v18) = v0 c
          ∧ r.2.mem ((c.tc : Thread Cert.FwdBRefIdeal.nD Cert.FwdBRefIdeal.τ).loc Cert.FwdBRefIdeal.main_v32) = v1 c
          ∧ r.2.mem ((c.tc : Thread Cert.FwdBRefIdeal.nD Cert.FwdBRefIdeal.τ).loc Cert.FwdBRefIdeal.main_arg0) = m' ((c.tc : Thread Cert.FwdBRefIdeal.nD Cert.FwdBRefIdeal.τ).loc Cert.FwdBRefIdeal.main_arg0)
          ∧ r.2.mem ((c.tc : Thread Cert.FwdBRefIdeal.nD Cert.FwdBRefIdeal.τ).loc Cert.FwdBRefIdeal.main_arg1) = m' ((c.tc : Thread Cert.FwdBRefIdeal.nD Cert.FwdBRefIdeal.τ).loc Cert.FwdBRefIdeal.main_arg1)
          ∧ r.2.mem ((c.tc : Thread Cert.FwdBRefIdeal.nD Cert.FwdBRefIdeal.τ).loc Cert.FwdBRefIdeal.main_arg2) = m' ((c.tc : Thread Cert.FwdBRefIdeal.nD Cert.FwdBRefIdeal.τ).loc Cert.FwdBRefIdeal.main_arg2))

def preserves_FwdMlp_FwdMlpIdeal : Prop :=
  True

def algebraic_FwdMlpIdeal_FwdMlpRefIdeal_pre_finite_fwd_mlp [hFwdMlpIdeal : Cert.FwdMlpIdeal.Facts] [hFwdMlpRefIdeal : Cert.FwdMlpRefIdeal.Facts] [hPre_finite_fwd_mlp : Cert.Pre_finite_fwd_mlp.Facts] : Prop :=
  ∀ (m : (ℓ : Loc Cert.FwdMlpIdeal.nD Cert.FwdMlpIdeal.τ Cert.FwdMlpIdeal.sig) → Buf (Elt Ideal) ℓ) (g : Dev Cert.FwdMlpIdeal.nD → PrngReg)
    (m' : (ℓ : Loc Cert.FwdMlpRefIdeal.nD Cert.FwdMlpRefIdeal.τ Cert.FwdMlpRefIdeal.sig) → Buf (Elt Ideal) ℓ) (g' : Dev Cert.FwdMlpRefIdeal.nD → PrngReg), Pre_FwdMlpIdeal_finite_fwd_mlp m →
    (∀ c : Dev Cert.FwdMlpIdeal.nD,
      m' ((c.tc : Thread Cert.FwdMlpRefIdeal.nD Cert.FwdMlpRefIdeal.τ).loc Cert.FwdMlpRefIdeal.main_arg0) = m ((c.tc : Thread Cert.FwdMlpIdeal.nD Cert.FwdMlpIdeal.τ).loc Cert.FwdMlpIdeal.main_arg0)
      ∧ m' ((c.tc : Thread Cert.FwdMlpRefIdeal.nD Cert.FwdMlpRefIdeal.τ).loc Cert.FwdMlpRefIdeal.main_arg1) = m ((c.tc : Thread Cert.FwdMlpIdeal.nD Cert.FwdMlpIdeal.τ).loc Cert.FwdMlpIdeal.main_arg1)
      ∧ m' ((c.tc : Thread Cert.FwdMlpRefIdeal.nD Cert.FwdMlpRefIdeal.τ).loc Cert.FwdMlpRefIdeal.main_arg2) = m ((c.tc : Thread Cert.FwdMlpIdeal.nD Cert.FwdMlpIdeal.τ).loc Cert.FwdMlpIdeal.main_arg2)
      ∧ m' ((c.tc : Thread Cert.FwdMlpRefIdeal.nD Cert.FwdMlpRefIdeal.τ).loc Cert.FwdMlpRefIdeal.main_arg3) = m ((c.tc : Thread Cert.FwdMlpIdeal.nD Cert.FwdMlpIdeal.τ).loc Cert.FwdMlpIdeal.main_arg3)) →
    ∃ (v0 : (c : Dev Cert.FwdMlpIdeal.nD) → Buf (Elt Ideal) ((c.tc : Thread Cert.FwdMlpIdeal.nD Cert.FwdMlpIdeal.τ).loc Cert.FwdMlpIdeal.main_v9_0)) (v1 : (c : Dev Cert.FwdMlpIdeal.nD) → Buf (Elt Ideal) ((c.tc : Thread Cert.FwdMlpIdeal.nD Cert.FwdMlpIdeal.τ).loc Cert.FwdMlpIdeal.main_v9_1)),
      θ_run (Cert.FwdMlpIdeal.defs (F := Ideal)) (onTc (τ := Cert.FwdMlpIdeal.τ) (Cert.FwdMlpIdeal.main (F := Ideal))) ⟨m, fun _ => 0, g⟩ (fun r => ∀ c : Dev Cert.FwdMlpIdeal.nD,
          r.2.mem ((c.tc : Thread Cert.FwdMlpIdeal.nD Cert.FwdMlpIdeal.τ).loc Cert.FwdMlpIdeal.main_v9_0) = v0 c
          ∧ r.2.mem ((c.tc : Thread Cert.FwdMlpIdeal.nD Cert.FwdMlpIdeal.τ).loc Cert.FwdMlpIdeal.main_v9_1) = v1 c
          ∧ r.2.mem ((c.tc : Thread Cert.FwdMlpIdeal.nD Cert.FwdMlpIdeal.τ).loc Cert.FwdMlpIdeal.main_arg0) = m ((c.tc : Thread Cert.FwdMlpIdeal.nD Cert.FwdMlpIdeal.τ).loc Cert.FwdMlpIdeal.main_arg0)
          ∧ r.2.mem ((c.tc : Thread Cert.FwdMlpIdeal.nD Cert.FwdMlpIdeal.τ).loc Cert.FwdMlpIdeal.main_arg1) = m ((c.tc : Thread Cert.FwdMlpIdeal.nD Cert.FwdMlpIdeal.τ).loc Cert.FwdMlpIdeal.main_arg1)
          ∧ r.2.mem ((c.tc : Thread Cert.FwdMlpIdeal.nD Cert.FwdMlpIdeal.τ).loc Cert.FwdMlpIdeal.main_arg2) = m ((c.tc : Thread Cert.FwdMlpIdeal.nD Cert.FwdMlpIdeal.τ).loc Cert.FwdMlpIdeal.main_arg2)
          ∧ r.2.mem ((c.tc : Thread Cert.FwdMlpIdeal.nD Cert.FwdMlpIdeal.τ).loc Cert.FwdMlpIdeal.main_arg3) = m ((c.tc : Thread Cert.FwdMlpIdeal.nD Cert.FwdMlpIdeal.τ).loc Cert.FwdMlpIdeal.main_arg3))
      ∧ θ_run (Cert.FwdMlpRefIdeal.defs (F := Ideal)) (onTc (τ := Cert.FwdMlpRefIdeal.τ) (Cert.FwdMlpRefIdeal.main (F := Ideal))) ⟨m', fun _ => 0, g'⟩ (fun r => ∀ c : Dev Cert.FwdMlpRefIdeal.nD,
          r.2.mem ((c.tc : Thread Cert.FwdMlpRefIdeal.nD Cert.FwdMlpRefIdeal.τ).loc Cert.FwdMlpRefIdeal.main_v21) = v0 c
          ∧ r.2.mem ((c.tc : Thread Cert.FwdMlpRefIdeal.nD Cert.FwdMlpRefIdeal.τ).loc Cert.FwdMlpRefIdeal.main_v23) = v1 c
          ∧ r.2.mem ((c.tc : Thread Cert.FwdMlpRefIdeal.nD Cert.FwdMlpRefIdeal.τ).loc Cert.FwdMlpRefIdeal.main_arg0) = m' ((c.tc : Thread Cert.FwdMlpRefIdeal.nD Cert.FwdMlpRefIdeal.τ).loc Cert.FwdMlpRefIdeal.main_arg0)
          ∧ r.2.mem ((c.tc : Thread Cert.FwdMlpRefIdeal.nD Cert.FwdMlpRefIdeal.τ).loc Cert.FwdMlpRefIdeal.main_arg1) = m' ((c.tc : Thread Cert.FwdMlpRefIdeal.nD Cert.FwdMlpRefIdeal.τ).loc Cert.FwdMlpRefIdeal.main_arg1)
          ∧ r.2.mem ((c.tc : Thread Cert.FwdMlpRefIdeal.nD Cert.FwdMlpRefIdeal.τ).loc Cert.FwdMlpRefIdeal.main_arg2) = m' ((c.tc : Thread Cert.FwdMlpRefIdeal.nD Cert.FwdMlpRefIdeal.τ).loc Cert.FwdMlpRefIdeal.main_arg2)
          ∧ r.2.mem ((c.tc : Thread Cert.FwdMlpRefIdeal.nD Cert.FwdMlpRefIdeal.τ).loc Cert.FwdMlpRefIdeal.main_arg3) = m' ((c.tc : Thread Cert.FwdMlpRefIdeal.nD Cert.FwdMlpRefIdeal.τ).loc Cert.FwdMlpRefIdeal.main_arg3))

def Claim : Prop :=
  ∃ (hPle : Cert.Ple.Facts) (hPleIdeal : Cert.PleIdeal.Facts) (hPleRefIdeal : Cert.PleRefIdeal.Facts) (hAttnB : Cert.AttnB.Facts) (hAttnBIdeal : Cert.AttnBIdeal.Facts) (hAttnBRefIdeal : Cert.AttnBRefIdeal.Facts) (hAttnA : Cert.AttnA.Facts) (hAttnAIdeal : Cert.AttnAIdeal.Facts) (hAttnARefIdeal : Cert.AttnARefIdeal.Facts) (hIn : Cert.In.Facts) (hInIdeal : Cert.InIdeal.Facts) (hInRefIdeal : Cert.InRefIdeal.Facts) (hMlp : Cert.Mlp.Facts) (hMlpIdeal : Cert.MlpIdeal.Facts) (hMlpRefIdeal : Cert.MlpRefIdeal.Facts) (hMerge : Cert.Merge.Facts) (hMergeIdeal : Cert.MergeIdeal.Facts) (hMergeRefIdeal : Cert.MergeRefIdeal.Facts) (hFwdA : Cert.FwdA.Facts) (hFwdAIdeal : Cert.FwdAIdeal.Facts) (hFwdARefIdeal : Cert.FwdARefIdeal.Facts) (hFwdB : Cert.FwdB.Facts) (hFwdBIdeal : Cert.FwdBIdeal.Facts) (hFwdBRefIdeal : Cert.FwdBRefIdeal.Facts) (hFwdMlp : Cert.FwdMlp.Facts) (hFwdMlpIdeal : Cert.FwdMlpIdeal.Facts) (hFwdMlpRefIdeal : Cert.FwdMlpRefIdeal.Facts) (hPre_finite_ple : Cert.Pre_finite_ple.Facts) (hPre_finite_attn_b : Cert.Pre_finite_attn_b.Facts) (hPre_finite_attn_a : Cert.Pre_finite_attn_a.Facts) (hPre_finite_in : Cert.Pre_finite_in.Facts) (hPre_finite_mlp : Cert.Pre_finite_mlp.Facts) (hPre_finite_merge : Cert.Pre_finite_merge.Facts) (hPre_finite_fwd_a : Cert.Pre_finite_fwd_a.Facts) (hPre_finite_fwd_b : Cert.Pre_finite_fwd_b.Facts) (hPre_finite_fwd_mlp : Cert.Pre_finite_fwd_mlp.Facts) (hOn_written_merge : Cert.On_written_merge.Facts),
    quiescent_Ple (hPle := hPle)
    ∧ quiescent_PleIdeal (hPleIdeal := hPleIdeal)
    ∧ quiescent_PleIdeal_pre_finite_ple (hPleIdeal := hPleIdeal) (hPre_finite_ple := hPre_finite_ple)
    ∧ quiescent_PleRefIdeal (hPleRefIdeal := hPleRefIdeal)
    ∧ quiescent_PleRefIdeal_pre_finite_ple (hPleRefIdeal := hPleRefIdeal) (hPre_finite_ple := hPre_finite_ple)
    ∧ quiescent_AttnB (hAttnB := hAttnB)
    ∧ quiescent_AttnBIdeal (hAttnBIdeal := hAttnBIdeal)
    ∧ quiescent_AttnBIdeal_pre_finite_attn_b (hAttnBIdeal := hAttnBIdeal) (hPre_finite_attn_b := hPre_finite_attn_b)
    ∧ quiescent_AttnBRefIdeal (hAttnBRefIdeal := hAttnBRefIdeal)
    ∧ quiescent_AttnBRefIdeal_pre_finite_attn_b (hAttnBRefIdeal := hAttnBRefIdeal) (hPre_finite_attn_b := hPre_finite_attn_b)
    ∧ quiescent_AttnA (hAttnA := hAttnA)
    ∧ quiescent_AttnAIdeal (hAttnAIdeal := hAttnAIdeal)
    ∧ quiescent_AttnAIdeal_pre_finite_attn_a (hAttnAIdeal := hAttnAIdeal) (hPre_finite_attn_a := hPre_finite_attn_a)
    ∧ quiescent_AttnARefIdeal (hAttnARefIdeal := hAttnARefIdeal)
    ∧ quiescent_AttnARefIdeal_pre_finite_attn_a (hAttnARefIdeal := hAttnARefIdeal) (hPre_finite_attn_a := hPre_finite_attn_a)
    ∧ quiescent_In (hIn := hIn)
    ∧ quiescent_InIdeal (hInIdeal := hInIdeal)
    ∧ quiescent_InIdeal_pre_finite_in (hInIdeal := hInIdeal) (hPre_finite_in := hPre_finite_in)
    ∧ quiescent_InRefIdeal (hInRefIdeal := hInRefIdeal)
    ∧ quiescent_InRefIdeal_pre_finite_in (hInRefIdeal := hInRefIdeal) (hPre_finite_in := hPre_finite_in)
    ∧ quiescent_Mlp (hMlp := hMlp)
    ∧ quiescent_MlpIdeal (hMlpIdeal := hMlpIdeal)
    ∧ quiescent_MlpIdeal_pre_finite_mlp (hMlpIdeal := hMlpIdeal) (hPre_finite_mlp := hPre_finite_mlp)
    ∧ quiescent_MlpRefIdeal (hMlpRefIdeal := hMlpRefIdeal)
    ∧ quiescent_MlpRefIdeal_pre_finite_mlp (hMlpRefIdeal := hMlpRefIdeal) (hPre_finite_mlp := hPre_finite_mlp)
    ∧ quiescent_Merge (hMerge := hMerge)
    ∧ quiescent_MergeIdeal (hMergeIdeal := hMergeIdeal)
    ∧ quiescent_MergeIdeal_pre_finite_merge (hMergeIdeal := hMergeIdeal) (hPre_finite_merge := hPre_finite_merge)
    ∧ quiescent_MergeRefIdeal (hMergeRefIdeal := hMergeRefIdeal)
    ∧ quiescent_MergeRefIdeal_pre_finite_merge (hMergeRefIdeal := hMergeRefIdeal) (hPre_finite_merge := hPre_finite_merge)
    ∧ quiescent_FwdA (hFwdA := hFwdA)
    ∧ quiescent_FwdAIdeal (hFwdAIdeal := hFwdAIdeal)
    ∧ quiescent_FwdAIdeal_pre_finite_fwd_a (hFwdAIdeal := hFwdAIdeal) (hPre_finite_fwd_a := hPre_finite_fwd_a)
    ∧ quiescent_FwdARefIdeal (hFwdARefIdeal := hFwdARefIdeal)
    ∧ quiescent_FwdARefIdeal_pre_finite_fwd_a (hFwdARefIdeal := hFwdARefIdeal) (hPre_finite_fwd_a := hPre_finite_fwd_a)
    ∧ quiescent_FwdB (hFwdB := hFwdB)
    ∧ quiescent_FwdBIdeal (hFwdBIdeal := hFwdBIdeal)
    ∧ quiescent_FwdBIdeal_pre_finite_fwd_b (hFwdBIdeal := hFwdBIdeal) (hPre_finite_fwd_b := hPre_finite_fwd_b)
    ∧ quiescent_FwdBRefIdeal (hFwdBRefIdeal := hFwdBRefIdeal)
    ∧ quiescent_FwdBRefIdeal_pre_finite_fwd_b (hFwdBRefIdeal := hFwdBRefIdeal) (hPre_finite_fwd_b := hPre_finite_fwd_b)
    ∧ quiescent_FwdMlp (hFwdMlp := hFwdMlp)
    ∧ quiescent_FwdMlpIdeal (hFwdMlpIdeal := hFwdMlpIdeal)
    ∧ quiescent_FwdMlpIdeal_pre_finite_fwd_mlp (hFwdMlpIdeal := hFwdMlpIdeal) (hPre_finite_fwd_mlp := hPre_finite_fwd_mlp)
    ∧ quiescent_FwdMlpRefIdeal (hFwdMlpRefIdeal := hFwdMlpRefIdeal)
    ∧ quiescent_FwdMlpRefIdeal_pre_finite_fwd_mlp (hFwdMlpRefIdeal := hFwdMlpRefIdeal) (hPre_finite_fwd_mlp := hPre_finite_fwd_mlp)
    ∧ preserves_Ple_PleIdeal
    ∧ algebraic_PleIdeal_PleRefIdeal_pre_finite_ple (hPleIdeal := hPleIdeal) (hPleRefIdeal := hPleRefIdeal) (hPre_finite_ple := hPre_finite_ple)
    ∧ preserves_AttnB_AttnBIdeal
    ∧ algebraic_AttnBIdeal_AttnBRefIdeal_pre_finite_attn_b (hAttnBIdeal := hAttnBIdeal) (hAttnBRefIdeal := hAttnBRefIdeal) (hPre_finite_attn_b := hPre_finite_attn_b)
    ∧ preserves_AttnA_AttnAIdeal
    ∧ algebraic_AttnAIdeal_AttnARefIdeal_pre_finite_attn_a (hAttnAIdeal := hAttnAIdeal) (hAttnARefIdeal := hAttnARefIdeal) (hPre_finite_attn_a := hPre_finite_attn_a)
    ∧ preserves_In_InIdeal
    ∧ algebraic_InIdeal_InRefIdeal_pre_finite_in (hInIdeal := hInIdeal) (hInRefIdeal := hInRefIdeal) (hPre_finite_in := hPre_finite_in)
    ∧ preserves_Mlp_MlpIdeal
    ∧ algebraic_MlpIdeal_MlpRefIdeal_pre_finite_mlp (hMlpIdeal := hMlpIdeal) (hMlpRefIdeal := hMlpRefIdeal) (hPre_finite_mlp := hPre_finite_mlp)
    ∧ preserves_Merge_MergeIdeal
    ∧ algebraic_MergeIdeal_MergeRefIdeal_on_written_merge_pre_finite_merge (hMergeIdeal := hMergeIdeal) (hMergeRefIdeal := hMergeRefIdeal) (hPre_finite_merge := hPre_finite_merge) (hOn_written_merge := hOn_written_merge)
    ∧ preserves_FwdA_FwdAIdeal
    ∧ algebraic_FwdAIdeal_FwdARefIdeal_pre_finite_fwd_a (hFwdAIdeal := hFwdAIdeal) (hFwdARefIdeal := hFwdARefIdeal) (hPre_finite_fwd_a := hPre_finite_fwd_a)
    ∧ preserves_FwdB_FwdBIdeal
    ∧ algebraic_FwdBIdeal_FwdBRefIdeal_pre_finite_fwd_b (hFwdBIdeal := hFwdBIdeal) (hFwdBRefIdeal := hFwdBRefIdeal) (hPre_finite_fwd_b := hPre_finite_fwd_b)
    ∧ preserves_FwdMlp_FwdMlpIdeal
    ∧ algebraic_FwdMlpIdeal_FwdMlpRefIdeal_pre_finite_fwd_mlp (hFwdMlpIdeal := hFwdMlpIdeal) (hFwdMlpRefIdeal := hFwdMlpRefIdeal) (hPre_finite_fwd_mlp := hPre_finite_fwd_mlp)
-- ==== On_written_merge.lean ====
abbrev S2x2048x512 : Shape := ⟨3, ![2, 2048, 512]⟩
abbrev S2x2048x1024 : Shape := ⟨3, ![2, 2048, 1024]⟩
abbrev S1x1024x1024 : Shape := ⟨3, ![1, 1024, 1024]⟩
abbrev S1x512x1024 : Shape := ⟨3, ![1, 512, 1024]⟩
abbrev S1x256x1024 : Shape := ⟨3, ![1, 256, 1024]⟩
abbrev S_ : Shape := ⟨0, ![]⟩
abbrev S4096x1024 : Shape := ⟨2, ![4096, 1024]⟩
abbrev S4096x4096 : Shape := ⟨2, ![4096, 4096]⟩

class Facts : Prop where
  bcast_S_S4096x1024 : S_.BroadcastsInDim S4096x1024 (![] : Fin 0 → Fin S4096x1024.rank)
  bcast_S_S4096x4096 : S_.BroadcastsInDim S4096x4096 (![] : Fin 0 → Fin S4096x4096.rank)

variable [Facts]

def fn {F : FTy → Type} [FloatOps F] (main_arg0 : FVec F S2x2048x512 .f32) (main_arg1 : FVec F S2x2048x512 .f32) (main_arg2 : FVec F S2x2048x1024 .f32) (main_arg3 : FVec F S2x2048x1024 .f32) (main_arg4 : FVec F S2x2048x1024 .f32) (main_arg5 : FVec F S1x1024x1024 .f32) (main_arg6 : FVec F S1x1024x1024 .f32) (main_arg7 : FVec F S1x512x1024 .f32) (main_arg8 : FVec F S1x512x1024 .f32) (main_arg9 : FVec F S1x256x1024 .f32) : IVec S4096x1024 1 × IVec S4096x1024 1 × IVec S4096x4096 1 × IVec S4096x1024 1 × IVec S4096x1024 1 :=
  let main_c : IVec S_ 1 := constantI S_ 1 1#1
  let main_v0 : IVec S4096x1024 1 := broadcastInDim S4096x1024 ![] bcast_S_S4096x1024 main_c
  let main_v1 : IVec S4096x4096 32 := iotaInDim S4096x4096 32 1
  let main_c_0 : IVec S_ 32 := constantI S_ 32 2048#32
  let main_v2 : IVec S4096x4096 32 := broadcastInDim S4096x4096 ![] bcast_S_S4096x4096 main_c_0
  let main_v3 : IVec S4096x4096 1 := cmpi .slt main_v1 main_v2
  (main_v0, main_v0, main_v3, main_v0, main_v0)
-- ==== Pre_finite_attn_a.lean ====
abbrev S2x2048x8x1x96 : Shape := ⟨5, ![2, 2048, 8, 1, 96]⟩
abbrev S2x2048x8x96 : Shape := ⟨4, ![2, 2048, 8, 96]⟩
abbrev S2x2048x8x64 : Shape := ⟨4, ![2, 2048, 8, 64]⟩
abbrev S2x2048x8x1x64 : Shape := ⟨5, ![2, 2048, 8, 1, 64]⟩
abbrev S_ : Shape := ⟨0, ![]⟩

class Facts : Prop where
  bcast_S_S2x2048x8x1x96 : S_.BroadcastsInDim S2x2048x8x1x96 (![] : Fin 0 → Fin S2x2048x8x1x96.rank)
  reducesTo_S2x2048x8x1x96_S_d0_1_2_3_4 : S2x2048x8x1x96.ReducesTo [0, 1, 2, 3, 4] S_
  h_S_ : 0 < S_.numel
  bcast_S_S2x2048x8x96 : S_.BroadcastsInDim S2x2048x8x96 (![] : Fin 0 → Fin S2x2048x8x96.rank)
  reducesTo_S2x2048x8x96_S_d0_1_2_3 : S2x2048x8x96.ReducesTo [0, 1, 2, 3] S_
  bcast_S_S2x2048x8x64 : S_.BroadcastsInDim S2x2048x8x64 (![] : Fin 0 → Fin S2x2048x8x64.rank)
  reducesTo_S2x2048x8x64_S_d0_1_2_3 : S2x2048x8x64.ReducesTo [0, 1, 2, 3] S_
  bcast_S_S2x2048x8x1x64 : S_.BroadcastsInDim S2x2048x8x1x64 (![] : Fin 0 → Fin S2x2048x8x1x64.rank)
  reducesTo_S2x2048x8x1x64_S_d0_1_2_3_4 : S2x2048x8x1x64.ReducesTo [0, 1, 2, 3, 4] S_

variable [Facts]

def fn_part1 {F : FTy → Type} [FloatOps F] (main_v14 : IVec S_ 1) (main_v15 : FVec F S2x2048x8x1x64 .f32) (main_cst_5 : FVec F S_ .f32) : IVec S_ 1 :=
  let main_v16 : FVec F S2x2048x8x1x64 .f32 := broadcastInDim S2x2048x8x1x64 ![] bcast_S_S2x2048x8x1x64 main_cst_5
  let main_v17 : IVec S2x2048x8x1x64 1 := cmpf .olt main_v15 main_v16
  let main_c_6 : IVec S_ 1 := constantI S_ 1 1#1
  let main_v18 : IVec S_ 1 := (fun x v => Host.reduce IntOp.andi x v reducesTo_S2x2048x8x1x64_S_d0_1_2_3_4 h_S_) main_v17 main_c_6
  let main_v19 : IVec S_ 1 := andi main_v14 main_v18
  main_v19

def fn {F : FTy → Type} [FloatOps F] (main_arg0 : FVec F S2x2048x8x1x96 .f32) (main_arg1 : FVec F S2x2048x8x96 .f32) (main_arg2 : FVec F S2x2048x8x64 .f32) (main_arg3 : FVec F S2x2048x8x1x64 .f32) : IVec S_ 1 :=
  let main_v0 : FVec F S2x2048x8x1x96 .f32 := Host.absf main_arg0
  let main_cst : FVec F S_ .f32 := constant S_ .f32 0x7F800000#32
  let main_v1 : FVec F S2x2048x8x1x96 .f32 := broadcastInDim S2x2048x8x1x96 ![] bcast_S_S2x2048x8x1x96 main_cst
  let main_v2 : IVec S2x2048x8x1x96 1 := cmpf .olt main_v0 main_v1
  let main_c : IVec S_ 1 := constantI S_ 1 1#1
  let main_v3 : IVec S_ 1 := (fun x v => Host.reduce IntOp.andi x v reducesTo_S2x2048x8x1x96_S_d0_1_2_3_4 h_S_) main_v2 main_c
  let main_c_0 : IVec S_ 1 := constantI S_ 1 1#1
  let main_v4 : IVec S_ 1 := andi main_c_0 main_v3
  let main_v5 : FVec F S2x2048x8x96 .f32 := Host.absf main_arg1
  let main_cst_1 : FVec F S_ .f32 := constant S_ .f32 0x7F800000#32
  let main_v6 : FVec F S2x2048x8x96 .f32 := broadcastInDim S2x2048x8x96 ![] bcast_S_S2x2048x8x96 main_cst_1
  let main_v7 : IVec S2x2048x8x96 1 := cmpf .olt main_v5 main_v6
  let main_c_2 : IVec S_ 1 := constantI S_ 1 1#1
  let main_v8 : IVec S_ 1 := (fun x v => Host.reduce IntOp.andi x v reducesTo_S2x2048x8x96_S_d0_1_2_3 h_S_) main_v7 main_c_2
  let main_v9 : IVec S_ 1 := andi main_v4 main_v8
  let main_v10 : FVec F S2x2048x8x64 .f32 := Host.absf main_arg2
  let main_cst_3 : FVec F S_ .f32 := constant S_ .f32 0x7F800000#32
  let main_v11 : FVec F S2x2048x8x64 .f32 := broadcastInDim S2x2048x8x64 ![] bcast_S_S2x2048x8x64 main_cst_3
  let main_v12 : IVec S2x2048x8x64 1 := cmpf .olt main_v10 main_v11
  let main_c_4 : IVec S_ 1 := constantI S_ 1 1#1
  let main_v13 : IVec S_ 1 := (fun x v => Host.reduce IntOp.andi x v reducesTo_S2x2048x8x64_S_d0_1_2_3 h_S_) main_v12 main_c_4
  let main_v14 : IVec S_ 1 := andi main_v9 main_v13
  let main_v15 : FVec F S2x2048x8x1x64 .f32 := Host.absf main_arg3
  let main_cst_5 : FVec F S_ .f32 := constant S_ .f32 0x7F800000#32
  fn_part1 (F := F) main_v14 main_v15 main_cst_5
-- ==== Pre_finite_attn_b.lean ====
abbrev S2x2048x2x4x64 : Shape := ⟨5, ![2, 2048, 2, 4, 64]⟩
abbrev S2x2048x2x64 : Shape := ⟨4, ![2, 2048, 2, 64]⟩
abbrev S_ : Shape := ⟨0, ![]⟩

class Facts : Prop where
  bcast_S_S2x2048x2x4x64 : S_.BroadcastsInDim S2x2048x2x4x64 (![] : Fin 0 → Fin S2x2048x2x4x64.rank)
  reducesTo_S2x2048x2x4x64_S_d0_1_2_3_4 : S2x2048x2x4x64.ReducesTo [0, 1, 2, 3, 4] S_
  h_S_ : 0 < S_.numel
  bcast_S_S2x2048x2x64 : S_.BroadcastsInDim S2x2048x2x64 (![] : Fin 0 → Fin S2x2048x2x64.rank)
  reducesTo_S2x2048x2x64_S_d0_1_2_3 : S2x2048x2x64.ReducesTo [0, 1, 2, 3] S_

variable [Facts]

def fn_part1 {F : FTy → Type} [FloatOps F] (main_v14 : IVec S_ 1) (main_v15 : FVec F S2x2048x2x4x64 .f32) (main_cst_5 : FVec F S_ .f32) : IVec S_ 1 :=
  let main_v16 : FVec F S2x2048x2x4x64 .f32 := broadcastInDim S2x2048x2x4x64 ![] bcast_S_S2x2048x2x4x64 main_cst_5
  let main_v17 : IVec S2x2048x2x4x64 1 := cmpf .olt main_v15 main_v16
  let main_c_6 : IVec S_ 1 := constantI S_ 1 1#1
  let main_v18 : IVec S_ 1 := (fun x v => Host.reduce IntOp.andi x v reducesTo_S2x2048x2x4x64_S_d0_1_2_3_4 h_S_) main_v17 main_c_6
  let main_v19 : IVec S_ 1 := andi main_v14 main_v18
  main_v19

def fn {F : FTy → Type} [FloatOps F] (main_arg0 : FVec F S2x2048x2x4x64 .f32) (main_arg1 : FVec F S2x2048x2x64 .f32) (main_arg2 : FVec F S2x2048x2x64 .f32) (main_arg3 : FVec F S2x2048x2x4x64 .f32) : IVec S_ 1 :=
  let main_v0 : FVec F S2x2048x2x4x64 .f32 := Host.absf main_arg0
  let main_cst : FVec F S_ .f32 := constant S_ .f32 0x7F800000#32
  let main_v1 : FVec F S2x2048x2x4x64 .f32 := broadcastInDim S2x2048x2x4x64 ![] bcast_S_S2x2048x2x4x64 main_cst
  let main_v2 : IVec S2x2048x2x4x64 1 := cmpf .olt main_v0 main_v1
  let main_c : IVec S_ 1 := constantI S_ 1 1#1
  let main_v3 : IVec S_ 1 := (fun x v => Host.reduce IntOp.andi x v reducesTo_S2x2048x2x4x64_S_d0_1_2_3_4 h_S_) main_v2 main_c
  let main_c_0 : IVec S_ 1 := constantI S_ 1 1#1
  let main_v4 : IVec S_ 1 := andi main_c_0 main_v3
  let main_v5 : FVec F S2x2048x2x64 .f32 := Host.absf main_arg1
  let main_cst_1 : FVec F S_ .f32 := constant S_ .f32 0x7F800000#32
  let main_v6 : FVec F S2x2048x2x64 .f32 := broadcastInDim S2x2048x2x64 ![] bcast_S_S2x2048x2x64 main_cst_1
  let main_v7 : IVec S2x2048x2x64 1 := cmpf .olt main_v5 main_v6
  let main_c_2 : IVec S_ 1 := constantI S_ 1 1#1
  let main_v8 : IVec S_ 1 := (fun x v => Host.reduce IntOp.andi x v reducesTo_S2x2048x2x64_S_d0_1_2_3 h_S_) main_v7 main_c_2
  let main_v9 : IVec S_ 1 := andi main_v4 main_v8
  let main_v10 : FVec F S2x2048x2x64 .f32 := Host.absf main_arg2
  let main_cst_3 : FVec F S_ .f32 := constant S_ .f32 0x7F800000#32
  let main_v11 : FVec F S2x2048x2x64 .f32 := broadcastInDim S2x2048x2x64 ![] bcast_S_S2x2048x2x64 main_cst_3
  let main_v12 : IVec S2x2048x2x64 1 := cmpf .olt main_v10 main_v11
  let main_c_4 : IVec S_ 1 := constantI S_ 1 1#1
  let main_v13 : IVec S_ 1 := (fun x v => Host.reduce IntOp.andi x v reducesTo_S2x2048x2x64_S_d0_1_2_3 h_S_) main_v12 main_c_4
  let main_v14 : IVec S_ 1 := andi main_v9 main_v13
  let main_v15 : FVec F S2x2048x2x4x64 .f32 := Host.absf main_arg3
  let main_cst_5 : FVec F S_ .f32 := constant S_ .f32 0x7F800000#32
  fn_part1 (F := F) main_v14 main_v15 main_cst_5
-- ==== Pre_finite_fwd_a.lean ====
abbrev S2x2048x8x1x96 : Shape := ⟨5, ![2, 2048, 8, 1, 96]⟩
abbrev S2x2048x8x96 : Shape := ⟨4, ![2, 2048, 8, 96]⟩
abbrev S2x2048x8x64 : Shape := ⟨4, ![2, 2048, 8, 64]⟩
abbrev S_ : Shape := ⟨0, ![]⟩

class Facts : Prop where
  bcast_S_S2x2048x8x1x96 : S_.BroadcastsInDim S2x2048x8x1x96 (![] : Fin 0 → Fin S2x2048x8x1x96.rank)
  reducesTo_S2x2048x8x1x96_S_d0_1_2_3_4 : S2x2048x8x1x96.ReducesTo [0, 1, 2, 3, 4] S_
  h_S_ : 0 < S_.numel
  bcast_S_S2x2048x8x96 : S_.BroadcastsInDim S2x2048x8x96 (![] : Fin 0 → Fin S2x2048x8x96.rank)
  reducesTo_S2x2048x8x96_S_d0_1_2_3 : S2x2048x8x96.ReducesTo [0, 1, 2, 3] S_
  bcast_S_S2x2048x8x64 : S_.BroadcastsInDim S2x2048x8x64 (![] : Fin 0 → Fin S2x2048x8x64.rank)
  reducesTo_S2x2048x8x64_S_d0_1_2_3 : S2x2048x8x64.ReducesTo [0, 1, 2, 3] S_

variable [Facts]

def fn {F : FTy → Type} [FloatOps F] (main_arg0 : FVec F S2x2048x8x1x96 .f32) (main_arg1 : FVec F S2x2048x8x96 .f32) (main_arg2 : FVec F S2x2048x8x64 .f32) : IVec S_ 1 :=
  let main_v0 : FVec F S2x2048x8x1x96 .f32 := Host.absf main_arg0
  let main_cst : FVec F S_ .f32 := constant S_ .f32 0x7F800000#32
  let main_v1 : FVec F S2x2048x8x1x96 .f32 := broadcastInDim S2x2048x8x1x96 ![] bcast_S_S2x2048x8x1x96 main_cst
  let main_v2 : IVec S2x2048x8x1x96 1 := cmpf .olt main_v0 main_v1
  let main_c : IVec S_ 1 := constantI S_ 1 1#1
  let main_v3 : IVec S_ 1 := (fun x v => Host.reduce IntOp.andi x v reducesTo_S2x2048x8x1x96_S_d0_1_2_3_4 h_S_) main_v2 main_c
  let main_c_0 : IVec S_ 1 := constantI S_ 1 1#1
  let main_v4 : IVec S_ 1 := andi main_c_0 main_v3
  let main_v5 : FVec F S2x2048x8x96 .f32 := Host.absf main_arg1
  let main_cst_1 : FVec F S_ .f32 := constant S_ .f32 0x7F800000#32
  let main_v6 : FVec F S2x2048x8x96 .f32 := broadcastInDim S2x2048x8x96 ![] bcast_S_S2x2048x8x96 main_cst_1
  let main_v7 : IVec S2x2048x8x96 1 := cmpf .olt main_v5 main_v6
  let main_c_2 : IVec S_ 1 := constantI S_ 1 1#1
  let main_v8 : IVec S_ 1 := (fun x v => Host.reduce IntOp.andi x v reducesTo_S2x2048x8x96_S_d0_1_2_3 h_S_) main_v7 main_c_2
  let main_v9 : IVec S_ 1 := andi main_v4 main_v8
  let main_v10 : FVec F S2x2048x8x64 .f32 := Host.absf main_arg2
  let main_cst_3 : FVec F S_ .f32 := constant S_ .f32 0x7F800000#32
  let main_v11 : FVec F S2x2048x8x64 .f32 := broadcastInDim S2x2048x8x64 ![] bcast_S_S2x2048x8x64 main_cst_3
  let main_v12 : IVec S2x2048x8x64 1 := cmpf .olt main_v10 main_v11
  let main_c_4 : IVec S_ 1 := constantI S_ 1 1#1
  let main_v13 : IVec S_ 1 := (fun x v => Host.reduce IntOp.andi x v reducesTo_S2x2048x8x64_S_d0_1_2_3 h_S_) main_v12 main_c_4
  let main_v14 : IVec S_ 1 := andi main_v9 main_v13
  main_v14
-- ==== Pre_finite_fwd_b.lean ====
abbrev S2x2048x2x4x64 : Shape := ⟨5, ![2, 2048, 2, 4, 64]⟩
abbrev S2x2048x2x64 : Shape := ⟨4, ![2, 2048, 2, 64]⟩
abbrev S_ : Shape := ⟨0, ![]⟩

class Facts : Prop where
  bcast_S_S2x2048x2x4x64 : S_.BroadcastsInDim S2x2048x2x4x64 (![] : Fin 0 → Fin S2x2048x2x4x64.rank)
  reducesTo_S2x2048x2x4x64_S_d0_1_2_3_4 : S2x2048x2x4x64.ReducesTo [0, 1, 2, 3, 4] S_
  h_S_ : 0 < S_.numel
  bcast_S_S2x2048x2x64 : S_.BroadcastsInDim S2x2048x2x64 (![] : Fin 0 → Fin S2x2048x2x64.rank)
  reducesTo_S2x2048x2x64_S_d0_1_2_3 : S2x2048x2x64.ReducesTo [0, 1, 2, 3] S_

variable [Facts]

def fn {F : FTy → Type} [FloatOps F] (main_arg0 : FVec F S2x2048x2x4x64 .f32) (main_arg1 : FVec F S2x2048x2x64 .f32) (main_arg2 : FVec F S2x2048x2x64 .f32) : IVec S_ 1 :=
  let main_v0 : FVec F S2x2048x2x4x64 .f32 := Host.absf main_arg0
  let main_cst : FVec F S_ .f32 := constant S_ .f32 0x7F800000#32
  let main_v1 : FVec F S2x2048x2x4x64 .f32 := broadcastInDim S2x2048x2x4x64 ![] bcast_S_S2x2048x2x4x64 main_cst
  let main_v2 : IVec S2x2048x2x4x64 1 := cmpf .olt main_v0 main_v1
  let main_c : IVec S_ 1 := constantI S_ 1 1#1
  let main_v3 : IVec S_ 1 := (fun x v => Host.reduce IntOp.andi x v reducesTo_S2x2048x2x4x64_S_d0_1_2_3_4 h_S_) main_v2 main_c
  let main_c_0 : IVec S_ 1 := constantI S_ 1 1#1
  let main_v4 : IVec S_ 1 := andi main_c_0 main_v3
  let main_v5 : FVec F S2x2048x2x64 .f32 := Host.absf main_arg1
  let main_cst_1 : FVec F S_ .f32 := constant S_ .f32 0x7F800000#32
  let main_v6 : FVec F S2x2048x2x64 .f32 := broadcastInDim S2x2048x2x64 ![] bcast_S_S2x2048x2x64 main_cst_1
  let main_v7 : IVec S2x2048x2x64 1 := cmpf .olt main_v5 main_v6
  let main_c_2 : IVec S_ 1 := constantI S_ 1 1#1
  let main_v8 : IVec S_ 1 := (fun x v => Host.reduce IntOp.andi x v reducesTo_S2x2048x2x64_S_d0_1_2_3 h_S_) main_v7 main_c_2
  let main_v9 : IVec S_ 1 := andi main_v4 main_v8
  let main_v10 : FVec F S2x2048x2x64 .f32 := Host.absf main_arg2
  let main_cst_3 : FVec F S_ .f32 := constant S_ .f32 0x7F800000#32
  let main_v11 : FVec F S2x2048x2x64 .f32 := broadcastInDim S2x2048x2x64 ![] bcast_S_S2x2048x2x64 main_cst_3
  let main_v12 : IVec S2x2048x2x64 1 := cmpf .olt main_v10 main_v11
  let main_c_4 : IVec S_ 1 := constantI S_ 1 1#1
  let main_v13 : IVec S_ 1 := (fun x v => Host.reduce IntOp.andi x v reducesTo_S2x2048x2x64_S_d0_1_2_3 h_S_) main_v12 main_c_4
  let main_v14 : IVec S_ 1 := andi main_v9 main_v13
  main_v14
-- ==== Pre_finite_fwd_mlp.lean ====
abbrev S2x2048x1024 : Shape := ⟨3, ![2, 2048, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x4096 : S_.BroadcastsInDim S1x1024x4096 (![] : Fin 0 → Fin S1x1024x4096.rank)
  reducesTo_S1x1024x4096_S_d0_1_2 : S1x1024x4096.ReducesTo [0, 1, 2] S_
  bcast_S_S1x4096x1024 : S_.BroadcastsInDim S1x4096x1024 (![] : Fin 0 → Fin S1x4096x1024.rank)
  reducesTo_S1x4096x1024_S_d0_1_2 : S1x4096x1024.ReducesTo [0, 1, 2] S_

variable [Facts]

def fn_part1 {F : FTy → Type} [FloatOps F] (main_v14 : IVec S_ 1) (main_v15 : FVec F S1x4096x1024 .f32) (main_cst_5 : FVec F S_ .f32) : IVec S_ 1 :=
  let main_v16 : FVec F S1x4096x1024 .f32 := broadcastInDim S1x4096x1024 ![] bcast_S_S1x4096x1024 main_cst_5
  let main_v17 : IVec S1x4096x1024 1 := cmpf .olt main_v15 main_v16
  let main_c_6 : IVec S_ 1 := constantI S_ 1 1#1
  let main_v18 : IVec S_ 1 := (fun x v => Host.reduce IntOp.andi x v reducesTo_S1x4096x1024_S_d0_1_2 h_S_) main_v17 main_c_6
  let main_v19 : IVec S_ 1 := andi main_v14 main_v18
  main_v19

def fn {F : FTy → Type} [FloatOps F] (main_arg0 : FVec F S2x2048x1024 .f32) (main_arg1 : FVec F S1x1024 .f32) (main_arg2 : FVec F S1x1024x4096 .f32) (main_arg3 : FVec F S1x4096x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_c_0 : IVec S_ 1 := constantI S_ 1 1#1
  let main_v4 : IVec S_ 1 := andi main_c_0 main_v3
  let main_v5 : FVec F S1x1024 .f32 := Host.absf main_arg1
  let main_cst_1 : FVec F S_ .f32 := constant S_ .f32 0x7F800000#32
  let main_v6 : FVec F S1x1024 .f32 := broadcastInDim S1x1024 ![] bcast_S_S1x1024 main_cst_1
  let main_v7 : IVec S1x1024 1 := cmpf .olt main_v5 main_v6
  let main_c_2 : IVec S_ 1 := constantI S_ 1 1#1
  let main_v8 : IVec S_ 1 := (fun x v => Host.reduce IntOp.andi x v reducesTo_S1x1024_S_d0_1 h_S_) main_v7 main_c_2
  let main_v9 : IVec S_ 1 := andi main_v4 main_v8
  let main_v10 : FVec F S1x1024x4096 .f32 := Host.absf main_arg2
  let main_cst_3 : FVec F S_ .f32 := constant S_ .f32 0x7F800000#32
  let main_v11 : FVec F S1x1024x4096 .f32 := broadcastInDim S1x1024x4096 ![] bcast_S_S1x1024x4096 main_cst_3
  let main_v12 : IVec S1x1024x4096 1 := cmpf .olt main_v10 main_v11
  let main_c_4 : IVec S_ 1 := constantI S_ 1 1#1
  let main_v13 : IVec S_ 1 := (fun x v => Host.reduce IntOp.andi x v reducesTo_S1x1024x4096_S_d0_1_2 h_S_) main_v12 main_c_4
  let main_v14 : IVec S_ 1 := andi main_v9 main_v13
  let main_v15 : FVec F S1x4096x1024 .f32 := Host.absf main_arg3
  let main_cst_5 : FVec F S_ .f32 := constant S_ .f32 0x7F800000#32
  fn_part1 (F := F) main_v14 main_v15 main_cst_5
-- ==== Pre_finite_in.lean ====
abbrev S2x2048x1024 : Shape := ⟨3, ![2, 2048, 1024]⟩
abbrev S2x2048x3232 : Shape := ⟨3, ![2, 2048, 3232]⟩
abbrev S1x1024 : Shape := ⟨2, ![1, 1024]⟩
abbrev S1x1024x3232 : Shape := ⟨3, ![1, 1024, 3232]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x2048x3232 : S_.BroadcastsInDim S2x2048x3232 (![] : Fin 0 → Fin S2x2048x3232.rank)
  reducesTo_S2x2048x3232_S_d0_1_2 : S2x2048x3232.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x1024x3232 : S_.BroadcastsInDim S1x1024x3232 (![] : Fin 0 → Fin S1x1024x3232.rank)
  reducesTo_S1x1024x3232_S_d0_1_2 : S1x1024x3232.ReducesTo [0, 1, 2] S_

variable [Facts]

def fn_part1 {F : FTy → Type} [FloatOps F] (main_arg4 : FVec F S1x1024x3232 .f32) (main_v14 : IVec S_ 1) (main_v15 : FVec F S1x1024 .f32) (main_cst_5 : FVec F S_ .f32) : IVec S_ 1 :=
  let main_v16 : FVec F S1x1024 .f32 := broadcastInDim S1x1024 ![] bcast_S_S1x1024 main_cst_5
  let main_v17 : IVec S1x1024 1 := cmpf .olt main_v15 main_v16
  let main_c_6 : IVec S_ 1 := constantI S_ 1 1#1
  let main_v18 : IVec S_ 1 := (fun x v => Host.reduce IntOp.andi x v reducesTo_S1x1024_S_d0_1 h_S_) main_v17 main_c_6
  let main_v19 : IVec S_ 1 := andi main_v14 main_v18
  let main_v20 : FVec F S1x1024x3232 .f32 := Host.absf main_arg4
  let main_cst_7 : FVec F S_ .f32 := constant S_ .f32 0x7F800000#32
  let main_v21 : FVec F S1x1024x3232 .f32 := broadcastInDim S1x1024x3232 ![] bcast_S_S1x1024x3232 main_cst_7
  let main_v22 : IVec S1x1024x3232 1 := cmpf .olt main_v20 main_v21
  let main_c_8 : IVec S_ 1 := constantI S_ 1 1#1
  let main_v23 : IVec S_ 1 := (fun x v => Host.reduce IntOp.andi x v reducesTo_S1x1024x3232_S_d0_1_2 h_S_) main_v22 main_c_8
  let main_v24 : IVec S_ 1 := andi main_v19 main_v23
  main_v24

def fn {F : FTy → Type} [FloatOps F] (main_arg0 : FVec F S2x2048x1024 .f32) (main_arg1 : FVec F S2x2048x1024 .f32) (main_arg2 : FVec F S2x2048x3232 .f32) (main_arg3 : FVec F S1x1024 .f32) (main_arg4 : FVec F S1x1024x3232 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_c_0 : IVec S_ 1 := constantI S_ 1 1#1
  let main_v4 : IVec S_ 1 := andi main_c_0 main_v3
  let main_v5 : FVec F S2x2048x1024 .f32 := Host.absf main_arg1
  let main_cst_1 : FVec F S_ .f32 := constant S_ .f32 0x7F800000#32
  let main_v6 : FVec F S2x2048x1024 .f32 := broadcastInDim S2x2048x1024 ![] bcast_S_S2x2048x1024 main_cst_1
  let main_v7 : IVec S2x2048x1024 1 := cmpf .olt main_v5 main_v6
  let main_c_2 : IVec S_ 1 := constantI S_ 1 1#1
  let main_v8 : IVec S_ 1 := (fun x v => Host.reduce IntOp.andi x v reducesTo_S2x2048x1024_S_d0_1_2 h_S_) main_v7 main_c_2
  let main_v9 : IVec S_ 1 := andi main_v4 main_v8
  let main_v10 : FVec F S2x2048x3232 .f32 := Host.absf main_arg2
  let main_cst_3 : FVec F S_ .f32 := constant S_ .f32 0x7F800000#32
  let main_v11 : FVec F S2x2048x3232 .f32 := broadcastInDim S2x2048x3232 ![] bcast_S_S2x2048x3232 main_cst_3
  let main_v12 : IVec S2x2048x3232 1 := cmpf .olt main_v10 main_v11
  let main_c_4 : IVec S_ 1 := constantI S_ 1 1#1
  let main_v13 : IVec S_ 1 := (fun x v => Host.reduce IntOp.andi x v reducesTo_S2x2048x3232_S_d0_1_2 h_S_) main_v12 main_c_4
  let main_v14 : IVec S_ 1 := andi main_v9 main_v13
  let main_v15 : FVec F S1x1024 .f32 := Host.absf main_arg3
  let main_cst_5 : FVec F S_ .f32 := constant S_ .f32 0x7F800000#32
  fn_part1 (F := F) main_arg4 main_v14 main_v15 main_cst_5
-- ==== Pre_finite_merge.lean ====
abbrev S2x2048x512 : Shape := ⟨3, ![2, 2048, 512]⟩
abbrev S2x2048x1024 : Shape := ⟨3, ![2, 2048, 1024]⟩
abbrev S1x1024x1024 : Shape := ⟨3, ![1, 1024, 1024]⟩
abbrev S1x512x1024 : Shape := ⟨3, ![1, 512, 1024]⟩
abbrev S1x256x1024 : Shape := ⟨3, ![1, 256, 1024]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S2x2048x1024 : S_.BroadcastsInDim S2x2048x1024 (![] : Fin 0 → Fin S2x2048x1024.rank)
  reducesTo_S2x2048x1024_S_d0_1_2 : S2x2048x1024.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x512x1024 : S_.BroadcastsInDim S1x512x1024 (![] : Fin 0 → Fin S1x512x1024.rank)
  reducesTo_S1x512x1024_S_d0_1_2 : S1x512x1024.ReducesTo [0, 1, 2] S_

variable [Facts]

def fn_part2 {F : FTy → Type} [FloatOps F] (main_arg8 : FVec F S1x512x1024 .f32) (main_v29 : IVec S_ 1) (main_v32 : IVec S1x512x1024 1) (main_c_12 : IVec S_ 1) : IVec S_ 1 :=
  let main_v33 : IVec S_ 1 := (fun x v => Host.reduce IntOp.andi x v reducesTo_S1x512x1024_S_d0_1_2 h_S_) main_v32 main_c_12
  let main_v34 : IVec S_ 1 := andi main_v29 main_v33
  let main_v35 : FVec F S1x512x1024 .f32 := Host.absf main_arg8
  let main_cst_13 : FVec F S_ .f32 := constant S_ .f32 0x7F800000#32
  let main_v36 : FVec F S1x512x1024 .f32 := broadcastInDim S1x512x1024 ![] bcast_S_S1x512x1024 main_cst_13
  let main_v37 : IVec S1x512x1024 1 := cmpf .olt main_v35 main_v36
  let main_c_14 : IVec S_ 1 := constantI S_ 1 1#1
  let main_v38 : IVec S_ 1 := (fun x v => Host.reduce IntOp.andi x v reducesTo_S1x512x1024_S_d0_1_2 h_S_) main_v37 main_c_14
  let main_v39 : IVec S_ 1 := andi main_v34 main_v38
  main_v39

def fn_part1 {F : FTy → Type} [FloatOps F] (main_arg4 : FVec F S2x2048x1024 .f32) (main_arg5 : FVec F S1x1024x1024 .f32) (main_arg7 : FVec F S1x512x1024 .f32) (main_arg8 : FVec F S1x512x1024 .f32) (main_v14 : IVec S_ 1) (main_v15 : FVec F S2x2048x1024 .f32) (main_cst_5 : FVec F S_ .f32) : IVec S_ 1 :=
  let main_v16 : FVec F S2x2048x1024 .f32 := broadcastInDim S2x2048x1024 ![] bcast_S_S2x2048x1024 main_cst_5
  let main_v17 : IVec S2x2048x1024 1 := cmpf .olt main_v15 main_v16
  let main_c_6 : IVec S_ 1 := constantI S_ 1 1#1
  let main_v18 : IVec S_ 1 := (fun x v => Host.reduce IntOp.andi x v reducesTo_S2x2048x1024_S_d0_1_2 h_S_) main_v17 main_c_6
  let main_v19 : IVec S_ 1 := andi main_v14 main_v18
  let main_v20 : FVec F S2x2048x1024 .f32 := Host.absf main_arg4
  let main_cst_7 : FVec F S_ .f32 := constant S_ .f32 0x7F800000#32
  let main_v21 : FVec F S2x2048x1024 .f32 := broadcastInDim S2x2048x1024 ![] bcast_S_S2x2048x1024 main_cst_7
  let main_v22 : IVec S2x2048x1024 1 := cmpf .olt main_v20 main_v21
  let main_c_8 : IVec S_ 1 := constantI S_ 1 1#1
  let main_v23 : IVec S_ 1 := (fun x v => Host.reduce IntOp.andi x v reducesTo_S2x2048x1024_S_d0_1_2 h_S_) main_v22 main_c_8
  let main_v24 : IVec S_ 1 := andi main_v19 main_v23
  let main_v25 : FVec F S1x1024x1024 .f32 := Host.absf main_arg5
  let main_cst_9 : FVec F S_ .f32 := constant S_ .f32 0x7F800000#32
  let main_v26 : FVec F S1x1024x1024 .f32 := broadcastInDim S1x1024x1024 ![] bcast_S_S1x1024x1024 main_cst_9
  let main_v27 : IVec S1x1024x1024 1 := cmpf .olt main_v25 main_v26
  let main_c_10 : IVec S_ 1 := constantI S_ 1 1#1
  let main_v28 : IVec S_ 1 := (fun x v => Host.reduce IntOp.andi x v reducesTo_S1x1024x1024_S_d0_1_2 h_S_) main_v27 main_c_10
  let main_v29 : IVec S_ 1 := andi main_v24 main_v28
  let main_v30 : FVec F S1x512x1024 .f32 := Host.absf main_arg7
  let main_cst_11 : FVec F S_ .f32 := constant S_ .f32 0x7F800000#32
  let main_v31 : FVec F S1x512x1024 .f32 := broadcastInDim S1x512x1024 ![] bcast_S_S1x512x1024 main_cst_11
  let main_v32 : IVec S1x512x1024 1 := cmpf .olt main_v30 main_v31
  let main_c_12 : IVec S_ 1 := constantI S_ 1 1#1
  fn_part2 (F := F) main_arg8 main_v29 main_v32 main_c_12

def fn {F : FTy → Type} [FloatOps F] (main_arg0 : FVec F S2x2048x512 .f32) (main_arg1 : FVec F S2x2048x512 .f32) (main_arg2 : FVec F S2x2048x1024 .f32) (main_arg3 : FVec F S2x2048x1024 .f32) (main_arg4 : FVec F S2x2048x1024 .f32) (main_arg5 : FVec F S1x1024x1024 .f32) (main_arg6 : FVec F S1x1024x1024 .f32) (main_arg7 : FVec F S1x512x1024 .f32) (main_arg8 : FVec F S1x512x1024 .f32) (main_arg9 : FVec F S1x256x1024 .f32) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  let main_c_0 : IVec S_ 1 := constantI S_ 1 1#1
  let main_v4 : IVec S_ 1 := andi main_c_0 main_v3
  let main_v5 : FVec F S2x2048x512 .f32 := Host.absf main_arg1
  let main_cst_1 : FVec F S_ .f32 := constant S_ .f32 0x7F800000#32
  let main_v6 : FVec F S2x2048x512 .f32 := broadcastInDim S2x2048x512 ![] bcast_S_S2x2048x512 main_cst_1
  let main_v7 : IVec S2x2048x512 1 := cmpf .olt main_v5 main_v6
  let main_c_2 : IVec S_ 1 := constantI S_ 1 1#1
  let main_v8 : IVec S_ 1 := (fun x v => Host.reduce IntOp.andi x v reducesTo_S2x2048x512_S_d0_1_2 h_S_) main_v7 main_c_2
  let main_v9 : IVec S_ 1 := andi main_v4 main_v8
  let main_v10 : FVec F S2x2048x1024 .f32 := Host.absf main_arg2
  let main_cst_3 : FVec F S_ .f32 := constant S_ .f32 0x7F800000#32
  let main_v11 : FVec F S2x2048x1024 .f32 := broadcastInDim S2x2048x1024 ![] bcast_S_S2x2048x1024 main_cst_3
  let main_v12 : IVec S2x2048x1024 1 := cmpf .olt main_v10 main_v11
  let main_c_4 : IVec S_ 1 := constantI S_ 1 1#1
  let main_v13 : IVec S_ 1 := (fun x v => Host.reduce IntOp.andi x v reducesTo_S2x2048x1024_S_d0_1_2 h_S_) main_v12 main_c_4
  let main_v14 : IVec S_ 1 := andi main_v9 main_v13
  let main_v15 : FVec F S2x2048x1024 .f32 := Host.absf main_arg3
  let main_cst_5 : FVec F S_ .f32 := constant S_ .f32 0x7F800000#32
  fn_part1 (F := F) main_arg4 main_arg5 main_arg7 main_arg8 main_v14 main_v15 main_cst_5
-- ==== Pre_finite_mlp.lean ====
abbrev S2x2048x1024 : Shape := ⟨3, ![2, 2048, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x4096 : S_.BroadcastsInDim S1x1024x4096 (![] : Fin 0 → Fin S1x1024x4096.rank)
  reducesTo_S1x1024x4096_S_d0_1_2 : S1x1024x4096.ReducesTo [0, 1, 2] S_
  bcast_S_S1x4096x1024 : S_.BroadcastsInDim S1x4096x1024 (![] : Fin 0 → Fin S1x4096x1024.rank)
  reducesTo_S1x4096x1024_S_d0_1_2 : S1x4096x1024.ReducesTo [0, 1, 2] S_

variable [Facts]

def fn_part1 {F : FTy → Type} [FloatOps F] (main_arg4 : FVec F S1x4096x1024 .f32) (main_v14 : IVec S_ 1) (main_v15 : FVec F S1x1024x4096 .f32) (main_cst_5 : FVec F S_ .f32) : IVec S_ 1 :=
  let main_v16 : FVec F S1x1024x4096 .f32 := broadcastInDim S1x1024x4096 ![] bcast_S_S1x1024x4096 main_cst_5
  let main_v17 : IVec S1x1024x4096 1 := cmpf .olt main_v15 main_v16
  let main_c_6 : IVec S_ 1 := constantI S_ 1 1#1
  let main_v18 : IVec S_ 1 := (fun x v => Host.reduce IntOp.andi x v reducesTo_S1x1024x4096_S_d0_1_2 h_S_) main_v17 main_c_6
  let main_v19 : IVec S_ 1 := andi main_v14 main_v18
  let main_v20 : FVec F S1x4096x1024 .f32 := Host.absf main_arg4
  let main_cst_7 : FVec F S_ .f32 := constant S_ .f32 0x7F800000#32
  let main_v21 : FVec F S1x4096x1024 .f32 := broadcastInDim S1x4096x1024 ![] bcast_S_S1x4096x1024 main_cst_7
  let main_v22 : IVec S1x4096x1024 1 := cmpf .olt main_v20 main_v21
  let main_c_8 : IVec S_ 1 := constantI S_ 1 1#1
  let main_v23 : IVec S_ 1 := (fun x v => Host.reduce IntOp.andi x v reducesTo_S1x4096x1024_S_d0_1_2 h_S_) main_v22 main_c_8
  let main_v24 : IVec S_ 1 := andi main_v19 main_v23
  main_v24

def fn {F : FTy → Type} [FloatOps F] (main_arg0 : FVec F S2x2048x1024 .f32) (main_arg1 : FVec F S2x2048x1024 .f32) (main_arg2 : FVec F S1x1024 .f32) (main_arg3 : FVec F S1x1024x4096 .f32) (main_arg4 : FVec F S1x4096x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_c_0 : IVec S_ 1 := constantI S_ 1 1#1
  let main_v4 : IVec S_ 1 := andi main_c_0 main_v3
  let main_v5 : FVec F S2x2048x1024 .f32 := Host.absf main_arg1
  let main_cst_1 : FVec F S_ .f32 := constant S_ .f32 0x7F800000#32
  let main_v6 : FVec F S2x2048x1024 .f32 := broadcastInDim S2x2048x1024 ![] bcast_S_S2x2048x1024 main_cst_1
  let main_v7 : IVec S2x2048x1024 1 := cmpf .olt main_v5 main_v6
  let main_c_2 : IVec S_ 1 := constantI S_ 1 1#1
  let main_v8 : IVec S_ 1 := (fun x v => Host.reduce IntOp.andi x v reducesTo_S2x2048x1024_S_d0_1_2 h_S_) main_v7 main_c_2
  let main_v9 : IVec S_ 1 := andi main_v4 main_v8
  let main_v10 : FVec F S1x1024 .f32 := Host.absf main_arg2
  let main_cst_3 : FVec F S_ .f32 := constant S_ .f32 0x7F800000#32
  let main_v11 : FVec F S1x1024 .f32 := broadcastInDim S1x1024 ![] bcast_S_S1x1024 main_cst_3
  let main_v12 : IVec S1x1024 1 := cmpf .olt main_v10 main_v11
  let main_c_4 : IVec S_ 1 := constantI S_ 1 1#1
  let main_v13 : IVec S_ 1 := (fun x v => Host.reduce IntOp.andi x v reducesTo_S1x1024_S_d0_1 h_S_) main_v12 main_c_4
  let main_v14 : IVec S_ 1 := andi main_v9 main_v13
  let main_v15 : FVec F S1x1024x4096 .f32 := Host.absf main_arg3
  let main_cst_5 : FVec F S_ .f32 := constant S_ .f32 0x7F800000#32
  fn_part1 (F := F) main_arg4 main_v14 main_v15 main_cst_5
-- ==== Pre_finite_ple.lean ====
abbrev S2x2048x1024 : Shape := ⟨3, ![2, 2048, 1024]⟩
abbrev S1x2x2048x256 : Shape := ⟨4, ![1, 2, 2048, 256]⟩
abbrev S1x1024 : Shape := ⟨2, ![1, 1024]⟩
abbrev S1024 : Shape := ⟨1, ![1024]⟩
abbrev S1x1024x1024 : Shape := ⟨3, ![1, 1024, 1024]⟩
abbrev S1x512x1024 : Shape := ⟨3, ![1, 512, 1024]⟩
abbrev S1x256x1024 : Shape := ⟨3, ![1, 256, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1x2x2048x256 : S_.BroadcastsInDim S1x2x2048x256 (![] : Fin 0 → Fin S1x2x2048x256.rank)
  reducesTo_S1x2x2048x256_S_d0_1_2_3 : S1x2x2048x256.ReducesTo [0, 1, 2, 3] S_
  bcast_S_S1x1024 : S_.BroadcastsInDim S1x1024 (![] : Fin 0 → Fin S1x1024.rank)
  reducesTo_S1x1024_S_d0_1 : S1x1024.ReducesTo [0, 1] S_
  bcast_S_S1024 : S_.BroadcastsInDim S1024 (![] : Fin 0 → Fin S1024.rank)
  reducesTo_S1024_S_d0 : S1024.ReducesTo [0] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x256x1024 : S_.BroadcastsInDim S1x256x1024 (![] : Fin 0 → Fin S1x256x1024.rank)
  reducesTo_S1x256x1024_S_d0_1_2 : S1x256x1024.ReducesTo [0, 1, 2] S_

variable [Facts]

def fn_part2 {F : FTy → Type} [FloatOps F] (main_v29 : IVec S_ 1) (main_v32 : IVec S1x256x1024 1) (main_c_12 : IVec S_ 1) : IVec S_ 1 :=
  let main_v33 : IVec S_ 1 := (fun x v => Host.reduce IntOp.andi x v reducesTo_S1x256x1024_S_d0_1_2 h_S_) main_v32 main_c_12
  let main_v34 : IVec S_ 1 := andi main_v29 main_v33
  main_v34

def fn_part1 {F : FTy → Type} [FloatOps F] (main_arg4 : FVec F S1024 .f32) (main_arg6 : FVec F S1x1024x1024 .f32) (main_arg9 : FVec F S1x256x1024 .f32) (main_v14 : IVec S_ 1) (main_v15 : FVec F S1x1024 .f32) (main_cst_5 : FVec F S_ .f32) : IVec S_ 1 :=
  let main_v16 : FVec F S1x1024 .f32 := broadcastInDim S1x1024 ![] bcast_S_S1x1024 main_cst_5
  let main_v17 : IVec S1x1024 1 := cmpf .olt main_v15 main_v16
  let main_c_6 : IVec S_ 1 := constantI S_ 1 1#1
  let main_v18 : IVec S_ 1 := (fun x v => Host.reduce IntOp.andi x v reducesTo_S1x1024_S_d0_1 h_S_) main_v17 main_c_6
  let main_v19 : IVec S_ 1 := andi main_v14 main_v18
  let main_v20 : FVec F S1024 .f32 := Host.absf main_arg4
  let main_cst_7 : FVec F S_ .f32 := constant S_ .f32 0x7F800000#32
  let main_v21 : FVec F S1024 .f32 := broadcastInDim S1024 ![] bcast_S_S1024 main_cst_7
  let main_v22 : IVec S1024 1 := cmpf .olt main_v20 main_v21
  let main_c_8 : IVec S_ 1 := constantI S_ 1 1#1
  let main_v23 : IVec S_ 1 := (fun x v => Host.reduce IntOp.andi x v reducesTo_S1024_S_d0 h_S_) main_v22 main_c_8
  let main_v24 : IVec S_ 1 := andi main_v19 main_v23
  let main_v25 : FVec F S1x1024x1024 .f32 := Host.absf main_arg6
  let main_cst_9 : FVec F S_ .f32 := constant S_ .f32 0x7F800000#32
  let main_v26 : FVec F S1x1024x1024 .f32 := broadcastInDim S1x1024x1024 ![] bcast_S_S1x1024x1024 main_cst_9
  let main_v27 : IVec S1x1024x1024 1 := cmpf .olt main_v25 main_v26
  let main_c_10 : IVec S_ 1 := constantI S_ 1 1#1
  let main_v28 : IVec S_ 1 := (fun x v => Host.reduce IntOp.andi x v reducesTo_S1x1024x1024_S_d0_1_2 h_S_) main_v27 main_c_10
  let main_v29 : IVec S_ 1 := andi main_v24 main_v28
  let main_v30 : FVec F S1x256x1024 .f32 := Host.absf main_arg9
  let main_cst_11 : FVec F S_ .f32 := constant S_ .f32 0x7F800000#32
  let main_v31 : FVec F S1x256x1024 .f32 := broadcastInDim S1x256x1024 ![] bcast_S_S1x256x1024 main_cst_11
  let main_v32 : IVec S1x256x1024 1 := cmpf .olt main_v30 main_v31
  let main_c_12 : IVec S_ 1 := constantI S_ 1 1#1
  fn_part2 (F := F) main_v29 main_v32 main_c_12

def fn {F : FTy → Type} [FloatOps F] (main_arg0 : FVec F S2x2048x1024 .f32) (main_arg1 : FVec F S1x2x2048x256 .f32) (main_arg2 : FVec F S2x2048x1024 .f32) (main_arg3 : FVec F S1x1024 .f32) (main_arg4 : FVec F S1024 .f32) (main_arg5 : FVec F S1x1024x1024 .f32) (main_arg6 : FVec F S1x1024x1024 .f32) (main_arg7 : FVec F S1x512x1024 .f32) (main_arg8 : FVec F S1x512x1024 .f32) (main_arg9 : FVec F S1x256x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_c_0 : IVec S_ 1 := constantI S_ 1 1#1
  let main_v4 : IVec S_ 1 := andi main_c_0 main_v3
  let main_v5 : FVec F S1x2x2048x256 .f32 := Host.absf main_arg1
  let main_cst_1 : FVec F S_ .f32 := constant S_ .f32 0x7F800000#32
  let main_v6 : FVec F S1x2x2048x256 .f32 := broadcastInDim S1x2x2048x256 ![] bcast_S_S1x2x2048x256 main_cst_1
  let main_v7 : IVec S1x2x2048x256 1 := cmpf .olt main_v5 main_v6
  let main_c_2 : IVec S_ 1 := constantI S_ 1 1#1
  let main_v8 : IVec S_ 1 := (fun x v => Host.reduce IntOp.andi x v reducesTo_S1x2x2048x256_S_d0_1_2_3 h_S_) main_v7 main_c_2
  let main_v9 : IVec S_ 1 := andi main_v4 main_v8
  let main_v10 : FVec F S2x2048x1024 .f32 := Host.absf main_arg2
  let main_cst_3 : FVec F S_ .f32 := constant S_ .f32 0x7F800000#32
  let main_v11 : FVec F S2x2048x1024 .f32 := broadcastInDim S2x2048x1024 ![] bcast_S_S2x2048x1024 main_cst_3
  let main_v12 : IVec S2x2048x1024 1 := cmpf .olt main_v10 main_v11
  let main_c_4 : IVec S_ 1 := constantI S_ 1 1#1
  let main_v13 : IVec S_ 1 := (fun x v => Host.reduce IntOp.andi x v reducesTo_S2x2048x1024_S_d0_1_2 h_S_) main_v12 main_c_4
  let main_v14 : IVec S_ 1 := andi main_v9 main_v13
  let main_v15 : FVec F S1x1024 .f32 := Host.absf main_arg3
  let main_cst_5 : FVec F S_ .f32 := constant S_ .f32 0x7F800000#32
  fn_part1 (F := F) main_arg4 main_arg6 main_arg9 main_v14 main_v15 main_cst_5
-- ==== Ple.lean ====
abbrev S2x2048x1024 : Shape := ⟨3, ![2, 2048, 1024]⟩
abbrev S1x2x2048x256 : Shape := ⟨4, ![1, 2, 2048, 256]⟩
abbrev S1x1024 : Shape := ⟨2, ![1, 1024]⟩
abbrev S1024 : Shape := ⟨1, ![1024]⟩
abbrev S1x1024x1024 : Shape := ⟨3, ![1, 1024, 1024]⟩
abbrev S1x512x1024 : Shape := ⟨3, ![1, 512, 1024]⟩
abbrev S1x256x1024 : Shape := ⟨3, ![1, 256, 1024]⟩
abbrev S1024x1024 : Shape := ⟨2, ![1024, 1024]⟩
abbrev S8x128x1024 : Shape := ⟨3, ![8, 128, 1024]⟩
abbrev S512x1024 : Shape := ⟨2, ![512, 1024]⟩
abbrev S1024x512 : Shape := ⟨2, ![1024, 512]⟩
abbrev S8x64x1024 : Shape := ⟨3, ![8, 64, 1024]⟩
abbrev S256x1024 : Shape := ⟨2, ![256, 1024]⟩
abbrev S1024x256 : Shape := ⟨2, ![1024, 256]⟩
abbrev S8x32x1024 : Shape := ⟨3, ![8, 32, 1024]⟩
abbrev S8x416x1024 : Shape := ⟨3, ![8, 416, 1024]⟩
abbrev S4096x1024 : Shape := ⟨2, ![4096, 1024]⟩
abbrev S4096x256 : Shape := ⟨2, ![4096, 256]⟩
abbrev S3x1024 : Shape := ⟨2, ![3, 1024]⟩
abbrev S512x256 : Shape := ⟨2, ![512, 256]⟩
abbrev S512 : Shape := ⟨1, ![512]⟩
abbrev S512x1 : Shape := ⟨2, ![512, 1]⟩

abbrev nBuf : Space → Nat
  | .hbm => 41
  | .vmem => 21
  | .smem => 0
  | _ => 0

abbrev bufTy : (tb : Table) → Fin (tcTables nBuf tb) → BufTy
  | .hbm, ⟨0, _⟩ => ⟨S2x2048x1024, .f32⟩
  | .hbm, ⟨1, _⟩ => ⟨S1x2x2048x256, .f32⟩
  | .hbm, ⟨2, _⟩ => ⟨S2x2048x1024, .f32⟩
  | .hbm, ⟨3, _⟩ => ⟨S1x1024, .f32⟩
  | .hbm, ⟨4, _⟩ => ⟨S1024, .f32⟩
  | .hbm, ⟨5, _⟩ => ⟨S1x1024x1024, .f32⟩
  | .hbm, ⟨6, _⟩ => ⟨S1x1024x1024, .f32⟩
  | .hbm, ⟨7, _⟩ => ⟨S1x512x1024, .f32⟩
  | .hbm, ⟨8, _⟩ => ⟨S1x512x1024, .f32⟩
  | .hbm, ⟨9, _⟩ => ⟨S1x256x1024, .f32⟩
  | .hbm, ⟨10, _⟩ => ⟨S1024x1024, .f32⟩
  | .hbm, ⟨11, _⟩ => ⟨S8x128x1024, .f32⟩
  | .hbm, ⟨12, _⟩ => ⟨S8x128x1024, .bf16⟩
  | .hbm, ⟨13, _⟩ => ⟨S1024x1024, .f32⟩
  | .hbm, ⟨14, _⟩ => ⟨S8x128x1024, .f32⟩
  | .hbm, ⟨15, _⟩ => ⟨S8x128x1024, .bf16⟩
  | .hbm, ⟨16, _⟩ => ⟨S512x1024, .f32⟩
  | .hbm, ⟨17, _⟩ => ⟨S1024x512, .f32⟩
  | .hbm, ⟨18, _⟩ => ⟨S8x64x1024, .f32⟩
  | .hbm, ⟨19, _⟩ => ⟨S8x64x1024, .bf16⟩
  | .hbm, ⟨20, _⟩ => ⟨S512x1024, .f32⟩
  | .hbm, ⟨21, _⟩ => ⟨S1024x512, .f32⟩
  | .hbm, ⟨22, _⟩ => ⟨S8x64x1024, .f32⟩
  | .hbm, ⟨23, _⟩ => ⟨S8x64x1024, .bf16⟩
  | .hbm, ⟨24, _⟩ => ⟨S256x1024, .f32⟩
  | .hbm, ⟨25, _⟩ => ⟨S1024x256, .f32⟩
  | .hbm, ⟨26, _⟩ => ⟨S8x32x1024, .f32⟩
  | .hbm, ⟨27, _⟩ => ⟨S8x32x1024, .bf16⟩
  | .hbm, ⟨28, _⟩ => ⟨S8x416x1024, .bf16⟩
  | .hbm, ⟨29, _⟩ => ⟨S8x32x1024, .bf16⟩
  | .hbm, ⟨30, _⟩ => ⟨S1024x256, .bf16⟩
  | .hbm, ⟨31, _⟩ => ⟨S4096x1024, .f32⟩
  | .hbm, ⟨32, _⟩ => ⟨S4096x256, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .bf16⟩
  | .hbm, ⟨37, _⟩ => ⟨S4096x1024, .bf16⟩
  | .hbm, ⟨38, _⟩ => ⟨S4096x1024, .bf16⟩
  | .hbm, ⟨39, _⟩ => ⟨S3x1024, .f32⟩
  | .hbm, ⟨40, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S8x128x1024, .bf16⟩
  | .local _ .vmem, ⟨9, _⟩ => ⟨S1024x256, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S3x1024, .f32⟩
  | .local _ .vmem, ⟨19, _⟩ => ⟨S512x1024, .bf16⟩
  | .local _ .vmem, ⟨20, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25_0 : Ref sig .tc := ⟨.hbm, 35, rfl⟩
abbrev main_v25_1 : Ref sig .tc := ⟨.hbm, 36, rfl⟩
abbrev main_v25_2 : Ref sig .tc := ⟨.hbm, 37, rfl⟩
abbrev main_v25_3 : Ref sig .tc := ⟨.hbm, 38, rfl⟩
abbrev main_v25_4 : Ref sig .tc := ⟨.hbm, 39, rfl⟩
abbrev main_v25_5 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S3x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== PleRefIdeal.lean ====
abbrev S2x2048x1024 : Shape := ⟨3, ![2, 2048, 1024]⟩
abbrev S1x2x2048x256 : Shape := ⟨4, ![1, 2, 2048, 256]⟩
abbrev S1x1024 : Shape := ⟨2, ![1, 1024]⟩
abbrev S1024 : Shape := ⟨1, ![1024]⟩
abbrev S1x1024x1024 : Shape := ⟨3, ![1, 1024, 1024]⟩
abbrev S1x512x1024 : Shape := ⟨3, ![1, 512, 1024]⟩
abbrev S1x256x1024 : Shape := ⟨3, ![1, 256, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x1024 : Shape := ⟨2, ![1024, 1024]⟩
abbrev S2x2048x256 : Shape := ⟨3, ![2, 2048, 256]⟩
abbrev S256x1024 : Shape := ⟨2, ![256, 1024]⟩
abbrev S3x1024 : Shape := ⟨2, ![3, 1024]⟩
abbrev S4096x1024 : Shape := ⟨2, ![4096, 1024]⟩

abbrev nBuf : Space → Nat
  | .hbm => 188
  | .vmem => 0
  | .smem => 0
  | _ => 0

abbrev hbmTy0_0 (i : Nat) : BufTy := match i % 128 with
  | 0 => ⟨S2x2048x1024, .f32⟩
  | 1 => ⟨S1x2x2048x256, .f32⟩
  | 2 => ⟨S2x2048x1024, .f32⟩
  | 3 => ⟨S1x1024, .f32⟩
  | 4 => ⟨S1024, .f32⟩
  | 5 => ⟨S1x1024x1024, .f32⟩
  | 6 => ⟨S1x1024x1024, .f32⟩
  | 7 => ⟨S1x512x1024, .f32⟩
  | 8 => ⟨S1x512x1024, .f32⟩
  | 9 => ⟨S1x256x1024, .f32⟩
  | 10 => ⟨S1024, .f32⟩
  | 11 => ⟨S2x2048x1024, .f32⟩
  | 12 => ⟨S_, .f32⟩
  | 13 => ⟨S2x2048, .f32⟩
  | 14 => ⟨S2x2048x1, .f32⟩
  | 15 => ⟨S_, .f32⟩
  | 16 => ⟨S2x2048x1, .f32⟩
  | 17 => ⟨S2x2048x1, .f32⟩
  | 18 => ⟨S_, .f32⟩
  | 19 => ⟨S2x2048x1, .f32⟩
  | 20 => ⟨S2x2048x1, .f32⟩
  | 21 => ⟨S2x2048x1, .f32⟩
  | 22 => ⟨S2x2048x1, .f32⟩
  | 23 => ⟨S_, .f32⟩
  | 24 => ⟨S2x2048x1, .f32⟩
  | 25 => ⟨S2x2048x1, .f32⟩
  | 26 => ⟨S2x2048x1024, .f32⟩
  | 27 => ⟨S2x2048x1024, .f32⟩
  | 28 => ⟨S1x1x1024, .f32⟩
  | 29 => ⟨S2x2048x1024, .f32⟩
  | 30 => ⟨S2x2048x1024, .f32⟩
  | 31 => ⟨S1024x1024, .f32⟩
  | 32 => ⟨S2x2048x1024, .f32⟩
  | 33 => ⟨S2x2048x256, .f32⟩
  | 34 => ⟨S256x1024, .f32⟩
  | 35 => ⟨S2x2048x1024, .f32⟩
  | 36 => ⟨S2x2048x1024, .f32⟩
  | 37 => ⟨S2x2048x1024, .f32⟩
  | 38 => ⟨S_, .f32⟩
  | 39 => ⟨S2x2048x1024, .f32⟩
  | 40 => ⟨S2x2048x1024, .f32⟩
  | 41 => ⟨S_, .f32⟩
  | 42 => ⟨S2x2048x1024, .f32⟩
  | 43 => ⟨S2x2048x1024, .f32⟩
  | 44 => ⟨S_, .f32⟩
  | 45 => ⟨S2x2048x1024, .f32⟩
  | 46 => ⟨S2x2048x1024, .f32⟩
  | 47 => ⟨S2x2048x1024, .f32⟩
  | 48 => ⟨S2x2048x1024, .f32⟩
  | 49 => ⟨S2x2048x1024, .f32⟩
  | 50 => ⟨S2x2048x1024, .f32⟩
  | 51 => ⟨S_, .f32⟩
  | 52 => ⟨S2x2048, .f32⟩
  | 53 => ⟨S2x2048x1, .f32⟩
  | 54 => ⟨S_, .f32⟩
  | 55 => ⟨S2x2048x1, .f32⟩
  | 56 => ⟨S2x2048x1, .f32⟩
  | 57 => ⟨S_, .f32⟩
  | 58 => ⟨S2x2048x1, .f32⟩
  | 59 => ⟨S2x2048x1, .f32⟩
  | 60 => ⟨S2x2048x1, .f32⟩
  | 61 => ⟨S2x2048x1, .f32⟩
  | 62 => ⟨S_, .f32⟩
  | 63 => ⟨S2x2048x1, .f32⟩
  | 64 => ⟨S2x2048x1, .f32⟩
  | 65 => ⟨S2x2048x1024, .f32⟩
  | 66 => ⟨S2x2048x1024, .f32⟩
  | 67 => ⟨S1x1x1024, .f32⟩
  | 68 => ⟨S2x2048x1024, .f32⟩
  | 69 => ⟨S2x2048x1024, .f32⟩
  | 70 => ⟨S2x2048x1024, .f32⟩
  | 71 => ⟨S2x2048x1024, .f32⟩
  | 72 => ⟨S_, .f32⟩
  | 73 => ⟨S2x2048x1024, .f32⟩
  | 74 => ⟨S2x2048x1024, .f32⟩
  | 75 => ⟨S_, .f32⟩
  | 76 => ⟨S2x2048, .f32⟩
  | 77 => ⟨S_, .f32⟩
  | 78 => ⟨S2x2048, .f32⟩
  | 79 => ⟨S2x2048, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S2x2048, .f32⟩
  | 88 => ⟨S_, .f32⟩
  | 89 => ⟨S2x2048, .f32⟩
  | 90 => ⟨S2x2048, .f32⟩
  | 91 => ⟨S2x2048x1024, .f32⟩
  | 92 => ⟨S2x2048x1024, .f32⟩
  | 93 => ⟨S2x2048x1024, .f32⟩
  | 94 => ⟨S_, .f32⟩
  | 95 => ⟨S1024, .f32⟩
  | 96 => ⟨S1x1x1024, .f32⟩
  | 97 => ⟨S2x2048x1024, .f32⟩
  | 98 => ⟨S2x2048x1024, .f32⟩
  | 99 => ⟨S_, .f32⟩
  | 100 => ⟨S1024, .f32⟩
  | 101 => ⟨S2x2048x1024, .f32⟩
  | 102 => ⟨S_, .f32⟩
  | 103 => ⟨S2x2048, .f32⟩
  | 104 => ⟨S2x2048x1, .f32⟩
  | 105 => ⟨S2x2048x1024, .f32⟩
  | 106 => ⟨S2x2048x1024, .f32⟩
  | 107 => ⟨S2x2048x1, .f32⟩
  | 108 => ⟨S_, .f32⟩
  | 109 => ⟨S2x2048x1, .f32⟩
  | 110 => ⟨S2x2048x1, .f32⟩
  | 111 => ⟨S_, .f32⟩
  | 112 => ⟨S2x2048, .f32⟩
  | 113 => ⟨S2x2048x1024, .f32⟩
  | 114 => ⟨S2x2048x1024, .f32⟩
  | 115 => ⟨S2x2048x1024, .f32⟩
  | 116 => ⟨S2x2048x1024, .f32⟩
  | 117 => ⟨S2x2048x1024, .f32⟩
  | 118 => ⟨S2x2048x1024, .f32⟩
  | 119 => ⟨S2x2048x1024, .f32⟩
  | 120 => ⟨S2x2048x1024, .f32⟩
  | 121 => ⟨S2x2048x1024, .f32⟩
  | 122 => ⟨S2x2048x1024, .f32⟩
  | 123 => ⟨S_, .f32⟩
  | 124 => ⟨S1024, .f32⟩
  | 125 => ⟨S1x1x1024, .f32⟩
  | 126 => ⟨S2x2048x1024, .f32⟩
  | 127 => ⟨S2x2048x1024, .f32⟩
  | _ => ⟨S2x2048x1024, .f32⟩

abbrev hbmTy0_1 (i : Nat) : BufTy := match i % 128 with
  | 0 => ⟨S_, .f32⟩
  | 1 => ⟨S1024, .f32⟩
  | 2 => ⟨S2x2048x1024, .f32⟩
  | 3 => ⟨S_, .f32⟩
  | 4 => ⟨S2x2048, .f32⟩
  | 5 => ⟨S2x2048x1, .f32⟩
  | 6 => ⟨S2x2048x1024, .f32⟩
  | 7 => ⟨S2x2048x1024, .f32⟩
  | 8 => ⟨S2x2048x1024, .f32⟩
  | 9 => ⟨S2x2048x1, .f32⟩
  | 10 => ⟨S_, .f32⟩
  | 11 => ⟨S2x2048x1, .f32⟩
  | 12 => ⟨S2x2048x1, .f32⟩
  | 13 => ⟨S_, .f32⟩
  | 14 => ⟨S2x2048, .f32⟩
  | 15 => ⟨S2x2048x1024, .f32⟩
  | 16 => ⟨S2x2048x1024, .f32⟩
  | 17 => ⟨S2x2048x1024, .f32⟩
  | 18 => ⟨S2x2048x1024, .f32⟩
  | 19 => ⟨S2x2048x1024, .f32⟩
  | 20 => ⟨S1x1024, .f32⟩
  | 21 => ⟨S_, .f32⟩
  | 22 => ⟨S1024, .f32⟩
  | 23 => ⟨S_, .f32⟩
  | 24 => ⟨S1024, .f32⟩
  | 25 => ⟨S1024, .f32⟩
  | 26 => ⟨S_, .f32⟩
  | 27 => ⟨S1024, .f32⟩
  | 28 => ⟨S1024, .f32⟩
  | 29 => ⟨S1024, .f32⟩
  | 30 => ⟨S1x1024, .f32⟩
  | 31 => ⟨S1x1024, .f32⟩
  | 32 => ⟨S1x1024, .f32⟩
  | 33 => ⟨S3x1024, .f32⟩
  | 34 => ⟨S1024, .f32⟩
  | 35 => ⟨S2x2048x1024, .f32⟩
  | 36 => ⟨S_, .f32⟩
  | 37 => ⟨S2x2048, .f32⟩
  | 38 => ⟨S2x2048x1, .f32⟩
  | 39 => ⟨S_, .f32⟩
  | 40 => ⟨S2x2048x1, .f32⟩
  | 41 => ⟨S2x2048x1, .f32⟩
  | 42 => ⟨S_, .f32⟩
  | 43 => ⟨S2x2048x1, .f32⟩
  | 44 => ⟨S2x2048x1, .f32⟩
  | 45 => ⟨S2x2048x1, .f32⟩
  | 46 => ⟨S2x2048x1024, .f32⟩
  | 47 => ⟨S2x2048x1024, .f32⟩
  | 48 => ⟨S1x1x1024, .f32⟩
  | 49 => ⟨S2x2048x1024, .f32⟩
  | 50 => ⟨S2x2048x1024, .f32⟩
  | 51 => ⟨S4096x1024, .f32⟩
  | 52 => ⟨S4096x1024, .f32⟩
  | 53 => ⟨S4096x1024, .bf16⟩
  | 54 => ⟨S4096x1024, .f32⟩
  | 55 => ⟨S4096x1024, .bf16⟩
  | 56 => ⟨S4096x1024, .f32⟩
  | 57 => ⟨S4096x1024, .bf16⟩
  | 58 => ⟨S4096x1024, .f32⟩
  | 59 => ⟨S4096x1024, .bf16⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_cst_12 : Ref sig .tc := ⟨.hbm, 77, rfl⟩
abbrev main_v54 : Ref sig .tc := ⟨.hbm, 78, rfl⟩
abbrev main_v55 : Ref sig .tc := ⟨.hbm, 79, rfl⟩
abbrev main_cst_13 : Ref sig .tc := ⟨.hbm, 80, rfl⟩
abbrev main_v56 : Ref sig .tc := ⟨.hbm, 81, rfl⟩
abbrev main_cst_14 : Ref sig .tc := ⟨.hbm, 82, rfl⟩
abbrev main_v57 : Ref sig .tc := ⟨.hbm, 83, rfl⟩
abbrev main_cst_15 : Ref sig .tc := ⟨.hbm, 84, rfl⟩
abbrev main_cst_16 : Ref sig .tc := ⟨.hbm, 85, rfl⟩
abbrev main_v58 : Ref sig .tc := ⟨.hbm, 86, rfl⟩
abbrev main_v59 : Ref sig .tc := ⟨.hbm, 87, rfl⟩
abbrev main_cst_17 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_18 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_19 : Ref sig .tc := ⟨.hbm, 99, rfl⟩
abbrev main_v69 : Ref sig .tc := ⟨.hbm, 100, rfl⟩
abbrev main_v70 : Ref sig .tc := ⟨.hbm, 101, rfl⟩
abbrev main_cst_20 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_21 : Ref sig .tc := ⟨.hbm, 108, rfl⟩
abbrev main_v76 : Ref sig .tc := ⟨.hbm, 109, rfl⟩
abbrev main_v77 : Ref sig .tc := ⟨.hbm, 110, rfl⟩
abbrev main_cst_22 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_23 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_24 : Ref sig .tc := ⟨.hbm, 128, rfl⟩
abbrev main_v93 : Ref sig .tc := ⟨.hbm, 129, rfl⟩
abbrev main_v94 : Ref sig .tc := ⟨.hbm, 130, rfl⟩
abbrev main_cst_25 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_26 : Ref sig .tc := ⟨.hbm, 138, rfl⟩
abbrev main_v101 : Ref sig .tc := ⟨.hbm, 139, rfl⟩
abbrev main_v102 : Ref sig .tc := ⟨.hbm, 140, rfl⟩
abbrev main_cst_27 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_28 : Ref sig .tc := ⟨.hbm, 149, rfl⟩
abbrev main_v110 : Ref sig .tc := ⟨.hbm, 150, rfl⟩
abbrev main_cst_29 : Ref sig .tc := ⟨.hbm, 151, rfl⟩
abbrev main_v111 : Ref sig .tc := ⟨.hbm, 152, rfl⟩
abbrev main_v112 : Ref sig .tc := ⟨.hbm, 153, rfl⟩
abbrev main_cst_30 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_cst_31 : Ref sig .tc := ⟨.hbm, 164, rfl⟩
abbrev main_v122 : Ref sig .tc := ⟨.hbm, 165, rfl⟩
abbrev main_v123 : Ref sig .tc := ⟨.hbm, 166, rfl⟩
abbrev main_cst_32 : Ref sig .tc := ⟨.hbm, 167, rfl⟩
abbrev main_v124 : Ref sig .tc := ⟨.hbm, 168, rfl⟩
abbrev main_v125 : Ref sig .tc := ⟨.hbm, 169, rfl⟩
abbrev main_cst_33 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩

abbrev nD : Nat := 1
abbrev τ : Topo := Topo.v7x

variable {F : FTy → Type} [FloatOps F]
-- ==== AttnB.lean ====
abbrev S2x2048x2x4x64 : Shape := ⟨5, ![2, 2048, 2, 4, 64]⟩
abbrev S2x2048x2x64 : Shape := ⟨4, ![2, 2048, 2, 64]⟩
abbrev S2x2x2048x2048x4 : Shape := ⟨5, ![2, 2, 2048, 2048, 4]⟩
abbrev S2x2x4x2048x2048 : Shape := ⟨5, ![2, 2, 4, 2048, 2048]⟩
abbrev S_ : Shape := ⟨0, ![]⟩
abbrev S2x2x4x2048 : Shape := ⟨4, ![2, 2, 4, 2048]⟩
abbrev S2x2x4x2048x1 : Shape := ⟨5, ![2, 2, 4, 2048, 1]⟩
abbrev S2x2x64x4x2048 : Shape := ⟨5, ![2, 2, 64, 4, 2048]⟩
abbrev S2x2048x2x4 : Shape := ⟨4, ![2, 2048, 2, 4]⟩
abbrev S4096x8x1 : Shape := ⟨3, ![4096, 8, 1]⟩
abbrev S4096x8x128 : Shape := ⟨3, ![4096, 8, 128]⟩
abbrev S4096x1024 : Shape := ⟨2, ![4096, 1024]⟩
abbrev S4096x512 : Shape := ⟨2, ![4096, 512]⟩
abbrev S4096x8x64 : Shape := ⟨3, ![4096, 8, 64]⟩
abbrev S4096x128 : Shape := ⟨2, ![4096, 128]⟩
abbrev S4096x2x64 : Shape := ⟨3, ![4096, 2, 64]⟩
abbrev S4096x2x128 : Shape := ⟨3, ![4096, 2, 128]⟩
abbrev S4096x256 : Shape := ⟨2, ![4096, 256]⟩
abbrev S2048x128 : Shape := ⟨2, ![2048, 128]⟩
abbrev S2048x2048 : Shape := ⟨2, ![2048, 2048]⟩
abbrev S256x128 : Shape := ⟨2, ![256, 128]⟩
abbrev S256 : Shape := ⟨1, ![256]⟩
abbrev S256x1 : Shape := ⟨2, ![256, 1]⟩
abbrev S128x256 : Shape := ⟨2, ![128, 256]⟩
abbrev S1x256 : Shape := ⟨2, ![1, 256]⟩
abbrev S2048x256 : Shape := ⟨2, ![2048, 256]⟩

abbrev nBuf : Space → Nat
  | .hbm => 64
  | .vmem => 22
  | .smem => 0
  | _ => 0

abbrev bufTy : (tb : Table) → Fin (tcTables nBuf tb) → BufTy
  | .hbm, ⟨0, _⟩ => ⟨S2x2048x2x4x64, .f32⟩
  | .hbm, ⟨1, _⟩ => ⟨S2x2048x2x64, .f32⟩
  | .hbm, ⟨2, _⟩ => ⟨S2x2048x2x64, .f32⟩
  | .hbm, ⟨3, _⟩ => ⟨S2x2048x2x4x64, .f32⟩
  | .hbm, ⟨4, _⟩ => ⟨S2x2x2048x2048x4, .f32⟩
  | .hbm, ⟨5, _⟩ => ⟨S2x2x4x2048x2048, .f32⟩
  | .hbm, ⟨6, _⟩ => ⟨S_, .f32⟩
  | .hbm, ⟨7, _⟩ => ⟨S2x2x4x2048, .f32⟩
  | .hbm, ⟨8, _⟩ => ⟨S2x2x4x2048x1, .f32⟩
  | .hbm, ⟨9, _⟩ => ⟨S2x2x4x2048x2048, .f32⟩
  | .hbm, ⟨10, _⟩ => ⟨S2x2x4x2048x2048, .f32⟩
  | .hbm, ⟨11, _⟩ => ⟨S2x2x4x2048x2048, .f32⟩
  | .hbm, ⟨12, _⟩ => ⟨S_, .f32⟩
  | .hbm, ⟨13, _⟩ => ⟨S2x2x4x2048, .f32⟩
  | .hbm, ⟨14, _⟩ => ⟨S2x2x4x2048x1, .f32⟩
  | .hbm, ⟨15, _⟩ => ⟨S2x2x4x2048x2048, .f32⟩
  | .hbm, ⟨16, _⟩ => ⟨S2x2x4x2048x2048, .f32⟩
  | .hbm, ⟨17, _⟩ => ⟨S2x2x64x4x2048, .f32⟩
  | .hbm, ⟨18, _⟩ => ⟨S2x2048x2x4x64, .f32⟩
  | .hbm, ⟨19, _⟩ => ⟨S2x2x4x2048x1, .f32⟩
  | .hbm, ⟨20, _⟩ => ⟨S2x2x4x2048x1, .f32⟩
  | .hbm, ⟨21, _⟩ => ⟨S2x2x4x2048, .f32⟩
  | .hbm, ⟨22, _⟩ => ⟨S2x2048x2x4, .f32⟩
  | .hbm, ⟨23, _⟩ => ⟨S4096x8x1, .f32⟩
  | .hbm, ⟨24, _⟩ => ⟨S4096x8x128, .f32⟩
  | .hbm, ⟨25, _⟩ => ⟨S4096x1024, .f32⟩
  | .hbm, ⟨26, _⟩ => ⟨S4096x512, .f32⟩
  | .hbm, ⟨27, _⟩ => ⟨S4096x512, .bf16⟩
  | .hbm, ⟨28, _⟩ => ⟨S4096x8x64, .bf16⟩
  | .hbm, ⟨29, _⟩ => ⟨S_, .i32⟩
  | .hbm, ⟨30, _⟩ => ⟨S_, .bf16⟩
  | .hbm, ⟨31, _⟩ => ⟨S4096x8x128, .bf16⟩
  | .hbm, ⟨32, _⟩ => ⟨S4096x1024, .bf16⟩
  | .hbm, ⟨33, _⟩ => ⟨S4096x128, .f32⟩
  | .hbm, ⟨34, _⟩ => ⟨S4096x128, .bf16⟩
  | .hbm, ⟨35, _⟩ => ⟨S4096x2x64, .bf16⟩
  | .hbm, ⟨36, _⟩ => ⟨S_, .i32⟩
  | .hbm, ⟨37, _⟩ => ⟨S_, .bf16⟩
  | .hbm, ⟨38, _⟩ => ⟨S4096x2x128, .bf16⟩
  | .hbm, ⟨39, _⟩ => ⟨S4096x256, .bf16⟩
  | .hbm, ⟨40, _⟩ => ⟨S4096x128, .f32⟩
  | .hbm, ⟨41, _⟩ => ⟨S4096x128, .bf16⟩
  | .hbm, ⟨42, _⟩ => ⟨S4096x2x64, .bf16⟩
  | .hbm, ⟨43, _⟩ => ⟨S_, .i32⟩
  | .hbm, ⟨44, _⟩ => ⟨S_, .bf16⟩
  | .hbm, ⟨45, _⟩ => ⟨S4096x2x128, .bf16⟩
  | .hbm, ⟨46, _⟩ => ⟨S4096x256, .bf16⟩
  | .hbm, ⟨47, _⟩ => ⟨S4096x512, .f32⟩
  | .hbm, ⟨48, _⟩ => ⟨S4096x512, .bf16⟩
  | .hbm, ⟨49, _⟩ => ⟨S4096x8x64, .bf16⟩
  | .hbm, ⟨50, _⟩ => ⟨S_, .i32⟩
  | .hbm, ⟨51, _⟩ => ⟨S_, .bf16⟩
  | .hbm, ⟨52, _⟩ => ⟨S4096x8x128, .bf16⟩
  | .hbm, ⟨53, _⟩ => ⟨S4096x1024, .bf16⟩
  | .hbm, ⟨54, _⟩ => ⟨S4096x512, .f32⟩
  | .hbm, ⟨55, _⟩ => ⟨S4096x512, .bf16⟩
  | .hbm, ⟨56, _⟩ => ⟨S4096x8x64, .bf16⟩
  | .hbm, ⟨57, _⟩ => ⟨S_, .i32⟩
  | .hbm, ⟨58, _⟩ => ⟨S_, .bf16⟩
  | .hbm, ⟨59, _⟩ => ⟨S4096x8x128, .bf16⟩
  | .hbm, ⟨60, _⟩ => ⟨S4096x1024, .bf16⟩
  | .hbm, ⟨61, _⟩ => ⟨S4096x1024, .bf16⟩
  | .hbm, ⟨62, _⟩ => ⟨S4096x256, .bf16⟩
  | .hbm, ⟨63, _⟩ => ⟨S4096x256, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .f32⟩
  | .local _ .vmem, ⟨11, _⟩ => ⟨S2048x128, .f32⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x2048, .bf16⟩
  | .local _ .vmem, ⟨19, _⟩ => ⟨S2048x2048, .bf16⟩
  | .local _ .vmem, ⟨20, _⟩ => ⟨S2048x128, .f32⟩
  | .local _ .vmem, ⟨21, _⟩ => ⟨S2048x128, .f32⟩
  | _, _ => ⟨S2x2048x2x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_call0_v0 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_1 : Ref sig .tc := ⟨.hbm, 36, rfl⟩
abbrev main_call1_v0 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_2 : Ref sig .tc := ⟨.hbm, 43, rfl⟩
abbrev main_call2_v0 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_3 : Ref sig .tc := ⟨.hbm, 50, rfl⟩
abbrev main_call3_v0 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_4 : Ref sig .tc := ⟨.hbm, 57, rfl⟩
abbrev main_call4_v0 : Ref sig .tc := ⟨.hbm, 58, rfl⟩
abbrev main_v43 : Ref sig .tc := ⟨.hbm, 59, rfl⟩
abbrev main_v44 : Ref sig .tc := ⟨.hbm, 60, rfl⟩
abbrev main_v45_0 : Ref sig .tc := ⟨.hbm, 61, rfl⟩
abbrev main_v45_1 : Ref sig .tc := ⟨.hbm, 62, rfl⟩
abbrev main_v45_2 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨4, ![2, 2, 4, 1], ![false, false, false, false]⟩

def k0_cond2 (i : grid0.Coords) : BitVec 1 :=
  let arg2 : BitVec 32 := BitVec.ofNat 32 (i 2).val
  let c3_i32 : BitVec 32 := 3#32
  let v331 : BitVec 1 := Scalar.cmpi .eq arg2 c3_i32
  let arg3 : BitVec 32 := BitVec.ofNat 32 (i 3).val
  let c0_i32_159 : BitVec 32 := 0#32
  let v332 : BitVec 1 := Scalar.cmpi .eq arg3 c0_i32_159
  let v333 : BitVec 1 := Scalar.andi v331 v332
  let v334 : BitVec 32 := Scalar.extui v333
  let c0_i32_160 : BitVec 32 := 0#32
  let v335 : BitVec 1 := Scalar.cmpi .ne v334 c0_i32_160
  v335

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c4_i32 : BitVec 32 := 4#32
  let v2 : BitVec 32 := Scalar.muli arg1 c4_i32
  let v3 : BitVec 32 := Scalar.addi v2 arg2
  let c0_i32 : BitVec 32 := 0#32
  ![v1.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c4_i32 : BitVec 32 := 4#32
  let v2 : BitVec 32 := Scalar.muli arg1 c4_i32
  let v3 : BitVec 32 := Scalar.addi v2 arg2
  let c0_i32 : BitVec 32 := 0#32
  ![v1.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c4_i32 : BitVec 32 := 4#32
  let v2 : BitVec 32 := Scalar.muli arg1 c4_i32
  let v3 : BitVec 32 := Scalar.addi v2 arg2
  let c0_i32 : BitVec 32 := 0#32
  ![v1.toNat, v3.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c4_i32 : BitVec 32 := 4#32
  let v2 : BitVec 32 := Scalar.muli arg1 c4_i32
  let v3 : BitVec 32 := Scalar.addi v2 arg2
  let c0_i32 : BitVec 32 := 0#32
  ![v1.toNat, v3.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c4_i32 : BitVec 32 := 4#32
  let v2 : BitVec 32 := Scalar.muli arg1 c4_i32
  let v3 : BitVec 32 := Scalar.addi v2 arg2
  let c0_i32 : BitVec 32 := 0#32
  ![v1.toNat, v3.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false, false]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false, false]
-- ==== AttnBRefIdeal.lean ====
abbrev S2x2048x2x4x64 : Shape := ⟨5, ![2, 2048, 2, 4, 64]⟩
abbrev S2x2048x2x64 : Shape := ⟨4, ![2, 2048, 2, 64]⟩
abbrev S2x2x2048x2048x4 : Shape := ⟨5, ![2, 2, 2048, 2048, 4]⟩
abbrev S2x2x4x2048x2048 : Shape := ⟨5, ![2, 2, 4, 2048, 2048]⟩
abbrev S_ : Shape := ⟨0, ![]⟩
abbrev S2x2x4x2048 : Shape := ⟨4, ![2, 2, 4, 2048]⟩
abbrev S2x2x4x2048x1 : Shape := ⟨5, ![2, 2, 4, 2048, 1]⟩
abbrev S2x2x64x4x2048 : Shape := ⟨5, ![2, 2, 64, 4, 2048]⟩
abbrev S2x2x64x2048 : Shape := ⟨4, ![2, 2, 64, 2048]⟩
abbrev S2x2x2048x4x64 : Shape := ⟨5, ![2, 2, 2048, 4, 64]⟩
abbrev S2x2x2048x64 : Shape := ⟨4, ![2, 2, 2048, 64]⟩
abbrev S4096x8x64 : Shape := ⟨3, ![4096, 8, 64]⟩
abbrev S4096x8x128 : Shape := ⟨3, ![4096, 8, 128]⟩
abbrev S4096x1024 : Shape := ⟨2, ![4096, 1024]⟩
abbrev S4096x2x64 : Shape := ⟨3, ![4096, 2, 64]⟩
abbrev S4096x2x128 : Shape := ⟨3, ![4096, 2, 128]⟩
abbrev S4096x256 : Shape := ⟨2, ![4096, 256]⟩

abbrev nBuf : Space → Nat
  | .hbm => 87
  | .vmem => 0
  | .smem => 0
  | _ => 0

abbrev bufTy : (tb : Table) → Fin (tcTables nBuf tb) → BufTy
  | .hbm, ⟨0, _⟩ => ⟨S2x2048x2x4x64, .f32⟩
  | .hbm, ⟨1, _⟩ => ⟨S2x2048x2x64, .f32⟩
  | .hbm, ⟨2, _⟩ => ⟨S2x2048x2x64, .f32⟩
  | .hbm, ⟨3, _⟩ => ⟨S2x2048x2x4x64, .f32⟩
  | .hbm, ⟨4, _⟩ => ⟨S2x2x2048x2048x4, .f32⟩
  | .hbm, ⟨5, _⟩ => ⟨S2x2x4x2048x2048, .f32⟩
  | .hbm, ⟨6, _⟩ => ⟨S_, .f32⟩
  | .hbm, ⟨7, _⟩ => ⟨S2x2x4x2048, .f32⟩
  | .hbm, ⟨8, _⟩ => ⟨S2x2x4x2048x1, .f32⟩
  | .hbm, ⟨9, _⟩ => ⟨S2x2x4x2048x2048, .f32⟩
  | .hbm, ⟨10, _⟩ => ⟨S2x2x4x2048x2048, .i1⟩
  | .hbm, ⟨11, _⟩ => ⟨S2x2x4x2048x2048, .f32⟩
  | .hbm, ⟨12, _⟩ => ⟨S_, .f32⟩
  | .hbm, ⟨13, _⟩ => ⟨S2x2x4x2048, .f32⟩
  | .hbm, ⟨14, _⟩ => ⟨S_, .f32⟩
  | .hbm, ⟨15, _⟩ => ⟨S2x2x4x2048, .f32⟩
  | .hbm, ⟨16, _⟩ => ⟨S2x2x4x2048, .f32⟩
  | .hbm, ⟨17, _⟩ => ⟨S_, .f32⟩
  | .hbm, ⟨18, _⟩ => ⟨S2x2x4x2048, .f32⟩
  | .hbm, ⟨19, _⟩ => ⟨S2x2x4x2048, .i1⟩
  | .hbm, ⟨20, _⟩ => ⟨S_, .f32⟩
  | .hbm, ⟨21, _⟩ => ⟨S2x2x4x2048, .f32⟩
  | .hbm, ⟨22, _⟩ => ⟨S2x2x4x2048, .i1⟩
  | .hbm, ⟨23, _⟩ => ⟨S_, .f32⟩
  | .hbm, ⟨24, _⟩ => ⟨S2x2x4x2048, .f32⟩
  | .hbm, ⟨25, _⟩ => ⟨S_, .f32⟩
  | .hbm, ⟨26, _⟩ => ⟨S2x2x4x2048, .f32⟩
  | .hbm, ⟨27, _⟩ => ⟨S_, .f32⟩
  | .hbm, ⟨28, _⟩ => ⟨S2x2x4x2048, .f32⟩
  | .hbm, ⟨29, _⟩ => ⟨S2x2x4x2048, .f32⟩
  | .hbm, ⟨30, _⟩ => ⟨S2x2x4x2048, .f32⟩
  | .hbm, ⟨31, _⟩ => ⟨S2x2x4x2048x1, .f32⟩
  | .hbm, ⟨32, _⟩ => ⟨S2x2x4x2048x2048, .f32⟩
  | .hbm, ⟨33, _⟩ => ⟨S2x2x4x2048x2048, .f32⟩
  | .hbm, ⟨34, _⟩ => ⟨S2x2x4x2048x2048, .f32⟩
  | .hbm, ⟨35, _⟩ => ⟨S_, .f32⟩
  | .hbm, ⟨36, _⟩ => ⟨S2x2x4x2048, .f32⟩
  | .hbm, ⟨37, _⟩ => ⟨S2x2x4x2048x1, .f32⟩
  | .hbm, ⟨38, _⟩ => ⟨S2x2x4x2048x2048, .f32⟩
  | .hbm, ⟨39, _⟩ => ⟨S2x2x4x2048x2048, .f32⟩
  | .hbm, ⟨40, _⟩ => ⟨S2x2x4x2048x1, .f32⟩
  | .hbm, ⟨41, _⟩ => ⟨S_, .f32⟩
  | .hbm, ⟨42, _⟩ => ⟨S2x2x4x2048x1, .f32⟩
  | .hbm, ⟨43, _⟩ => ⟨S2x2x4x2048x1, .f32⟩
  | .hbm, ⟨44, _⟩ => ⟨S2x2x64x4x2048, .f32⟩
  | .hbm, ⟨45, _⟩ => ⟨S2x2048x2x4x64, .f32⟩
  | .hbm, ⟨46, _⟩ => ⟨S2x2x64x4x2048, .f32⟩
  | .hbm, ⟨47, _⟩ => ⟨S2x2x4x2048x2048, .f32⟩
  | .hbm, ⟨48, _⟩ => ⟨S2x2x64x2048, .f32⟩
  | .hbm, ⟨49, _⟩ => ⟨S2x2048x2x64, .f32⟩
  | .hbm, ⟨50, _⟩ => ⟨S2x2x4x2048x2048, .f32⟩
  | .hbm, ⟨51, _⟩ => ⟨S2x2x4x2048x2048, .f32⟩
  | .hbm, ⟨52, _⟩ => ⟨S2x2x4x2048x2048, .f32⟩
  | .hbm, ⟨53, _⟩ => ⟨S_, .f32⟩
  | .hbm, ⟨54, _⟩ => ⟨S2x2x4x2048, .f32⟩
  | .hbm, ⟨55, _⟩ => ⟨S2x2x4x2048x1, .f32⟩
  | .hbm, ⟨56, _⟩ => ⟨S2x2x4x2048x1, .f32⟩
  | .hbm, ⟨57, _⟩ => ⟨S2x2x4x2048x2048, .f32⟩
  | .hbm, ⟨58, _⟩ => ⟨S2x2x4x2048x2048, .f32⟩
  | .hbm, ⟨59, _⟩ => ⟨S_, .f32⟩
  | .hbm, ⟨60, _⟩ => ⟨S2x2x4x2048, .f32⟩
  | .hbm, ⟨61, _⟩ => ⟨S2x2x4x2048x2048, .f32⟩
  | .hbm, ⟨62, _⟩ => ⟨S2x2x4x2048x2048, .f32⟩
  | .hbm, ⟨63, _⟩ => ⟨S2x2x4x2048x2048, .f32⟩
  | .hbm, ⟨64, _⟩ => ⟨S2x2x2048x2048x4, .f32⟩
  | .hbm, ⟨65, _⟩ => ⟨S2x2x2048x4x64, .f32⟩
  | .hbm, ⟨66, _⟩ => ⟨S2x2048x2x4x64, .f32⟩
  | .hbm, ⟨67, _⟩ => ⟨S2x2x2048x64, .f32⟩
  | .hbm, ⟨68, _⟩ => ⟨S2x2048x2x64, .f32⟩
  | .hbm, ⟨69, _⟩ => ⟨S4096x8x64, .f32⟩
  | .hbm, ⟨70, _⟩ => ⟨S_, .i32⟩
  | .hbm, ⟨71, _⟩ => ⟨S_, .f32⟩
  | .hbm, ⟨72, _⟩ => ⟨S4096x8x128, .f32⟩
  | .hbm, ⟨73, _⟩ => ⟨S4096x1024, .f32⟩
  | .hbm, ⟨74, _⟩ => ⟨S4096x1024, .bf16⟩
  | .hbm, ⟨75, _⟩ => ⟨S4096x2x64, .f32⟩
  | .hbm, ⟨76, _⟩ => ⟨S_, .i32⟩
  | .hbm, ⟨77, _⟩ => ⟨S_, .f32⟩
  | .hbm, ⟨78, _⟩ => ⟨S4096x2x128, .f32⟩
  | .hbm, ⟨79, _⟩ => ⟨S4096x256, .f32⟩
  | .hbm, ⟨80, _⟩ => ⟨S4096x256, .bf16⟩
  | .hbm, ⟨81, _⟩ => ⟨S4096x2x64, .f32⟩
  | .hbm, ⟨82, _⟩ => ⟨S_, .i32⟩
  | .hbm, ⟨83, _⟩ => ⟨S_, .f32⟩
  | .hbm, ⟨84, _⟩ => ⟨S4096x2x128, .f32⟩
  | .hbm, ⟨85, _⟩ => ⟨S4096x256, .f32⟩
  | .hbm, ⟨86, _⟩ => ⟨S4096x256, .bf16⟩
  | _, _ => ⟨S2x2048x2x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c : Ref sig .tc := ⟨.hbm, 70, rfl⟩
abbrev main_call0_v0 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_c_11 : Ref sig .tc := ⟨.hbm, 76, rfl⟩
abbrev main_call1_v0 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c_12 : Ref sig .tc := ⟨.hbm, 82, rfl⟩
abbrev main_call2_v0 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]
-- ==== AttnA.lean ====
abbrev S2x2048x8x1x96 : Shape := ⟨5, ![2, 2048, 8, 1, 96]⟩
abbrev S2x2048x8x96 : Shape := ⟨4, ![2, 2048, 8, 96]⟩
abbrev S2x2048x8x64 : Shape := ⟨4, ![2, 2048, 8, 64]⟩
abbrev S2x2048x8x1x64 : Shape := ⟨5, ![2, 2048, 8, 1, 64]⟩
abbrev S2x8x2048x2048x1 : Shape := ⟨5, ![2, 8, 2048, 2048, 1]⟩
abbrev S2x8x1x2048x2048 : Shape := ⟨5, ![2, 8, 1, 2048, 2048]⟩
abbrev S_ : Shape := ⟨0, ![]⟩
abbrev S2x8x1x2048 : Shape := ⟨4, ![2, 8, 1, 2048]⟩
abbrev S2x8x1x2048x1 : Shape := ⟨5, ![2, 8, 1, 2048, 1]⟩
abbrev S2x8x64x1x2048 : Shape := ⟨5, ![2, 8, 64, 1, 2048]⟩
abbrev S2x2048x8x1 : Shape := ⟨4, ![2, 2048, 8, 1]⟩
abbrev S4096x8x1 : Shape := ⟨3, ![4096, 8, 1]⟩
abbrev S4096x8x128 : Shape := ⟨3, ![4096, 8, 128]⟩
abbrev S4096x1024 : Shape := ⟨2, ![4096, 1024]⟩
abbrev S4096x768 : Shape := ⟨2, ![4096, 768]⟩
abbrev S4096x8x96 : Shape := ⟨3, ![4096, 8, 96]⟩
abbrev S4096x512 : Shape := ⟨2, ![4096, 512]⟩
abbrev S4096x8x64 : Shape := ⟨3, ![4096, 8, 64]⟩
abbrev S2048x128 : Shape := ⟨2, ![2048, 128]⟩
abbrev S2048x2048 : Shape := ⟨2, ![2048, 2048]⟩
abbrev S256x128 : Shape := ⟨2, ![256, 128]⟩
abbrev S256 : Shape := ⟨1, ![256]⟩
abbrev S256x1 : Shape := ⟨2, ![256, 1]⟩
abbrev S128x256 : Shape := ⟨2, ![128, 256]⟩
abbrev S1x256 : Shape := ⟨2, ![1, 256]⟩
abbrev S2048x256 : Shape := ⟨2, ![2048, 256]⟩

abbrev nBuf : Space → Nat
  | .hbm => 64
  | .vmem => 22
  | .smem => 0
  | _ => 0

abbrev bufTy : (tb : Table) → Fin (tcTables nBuf tb) → BufTy
  | .hbm, ⟨0, _⟩ => ⟨S2x2048x8x1x96, .f32⟩
  | .hbm, ⟨1, _⟩ => ⟨S2x2048x8x96, .f32⟩
  | .hbm, ⟨2, _⟩ => ⟨S2x2048x8x64, .f32⟩
  | .hbm, ⟨3, _⟩ => ⟨S2x2048x8x1x64, .f32⟩
  | .hbm, ⟨4, _⟩ => ⟨S2x8x2048x2048x1, .f32⟩
  | .hbm, ⟨5, _⟩ => ⟨S2x8x1x2048x2048, .f32⟩
  | .hbm, ⟨6, _⟩ => ⟨S_, .f32⟩
  | .hbm, ⟨7, _⟩ => ⟨S2x8x1x2048, .f32⟩
  | .hbm, ⟨8, _⟩ => ⟨S2x8x1x2048x1, .f32⟩
  | .hbm, ⟨9, _⟩ => ⟨S2x8x1x2048x2048, .f32⟩
  | .hbm, ⟨10, _⟩ => ⟨S2x8x1x2048x2048, .f32⟩
  | .hbm, ⟨11, _⟩ => ⟨S2x8x1x2048x2048, .f32⟩
  | .hbm, ⟨12, _⟩ => ⟨S_, .f32⟩
  | .hbm, ⟨13, _⟩ => ⟨S2x8x1x2048, .f32⟩
  | .hbm, ⟨14, _⟩ => ⟨S2x8x1x2048x1, .f32⟩
  | .hbm, ⟨15, _⟩ => ⟨S2x8x1x2048x2048, .f32⟩
  | .hbm, ⟨16, _⟩ => ⟨S2x8x1x2048x2048, .f32⟩
  | .hbm, ⟨17, _⟩ => ⟨S2x8x64x1x2048, .f32⟩
  | .hbm, ⟨18, _⟩ => ⟨S2x2048x8x1x64, .f32⟩
  | .hbm, ⟨19, _⟩ => ⟨S2x8x1x2048x1, .f32⟩
  | .hbm, ⟨20, _⟩ => ⟨S2x8x1x2048x1, .f32⟩
  | .hbm, ⟨21, _⟩ => ⟨S2x8x1x2048, .f32⟩
  | .hbm, ⟨22, _⟩ => ⟨S2x2048x8x1, .f32⟩
  | .hbm, ⟨23, _⟩ => ⟨S4096x8x1, .f32⟩
  | .hbm, ⟨24, _⟩ => ⟨S4096x8x128, .f32⟩
  | .hbm, ⟨25, _⟩ => ⟨S4096x1024, .f32⟩
  | .hbm, ⟨26, _⟩ => ⟨S4096x768, .f32⟩
  | .hbm, ⟨27, _⟩ => ⟨S4096x768, .bf16⟩
  | .hbm, ⟨28, _⟩ => ⟨S4096x8x96, .bf16⟩
  | .hbm, ⟨29, _⟩ => ⟨S_, .i32⟩
  | .hbm, ⟨30, _⟩ => ⟨S_, .bf16⟩
  | .hbm, ⟨31, _⟩ => ⟨S4096x8x128, .bf16⟩
  | .hbm, ⟨32, _⟩ => ⟨S4096x1024, .bf16⟩
  | .hbm, ⟨33, _⟩ => ⟨S4096x768, .f32⟩
  | .hbm, ⟨34, _⟩ => ⟨S4096x768, .bf16⟩
  | .hbm, ⟨35, _⟩ => ⟨S4096x8x96, .bf16⟩
  | .hbm, ⟨36, _⟩ => ⟨S_, .i32⟩
  | .hbm, ⟨37, _⟩ => ⟨S_, .bf16⟩
  | .hbm, ⟨38, _⟩ => ⟨S4096x8x128, .bf16⟩
  | .hbm, ⟨39, _⟩ => ⟨S4096x1024, .bf16⟩
  | .hbm, ⟨40, _⟩ => ⟨S4096x512, .f32⟩
  | .hbm, ⟨41, _⟩ => ⟨S4096x512, .bf16⟩
  | .hbm, ⟨42, _⟩ => ⟨S4096x8x64, .bf16⟩
  | .hbm, ⟨43, _⟩ => ⟨S_, .i32⟩
  | .hbm, ⟨44, _⟩ => ⟨S_, .bf16⟩
  | .hbm, ⟨45, _⟩ => ⟨S4096x8x128, .bf16⟩
  | .hbm, ⟨46, _⟩ => ⟨S4096x1024, .bf16⟩
  | .hbm, ⟨47, _⟩ => ⟨S4096x512, .f32⟩
  | .hbm, ⟨48, _⟩ => ⟨S4096x512, .bf16⟩
  | .hbm, ⟨49, _⟩ => ⟨S4096x8x64, .bf16⟩
  | .hbm, ⟨50, _⟩ => ⟨S_, .i32⟩
  | .hbm, ⟨51, _⟩ => ⟨S_, .bf16⟩
  | .hbm, ⟨52, _⟩ => ⟨S4096x8x128, .bf16⟩
  | .hbm, ⟨53, _⟩ => ⟨S4096x1024, .bf16⟩
  | .hbm, ⟨54, _⟩ => ⟨S4096x512, .f32⟩
  | .hbm, ⟨55, _⟩ => ⟨S4096x512, .bf16⟩
  | .hbm, ⟨56, _⟩ => ⟨S4096x8x64, .bf16⟩
  | .hbm, ⟨57, _⟩ => ⟨S_, .i32⟩
  | .hbm, ⟨58, _⟩ => ⟨S_, .bf16⟩
  | .hbm, ⟨59, _⟩ => ⟨S4096x8x128, .bf16⟩
  | .hbm, ⟨60, _⟩ => ⟨S4096x1024, .bf16⟩
  | .hbm, ⟨61, _⟩ => ⟨S4096x1024, .bf16⟩
  | .hbm, ⟨62, _⟩ => ⟨S4096x1024, .bf16⟩
  | .hbm, ⟨63, _⟩ => ⟨S4096x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .f32⟩
  | .local _ .vmem, ⟨11, _⟩ => ⟨S2048x128, .f32⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x2048, .bf16⟩
  | .local _ .vmem, ⟨19, _⟩ => ⟨S2048x2048, .bf16⟩
  | .local _ .vmem, ⟨20, _⟩ => ⟨S2048x128, .f32⟩
  | .local _ .vmem, ⟨21, _⟩ => ⟨S2048x128, .f32⟩
  | _, _ => ⟨S2x2048x8x1x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_call0_v0 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_1 : Ref sig .tc := ⟨.hbm, 36, rfl⟩
abbrev main_call1_v0 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_2 : Ref sig .tc := ⟨.hbm, 43, rfl⟩
abbrev main_call2_v0 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_3 : Ref sig .tc := ⟨.hbm, 50, rfl⟩
abbrev main_call3_v0 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_4 : Ref sig .tc := ⟨.hbm, 57, rfl⟩
abbrev main_call4_v0 : Ref sig .tc := ⟨.hbm, 58, rfl⟩
abbrev main_v43 : Ref sig .tc := ⟨.hbm, 59, rfl⟩
abbrev main_v44 : Ref sig .tc := ⟨.hbm, 60, rfl⟩
abbrev main_v45_0 : Ref sig .tc := ⟨.hbm, 61, rfl⟩
abbrev main_v45_1 : Ref sig .tc := ⟨.hbm, 62, rfl⟩
abbrev main_v45_2 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨4, ![2, 8, 1, 1], ![false, false, false, false]⟩

def k0_cond2 (i : grid0.Coords) : BitVec 1 :=
  let arg2 : BitVec 32 := BitVec.ofNat 32 (i 2).val
  let c0_i32_159 : BitVec 32 := 0#32
  let v331 : BitVec 1 := Scalar.cmpi .eq arg2 c0_i32_159
  let arg3 : BitVec 32 := BitVec.ofNat 32 (i 3).val
  let c0_i32_160 : BitVec 32 := 0#32
  let v332 : BitVec 1 := Scalar.cmpi .eq arg3 c0_i32_160
  let v333 : BitVec 1 := Scalar.andi v331 v332
  let v334 : BitVec 32 := Scalar.extui v333
  let c0_i32_161 : BitVec 32 := 0#32
  let v335 : BitVec 1 := Scalar.cmpi .ne v334 c0_i32_161
  v335

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c1_i32_0 : BitVec 32 := 1#32
  let v2 : BitVec 32 := Scalar.muli arg1 c1_i32_0
  let v3 : BitVec 32 := Scalar.addi v2 arg2
  let c0_i32 : BitVec 32 := 0#32
  ![v1.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c1_i32_0 : BitVec 32 := 1#32
  let v2 : BitVec 32 := Scalar.muli arg1 c1_i32_0
  let v3 : BitVec 32 := Scalar.addi v2 arg2
  let c0_i32 : BitVec 32 := 0#32
  ![v1.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c1_i32_0 : BitVec 32 := 1#32
  let v2 : BitVec 32 := Scalar.muli arg1 c1_i32_0
  let v3 : BitVec 32 := Scalar.addi v2 arg2
  let c0_i32 : BitVec 32 := 0#32
  ![v1.toNat, v3.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c1_i32_0 : BitVec 32 := 1#32
  let v2 : BitVec 32 := Scalar.muli arg1 c1_i32_0
  let v3 : BitVec 32 := Scalar.addi v2 arg2
  let c0_i32 : BitVec 32 := 0#32
  ![v1.toNat, v3.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c1_i32_0 : BitVec 32 := 1#32
  let v2 : BitVec 32 := Scalar.muli arg1 c1_i32_0
  let v3 : BitVec 32 := Scalar.addi v2 arg2
  let c0_i32 : BitVec 32 := 0#32
  ![v1.toNat, v3.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false, false]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false, false]
-- ==== AttnARefIdeal.lean ====
abbrev S2x2048x8x1x96 : Shape := ⟨5, ![2, 2048, 8, 1, 96]⟩
abbrev S2x2048x8x96 : Shape := ⟨4, ![2, 2048, 8, 96]⟩
abbrev S2x2048x8x64 : Shape := ⟨4, ![2, 2048, 8, 64]⟩
abbrev S2x2048x8x1x64 : Shape := ⟨5, ![2, 2048, 8, 1, 64]⟩
abbrev S2x8x2048x2048x1 : Shape := ⟨5, ![2, 8, 2048, 2048, 1]⟩
abbrev S2x8x1x2048x2048 : Shape := ⟨5, ![2, 8, 1, 2048, 2048]⟩
abbrev S_ : Shape := ⟨0, ![]⟩
abbrev S2x8x1x2048 : Shape := ⟨4, ![2, 8, 1, 2048]⟩
abbrev S2x8x1x2048x1 : Shape := ⟨5, ![2, 8, 1, 2048, 1]⟩
abbrev S2x8x64x1x2048 : Shape := ⟨5, ![2, 8, 64, 1, 2048]⟩
abbrev S2x8x64x2048 : Shape := ⟨4, ![2, 8, 64, 2048]⟩
abbrev S2x8x2048 : Shape := ⟨3, ![2, 8, 2048]⟩
abbrev S2x8x2048x1x96 : Shape := ⟨5, ![2, 8, 2048, 1, 96]⟩
abbrev S2x8x2048x96 : Shape := ⟨4, ![2, 8, 2048, 96]⟩
abbrev S4096x8x96 : Shape := ⟨3, ![4096, 8, 96]⟩
abbrev S4096x8x128 : Shape := ⟨3, ![4096, 8, 128]⟩
abbrev S4096x1024 : Shape := ⟨2, ![4096, 1024]⟩
abbrev S4096x8x64 : Shape := ⟨3, ![4096, 8, 64]⟩

abbrev nBuf : Space → Nat
  | .hbm => 88
  | .vmem => 0
  | .smem => 0
  | _ => 0

abbrev bufTy : (tb : Table) → Fin (tcTables nBuf tb) → BufTy
  | .hbm, ⟨0, _⟩ => ⟨S2x2048x8x1x96, .f32⟩
  | .hbm, ⟨1, _⟩ => ⟨S2x2048x8x96, .f32⟩
  | .hbm, ⟨2, _⟩ => ⟨S2x2048x8x64, .f32⟩
  | .hbm, ⟨3, _⟩ => ⟨S2x2048x8x1x64, .f32⟩
  | .hbm, ⟨4, _⟩ => ⟨S2x8x2048x2048x1, .f32⟩
  | .hbm, ⟨5, _⟩ => ⟨S2x8x1x2048x2048, .f32⟩
  | .hbm, ⟨6, _⟩ => ⟨S_, .f32⟩
  | .hbm, ⟨7, _⟩ => ⟨S2x8x1x2048, .f32⟩
  | .hbm, ⟨8, _⟩ => ⟨S2x8x1x2048x1, .f32⟩
  | .hbm, ⟨9, _⟩ => ⟨S2x8x1x2048x2048, .f32⟩
  | .hbm, ⟨10, _⟩ => ⟨S2x8x1x2048x2048, .i1⟩
  | .hbm, ⟨11, _⟩ => ⟨S2x8x1x2048x2048, .f32⟩
  | .hbm, ⟨12, _⟩ => ⟨S_, .f32⟩
  | .hbm, ⟨13, _⟩ => ⟨S2x8x1x2048, .f32⟩
  | .hbm, ⟨14, _⟩ => ⟨S_, .f32⟩
  | .hbm, ⟨15, _⟩ => ⟨S2x8x1x2048, .f32⟩
  | .hbm, ⟨16, _⟩ => ⟨S2x8x1x2048, .f32⟩
  | .hbm, ⟨17, _⟩ => ⟨S_, .f32⟩
  | .hbm, ⟨18, _⟩ => ⟨S2x8x1x2048, .f32⟩
  | .hbm, ⟨19, _⟩ => ⟨S2x8x1x2048, .i1⟩
  | .hbm, ⟨20, _⟩ => ⟨S_, .f32⟩
  | .hbm, ⟨21, _⟩ => ⟨S2x8x1x2048, .f32⟩
  | .hbm, ⟨22, _⟩ => ⟨S2x8x1x2048, .i1⟩
  | .hbm, ⟨23, _⟩ => ⟨S_, .f32⟩
  | .hbm, ⟨24, _⟩ => ⟨S2x8x1x2048, .f32⟩
  | .hbm, ⟨25, _⟩ => ⟨S_, .f32⟩
  | .hbm, ⟨26, _⟩ => ⟨S2x8x1x2048, .f32⟩
  | .hbm, ⟨27, _⟩ => ⟨S_, .f32⟩
  | .hbm, ⟨28, _⟩ => ⟨S2x8x1x2048, .f32⟩
  | .hbm, ⟨29, _⟩ => ⟨S2x8x1x2048, .f32⟩
  | .hbm, ⟨30, _⟩ => ⟨S2x8x1x2048, .f32⟩
  | .hbm, ⟨31, _⟩ => ⟨S2x8x1x2048x1, .f32⟩
  | .hbm, ⟨32, _⟩ => ⟨S2x8x1x2048x2048, .f32⟩
  | .hbm, ⟨33, _⟩ => ⟨S2x8x1x2048x2048, .f32⟩
  | .hbm, ⟨34, _⟩ => ⟨S2x8x1x2048x2048, .f32⟩
  | .hbm, ⟨35, _⟩ => ⟨S_, .f32⟩
  | .hbm, ⟨36, _⟩ => ⟨S2x8x1x2048, .f32⟩
  | .hbm, ⟨37, _⟩ => ⟨S2x8x1x2048x1, .f32⟩
  | .hbm, ⟨38, _⟩ => ⟨S2x8x1x2048x2048, .f32⟩
  | .hbm, ⟨39, _⟩ => ⟨S2x8x1x2048x2048, .f32⟩
  | .hbm, ⟨40, _⟩ => ⟨S2x8x1x2048x1, .f32⟩
  | .hbm, ⟨41, _⟩ => ⟨S_, .f32⟩
  | .hbm, ⟨42, _⟩ => ⟨S2x8x1x2048x1, .f32⟩
  | .hbm, ⟨43, _⟩ => ⟨S2x8x1x2048x1, .f32⟩
  | .hbm, ⟨44, _⟩ => ⟨S2x8x64x1x2048, .f32⟩
  | .hbm, ⟨45, _⟩ => ⟨S2x2048x8x1x64, .f32⟩
  | .hbm, ⟨46, _⟩ => ⟨S2x8x64x1x2048, .f32⟩
  | .hbm, ⟨47, _⟩ => ⟨S2x8x1x2048x2048, .f32⟩
  | .hbm, ⟨48, _⟩ => ⟨S2x8x64x2048, .f32⟩
  | .hbm, ⟨49, _⟩ => ⟨S2x2048x8x64, .f32⟩
  | .hbm, ⟨50, _⟩ => ⟨S2x8x1x2048x2048, .f32⟩
  | .hbm, ⟨51, _⟩ => ⟨S2x8x1x2048x2048, .f32⟩
  | .hbm, ⟨52, _⟩ => ⟨S2x8x1x2048x2048, .f32⟩
  | .hbm, ⟨53, _⟩ => ⟨S_, .f32⟩
  | .hbm, ⟨54, _⟩ => ⟨S2x8x1x2048, .f32⟩
  | .hbm, ⟨55, _⟩ => ⟨S2x8x1x2048x1, .f32⟩
  | .hbm, ⟨56, _⟩ => ⟨S2x8x1x2048x1, .f32⟩
  | .hbm, ⟨57, _⟩ => ⟨S2x8x1x2048x2048, .f32⟩
  | .hbm, ⟨58, _⟩ => ⟨S2x8x1x2048x2048, .f32⟩
  | .hbm, ⟨59, _⟩ => ⟨S_, .f32⟩
  | .hbm, ⟨60, _⟩ => ⟨S2x8x2048, .f32⟩
  | .hbm, ⟨61, _⟩ => ⟨S2x8x1x2048, .f32⟩
  | .hbm, ⟨62, _⟩ => ⟨S2x8x1x2048x2048, .f32⟩
  | .hbm, ⟨63, _⟩ => ⟨S2x8x1x2048x2048, .f32⟩
  | .hbm, ⟨64, _⟩ => ⟨S2x8x1x2048x2048, .f32⟩
  | .hbm, ⟨65, _⟩ => ⟨S2x8x2048x2048x1, .f32⟩
  | .hbm, ⟨66, _⟩ => ⟨S2x8x2048x1x96, .f32⟩
  | .hbm, ⟨67, _⟩ => ⟨S2x2048x8x1x96, .f32⟩
  | .hbm, ⟨68, _⟩ => ⟨S2x8x2048x96, .f32⟩
  | .hbm, ⟨69, _⟩ => ⟨S2x2048x8x96, .f32⟩
  | .hbm, ⟨70, _⟩ => ⟨S4096x8x96, .f32⟩
  | .hbm, ⟨71, _⟩ => ⟨S_, .i32⟩
  | .hbm, ⟨72, _⟩ => ⟨S_, .f32⟩
  | .hbm, ⟨73, _⟩ => ⟨S4096x8x128, .f32⟩
  | .hbm, ⟨74, _⟩ => ⟨S4096x1024, .f32⟩
  | .hbm, ⟨75, _⟩ => ⟨S4096x1024, .bf16⟩
  | .hbm, ⟨76, _⟩ => ⟨S4096x8x96, .f32⟩
  | .hbm, ⟨77, _⟩ => ⟨S_, .i32⟩
  | .hbm, ⟨78, _⟩ => ⟨S_, .f32⟩
  | .hbm, ⟨79, _⟩ => ⟨S4096x8x128, .f32⟩
  | .hbm, ⟨80, _⟩ => ⟨S4096x1024, .f32⟩
  | .hbm, ⟨81, _⟩ => ⟨S4096x1024, .bf16⟩
  | .hbm, ⟨82, _⟩ => ⟨S4096x8x64, .f32⟩
  | .hbm, ⟨83, _⟩ => ⟨S_, .i32⟩
  | .hbm, ⟨84, _⟩ => ⟨S_, .f32⟩
  | .hbm, ⟨85, _⟩ => ⟨S4096x8x128, .f32⟩
  | .hbm, ⟨86, _⟩ => ⟨S4096x1024, .f32⟩
  | .hbm, ⟨87, _⟩ => ⟨S4096x1024, .bf16⟩
  | _, _ => ⟨S2x2048x8x1x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c : Ref sig .tc := ⟨.hbm, 71, rfl⟩
abbrev main_call0_v0 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_c_11 : Ref sig .tc := ⟨.hbm, 77, rfl⟩
abbrev main_call1_v0 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c_12 : Ref sig .tc := ⟨.hbm, 83, rfl⟩
abbrev main_call2_v0 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== In.lean ====
abbrev S2x2048x1024 : Shape := ⟨3, ![2, 2048, 1024]⟩
abbrev S2x2048x3232 : Shape := ⟨3, ![2, 2048, 3232]⟩
abbrev S1x1024 : Shape := ⟨2, ![1, 1024]⟩
abbrev S1x1024x3232 : Shape := ⟨3, ![1, 1024, 3232]⟩
abbrev S1024x3232 : Shape := ⟨2, ![1024, 3232]⟩
abbrev S3232x1024 : Shape := ⟨2, ![3232, 1024]⟩
abbrev S_ : Shape := ⟨0, ![]⟩
abbrev S64x1024 : Shape := ⟨2, ![64, 1024]⟩
abbrev S32x1024 : Shape := ⟨2, ![32, 1024]⟩
abbrev S1024x1024 : Shape := ⟨2, ![1024, 1024]⟩
abbrev S512x1024 : Shape := ⟨2, ![512, 1024]⟩
abbrev S8x64x1024 : Shape := ⟨3, ![8, 64, 1024]⟩
abbrev S8x128x1024 : Shape := ⟨3, ![8, 128, 1024]⟩
abbrev S256x1024 : Shape := ⟨2, ![256, 1024]⟩
abbrev S128x1024 : Shape := ⟨2, ![128, 1024]⟩
abbrev S2x64x1024 : Shape := ⟨3, ![2, 64, 1024]⟩
abbrev S2x128x1024 : Shape := ⟨3, ![2, 128, 1024]⟩
abbrev S4096x1024 : Shape := ⟨2, ![4096, 1024]⟩
abbrev S4096x3232 : Shape := ⟨2, ![4096, 3232]⟩
abbrev S4096x64 : Shape := ⟨2, ![4096, 64]⟩
abbrev S4096x32 : Shape := ⟨2, ![4096, 32]⟩
abbrev S4096x512 : Shape := ⟨2, ![4096, 512]⟩
abbrev S4096x8x64 : Shape := ⟨3, ![4096, 8, 64]⟩
abbrev S4096x8x128 : Shape := ⟨3, ![4096, 8, 128]⟩
abbrev S4096x256 : Shape := ⟨2, ![4096, 256]⟩
abbrev S4096x128 : Shape := ⟨2, ![4096, 128]⟩
abbrev S4096x2x64 : Shape := ⟨3, ![4096, 2, 64]⟩
abbrev S4096x2x128 : Shape := ⟨3, ![4096, 2, 128]⟩
abbrev S4096x4096 : Shape := ⟨2, ![4096, 4096]⟩
abbrev S512x4096 : Shape := ⟨2, ![512, 4096]⟩
abbrev S512 : Shape := ⟨1, ![512]⟩
abbrev S512x1 : Shape := ⟨2, ![512, 1]⟩
abbrev S1024 : Shape := ⟨1, ![1024]⟩

abbrev nBuf : Space → Nat
  | .hbm => 70
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x3232, .f32⟩
  | .hbm, ⟨3, _⟩ => ⟨S1x1024, .f32⟩
  | .hbm, ⟨4, _⟩ => ⟨S1x1024x3232, .f32⟩
  | .hbm, ⟨5, _⟩ => ⟨S1024x3232, .f32⟩
  | .hbm, ⟨6, _⟩ => ⟨S3232x1024, .f32⟩
  | .hbm, ⟨7, _⟩ => ⟨S3232x1024, .bf16⟩
  | .hbm, ⟨8, _⟩ => ⟨S_, .bf16⟩
  | .hbm, ⟨9, _⟩ => ⟨S64x1024, .bf16⟩
  | .hbm, ⟨10, _⟩ => ⟨S_, .bf16⟩
  | .hbm, ⟨11, _⟩ => ⟨S32x1024, .bf16⟩
  | .hbm, ⟨12, _⟩ => ⟨S1024x1024, .bf16⟩
  | .hbm, ⟨13, _⟩ => ⟨S1024x1024, .bf16⟩
  | .hbm, ⟨14, _⟩ => ⟨S512x1024, .bf16⟩
  | .hbm, ⟨15, _⟩ => ⟨S8x64x1024, .bf16⟩
  | .hbm, ⟨16, _⟩ => ⟨S_, .i32⟩
  | .hbm, ⟨17, _⟩ => ⟨S_, .bf16⟩
  | .hbm, ⟨18, _⟩ => ⟨S8x128x1024, .bf16⟩
  | .hbm, ⟨19, _⟩ => ⟨S1024x1024, .bf16⟩
  | .hbm, ⟨20, _⟩ => ⟨S256x1024, .bf16⟩
  | .hbm, ⟨21, _⟩ => ⟨S128x1024, .bf16⟩
  | .hbm, ⟨22, _⟩ => ⟨S2x64x1024, .bf16⟩
  | .hbm, ⟨23, _⟩ => ⟨S_, .i32⟩
  | .hbm, ⟨24, _⟩ => ⟨S_, .bf16⟩
  | .hbm, ⟨25, _⟩ => ⟨S2x128x1024, .bf16⟩
  | .hbm, ⟨26, _⟩ => ⟨S256x1024, .bf16⟩
  | .hbm, ⟨27, _⟩ => ⟨S128x1024, .bf16⟩
  | .hbm, ⟨28, _⟩ => ⟨S2x64x1024, .bf16⟩
  | .hbm, ⟨29, _⟩ => ⟨S_, .i32⟩
  | .hbm, ⟨30, _⟩ => ⟨S_, .bf16⟩
  | .hbm, ⟨31, _⟩ => ⟨S2x128x1024, .bf16⟩
  | .hbm, ⟨32, _⟩ => ⟨S256x1024, .bf16⟩
  | .hbm, ⟨33, _⟩ => ⟨S128x1024, .bf16⟩
  | .hbm, ⟨34, _⟩ => ⟨S32x1024, .bf16⟩
  | .hbm, ⟨35, _⟩ => ⟨S4096x1024, .bf16⟩
  | .hbm, ⟨36, _⟩ => ⟨S4096x3232, .f32⟩
  | .hbm, ⟨37, _⟩ => ⟨S4096x3232, .bf16⟩
  | .hbm, ⟨38, _⟩ => ⟨S_, .bf16⟩
  | .hbm, ⟨39, _⟩ => ⟨S4096x64, .bf16⟩
  | .hbm, ⟨40, _⟩ => ⟨S_, .bf16⟩
  | .hbm, ⟨41, _⟩ => ⟨S4096x32, .bf16⟩
  | .hbm, ⟨42, _⟩ => ⟨S4096x1024, .bf16⟩
  | .hbm, ⟨43, _⟩ => ⟨S4096x1024, .bf16⟩
  | .hbm, ⟨44, _⟩ => ⟨S4096x512, .bf16⟩
  | .hbm, ⟨45, _⟩ => ⟨S4096x8x64, .bf16⟩
  | .hbm, ⟨46, _⟩ => ⟨S_, .i32⟩
  | .hbm, ⟨47, _⟩ => ⟨S_, .bf16⟩
  | .hbm, ⟨48, _⟩ => ⟨S4096x8x128, .bf16⟩
  | .hbm, ⟨49, _⟩ => ⟨S4096x1024, .bf16⟩
  | .hbm, ⟨50, _⟩ => ⟨S4096x256, .bf16⟩
  | .hbm, ⟨51, _⟩ => ⟨S4096x128, .bf16⟩
  | .hbm, ⟨52, _⟩ => ⟨S4096x2x64, .bf16⟩
  | .hbm, ⟨53, _⟩ => ⟨S_, .i32⟩
  | .hbm, ⟨54, _⟩ => ⟨S_, .bf16⟩
  | .hbm, ⟨55, _⟩ => ⟨S4096x2x128, .bf16⟩
  | .hbm, ⟨56, _⟩ => ⟨S4096x256, .bf16⟩
  | .hbm, ⟨57, _⟩ => ⟨S4096x128, .bf16⟩
  | .hbm, ⟨58, _⟩ => ⟨S4096x2x64, .bf16⟩
  | .hbm, ⟨59, _⟩ => ⟨S_, .i32⟩
  | .hbm, ⟨60, _⟩ => ⟨S_, .bf16⟩
  | .hbm, ⟨61, _⟩ => ⟨S4096x2x128, .bf16⟩
  | .hbm, ⟨62, _⟩ => ⟨S4096x256, .bf16⟩
  | .hbm, ⟨63, _⟩ => ⟨S4096x128, .bf16⟩
  | .hbm, ⟨64, _⟩ => ⟨S4096x32, .bf16⟩
  | .hbm, ⟨65, _⟩ => ⟨S4096x4096, .bf16⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S4096x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_call1_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_call2_v0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_call3_v0 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_6 : Ref sig .tc := ⟨.hbm, 53, rfl⟩
abbrev main_call4_v0 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_7 : Ref sig .tc := ⟨.hbm, 59, rfl⟩
abbrev main_call5_v0 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47_0 : Ref sig .tc := ⟨.hbm, 68, rfl⟩
abbrev main_v47_1 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InRefIdeal.lean ====
abbrev S2x2048x1024 : Shape := ⟨3, ![2, 2048, 1024]⟩
abbrev S2x2048x3232 : Shape := ⟨3, ![2, 2048, 3232]⟩
abbrev S1x1024 : Shape := ⟨2, ![1, 1024]⟩
abbrev S1x1024x3232 : Shape := ⟨3, ![1, 1024, 3232]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x3232 : Shape := ⟨2, ![1024, 3232]⟩
abbrev S4096x1024 : Shape := ⟨2, ![4096, 1024]⟩

abbrev nBuf : Space → Nat
  | .hbm => 57
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x3232, .f32⟩
  | .hbm, ⟨3, _⟩ => ⟨S1x1024, .f32⟩
  | .hbm, ⟨4, _⟩ => ⟨S1x1024x3232, .f32⟩
  | .hbm, ⟨5, _⟩ => ⟨S1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1024, .f32⟩
  | .hbm, ⟨22, _⟩ => ⟨S2x2048x1024, .f32⟩
  | .hbm, ⟨23, _⟩ => ⟨S1x1x1024, .f32⟩
  | .hbm, ⟨24, _⟩ => ⟨S2x2048x1024, .f32⟩
  | .hbm, ⟨25, _⟩ => ⟨S2x2048x1024, .f32⟩
  | .hbm, ⟨26, _⟩ => ⟨S1024x3232, .f32⟩
  | .hbm, ⟨27, _⟩ => ⟨S2x2048x3232, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S1024, .f32⟩
  | .hbm, ⟨32, _⟩ => ⟨S1x1x1024, .f32⟩
  | .hbm, ⟨33, _⟩ => ⟨S2x2048x1024, .f32⟩
  | .hbm, ⟨34, _⟩ => ⟨S2x2048x1024, .f32⟩
  | .hbm, ⟨35, _⟩ => ⟨S_, .f32⟩
  | .hbm, ⟨36, _⟩ => ⟨S1024, .f32⟩
  | .hbm, ⟨37, _⟩ => ⟨S2x2048x1024, .f32⟩
  | .hbm, ⟨38, _⟩ => ⟨S_, .f32⟩
  | .hbm, ⟨39, _⟩ => ⟨S2x2048, .f32⟩
  | .hbm, ⟨40, _⟩ => ⟨S2x2048x1, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S2x2048x1, .f32⟩
  | .hbm, ⟨45, _⟩ => ⟨S_, .f32⟩
  | .hbm, ⟨46, _⟩ => ⟨S2x2048x1, .f32⟩
  | .hbm, ⟨47, _⟩ => ⟨S2x2048x1, .f32⟩
  | .hbm, ⟨48, _⟩ => ⟨S_, .f32⟩
  | .hbm, ⟨49, _⟩ => ⟨S2x2048, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S2x2048x1024, .f32⟩
  | .hbm, ⟨54, _⟩ => ⟨S2x2048x1024, .f32⟩
  | .hbm, ⟨55, _⟩ => ⟨S1x1024, .f32⟩
  | .hbm, ⟨56, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Mlp.lean ====
abbrev S2x2048x1024 : Shape := ⟨3, ![2, 2048, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x4096 : Shape := ⟨2, ![1024, 4096]⟩
abbrev S2x2048x4096 : Shape := ⟨3, ![2, 2048, 4096]⟩
abbrev S4096x1024 : Shape := ⟨2, ![4096, 1024]⟩
abbrev S4096x4096 : Shape := ⟨2, ![4096, 4096]⟩
abbrev S8x512x1024 : Shape := ⟨3, ![8, 512, 1024]⟩
abbrev S8x1024x1024 : Shape := ⟨3, ![8, 1024, 1024]⟩
abbrev S512x1024 : Shape := ⟨2, ![512, 1024]⟩
abbrev S512x4096 : Shape := ⟨2, ![512, 4096]⟩
abbrev S2x512x1024 : Shape := ⟨3, ![2, 512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 44
  | .vmem => 18
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1x1024, .f32⟩
  | .hbm, ⟨3, _⟩ => ⟨S1x1024x4096, .f32⟩
  | .hbm, ⟨4, _⟩ => ⟨S1x4096x1024, .f32⟩
  | .hbm, ⟨5, _⟩ => ⟨S1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1024, .f32⟩
  | .hbm, ⟨18, _⟩ => ⟨S2x2048x1024, .f32⟩
  | .hbm, ⟨19, _⟩ => ⟨S1x1x1024, .f32⟩
  | .hbm, ⟨20, _⟩ => ⟨S2x2048x1024, .f32⟩
  | .hbm, ⟨21, _⟩ => ⟨S2x2048x1024, .f32⟩
  | .hbm, ⟨22, _⟩ => ⟨S1024x4096, .f32⟩
  | .hbm, ⟨23, _⟩ => ⟨S2x2048x4096, .f32⟩
  | .hbm, ⟨24, _⟩ => ⟨S_, .f32⟩
  | .hbm, ⟨25, _⟩ => ⟨S2x2048x4096, .f32⟩
  | .hbm, ⟨26, _⟩ => ⟨S2x2048x4096, .f32⟩
  | .hbm, ⟨27, _⟩ => ⟨S2x2048x4096, .bf16⟩
  | .hbm, ⟨28, _⟩ => ⟨S4096x1024, .f32⟩
  | .hbm, ⟨29, _⟩ => ⟨S4096x1024, .f32⟩
  | .hbm, ⟨30, _⟩ => ⟨S4096x4096, .bf16⟩
  | .hbm, ⟨31, _⟩ => ⟨S1024x4096, .f32⟩
  | .hbm, ⟨32, _⟩ => ⟨S4096x1024, .f32⟩
  | .hbm, ⟨33, _⟩ => ⟨S8x512x1024, .f32⟩
  | .hbm, ⟨34, _⟩ => ⟨S8x512x1024, .bf16⟩
  | .hbm, ⟨35, _⟩ => ⟨S4096x1024, .f32⟩
  | .hbm, ⟨36, _⟩ => ⟨S8x512x1024, .f32⟩
  | .hbm, ⟨37, _⟩ => ⟨S8x512x1024, .bf16⟩
  | .hbm, ⟨38, _⟩ => ⟨S8x1024x1024, .bf16⟩
  | .hbm, ⟨39, _⟩ => ⟨S4096x1024, .f32⟩
  | .hbm, ⟨40, _⟩ => ⟨S4096x4096, .bf16⟩
  | .hbm, ⟨41, _⟩ => ⟨S4096x1024, .bf16⟩
  | .hbm, ⟨42, _⟩ => ⟨S1x1024, .f32⟩
  | .hbm, ⟨43, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x4096, .bf16⟩
  | .local _ .vmem, ⟨5, _⟩ => ⟨S512x4096, .bf16⟩
  | .local _ .vmem, ⟨6, _⟩ => ⟨S1x1024, .f32⟩
  | .local _ .vmem, ⟨7, _⟩ => ⟨S8x512x1024, .bf16⟩
  | .local _ .vmem, ⟨8, _⟩ => ⟨S8x512x1024, .bf16⟩
  | .local _ .vmem, ⟨9, _⟩ => ⟨S512x1024, .f32⟩
  | .local _ .vmem, ⟨10, _⟩ => ⟨S512x1024, .f32⟩
  | .local _ .vmem, ⟨11, _⟩ => ⟨S512x4096, .bf16⟩
  | .local _ .vmem, ⟨12, _⟩ => ⟨S512x4096, .bf16⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29_0 : Ref sig .tc := ⟨.hbm, 39, rfl⟩
abbrev main_v29_1 : Ref sig .tc := ⟨.hbm, 40, rfl⟩
abbrev main_v29_2 : Ref sig .tc := ⟨.hbm, 41, rfl⟩
abbrev main_v29_3 : Ref sig .tc := ⟨.hbm, 42, rfl⟩
abbrev main_v29_4 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MlpRefIdeal.lean ====
abbrev S2x2048x1024 : Shape := ⟨3, ![2, 2048, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x4096 : Shape := ⟨2, ![1024, 4096]⟩
abbrev S2x2048x4096 : Shape := ⟨3, ![2, 2048, 4096]⟩
abbrev S4096x1024 : Shape := ⟨2, ![4096, 1024]⟩
abbrev S4096x4096 : Shape := ⟨2, ![4096, 4096]⟩

abbrev nBuf : Space → Nat
  | .hbm => 100
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1x1024, .f32⟩
  | .hbm, ⟨3, _⟩ => ⟨S1x1024x4096, .f32⟩
  | .hbm, ⟨4, _⟩ => ⟨S1x4096x1024, .f32⟩
  | .hbm, ⟨5, _⟩ => ⟨S1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1024, .f32⟩
  | .hbm, ⟨22, _⟩ => ⟨S2x2048x1024, .f32⟩
  | .hbm, ⟨23, _⟩ => ⟨S1x1x1024, .f32⟩
  | .hbm, ⟨24, _⟩ => ⟨S2x2048x1024, .f32⟩
  | .hbm, ⟨25, _⟩ => ⟨S2x2048x1024, .f32⟩
  | .hbm, ⟨26, _⟩ => ⟨S1024x4096, .f32⟩
  | .hbm, ⟨27, _⟩ => ⟨S2x2048x4096, .f32⟩
  | .hbm, ⟨28, _⟩ => ⟨S_, .f32⟩
  | .hbm, ⟨29, _⟩ => ⟨S2x2048x4096, .f32⟩
  | .hbm, ⟨30, _⟩ => ⟨S2x2048x4096, .f32⟩
  | .hbm, ⟨31, _⟩ => ⟨S_, .f32⟩
  | .hbm, ⟨32, _⟩ => ⟨S2x2048x4096, .f32⟩
  | .hbm, ⟨33, _⟩ => ⟨S2x2048x4096, .i1⟩
  | .hbm, ⟨34, _⟩ => ⟨S_, .f32⟩
  | .hbm, ⟨35, _⟩ => ⟨S2x2048x4096, .f32⟩
  | .hbm, ⟨36, _⟩ => ⟨S2x2048x4096, .f32⟩
  | .hbm, ⟨37, _⟩ => ⟨S4096x1024, .f32⟩
  | .hbm, ⟨38, _⟩ => ⟨S2x2048x1024, .f32⟩
  | .hbm, ⟨39, _⟩ => ⟨S2x2048x1024, .f32⟩
  | .hbm, ⟨40, _⟩ => ⟨S2x2048x1024, .f32⟩
  | .hbm, ⟨41, _⟩ => ⟨S2x2048x4096, .f32⟩
  | .hbm, ⟨42, _⟩ => ⟨S2x2048x4096, .f32⟩
  | .hbm, ⟨43, _⟩ => ⟨S2x2048x4096, .f32⟩
  | .hbm, ⟨44, _⟩ => ⟨S2x2048x4096, .f32⟩
  | .hbm, ⟨45, _⟩ => ⟨S_, .f32⟩
  | .hbm, ⟨46, _⟩ => ⟨S2x2048x4096, .f32⟩
  | .hbm, ⟨47, _⟩ => ⟨S2x2048x4096, .f32⟩
  | .hbm, ⟨48, _⟩ => ⟨S2x2048x1024, .f32⟩
  | .hbm, ⟨49, _⟩ => ⟨S2x2048x1024, .f32⟩
  | .hbm, ⟨50, _⟩ => ⟨S_, .f32⟩
  | .hbm, ⟨51, _⟩ => ⟨S1024, .f32⟩
  | .hbm, ⟨52, _⟩ => ⟨S1x1x1024, .f32⟩
  | .hbm, ⟨53, _⟩ => ⟨S2x2048x1024, .f32⟩
  | .hbm, ⟨54, _⟩ => ⟨S2x2048x1024, .f32⟩
  | .hbm, ⟨55, _⟩ => ⟨S_, .f32⟩
  | .hbm, ⟨56, _⟩ => ⟨S1024, .f32⟩
  | .hbm, ⟨57, _⟩ => ⟨S2x2048x1024, .f32⟩
  | .hbm, ⟨58, _⟩ => ⟨S_, .f32⟩
  | .hbm, ⟨59, _⟩ => ⟨S2x2048, .f32⟩
  | .hbm, ⟨60, _⟩ => ⟨S2x2048x1, .f32⟩
  | .hbm, ⟨61, _⟩ => ⟨S2x2048x1024, .f32⟩
  | .hbm, ⟨62, _⟩ => ⟨S2x2048x1024, .f32⟩
  | .hbm, ⟨63, _⟩ => ⟨S2x2048x1024, .f32⟩
  | .hbm, ⟨64, _⟩ => ⟨S2x2048x1, .f32⟩
  | .hbm, ⟨65, _⟩ => ⟨S_, .f32⟩
  | .hbm, ⟨66, _⟩ => ⟨S2x2048x1, .f32⟩
  | .hbm, ⟨67, _⟩ => ⟨S2x2048x1, .f32⟩
  | .hbm, ⟨68, _⟩ => ⟨S_, .f32⟩
  | .hbm, ⟨69, _⟩ => ⟨S2x2048, .f32⟩
  | .hbm, ⟨70, _⟩ => ⟨S2x2048x1024, .f32⟩
  | .hbm, ⟨71, _⟩ => ⟨S2x2048x1024, .f32⟩
  | .hbm, ⟨72, _⟩ => ⟨S2x2048x1024, .f32⟩
  | .hbm, ⟨73, _⟩ => ⟨S2x2048x1024, .f32⟩
  | .hbm, ⟨74, _⟩ => ⟨S2x2048x1024, .f32⟩
  | .hbm, ⟨75, _⟩ => ⟨S1x1024, .f32⟩
  | .hbm, ⟨76, _⟩ => ⟨S1024, .f32⟩
  | .hbm, ⟨77, _⟩ => ⟨S2x2048x1024, .f32⟩
  | .hbm, ⟨78, _⟩ => ⟨S_, .f32⟩
  | .hbm, ⟨79, _⟩ => ⟨S2x2048, .f32⟩
  | .hbm, ⟨80, _⟩ => ⟨S2x2048x1, .f32⟩
  | .hbm, ⟨81, _⟩ => ⟨S_, .f32⟩
  | .hbm, ⟨82, _⟩ => ⟨S2x2048x1, .f32⟩
  | .hbm, ⟨83, _⟩ => ⟨S2x2048x1, .f32⟩
  | .hbm, ⟨84, _⟩ => ⟨S_, .f32⟩
  | .hbm, ⟨85, _⟩ => ⟨S2x2048x1, .f32⟩
  | .hbm, ⟨86, _⟩ => ⟨S2x2048x1, .f32⟩
  | .hbm, ⟨87, _⟩ => ⟨S2x2048x1, .f32⟩
  | .hbm, ⟨88, _⟩ => ⟨S2x2048x1024, .f32⟩
  | .hbm, ⟨89, _⟩ => ⟨S2x2048x1024, .f32⟩
  | .hbm, ⟨90, _⟩ => ⟨S1x1x1024, .f32⟩
  | .hbm, ⟨91, _⟩ => ⟨S2x2048x1024, .f32⟩
  | .hbm, ⟨92, _⟩ => ⟨S2x2048x1024, .f32⟩
  | .hbm, ⟨93, _⟩ => ⟨S4096x1024, .f32⟩
  | .hbm, ⟨94, _⟩ => ⟨S4096x4096, .f32⟩
  | .hbm, ⟨95, _⟩ => ⟨S4096x4096, .bf16⟩
  | .hbm, ⟨96, _⟩ => ⟨S4096x1024, .f32⟩
  | .hbm, ⟨97, _⟩ => ⟨S4096x1024, .bf16⟩
  | .hbm, ⟨98, _⟩ => ⟨S4096x1024, .f32⟩
  | .hbm, ⟨99, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩
abbrev main_cst_12 : Ref sig .tc := ⟨.hbm, 81, rfl⟩
abbrev main_v61 : Ref sig .tc := ⟨.hbm, 82, rfl⟩
abbrev main_v62 : Ref sig .tc := ⟨.hbm, 83, rfl⟩
abbrev main_cst_13 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩

abbrev nD : Nat := 1
abbrev τ : Topo := Topo.v7x

variable {F : FTy → Type} [FloatOps F]
-- ==== Merge.lean ====
abbrev S2x2048x512 : Shape := ⟨3, ![2, 2048, 512]⟩
abbrev S2x2048x1024 : Shape := ⟨3, ![2, 2048, 1024]⟩
abbrev S1x1024x1024 : Shape := ⟨3, ![1, 1024, 1024]⟩
abbrev S1x512x1024 : Shape := ⟨3, ![1, 512, 1024]⟩
abbrev S1x256x1024 : Shape := ⟨3, ![1, 256, 1024]⟩
abbrev S1024x1024 : Shape := ⟨2, ![1024, 1024]⟩
abbrev S8x128x1024 : Shape := ⟨3, ![8, 128, 1024]⟩
abbrev S512x1024 : Shape := ⟨2, ![512, 1024]⟩
abbrev S1024x512 : Shape := ⟨2, ![1024, 512]⟩
abbrev S8x64x1024 : Shape := ⟨3, ![8, 64, 1024]⟩
abbrev S256x1024 : Shape := ⟨2, ![256, 1024]⟩
abbrev S1024x256 : Shape := ⟨2, ![1024, 256]⟩
abbrev S8x32x1024 : Shape := ⟨3, ![8, 32, 1024]⟩
abbrev S8x416x1024 : Shape := ⟨3, ![8, 416, 1024]⟩
abbrev S1024x8x64 : Shape := ⟨3, ![1024, 8, 64]⟩
abbrev S_ : Shape := ⟨0, ![]⟩
abbrev S1024x8x128 : Shape := ⟨3, ![1024, 8, 128]⟩
abbrev S2x2048x2048 : Shape := ⟨3, ![2, 2048, 2048]⟩
abbrev S4096x2048 : Shape := ⟨2, ![4096, 2048]⟩
abbrev S4096x1024 : Shape := ⟨2, ![4096, 1024]⟩
abbrev S4096x4096 : Shape := ⟨2, ![4096, 4096]⟩
abbrev S512x2048 : Shape := ⟨2, ![512, 2048]⟩

abbrev nBuf : Space → Nat
  | .hbm => 60
  | .vmem => 21
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S1x1024x1024, .f32⟩
  | .hbm, ⟨6, _⟩ => ⟨S1x1024x1024, .f32⟩
  | .hbm, ⟨7, _⟩ => ⟨S1x512x1024, .f32⟩
  | .hbm, ⟨8, _⟩ => ⟨S1x512x1024, .f32⟩
  | .hbm, ⟨9, _⟩ => ⟨S1x256x1024, .f32⟩
  | .hbm, ⟨10, _⟩ => ⟨S1024x1024, .f32⟩
  | .hbm, ⟨11, _⟩ => ⟨S8x128x1024, .f32⟩
  | .hbm, ⟨12, _⟩ => ⟨S8x128x1024, .bf16⟩
  | .hbm, ⟨13, _⟩ => ⟨S1024x1024, .f32⟩
  | .hbm, ⟨14, _⟩ => ⟨S8x128x1024, .f32⟩
  | .hbm, ⟨15, _⟩ => ⟨S8x128x1024, .bf16⟩
  | .hbm, ⟨16, _⟩ => ⟨S512x1024, .f32⟩
  | .hbm, ⟨17, _⟩ => ⟨S1024x512, .f32⟩
  | .hbm, ⟨18, _⟩ => ⟨S8x64x1024, .f32⟩
  | .hbm, ⟨19, _⟩ => ⟨S8x64x1024, .bf16⟩
  | .hbm, ⟨20, _⟩ => ⟨S512x1024, .f32⟩
  | .hbm, ⟨21, _⟩ => ⟨S1024x512, .f32⟩
  | .hbm, ⟨22, _⟩ => ⟨S8x64x1024, .f32⟩
  | .hbm, ⟨23, _⟩ => ⟨S8x64x1024, .bf16⟩
  | .hbm, ⟨24, _⟩ => ⟨S256x1024, .f32⟩
  | .hbm, ⟨25, _⟩ => ⟨S1024x256, .f32⟩
  | .hbm, ⟨26, _⟩ => ⟨S8x32x1024, .f32⟩
  | .hbm, ⟨27, _⟩ => ⟨S8x32x1024, .bf16⟩
  | .hbm, ⟨28, _⟩ => ⟨S8x416x1024, .bf16⟩
  | .hbm, ⟨29, _⟩ => ⟨S8x64x1024, .bf16⟩
  | .hbm, ⟨30, _⟩ => ⟨S1024x512, .bf16⟩
  | .hbm, ⟨31, _⟩ => ⟨S1024x8x64, .bf16⟩
  | .hbm, ⟨32, _⟩ => ⟨S_, .i32⟩
  | .hbm, ⟨33, _⟩ => ⟨S_, .bf16⟩
  | .hbm, ⟨34, _⟩ => ⟨S1024x8x128, .bf16⟩
  | .hbm, ⟨35, _⟩ => ⟨S1024x1024, .bf16⟩
  | .hbm, ⟨36, _⟩ => ⟨S8x64x1024, .bf16⟩
  | .hbm, ⟨37, _⟩ => ⟨S1024x512, .bf16⟩
  | .hbm, ⟨38, _⟩ => ⟨S1024x8x64, .bf16⟩
  | .hbm, ⟨39, _⟩ => ⟨S_, .i32⟩
  | .hbm, ⟨40, _⟩ => ⟨S_, .bf16⟩
  | .hbm, ⟨41, _⟩ => ⟨S1024x8x128, .bf16⟩
  | .hbm, ⟨42, _⟩ => ⟨S1024x1024, .bf16⟩
  | .hbm, ⟨43, _⟩ => ⟨S512x1024, .f32⟩
  | .hbm, ⟨44, _⟩ => ⟨S2x2048x1024, .f32⟩
  | .hbm, ⟨45, _⟩ => ⟨S512x1024, .f32⟩
  | .hbm, ⟨46, _⟩ => ⟨S2x2048x1024, .f32⟩
  | .hbm, ⟨47, _⟩ => ⟨S2x2048x2048, .f32⟩
  | .hbm, ⟨48, _⟩ => ⟨S4096x2048, .f32⟩
  | .hbm, ⟨49, _⟩ => ⟨S4096x2048, .bf16⟩
  | .hbm, ⟨50, _⟩ => ⟨S2x2048x2048, .f32⟩
  | .hbm, ⟨51, _⟩ => ⟨S4096x2048, .f32⟩
  | .hbm, ⟨52, _⟩ => ⟨S4096x2048, .bf16⟩
  | .hbm, ⟨53, _⟩ => ⟨S4096x1024, .f32⟩
  | .hbm, ⟨54, _⟩ => ⟨S4096x1024, .bf16⟩
  | .hbm, ⟨55, _⟩ => ⟨S4096x1024, .bf16⟩
  | .hbm, ⟨56, _⟩ => ⟨S4096x1024, .bf16⟩
  | .hbm, ⟨57, _⟩ => ⟨S4096x4096, .bf16⟩
  | .hbm, ⟨58, _⟩ => ⟨S4096x1024, .bf16⟩
  | .hbm, ⟨59, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1024x1024, .bf16⟩
  | .local _ .vmem, ⟨10, _⟩ => ⟨S8x128x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x2048, .bf16⟩
  | .local _ .vmem, ⟨16, _⟩ => ⟨S512x2048, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c : Ref sig .tc := ⟨.hbm, 32, rfl⟩
abbrev main_call0_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_0 : Ref sig .tc := ⟨.hbm, 39, rfl⟩
abbrev main_call1_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41_0 : Ref sig .tc := ⟨.hbm, 55, rfl⟩
abbrev main_v41_1 : Ref sig .tc := ⟨.hbm, 56, rfl⟩
abbrev main_v41_2 : Ref sig .tc := ⟨.hbm, 57, rfl⟩
abbrev main_v41_3 : Ref sig .tc := ⟨.hbm, 58, rfl⟩
abbrev main_v41_4 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S2x2048x512 : Shape := ⟨3, ![2, 2048, 512]⟩
abbrev S2x2048x1024 : Shape := ⟨3, ![2, 2048, 1024]⟩
abbrev S1x1024x1024 : Shape := ⟨3, ![1, 1024, 1024]⟩
abbrev S1x512x1024 : Shape := ⟨3, ![1, 512, 1024]⟩
abbrev S1x256x1024 : Shape := ⟨3, ![1, 256, 1024]⟩
abbrev S512x1024 : Shape := ⟨2, ![512, 1024]⟩
abbrev S_ : Shape := ⟨0, ![]⟩
abbrev S1024x1024 : Shape := ⟨2, ![1024, 1024]⟩
abbrev S2x2048x2048 : Shape := ⟨3, ![2, 2048, 2048]⟩
abbrev S4096x2048 : Shape := ⟨2, ![4096, 2048]⟩
abbrev S4096x4096 : Shape := ⟨2, ![4096, 4096]⟩
abbrev S4096x8x64 : Shape := ⟨3, ![4096, 8, 64]⟩
abbrev S4096x8x128 : Shape := ⟨3, ![4096, 8, 128]⟩
abbrev S4096x1024 : Shape := ⟨2, ![4096, 1024]⟩

abbrev nBuf : Space → Nat
  | .hbm => 74
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S1x1024x1024, .f32⟩
  | .hbm, ⟨6, _⟩ => ⟨S1x1024x1024, .f32⟩
  | .hbm, ⟨7, _⟩ => ⟨S1x512x1024, .f32⟩
  | .hbm, ⟨8, _⟩ => ⟨S1x512x1024, .f32⟩
  | .hbm, ⟨9, _⟩ => ⟨S1x256x1024, .f32⟩
  | .hbm, ⟨10, _⟩ => ⟨S512x1024, .f32⟩
  | .hbm, ⟨11, _⟩ => ⟨S2x2048x1024, .f32⟩
  | .hbm, ⟨12, _⟩ => ⟨S512x1024, .f32⟩
  | .hbm, ⟨13, _⟩ => ⟨S2x2048x1024, .f32⟩
  | .hbm, ⟨14, _⟩ => ⟨S2x2048x1024, .f32⟩
  | .hbm, ⟨15, _⟩ => ⟨S2x2048x1024, .f32⟩
  | .hbm, ⟨16, _⟩ => ⟨S_, .f32⟩
  | .hbm, ⟨17, _⟩ => ⟨S2x2048x1024, .f32⟩
  | .hbm, ⟨18, _⟩ => ⟨S2x2048x1024, .f32⟩
  | .hbm, ⟨19, _⟩ => ⟨S_, .f32⟩
  | .hbm, ⟨20, _⟩ => ⟨S2x2048x1024, .f32⟩
  | .hbm, ⟨21, _⟩ => ⟨S2x2048x1024, .f32⟩
  | .hbm, ⟨22, _⟩ => ⟨S_, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S2x2048x1024, .f32⟩
  | .hbm, ⟨27, _⟩ => ⟨S2x2048x1024, .f32⟩
  | .hbm, ⟨28, _⟩ => ⟨S2x2048x1024, .f32⟩
  | .hbm, ⟨29, _⟩ => ⟨S_, .f32⟩
  | .hbm, ⟨30, _⟩ => ⟨S2x2048x1024, .f32⟩
  | .hbm, ⟨31, _⟩ => ⟨S2x2048x1024, .f32⟩
  | .hbm, ⟨32, _⟩ => ⟨S_, .f32⟩
  | .hbm, ⟨33, _⟩ => ⟨S2x2048x1024, .f32⟩
  | .hbm, ⟨34, _⟩ => ⟨S2x2048x1024, .f32⟩
  | .hbm, ⟨35, _⟩ => ⟨S_, .f32⟩
  | .hbm, ⟨36, _⟩ => ⟨S2x2048x1024, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S2x2048x1024, .f32⟩
  | .hbm, ⟨41, _⟩ => ⟨S1024x1024, .f32⟩
  | .hbm, ⟨42, _⟩ => ⟨S2x2048x1024, .f32⟩
  | .hbm, ⟨43, _⟩ => ⟨S2x2048x1024, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S2x2048x1024, .f32⟩
  | .hbm, ⟨48, _⟩ => ⟨S2x2048x1024, .f32⟩
  | .hbm, ⟨49, _⟩ => ⟨S2x2048x1024, .f32⟩
  | .hbm, ⟨50, _⟩ => ⟨S2x2048x512, .f32⟩
  | .hbm, ⟨51, _⟩ => ⟨S2x2048x512, .f32⟩
  | .hbm, ⟨52, _⟩ => ⟨S2x2048x2048, .f32⟩
  | .hbm, ⟨53, _⟩ => ⟨S4096x2048, .f32⟩
  | .hbm, ⟨54, _⟩ => ⟨S4096x2048, .bf16⟩
  | .hbm, ⟨55, _⟩ => ⟨S_, .i32⟩
  | .hbm, ⟨56, _⟩ => ⟨S_, .bf16⟩
  | .hbm, ⟨57, _⟩ => ⟨S4096x4096, .bf16⟩
  | .hbm, ⟨58, _⟩ => ⟨S4096x8x64, .f32⟩
  | .hbm, ⟨59, _⟩ => ⟨S_, .i32⟩
  | .hbm, ⟨60, _⟩ => ⟨S_, .f32⟩
  | .hbm, ⟨61, _⟩ => ⟨S4096x8x128, .f32⟩
  | .hbm, ⟨62, _⟩ => ⟨S4096x1024, .f32⟩
  | .hbm, ⟨63, _⟩ => ⟨S4096x1024, .bf16⟩
  | .hbm, ⟨64, _⟩ => ⟨S4096x8x64, .f32⟩
  | .hbm, ⟨65, _⟩ => ⟨S_, .i32⟩
  | .hbm, ⟨66, _⟩ => ⟨S_, .f32⟩
  | .hbm, ⟨67, _⟩ => ⟨S4096x8x128, .f32⟩
  | .hbm, ⟨68, _⟩ => ⟨S4096x1024, .f32⟩
  | .hbm, ⟨69, _⟩ => ⟨S4096x1024, .bf16⟩
  | .hbm, ⟨70, _⟩ => ⟨S4096x1024, .f32⟩
  | .hbm, ⟨71, _⟩ => ⟨S4096x1024, .bf16⟩
  | .hbm, ⟨72, _⟩ => ⟨S4096x1024, .f32⟩
  | .hbm, ⟨73, _⟩ => ⟨S4096x1024, .bf16⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c : Ref sig .tc := ⟨.hbm, 55, rfl⟩
abbrev main_call0_v0 : Ref sig .tc := ⟨.hbm, 56, rfl⟩
abbrev main_v39 : Ref sig .tc := ⟨.hbm, 57, rfl⟩
abbrev main_v40 : Ref sig .tc := ⟨.hbm, 58, rfl⟩
abbrev main_c_5 : Ref sig .tc := ⟨.hbm, 59, rfl⟩
abbrev main_call1_v0 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_6 : Ref sig .tc := ⟨.hbm, 65, rfl⟩
abbrev main_call2_v0 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩

abbrev nD : Nat := 1
abbrev τ : Topo := Topo.v7x

variable {F : FTy → Type} [FloatOps F]
-- ==== FwdA.lean ====
abbrev S2x2048x8x1x96 : Shape := ⟨5, ![2, 2048, 8, 1, 96]⟩
abbrev S2x2048x8x96 : Shape := ⟨4, ![2, 2048, 8, 96]⟩
abbrev S2x2048x8x64 : Shape := ⟨4, ![2, 2048, 8, 64]⟩
abbrev S4096x768 : Shape := ⟨2, ![4096, 768]⟩
abbrev S4096x8x96 : Shape := ⟨3, ![4096, 8, 96]⟩
abbrev S_ : Shape := ⟨0, ![]⟩
abbrev S4096x8x128 : Shape := ⟨3, ![4096, 8, 128]⟩
abbrev S4096x1024 : Shape := ⟨2, ![4096, 1024]⟩
abbrev S4096x512 : Shape := ⟨2, ![4096, 512]⟩
abbrev S4096x8x64 : Shape := ⟨3, ![4096, 8, 64]⟩
abbrev S2048x128 : Shape := ⟨2, ![2048, 128]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩

abbrev nBuf : Space → Nat
  | .hbm => 26
  | .vmem => 10
  | .smem => 0
  | _ => 0

abbrev bufTy : (tb : Table) → Fin (tcTables nBuf tb) → BufTy
  | .hbm, ⟨0, _⟩ => ⟨S2x2048x8x1x96, .f32⟩
  | .hbm, ⟨1, _⟩ => ⟨S2x2048x8x96, .f32⟩
  | .hbm, ⟨2, _⟩ => ⟨S2x2048x8x64, .f32⟩
  | .hbm, ⟨3, _⟩ => ⟨S4096x768, .f32⟩
  | .hbm, ⟨4, _⟩ => ⟨S4096x768, .bf16⟩
  | .hbm, ⟨5, _⟩ => ⟨S4096x8x96, .bf16⟩
  | .hbm, ⟨6, _⟩ => ⟨S_, .i32⟩
  | .hbm, ⟨7, _⟩ => ⟨S_, .bf16⟩
  | .hbm, ⟨8, _⟩ => ⟨S4096x8x128, .bf16⟩
  | .hbm, ⟨9, _⟩ => ⟨S4096x1024, .bf16⟩
  | .hbm, ⟨10, _⟩ => ⟨S4096x768, .f32⟩
  | .hbm, ⟨11, _⟩ => ⟨S4096x768, .bf16⟩
  | .hbm, ⟨12, _⟩ => ⟨S4096x8x96, .bf16⟩
  | .hbm, ⟨13, _⟩ => ⟨S_, .i32⟩
  | .hbm, ⟨14, _⟩ => ⟨S_, .bf16⟩
  | .hbm, ⟨15, _⟩ => ⟨S4096x8x128, .bf16⟩
  | .hbm, ⟨16, _⟩ => ⟨S4096x1024, .bf16⟩
  | .hbm, ⟨17, _⟩ => ⟨S4096x512, .f32⟩
  | .hbm, ⟨18, _⟩ => ⟨S4096x512, .bf16⟩
  | .hbm, ⟨19, _⟩ => ⟨S4096x8x64, .bf16⟩
  | .hbm, ⟨20, _⟩ => ⟨S_, .i32⟩
  | .hbm, ⟨21, _⟩ => ⟨S_, .bf16⟩
  | .hbm, ⟨22, _⟩ => ⟨S4096x8x128, .bf16⟩
  | .hbm, ⟨23, _⟩ => ⟨S4096x1024, .bf16⟩
  | .hbm, ⟨24, _⟩ => ⟨S4096x1024, .bf16⟩
  | .hbm, ⟨25, _⟩ => ⟨S4096x1024, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S2048x128, .f32⟩
  | _, _ => ⟨S2x2048x8x1x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_call2_v0 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  ![arg0.toNat, v16.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  ![arg0.toNat, v16.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== FwdARefIdeal.lean ====
abbrev S2x2048x8x1x96 : Shape := ⟨5, ![2, 2048, 8, 1, 96]⟩
abbrev S2x2048x8x96 : Shape := ⟨4, ![2, 2048, 8, 96]⟩
abbrev S2x2048x8x64 : Shape := ⟨4, ![2, 2048, 8, 64]⟩
abbrev S2x8x2048x2048x1 : Shape := ⟨5, ![2, 8, 2048, 2048, 1]⟩
abbrev S2x8x1x2048x2048 : Shape := ⟨5, ![2, 8, 1, 2048, 2048]⟩
abbrev S_ : Shape := ⟨0, ![]⟩
abbrev S2x8x1x2048 : Shape := ⟨4, ![2, 8, 1, 2048]⟩
abbrev S2x8x1x2048x1 : Shape := ⟨5, ![2, 8, 1, 2048, 1]⟩
abbrev S2x8x64x1x2048 : Shape := ⟨5, ![2, 8, 64, 1, 2048]⟩
abbrev S2x2048x8x1x64 : Shape := ⟨5, ![2, 2048, 8, 1, 64]⟩
abbrev S4096x8x64 : Shape := ⟨3, ![4096, 8, 64]⟩
abbrev S4096x8x128 : Shape := ⟨3, ![4096, 8, 128]⟩
abbrev S4096x1024 : Shape := ⟨2, ![4096, 1024]⟩
abbrev S2x2048x8x1 : Shape := ⟨4, ![2, 2048, 8, 1]⟩
abbrev S4096x8x1 : Shape := ⟨3, ![4096, 8, 1]⟩

abbrev nBuf : Space → Nat
  | .hbm => 43
  | .vmem => 0
  | .smem => 0
  | _ => 0

abbrev bufTy : (tb : Table) → Fin (tcTables nBuf tb) → BufTy
  | .hbm, ⟨0, _⟩ => ⟨S2x2048x8x1x96, .f32⟩
  | .hbm, ⟨1, _⟩ => ⟨S2x2048x8x96, .f32⟩
  | .hbm, ⟨2, _⟩ => ⟨S2x2048x8x64, .f32⟩
  | .hbm, ⟨3, _⟩ => ⟨S2x8x2048x2048x1, .f32⟩
  | .hbm, ⟨4, _⟩ => ⟨S2x8x1x2048x2048, .f32⟩
  | .hbm, ⟨5, _⟩ => ⟨S_, .f32⟩
  | .hbm, ⟨6, _⟩ => ⟨S2x8x1x2048, .f32⟩
  | .hbm, ⟨7, _⟩ => ⟨S_, .f32⟩
  | .hbm, ⟨8, _⟩ => ⟨S2x8x1x2048, .f32⟩
  | .hbm, ⟨9, _⟩ => ⟨S2x8x1x2048, .f32⟩
  | .hbm, ⟨10, _⟩ => ⟨S2x8x1x2048x1, .f32⟩
  | .hbm, ⟨11, _⟩ => ⟨S2x8x1x2048x2048, .f32⟩
  | .hbm, ⟨12, _⟩ => ⟨S2x8x1x2048x2048, .f32⟩
  | .hbm, ⟨13, _⟩ => ⟨S2x8x1x2048x2048, .f32⟩
  | .hbm, ⟨14, _⟩ => ⟨S_, .f32⟩
  | .hbm, ⟨15, _⟩ => ⟨S2x8x1x2048, .f32⟩
  | .hbm, ⟨16, _⟩ => ⟨S2x8x1x2048x1, .f32⟩
  | .hbm, ⟨17, _⟩ => ⟨S2x8x1x2048x2048, .f32⟩
  | .hbm, ⟨18, _⟩ => ⟨S2x8x1x2048x2048, .f32⟩
  | .hbm, ⟨19, _⟩ => ⟨S2x8x64x1x2048, .f32⟩
  | .hbm, ⟨20, _⟩ => ⟨S2x2048x8x1x64, .f32⟩
  | .hbm, ⟨21, _⟩ => ⟨S4096x8x64, .f32⟩
  | .hbm, ⟨22, _⟩ => ⟨S_, .i32⟩
  | .hbm, ⟨23, _⟩ => ⟨S_, .f32⟩
  | .hbm, ⟨24, _⟩ => ⟨S4096x8x128, .f32⟩
  | .hbm, ⟨25, _⟩ => ⟨S4096x1024, .f32⟩
  | .hbm, ⟨26, _⟩ => ⟨S4096x1024, .bf16⟩
  | .hbm, ⟨27, _⟩ => ⟨S2x8x2048x2048x1, .f32⟩
  | .hbm, ⟨28, _⟩ => ⟨S2x8x1x2048x2048, .f32⟩
  | .hbm, ⟨29, _⟩ => ⟨S_, .f32⟩
  | .hbm, ⟨30, _⟩ => ⟨S2x8x1x2048, .f32⟩
  | .hbm, ⟨31, _⟩ => ⟨S2x8x1x2048x1, .f32⟩
  | .hbm, ⟨32, _⟩ => ⟨S2x8x1x2048x2048, .f32⟩
  | .hbm, ⟨33, _⟩ => ⟨S2x8x1x2048x2048, .f32⟩
  | .hbm, ⟨34, _⟩ => ⟨S2x8x1x2048x2048, .f32⟩
  | .hbm, ⟨35, _⟩ => ⟨S_, .f32⟩
  | .hbm, ⟨36, _⟩ => ⟨S2x8x1x2048, .f32⟩
  | .hbm, ⟨37, _⟩ => ⟨S2x8x1x2048, .f32⟩
  | .hbm, ⟨38, _⟩ => ⟨S2x8x1x2048, .f32⟩
  | .hbm, ⟨39, _⟩ => ⟨S2x2048x8x1, .f32⟩
  | .hbm, ⟨40, _⟩ => ⟨S4096x8x1, .f32⟩
  | .hbm, ⟨41, _⟩ => ⟨S4096x8x128, .f32⟩
  | .hbm, ⟨42, _⟩ => ⟨S4096x1024, .f32⟩
  | _, _ => ⟨S2x2048x8x1x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== FwdB.lean ====
abbrev S2x2048x2x4x64 : Shape := ⟨5, ![2, 2048, 2, 4, 64]⟩
abbrev S2x2048x2x64 : Shape := ⟨4, ![2, 2048, 2, 64]⟩
abbrev S4096x512 : Shape := ⟨2, ![4096, 512]⟩
abbrev S4096x8x64 : Shape := ⟨3, ![4096, 8, 64]⟩
abbrev S_ : Shape := ⟨0, ![]⟩
abbrev S4096x8x128 : Shape := ⟨3, ![4096, 8, 128]⟩
abbrev S4096x1024 : Shape := ⟨2, ![4096, 1024]⟩
abbrev S4096x128 : Shape := ⟨2, ![4096, 128]⟩
abbrev S4096x2x64 : Shape := ⟨3, ![4096, 2, 64]⟩
abbrev S4096x2x128 : Shape := ⟨3, ![4096, 2, 128]⟩
abbrev S4096x256 : Shape := ⟨2, ![4096, 256]⟩
abbrev S2048x128 : Shape := ⟨2, ![2048, 128]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩

abbrev nBuf : Space → Nat
  | .hbm => 26
  | .vmem => 10
  | .smem => 0
  | _ => 0

abbrev bufTy : (tb : Table) → Fin (tcTables nBuf tb) → BufTy
  | .hbm, ⟨0, _⟩ => ⟨S2x2048x2x4x64, .f32⟩
  | .hbm, ⟨1, _⟩ => ⟨S2x2048x2x64, .f32⟩
  | .hbm, ⟨2, _⟩ => ⟨S2x2048x2x64, .f32⟩
  | .hbm, ⟨3, _⟩ => ⟨S4096x512, .f32⟩
  | .hbm, ⟨4, _⟩ => ⟨S4096x512, .bf16⟩
  | .hbm, ⟨5, _⟩ => ⟨S4096x8x64, .bf16⟩
  | .hbm, ⟨6, _⟩ => ⟨S_, .i32⟩
  | .hbm, ⟨7, _⟩ => ⟨S_, .bf16⟩
  | .hbm, ⟨8, _⟩ => ⟨S4096x8x128, .bf16⟩
  | .hbm, ⟨9, _⟩ => ⟨S4096x1024, .bf16⟩
  | .hbm, ⟨10, _⟩ => ⟨S4096x128, .f32⟩
  | .hbm, ⟨11, _⟩ => ⟨S4096x128, .bf16⟩
  | .hbm, ⟨12, _⟩ => ⟨S4096x2x64, .bf16⟩
  | .hbm, ⟨13, _⟩ => ⟨S_, .i32⟩
  | .hbm, ⟨14, _⟩ => ⟨S_, .bf16⟩
  | .hbm, ⟨15, _⟩ => ⟨S4096x2x128, .bf16⟩
  | .hbm, ⟨16, _⟩ => ⟨S4096x256, .bf16⟩
  | .hbm, ⟨17, _⟩ => ⟨S4096x128, .f32⟩
  | .hbm, ⟨18, _⟩ => ⟨S4096x128, .bf16⟩
  | .hbm, ⟨19, _⟩ => ⟨S4096x2x64, .bf16⟩
  | .hbm, ⟨20, _⟩ => ⟨S_, .i32⟩
  | .hbm, ⟨21, _⟩ => ⟨S_, .bf16⟩
  | .hbm, ⟨22, _⟩ => ⟨S4096x2x128, .bf16⟩
  | .hbm, ⟨23, _⟩ => ⟨S4096x256, .bf16⟩
  | .hbm, ⟨24, _⟩ => ⟨S4096x1024, .bf16⟩
  | .hbm, ⟨25, _⟩ => ⟨S4096x1024, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S2048x128, .f32⟩
  | _, _ => ⟨S2x2048x2x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_call2_v0 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, v16.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, v16.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== FwdBRefIdeal.lean ====
abbrev S2x2048x2x4x64 : Shape := ⟨5, ![2, 2048, 2, 4, 64]⟩
abbrev S2x2048x2x64 : Shape := ⟨4, ![2, 2048, 2, 64]⟩
abbrev S2x2x2048x2048x4 : Shape := ⟨5, ![2, 2, 2048, 2048, 4]⟩
abbrev S2x2x4x2048x2048 : Shape := ⟨5, ![2, 2, 4, 2048, 2048]⟩
abbrev S_ : Shape := ⟨0, ![]⟩
abbrev S2x2x4x2048 : Shape := ⟨4, ![2, 2, 4, 2048]⟩
abbrev S2x2x4x2048x1 : Shape := ⟨5, ![2, 2, 4, 2048, 1]⟩
abbrev S2x2x64x4x2048 : Shape := ⟨5, ![2, 2, 64, 4, 2048]⟩
abbrev S4096x8x64 : Shape := ⟨3, ![4096, 8, 64]⟩
abbrev S4096x8x128 : Shape := ⟨3, ![4096, 8, 128]⟩
abbrev S4096x1024 : Shape := ⟨2, ![4096, 1024]⟩
abbrev S2x2048x2x4 : Shape := ⟨4, ![2, 2048, 2, 4]⟩
abbrev S4096x8x1 : Shape := ⟨3, ![4096, 8, 1]⟩

abbrev nBuf : Space → Nat
  | .hbm => 43
  | .vmem => 0
  | .smem => 0
  | _ => 0

abbrev bufTy : (tb : Table) → Fin (tcTables nBuf tb) → BufTy
  | .hbm, ⟨0, _⟩ => ⟨S2x2048x2x4x64, .f32⟩
  | .hbm, ⟨1, _⟩ => ⟨S2x2048x2x64, .f32⟩
  | .hbm, ⟨2, _⟩ => ⟨S2x2048x2x64, .f32⟩
  | .hbm, ⟨3, _⟩ => ⟨S2x2x2048x2048x4, .f32⟩
  | .hbm, ⟨4, _⟩ => ⟨S2x2x4x2048x2048, .f32⟩
  | .hbm, ⟨5, _⟩ => ⟨S_, .f32⟩
  | .hbm, ⟨6, _⟩ => ⟨S2x2x4x2048, .f32⟩
  | .hbm, ⟨7, _⟩ => ⟨S_, .f32⟩
  | .hbm, ⟨8, _⟩ => ⟨S2x2x4x2048, .f32⟩
  | .hbm, ⟨9, _⟩ => ⟨S2x2x4x2048, .f32⟩
  | .hbm, ⟨10, _⟩ => ⟨S2x2x4x2048x1, .f32⟩
  | .hbm, ⟨11, _⟩ => ⟨S2x2x4x2048x2048, .f32⟩
  | .hbm, ⟨12, _⟩ => ⟨S2x2x4x2048x2048, .f32⟩
  | .hbm, ⟨13, _⟩ => ⟨S2x2x4x2048x2048, .f32⟩
  | .hbm, ⟨14, _⟩ => ⟨S_, .f32⟩
  | .hbm, ⟨15, _⟩ => ⟨S2x2x4x2048, .f32⟩
  | .hbm, ⟨16, _⟩ => ⟨S2x2x4x2048x1, .f32⟩
  | .hbm, ⟨17, _⟩ => ⟨S2x2x4x2048x2048, .f32⟩
  | .hbm, ⟨18, _⟩ => ⟨S2x2x4x2048x2048, .f32⟩
  | .hbm, ⟨19, _⟩ => ⟨S2x2x64x4x2048, .f32⟩
  | .hbm, ⟨20, _⟩ => ⟨S2x2048x2x4x64, .f32⟩
  | .hbm, ⟨21, _⟩ => ⟨S4096x8x64, .f32⟩
  | .hbm, ⟨22, _⟩ => ⟨S_, .i32⟩
  | .hbm, ⟨23, _⟩ => ⟨S_, .f32⟩
  | .hbm, ⟨24, _⟩ => ⟨S4096x8x128, .f32⟩
  | .hbm, ⟨25, _⟩ => ⟨S4096x1024, .f32⟩
  | .hbm, ⟨26, _⟩ => ⟨S4096x1024, .bf16⟩
  | .hbm, ⟨27, _⟩ => ⟨S2x2x2048x2048x4, .f32⟩
  | .hbm, ⟨28, _⟩ => ⟨S2x2x4x2048x2048, .f32⟩
  | .hbm, ⟨29, _⟩ => ⟨S_, .f32⟩
  | .hbm, ⟨30, _⟩ => ⟨S2x2x4x2048, .f32⟩
  | .hbm, ⟨31, _⟩ => ⟨S2x2x4x2048x1, .f32⟩
  | .hbm, ⟨32, _⟩ => ⟨S2x2x4x2048x2048, .f32⟩
  | .hbm, ⟨33, _⟩ => ⟨S2x2x4x2048x2048, .f32⟩
  | .hbm, ⟨34, _⟩ => ⟨S2x2x4x2048x2048, .f32⟩
  | .hbm, ⟨35, _⟩ => ⟨S_, .f32⟩
  | .hbm, ⟨36, _⟩ => ⟨S2x2x4x2048, .f32⟩
  | .hbm, ⟨37, _⟩ => ⟨S2x2x4x2048, .f32⟩
  | .hbm, ⟨38, _⟩ => ⟨S2x2x4x2048, .f32⟩
  | .hbm, ⟨39, _⟩ => ⟨S2x2048x2x4, .f32⟩
  | .hbm, ⟨40, _⟩ => ⟨S4096x8x1, .f32⟩
  | .hbm, ⟨41, _⟩ => ⟨S4096x8x128, .f32⟩
  | .hbm, ⟨42, _⟩ => ⟨S4096x1024, .f32⟩
  | _, _ => ⟨S2x2048x2x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== FwdMlp.lean ====
abbrev S2x2048x1024 : Shape := ⟨3, ![2, 2048, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S4096x1024 : Shape := ⟨2, ![4096, 1024]⟩
abbrev S1024x4096 : Shape := ⟨2, ![1024, 4096]⟩
abbrev S8x512x1024 : Shape := ⟨3, ![8, 512, 1024]⟩
abbrev S8x1024x1024 : Shape := ⟨3, ![8, 1024, 1024]⟩
abbrev S4096x4096 : Shape := ⟨2, ![4096, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S2x512x1024 : Shape := ⟨3, ![2, 512, 1024]⟩
abbrev S1024x1024 : Shape := ⟨2, ![1024, 1024]⟩

abbrev nBuf : Space → Nat
  | .hbm => 15
  | .vmem => 9
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S4096x1024, .f32⟩
  | .hbm, ⟨5, _⟩ => ⟨S1024x4096, .f32⟩
  | .hbm, ⟨6, _⟩ => ⟨S4096x1024, .f32⟩
  | .hbm, ⟨7, _⟩ => ⟨S8x512x1024, .f32⟩
  | .hbm, ⟨8, _⟩ => ⟨S8x512x1024, .bf16⟩
  | .hbm, ⟨9, _⟩ => ⟨S4096x1024, .f32⟩
  | .hbm, ⟨10, _⟩ => ⟨S8x512x1024, .f32⟩
  | .hbm, ⟨11, _⟩ => ⟨S8x512x1024, .bf16⟩
  | .hbm, ⟨12, _⟩ => ⟨S8x1024x1024, .bf16⟩
  | .hbm, ⟨13, _⟩ => ⟨S4096x1024, .f32⟩
  | .hbm, ⟨14, _⟩ => ⟨S4096x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x512x1024, .bf16⟩
  | .local _ .vmem, ⟨4, _⟩ => ⟨S8x512x1024, .bf16⟩
  | .local _ .vmem, ⟨5, _⟩ => ⟨S512x1024, .f32⟩
  | .local _ .vmem, ⟨6, _⟩ => ⟨S512x1024, .f32⟩
  | .local _ .vmem, ⟨7, _⟩ => ⟨S512x4096, .bf16⟩
  | .local _ .vmem, ⟨8, _⟩ => ⟨S512x4096, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FwdMlpRefIdeal.lean ====
abbrev S2x2048x1024 : Shape := ⟨3, ![2, 2048, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x4096 : Shape := ⟨2, ![1024, 4096]⟩
abbrev S2x2048x4096 : Shape := ⟨3, ![2, 2048, 4096]⟩
abbrev S4096x1024 : Shape := ⟨2, ![4096, 1024]⟩
abbrev S4096x4096 : Shape := ⟨2, ![4096, 4096]⟩

abbrev nBuf : Space → Nat
  | .hbm => 33
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1024, .f32⟩
  | .hbm, ⟨5, _⟩ => ⟨S2x2048x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1024, .f32⟩
  | .hbm, ⟨17, _⟩ => ⟨S2x2048x1024, .f32⟩
  | .hbm, ⟨18, _⟩ => ⟨S1x1x1024, .f32⟩
  | .hbm, ⟨19, _⟩ => ⟨S2x2048x1024, .f32⟩
  | .hbm, ⟨20, _⟩ => ⟨S2x2048x1024, .f32⟩
  | .hbm, ⟨21, _⟩ => ⟨S1024x4096, .f32⟩
  | .hbm, ⟨22, _⟩ => ⟨S2x2048x4096, .f32⟩
  | .hbm, ⟨23, _⟩ => ⟨S_, .f32⟩
  | .hbm, ⟨24, _⟩ => ⟨S2x2048x4096, .f32⟩
  | .hbm, ⟨25, _⟩ => ⟨S2x2048x4096, .f32⟩
  | .hbm, ⟨26, _⟩ => ⟨S2x2048x4096, .f32⟩
  | .hbm, ⟨27, _⟩ => ⟨S4096x1024, .f32⟩
  | .hbm, ⟨28, _⟩ => ⟨S2x2048x1024, .f32⟩
  | .hbm, ⟨29, _⟩ => ⟨S2x2048x1024, .f32⟩
  | .hbm, ⟨30, _⟩ => ⟨S4096x1024, .f32⟩
  | .hbm, ⟨31, _⟩ => ⟨S4096x4096, .f32⟩
  | .hbm, ⟨32, _⟩ => ⟨S4096x4096, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Proof.Rows.lean ====
/- Facts about real numbers inside the extended reals, and the arithmetic of a normalised row:
   the row's inverse root mean square, the normalised row, and the gradient through the norm. -/
module

public import Idealize.ShloMosaic.Lib.Pointwise
public import Idealize.ShloMosaic.Lib.IdealHost
public import Mathlib.Data.EReal.Operations
public import Mathlib.Analysis.SpecialFunctions.Pow.Real

@[expose] public section

set_option maxRecDepth 16384

noncomputable section

namespace Cert.Rows

open Idealize.ShloMosaic

/-! ### Real numbers as extended reals -/

/-- A finite sum of reals, taken in the extended reals. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s h ih => rw [Finset.sum_insert h, Finset.sum_insert h, ih, EReal.coe_add]

/-- The largest of a row of reals, as a fold from below all of them. -/
def rowmax {n : ℕ} (f : Fin n → ℝ) : ℝ := (Finset.univ.fold max (⊥ : EReal) fun k => ((f k : ℝ) : EReal)).toReal

theorem fold_max_real {ι : Type*} (s : Finset ι) (f : ι → ℝ) (h : s.Nonempty) :
    ∃ m : ℝ, s.fold max (⊥ : EReal) (fun k => ((f k : ℝ) : EReal)) = (m : EReal) := by
  classical
  induction h using Finset.Nonempty.cons_induction with
  | singleton a => exact ⟨f a, by simp⟩
  | cons a s ha _ ih =>
    obtain ⟨m, hm⟩ := ih
    exact ⟨max (f a) m, by rw [Finset.fold_cons, hm]; exact (Monotone.map_max (f := ((↑) : ℝ → EReal)) EReal.coe_strictMono.monotone).symm⟩

theorem fold_max {n : ℕ} (hn : 0 < n) (f : Fin n → ℝ) :
    Finset.univ.fold max (⊥ : EReal) (fun k => ((f k : ℝ) : EReal)) = ((rowmax f : ℝ) : EReal) := by
  haveI : Nonempty (Fin n) := ⟨⟨0, hn⟩⟩
  obtain ⟨m, hm⟩ := fold_max_real Finset.univ f Finset.univ_nonempty
  unfold rowmax; rw [hm, EReal.toReal_coe]

/-- The quotient of two reals, the divisor not zero. -/
theorem div_real (a : ℝ) {b : ℝ} (hb : b ≠ 0) : Ideal.div (a : EReal) (b : EReal) = ((a / b : ℝ) : EReal) := by
  rw [Ideal.div_coe hb, ← EReal.coe_mul, mul_one_div]

/-- The inverse root of a positive real. -/
theorem rsqrt_real {a : ℝ} (ha : 0 < a) : Ideal.rsqrt (a : EReal) = (((Real.sqrt a)⁻¹ : ℝ) : EReal) := by
  rw [Ideal.rsqrt_coe, if_neg (not_lt.2 ha.le), if_neg ha.ne']

/-- A finite extended real is the real number it is. -/
theorem eq_real {x : EReal} (h₁ : x ≠ ⊤) (h₂ : x ≠ ⊥) : x = ((x.toReal : ℝ) : EReal) := (EReal.coe_toReal h₁ h₂).symm

/-- The logarithm of a positive real. -/
theorem log_real {a : ℝ} (h : 0 < a) : Ideal.log (a : EReal) = ((Real.log a : ℝ) : EReal) := by
  rw [Ideal.log_coe, if_neg (not_le.2 h)]

/-- The exponential of a real. -/
theorem exp_real (a : ℝ) : Ideal.exp (a : EReal) = ((Real.exp a : ℝ) : EReal) := rfl

/-! ### The constants the programs write -/

/-- The number added to a mean square before its root is taken. -/
def eps : ℝ := 8796093 / 2 ^ 43

theorem eps_pos : 0 < eps := by unfold eps; positivity

theorem ofBits_eps : Ideal.ofBits .f32 0x358637BD#32 = ((eps : ℝ) : EReal) := by
  simp [Ideal.ofBits, Ideal.ieee, eps, -EReal.coe_mul]; norm_num
theorem ofBits_ninf : Ideal.ofBits .f32 0xFF800000#32 = ⊥ := by simp [Ideal.ofBits, Ideal.ieee]
theorem ofBits_1024 : Ideal.ofBits .f32 0x44800000#32 = ((1024 : ℝ) : EReal) := by
  simp [Ideal.ofBits, Ideal.ieee, -EReal.coe_mul]; norm_num
theorem ofBits_inv1024 : Ideal.ofBits .f32 0x3A800000#32 = ((1 / 1024 : ℝ) : EReal) := by
  simp [Ideal.ofBits, Ideal.ieee, -EReal.coe_mul]; norm_num
theorem ofBits_inv2048 : Ideal.ofBits .f32 0x3A000000#32 = ((1 / 2048 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul, -EReal.coe_neg]; norm_num
theorem ofBits_two : Ideal.ofBits .f32 0x40000000#32 = ((2 : ℝ) : EReal) := by
  simp [Ideal.ofBits, Ideal.ieee, -EReal.coe_mul]; norm_num

/-! ### A normalised row -/

variable {n : ℕ}

/-- The mean square of a row, plus `eps`. -/
def ms (x : Fin n → ℝ) : ℝ := (∑ k, x k * x k) / n + eps

theorem ms_pos (x : Fin n → ℝ) : 0 < ms x :=
  add_pos_of_nonneg_of_pos (div_nonneg (Finset.sum_nonneg fun k _ => mul_self_nonneg _) (Nat.cast_nonneg n)) eps_pos

/-- The inverse root mean square of a row. -/
def rs (x : Fin n → ℝ) : ℝ := (Real.sqrt (ms x))⁻¹

theorem rs_sq (x : Fin n → ℝ) : rs x * rs x = 1 / ms x := by
  unfold rs
  rw [← mul_inv, Real.mul_self_sqrt (ms_pos x).le, one_div]

/-- The normalised row. -/
def nrm (x : Fin n → ℝ) (j : Fin n) : ℝ := x j * rs x

/-- The gradient that reaches a row through its norm from the gradient `d` of the normalised row. -/
def back (x d : Fin n → ℝ) (j : Fin n) : ℝ := rs x * (d j - nrm x j * ((∑ k, d k * nrm x k) / n))

/-- The same gradient as the chain rule writes it: through the factor, and twice through the square. -/
theorem chain_eq_back (x d : Fin n → ℝ) (j : Fin n) :
    d j * rs x + x j * ((∑ k, x k * d k) * (-(1 / 2) * (rs x / ms x)) / n) + (∑ k, x k * d k) * (-(1 / 2) * (rs x / ms x)) / n * x j
      = back x d j := by
  have h : (∑ k, d k * nrm x k) = (∑ k, x k * d k) * rs x := by
    rw [Finset.sum_mul]
    exact Finset.sum_congr rfl fun k _ => by unfold nrm; ring
  have h2 : rs x / ms x = rs x * rs x * rs x := by rw [rs_sq]; ring
  unfold back
  rw [h, h2]
  unfold nrm
  ring

/-- The logistic function. -/
def sg (a : ℝ) : ℝ := (1 + Real.exp (-a))⁻¹

theorem logistic_real (a : ℝ) : Ideal.logistic (a : EReal) = ((sg a : ℝ) : EReal) := Ideal.logistic_coe a

end Cert.Rows

end
-- ==== Proof.PleSpec.lean ====
/- One token of the per-layer embedding, the last norm and the loss, and the gradients through them, over the reals:
   `x` the token's row, `p` its row of the embedding input, `t` its target, `gp` and `gf` the gains of the two norms,
   `w` the gate's weight, `wp` the embedding's. -/
module

public import proofs.«01_k».proof.Proof.Rows

@[expose] public section

noncomputable section

namespace Cert.PleSpec

open Cert.Rows

variable (x t gp gf : Fin 1024 → ℝ) (p : Fin 256 → ℝ) (w : Fin 1024 → Fin 1024 → ℝ) (wp : Fin 256 → Fin 1024 → ℝ)

/-- The row the gate's weight is applied to. -/
def h3 (j : Fin 1024) : ℝ := nrm x j * gp j
/-- The gate. -/
def gate (j : Fin 1024) : ℝ := sg (∑ k, h3 x gp k * w k j)
/-- The embedding's row. -/
def pe (j : Fin 1024) : ℝ := ∑ k, p k * wp k j
/-- The row the last norm is applied to. -/
def x3 (j : Fin 1024) : ℝ := x j + gate x gp w j * pe p wp j
/-- The difference from the target. -/
def err (j : Fin 1024) : ℝ := nrm (x3 x gp p w wp) j * gf j - t j
/-- The gradient that reaches `x3`. -/
def dx3 (j : Fin 1024) : ℝ := back (x3 x gp p w wp) (fun k => err x t gp gf p w wp k * (gf k * (1 / 1024))) j
/-- The gradient of the embedding's row. -/
def dpe (j : Fin 1024) : ℝ := dx3 x t gp gf p w wp j * gate x gp w j
/-- The gradient of what goes into the gate. -/
def dt (j : Fin 1024) : ℝ := dpe x t gp gf p w wp j * pe p wp j * (1 - gate x gp w j)
/-- The gradient of `h3`. -/
def dh3 (j : Fin 1024) : ℝ := ∑ k, dt x t gp gf p w wp k * w j k
/-- The gradient of `x`. -/
def dx2 (j : Fin 1024) : ℝ := dx3 x t gp gf p w wp j + back x (fun k => dh3 x t gp gf p w wp k * gp k) j

end Cert.PleSpec

end
-- ==== Proof.PlePay.lean ====
/- What one grid point of the kernel computes from the blocks it reads, read at an index: the token's arithmetic over the reals. -/
module

public import proofs.«01_k».proof.Proof.Gen.PleIdeal.Skeleton
public import proofs.«01_k».proof.Proof.PleSpec

@[expose] public section

set_option maxRecDepth 16384

noncomputable section

namespace Cert.PleIdeal.Pay

open Cert.PleIdeal Cert.PleIdeal.Gen Cert.Rows Idealize.ShloMosaic Idealize.ShloMosaic.TcCoe

theorem rs_at (v : Vec Ideal S512x1024 .f32) (r : Fin 512) (x : Fin 1024 → ℝ) (h : ∀ k, v (ix2 r k) = ((x k : ℝ) : EReal)) :
    k0_pay11 (F := Ideal) v (ix2 r 0) = ((rs x : ℝ) : EReal) := by
  pointwise [k0_pay11]
  simp only [h, ofBits_inv1024, ofBits_eps, coe_sum, ← EReal.coe_mul, ← EReal.coe_add]
  have e : (∑ k, x k * x k) * (1 / 1024) + eps = ms x := by unfold ms; push_cast; ring
  rw [e, rsqrt_real (ms_pos x)]; rfl

theorem nrm_at (v : Vec Ideal S512x1024 .f32) (r : Fin 512) (x : Fin 1024 → ℝ) (h : ∀ k, v (ix2 r k) = ((x k : ℝ) : EReal)) (k : Fin 1024) :
    k0_pay12 (F := Ideal) v (ix2 r k) = ((nrm x k : ℝ) : EReal) := by
  pointwise [k0_pay12]
  rw [rs_at v r x h, h, ← EReal.coe_mul]; rfl

theorem pay5_eq (v : Vec Ideal S512x1024 .f32) : k0_pay5 (F := Ideal) v = k0_pay11 (F := Ideal) v := by
  funext i; idx_vars i; pointwise [k0_pay5, k0_pay2, k0_pay11]
theorem pay6_eq (v : Vec Ideal S512x1024 .f32) : k0_pay6 (F := Ideal) v = k0_pay12 (F := Ideal) v := by
  funext i; idx_vars i; pointwise [k0_pay6, pay5_eq, k0_pay2, k0_pay12]

section Token
variable (v3 v47 : Vec Ideal S512x1024 .f32) (v5 v6 : Vec Ideal S1x1024 .f32) (v8 : Vec Ideal S8x128x1024 .bf16)
  (v27 : Vec Ideal S512x256 .f32) (v30 : Vec Ideal S1024x256 .bf16)
  (r : Fin 512) (x t gp gf : Fin 1024 → ℝ) (p : Fin 256 → ℝ) (w : Fin 1024 → Fin 1024 → ℝ) (wp : Fin 256 → Fin 1024 → ℝ)
  (h3 : ∀ k, v3 (ix2 r k) = ((x k : ℝ) : EReal)) (h47 : ∀ k, v47 (ix2 r k) = ((t k : ℝ) : EReal))
  (h5 : ∀ k, v5 (ix2 0 k) = ((gp k : ℝ) : EReal)) (h6 : ∀ k, v6 (ix2 0 k) = ((gf k : ℝ) : EReal))
  (h8 : ∀ k j, k0_pay4 v8 (ix2 k j) = ((w k j : ℝ) : EReal))
  (h27 : ∀ k, v27 (ix2 r k) = ((p k : ℝ) : EReal)) (h30 : ∀ k j, v30 (ix2 j k) = ((wp k j : ℝ) : EReal))

include h3 h5 in
theorem h3_at (k : Fin 1024) : k0_pay7 (F := Ideal) v3 v5 (ix2 r k) = ((PleSpec.h3 x gp k : ℝ) : EReal) := by
  pointwise [k0_pay7]
  rw [pay6_eq, nrm_at v3 r x h3, h5, ← EReal.coe_mul]; rfl

include h3 h5 h8 in
theorem gate_at (k : Fin 1024) : k0_pay8 (F := Ideal) v3 v5 v8 (ix2 r k) = ((PleSpec.gate x gp w k : ℝ) : EReal) := by
  pointwise [k0_pay8]
  simp only [h3_at v3 v5 r x gp h3 h5, h8, coe_sum, ← EReal.coe_mul, logistic_real]; rfl

include h27 h30 in
theorem pe_at (k : Fin 1024) : k0_pay9 (F := Ideal) v27 v30 (ix2 r k) = ((PleSpec.pe p wp k : ℝ) : EReal) := by
  pointwise [k0_pay9]
  simp only [h27, h30, coe_sum, ← EReal.coe_mul]; rfl

include h3 h5 h8 h27 h30 in
theorem x3_at (k : Fin 1024) : k0_pay10 (F := Ideal) v3 v5 v8 v27 v30 (ix2 r k) = ((PleSpec.x3 x gp p w wp k : ℝ) : EReal) := by
  pointwise [k0_pay10, k0_pay2]
  rw [gate_at v3 v5 v8 r x gp w h3 h5 h8, pe_at v27 v30 r p wp h27 h30, h3, ← EReal.coe_mul, ← EReal.coe_add]; rfl

include h3 h5 h8 h27 h30 h6 h47 in
theorem err_at (k : Fin 1024) : k0_pay13 (F := Ideal) v6 (k0_pay10 v3 v5 v8 v27 v30) v47 (ix2 r k) = ((PleSpec.err x t gp gf p w wp k : ℝ) : EReal) := by
  pointwise [k0_pay13]
  rw [nrm_at _ r _ (x3_at v3 v5 v8 v27 v30 r x gp p w wp h3 h5 h8 h27 h30), h6, h47, ← EReal.coe_mul, ← EReal.coe_sub]; rfl

include h3 h5 h8 h27 h30 h6 h47 in
theorem dx3_at (k : Fin 1024) : k0_pay14 (F := Ideal) v6 (k0_pay10 v3 v5 v8 v27 v30) v47 (ix2 r k) = ((PleSpec.dx3 x t gp gf p w wp k : ℝ) : EReal) := by
  pointwise [k0_pay14]
  have hx := x3_at v3 v5 v8 v27 v30 r x gp p w wp h3 h5 h8 h27 h30
  simp only [rs_at _ r _ hx, nrm_at _ r _ hx, err_at v3 v47 v5 v6 v8 v27 v30 r x t gp gf p w wp h3 h47 h5 h6 h8 h27 h30, h6,
    ofBits_inv1024, coe_sum, ← EReal.coe_mul, ← EReal.coe_sub]
  refine congrArg _ ?_
  unfold PleSpec.dx3 back
  push_cast
  ring_nf

/-- What `part1` hands on: the row the last norm is applied to. -/
abbrev X3 : FVec Ideal S512x1024 .f32 := k0_pay10 (F := Ideal) v3 v5 v8 v27 v30

include h3 h5 h8 h27 h30 h6 h47 in
theorem dpe_at (k : Fin 1024) : k0_pay15 (F := Ideal) v6 (k0_pay8 v3 v5 v8) (X3 v3 v5 v8 v27 v30) v47 (ix2 r k)
    = ((PleSpec.dpe x t gp gf p w wp k : ℝ) : EReal) := by
  pointwise [k0_pay15]
  rw [dx3_at v3 v47 v5 v6 v8 v27 v30 r x t gp gf p w wp h3 h47 h5 h6 h8 h27 h30, gate_at v3 v5 v8 r x gp w h3 h5 h8, ← EReal.coe_mul]; rfl

include h3 h5 h8 h27 h30 h6 h47 in
theorem dt_at (k : Fin 1024) : k0_pay17 (F := Ideal) v6 (k0_pay8 v3 v5 v8) (k0_pay9 v27 v30) (X3 v3 v5 v8 v27 v30) v47 (ix2 r k)
    = ((PleSpec.dt x t gp gf p w wp k : ℝ) : EReal) := by
  pointwise [k0_pay17]
  rw [dpe_at v3 v47 v5 v6 v8 v27 v30 r x t gp gf p w wp h3 h47 h5 h6 h8 h27 h30, gate_at v3 v5 v8 r x gp w h3 h5 h8,
    pe_at v27 v30 r p wp h27 h30, ← EReal.coe_one, ← EReal.coe_sub, ← EReal.coe_mul, ← EReal.coe_mul]; rfl

include h3 h5 h8 h27 h30 h6 h47 in
theorem dh3_at (k : Fin 1024) : k0_pay18 (F := Ideal) v6 (k0_pay4 v8) (k0_pay8 v3 v5 v8) (k0_pay9 v27 v30) (X3 v3 v5 v8 v27 v30) v47 (ix2 r k)
    = ((PleSpec.dh3 x t gp gf p w wp k : ℝ) : EReal) := by
  pointwise [k0_pay18]
  simp only [dt_at v3 v47 v5 v6 v8 v27 v30 r x t gp gf p w wp h3 h47 h5 h6 h8 h27 h30, h8, coe_sum, ← EReal.coe_mul]; rfl

/-- The gradient of the normalised row before the gate. -/
abbrev D : FVec Ideal S512x1024 .f32 :=
  k0_pay19 (F := Ideal) v5 v6 (k0_pay4 v8) (k0_pay8 v3 v5 v8) (k0_pay9 v27 v30) (X3 v3 v5 v8 v27 v30) v47

include h3 h5 h8 h27 h30 h6 h47 in
theorem D_at (k : Fin 1024) : D v3 v47 v5 v6 v8 v27 v30 (ix2 r k)
    = ((PleSpec.dh3 x t gp gf p w wp k * gp k : ℝ) : EReal) := by
  pointwise [D, k0_pay19]
  rw [dh3_at v3 v47 v5 v6 v8 v27 v30 r x t gp gf p w wp h3 h47 h5 h6 h8 h27 h30, h5, ← EReal.coe_mul]

include h3 h5 h8 h27 h30 h6 h47 in
theorem dx2_at (k : Fin 1024) : k0_pay21 (F := Ideal) (k0_pay5 v3) (k0_pay6 v3) (k0_pay14 v6 (X3 v3 v5 v8 v27 v30) v47) (D v3 v47 v5 v6 v8 v27 v30)
      (k0_pay20 v5 v6 (k0_pay4 v8) (k0_pay6 v3) (k0_pay8 v3 v5 v8) (k0_pay9 v27 v30) (X3 v3 v5 v8 v27 v30) v47) (ix2 r k)
    = ((PleSpec.dx2 x t gp gf p w wp k : ℝ) : EReal) := by
  rw [pay5_eq, pay6_eq]
  have hD := D_at v3 v47 v5 v6 v8 v27 v30 r x t gp gf p w wp h3 h47 h5 h6 h8 h27 h30
  unfold D at hD
  pointwise [k0_pay21, k0_pay20, D]
  simp only [rs_at _ r _ h3, nrm_at _ r _ h3, hD, dx3_at v3 v47 v5 v6 v8 v27 v30 r x t gp gf p w wp h3 h47 h5 h6 h8 h27 h30,
    ofBits_inv1024, coe_sum, ← EReal.coe_mul, ← EReal.coe_sub, ← EReal.coe_add]
  refine congrArg _ ?_
  unfold PleSpec.dx2 back
  push_cast
  ring_nf

end Token

section Stats
variable (a e : FVec Ideal S512x1024 .f32) (v : Vec Ideal S1x1024 .f32) (k : Fin 1024) (A E : Fin 512 → ℝ) (z : ℝ)
  (hA : ∀ r, a (ix2 r k) = ((A r : ℝ) : EReal)) (hE : ∀ r, e (ix2 r k) = ((E r : ℝ) : EReal)) (hv : v (ix2 0 k) = ((z : ℝ) : EReal))

include hA hE hv in
theorem stat0_at : k0_pay23 (F := Ideal) a e v (ix2 0 k) = ((z + ∑ r, E r * A r : ℝ) : EReal) := by
  pointwise [k0_pay23]
  simp only [hA, hE, hv, coe_sum, ← EReal.coe_mul, ← EReal.coe_add]

include hA hE hv in
theorem stat1_at : k0_pay24 (F := Ideal) a e v (ix2 0 k) = ((z + (∑ r, E r * A r) * (1 / 1024) : ℝ) : EReal) := by
  pointwise [k0_pay24]
  simp only [hA, hE, hv, ofBits_inv1024, coe_sum, ← EReal.coe_mul, ← EReal.coe_add]

include hE hv in
theorem stat2_at : k0_pay25 (F := Ideal) e v (ix2 0 k) = ((z + (∑ r, E r * E r) * (1 / 2048) : ℝ) : EReal) := by
  pointwise [k0_pay25]
  simp only [hE, hv, ofBits_inv2048, coe_sum, ← EReal.coe_mul, ← EReal.coe_add]

end Stats

end Cert.PleIdeal.Pay

end
-- ==== Proof.Tokens.lean ====
/- The 4096 tokens, counted by sequence and position or by block of 512 rows. -/
module

public import proofs.«01_k».proof.Proof.Rows

@[expose] public section

noncomputable section

namespace Cert.Rows

/-- The sequence and the position of row `r` of block `u`. -/
def tb (u : ℕ) (r : Fin 512) : Fin 2 := ⟨(u * 512 + r.val) / 2048 % 2, Nat.mod_lt _ (by decide)⟩
def ts (u : ℕ) (r : Fin 512) : Fin 2048 := ⟨(u * 512 + r.val) % 2048, Nat.mod_lt _ (by decide)⟩

/-- The sequence and the position of token `q`. -/
def qb (q : Fin 4096) : Fin 2 := ⟨q.val / 2048, by omega⟩
def qs (q : Fin 4096) : Fin 2048 := ⟨q.val % 2048, Nat.mod_lt _ (by decide)⟩

theorem tb_qb (u : ℕ) (r : Fin 512) (h : u * 512 + r.val < 4096) : tb u r = qb ⟨u * 512 + r.val, h⟩ :=
  Fin.ext (Nat.mod_eq_of_lt (Nat.div_lt_of_lt_mul h))

theorem sum_tokens (F : Fin 2 → Fin 2048 → ℝ) :
    ∑ u ∈ Finset.range 8, ∑ r : Fin 512, F (tb u r) (ts u r) = ∑ b, ∑ s, F b s := by
  rw [Finset.sum_range]
  rw [← Fintype.sum_prod_type' (fun (u : Fin 8) (r : Fin 512) => F (tb u r) (ts u r)), ← Fintype.sum_prod_type' F,
    ← Equiv.sum_comp (finProdFinEquiv (m := 8) (n := 512)).symm, ← Equiv.sum_comp (finProdFinEquiv (m := 2) (n := 2048)).symm]
  refine Finset.sum_congr rfl fun q _ => ?_
  have h1 : ((finProdFinEquiv (m := 8) (n := 512)).symm q).1.val = q.val / 512 := rfl
  have h2 : ((finProdFinEquiv (m := 8) (n := 512)).symm q).2.val = q.val % 512 := rfl
  have h3 : ((finProdFinEquiv (m := 2) (n := 2048)).symm q).1.val = q.val / 2048 := rfl
  have h4 : ((finProdFinEquiv (m := 2) (n := 2048)).symm q).2.val = q.val % 2048 := rfl
  have hq := q.isLt
  congr 1
  · congr 1
    apply Fin.ext; rw [h3]; simp only [tb, h1, h2]; omega
  · apply Fin.ext; rw [h4]; simp only [ts, h1, h2]; omega

end Cert.Rows

end
-- ==== Proof.PleBlocks.lean ====
/- What the per-layer embedding's blocks hold, at the arguments' entries. -/
module

public import proofs.«01_k».proof.Proof.Gen.PleIdeal.Value
public import proofs.«01_k».proof.Proof.PlePay
public import proofs.«01_k».proof.Proof.Tokens
public import Idealize.ShloMosaic.Lib.Claim
public import Idealize.ShloMosaic.Lib.Pipeline.ValueKit

@[expose] public section

set_option maxRecDepth 16384

noncomputable section

namespace Cert.PleIdeal.Blk

open Cert.PleIdeal Cert.PleIdeal.Gen Cert.Rows Idealize.ShloMosaic Idealize.ShloMosaic.TcCoe

variable (m : (ℓ : Loc nD τ sig) → Buf (Elt Ideal) ℓ) (c : Dev nD)

theorem tb_eq (t : Fin cfg0.N) (r : Fin 512) (h : (t.val * 512 + r.val) / 2048 < 2) : (⟨(t.val * 512 + r.val) / 2048, h⟩ : Fin 2) = tb t.val r :=
  Fin.ext (Nat.mod_eq_of_lt h).symm

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 1, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![0, 0] ∧ win0_12.index t = ![t.val, 0] :=
  (by decide +kernel : ∀ t : Fin grid0.N, _)

/-- The last part of the packed weights, read back. -/
theorem pack_last (a0 a1 : FVec Ideal S8x128x1024 .bf16) (a2 a3 : FVec Ideal S8x64x1024 .bf16) (a4 : FVec Ideal S8x32x1024 .bf16)
    (j : Fin 1024) (k : Fin 256) (hc hr) :
    (shapeCast S1024x256 (extractStridedSlice S8x32x1024 ![0, 384, 0] (concatenate S8x416x1024 1 [⟨S8x128x1024, a0⟩, ⟨S8x128x1024, a1⟩,
        ⟨S8x64x1024, a2⟩, ⟨S8x64x1024, a3⟩, ⟨S8x32x1024, a4⟩] hc) slices_S8x416x1024_S8x32x1024_0_384_0) hr : FVec Ideal S1024x256 .bf16) (ix2 j k)
      = a4 (ix3 ⟨j.val / 128, by omega⟩ ⟨j.val / 4 % 32, by omega⟩ ⟨j.val % 4 * 256 + k.val, by omega⟩) := by
  pointwise []
  rw [dif_neg (by omega), dif_neg (by omega), dif_neg (by omega), dif_neg (by omega)]
  blk_ext []

/-- The second part of the packed weights, at its own row. -/
theorem pack_second (a0 a1 : FVec Ideal S8x128x1024 .bf16) (a2 a3 : FVec Ideal S8x64x1024 .bf16) (a4 : FVec Ideal S8x32x1024 .bf16)
    (d : Fin 8) (r : Fin 128) (k : Fin 1024) (hc) :
    (concatenate S8x416x1024 1 [⟨S8x128x1024, a0⟩, ⟨S8x128x1024, a1⟩, ⟨S8x64x1024, a2⟩, ⟨S8x64x1024, a3⟩, ⟨S8x32x1024, a4⟩] hc
        : FVec Ideal S8x416x1024 .bf16) (ix3 d ⟨128 + r.val, by omega⟩ k)
      = a1 (ix3 d r k) := by
  pointwise []

/-- Row `r` of the block at point `t`. -/
def tr (t : Fin cfg0.N) (r : Fin 512) : Fin 4096 := ⟨t.val * 512 + r.val, by have := t.isLt; have : cfg0.N = 8 := N_0; omega⟩

theorem read0 (t : Fin cfg0.N) (r : Fin 512) (k : Fin 1024) :
    iblk m c 0 t (ix2 r k) = (m ((c : Thread nD τ).loc main_arg0) : FVec Ideal S2x2048x1024 .f32) (ix3 (tb t.val r) (ts t.val r) k) := by
  blk_simp [iblk, idx t]
  have e : (win0_0.blk t).view.emb (ix2 r k) = (ix2 (tr t r) k : S4096x1024.Idx) := by blk_ext [idx t, tr]
  rw [e]
  entry_read
  pointwise []
  exact congrArg _ (congrArg (ix3 · (ts t.val r) k) (tb_eq t r _))
theorem read1 (t : Fin cfg0.N) (r : Fin 512) (k : Fin 256) :
    iblk m c 1 t (ix2 r k) = (m ((c : Thread nD τ).loc main_arg1) : FVec Ideal S1x2x2048x256 .f32) (ix4 0 (tb t.val r) (ts t.val r) k) := by
  blk_simp [iblk, idx t]
  have e : (win0_1.blk t).view.emb (ix2 r k) = (ix2 (tr t r) k : S4096x256.Idx) := by blk_ext [idx t, tr]
  rw [e]
  entry_read
  pointwise []
  exact congrArg _ (congrArg (ix4 0 · (ts t.val r) k) (tb_eq t r _))
theorem read2 (t : Fin cfg0.N) (r : Fin 512) (k : Fin 1024) :
    iblk m c 2 t (ix2 r k) = (m ((c : Thread nD τ).loc main_arg2) : FVec Ideal S2x2048x1024 .f32) (ix3 (tb t.val r) (ts t.val r) k) := by
  blk_simp [iblk, idx t]
  have e : (win0_2.blk t).view.emb (ix2 r k) = (ix2 (tr t r) k : S4096x1024.Idx) := by blk_ext [idx t, tr]
  rw [e]
  entry_read
  pointwise []
  exact congrArg _ (congrArg (ix3 · (ts t.val r) k) (tb_eq t r _))
theorem read3 (t : Fin cfg0.N) (k : Fin 1024) :
    iblk m c 3 t (ix2 0 k) = (m ((c : Thread nD τ).loc main_arg3) : FVec Ideal S1x1024 .f32) (ix2 0 k) := by
  blk_simp [iblk, idx t]
  have e : (win0_3.blk t).view.emb (ix2 0 k) = (ix2 0 k : S1x1024.Idx) := by blk_ext [idx t, tr]
  rw [e]
  entry_read
  pointwise []
theorem read4 (t : Fin cfg0.N) (k : Fin 1024) :
    iblk m c 4 t (ix2 0 k) = (m ((c : Thread nD τ).loc main_arg4) : FVec Ideal S1024 .f32) (ix1 k) := by
  blk_simp [iblk, idx t]
  have e : (win0_4.blk t).view.emb (ix2 0 k) = (ix2 0 k : S1x1024.Idx) := by blk_ext [idx t, tr]
  rw [e]
  entry_read
  pointwise []
theorem read6 (t : Fin cfg0.N) (j : Fin 1024) (k : Fin 256) :
    iblk m c 6 t (ix2 j k) = (m ((c : Thread nD τ).loc main_arg9) : FVec Ideal S1x256x1024 .f32) (ix3 0 k j) := by
  blk_simp [iblk, idx t]
  have e : (win0_6.blk t).view.emb (ix2 j k) = (ix2 j k : S1024x256.Idx) := by blk_ext [idx t, tr]
  rw [e]
  unfold V
  after_results_simp
  refine (pack_last _ _ _ _ _ _ _ _ _).trans ?_
  simp only [Matrix.cons_val]
  after_results_simp
  pointwise []
  blk_ext []

theorem read5 (t : Fin cfg0.N) (k j : Fin 1024) :
    k0_pay4 (F := Ideal) (X0_5 m c t) (ix2 k j) = (m ((c : Thread nD τ).loc main_arg6) : FVec Ideal S1x1024x1024 .f32) (ix3 0 k j) := by
  pointwise [k0_pay4]
  unfold X0_5 Pipeline.Window.fill
  rw [dif_pos (moved0_5 t _)]
  blk_simp [iblk, idx t]
  generalize hx : (win0_5.blk t).view.emb _ = x
  have e : x = (ix3 ⟨k.val / 128, by omega⟩ ⟨128 + k.val % 128, by omega⟩ j : S8x416x1024.Idx) := by
    rw [← hx]; blk_ext [idx t]
  rw [e]
  unfold V
  after_results_simp
  refine (pack_second _ _ _ _ _ _ ⟨k.val % 128, by omega⟩ _ _).trans ?_
  simp only [Matrix.cons_val]
  after_results_simp
  pointwise []
  blk_ext []

end Cert.PleIdeal.Blk

end
-- ==== Proof.PleRef.lean ====
/- What the reference computes for one token, read at an index: the token's arithmetic over the reals. -/
module

public import proofs.«01_k».proof.Proof.Gen.PleRefIdeal.Run
public import proofs.«01_k».proof.Proof.PleSpec

@[expose] public section

set_option maxRecDepth 16384

noncomputable section

namespace Cert.PleRefIdeal.At

open Cert.PleRefIdeal Cert.PleRefIdeal.Gen Cert.PleRefIdeal.Value Cert.Rows Idealize.ShloMosaic Idealize.ShloMosaic.TcCoe

variable (V : Valuation τ sig (Elt Ideal))
  (x tg : Fin 2 → Fin 2048 → Fin 1024 → ℝ) (gp gf : Fin 1024 → ℝ) (p : Fin 2 → Fin 2048 → Fin 256 → ℝ)
  (w : Fin 1024 → Fin 1024 → ℝ) (wp : Fin 256 → Fin 1024 → ℝ)
  (h0 : ∀ b s k, (V (Proc.devRef .tc main_arg0) : FVec Ideal S2x2048x1024 .f32) (ix3 b s k) = ((x b s k : ℝ) : EReal))
  (h1 : ∀ b s k, (V (Proc.devRef .tc main_arg1) : FVec Ideal S1x2x2048x256 .f32) (ix4 0 b s k) = ((p b s k : ℝ) : EReal))
  (h2 : ∀ b s k, (V (Proc.devRef .tc main_arg2) : FVec Ideal S2x2048x1024 .f32) (ix3 b s k) = ((tg b s k : ℝ) : EReal))
  (h3 : ∀ k, (V (Proc.devRef .tc main_arg3) : FVec Ideal S1x1024 .f32) (ix2 0 k) = ((gp k : ℝ) : EReal))
  (h4 : ∀ k, (V (Proc.devRef .tc main_arg4) : FVec Ideal S1024 .f32) (ix1 k) = ((gf k : ℝ) : EReal))
  (h6 : ∀ k j, (V (Proc.devRef .tc main_arg6) : FVec Ideal S1x1024x1024 .f32) (ix3 0 k j) = ((w k j : ℝ) : EReal))
  (h9 : ∀ k j, (V (Proc.devRef .tc main_arg9) : FVec Ideal S1x256x1024 .f32) (ix3 0 k j) = ((wp k j : ℝ) : EReal))
  (b : Fin 2) (s : Fin 2048)

include h0 in
theorem v7_at : (res_main_v7 (F := Ideal) V : FVec Ideal S2x2048x1 .f32) (ix3 b s 0) = ((ms (x b s) : ℝ) : EReal) := by
  pointwise [res_main_v7]
  simp only [h0, ofBits_1024, ofBits_eps, zero_add, coe_sum, ← EReal.coe_mul, div_real _ (by norm_num : (1024 : ℝ) ≠ 0), ← EReal.coe_add]
  unfold ms; push_cast; rfl

include h0 in
theorem v8_at : (res_main_v8 (F := Ideal) V : FVec Ideal S2x2048x1 .f32) (ix3 b s 0) = ((rs (x b s) : ℝ) : EReal) := by
  pointwise [res_main_v8]
  rw [v7_at V x h0, rsqrt_real (ms_pos _)]; rfl

include h0 in
theorem v13_at (k : Fin 1024) : (res_main_v13 (F := Ideal) V : FVec Ideal S2x2048x1024 .f32) (ix3 b s k) = ((nrm (x b s) k : ℝ) : EReal) := by
  pointwise [res_main_v13]
  rw [v8_at V x h0, h0, ← EReal.coe_mul]; rfl

include h0 h3 h6 in
theorem v27_at (k : Fin 1024) : (res_main_v27 (F := Ideal) V : FVec Ideal S2x2048x1024 .f32) (ix3 b s k)
    = ((PleSpec.gate (x b s) gp w k : ℝ) : EReal) := by
  pointwise [res_main_v27, res_main_v14, res_main_v17]
  simp only [v13_at V x h0, h3, h6, coe_sum, ← EReal.coe_mul]
  exact logistic_real _

include h1 h9 in
theorem v21_at (k : Fin 1024) : (res_main_v21 (F := Ideal) V : FVec Ideal S2x2048x1024 .f32) (ix3 b s k)
    = ((PleSpec.pe (p b s) wp k : ℝ) : EReal) := by
  pointwise [res_main_v21]
  simp only [h1, h9, coe_sum, ← EReal.coe_mul]; rfl

include h0 h1 h3 h6 h9 in
theorem v32_at (k : Fin 1024) : (res_main_v32 (F := Ideal) V : FVec Ideal S2x2048x1024 .f32) (ix3 b s k)
    = ((PleSpec.x3 (x b s) gp (p b s) w wp k : ℝ) : EReal) := by
  pointwise [res_main_v32]
  rw [v27_at V x gp w h0 h3 h6, v21_at V p wp h1 h9, h0, ← EReal.coe_mul, ← EReal.coe_add]; rfl

include h0 h1 h3 h6 h9 in
theorem v39_at : (res_main_v39 (F := Ideal) V : FVec Ideal S2x2048x1 .f32) (ix3 b s 0)
    = ((ms (PleSpec.x3 (x b s) gp (p b s) w wp) : ℝ) : EReal) := by
  pointwise [res_main_v39]
  simp only [v32_at V x gp p w wp h0 h1 h3 h6 h9, ofBits_1024, ofBits_eps, zero_add, coe_sum, ← EReal.coe_mul,
    div_real _ (by norm_num : (1024 : ℝ) ≠ 0), ← EReal.coe_add]
  unfold ms; push_cast; rfl

include h0 h1 h3 h6 h9 in
theorem v40_at : (res_main_v40 (F := Ideal) V : FVec Ideal S2x2048x1 .f32) (ix3 b s 0)
    = ((rs (PleSpec.x3 (x b s) gp (p b s) w wp) : ℝ) : EReal) := by
  pointwise [res_main_v40]
  rw [v39_at V x gp p w wp h0 h1 h3 h6 h9, rsqrt_real (ms_pos _)]; rfl

include h0 h1 h3 h6 h9 in
theorem v45_at (k : Fin 1024) : (res_main_v45 (F := Ideal) V : FVec Ideal S2x2048x1024 .f32) (ix3 b s k)
    = ((nrm (PleSpec.x3 (x b s) gp (p b s) w wp) k : ℝ) : EReal) := by
  pointwise [res_main_v45]
  rw [v40_at V x gp p w wp h0 h1 h3 h6 h9, v32_at V x gp p w wp h0 h1 h3 h6 h9, ← EReal.coe_mul]; rfl

include h0 h1 h2 h3 h4 h6 h9 in
theorem v49_at (k : Fin 1024) : (res_main_v49 (F := Ideal) V : FVec Ideal S2x2048x1024 .f32) (ix3 b s k)
    = ((PleSpec.err (x b s) (tg b s) gp gf (p b s) w wp k : ℝ) : EReal) := by
  pointwise [res_main_v49, res_main_v46]
  rw [v45_at V x gp p w wp h0 h1 h3 h6 h9, h2, h4, ← EReal.coe_mul, ← EReal.coe_sub]; rfl

include h0 h1 h2 h3 h4 h6 h9 in
theorem v63_at (k : Fin 1024) : (res_main_v63 (F := Ideal) V : FVec Ideal S2x2048x1024 .f32) (ix3 b s k)
    = ((PleSpec.err (x b s) (tg b s) gp gf (p b s) w wp k * (1 / 1024) : ℝ) : EReal) := by
  pointwise [res_main_v63]
  rw [v49_at V x tg gp gf p w wp h0 h1 h2 h3 h4 h6 h9, ofBits_half, ofBits_two, ofBits_1024,
    div_real _ (by norm_num : (1024 : ℝ) ≠ 0), ← EReal.coe_mul, ← EReal.coe_mul]
  refine congrArg _ ?_
  ring

include h0 h1 h2 h3 h4 h6 h9 in
theorem v68_at (k : Fin 1024) : (res_main_v68 (F := Ideal) V : FVec Ideal S2x2048x1024 .f32) (ix3 b s k)
    = ((PleSpec.err (x b s) (tg b s) gp gf (p b s) w wp k * (gf k * (1 / 1024)) : ℝ) : EReal) := by
  pointwise [res_main_v68, res_main_v46]
  rw [v63_at V x tg gp gf p w wp h0 h1 h2 h3 h4 h6 h9, h4, ← EReal.coe_mul]
  refine congrArg _ ?_
  ring

include h0 h1 h2 h3 h4 h6 h9 in
theorem v83_at (k : Fin 1024) : (res_main_v83 (F := Ideal) V : FVec Ideal S2x2048x1024 .f32) (ix3 b s k)
    = ((PleSpec.dx3 (x b s) (tg b s) gp gf (p b s) w wp k : ℝ) : EReal) := by
  pointwise [res_main_v83, res_main_v79]
  simp only [v68_at V x tg gp gf p w wp h0 h1 h2 h3 h4 h6 h9, v40_at V x gp p w wp h0 h1 h3 h6 h9, v39_at V x gp p w wp h0 h1 h3 h6 h9,
    v32_at V x gp p w wp h0 h1 h3 h6 h9, ofBits_neg_half, ofBits_1024, zero_add, Fin.sum_univ_one, coe_sum, ← EReal.coe_mul,
    div_real _ (ms_pos _).ne', div_real _ (by norm_num : (1024 : ℝ) ≠ 0), ← EReal.coe_add]
  refine congrArg _ ?_
  rw [PleSpec.dx3, ← chain_eq_back]
  push_cast
  rfl

include h0 h1 h2 h3 h4 h6 h9 in
theorem v86_at (k : Fin 1024) : (res_main_v86 (F := Ideal) V : FVec Ideal S2x2048x1024 .f32) (ix3 b s k)
    = ((PleSpec.dt (x b s) (tg b s) gp gf (p b s) w wp k : ℝ) : EReal) := by
  pointwise [res_main_v86]
  rw [v83_at V x tg gp gf p w wp h0 h1 h2 h3 h4 h6 h9, v27_at V x gp w h0 h3 h6, v21_at V p wp h1 h9, ← EReal.coe_one,
    ← EReal.coe_sub, ← EReal.coe_mul, ← EReal.coe_mul, ← EReal.coe_mul]
  refine congrArg _ ?_
  unfold PleSpec.dt PleSpec.dpe
  ring

include h0 h1 h2 h3 h4 h6 h9 in
theorem v87_at (k : Fin 1024) : (res_main_v87 (F := Ideal) V : FVec Ideal S2x2048x1024 .f32) (ix3 b s k)
    = ((PleSpec.dh3 (x b s) (tg b s) gp gf (p b s) w wp k : ℝ) : EReal) := by
  pointwise [res_main_v87, res_main_v17]
  simp only [v86_at V x tg gp gf p w wp h0 h1 h2 h3 h4 h6 h9, h6, coe_sum, ← EReal.coe_mul]; rfl

include h0 h1 h2 h3 h4 h6 h9 in
theorem v92_at (k : Fin 1024) : (res_main_v92 (F := Ideal) V : FVec Ideal S2x2048x1024 .f32) (ix3 b s k)
    = ((PleSpec.dh3 (x b s) (tg b s) gp gf (p b s) w wp k * gp k : ℝ) : EReal) := by
  pointwise [res_main_v92, res_main_v14]
  rw [v87_at V x tg gp gf p w wp h0 h1 h2 h3 h4 h6 h9, h3, ← EReal.coe_mul]

include h0 h1 h2 h3 h4 h6 h9 in
theorem v108_at (k : Fin 1024) : (res_main_v108 (F := Ideal) V : FVec Ideal S2x2048x1024 .f32) (ix3 b s k)
    = ((PleSpec.dx2 (x b s) (tg b s) gp gf (p b s) w wp k : ℝ) : EReal) := by
  pointwise [res_main_v108, res_main_v104]
  simp only [v83_at V x tg gp gf p w wp h0 h1 h2 h3 h4 h6 h9, v92_at V x tg gp gf p w wp h0 h1 h2 h3 h4 h6 h9, v8_at V x h0, v7_at V x h0,
    h0, ofBits_neg_half, ofBits_1024, zero_add, Fin.sum_univ_one, coe_sum, ← EReal.coe_mul,
    div_real _ (ms_pos _).ne', div_real _ (by norm_num : (1024 : ℝ) ≠ 0), ← EReal.coe_add]
  refine congrArg _ ?_
  rw [PleSpec.dx2, ← chain_eq_back]
  push_cast
  ring

end Cert.PleRefIdeal.At

end
-- ==== Proof.StatRows.lean ====
/- A block of `K` rows stored one row at a time: what is read back at a row. -/
module

public import Idealize.ShloMosaic.Lib.Pipeline.FrameBody
public import Idealize.ShloMosaic.Lib.Pipeline.ValueKit

@[expose] public section

set_option maxRecDepth 16384

noncomputable section

namespace Cert.StatRows

open Idealize.ShloMosaic

variable {K n : ℕ} {e : EltTy} {Val : EltTy → Type} [∀ e, Nonempty (Val e)]

theorem emb_row (a : ℕ) (r : Fin K) (t : Fin n) (h : r.val = a)
    (inb : ∀ x, (![a, 0] : Fin 2 → ℕ) x + (![1, n] : Fin 2 → ℕ) x ≤ (⟨2, ![K, n]⟩ : Shape).size x) :
    (Rect.unit (s := (⟨2, ![K, n]⟩ : Shape)) ![a, 0] ![1, n] inb).emb (ix2 (0 : Fin 1) t : (⟨2, ![1, n]⟩ : Shape).Idx) = ix2 r t := by
  funext x; apply Fin.ext
  fin_cases x
  · show a + 1 * 0 = r.val; omega
  · show 0 + 1 * t.val = t.val; omega

/-- The row last stored is read back as stored. -/
theorem canon_hit (a : ℕ) (r : Fin K) (t : Fin n) (h : r.val = a)
    (inb : ∀ x, (![a, 0] : Fin 2 → ℕ) x + (![1, n] : Fin 2 → ℕ) x ≤ (⟨2, ![K, n]⟩ : Shape).size x)
    (w : (⟨2, ![1, n]⟩ : Shape).Idx → Val e) (L : List (View.Piece Val (⟨2, ![K, n]⟩ : Shape) e)) :
    View.canon ((⟨Rect.unit (s := (⟨2, ![K, n]⟩ : Shape)) ![a, 0] ![1, n] inb, w⟩ : View.Piece Val (⟨2, ![K, n]⟩ : Shape) e) :: L) (ix2 r t)
      = w (ix2 (0 : Fin 1) t) := by
  rw [← emb_row a r t h inb]
  exact View.canon_cons_emb (Rect.unit (s := (⟨2, ![K, n]⟩ : Shape)) ![a, 0] ![1, n] inb) w L (ix2 (0 : Fin 1) t)

/-- Another row is what the earlier stores left. -/
theorem canon_miss (a : ℕ) (r : Fin K) (t : Fin n) (h : r.val ≠ a)
    (inb : ∀ x, (![a, 0] : Fin 2 → ℕ) x + (![1, n] : Fin 2 → ℕ) x ≤ (⟨2, ![K, n]⟩ : Shape).size x)
    (w : (⟨2, ![1, n]⟩ : Shape).Idx → Val e) (L : List (View.Piece Val (⟨2, ![K, n]⟩ : Shape) e)) :
    View.canon ((⟨Rect.unit (s := (⟨2, ![K, n]⟩ : Shape)) ![a, 0] ![1, n] inb, w⟩ : View.Piece Val (⟨2, ![K, n]⟩ : Shape) e) :: L) (ix2 r t)
      = View.canon L (ix2 r t) := by
  refine View.canon_cons_of_not_mem _ L fun hm => ?_
  obtain ⟨i, hi, he⟩ := (LoadRect.mem_set _).mp hm (0 : Fin 2)
  have hi1 : i < 1 := hi
  have he' : r.val = a + 1 * i := he
  omega

/-- A row loaded back from the stores made so far. -/
theorem read_row {sig : RefSig} {κ : Kind} {sp : Space} (v : View sig κ sp (⟨2, ![K, n]⟩ : Shape) e) (a : ℕ) (r : Fin K) (t : Fin n) (h : r.val = a)
    (inb : ∀ x, (![a, 0] : Fin 2 → ℕ) x + (![1, n] : Fin 2 → ℕ) x ≤ (⟨2, ![K, n]⟩ : Shape).size x)
    (L : List (View.Piece Val (⟨2, ![K, n]⟩ : Shape) e)) :
    v.readCov L (Rect.unit (s := (⟨2, ![K, n]⟩ : Shape)) ![a, 0] ![1, n] inb).toLoadRect (ix2 (0 : Fin 1) t : (⟨2, ![1, n]⟩ : Shape).Idx)
      = View.canon L (ix2 r t) := by
  rw [View.readCov_eq_canon']
  exact congrArg (View.canon L) (emb_row a r t h inb)

/-- A row loaded from the block's contents. -/
theorem ld_row (X : (⟨2, ![K, n]⟩ : Shape).Idx → Val e) (a : ℕ) (r : Fin K) (t : Fin n) (h : r.val = a)
    (inb : ∀ x, (![a, 0] : Fin 2 → ℕ) x + (![1, n] : Fin 2 → ℕ) x ≤ (⟨2, ![K, n]⟩ : Shape).size x) :
    View.ld X (Rect.unit (s := (⟨2, ![K, n]⟩ : Shape)) ![a, 0] ![1, n] inb) (ix2 (0 : Fin 1) t : (⟨2, ![1, n]⟩ : Shape).Idx)
      = X (ix2 r t) :=
  congrArg X (emb_row a r t h inb)

end Cert.StatRows

end
-- ==== Proof.PleValue.lean ====
/- The per-layer embedding's backward kernel and its reference leave the same arrays. -/
module

public import proofs.«01_k».proof.Proof.PleBlocks
public import proofs.«01_k».proof.Proof.PleRef
public import proofs.«01_k».proof.Proof.StatRows

@[expose] public section

set_option maxRecDepth 16384

noncomputable section

namespace Cert.PleIdeal.Out

open Cert.PleIdeal Cert.PleIdeal.Gen Cert.PleIdeal.Blk Cert.Rows Idealize.ShloMosaic Idealize.ShloMosaic.TcCoe

variable (m : (ℓ : Loc nD τ sig) → Buf (Elt Ideal) ℓ) (c : Dev nD)
  (x tg : Fin 2 → Fin 2048 → Fin 1024 → ℝ) (p : Fin 2 → Fin 2048 → Fin 256 → ℝ) (gp gf : Fin 1024 → ℝ)
  (w : Fin 1024 → Fin 1024 → ℝ) (wp : Fin 256 → Fin 1024 → ℝ)
  (h0 : ∀ b s k, (m ((c : Thread nD τ).loc main_arg0) : FVec Ideal S2x2048x1024 .f32) (ix3 b s k) = ((x b s k : ℝ) : EReal))
  (h1 : ∀ b s k, (m ((c : Thread nD τ).loc main_arg1) : FVec Ideal S1x2x2048x256 .f32) (ix4 0 b s k) = ((p b s k : ℝ) : EReal))
  (h2 : ∀ b s k, (m ((c : Thread nD τ).loc main_arg2) : FVec Ideal S2x2048x1024 .f32) (ix3 b s k) = ((tg b s k : ℝ) : EReal))
  (h3 : ∀ k, (m ((c : Thread nD τ).loc main_arg3) : FVec Ideal S1x1024 .f32) (ix2 0 k) = ((gp k : ℝ) : EReal))
  (h4 : ∀ k, (m ((c : Thread nD τ).loc main_arg4) : FVec Ideal S1024 .f32) (ix1 k) = ((gf k : ℝ) : EReal))
  (h6 : ∀ k j, (m ((c : Thread nD τ).loc main_arg6) : FVec Ideal S1x1024x1024 .f32) (ix3 0 k j) = ((w k j : ℝ) : EReal))
  (h9 : ∀ k j, (m ((c : Thread nD τ).loc main_arg9) : FVec Ideal S1x256x1024 .f32) (ix3 0 k j) = ((wp k j : ℝ) : EReal))

section Blocks
variable (t : Fin cfg0.N) (r : Fin 512)
include h0 in
theorem b0 (k : Fin 1024) : (iblk m c 0 t : Vec Ideal S512x1024 .f32) (ix2 r k) = ((x (tb t.val r) (ts t.val r) k : ℝ) : EReal) := (read0 m c t r k).trans (h0 _ _ _)
include h1 in
theorem b1 (k : Fin 256) : (iblk m c 1 t : Vec Ideal S512x256 .f32) (ix2 r k) = ((p (tb t.val r) (ts t.val r) k : ℝ) : EReal) := (read1 m c t r k).trans (h1 _ _ _)
include h2 in
theorem b2 (k : Fin 1024) : (iblk m c 2 t : Vec Ideal S512x1024 .f32) (ix2 r k) = ((tg (tb t.val r) (ts t.val r) k : ℝ) : EReal) := (read2 m c t r k).trans (h2 _ _ _)
include h3 in
theorem b3 (k : Fin 1024) : (iblk m c 3 t : Vec Ideal S1x1024 .f32) (ix2 0 k) = ((gp k : ℝ) : EReal) := (read3 m c t k).trans (h3 _)
include h4 in
theorem b4 (k : Fin 1024) : k0_pay3 (F := Ideal) (iblk m c 4 t) (ix2 0 k) = ((gf k : ℝ) : EReal) := by
  pointwise [k0_pay3]
  exact (read4 m c t k).trans (h4 _)
include h6 in
theorem b5 (k j : Fin 1024) : k0_pay4 (F := Ideal) (X0_5 m c t) (ix2 k j) = ((w k j : ℝ) : EReal) := (read5 m c t k j).trans (h6 _ _)
include h9 in
theorem b6 (k : Fin 256) (j : Fin 1024) : (iblk m c 6 t : Vec Ideal S1024x256 .bf16) (ix2 j k) = ((wp k j : ℝ) : EReal) := (read6 m c t j k).trans (h9 _ _)
end Blocks

include h0 h1 h2 h3 h4 h6 h9 in
theorem out7 (t : Fin cfg0.N) (r : Fin 512) (k : Fin 1024) : (outsAt0 m c t.val t.isLt).1 (ix2 r k)
    = ((PleSpec.dx2 (x (tb t.val r) (ts t.val r)) (tg (tb t.val r) (ts t.val r)) gp gf (p (tb t.val r) (ts t.val r)) w wp k : ℝ) : EReal) := by
  by_cases h : t.val % 8 = 0
  · rw [outsAt0_A m c t h]
    frame_out
    exact Pay.dx2_at _ _ _ _ _ _ _ r _ _ _ _ _ _ _ (b0 m c x h0 t r) (b2 m c tg h2 t r) (b3 m c gp h3 t) (b4 m c gf h4 t) (b5 m c w h6 t) (b1 m c p h1 t r) (b6 m c wp h9 t) k
  · rw [outsAt0_B m c t h]
    frame_out
    exact Pay.dx2_at _ _ _ _ _ _ _ r _ _ _ _ _ _ _ (b0 m c x h0 t r) (b2 m c tg h2 t r) (b3 m c gp h3 t) (b4 m c gf h4 t) (b5 m c w h6 t) (b1 m c p h1 t r) (b6 m c wp h9 t) k

include h0 h1 h2 h3 h4 h6 h9 in
theorem out8 (t : Fin cfg0.N) (r : Fin 512) (k : Fin 1024) : (outsAt0 m c t.val t.isLt).2.1 (ix2 r k)
    = ((PleSpec.dt (x (tb t.val r) (ts t.val r)) (tg (tb t.val r) (ts t.val r)) gp gf (p (tb t.val r) (ts t.val r)) w wp k : ℝ) : EReal) := by
  by_cases h : t.val % 8 = 0
  · rw [outsAt0_A m c t h]
    frame_out
    exact Pay.dt_at _ _ _ _ _ _ _ r _ _ _ _ _ _ _ (b0 m c x h0 t r) (b2 m c tg h2 t r) (b3 m c gp h3 t) (b4 m c gf h4 t) (b5 m c w h6 t) (b1 m c p h1 t r) (b6 m c wp h9 t) k
  · rw [outsAt0_B m c t h]
    frame_out
    exact Pay.dt_at _ _ _ _ _ _ _ r _ _ _ _ _ _ _ (b0 m c x h0 t r) (b2 m c tg h2 t r) (b3 m c gp h3 t) (b4 m c gf h4 t) (b5 m c w h6 t) (b1 m c p h1 t r) (b6 m c wp h9 t) k

include h0 h1 h2 h3 h4 h6 h9 in
theorem out9 (t : Fin cfg0.N) (r : Fin 512) (k : Fin 1024) : (outsAt0 m c t.val t.isLt).2.2.1 (ix2 r k)
    = ((PleSpec.h3 (x (tb t.val r) (ts t.val r)) gp k : ℝ) : EReal) := by
  by_cases h : t.val % 8 = 0
  · rw [outsAt0_A m c t h]
    frame_out
    exact Pay.h3_at _ _ r _ _ (b0 m c x h0 t r) (b3 m c gp h3 t) k
  · rw [outsAt0_B m c t h]
    frame_out
    exact Pay.h3_at _ _ r _ _ (b0 m c x h0 t r) (b3 m c gp h3 t) k

include h0 h1 h2 h3 h4 h6 h9 in
theorem out10 (t : Fin cfg0.N) (r : Fin 512) (k : Fin 1024) : (outsAt0 m c t.val t.isLt).2.2.2.1 (ix2 r k)
    = ((PleSpec.dpe (x (tb t.val r) (ts t.val r)) (tg (tb t.val r) (ts t.val r)) gp gf (p (tb t.val r) (ts t.val r)) w wp k : ℝ) : EReal) := by
  by_cases h : t.val % 8 = 0
  · rw [outsAt0_A m c t h]
    frame_out
    exact Pay.dpe_at _ _ _ _ _ _ _ r _ _ _ _ _ _ _ (b0 m c x h0 t r) (b2 m c tg h2 t r) (b3 m c gp h3 t) (b4 m c gf h4 t) (b5 m c w h6 t) (b1 m c p h1 t r) (b6 m c wp h9 t) k
  · rw [outsAt0_B m c t h]
    frame_out
    exact Pay.dpe_at _ _ _ _ _ _ _ r _ _ _ _ _ _ _ (b0 m c x h0 t r) (b2 m c tg h2 t r) (b3 m c gp h3 t) (b4 m c gf h4 t) (b5 m c w h6 t) (b1 m c p h1 t r) (b6 m c wp h9 t) k

include h0 h1 h2 h3 h4 h6 h9 in
theorem out12 (t : Fin cfg0.N) (r : Fin 512) (k : Fin 1024) : (outsAt0 m c t.val t.isLt).2.2.2.2.2 (ix2 r k)
    = ((PleSpec.dx2 (x (tb t.val r) (ts t.val r)) (tg (tb t.val r) (ts t.val r)) gp gf (p (tb t.val r) (ts t.val r)) w wp k : ℝ) : EReal) := by
  by_cases h : t.val % 8 = 0
  · rw [outsAt0_A m c t h]
    frame_out
    exact Pay.dx2_at _ _ _ _ _ _ _ r _ _ _ _ _ _ _ (b0 m c x h0 t r) (b2 m c tg h2 t r) (b3 m c gp h3 t) (b4 m c gf h4 t) (b5 m c w h6 t) (b1 m c p h1 t r) (b6 m c wp h9 t) k
  · rw [outsAt0_B m c t h]
    frame_out
    exact Pay.dx2_at _ _ _ _ _ _ _ r _ _ _ _ _ _ _ (b0 m c x h0 t r) (b2 m c tg h2 t r) (b3 m c gp h3 t) (b4 m c gf h4 t) (b5 m c w h6 t) (b1 m c p h1 t r) (b6 m c wp h9 t) k

end Cert.PleIdeal.Out

end
-- ==== Proof.PleStat.lean ====
/- The three rows the per-layer embedding's backward kernel adds up over its grid. -/
module

public import proofs.«01_k».proof.Proof.PleValue
public import proofs.«01_k».proof.Proof.StatRows

@[expose] public section

set_option maxRecDepth 16384

noncomputable section

namespace Cert.PleIdeal.Out

open Cert.PleIdeal Cert.PleIdeal.Gen Cert.PleIdeal.Blk Cert.Rows Idealize.ShloMosaic Idealize.ShloMosaic.TcCoe

variable (m : (ℓ : Loc nD τ sig) → Buf (Elt Ideal) ℓ) (c : Dev nD)
  (x tg : Fin 2 → Fin 2048 → Fin 1024 → ℝ) (p : Fin 2 → Fin 2048 → Fin 256 → ℝ) (gp gf : Fin 1024 → ℝ)
  (w : Fin 1024 → Fin 1024 → ℝ) (wp : Fin 256 → Fin 1024 → ℝ)
  (h0 : ∀ b s k, (m ((c : Thread nD τ).loc main_arg0) : FVec Ideal S2x2048x1024 .f32) (ix3 b s k) = ((x b s k : ℝ) : EReal))
  (h1 : ∀ b s k, (m ((c : Thread nD τ).loc main_arg1) : FVec Ideal S1x2x2048x256 .f32) (ix4 0 b s k) = ((p b s k : ℝ) : EReal))
  (h2 : ∀ b s k, (m ((c : Thread nD τ).loc main_arg2) : FVec Ideal S2x2048x1024 .f32) (ix3 b s k) = ((tg b s k : ℝ) : EReal))
  (h3 : ∀ k, (m ((c : Thread nD τ).loc main_arg3) : FVec Ideal S1x1024 .f32) (ix2 0 k) = ((gp k : ℝ) : EReal))
  (h4 : ∀ k, (m ((c : Thread nD τ).loc main_arg4) : FVec Ideal S1024 .f32) (ix1 k) = ((gf k : ℝ) : EReal))
  (h6 : ∀ k j, (m ((c : Thread nD τ).loc main_arg6) : FVec Ideal S1x1024x1024 .f32) (ix3 0 k j) = ((w k j : ℝ) : EReal))
  (h9 : ∀ k j, (m ((c : Thread nD τ).loc main_arg9) : FVec Ideal S1x256x1024 .f32) (ix3 0 k j) = ((wp k j : ℝ) : EReal))

/-- What the tokens of one block add to a row of the statistics. -/
def blockSum (F : Fin 2 → Fin 2048 → ℝ) (u : ℕ) : ℝ := ∑ r : Fin 512, F (tb u r) (ts u r)

/-- Zeroes stored over the whole block are read back as zeroes. -/
theorem zeros (inb) (i : Fin 3) (k : Fin 1024) : View.canon [(⟨Rect.unit (s := S3x1024) ![0, 0] ![3, 1024] inb, k0_pay1 (F := Ideal)⟩ : View.Piece (Elt Ideal) S3x1024 .f32)] (ix2 i k) = ((0 : ℝ) : EReal) := by
  rw [View.canon_unit_zero (S := S3x1024) (by decide) inb]
  pointwise [k0_pay1]
  exact EReal.coe_zero.symm

/-- A token's part of row 0. -/
abbrev dh3row (k : Fin 1024) (b : Fin 2) (s : Fin 2048) : ℝ := PleSpec.dh3 (x b s) (tg b s) gp gf (p b s) w wp k * nrm (x b s) k

include h0 h1 h2 h3 h4 h6 h9 in
theorem first0 (t : Fin cfg0.N) (h : t.val % 8 = 0) (k : Fin 1024) : (outsAt0 m c t.val t.isLt).2.2.2.2.1 (ix2 0 k)
    = ((0 + blockSum (dh3row x tg p gp gf w wp k) t.val : ℝ) : EReal) := by
  rw [outsAt0_A m c t h]
  frame_out
  rw [StatRows.canon_miss 2 0 k (by decide), StatRows.canon_miss 1 0 k (by decide), StatRows.canon_hit 0 0 k rfl]
  let z : ℝ := 0
  refine Pay.stat0_at _ _ _ k (fun r => nrm (x (tb t.val r) (ts t.val r)) k) (fun r => PleSpec.dh3 (x (tb t.val r) (ts t.val r)) (tg (tb t.val r) (ts t.val r)) gp gf (p (tb t.val r) (ts t.val r)) w wp k) z (fun r => (congrFun (Pay.pay6_eq _) _).trans (Pay.nrm_at _ r _ (b0 m c x h0 t r) k)) (fun r => Pay.dh3_at _ _ _ _ _ _ _ r _ _ _ _ _ _ _ (b0 m c x h0 t r) (b2 m c tg h2 t r) (b3 m c gp h3 t) (b4 m c gf h4 t) (b5 m c w h6 t) (b1 m c p h1 t r) (b6 m c wp h9 t) k) ?_
  rw [StatRows.read_row _ 0 0 k rfl]
  exact zeros _ 0 k

include h0 h1 h2 h3 h4 h6 h9 in
theorem next0 (t : Fin cfg0.N) (h : ¬t.val % 8 = 0) (k : Fin 1024) (z : ℝ)
    (hz : (outsAt0 m c (t.val - 1) (by have := t.isLt; omega)).2.2.2.2.1 (ix2 0 k) = ((z : ℝ) : EReal)) :
    (outsAt0 m c t.val t.isLt).2.2.2.2.1 (ix2 0 k) = ((z + blockSum (dh3row x tg p gp gf w wp k) t.val : ℝ) : EReal) := by
  rw [outsAt0_B m c t h]
  frame_out
  rw [StatRows.canon_miss 2 0 k (by decide), StatRows.canon_miss 1 0 k (by decide), StatRows.canon_hit 0 0 k rfl]
  refine Pay.stat0_at _ _ _ k (fun r => nrm (x (tb t.val r) (ts t.val r)) k) (fun r => PleSpec.dh3 (x (tb t.val r) (ts t.val r)) (tg (tb t.val r) (ts t.val r)) gp gf (p (tb t.val r) (ts t.val r)) w wp k) z (fun r => (congrFun (Pay.pay6_eq _) _).trans (Pay.nrm_at _ r _ (b0 m c x h0 t r) k)) (fun r => Pay.dh3_at _ _ _ _ _ _ _ r _ _ _ _ _ _ _ (b0 m c x h0 t r) (b2 m c tg h2 t r) (b3 m c gp h3 t) (b4 m c gf h4 t) (b5 m c w h6 t) (b1 m c p h1 t r) (b6 m c wp h9 t) k) ?_
  rw [StatRows.ld_row _ 0 0 k rfl]
  exact hz

include h0 h1 h2 h3 h4 h6 h9 in
theorem stat0 (n : ℕ) (hn : n < cfg0.N) (k : Fin 1024) : (outsAt0 m c n hn).2.2.2.2.1 (ix2 0 k)
    = ((∑ u ∈ Finset.range (n + 1), blockSum (dh3row x tg p gp gf w wp k) u : ℝ) : EReal) := by
  induction n with
  | zero =>
    rw [Finset.sum_range_succ, Finset.sum_range_zero]
    exact first0 m c x tg p gp gf w wp h0 h1 h2 h3 h4 h6 h9 ⟨0, hn⟩ rfl k
  | succ n ih =>
    rw [Finset.sum_range_succ]
    have hN : cfg0.N = 8 := N_0
    exact next0 m c x tg p gp gf w wp h0 h1 h2 h3 h4 h6 h9 ⟨n + 1, hn⟩ (by show ¬(n + 1) % 8 = 0; omega) k _ (ih _)

/-- A token's part of row 1. -/
abbrev errrow (k : Fin 1024) (b : Fin 2) (s : Fin 2048) : ℝ := PleSpec.err (x b s) (tg b s) gp gf (p b s) w wp k * nrm (PleSpec.x3 (x b s) gp (p b s) w wp) k

include h0 h1 h2 h3 h4 h6 h9 in
theorem first1 (t : Fin cfg0.N) (h : t.val % 8 = 0) (k : Fin 1024) : (outsAt0 m c t.val t.isLt).2.2.2.2.1 (ix2 1 k)
    = ((0 + blockSum (errrow x tg p gp gf w wp k) t.val * (1 / 1024) : ℝ) : EReal) := by
  rw [outsAt0_A m c t h]
  frame_out
  rw [StatRows.canon_miss 2 1 k (by decide), StatRows.canon_hit 1 1 k rfl]
  let z : ℝ := 0
  refine Pay.stat1_at _ _ _ k (fun r => nrm (PleSpec.x3 (x (tb t.val r) (ts t.val r)) gp (p (tb t.val r) (ts t.val r)) w wp) k) (fun r => PleSpec.err (x (tb t.val r) (ts t.val r)) (tg (tb t.val r) (ts t.val r)) gp gf (p (tb t.val r) (ts t.val r)) w wp k) z (fun r => Pay.nrm_at _ r _ (Pay.x3_at _ _ _ _ _ r _ _ _ _ _ (b0 m c x h0 t r) (b3 m c gp h3 t) (b5 m c w h6 t) (b1 m c p h1 t r) (b6 m c wp h9 t)) k) (fun r => Pay.err_at _ _ _ _ _ _ _ r _ _ _ _ _ _ _ (b0 m c x h0 t r) (b2 m c tg h2 t r) (b3 m c gp h3 t) (b4 m c gf h4 t) (b5 m c w h6 t) (b1 m c p h1 t r) (b6 m c wp h9 t) k) ?_
  rw [StatRows.read_row _ 1 1 k rfl]
  rw [StatRows.canon_miss 0 1 k (by decide)]; exact zeros _ 1 k

include h0 h1 h2 h3 h4 h6 h9 in
theorem next1 (t : Fin cfg0.N) (h : ¬t.val % 8 = 0) (k : Fin 1024) (z : ℝ)
    (hz : (outsAt0 m c (t.val - 1) (by have := t.isLt; omega)).2.2.2.2.1 (ix2 1 k) = ((z : ℝ) : EReal)) :
    (outsAt0 m c t.val t.isLt).2.2.2.2.1 (ix2 1 k) = ((z + blockSum (errrow x tg p gp gf w wp k) t.val * (1 / 1024) : ℝ) : EReal) := by
  rw [outsAt0_B m c t h]
  frame_out
  rw [StatRows.canon_miss 2 1 k (by decide), StatRows.canon_hit 1 1 k rfl]
  refine Pay.stat1_at _ _ _ k (fun r => nrm (PleSpec.x3 (x (tb t.val r) (ts t.val r)) gp (p (tb t.val r) (ts t.val r)) w wp) k) (fun r => PleSpec.err (x (tb t.val r) (ts t.val r)) (tg (tb t.val r) (ts t.val r)) gp gf (p (tb t.val r) (ts t.val r)) w wp k) z (fun r => Pay.nrm_at _ r _ (Pay.x3_at _ _ _ _ _ r _ _ _ _ _ (b0 m c x h0 t r) (b3 m c gp h3 t) (b5 m c w h6 t) (b1 m c p h1 t r) (b6 m c wp h9 t)) k) (fun r => Pay.err_at _ _ _ _ _ _ _ r _ _ _ _ _ _ _ (b0 m c x h0 t r) (b2 m c tg h2 t r) (b3 m c gp h3 t) (b4 m c gf h4 t) (b5 m c w h6 t) (b1 m c p h1 t r) (b6 m c wp h9 t) k) ?_
  rw [StatRows.ld_row _ 1 1 k rfl]
  exact hz

include h0 h1 h2 h3 h4 h6 h9 in
theorem stat1 (n : ℕ) (hn : n < cfg0.N) (k : Fin 1024) : (outsAt0 m c n hn).2.2.2.2.1 (ix2 1 k)
    = ((∑ u ∈ Finset.range (n + 1), blockSum (errrow x tg p gp gf w wp k) u * (1 / 1024) : ℝ) : EReal) := by
  induction n with
  | zero =>
    rw [Finset.sum_range_succ, Finset.sum_range_zero]
    exact first1 m c x tg p gp gf w wp h0 h1 h2 h3 h4 h6 h9 ⟨0, hn⟩ rfl k
  | succ n ih =>
    rw [Finset.sum_range_succ]
    have hN : cfg0.N = 8 := N_0
    exact next1 m c x tg p gp gf w wp h0 h1 h2 h3 h4 h6 h9 ⟨n + 1, hn⟩ (by show ¬(n + 1) % 8 = 0; omega) k _ (ih _)

/-- A token's part of row 2. -/
abbrev sqrow (k : Fin 1024) (b : Fin 2) (s : Fin 2048) : ℝ := PleSpec.err (x b s) (tg b s) gp gf (p b s) w wp k * PleSpec.err (x b s) (tg b s) gp gf (p b s) w wp k

include h0 h1 h2 h3 h4 h6 h9 in
theorem first2 (t : Fin cfg0.N) (h : t.val % 8 = 0) (k : Fin 1024) : (outsAt0 m c t.val t.isLt).2.2.2.2.1 (ix2 2 k)
    = ((0 + blockSum (sqrow x tg p gp gf w wp k) t.val * (1 / 2048) : ℝ) : EReal) := by
  rw [outsAt0_A m c t h]
  frame_out
  rw [StatRows.canon_hit 2 2 k rfl]
  let z : ℝ := 0
  refine Pay.stat2_at _ _ k (fun r => PleSpec.err (x (tb t.val r) (ts t.val r)) (tg (tb t.val r) (ts t.val r)) gp gf (p (tb t.val r) (ts t.val r)) w wp k) z (fun r => Pay.err_at _ _ _ _ _ _ _ r _ _ _ _ _ _ _ (b0 m c x h0 t r) (b2 m c tg h2 t r) (b3 m c gp h3 t) (b4 m c gf h4 t) (b5 m c w h6 t) (b1 m c p h1 t r) (b6 m c wp h9 t) k) ?_
  rw [StatRows.read_row _ 2 2 k rfl]
  rw [StatRows.canon_miss 1 2 k (by decide), StatRows.canon_miss 0 2 k (by decide)]; exact zeros _ 2 k

include h0 h1 h2 h3 h4 h6 h9 in
theorem next2 (t : Fin cfg0.N) (h : ¬t.val % 8 = 0) (k : Fin 1024) (z : ℝ)
    (hz : (outsAt0 m c (t.val - 1) (by have := t.isLt; omega)).2.2.2.2.1 (ix2 2 k) = ((z : ℝ) : EReal)) :
    (outsAt0 m c t.val t.isLt).2.2.2.2.1 (ix2 2 k) = ((z + blockSum (sqrow x tg p gp gf w wp k) t.val * (1 / 2048) : ℝ) : EReal) := by
  rw [outsAt0_B m c t h]
  frame_out
  rw [StatRows.canon_hit 2 2 k rfl]
  refine Pay.stat2_at _ _ k (fun r => PleSpec.err (x (tb t.val r) (ts t.val r)) (tg (tb t.val r) (ts t.val r)) gp gf (p (tb t.val r) (ts t.val r)) w wp k) z (fun r => Pay.err_at _ _ _ _ _ _ _ r _ _ _ _ _ _ _ (b0 m c x h0 t r) (b2 m c tg h2 t r) (b3 m c gp h3 t) (b4 m c gf h4 t) (b5 m c w h6 t) (b1 m c p h1 t r) (b6 m c wp h9 t) k) ?_
  rw [StatRows.ld_row _ 2 2 k rfl]
  exact hz

include h0 h1 h2 h3 h4 h6 h9 in
theorem stat2 (n : ℕ) (hn : n < cfg0.N) (k : Fin 1024) : (outsAt0 m c n hn).2.2.2.2.1 (ix2 2 k)
    = ((∑ u ∈ Finset.range (n + 1), blockSum (sqrow x tg p gp gf w wp k) u * (1 / 2048) : ℝ) : EReal) := by
  induction n with
  | zero =>
    rw [Finset.sum_range_succ, Finset.sum_range_zero]
    exact first2 m c x tg p gp gf w wp h0 h1 h2 h3 h4 h6 h9 ⟨0, hn⟩ rfl k
  | succ n ih =>
    rw [Finset.sum_range_succ]
    have hN : cfg0.N = 8 := N_0
    exact next2 m c x tg p gp gf w wp h0 h1 h2 h3 h4 h6 h9 ⟨n + 1, hn⟩ (by show ¬(n + 1) % 8 = 0; omega) k _ (ih _)

end Cert.PleIdeal.Out

end
-- ==== Proof.PleFin.lean ====
/- The arrays the per-layer embedding's backward kernel leaves, from their entries. -/
module

public import proofs.«01_k».proof.Proof.PleStat
public import proofs.«01_k».proof.Proof.StatRows

@[expose] public section

set_option maxRecDepth 16384

noncomputable section

namespace Cert.PleIdeal.Out

open Cert.PleIdeal Cert.PleIdeal.Gen Cert.PleIdeal.Blk Cert.Rows Idealize.ShloMosaic Idealize.ShloMosaic.TcCoe

variable (m : (ℓ : Loc nD τ sig) → Buf (Elt Ideal) ℓ) (c : Dev nD)
  (x tg : Fin 2 → Fin 2048 → Fin 1024 → ℝ) (p : Fin 2 → Fin 2048 → Fin 256 → ℝ) (gp gf : Fin 1024 → ℝ)
  (w : Fin 1024 → Fin 1024 → ℝ) (wp : Fin 256 → Fin 1024 → ℝ)
  (h0 : ∀ b s k, (m ((c : Thread nD τ).loc main_arg0) : FVec Ideal S2x2048x1024 .f32) (ix3 b s k) = ((x b s k : ℝ) : EReal))
  (h1 : ∀ b s k, (m ((c : Thread nD τ).loc main_arg1) : FVec Ideal S1x2x2048x256 .f32) (ix4 0 b s k) = ((p b s k : ℝ) : EReal))
  (h2 : ∀ b s k, (m ((c : Thread nD τ).loc main_arg2) : FVec Ideal S2x2048x1024 .f32) (ix3 b s k) = ((tg b s k : ℝ) : EReal))
  (h3 : ∀ k, (m ((c : Thread nD τ).loc main_arg3) : FVec Ideal S1x1024 .f32) (ix2 0 k) = ((gp k : ℝ) : EReal))
  (h4 : ∀ k, (m ((c : Thread nD τ).loc main_arg4) : FVec Ideal S1024 .f32) (ix1 k) = ((gf k : ℝ) : EReal))
  (h6 : ∀ k j, (m ((c : Thread nD τ).loc main_arg6) : FVec Ideal S1x1024x1024 .f32) (ix3 0 k j) = ((w k j : ℝ) : EReal))
  (h9 : ∀ k j, (m ((c : Thread nD τ).loc main_arg9) : FVec Ideal S1x256x1024 .f32) (ix3 0 k j) = ((wp k j : ℝ) : EReal))

theorem row (t : Fin cfg0.N) (r : Fin 512) : tb t.val r = qb (tr t r) ∧ ts t.val r = qs (tr t r) :=
  ⟨tb_qb _ _ _, rfl⟩

include h0 h1 h2 h3 h4 h6 h9 in
theorem fin7 (G : FVec Ideal S4096x1024 .f32) (hG : ∀ (q : Fin 4096) (k : Fin 1024), G (ix2 q k) = ((PleSpec.dx2 (x (qb q) (qs q)) (tg (qb q) (qs q)) gp gf (p (qb q) (qs q)) w wp k : ℝ) : EReal)) :
    (dats m 0 c).arrAt 7 (cfgs 0).N = G := by
  refine (dats m 0 c).arrAt_eq_of_covers 7 _ (by decide +kernel) fun t hf y => ?_
  blk_simp
  rw [after0_7]
  idx_vars y
  have e : (win0_7.blk t).view.emb (ix2 y0 y1) = (ix2 (tr t y0) y1 : S4096x1024.Idx) := by blk_ext [idx t, tr]
  rw [e]
  refine (out7 m c x tg p gp gf w wp h0 h1 h2 h3 h4 h6 h9 t y0 y1).trans (Eq.trans ?_ (hG (tr t y0) y1).symm)
  rw [(row t y0).1, (row t y0).2]

include h0 h1 h2 h3 h4 h6 h9 in
theorem fin8 (G : FVec Ideal S4096x1024 .bf16) (hG : ∀ (q : Fin 4096) (k : Fin 1024), G (ix2 q k) = ((PleSpec.dt (x (qb q) (qs q)) (tg (qb q) (qs q)) gp gf (p (qb q) (qs q)) w wp k : ℝ) : EReal)) :
    (dats m 0 c).arrAt 8 (cfgs 0).N = G := by
  refine (dats m 0 c).arrAt_eq_of_covers 8 _ (by decide +kernel) fun t hf y => ?_
  blk_simp
  rw [after0_8]
  idx_vars y
  have e : (win0_8.blk t).view.emb (ix2 y0 y1) = (ix2 (tr t y0) y1 : S4096x1024.Idx) := by blk_ext [idx t, tr]
  rw [e]
  refine (out8 m c x tg p gp gf w wp h0 h1 h2 h3 h4 h6 h9 t y0 y1).trans (Eq.trans ?_ (hG (tr t y0) y1).symm)
  rw [(row t y0).1, (row t y0).2]

include h0 h1 h2 h3 h4 h6 h9 in
theorem fin9 (G : FVec Ideal S4096x1024 .bf16) (hG : ∀ (q : Fin 4096) (k : Fin 1024), G (ix2 q k) = ((PleSpec.h3 (x (qb q) (qs q)) gp k : ℝ) : EReal)) :
    (dats m 0 c).arrAt 9 (cfgs 0).N = G := by
  refine (dats m 0 c).arrAt_eq_of_covers 9 _ (by decide +kernel) fun t hf y => ?_
  blk_simp
  rw [after0_9]
  idx_vars y
  have e : (win0_9.blk t).view.emb (ix2 y0 y1) = (ix2 (tr t y0) y1 : S4096x1024.Idx) := by blk_ext [idx t, tr]
  rw [e]
  refine (out9 m c x tg p gp gf w wp h0 h1 h2 h3 h4 h6 h9 t y0 y1).trans (Eq.trans ?_ (hG (tr t y0) y1).symm)
  rw [(row t y0).1, (row t y0).2]

include h0 h1 h2 h3 h4 h6 h9 in
theorem fin10 (G : FVec Ideal S4096x1024 .bf16) (hG : ∀ (q : Fin 4096) (k : Fin 1024), G (ix2 q k) = ((PleSpec.dpe (x (qb q) (qs q)) (tg (qb q) (qs q)) gp gf (p (qb q) (qs q)) w wp k : ℝ) : EReal)) :
    (dats m 0 c).arrAt 10 (cfgs 0).N = G := by
  refine (dats m 0 c).arrAt_eq_of_covers 10 _ (by decide +kernel) fun t hf y => ?_
  blk_simp
  rw [after0_10]
  idx_vars y
  have e : (win0_10.blk t).view.emb (ix2 y0 y1) = (ix2 (tr t y0) y1 : S4096x1024.Idx) := by blk_ext [idx t, tr]
  rw [e]
  refine (out10 m c x tg p gp gf w wp h0 h1 h2 h3 h4 h6 h9 t y0 y1).trans (Eq.trans ?_ (hG (tr t y0) y1).symm)
  rw [(row t y0).1, (row t y0).2]

include h0 h1 h2 h3 h4 h6 h9 in
theorem fin12 (G : FVec Ideal S4096x1024 .bf16) (hG : ∀ (q : Fin 4096) (k : Fin 1024), G (ix2 q k) = ((PleSpec.dx2 (x (qb q) (qs q)) (tg (qb q) (qs q)) gp gf (p (qb q) (qs q)) w wp k : ℝ) : EReal)) :
    (dats m 0 c).arrAt 12 (cfgs 0).N = G := by
  refine (dats m 0 c).arrAt_eq_of_covers 12 _ (by decide +kernel) fun t hf y => ?_
  blk_simp
  rw [after0_12]
  idx_vars y
  have e : (win0_12.blk t).view.emb (ix2 y0 y1) = (ix2 (tr t y0) y1 : S4096x1024.Idx) := by blk_ext [idx t, tr]
  rw [e]
  refine (out12 m c x tg p gp gf w wp h0 h1 h2 h3 h4 h6 h9 t y0 y1).trans (Eq.trans ?_ (hG (tr t y0) y1).symm)
  rw [(row t y0).1, (row t y0).2]

include h0 h1 h2 h3 h4 h6 h9 in
theorem fin11 (G : FVec Ideal S3x1024 .f32)
    (hG0 : ∀ k, G (ix2 0 k) = ((∑ b, ∑ s, dh3row x tg p gp gf w wp k b s : ℝ) : EReal))
    (hG1 : ∀ k, G (ix2 1 k) = (((∑ b, ∑ s, errrow x tg p gp gf w wp k b s) * (1 / 1024) : ℝ) : EReal))
    (hG2 : ∀ k, G (ix2 2 k) = (((∑ b, ∑ s, sqrow x tg p gp gf w wp k b s) * (1 / 2048) : ℝ) : EReal)) :
    (dats m 0 c).arrAt 11 (cfgs 0).N = G := by
  refine (dats m 0 c).arrAt_eq_of_after_last 11 t0_7 (by decide +kernel) _ fun j => ?_
  blk_simp
  rw [after0_11]
  idx_vars j
  have hN : cfg0.N = 8 := N_0
  have hL : (t0_7 : Fin cfg0.N).val + 1 = 8 := rfl
  fin_cases j0
  · refine (stat0 m c x tg p gp gf w wp h0 h1 h2 h3 h4 h6 h9 _ _ j1).trans (Eq.trans (congrArg _ ?_) (hG0 j1).symm)
    rw [hL]; exact sum_tokens (dh3row x tg p gp gf w wp j1)
  · refine (stat1 m c x tg p gp gf w wp h0 h1 h2 h3 h4 h6 h9 _ _ j1).trans (Eq.trans (congrArg _ ?_) (hG1 j1).symm)
    rw [hL, ← Finset.sum_mul]; exact congrArg (· * (1 / 1024 : ℝ)) (sum_tokens (errrow x tg p gp gf w wp j1))
  · refine (stat2 m c x tg p gp gf w wp h0 h1 h2 h3 h4 h6 h9 _ _ j1).trans (Eq.trans (congrArg _ ?_) (hG2 j1).symm)
    rw [hL, ← Finset.sum_mul]; exact congrArg (· * (1 / 2048 : ℝ)) (sum_tokens (sqrow x tg p gp gf w wp j1))

end Cert.PleIdeal.Out

end
-- ==== Proof.SumAxes.lean ====
/- A host reduction by addition over the two leading axes of a rank-three array. -/
module

public import proofs.«01_k».proof.Proof.Rows

@[expose] public section

noncomputable section

namespace Cert.Rows

open Idealize.ShloMosaic

variable {a b n : ℕ}

theorem drop_lead (h : (⟨3, ![a, b, n]⟩ : Shape).ReducesTo [0, 1] ⟨1, ![n]⟩) (i : Fin a) (j : Fin b) (k : Fin n) :
    h.drop (ix3 i j k) = ix1 k := by
  funext c
  apply Fin.ext
  match c with
  | ⟨0, _⟩ => rfl

theorem eq_lead (h : (⟨3, ![a, b, n]⟩ : Shape).ReducesTo [0, 1] ⟨1, ![n]⟩) (y : (⟨3, ![a, b, n]⟩ : Shape).Idx) (k : Fin n)
    (e : h.drop y = ix1 k) : y = ix3 (y 0) (y 1) k := by
  have e2 : (y 2).val = k.val := congrArg Fin.val (congrFun e 0)
  funext c
  apply Fin.ext
  match c with
  | ⟨0, _⟩ => rfl
  | ⟨1, _⟩ => rfl
  | ⟨2, _⟩ => exact e2

theorem sum_lead (h : (⟨3, ![a, b, n]⟩ : Shape).ReducesTo [0, 1] ⟨1, ![n]⟩) (v : (⟨3, ![a, b, n]⟩ : Shape).Idx → EReal)
    (z : EReal) (k : Fin n) : Ideal.hostReduceAdd h v z (ix1 k) = z + ∑ i, ∑ j, v (ix3 i j k) := by
  unfold Ideal.hostReduceAdd
  refine congrArg (z + ·) ?_
  rw [← Fintype.sum_prod_type' (fun i j => v (ix3 i j k))]
  refine Finset.sum_bij' (fun (y : (⟨3, ![a, b, n]⟩ : Shape).Idx) _ => ((y 0 : Fin a), (y 1 : Fin b))) (fun (q : Fin a × Fin b) _ => ix3 q.1 q.2 k)
    (fun _ _ => Finset.mem_univ _) (fun q _ => Finset.mem_filter.2 ⟨Finset.mem_univ _, drop_lead h q.1 q.2 k⟩) ?_ (fun _ _ => rfl) ?_
  · exact fun y hy => (eq_lead h y k (Finset.mem_filter.1 hy).2).symm
  · exact fun y hy => congrArg v (eq_lead h y k (Finset.mem_filter.1 hy).2)

/-- The same where the terms are real. -/
theorem sum_lead_real (h : (⟨3, ![a, b, n]⟩ : Shape).ReducesTo [0, 1] ⟨1, ![n]⟩) (v : (⟨3, ![a, b, n]⟩ : Shape).Idx → EReal)
    (k : Fin n) (F : Fin a → Fin b → ℝ) (hF : ∀ i j, v (ix3 i j k) = ((F i j : ℝ) : EReal)) :
    Ideal.hostReduceAdd h v 0 (ix1 k) = ((∑ i, ∑ j, F i j : ℝ) : EReal) := by
  rw [sum_lead, zero_add]
  simp only [hF, coe_sum]

end Cert.Rows

end
-- ==== Proof.PleRefOut.lean ====
/- The arrays the per-layer embedding's reference leaves, at an index. -/
module

public import proofs.«01_k».proof.Proof.PleRef
public import proofs.«01_k».proof.Proof.Tokens
public import proofs.«01_k».proof.Proof.SumAxes

@[expose] public section

set_option maxRecDepth 16384

noncomputable section

namespace Cert.PleRefIdeal.At

open Cert.PleRefIdeal Cert.PleRefIdeal.Gen Cert.PleRefIdeal.Value Cert.Rows Idealize.ShloMosaic Idealize.ShloMosaic.TcCoe

variable (V : Valuation τ sig (Elt Ideal))
  (x tg : Fin 2 → Fin 2048 → Fin 1024 → ℝ) (gp gf : Fin 1024 → ℝ) (p : Fin 2 → Fin 2048 → Fin 256 → ℝ)
  (w : Fin 1024 → Fin 1024 → ℝ) (wp : Fin 256 → Fin 1024 → ℝ)
  (h0 : ∀ b s k, (V (Proc.devRef .tc main_arg0) : FVec Ideal S2x2048x1024 .f32) (ix3 b s k) = ((x b s k : ℝ) : EReal))
  (h1 : ∀ b s k, (V (Proc.devRef .tc main_arg1) : FVec Ideal S1x2x2048x256 .f32) (ix4 0 b s k) = ((p b s k : ℝ) : EReal))
  (h2 : ∀ b s k, (V (Proc.devRef .tc main_arg2) : FVec Ideal S2x2048x1024 .f32) (ix3 b s k) = ((tg b s k : ℝ) : EReal))
  (h3 : ∀ k, (V (Proc.devRef .tc main_arg3) : FVec Ideal S1x1024 .f32) (ix2 0 k) = ((gp k : ℝ) : EReal))
  (h4 : ∀ k, (V (Proc.devRef .tc main_arg4) : FVec Ideal S1024 .f32) (ix1 k) = ((gf k : ℝ) : EReal))
  (h6 : ∀ k j, (V (Proc.devRef .tc main_arg6) : FVec Ideal S1x1024x1024 .f32) (ix3 0 k j) = ((w k j : ℝ) : EReal))
  (h9 : ∀ k j, (V (Proc.devRef .tc main_arg9) : FVec Ideal S1x256x1024 .f32) (ix3 0 k j) = ((wp k j : ℝ) : EReal))

include h0 h1 h2 h3 h4 h6 h9 in
theorem r134 (q : Fin 4096) (k : Fin 1024) : (shapeCast S4096x1024 (res_main_v108 V) shapeCasts_S2x2048x1024_S4096x1024 : FVec Ideal S4096x1024 .f32) (ix2 q k)
    = ((PleSpec.dx2 (x (qb q) (qs q)) (tg (qb q) (qs q)) gp gf (p (qb q) (qs q)) w wp k : ℝ) : EReal) := by
  pointwise []
  exact v108_at V x tg gp gf p w wp h0 h1 h2 h3 h4 h6 h9 (qb q) (qs q) k

include h0 h1 h2 h3 h4 h6 h9 in
theorem r136 (q : Fin 4096) (k : Fin 1024) : (truncf .bf16 (shapeCast S4096x1024 (res_main_v86 V) shapeCasts_S2x2048x1024_S4096x1024) bitsLt_bf16_f32 : FVec Ideal S4096x1024 .bf16) (ix2 q k)
    = ((PleSpec.dt (x (qb q) (qs q)) (tg (qb q) (qs q)) gp gf (p (qb q) (qs q)) w wp k : ℝ) : EReal) := by
  pointwise []
  exact v86_at V x tg gp gf p w wp h0 h1 h2 h3 h4 h6 h9 (qb q) (qs q) k

include h0 h1 h2 h3 h4 h6 h9 in
theorem r138 (q : Fin 4096) (k : Fin 1024) : (truncf .bf16 (shapeCast S4096x1024 (mulf (mulf (V (Proc.devRef .tc main_arg0)) (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (V (Proc.devRef .tc main_arg0)) (V (Proc.devRef .tc main_arg0))) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![2] bcast_S1024_S1x1x1024_2 (shapeCast _ (V (Proc.devRef .tc main_arg3)) shapeCasts_S1x1024_S1024)))) shapeCasts_S2x2048x1024_S4096x1024) bitsLt_bf16_f32 : FVec Ideal S4096x1024 .bf16) (ix2 q k)
    = ((PleSpec.h3 (x (qb q) (qs q)) gp k : ℝ) : EReal) := by
  pointwise []
  have hn := v13_at V x h0 (qb q) (qs q) k
  pointwise [res_main_v13, res_main_v8, res_main_v7] at hn
  unfold qb qs at hn
  rw [hn, h3, ← EReal.coe_mul]
  unfold PleSpec.h3 qb qs; rfl

include h0 h1 h2 h3 h4 h6 h9 in
theorem r140 (q : Fin 4096) (k : Fin 1024) : (truncf .bf16 (shapeCast S4096x1024 (mulf (res_main_v27 V) (res_main_v83 V)) shapeCasts_S2x2048x1024_S4096x1024) bitsLt_bf16_f32 : FVec Ideal S4096x1024 .bf16) (ix2 q k)
    = ((PleSpec.dpe (x (qb q) (qs q)) (tg (qb q) (qs q)) gp gf (p (qb q) (qs q)) w wp k : ℝ) : EReal) := by
  pointwise []
  have ha := v27_at V x gp w h0 h3 h6 (qb q) (qs q) k
  have hb := v83_at V x tg gp gf p w wp h0 h1 h2 h3 h4 h6 h9 (qb q) (qs q) k
  unfold qb qs at ha hb
  rw [ha, hb, ← EReal.coe_mul]
  refine congrArg _ ?_
  unfold PleSpec.dpe; unfold qb qs; ring

include h0 h1 h2 h3 h4 h6 h9 in
theorem r142 (q : Fin 4096) (k : Fin 1024) : (truncf .bf16 (shapeCast S4096x1024 (res_main_v108 V) shapeCasts_S2x2048x1024_S4096x1024) bitsLt_bf16_f32 : FVec Ideal S4096x1024 .bf16) (ix2 q k)
    = ((PleSpec.dx2 (x (qb q) (qs q)) (tg (qb q) (qs q)) gp gf (p (qb q) (qs q)) w wp k : ℝ) : EReal) := by
  pointwise []
  exact v108_at V x tg gp gf p w wp h0 h1 h2 h3 h4 h6 h9 (qb q) (qs q) k

/-- The three rows of statistics. -/
abbrev st : FVec Ideal S3x1024 .f32 :=
  (concatenate S3x1024 0 [⟨S1x1024, ((broadcastInDim S1x1024 ![1] bcast_S1024_S1x1024_1 (shapeCast _ (broadcastInDim S1x1024 ![1] bcast_S1024_S1x1024_1 (Host.reduceAdd (shapeCast _ (Host.reduceAdd (mulf (res_main_v13 V) (res_main_v87 V)) (constant S_ .f32 0x00000000#32) reducesTo_S2x2048x1024_S1024_d0_1 h_S_) shapeCasts_S1024_S1x1x1024) (constant S_ .f32 0x00000000#32) reducesTo_S1x1x1024_S1024_d0_1 h_S_)) shapeCasts_S1x1024_S1024)) : (⟨S1x1024, .f32⟩ : BufTy).Contents (Elt Ideal))⟩, ⟨S1x1024, ((broadcastInDim S1x1024 ![1] bcast_S1024_S1x1024_1 (Host.reduceAdd (shapeCast _ (Host.reduceAdd (mulf (res_main_v45 V) (res_main_v63 V)) (constant S_ .f32 0x00000000#32) reducesTo_S2x2048x1024_S1024_d0_1 h_S_) shapeCasts_S1024_S1x1x1024) (constant S_ .f32 0x00000000#32) reducesTo_S1x1x1024_S1024_d0_1 h_S_)) : (⟨S1x1024, .f32⟩ : BufTy).Contents (Elt Ideal))⟩, ⟨S1x1024, ((broadcastInDim S1x1024 ![1] bcast_S1024_S1x1024_1 (Host.divf (mulf (broadcastInDim S1024 ![] bcast_S_S1024 (constant S_ .f32 0x3F000000#32)) (Host.reduceAdd (res_main_v50 V) (constant S_ .f32 0x00000000#32) reducesTo_S2x2048x1024_S1024_d0_1 h_S_)) (broadcastInDim S1024 ![] bcast_S_S1024 (constant S_ .f32 0x44800000#32)))) : (⟨S1x1024, .f32⟩ : BufTy).Contents (Elt Ideal))⟩] concatenates_S1x1024_S1x1024_S1x1024_S3x1024_d0 : (⟨S3x1024, .f32⟩ : BufTy).Contents (Elt Ideal))

include h0 h1 h2 h3 h4 h6 h9 in
theorem r119_0 (k : Fin 1024) : st V (ix2 0 k)
    = ((∑ b, ∑ s, PleSpec.dh3 (x b s) (tg b s) gp gf (p b s) w wp k * nrm (x b s) k : ℝ) : EReal) := by
  pointwise [st]
  refine (sum_lead_real _ _ _ (fun _ _ => ∑ b, ∑ s, PleSpec.dh3 (x b s) (tg b s) gp gf (p b s) w wp k * nrm (x b s) k) fun i j => ?_).trans ?_
  · pointwise []
    refine sum_lead_real _ _ _ _ fun b s => ?_
    pointwise []
    rw [v13_at V x h0, v87_at V x tg gp gf p w wp h0 h1 h2 h3 h4 h6 h9, ← EReal.coe_mul, mul_comm]
  · rw [Fin.sum_univ_one, Fin.sum_univ_one]

include h0 h1 h2 h3 h4 h6 h9 in
theorem r119_1 (k : Fin 1024) : st V (ix2 1 k)
    = (((∑ b, ∑ s, PleSpec.err (x b s) (tg b s) gp gf (p b s) w wp k * nrm (PleSpec.x3 (x b s) gp (p b s) w wp) k) * (1 / 1024) : ℝ) : EReal) := by
  pointwise [st]
  refine (sum_lead_real _ _ _ (fun _ _ => (∑ b, ∑ s, PleSpec.err (x b s) (tg b s) gp gf (p b s) w wp k * nrm (PleSpec.x3 (x b s) gp (p b s) w wp) k) * (1 / 1024)) fun i j => ?_).trans ?_
  · pointwise []
    refine (sum_lead_real _ _ _ (fun b s => PleSpec.err (x b s) (tg b s) gp gf (p b s) w wp k * nrm (PleSpec.x3 (x b s) gp (p b s) w wp) k * (1 / 1024)) fun b s => ?_).trans ?_
    · pointwise []
      rw [v45_at V x gp p w wp h0 h1 h3 h6 h9, v63_at V x tg gp gf p w wp h0 h1 h2 h3 h4 h6 h9, ← EReal.coe_mul]
      refine congrArg _ ?_
      ring
    · simp only [← Finset.sum_mul]
  · rw [Fin.sum_univ_one, Fin.sum_univ_one]

include h0 h1 h2 h3 h4 h6 h9 in
theorem r119_2 (k : Fin 1024) : st V (ix2 2 k)
    = (((∑ b, ∑ s, PleSpec.err (x b s) (tg b s) gp gf (p b s) w wp k * PleSpec.err (x b s) (tg b s) gp gf (p b s) w wp k) * (1 / 2048) : ℝ) : EReal) := by
  pointwise [st]
  rw [sum_lead_real _ _ _ (fun b s => PleSpec.err (x b s) (tg b s) gp gf (p b s) w wp k * PleSpec.err (x b s) (tg b s) gp gf (p b s) w wp k) fun b s => ?_,
    ofBits_half, ofBits_1024, ← EReal.coe_mul, div_real _ (by norm_num : (1024 : ℝ) ≠ 0)]
  · refine congrArg _ ?_
    ring
  · pointwise [res_main_v50]
    rw [v49_at V x tg gp gf p w wp h0 h1 h2 h3 h4 h6 h9, ← EReal.coe_mul]

end Cert.PleRefIdeal.At

end
-- ==== Proof.Finite.lean ====
/- What the preconditions say of one array: every entry is a real number. -/
module

public import Idealize.ShloMosaic.Lib.ReduceAll
public import Idealize.ShloMosaic.Lib.Pointwise
public import proofs.«01_k».proof.Proof.Rows

@[expose] public section

set_option maxRecDepth 16384

noncomputable section

namespace Cert.Rows

open Idealize.ShloMosaic

instance : Subsingleton (Shape.Idx ⟨0, ![]⟩) := ⟨fun _ _ => funext fun a => a.elim0⟩

/-- Below the positive infinity in absolute value is a real number. -/
theorem real_of_abs_lt {x : EReal} (h : max x (-x) < ⊤) : x = ((x.toReal : ℝ) : EReal) := by
  refine eq_real (fun e => ?_) (fun e => ?_)
  · subst e; simp at h
  · subst e; simp at h

/-- The two conjuncts of a conjunction of truth values. -/
theorem andi_one {s : Shape} {a b : IVec s 1} {j : s.Idx} (h : andi a b j = 1#1) : a j = 1#1 ∧ b j = 1#1 := by
  have h' : (a j) &&& (b j) = 1#1 := h
  revert h'
  generalize a j = p
  generalize b j = q
  revert p q
  decide

/-- An array all of whose entries are below infinity in absolute value has real entries. -/
theorem real_of_all {s : Shape} {axes : List (Fin s.rank)} (x : FVec Ideal s .f32) (init : IVec ⟨0, ![]⟩ 1)
    (hb : Shape.BroadcastsInDim ⟨0, ![]⟩ s ![]) (hr : s.ReducesTo axes ⟨0, ![]⟩) (hu : 0 < Shape.numel ⟨0, ![]⟩) (j : Shape.Idx ⟨0, ![]⟩)
    (h : Host.reduce IntOp.andi (cmpf .olt (Host.absf x) (broadcastInDim s ![] hb (constant ⟨0, ![]⟩ .f32 0x7F800000#32))) init hr hu j = 1#1)
    (i : s.Idx) : x i = (((x i).toReal : ℝ) : EReal) := by
  have e := Host.reduce_andi_all _ _ hr hu j h i
  have e' : Ideal.cmp .olt (max (x i) (-(x i))) (Ideal.ofBits .f32 0x7F800000#32) = 1#1 := e
  have hi : Ideal.ofBits .f32 0x7F800000#32 = ⊤ := by simp [Ideal.ofBits, Ideal.ieee]
  rw [hi] at e'
  refine real_of_abs_lt ?_
  by_contra hn
  revert e'
  simp [Ideal.cmp, hn]

end Cert.Rows

end
-- ==== Proof.PleFinite.lean ====
/- The precondition of the per-layer embedding's claim: every entry of the arrays it names is a real number. -/
module

public import proofs.«01_k».proof.Pre_finite_ple
public import proofs.«01_k».proof.Proof.Finite

@[expose] public section

set_option maxRecDepth 16384

noncomputable section

namespace Cert.Pre_finite_ple

open Cert.Rows Idealize.ShloMosaic

variable [Facts]

theorem reals {a0 : FVec Ideal S2x2048x1024 .f32} {a1 : FVec Ideal S1x2x2048x256 .f32} {a2 : FVec Ideal S2x2048x1024 .f32}
    {a3 : FVec Ideal S1x1024 .f32} {a4 : FVec Ideal S1024 .f32} {a5 a6 : FVec Ideal S1x1024x1024 .f32} {a7 a8 : FVec Ideal S1x512x1024 .f32}
    {a9 : FVec Ideal S1x256x1024 .f32} (h : fn (F := Ideal) a0 a1 a2 a3 a4 a5 a6 a7 a8 a9 = fun _ => 1#1) :
    (∀ i, a0 i = (((a0 i).toReal : ℝ) : EReal)) ∧ (∀ i, a1 i = (((a1 i).toReal : ℝ) : EReal)) ∧ (∀ i, a2 i = (((a2 i).toReal : ℝ) : EReal))
    ∧ (∀ i, a3 i = (((a3 i).toReal : ℝ) : EReal)) ∧ (∀ i, a4 i = (((a4 i).toReal : ℝ) : EReal)) ∧ (∀ i, a6 i = (((a6 i).toReal : ℝ) : EReal))
    ∧ (∀ i, a9 i = (((a9 i).toReal : ℝ) : EReal)) := by
  have e := congrFun h (Shape.Idx.first (s := S_) Facts.h_S_)
  obtain ⟨e, e9⟩ := andi_one e
  obtain ⟨e, e6⟩ := andi_one e
  obtain ⟨e, e4⟩ := andi_one e
  obtain ⟨e, e3⟩ := andi_one e
  obtain ⟨e, e2⟩ := andi_one e
  obtain ⟨e, e1⟩ := andi_one e
  obtain ⟨_, e0⟩ := andi_one e
  exact ⟨real_of_all _ _ _ _ _ _ e0, real_of_all _ _ _ _ _ _ e1, real_of_all _ _ _ _ _ _ e2, real_of_all _ _ _ _ _ _ e3,
    real_of_all _ _ _ _ _ _ e4, real_of_all _ _ _ _ _ _ e6, real_of_all _ _ _ _ _ _ e9⟩

end Cert.Pre_finite_ple

end
-- ==== Proof.PlePair.lean ====
/- The per-layer embedding's backward kernel agrees with its reference. -/
module

public import proofs.«01_k».proof.Defs
public import proofs.«01_k».proof.Proof.Gen.Pre_finite_ple
public import proofs.«01_k».proof.Proof.PleFin
public import proofs.«01_k».proof.Proof.PleRefOut
public import proofs.«01_k».proof.Proof.PleFinite

@[expose] public section

set_option maxRecDepth 16384

noncomputable section

namespace Cert.PlePair

open Cert.Rows Idealize.ShloMosaic Idealize.ShloMosaic.TcCoe Idealize.SL.Sem
open Cert.PleIdeal (S2x2048x1024 S1x2x2048x256 S1x1024 S1024 S1x1024x1024 S1x256x1024)

/-- The real arrays behind a memory's arguments. -/
abbrev dx (V : FVec Ideal S2x2048x1024 .f32) : Fin 2 → Fin 2048 → Fin 1024 → ℝ := fun b s k => (V (ix3 b s k)).toReal
abbrev dp (V : FVec Ideal S1x2x2048x256 .f32) : Fin 2 → Fin 2048 → Fin 256 → ℝ := fun b s k => (V (ix4 0 b s k)).toReal
abbrev dgp (V : FVec Ideal S1x1024 .f32) : Fin 1024 → ℝ := fun k => (V (ix2 0 k)).toReal
abbrev dgf (V : FVec Ideal S1024 .f32) : Fin 1024 → ℝ := fun k => (V (ix1 k)).toReal
abbrev dw (V : FVec Ideal S1x1024x1024 .f32) : Fin 1024 → Fin 1024 → ℝ := fun k j => (V (ix3 0 k j)).toReal
abbrev dwp (V : FVec Ideal S1x256x1024 .f32) : Fin 256 → Fin 1024 → ℝ := fun k j => (V (ix3 0 k j)).toReal

theorem ref_frame : @Cert.quiescent_PleRefIdeal Cert.PleRefIdeal.Gen.facts := fun m g _ =>
  (θ_run Cert.PleRefIdeal.defs _ _).mono (fun r h => ⟨fun c => (h c).2.2.2.2.2.2, Idealize.ShloMosaic.sem_eq_zero_of_no_sems (by decide) r.2⟩)
    (Cert.PleRefIdeal.Value.run (F := Ideal) m g)

set_option maxHeartbeats 1600000 in
theorem algebraic : @Cert.algebraic_PleIdeal_PleRefIdeal_pre_finite_ple Cert.PleIdeal.Gen.facts Cert.PleRefIdeal.Gen.facts Cert.Pre_finite_ple.Gen.facts := by
  pair_intro
  · run_from Cert.PleIdeal.Gen.run_main m g
  · run_from Cert.PleRefIdeal.Value.run m' g'
    all_goals
      obtain ⟨e0, e1, e2, e3, e4, e6, e9⟩ := Cert.Pre_finite_ple.reals (hpre c)
      obtain ⟨a0, a1, a2, a3, a4, -, a6, -, -, a9⟩ := hagree c
    · exact (Cert.PleIdeal.Out.fin7 m c (dx (m (c.tc.loc Cert.PleIdeal.main_arg0))) (dx (m (c.tc.loc Cert.PleIdeal.main_arg2))) (dp (m (c.tc.loc Cert.PleIdeal.main_arg1))) (dgp (m (c.tc.loc Cert.PleIdeal.main_arg3))) (dgf (m (c.tc.loc Cert.PleIdeal.main_arg4))) (dw (m (c.tc.loc Cert.PleIdeal.main_arg6))) (dwp (m (c.tc.loc Cert.PleIdeal.main_arg9)))
      (fun b s k => e0 (ix3 b s k)) (fun b s k => e1 (ix4 0 b s k)) (fun b s k => e2 (ix3 b s k)) (fun k => e3 (ix2 0 k)) (fun k => e4 (ix1 k)) (fun k j => e6 (ix3 0 k j)) (fun k j => e9 (ix3 0 k j)) _
      (fun q k => Cert.PleRefIdeal.At.r134 (StableHlo.launchContents m' c) (dx (m (c.tc.loc Cert.PleIdeal.main_arg0))) (dx (m (c.tc.loc Cert.PleIdeal.main_arg2))) (dgp (m (c.tc.loc Cert.PleIdeal.main_arg3))) (dgf (m (c.tc.loc Cert.PleIdeal.main_arg4))) (dp (m (c.tc.loc Cert.PleIdeal.main_arg1))) (dw (m (c.tc.loc Cert.PleIdeal.main_arg6))) (dwp (m (c.tc.loc Cert.PleIdeal.main_arg9)))
        (fun b s k => (congrFun a0 (ix3 b s k)).trans (e0 (ix3 b s k))) (fun b s k => (congrFun a1 (ix4 0 b s k)).trans (e1 (ix4 0 b s k))) (fun b s k => (congrFun a2 (ix3 b s k)).trans (e2 (ix3 b s k))) (fun k => (congrFun a3 (ix2 0 k)).trans (e3 (ix2 0 k))) (fun k => (congrFun a4 (ix1 k)).trans (e4 (ix1 k))) (fun k j => (congrFun a6 (ix3 0 k j)).trans (e6 (ix3 0 k j))) (fun k j => (congrFun a9 (ix3 0 k j)).trans (e9 (ix3 0 k j))) q k)).symm
    · exact (Cert.PleIdeal.Out.fin8 m c (dx (m (c.tc.loc Cert.PleIdeal.main_arg0))) (dx (m (c.tc.loc Cert.PleIdeal.main_arg2))) (dp (m (c.tc.loc Cert.PleIdeal.main_arg1))) (dgp (m (c.tc.loc Cert.PleIdeal.main_arg3))) (dgf (m (c.tc.loc Cert.PleIdeal.main_arg4))) (dw (m (c.tc.loc Cert.PleIdeal.main_arg6))) (dwp (m (c.tc.loc Cert.PleIdeal.main_arg9)))
      (fun b s k => e0 (ix3 b s k)) (fun b s k => e1 (ix4 0 b s k)) (fun b s k => e2 (ix3 b s k)) (fun k => e3 (ix2 0 k)) (fun k => e4 (ix1 k)) (fun k j => e6 (ix3 0 k j)) (fun k j => e9 (ix3 0 k j)) _
      (fun q k => Cert.PleRefIdeal.At.r136 (StableHlo.launchContents m' c) (dx (m (c.tc.loc Cert.PleIdeal.main_arg0))) (dx (m (c.tc.loc Cert.PleIdeal.main_arg2))) (dgp (m (c.tc.loc Cert.PleIdeal.main_arg3))) (dgf (m (c.tc.loc Cert.PleIdeal.main_arg4))) (dp (m (c.tc.loc Cert.PleIdeal.main_arg1))) (dw (m (c.tc.loc Cert.PleIdeal.main_arg6))) (dwp (m (c.tc.loc Cert.PleIdeal.main_arg9)))
        (fun b s k => (congrFun a0 (ix3 b s k)).trans (e0 (ix3 b s k))) (fun b s k => (congrFun a1 (ix4 0 b s k)).trans (e1 (ix4 0 b s k))) (fun b s k => (congrFun a2 (ix3 b s k)).trans (e2 (ix3 b s k))) (fun k => (congrFun a3 (ix2 0 k)).trans (e3 (ix2 0 k))) (fun k => (congrFun a4 (ix1 k)).trans (e4 (ix1 k))) (fun k j => (congrFun a6 (ix3 0 k j)).trans (e6 (ix3 0 k j))) (fun k j => (congrFun a9 (ix3 0 k j)).trans (e9 (ix3 0 k j))) q k)).symm
    · rw [← a0, ← a3]
      exact (Cert.PleIdeal.Out.fin9 m c (dx (m (c.tc.loc Cert.PleIdeal.main_arg0))) (dx (m (c.tc.loc Cert.PleIdeal.main_arg2))) (dp (m (c.tc.loc Cert.PleIdeal.main_arg1))) (dgp (m (c.tc.loc Cert.PleIdeal.main_arg3))) (dgf (m (c.tc.loc Cert.PleIdeal.main_arg4))) (dw (m (c.tc.loc Cert.PleIdeal.main_arg6))) (dwp (m (c.tc.loc Cert.PleIdeal.main_arg9)))
      (fun b s k => e0 (ix3 b s k)) (fun b s k => e1 (ix4 0 b s k)) (fun b s k => e2 (ix3 b s k)) (fun k => e3 (ix2 0 k)) (fun k => e4 (ix1 k)) (fun k j => e6 (ix3 0 k j)) (fun k j => e9 (ix3 0 k j)) _
      (fun q k => Cert.PleRefIdeal.At.r138 (StableHlo.launchContents m' c) (dx (m (c.tc.loc Cert.PleIdeal.main_arg0))) (dx (m (c.tc.loc Cert.PleIdeal.main_arg2))) (dgp (m (c.tc.loc Cert.PleIdeal.main_arg3))) (dgf (m (c.tc.loc Cert.PleIdeal.main_arg4))) (dp (m (c.tc.loc Cert.PleIdeal.main_arg1))) (dw (m (c.tc.loc Cert.PleIdeal.main_arg6))) (dwp (m (c.tc.loc Cert.PleIdeal.main_arg9)))
        (fun b s k => (congrFun a0 (ix3 b s k)).trans (e0 (ix3 b s k))) (fun b s k => (congrFun a1 (ix4 0 b s k)).trans (e1 (ix4 0 b s k))) (fun b s k => (congrFun a2 (ix3 b s k)).trans (e2 (ix3 b s k))) (fun k => (congrFun a3 (ix2 0 k)).trans (e3 (ix2 0 k))) (fun k => (congrFun a4 (ix1 k)).trans (e4 (ix1 k))) (fun k j => (congrFun a6 (ix3 0 k j)).trans (e6 (ix3 0 k j))) (fun k j => (congrFun a9 (ix3 0 k j)).trans (e9 (ix3 0 k j))) q k)).symm
    · exact (Cert.PleIdeal.Out.fin10 m c (dx (m (c.tc.loc Cert.PleIdeal.main_arg0))) (dx (m (c.tc.loc Cert.PleIdeal.main_arg2))) (dp (m (c.tc.loc Cert.PleIdeal.main_arg1))) (dgp (m (c.tc.loc Cert.PleIdeal.main_arg3))) (dgf (m (c.tc.loc Cert.PleIdeal.main_arg4))) (dw (m (c.tc.loc Cert.PleIdeal.main_arg6))) (dwp (m (c.tc.loc Cert.PleIdeal.main_arg9)))
      (fun b s k => e0 (ix3 b s k)) (fun b s k => e1 (ix4 0 b s k)) (fun b s k => e2 (ix3 b s k)) (fun k => e3 (ix2 0 k)) (fun k => e4 (ix1 k)) (fun k j => e6 (ix3 0 k j)) (fun k j => e9 (ix3 0 k j)) _
      (fun q k => Cert.PleRefIdeal.At.r140 (StableHlo.launchContents m' c) (dx (m (c.tc.loc Cert.PleIdeal.main_arg0))) (dx (m (c.tc.loc Cert.PleIdeal.main_arg2))) (dgp (m (c.tc.loc Cert.PleIdeal.main_arg3))) (dgf (m (c.tc.loc Cert.PleIdeal.main_arg4))) (dp (m (c.tc.loc Cert.PleIdeal.main_arg1))) (dw (m (c.tc.loc Cert.PleIdeal.main_arg6))) (dwp (m (c.tc.loc Cert.PleIdeal.main_arg9)))
        (fun b s k => (congrFun a0 (ix3 b s k)).trans (e0 (ix3 b s k))) (fun b s k => (congrFun a1 (ix4 0 b s k)).trans (e1 (ix4 0 b s k))) (fun b s k => (congrFun a2 (ix3 b s k)).trans (e2 (ix3 b s k))) (fun k => (congrFun a3 (ix2 0 k)).trans (e3 (ix2 0 k))) (fun k => (congrFun a4 (ix1 k)).trans (e4 (ix1 k))) (fun k j => (congrFun a6 (ix3 0 k j)).trans (e6 (ix3 0 k j))) (fun k j => (congrFun a9 (ix3 0 k j)).trans (e9 (ix3 0 k j))) q k)).symm
    · exact (Cert.PleIdeal.Out.fin11 m c (dx (m (c.tc.loc Cert.PleIdeal.main_arg0))) (dx (m (c.tc.loc Cert.PleIdeal.main_arg2))) (dp (m (c.tc.loc Cert.PleIdeal.main_arg1))) (dgp (m (c.tc.loc Cert.PleIdeal.main_arg3))) (dgf (m (c.tc.loc Cert.PleIdeal.main_arg4))) (dw (m (c.tc.loc Cert.PleIdeal.main_arg6))) (dwp (m (c.tc.loc Cert.PleIdeal.main_arg9)))
      (fun b s k => e0 (ix3 b s k)) (fun b s k => e1 (ix4 0 b s k)) (fun b s k => e2 (ix3 b s k)) (fun k => e3 (ix2 0 k)) (fun k => e4 (ix1 k)) (fun k j => e6 (ix3 0 k j)) (fun k j => e9 (ix3 0 k j)) _
      (fun k => Cert.PleRefIdeal.At.r119_0 (StableHlo.launchContents m' c) (dx (m (c.tc.loc Cert.PleIdeal.main_arg0))) (dx (m (c.tc.loc Cert.PleIdeal.main_arg2))) (dgp (m (c.tc.loc Cert.PleIdeal.main_arg3))) (dgf (m (c.tc.loc Cert.PleIdeal.main_arg4))) (dp (m (c.tc.loc Cert.PleIdeal.main_arg1))) (dw (m (c.tc.loc Cert.PleIdeal.main_arg6))) (dwp (m (c.tc.loc Cert.PleIdeal.main_arg9)))
        (fun b s k => (congrFun a0 (ix3 b s k)).trans (e0 (ix3 b s k))) (fun b s k => (congrFun a1 (ix4 0 b s k)).trans (e1 (ix4 0 b s k))) (fun b s k => (congrFun a2 (ix3 b s k)).trans (e2 (ix3 b s k))) (fun k => (congrFun a3 (ix2 0 k)).trans (e3 (ix2 0 k))) (fun k => (congrFun a4 (ix1 k)).trans (e4 (ix1 k))) (fun k j => (congrFun a6 (ix3 0 k j)).trans (e6 (ix3 0 k j))) (fun k j => (congrFun a9 (ix3 0 k j)).trans (e9 (ix3 0 k j))) k)
      (fun k => Cert.PleRefIdeal.At.r119_1 (StableHlo.launchContents m' c) (dx (m (c.tc.loc Cert.PleIdeal.main_arg0))) (dx (m (c.tc.loc Cert.PleIdeal.main_arg2))) (dgp (m (c.tc.loc Cert.PleIdeal.main_arg3))) (dgf (m (c.tc.loc Cert.PleIdeal.main_arg4))) (dp (m (c.tc.loc Cert.PleIdeal.main_arg1))) (dw (m (c.tc.loc Cert.PleIdeal.main_arg6))) (dwp (m (c.tc.loc Cert.PleIdeal.main_arg9)))
        (fun b s k => (congrFun a0 (ix3 b s k)).trans (e0 (ix3 b s k))) (fun b s k => (congrFun a1 (ix4 0 b s k)).trans (e1 (ix4 0 b s k))) (fun b s k => (congrFun a2 (ix3 b s k)).trans (e2 (ix3 b s k))) (fun k => (congrFun a3 (ix2 0 k)).trans (e3 (ix2 0 k))) (fun k => (congrFun a4 (ix1 k)).trans (e4 (ix1 k))) (fun k j => (congrFun a6 (ix3 0 k j)).trans (e6 (ix3 0 k j))) (fun k j => (congrFun a9 (ix3 0 k j)).trans (e9 (ix3 0 k j))) k)
      (fun k => Cert.PleRefIdeal.At.r119_2 (StableHlo.launchContents m' c) (dx (m (c.tc.loc Cert.PleIdeal.main_arg0))) (dx (m (c.tc.loc Cert.PleIdeal.main_arg2))) (dgp (m (c.tc.loc Cert.PleIdeal.main_arg3))) (dgf (m (c.tc.loc Cert.PleIdeal.main_arg4))) (dp (m (c.tc.loc Cert.PleIdeal.main_arg1))) (dw (m (c.tc.loc Cert.PleIdeal.main_arg6))) (dwp (m (c.tc.loc Cert.PleIdeal.main_arg9)))
        (fun b s k => (congrFun a0 (ix3 b s k)).trans (e0 (ix3 b s k))) (fun b s k => (congrFun a1 (ix4 0 b s k)).trans (e1 (ix4 0 b s k))) (fun b s k => (congrFun a2 (ix3 b s k)).trans (e2 (ix3 b s k))) (fun k => (congrFun a3 (ix2 0 k)).trans (e3 (ix2 0 k))) (fun k => (congrFun a4 (ix1 k)).trans (e4 (ix1 k))) (fun k j => (congrFun a6 (ix3 0 k j)).trans (e6 (ix3 0 k j))) (fun k j => (congrFun a9 (ix3 0 k j)).trans (e9 (ix3 0 k j))) k)).symm
    · exact (Cert.PleIdeal.Out.fin12 m c (dx (m (c.tc.loc Cert.PleIdeal.main_arg0))) (dx (m (c.tc.loc Cert.PleIdeal.main_arg2))) (dp (m (c.tc.loc Cert.PleIdeal.main_arg1))) (dgp (m (c.tc.loc Cert.PleIdeal.main_arg3))) (dgf (m (c.tc.loc Cert.PleIdeal.main_arg4))) (dw (m (c.tc.loc Cert.PleIdeal.main_arg6))) (dwp (m (c.tc.loc Cert.PleIdeal.main_arg9)))
      (fun b s k => e0 (ix3 b s k)) (fun b s k => e1 (ix4 0 b s k)) (fun b s k => e2 (ix3 b s k)) (fun k => e3 (ix2 0 k)) (fun k => e4 (ix1 k)) (fun k j => e6 (ix3 0 k j)) (fun k j => e9 (ix3 0 k j)) _
      (fun q k => Cert.PleRefIdeal.At.r142 (StableHlo.launchContents m' c) (dx (m (c.tc.loc Cert.PleIdeal.main_arg0))) (dx (m (c.tc.loc Cert.PleIdeal.main_arg2))) (dgp (m (c.tc.loc Cert.PleIdeal.main_arg3))) (dgf (m (c.tc.loc Cert.PleIdeal.main_arg4))) (dp (m (c.tc.loc Cert.PleIdeal.main_arg1))) (dw (m (c.tc.loc Cert.PleIdeal.main_arg6))) (dwp (m (c.tc.loc Cert.PleIdeal.main_arg9)))
        (fun b s k => (congrFun a0 (ix3 b s k)).trans (e0 (ix3 b s k))) (fun b s k => (congrFun a1 (ix4 0 b s k)).trans (e1 (ix4 0 b s k))) (fun b s k => (congrFun a2 (ix3 b s k)).trans (e2 (ix3 b s k))) (fun k => (congrFun a3 (ix2 0 k)).trans (e3 (ix2 0 k))) (fun k => (congrFun a4 (ix1 k)).trans (e4 (ix1 k))) (fun k j => (congrFun a6 (ix3 0 k j)).trans (e6 (ix3 0 k j))) (fun k j => (congrFun a9 (ix3 0 k j)).trans (e9 (ix3 0 k j))) q k)).symm

end Cert.PlePair

end
-- ==== Proof.AttnSpec.lean ====
/- One head of attention over the reals, and its gradient: the softmax of the scores, the gradients of the queries, the keys
   and the values, the same gradients written with a stored log-sum of exponentials, and lanes padded with zeros. -/
module

public import proofs.«01_k».proof.Proof.Rows
public import Mathlib.Analysis.SpecialFunctions.Log.Basic

@[expose] public section

set_option maxRecDepth 16384

noncomputable section

namespace Cert.AttnSpec

section Head
variable {n a b : ℕ} (Q K : Fin n → Fin a → ℝ) (V D : Fin n → Fin b → ℝ)

/-- The score of query `i` against key `j`. -/
def sc (i j : Fin n) : ℝ := ∑ d, Q i d * K j d
/-- The sum of a query's exponentials, its scores lowered by `m`. -/
def zs (m : ℝ) (i : Fin n) : ℝ := ∑ j, Real.exp (sc Q K i j - m)
/-- The weight query `i` gives to key `j`. -/
def pr (i j : Fin n) : ℝ := Real.exp (sc Q K i j) / ∑ j', Real.exp (sc Q K i j')
/-- The head's output. -/
def out (i : Fin n) (d : Fin b) : ℝ := ∑ j, pr Q K i j * V j d
/-- The gradient of the weights. -/
def dp (i j : Fin n) : ℝ := ∑ d, D i d * V j d
/-- The mean of the weights' gradient under the weights. -/
def dl (i : Fin n) : ℝ := ∑ j, pr Q K i j * dp V D i j
/-- The gradient of the scores. -/
def ds (i j : Fin n) : ℝ := pr Q K i j * (dp V D i j - dl Q K V D i)
/-- The gradients of the queries, of the keys and of the values. -/
def dq (i : Fin n) (d : Fin a) : ℝ := ∑ j, ds Q K V D i j * K j d
def dk (j : Fin n) (d : Fin a) : ℝ := ∑ i, ds Q K V D i j * Q i d
def dv (j : Fin n) (d : Fin b) : ℝ := ∑ i, pr Q K i j * D i d

theorem zs_pos (m : ℝ) (i : Fin n) : 0 < zs Q K m i := by
  haveI : Nonempty (Fin n) := ⟨i⟩
  exact Finset.sum_pos (fun j _ => Real.exp_pos _) Finset.univ_nonempty

theorem zs_eq (m : ℝ) (i : Fin n) : zs Q K m i = (∑ j', Real.exp (sc Q K i j')) * Real.exp (-m) := by
  unfold zs; rw [Finset.sum_mul]
  exact Finset.sum_congr rfl fun j _ => by rw [← Real.exp_add, sub_eq_add_neg]

/-- The softmax does not see what its scores were lowered by. -/
theorem shift (m : ℝ) (i j : Fin n) : Real.exp (sc Q K i j - m) / zs Q K m i = pr Q K i j := by
  rw [zs_eq, sub_eq_add_neg, Real.exp_add, pr, mul_div_mul_right _ _ (Real.exp_ne_zero _)]

/-- The weight from the stored log-sum of exponentials. -/
theorem of_lse (m : ℝ) (i j : Fin n) : Real.exp (sc Q K i j - (Real.log (zs Q K m i) + m)) = pr Q K i j := by
  rw [← shift Q K m i j, show sc Q K i j - (Real.log (zs Q K m i) + m) = (sc Q K i j - m) - Real.log (zs Q K m i) by ring,
    Real.exp_sub, Real.exp_log (zs_pos Q K m i)]

/-- The mean of the weights' gradient is the output's gradient along the output. -/
theorem delta (i : Fin n) : (∑ d, D i d * out Q K V i d) = dl Q K V D i := by
  unfold dl out dp
  simp only [Finset.mul_sum]
  rw [Finset.sum_comm]
  exact Finset.sum_congr rfl fun j _ => Finset.sum_congr rfl fun d _ => by ring

/-- The softmax's gradient with the division differentiated on its own. -/
theorem ds_div (m : ℝ) (i j : Fin n) :
    (dp V D i j / zs Q K m i + (-∑ j', dp V D i j' * (1 / (zs Q K m i * zs Q K m i)) * Real.exp (sc Q K i j' - m))) * Real.exp (sc Q K i j - m)
      = ds Q K V D i j := by
  have hz := (zs_pos Q K m i).ne'
  have e : (∑ j', dp V D i j' * (1 / (zs Q K m i * zs Q K m i)) * Real.exp (sc Q K i j' - m)) = dl Q K V D i / zs Q K m i := by
    unfold dl; rw [Finset.sum_div]
    exact Finset.sum_congr rfl fun j' _ => by rw [← shift Q K m i j']; field_simp
  rw [e, ds, ← shift Q K m i j]; field_simp; ring

end Head

section Lanes
variable {a n : ℕ}

/-- A head's lanes, padded with zeros. -/
def lane (N : ℕ) (x : Fin a → ℝ) (d : Fin N) : ℝ := if h : d.val < a then x ⟨d.val, h⟩ else 0

theorem sum_lane {N : ℕ} (h : a ≤ N) (x y : Fin a → ℝ) : (∑ d : Fin N, lane N x d * lane N y d) = ∑ d, x d * y d := by
  obtain ⟨k, rfl⟩ := Nat.exists_eq_add_of_le h
  rw [Fin.sum_univ_add]
  have e0 : ∀ d : Fin k, lane (a + k) x (Fin.natAdd a d) = 0 := fun d => dif_neg (by simp)
  have e1 : ∀ (z : Fin a → ℝ) (d : Fin a), lane (a + k) z (Fin.castAdd k d) = z d := fun z d => by
    unfold lane; rw [dif_pos (by simp)]; rfl
  simp only [e0, e1, zero_mul, Finset.sum_const_zero, add_zero]

/-- A combination of padded heads is the padded combination. -/
theorem comb_lane {N : ℕ} (w : Fin n → ℝ) (x : Fin n → Fin a → ℝ) (d : Fin N) :
    (∑ j, w j * lane N (x j) d) = lane N (fun d' => ∑ j, w j * x j d') d := by
  by_cases h : d.val < a
  · simp only [lane, dif_pos h]
  · simp only [lane, dif_neg h, mul_zero, Finset.sum_const_zero]

end Lanes

section Point
variable {n N a b : ℕ}

/-- What one point of the kernel computes from its padded rows `q k v g o` and the stored `l`: the weights, the scores' gradient. -/
def pt (q k : Fin n → Fin N → ℝ) (l : Fin n → ℝ) (j i : Fin n) : ℝ := Real.exp ((∑ d, k j d * q i d) - l i)
def dst (q k v g o : Fin n → Fin N → ℝ) (l : Fin n → ℝ) (j i : Fin n) : ℝ :=
  pt q k l j i * ((∑ d, v j d * g i d) - ∑ d, g i d * o i d)

variable (Q K : Fin n → Fin a → ℝ) (V D : Fin n → Fin b → ℝ) (m : Fin n → ℝ)

/-- The stored log-sum of exponentials. -/
def lse (i : Fin n) : ℝ := Real.log (zs Q K (m i) i) + m i

theorem pt_eq (ha : a ≤ N) (j i : Fin n) : pt (fun i => lane N (Q i)) (fun j => lane N (K j)) (lse Q K m) j i = pr Q K i j := by
  unfold pt; rw [sum_lane ha, ← of_lse Q K (m i) i j]
  unfold lse sc; congr 2
  exact Finset.sum_congr rfl fun d _ => mul_comm _ _

theorem dst_eq (ha : a ≤ N) (hb : b ≤ N) (j i : Fin n) :
    dst (fun i => lane N (Q i)) (fun j => lane N (K j)) (fun j => lane N (V j)) (fun i => lane N (D i)) (fun i => lane N (out Q K V i)) (lse Q K m) j i
      = ds Q K V D i j := by
  unfold dst; rw [pt_eq Q K m ha, sum_lane hb, sum_lane hb, delta]
  unfold ds dp; congr 2
  exact Finset.sum_congr rfl fun d _ => mul_comm _ _

end Point

end Cert.AttnSpec

end
-- ==== Proof.AttnBBlocks.lean ====
/- What the attention's blocks hold, at the arguments' entries: the point's head, its lanes padded with zeros, and what the forward call saves of it. -/
module

public import proofs.«01_k».proof.Proof.Gen.AttnBIdeal.Frame.Runs
public import proofs.«01_k».proof.Proof.AttnSpec
public import Idealize.ShloMosaic.Lib.Claim
public import Idealize.ShloMosaic.Lib.Pipeline.ValueKit

@[expose] public section

set_option maxRecDepth 16384

noncomputable section

namespace Cert.AttnBIdeal.Blk

open Cert.AttnBIdeal Cert.AttnBIdeal.Gen Cert.Rows Cert.AttnSpec Idealize.ShloMosaic Idealize.ShloMosaic.TcCoe

variable (m : (ℓ : Loc nD τ sig) → Buf (Elt Ideal) ℓ) (c : Dev nD)

theorem idx : ∀ t : Fin cfg0.N, win0_0.index t = ![t.val / 8, t.val % 8] ∧ win0_1.index t = ![t.val / 8, t.val / 4 % 2]
    ∧ win0_2.index t = ![t.val / 8, t.val / 4 % 2] ∧ win0_3.index t = ![t.val / 8, t.val % 8] ∧ win0_4.index t = ![t.val / 8, t.val % 8]
    ∧ win0_5.index t = ![t.val / 8, t.val % 8] ∧ win0_6.index t = ![t.val / 8, t.val % 8]
    ∧ win0_7.index t = ![t.val / 8, t.val / 4 % 2] ∧ win0_8.index t = ![t.val / 8, t.val / 4 % 2] :=
  (by decide +kernel : ∀ t : Fin grid0.N, _)

theorem lt_N (t : Fin cfg0.N) : t.val < 16 := by have := t.isLt; have : cfg0.N = 16 := N_0; omega

/-- The point's batch element, its key head and its query head of that group. -/
def pb (t : ℕ) : Fin 2 := ⟨t / 8 % 2, by omega⟩
def ph (t : ℕ) : Fin 2 := ⟨t / 4 % 2, by omega⟩
def pg (t : ℕ) : Fin 4 := ⟨t % 4, by omega⟩

/-- Row `i` and lane `d` of the point's block, in the array. -/
def tr (t : Fin cfg0.N) (i : Fin 2048) : Fin 4096 := ⟨t.val / 8 * 2048 + i.val, by have := lt_N t; omega⟩
def tq (t : Fin cfg0.N) (d : Fin 128) : Fin 1024 := ⟨t.val % 8 * 128 + d.val, by omega⟩
def tk (t : Fin cfg0.N) (d : Fin 128) : Fin 256 := ⟨t.val / 4 % 2 * 128 + d.val, by omega⟩

section Read
variable (q dd : Fin 2 → Fin 2048 → Fin 2 → Fin 4 → Fin 64 → ℝ) (k v : Fin 2 → Fin 2048 → Fin 2 → Fin 64 → ℝ)
  (h0 : ∀ b s h g d, m (c, Proc.tc.devRef main_arg0) (ix5 b s h g d) = ((q b s h g d : ℝ) : EReal))
  (h1 : ∀ b s h d, m (c, Proc.tc.devRef main_arg1) (ix4 b s h d) = ((k b s h d : ℝ) : EReal))
  (h2 : ∀ b s h d, m (c, Proc.tc.devRef main_arg2) (ix4 b s h d) = ((v b s h d : ℝ) : EReal))
  (h3 : ∀ b s h g d, m (c, Proc.tc.devRef main_arg3) (ix5 b s h g d) = ((dd b s h g d : ℝ) : EReal))

/-- The point's queries, keys, values and output gradients. -/
def hq (t : ℕ) (i : Fin 2048) (d : Fin 64) : ℝ := q (pb t) i (ph t) (pg t) d
def hk (t : ℕ) (j : Fin 2048) (d : Fin 64) : ℝ := k (pb t) j (ph t) d

theorem eb (t : Fin cfg0.N) (i : Fin 2048) (h) : (⟨(tr t i).val / 2048, h⟩ : Fin 2) = pb t.val :=
  Fin.ext (by have := lt_N t; simp only [tr, pb]; omega)
theorem es (t : Fin cfg0.N) (i : Fin 2048) (h) : (⟨(tr t i).val % 2048, h⟩ : Fin 2048) = i :=
  Fin.ext (by simp only [tr]; omega)
theorem e5h (t : Fin cfg0.N) (d : Fin 128) (hd : d.val < 64) (h) : (⟨((tq t d).val / 128 * 64 + (tq t d).val % 128) / 256, h⟩ : Fin 2) = ph t.val :=
  Fin.ext (by simp only [tq, ph]; omega)
theorem e5g (t : Fin cfg0.N) (d : Fin 128) (hd : d.val < 64) (h) : (⟨((tq t d).val / 128 * 64 + (tq t d).val % 128) / 64 % 4, h⟩ : Fin 4) = pg t.val :=
  Fin.ext (by simp only [tq, pg]; omega)
theorem e5d (t : Fin cfg0.N) (d : Fin 128) (hd : d.val < 64) (h) : (⟨((tq t d).val / 128 * 64 + (tq t d).val % 128) % 64, h⟩ : Fin 64) = ⟨d.val, hd⟩ :=
  Fin.ext (by simp only [tq]; omega)
theorem e4h (t : Fin cfg0.N) (d : Fin 128) (hd : d.val < 64) (h) : (⟨((tk t d).val / 128 * 64 + (tk t d).val % 128) / 64, h⟩ : Fin 2) = ph t.val :=
  Fin.ext (by simp only [tk, ph]; omega)
theorem e4d (t : Fin cfg0.N) (d : Fin 128) (hd : d.val < 64) (h) : (⟨((tk t d).val / 128 * 64 + (tk t d).val % 128) % 64, h⟩ : Fin 64) = ⟨d.val, hd⟩ :=
  Fin.ext (by simp only [tk]; omega)
theorem eh (t : Fin cfg0.N) (h) : (⟨(tq t 0).val / 128 / 4, h⟩ : Fin 2) = ph t.val := Fin.ext (by simp only [tq, ph]; simp; omega)
theorem eg (t : Fin cfg0.N) (h) : (⟨(tq t 0).val / 128 % 4, h⟩ : Fin 4) = pg t.val := Fin.ext (by simp only [tq, pg]; simp)

theorem sitofp_zero : (FloatOps.sitofp (F := Ideal) FTy.bf16 (0#32) : EReal) = ((0 : ℝ) : EReal) := by
  show (((0#32).toInt : ℝ) : EReal) = _; simp

include h0 in
theorem read0 (t : Fin cfg0.N) (i : Fin 2048) (d : Fin 128) :
    iblk m c 0 t (ix2 i d) = ((lane 128 (hq q t.val i) d : ℝ) : EReal) := by
  blk_simp [iblk, idx t]
  have e : (win0_0.blk t).view.emb (ix2 i d) = (ix2 (tr t i) (tq t d) : S4096x1024.Idx) := by blk_ext [idx t, tr, tq]
  rw [e]
  unfold V
  simp only [hostOps0, hostOps0_1, hostOps0_2, hostOps0_3, hostOps0_4, hostOps0_5, hostOps0_6, hostOps0_7, hostOps0_8,
    hostOps0_9, hostOps0_10, List.flatten_cons, List.flatten_nil, List.cons_append, List.nil_append, List.append_nil]
  after_results_simp
  pointwise []
  simp only [StableHlo.TRef.toBuf, StableHlo.TRef.ofBuf, cast_eq]
  pointwise []
  have hm : (tq t d).val % 128 = d.val := by simp only [tq]; omega
  by_cases hd : d.val < 64
  · rw [dif_pos ⟨by have := (tq t d).isLt; omega, by omega⟩]
    simp only [eb, es, e5h t d hd, e5g t d hd, e5d t d hd, h0]
    unfold lane; rw [dif_pos hd]; rfl
  · rw [dif_neg (fun h => hd (by omega)), sitofp_zero]; unfold lane; rw [dif_neg hd]

include h1 in
theorem read1 (t : Fin cfg0.N) (i : Fin 2048) (d : Fin 128) :
    iblk m c 1 t (ix2 i d) = ((lane 128 (hk k t.val i) d : ℝ) : EReal) := by
  blk_simp [iblk, idx t]
  have e : (win0_1.blk t).view.emb (ix2 i d) = (ix2 (tr t i) (tk t d) : S4096x256.Idx) := by blk_ext [idx t, tr, tk]
  rw [e]
  unfold V
  simp only [hostOps0, hostOps0_1, hostOps0_2, hostOps0_3, hostOps0_4, hostOps0_5, hostOps0_6, hostOps0_7, hostOps0_8,
    hostOps0_9, hostOps0_10, List.flatten_cons, List.flatten_nil, List.cons_append, List.nil_append, List.append_nil]
  after_results_simp
  pointwise []
  simp only [StableHlo.TRef.toBuf, StableHlo.TRef.ofBuf, cast_eq]
  pointwise []
  have hm : (tk t d).val % 128 = d.val := by simp only [tk]; omega
  by_cases hd : d.val < 64
  · rw [dif_pos ⟨by have := (tk t d).isLt; omega, by omega⟩]
    simp only [eb, es, e4h t d hd, e4d t d hd, h1]
    unfold lane; rw [dif_pos hd]; rfl
  · rw [dif_neg (fun h => hd (by omega)), sitofp_zero]; unfold lane; rw [dif_neg hd]

include h2 in
theorem read2 (t : Fin cfg0.N) (i : Fin 2048) (d : Fin 128) :
    iblk m c 2 t (ix2 i d) = ((lane 128 (hk v t.val i) d : ℝ) : EReal) := by
  blk_simp [iblk, idx t]
  have e : (win0_2.blk t).view.emb (ix2 i d) = (ix2 (tr t i) (tk t d) : S4096x256.Idx) := by blk_ext [idx t, tr, tk]
  rw [e]
  unfold V
  simp only [hostOps0, hostOps0_1, hostOps0_2, hostOps0_3, hostOps0_4, hostOps0_5, hostOps0_6, hostOps0_7, hostOps0_8,
    hostOps0_9, hostOps0_10, List.flatten_cons, List.flatten_nil, List.cons_append, List.nil_append, List.append_nil]
  after_results_simp
  pointwise []
  simp only [StableHlo.TRef.toBuf, StableHlo.TRef.ofBuf, cast_eq]
  pointwise []
  have hm : (tk t d).val % 128 = d.val := by simp only [tk]; omega
  by_cases hd : d.val < 64
  · rw [dif_pos ⟨by have := (tk t d).isLt; omega, by omega⟩]
    simp only [eb, es, e4h t d hd, e4d t d hd, h2]
    unfold lane; rw [dif_pos hd]; rfl
  · rw [dif_neg (fun h => hd (by omega)), sitofp_zero]; unfold lane; rw [dif_neg hd]

include h3 in
theorem read3 (t : Fin cfg0.N) (i : Fin 2048) (d : Fin 128) :
    iblk m c 3 t (ix2 i d) = ((lane 128 (hq dd t.val i) d : ℝ) : EReal) := by
  blk_simp [iblk, idx t]
  have e : (win0_3.blk t).view.emb (ix2 i d) = (ix2 (tr t i) (tq t d) : S4096x1024.Idx) := by blk_ext [idx t, tr, tq]
  rw [e]
  unfold V
  simp only [hostOps0, hostOps0_1, hostOps0_2, hostOps0_3, hostOps0_4, hostOps0_5, hostOps0_6, hostOps0_7, hostOps0_8,
    hostOps0_9, hostOps0_10, List.flatten_cons, List.flatten_nil, List.cons_append, List.nil_append, List.append_nil]
  after_results_simp
  pointwise []
  simp only [StableHlo.TRef.toBuf, StableHlo.TRef.ofBuf, cast_eq]
  pointwise []
  have hm : (tq t d).val % 128 = d.val := by simp only [tq]; omega
  by_cases hd : d.val < 64
  · rw [dif_pos ⟨by have := (tq t d).isLt; omega, by omega⟩]
    simp only [eb, es, e5h t d hd, e5g t d hd, e5d t d hd, h3]
    unfold lane; rw [dif_pos hd]; rfl
  · rw [dif_neg (fun h => hd (by omega)), sitofp_zero]; unfold lane; rw [dif_neg hd]

/-- What every query's scores are lowered by. -/
def top (t : ℕ) (i : Fin 2048) : ℝ := rowmax fun j => sc (hq q t) (hk k t) i j

include h0 h1 in
theorem read5 (t : Fin cfg0.N) (i : Fin 2048) :
    iblk m c 5 t (ix2 i 0) = ((lse (hq q t.val) (hk k t.val) (top q k t.val) i : ℝ) : EReal) := by
  blk_simp [iblk, idx t]
  have e : (win0_5.blk t).view.emb (ix2 i 0) = (ix2 (tr t i) (tq t 0) : S4096x1024.Idx) := by blk_ext [idx t, tr, tq]
  rw [e]
  unfold V
  simp only [hostOps0, hostOps0_1, hostOps0_2, hostOps0_3, hostOps0_4, hostOps0_5, hostOps0_6, hostOps0_7, hostOps0_8,
    hostOps0_9, hostOps0_10, List.flatten_cons, List.flatten_nil, List.cons_append, List.nil_append, List.append_nil]
  after_results_simp
  pointwise []
  have hs : ∀ x, (∑ d, k (pb t.val) x (ph t.val) d * q (pb t.val) i (ph t.val) (pg t.val) d) = sc (hq q t.val) (hk k t.val) i x :=
    fun x => Finset.sum_congr rfl fun _ _ => mul_comm _ _
  simp only [eb, es, eh, eg, h0, h1, ← EReal.coe_mul, coe_sum, hs, ofBits_ninf, fold_max (n := 2048) (by norm_num), ← EReal.coe_sub, exp_real]
  have hz := zs_pos (hq q t.val) (hk k t.val) (rowmax fun x => sc (hq q t.val) (hk k t.val) i x) i
  unfold zs at hz
  rw [log_real hz, ← EReal.coe_add]; rfl

include h0 h1 h2 in
theorem read4 (t : Fin cfg0.N) (i : Fin 2048) (d : Fin 128) :
    iblk m c 4 t (ix2 i d) = ((lane 128 (out (hq q t.val) (hk k t.val) (hk v t.val) i) d : ℝ) : EReal) := by
  blk_simp [iblk, idx t]
  have e : (win0_4.blk t).view.emb (ix2 i d) = (ix2 (tr t i) (tq t d) : S4096x1024.Idx) := by blk_ext [idx t, tr, tq]
  rw [e]
  unfold V
  simp only [hostOps0, hostOps0_1, hostOps0_2, hostOps0_3, hostOps0_4, hostOps0_5, hostOps0_6, hostOps0_7, hostOps0_8,
    hostOps0_9, hostOps0_10, List.flatten_cons, List.flatten_nil, List.cons_append, List.nil_append, List.append_nil]
  after_results_simp
  pointwise []
  simp only [StableHlo.TRef.toBuf, StableHlo.TRef.ofBuf, cast_eq]
  pointwise []
  have hm : (tq t d).val % 128 = d.val := by simp only [tq]; omega
  by_cases hd : d.val < 64
  · rw [dif_pos ⟨by have := (tq t d).isLt; omega, by omega⟩]
    have hs : ∀ x, (∑ d, k (pb t.val) x (ph t.val) d * q (pb t.val) i (ph t.val) (pg t.val) d) = sc (hq q t.val) (hk k t.val) i x :=
      fun x => Finset.sum_congr rfl fun _ _ => mul_comm _ _
    have hz := (zs_pos (hq q t.val) (hk k t.val) (rowmax fun x => sc (hq q t.val) (hk k t.val) i x) i).ne'
    unfold zs at hz
    simp only [eb, es, e5h t d hd, e5g t d hd, e5d t d hd, h0, h1, h2, ← EReal.coe_mul, coe_sum, hs, ofBits_ninf, fold_max (n := 2048) (by norm_num),
      ← EReal.coe_sub, exp_real, zero_add, div_real _ hz]
    refine congrArg _ ?_
    unfold lane out; rw [dif_pos hd]
    exact Finset.sum_congr rfl fun j _ => by
      rw [← shift (hq q t.val) (hk k t.val) (rowmax fun x => sc (hq q t.val) (hk k t.val) i x) i j, mul_comm]; rfl
  · rw [dif_neg (fun h => hd (by omega)), sitofp_zero]; unfold lane; rw [dif_neg hd]

end Read

end Cert.AttnBIdeal.Blk

end
-- ==== Proof.Slabs.lean ====
/- A block stored a slab at a time: the place of a slab's element in the block, and a block whose slabs all hold one function. -/
module

public import Idealize.ShloMosaic.Lib.Pipeline.FrameBody
public import Idealize.ShloMosaic.Lib.Pipeline.ValueKit

@[expose] public section

set_option maxRecDepth 16384

noncomputable section

namespace Cert.Slabs

open Idealize.ShloMosaic

variable {K n A B : ℕ} {e : EltTy} {Val : EltTy → Type} [∀ e, Nonempty (Val e)]

theorem emb_slab (a b : ℕ) (i : Fin A) (t : Fin B) (r : Fin K) (s : Fin n) (hr : r.val = a + i.val) (hs : s.val = b + t.val)
    (inb : ∀ x, (![a, b] : Fin 2 → ℕ) x + (![A, B] : Fin 2 → ℕ) x ≤ (⟨2, ![K, n]⟩ : Shape).size x) :
    (Rect.unit (s := (⟨2, ![K, n]⟩ : Shape)) ![a, b] ![A, B] inb).emb (ix2 i t : (⟨2, ![A, B]⟩ : Shape).Idx) = ix2 r s := by
  funext x; apply Fin.ext
  fin_cases x
  · show a + 1 * i.val = r.val; omega
  · show b + 1 * t.val = s.val; omega

/-- An element of a slab loaded from the block's contents. -/
theorem ld_slab (X : (⟨2, ![K, n]⟩ : Shape).Idx → Val e) (a b : ℕ) (i : Fin A) (t : Fin B) (r : Fin K) (s : Fin n)
    (hr : r.val = a + i.val) (hs : s.val = b + t.val)
    (inb : ∀ x, (![a, b] : Fin 2 → ℕ) x + (![A, B] : Fin 2 → ℕ) x ≤ (⟨2, ![K, n]⟩ : Shape).size x) :
    View.ld X (Rect.unit (s := (⟨2, ![K, n]⟩ : Shape)) ![a, b] ![A, B] inb) (ix2 i t : (⟨2, ![A, B]⟩ : Shape).Idx) = X (ix2 r s) :=
  congrArg X (emb_slab a b i t r s hr hs inb)

/-- The slab of a function of rows and columns, at its own indices. -/
theorem slab_eq (G : Fin K → Fin n → Val e) (a b : ℕ) (i : Fin A) (t : Fin B)
    (inb : ∀ x, (![a, b] : Fin 2 → ℕ) x + (![A, B] : Fin 2 → ℕ) x ≤ (⟨2, ![K, n]⟩ : Shape).size x) (hr : a + i.val < K) (hs : b + t.val < n) :
    G ((Rect.unit (s := (⟨2, ![K, n]⟩ : Shape)) ![a, b] ![A, B] inb).emb (ix2 i t : (⟨2, ![A, B]⟩ : Shape).Idx) 0)
        ((Rect.unit (s := (⟨2, ![K, n]⟩ : Shape)) ![a, b] ![A, B] inb).emb (ix2 i t : (⟨2, ![A, B]⟩ : Shape).Idx) 1)
      = G ⟨a + i.val, hr⟩ ⟨b + t.val, hs⟩ := by
  rw [emb_slab a b i t ⟨a + i.val, hr⟩ ⟨b + t.val, hs⟩ rfl rfl inb]; rfl

/-- A block whose stored slabs all hold `G`, read where some slab was stored. -/
theorem canon_slabs (G : Fin K → Fin n → Val e) (L : List (View.Piece Val (⟨2, ![K, n]⟩ : Shape) e)) (r : Fin K) (s : Fin n)
    (cov : ∃ p ∈ L, (ix2 r s : (⟨2, ![K, n]⟩ : Shape).Idx) ∈ p.1.set)
    (h : ∀ p ∈ L, ∀ x : p.1.shape.Idx, p.2 x = G (p.1.emb x 0) (p.1.emb x 1)) : View.canon L (ix2 r s) = G r s :=
  View.canon_apply_of_pieces (fun y => G (y 0) (y 1)) L h (ix2 r s) cov

/-- A whole block loaded from the stores made so far. -/
theorem read_whole {sig : RefSig} {κ : Kind} {sp : Space} (v : View sig κ sp (⟨2, ![K, n]⟩ : Shape) e) (r : Fin K) (s : Fin n)
    (inb : ∀ x, (![0, 0] : Fin 2 → ℕ) x + (![K, n] : Fin 2 → ℕ) x ≤ (⟨2, ![K, n]⟩ : Shape).size x)
    (L : List (View.Piece Val (⟨2, ![K, n]⟩ : Shape) e)) :
    v.readCov L (Rect.unit (s := (⟨2, ![K, n]⟩ : Shape)) ![0, 0] ![K, n] inb).toLoadRect (ix2 r s : (⟨2, ![K, n]⟩ : Shape).Idx)
      = View.canon L (ix2 r s) := by
  rw [View.readCov_eq_canon']
  exact congrArg (View.canon L) (emb_slab 0 0 r s r s (by omega) (by omega) inb)

end Cert.Slabs

end
-- ==== Proof.AttnBPay.lean ====
/- What one grid point of the kernel computes from the blocks it reads, read at an index: 256 queries at a time the weights,
   the scores' gradient and the queries' gradient, then the point's share of the keys' and the values' gradients. -/
module

public import proofs.«01_k».proof.Proof.Gen.AttnBIdeal.Skeleton
public import proofs.«01_k».proof.Proof.AttnSpec
public import proofs.«01_k».proof.Proof.Slabs

@[expose] public section

set_option maxRecDepth 16384

noncomputable section

namespace Cert.AttnBIdeal.Pay

open Cert.AttnBIdeal Cert.AttnBIdeal.Gen Cert.Rows Cert.AttnSpec Idealize.ShloMosaic Idealize.ShloMosaic.TcCoe

section Slab
variable (k v : Vec Ideal S2048x128 .bf16) (q g o : Vec Ideal S256x128 .bf16) (l : Vec Ideal S256x128 .f32)
  (kp vp : Fin 2048 → Fin 128 → ℝ) (qp gp op : Fin 256 → Fin 128 → ℝ) (lp : Fin 256 → ℝ)
  (hk : ∀ j d, k (ix2 j d) = ((kp j d : ℝ) : EReal)) (hv : ∀ j d, v (ix2 j d) = ((vp j d : ℝ) : EReal))
  (hq : ∀ i d, q (ix2 i d) = ((qp i d : ℝ) : EReal)) (hg : ∀ i d, g (ix2 i d) = ((gp i d : ℝ) : EReal))
  (ho : ∀ i d, o (ix2 i d) = ((op i d : ℝ) : EReal)) (hl : ∀ i, l (ix2 i 0) = ((lp i : ℝ) : EReal))

include hk hq hl in
theorem ex_at (j : Fin 2048) (i : Fin 256) :
    k0_pay10 (F := Ideal) k q l (ix2 j i) = ((Real.exp ((∑ d, kp j d * qp i d) - lp i) : ℝ) : EReal) := by
  pointwise [k0_pay10]
  simp only [hk, hq, hl, coe_sum, ← EReal.coe_mul, ← EReal.coe_sub, exp_real, zero_add]

include hk hv hq hg ho hl in
theorem ds_at (j : Fin 2048) (i : Fin 256) :
    k0_pay11 (F := Ideal) k v q g o l (ix2 j i)
      = ((Real.exp ((∑ d, kp j d * qp i d) - lp i) * ((∑ d, vp j d * gp i d) - ∑ d, gp i d * op i d) : ℝ) : EReal) := by
  pointwise [k0_pay11]
  rw [ex_at k q l kp qp lp hk hq hl]
  simp only [hv, hg, ho, coe_sum, ← EReal.coe_mul, ← EReal.coe_sub, zero_add]

include hk in
theorem dq_at (s : FVec Ideal S2048x256 .bf16) (sp : Fin 2048 → Fin 256 → ℝ) (hs : ∀ j i, s (ix2 j i) = ((sp j i : ℝ) : EReal))
    (i : Fin 256) (d : Fin 128) :
    k0_pay15 (F := Ideal) k s (ix2 i d) = ((∑ j, sp j i * kp j d : ℝ) : EReal) := by
  pointwise [k0_pay15]
  simp only [hk, hs, coe_sum, ← EReal.coe_mul, zero_add]

end Slab

/-- A point's share of the keys' and of the values' gradients, added to what the group's earlier points left. -/
theorem acc_at (a : Vec Ideal S2048x128 .f32) (s : Vec Ideal S2048x2048 .bf16) (q : Vec Ideal S2048x128 .bf16)
    (ap qp : Fin 2048 → Fin 128 → ℝ) (sp : Fin 2048 → Fin 2048 → ℝ)
    (ha : ∀ j d, a (ix2 j d) = ((ap j d : ℝ) : EReal)) (hs : ∀ j i, s (ix2 j i) = ((sp j i : ℝ) : EReal))
    (hq : ∀ i d, q (ix2 i d) = ((qp i d : ℝ) : EReal)) (j : Fin 2048) (d : Fin 128) :
    k0_pay50 (F := Ideal) a s q (ix2 j d) = ((ap j d + ∑ i, sp j i * qp i d : ℝ) : EReal) := by
  pointwise [k0_pay50]
  simp only [ha, hs, hq, coe_sum, ← EReal.coe_mul, ← EReal.coe_add, zero_add]

theorem pay51_eq (a : Vec Ideal S2048x128 .f32) (s : Vec Ideal S2048x2048 .bf16) (q : Vec Ideal S2048x128 .bf16) :
    k0_pay51 (F := Ideal) a s q = k0_pay50 (F := Ideal) a s q := rfl

theorem pay3_eq (k : Vec Ideal S2048x128 .bf16) : k0_pay3 (F := Ideal) k = k := by
  funext y; idx_vars y; pointwise [k0_pay3]

/-! ### The stores of one point: 256 queries at a time -/

theorem inbC (o : ℕ) (h : o + 256 ≤ 2048) : ∀ a, (![0, o] : Fin 2 → ℕ) a + (![2048, 256] : Fin 2 → ℕ) a ≤ S2048x2048.size a := by
  intro a; fin_cases a
  · exact le_refl _
  · exact h
theorem inbR (o : ℕ) (h : o + 256 ≤ 2048) : ∀ a, (![o, 0] : Fin 2 → ℕ) a + (![256, 128] : Fin 2 → ℕ) a ≤ S2048x128.size a := by
  intro a; fin_cases a
  · exact h
  · exact le_refl _

section Stores
variable (x0 x1 x2 x3 x4 : Vec Ideal S2048x128 .bf16) (x5 : Vec Ideal S2048x128 .f32) (o : ℕ) (h : o + 256 ≤ 2048)

/-- The rows of the block's 256 queries from `o` on. -/
def rowsB (x : Vec Ideal S2048x128 .bf16) : Vec Ideal S256x128 .bf16 := View.ld x (Rect.unit ![o, 0] ![256, 128] (inbR o h))
def rowsF (x : Vec Ideal S2048x128 .f32) : Vec Ideal S256x128 .f32 := View.ld x (Rect.unit ![o, 0] ![256, 128] (inbR o h))

/-- The scores' gradient, the weights and the queries' gradient stored for them. -/
def dsV : FVec Ideal S2048x256 .bf16 :=
  k0_pay11 (k0_pay3 x1) (k0_pay4 x2) (rowsB o h x0) (rowsB o h x3) (rowsB o h x4) (rowsF o h x5)
def dsP : View.Piece (Elt Ideal) S2048x2048 .bf16 := ⟨Rect.unit ![0, o] ![2048, 256] (inbC o h), k0_pay14 (dsV x0 x1 x2 x3 x4 x5 o h)⟩
def ptP : View.Piece (Elt Ideal) S2048x2048 .bf16 :=
  ⟨Rect.unit ![0, o] ![2048, 256] (inbC o h), k0_pay13 (k0_pay12 (k0_pay3 x1) (rowsB o h x0) (rowsF o h x5))⟩
def dqP : View.Piece (Elt Ideal) S2048x128 .bf16 :=
  ⟨Rect.unit ![o, 0] ![256, 128] (inbR o h), k0_pay15 (k0_pay3 x1) (dsV x0 x1 x2 x3 x4 x5 o h)⟩

variable (kp vp qp gp op : Fin 2048 → Fin 128 → ℝ) (lp : Fin 2048 → ℝ)
  (h0 : ∀ i d, x0 (ix2 i d) = ((qp i d : ℝ) : EReal)) (h1 : ∀ j d, x1 (ix2 j d) = ((kp j d : ℝ) : EReal))
  (h2 : ∀ j d, x2 (ix2 j d) = ((vp j d : ℝ) : EReal)) (h3 : ∀ i d, x3 (ix2 i d) = ((gp i d : ℝ) : EReal))
  (h4 : ∀ i d, x4 (ix2 i d) = ((op i d : ℝ) : EReal)) (h5 : ∀ i, x5 (ix2 i 0) = ((lp i : ℝ) : EReal))

theorem rowsB_at (x : Vec Ideal S2048x128 .bf16) (i : Fin 256) (d : Fin 128) : rowsB o h x (ix2 i d) = x (ix2 ⟨o + i.val, by omega⟩ d) :=
  Slabs.ld_slab (Val := Elt Ideal) (e := .bf16) x o 0 i d _ d rfl (by omega) (inbR o h)
theorem rowsF_at (x : Vec Ideal S2048x128 .f32) (i : Fin 256) (d : Fin 128) : rowsF o h x (ix2 i d) = x (ix2 ⟨o + i.val, by omega⟩ d) :=
  Slabs.ld_slab (Val := Elt Ideal) (e := .f32) x o 0 i d _ d rfl (by omega) (inbR o h)

include h0 h1 h2 h3 h4 h5 in
theorem dsV_at (j : Fin 2048) (i : Fin 256) :
    dsV x0 x1 x2 x3 x4 x5 o h (ix2 j i) = ((dst qp kp vp gp op lp j ⟨o + i.val, by omega⟩ : ℝ) : EReal) :=
  ds_at (k0_pay3 x1) (k0_pay4 x2) _ _ _ _ kp vp (fun i => qp ⟨o + i.val, by omega⟩) (fun i => gp ⟨o + i.val, by omega⟩)
    (fun i => op ⟨o + i.val, by omega⟩) (fun i => lp ⟨o + i.val, by omega⟩) (fun j d => (congrFun (pay3_eq x1) _).trans (h1 j d))
    (fun j d => (congrFun (pay3_eq x2) _).trans (h2 j d)) (fun i d => (rowsB_at o h x0 i d).trans (h0 _ d))
    (fun i d => (rowsB_at o h x3 i d).trans (h3 _ d)) (fun i d => (rowsB_at o h x4 i d).trans (h4 _ d))
    (fun i => (rowsF_at o h x5 i 0).trans (h5 _)) j i

include h0 h1 h2 h3 h4 h5 in
theorem dsP_at (x : (dsP x0 x1 x2 x3 x4 x5 o h).1.shape.Idx) :
    (dsP x0 x1 x2 x3 x4 x5 o h).2 x
      = (((dst qp kp vp gp op lp ((dsP x0 x1 x2 x3 x4 x5 o h).1.emb x 0) ((dsP x0 x1 x2 x3 x4 x5 o h).1.emb x 1) : ℝ)) : EReal) := by
  revert x
  show ∀ x : S2048x256.Idx, _
  intro y; idx_vars y
  obtain ⟨j, hj⟩ : ∃ j, j = y0 := ⟨_, rfl⟩
  obtain ⟨i, hi⟩ : ∃ i, i = y1 := ⟨_, rfl⟩
  rw [← hj, ← hi]
  have e : (dsP x0 x1 x2 x3 x4 x5 o h).1.emb (ix2 j i) = (ix2 j ⟨o + i.val, by omega⟩ : S2048x2048.Idx) :=
    Slabs.emb_slab 0 o j i _ _ (by omega) rfl (inbC o h)
  rw [e]
  refine Eq.trans ?_ (dsV_at x0 x1 x2 x3 x4 x5 o h kp vp qp gp op lp h0 h1 h2 h3 h4 h5 j i)
  unfold dsP
  pointwise [k0_pay14]

include h0 h1 h5 in
theorem ptP_at (x : (ptP x0 x1 x5 o h).1.shape.Idx) :
    (ptP x0 x1 x5 o h).2 x = (((pt qp kp lp ((ptP x0 x1 x5 o h).1.emb x 0) ((ptP x0 x1 x5 o h).1.emb x 1) : ℝ)) : EReal) := by
  revert x
  show ∀ x : S2048x256.Idx, _
  intro y; idx_vars y
  obtain ⟨j, hj⟩ : ∃ j, j = y0 := ⟨_, rfl⟩
  obtain ⟨i, hi⟩ : ∃ i, i = y1 := ⟨_, rfl⟩
  rw [← hj, ← hi]
  have e : (ptP x0 x1 x5 o h).1.emb (ix2 j i) = (ix2 j ⟨o + i.val, by omega⟩ : S2048x2048.Idx) :=
    Slabs.emb_slab 0 o j i _ _ (by omega) rfl (inbC o h)
  rw [e]
  refine Eq.trans ?_ (ex_at (k0_pay3 x1) (rowsB o h x0) (rowsF o h x5) kp (fun i => qp ⟨o + i.val, by omega⟩) (fun i => lp ⟨o + i.val, by omega⟩)
    (fun j d => (congrFun (pay3_eq x1) _).trans (h1 j d)) (fun i d => (rowsB_at o h x0 i d).trans (h0 _ d))
    (fun i => (rowsF_at o h x5 i 0).trans (h5 _)) j i)
  unfold ptP
  pointwise [k0_pay13, k0_pay12]

include h0 h1 h2 h3 h4 h5 in
theorem dqP_at (x : (dqP x0 x1 x2 x3 x4 x5 o h).1.shape.Idx) :
    (dqP x0 x1 x2 x3 x4 x5 o h).2 x
      = (((∑ j, dst qp kp vp gp op lp j ((dqP x0 x1 x2 x3 x4 x5 o h).1.emb x 0) * kp j ((dqP x0 x1 x2 x3 x4 x5 o h).1.emb x 1) : ℝ)) : EReal) := by
  revert x
  show ∀ x : S256x128.Idx, _
  intro y; idx_vars y
  obtain ⟨i, hi⟩ : ∃ i, i = y0 := ⟨_, rfl⟩
  obtain ⟨d, hd⟩ : ∃ d, d = y1 := ⟨_, rfl⟩
  rw [← hi, ← hd]
  have e : (dqP x0 x1 x2 x3 x4 x5 o h).1.emb (ix2 i d) = (ix2 ⟨o + i.val, by omega⟩ d : S2048x128.Idx) :=
    Slabs.emb_slab o 0 i d _ _ rfl (by omega) (inbR o h)
  rw [e]
  exact dq_at (k0_pay3 x1) kp (fun j d => (congrFun (pay3_eq x1) _).trans (h1 j d)) _ _
    (fun j i => dsV_at x0 x1 x2 x3 x4 x5 o h kp vp qp gp op lp h0 h1 h2 h3 h4 h5 j i) i d

/-- The stores of one point, the last first. -/
def dsL : List (View.Piece (Elt Ideal) S2048x2048 .bf16) :=
  [dsP x0 x1 x2 x3 x4 x5 1792 (by norm_num), dsP x0 x1 x2 x3 x4 x5 1536 (by norm_num), dsP x0 x1 x2 x3 x4 x5 1280 (by norm_num),
    dsP x0 x1 x2 x3 x4 x5 1024 (by norm_num), dsP x0 x1 x2 x3 x4 x5 768 (by norm_num), dsP x0 x1 x2 x3 x4 x5 512 (by norm_num),
    dsP x0 x1 x2 x3 x4 x5 256 (by norm_num), dsP x0 x1 x2 x3 x4 x5 0 (by norm_num)]
def ptL : List (View.Piece (Elt Ideal) S2048x2048 .bf16) :=
  [ptP x0 x1 x5 1792 (by norm_num), ptP x0 x1 x5 1536 (by norm_num), ptP x0 x1 x5 1280 (by norm_num), ptP x0 x1 x5 1024 (by norm_num),
    ptP x0 x1 x5 768 (by norm_num), ptP x0 x1 x5 512 (by norm_num), ptP x0 x1 x5 256 (by norm_num), ptP x0 x1 x5 0 (by norm_num)]
def dqL : List (View.Piece (Elt Ideal) S2048x128 .bf16) :=
  [dqP x0 x1 x2 x3 x4 x5 1792 (by norm_num), dqP x0 x1 x2 x3 x4 x5 1536 (by norm_num), dqP x0 x1 x2 x3 x4 x5 1280 (by norm_num),
    dqP x0 x1 x2 x3 x4 x5 1024 (by norm_num), dqP x0 x1 x2 x3 x4 x5 768 (by norm_num), dqP x0 x1 x2 x3 x4 x5 512 (by norm_num),
    dqP x0 x1 x2 x3 x4 x5 256 (by norm_num), dqP x0 x1 x2 x3 x4 x5 0 (by norm_num)]

include h0 h1 h2 h3 h4 h5 in
theorem dsL_at (j i : Fin 2048) : View.canon (dsL x0 x1 x2 x3 x4 x5) (ix2 j i) = ((dst qp kp vp gp op lp j i : ℝ) : EReal) :=
  Slabs.canon_slabs (Val := Elt Ideal) (e := .bf16) (fun j i => ((dst qp kp vp gp op lp j i : ℝ) : EReal)) (dsL x0 x1 x2 x3 x4 x5) j i
    (View.cover_of_tiled_head _ _ _ rfl _) fun p hp => by
      simp only [dsL, List.mem_cons, List.not_mem_nil, or_false] at hp
      rcases hp with rfl | rfl | rfl | rfl | rfl | rfl | rfl | rfl <;>
        exact dsP_at x0 x1 x2 x3 x4 x5 _ _ kp vp qp gp op lp h0 h1 h2 h3 h4 h5
include h0 h1 h5 in
theorem ptL_at (j i : Fin 2048) : View.canon (ptL x0 x1 x5) (ix2 j i) = ((pt qp kp lp j i : ℝ) : EReal) :=
  Slabs.canon_slabs (Val := Elt Ideal) (e := .bf16) (fun j i => ((pt qp kp lp j i : ℝ) : EReal)) (ptL x0 x1 x5) j i
    (View.cover_of_tiled_head _ _ _ rfl _) fun p hp => by
      simp only [ptL, List.mem_cons, List.not_mem_nil, or_false] at hp
      rcases hp with rfl | rfl | rfl | rfl | rfl | rfl | rfl | rfl <;> exact ptP_at x0 x1 x5 _ _ kp qp lp h0 h1 h5
include h0 h1 h2 h3 h4 h5 in
theorem dqL_at (i : Fin 2048) (d : Fin 128) :
    View.canon (dqL x0 x1 x2 x3 x4 x5) (ix2 i d) = ((∑ j, dst qp kp vp gp op lp j i * kp j d : ℝ) : EReal) :=
  Slabs.canon_slabs (Val := Elt Ideal) (e := .bf16) (fun i d => ((∑ j, dst qp kp vp gp op lp j i * kp j d : ℝ) : EReal))
    (dqL x0 x1 x2 x3 x4 x5) i d (View.cover_of_tiled_head _ _ _ rfl _) fun p hp => by
      simp only [dqL, List.mem_cons, List.not_mem_nil, or_false] at hp
      rcases hp with rfl | rfl | rfl | rfl | rfl | rfl | rfl | rfl <;>
        exact dqP_at x0 x1 x2 x3 x4 x5 _ _ kp vp qp gp op lp h0 h1 h2 h3 h4 h5

end Stores

end Cert.AttnBIdeal.Pay

end
-- ==== Proof.AttnBPoint.lean ====
/- What one point of the attention's backward leaves: its queries' gradient, and the keys' and the values' gradients summed so far. -/
module

public import proofs.«01_k».proof.Proof.Gen.AttnBIdeal.Value
public import proofs.«01_k».proof.Proof.AttnBBlocks
public import proofs.«01_k».proof.Proof.AttnBPay
public import proofs.«01_k».proof.Proof.Slabs

@[expose] public section

set_option maxRecDepth 16384

noncomputable section

namespace Cert.AttnBIdeal.Pt

open Cert.AttnBIdeal Cert.AttnBIdeal.Gen Cert.Rows Cert.AttnSpec Cert.AttnBIdeal.Blk Idealize.ShloMosaic Idealize.ShloMosaic.TcCoe

variable (m : (ℓ : Loc nD τ sig) → Buf (Elt Ideal) ℓ) (c : Dev nD)

section Args
variable (q dd : Fin 2 → Fin 2048 → Fin 2 → Fin 4 → Fin 64 → ℝ) (k v : Fin 2 → Fin 2048 → Fin 2 → Fin 64 → ℝ)
  (h0 : ∀ b s h g d, m (c, Proc.tc.devRef main_arg0) (ix5 b s h g d) = ((q b s h g d : ℝ) : EReal))
  (h1 : ∀ b s h d, m (c, Proc.tc.devRef main_arg1) (ix4 b s h d) = ((k b s h d : ℝ) : EReal))
  (h2 : ∀ b s h d, m (c, Proc.tc.devRef main_arg2) (ix4 b s h d) = ((v b s h d : ℝ) : EReal))
  (h3 : ∀ b s h g d, m (c, Proc.tc.devRef main_arg3) (ix5 b s h g d) = ((dd b s h g d : ℝ) : EReal))

/-- A point's gradients of its queries, and its share of its group's gradients of the keys and of the values. -/
def gq (t : ℕ) (i : Fin 2048) (d : Fin 64) : ℝ := dq (hq q t) (hk k t) (hk v t) (hq dd t) i d
def gk (t : ℕ) (j : Fin 2048) (d : Fin 64) : ℝ := dk (hq q t) (hk k t) (hk v t) (hq dd t) j d
def gv (t : ℕ) (j : Fin 2048) (d : Fin 64) : ℝ := dv (hq q t) (hk k t) (hq dd t) j d

include h0 h1 h2 h3 in
theorem ds_pt (t : Fin cfg0.N) (j i : Fin 2048) :
    View.canon (Pay.dsL (iblk m c 0 t) (iblk m c 1 t) (iblk m c 2 t) (iblk m c 3 t) (iblk m c 4 t) (iblk m c 5 t)) (ix2 j i)
      = ((ds (hq q t.val) (hk k t.val) (hk v t.val) (hq dd t.val) i j : ℝ) : EReal) :=
  (Pay.dsL_at _ _ _ _ _ _ _ _ _ _ _ _ (read0 m c q h0 t) (read1 m c k h1 t) (read2 m c v h2 t) (read3 m c dd h3 t)
    (read4 m c q k v h0 h1 h2 t) (read5 m c q k h0 h1 t) j i).trans
    (congrArg _ (dst_eq (N := 128) _ _ _ _ _ (by norm_num) (by norm_num) j i))

include h0 h1 in
theorem pr_pt (t : Fin cfg0.N) (j i : Fin 2048) :
    View.canon (Pay.ptL (iblk m c 0 t) (iblk m c 1 t) (iblk m c 5 t)) (ix2 j i)
      = ((pr (hq q t.val) (hk k t.val) i j : ℝ) : EReal) :=
  (Pay.ptL_at _ _ _ _ _ _ (read0 m c q h0 t) (read1 m c k h1 t) (read5 m c q k h0 h1 t) j i).trans
    (congrArg _ (pt_eq (N := 128) _ _ _ (by norm_num) j i))

include h0 h1 h2 h3 in
theorem dq_pt (t : Fin cfg0.N) (i : Fin 2048) (d : Fin 128) :
    View.canon (Pay.dqL (iblk m c 0 t) (iblk m c 1 t) (iblk m c 2 t) (iblk m c 3 t) (iblk m c 4 t) (iblk m c 5 t)) (ix2 i d)
      = ((lane 128 (gq q dd k v t.val i) d : ℝ) : EReal) := by
  refine (Pay.dqL_at _ _ _ _ _ _ _ _ _ _ _ _ (read0 m c q h0 t) (read1 m c k h1 t) (read2 m c v h2 t) (read3 m c dd h3 t)
    (read4 m c q k v h0 h1 h2 t) (read5 m c q k h0 h1 t) i d).trans (congrArg _ ?_)
  simp only [fun j => dst_eq (N := 128) (hq q t.val) (hk k t.val) (hk v t.val) (hq dd t.val) (top q k t.val) (by norm_num) (by norm_num) j i]
  exact comb_lane _ _ d

include h0 h1 h2 h3 in
theorem out6 (t : Fin cfg0.N) (i : Fin 2048) (d : Fin 128) :
    (outsAt0 m c t.val t.isLt).1 (ix2 i d) = ((lane 128 (gq q dd k v t.val i) d : ℝ) : EReal) := by
  by_cases c0 : t.val % 4 = 0
  · rw [outsAt0_A m c t c0 (by omega)]
    frame_out
    exact dq_pt m c q dd k v h0 h1 h2 h3 t i d
  · by_cases c1 : t.val % 4 = 3
    · rw [outsAt0_C m c t c0 c1]
      frame_out
      exact dq_pt m c q dd k v h0 h1 h2 h3 t i d
    · rw [outsAt0_B m c t c0 c1]
      frame_out
      exact dq_pt m c q dd k v h0 h1 h2 h3 t i d

/-- What the group's points have summed up to this one. -/
def ak (t : ℕ) (j : Fin 2048) (d : Fin 128) : ℝ := ∑ g ∈ Finset.range (t % 4 + 1), lane 128 (gk q dd k v (t / 4 * 4 + g) j) d
def av (t : ℕ) (j : Fin 2048) (d : Fin 128) : ℝ := ∑ g ∈ Finset.range (t % 4 + 1), lane 128 (gv q dd k (t / 4 * 4 + g) j) d

theorem sum_step (f : ℕ → ℝ) (t : ℕ) (h : ¬ t % 4 = 0) :
    (∑ g ∈ Finset.range (t % 4 + 1), f (t / 4 * 4 + g)) = (∑ g ∈ Finset.range ((t - 1) % 4 + 1), f ((t - 1) / 4 * 4 + g)) + f t := by
  have e1 : (t - 1) % 4 + 1 = t % 4 := by omega
  have e2 : (t - 1) / 4 = t / 4 := by omega
  rw [Finset.sum_range_succ, e1, e2, show t / 4 * 4 + t % 4 = t by omega]
theorem sum_first (f : ℕ → ℝ) (t : ℕ) (h : t % 4 = 0) : (∑ g ∈ Finset.range (t % 4 + 1), f (t / 4 * 4 + g)) = f t := by
  rw [h]; simp only [zero_add, Finset.sum_range_one, add_zero]; congr 1; omega

/-- A point's share of the keys' gradient on top of `a`. -/
theorem dk_pt (t : Fin cfg0.N) (a : Vec Ideal S2048x128 .f32) (ap : Fin 2048 → Fin 128 → ℝ)
    (h0 : ∀ b s h g d, m (c, Proc.tc.devRef main_arg0) (ix5 b s h g d) = ((q b s h g d : ℝ) : EReal))
    (h1 : ∀ b s h d, m (c, Proc.tc.devRef main_arg1) (ix4 b s h d) = ((k b s h d : ℝ) : EReal))
    (h2 : ∀ b s h d, m (c, Proc.tc.devRef main_arg2) (ix4 b s h d) = ((v b s h d : ℝ) : EReal))
    (h3 : ∀ b s h g d, m (c, Proc.tc.devRef main_arg3) (ix5 b s h g d) = ((dd b s h g d : ℝ) : EReal))
    (ha : ∀ j d, a (ix2 j d) = ((ap j d : ℝ) : EReal)) (s : Vec Ideal S2048x2048 .bf16)
    (hs : ∀ j i, s (ix2 j i) = View.canon (Pay.dsL (iblk m c 0 t) (iblk m c 1 t) (iblk m c 2 t) (iblk m c 3 t) (iblk m c 4 t) (iblk m c 5 t)) (ix2 j i))
    (j : Fin 2048) (d : Fin 128) :
    k0_pay50 a s (iblk m c 0 t) (ix2 j d) = ((ap j d + lane 128 (gk q dd k v t.val j) d : ℝ) : EReal) := by
  rw [Pay.acc_at a s (iblk m c 0 t) ap _ (fun j i => ds (hq q t.val) (hk k t.val) (hk v t.val) (hq dd t.val) i j) ha
    (fun j i => (hs j i).trans (ds_pt m c q dd k v h0 h1 h2 h3 t j i)) (read0 m c q h0 t) j d, comb_lane]; rfl

theorem dv_pt (t : Fin cfg0.N) (a : Vec Ideal S2048x128 .f32) (ap : Fin 2048 → Fin 128 → ℝ)
    (h0 : ∀ b s h g d, m (c, Proc.tc.devRef main_arg0) (ix5 b s h g d) = ((q b s h g d : ℝ) : EReal))
    (h1 : ∀ b s h d, m (c, Proc.tc.devRef main_arg1) (ix4 b s h d) = ((k b s h d : ℝ) : EReal))
    (h3 : ∀ b s h g d, m (c, Proc.tc.devRef main_arg3) (ix5 b s h g d) = ((dd b s h g d : ℝ) : EReal))
    (ha : ∀ j d, a (ix2 j d) = ((ap j d : ℝ) : EReal)) (s : Vec Ideal S2048x2048 .bf16)
    (hs : ∀ j i, s (ix2 j i) = View.canon (Pay.ptL (iblk m c 0 t) (iblk m c 1 t) (iblk m c 5 t)) (ix2 j i))
    (j : Fin 2048) (d : Fin 128) :
    k0_pay50 a s (iblk m c 3 t) (ix2 j d) = ((ap j d + lane 128 (gv q dd k t.val j) d : ℝ) : EReal) := by
  rw [Pay.acc_at a s (iblk m c 3 t) ap _ (fun j i => pr (hq q t.val) (hk k t.val) i j) ha
    (fun j i => (hs j i).trans (pr_pt m c q k h0 h1 t j i)) (read3 m c dd h3 t) j d, comb_lane]; rfl

include h0 h1 h2 h3 in
theorem acc2 (n : ℕ) : ∀ (h : n < cfg0.N) (j : Fin 2048) (d : Fin 128),
    (outsAt0 m c n h).2.2.2.1 (ix2 j d) = ((ak q dd k v n j d : ℝ) : EReal) := by
  induction n using Nat.strong_induction_on with
  | _ n ih =>
    intro h j d
    by_cases c0 : n % 4 = 0
    · have e := outsAt0_A m c ⟨n, h⟩ c0 (by show ¬ n % 4 = 3; omega)
      dsimp only at e
      rw [e]
      frame_out
      unfold ak; rw [sum_first (fun g => lane 128 (gk q dd k v g j) d) n c0]
      refine (dk_pt m c q dd k v ⟨n, h⟩ _ (fun _ _ => 0) h0 h1 h2 h3 (fun j d => ?_) _ (fun j i => ?_) j d).trans (congrArg _ (zero_add _))
      · pointwise [k0_pay1]; first | done | exact EReal.coe_zero.symm
      · exact Slabs.read_whole _ j i _ _
    · by_cases c1 : n % 4 = 3
      · have e := outsAt0_C m c ⟨n, h⟩ c0 c1
        dsimp only at e
        rw [e]
        frame_out
        unfold ak; rw [sum_step (fun g => lane 128 (gk q dd k v g j) d) n c0]
        refine dk_pt m c q dd k v ⟨n, h⟩ _ (ak q dd k v (n - 1)) h0 h1 h2 h3 (fun j d => ?_) _ (fun j i => ?_) j d
        · refine (congrFun ((Memref.isWhole_whole _).read_unread _) _).trans ?_
          exact ih (n - 1) (by omega) _ j d
        · exact Slabs.read_whole _ j i _ _
      · have e := outsAt0_B m c ⟨n, h⟩ c0 c1
        dsimp only at e
        rw [e]
        frame_out
        unfold ak; rw [sum_step (fun g => lane 128 (gk q dd k v g j) d) n c0]
        refine dk_pt m c q dd k v ⟨n, h⟩ _ (ak q dd k v (n - 1)) h0 h1 h2 h3 (fun j d => ?_) _ (fun j i => ?_) j d
        · refine (congrFun ((Memref.isWhole_whole _).read_unread _) _).trans ?_
          exact ih (n - 1) (by omega) _ j d
        · exact Slabs.read_whole _ j i _ _

include h0 h1 h2 h3 in
theorem acc3 (n : ℕ) : ∀ (h : n < cfg0.N) (j : Fin 2048) (d : Fin 128),
    (outsAt0 m c n h).2.2.2.2 (ix2 j d) = ((av q dd k n j d : ℝ) : EReal) := by
  induction n using Nat.strong_induction_on with
  | _ n ih =>
    intro h j d
    by_cases c0 : n % 4 = 0
    · have e := outsAt0_A m c ⟨n, h⟩ c0 (by show ¬ n % 4 = 3; omega)
      dsimp only at e
      rw [e]
      frame_out
      unfold av; rw [sum_first (fun g => lane 128 (gv q dd k g j) d) n c0]
      refine (dv_pt m c q dd k ⟨n, h⟩ _ (fun _ _ => 0) h0 h1 h3 (fun j d => ?_) _ (fun j i => ?_) j d).trans (congrArg _ (zero_add _))
      · pointwise [k0_pay2]; first | done | exact EReal.coe_zero.symm
      · exact Slabs.read_whole _ j i _ _
    · by_cases c1 : n % 4 = 3
      · have e := outsAt0_C m c ⟨n, h⟩ c0 c1
        dsimp only at e
        rw [e]
        frame_out
        unfold av; rw [sum_step (fun g => lane 128 (gv q dd k g j) d) n c0]
        refine dv_pt m c q dd k ⟨n, h⟩ _ (av q dd k (n - 1)) h0 h1 h3 (fun j d => ?_) _ (fun j i => ?_) j d
        · refine (congrFun ((Memref.isWhole_whole _).read_unread _) _).trans ?_
          exact ih (n - 1) (by omega) _ j d
        · exact Slabs.read_whole _ j i _ _
      · have e := outsAt0_B m c ⟨n, h⟩ c0 c1
        dsimp only at e
        rw [e]
        frame_out
        unfold av; rw [sum_step (fun g => lane 128 (gv q dd k g j) d) n c0]
        refine dv_pt m c q dd k ⟨n, h⟩ _ (av q dd k (n - 1)) h0 h1 h3 (fun j d => ?_) _ (fun j i => ?_) j d
        · refine (congrFun ((Memref.isWhole_whole _).read_unread _) _).trans ?_
          exact ih (n - 1) (by omega) _ j d
        · exact Slabs.read_whole _ j i _ _

include h0 h1 h2 h3 in
theorem out7 (t : Fin cfg0.N) (c1 : t.val % 4 = 3) (j : Fin 2048) (d : Fin 128) :
    (outsAt0 m c t.val t.isLt).2.1 (ix2 j d) = ((ak q dd k v t.val j d : ℝ) : EReal) := by
  have c0 : ¬t.val % 4 = 0 := by omega
  rw [outsAt0_C m c t c0 c1]
  frame_out
  unfold ak; rw [sum_step (fun g => lane 128 (gk q dd k v g j) d) t.val c0]
  refine dk_pt m c q dd k v t _ (ak q dd k v (t.val - 1)) h0 h1 h2 h3 (fun j d => ?_) _ (fun j i => ?_) j d
  · refine (congrFun ((Memref.isWhole_whole _).read_unread _) _).trans ?_
    exact acc2 m c q dd k v h0 h1 h2 h3 (t.val - 1) _ j d
  · exact Slabs.read_whole _ j i _ _

include h0 h1 h2 h3 in
theorem out8 (t : Fin cfg0.N) (c1 : t.val % 4 = 3) (j : Fin 2048) (d : Fin 128) :
    (outsAt0 m c t.val t.isLt).2.2.1 (ix2 j d) = ((av q dd k t.val j d : ℝ) : EReal) := by
  have c0 : ¬t.val % 4 = 0 := by omega
  rw [outsAt0_C m c t c0 c1]
  frame_out
  unfold av; rw [sum_step (fun g => lane 128 (gv q dd k g j) d) t.val c0]
  refine dv_pt m c q dd k t _ (av q dd k (t.val - 1)) h0 h1 h3 (fun j d => ?_) _ (fun j i => ?_) j d
  · refine (congrFun ((Memref.isWhole_whole _).read_unread _) _).trans ?_
    exact acc3 m c q dd k v h0 h1 h2 h3 (t.val - 1) _ j d
  · exact Slabs.read_whole _ j i _ _

end Args

end Cert.AttnBIdeal.Pt

end
-- ==== Proof.AttnBFin.lean ====
/- The arrays the attention's backward kernel leaves, from their entries. -/
module

public import proofs.«01_k».proof.Proof.Gen.AttnBIdeal.Value
public import proofs.«01_k».proof.Proof.AttnBPoint

@[expose] public section

set_option maxRecDepth 16384

noncomputable section

namespace Cert.AttnBIdeal.Fin

open Cert.AttnBIdeal Cert.AttnBIdeal.Gen Cert.AttnBIdeal.Blk Cert.AttnBIdeal.Pt Cert.Rows Cert.AttnSpec Idealize.ShloMosaic Idealize.ShloMosaic.TcCoe

variable (m : (ℓ : Loc nD τ sig) → Buf (Elt Ideal) ℓ) (c : Dev nD)
  (q dd : Fin 2 → Fin 2048 → Fin 2 → Fin 4 → Fin 64 → ℝ) (k v : Fin 2 → Fin 2048 → Fin 2 → Fin 64 → ℝ)
  (h0 : ∀ b s h g d, m (c, Proc.tc.devRef main_arg0) (ix5 b s h g d) = ((q b s h g d : ℝ) : EReal))
  (h1 : ∀ b s h d, m (c, Proc.tc.devRef main_arg1) (ix4 b s h d) = ((k b s h d : ℝ) : EReal))
  (h2 : ∀ b s h d, m (c, Proc.tc.devRef main_arg2) (ix4 b s h d) = ((v b s h d : ℝ) : EReal))
  (h3 : ∀ b s h g d, m (c, Proc.tc.devRef main_arg3) (ix5 b s h g d) = ((dd b s h g d : ℝ) : EReal))

/-- A row of the arrays, a lane of the queries' gradient, a lane of the keys'. -/
def gr (b : Fin 2) (i : Fin 2048) : Fin 4096 := ⟨b.val * 2048 + i.val, by omega⟩
def gl (h : Fin 2) (g : Fin 4) (d : Fin 128) : Fin 1024 := ⟨(h.val * 4 + g.val) * 128 + d.val, by omega⟩
def kl (h : Fin 2) (d : Fin 128) : Fin 256 := ⟨h.val * 128 + d.val, by omega⟩

theorem tr_gr (t : Fin cfg0.N) (i : Fin 2048) : tr t i = gr (pb t) i := Fin.ext (by have := lt_N t; simp only [tr, gr, pb]; omega)
theorem tq_gl (t : Fin cfg0.N) (d : Fin 128) : tq t d = gl (ph t) (pg t) d := Fin.ext (by simp only [tq, gl, ph, pg]; omega)
theorem tk_kl (t : Fin cfg0.N) (d : Fin 128) : tk t d = kl (ph t) d := Fin.ext (by simp only [tk, kl, ph])

theorem gpb (t : Fin cfg0.N) (g : Fin 4) : pb (t.val / 4 * 4 + g.val) = pb t := Fin.ext (by simp only [pb]; omega)
theorem gph (t : Fin cfg0.N) (g : Fin 4) : ph (t.val / 4 * 4 + g.val) = ph t := Fin.ext (by simp only [ph]; omega)
theorem gpg (t : Fin cfg0.N) (g : Fin 4) : pg (t.val / 4 * 4 + g.val) = g := Fin.ext (by simp only [pg]; omega)

include h0 h1 h2 h3 in
theorem fin6 (G : FVec Ideal S4096x1024 .bf16) (hG : ∀ b i h g d, G (ix2 (gr b i) (gl h g d))
      = ((lane 128 (dq (fun i d => q b i h g d) (fun j d => k b j h d) (fun j d => v b j h d) (fun i d => dd b i h g d) i) d : ℝ) : EReal)) :
    (dats m 0 c).arrAt 6 (cfgs 0).N = G := by
  refine (dats m 0 c).arrAt_eq_of_covers 6 _ (by decide +kernel) fun t hf y => ?_
  blk_simp
  rw [after0_6]
  idx_vars y
  have e : (win0_6.blk t).view.emb (ix2 y0 y1) = (ix2 (tr t y0) (tq t y1) : S4096x1024.Idx) := by blk_ext [idx t, tr, tq]
  rw [e, tr_gr, tq_gl]
  exact (out6 m c q dd k v h0 h1 h2 h3 t y0 y1).trans (hG _ _ _ _ _).symm

include h0 h1 h2 h3 in
theorem fin7 (G : FVec Ideal S4096x256 .bf16) (hG : ∀ b j h d, G (ix2 (gr b j) (kl h d))
      = ((∑ g, lane 128 (dk (fun i d => q b i h g d) (fun j d => k b j h d) (fun j d => v b j h d) (fun i d => dd b i h g d) j) d : ℝ) : EReal)) :
    (dats m 0 c).arrAt 7 (cfgs 0).N = G := by
  refine (dats m 0 c).arrAt_eq_of_covers 7 _ (by decide +kernel) fun t hf y => ?_
  have c1 := (flush0_7 t).mp hf
  blk_simp
  rw [after0_7]
  idx_vars y
  have e : (win0_7.blk t).view.emb (ix2 y0 y1) = (ix2 (tr t y0) (tk t y1) : S4096x256.Idx) := by blk_ext [idx t, tr, tk]
  rw [e, tr_gr, tk_kl]
  refine (out7 m c q dd k v h0 h1 h2 h3 t c1 y0 y1).trans (Eq.trans ?_ (hG _ _ _ _).symm)
  unfold ak
  rw [c1, Finset.sum_range]
  exact congrArg _ (Finset.sum_congr rfl fun g _ => by
    unfold Pt.gk hq hk; rw [gpb, gph, gpg])

include h0 h1 h2 h3 in
theorem fin8 (G : FVec Ideal S4096x256 .bf16) (hG : ∀ b j h d, G (ix2 (gr b j) (kl h d))
      = ((∑ g, lane 128 (dv (fun i d => q b i h g d) (fun j d => k b j h d) (fun i d => dd b i h g d) j) d : ℝ) : EReal)) :
    (dats m 0 c).arrAt 8 (cfgs 0).N = G := by
  refine (dats m 0 c).arrAt_eq_of_covers 8 _ (by decide +kernel) fun t hf y => ?_
  have c1 := (flush0_8 t).mp hf
  blk_simp
  rw [after0_8]
  idx_vars y
  have e : (win0_8.blk t).view.emb (ix2 y0 y1) = (ix2 (tr t y0) (tk t y1) : S4096x256.Idx) := by blk_ext [idx t, tr, tk]
  rw [e, tr_gr, tk_kl]
  refine (out8 m c q dd k v h0 h1 h2 h3 t c1 y0 y1).trans (Eq.trans ?_ (hG _ _ _ _).symm)
  unfold av
  rw [c1, Finset.sum_range]
  exact congrArg _ (Finset.sum_congr rfl fun g _ => by
    unfold Pt.gv hq hk; rw [gpb, gph, gpg])

end Cert.AttnBIdeal.Fin

end
-- ==== Proof.AttnBTerm.lean ====
/- The reference's terms, cut where they repeat. -/
module

public import proofs.«01_k».proof.Proof.Gen.AttnBRefIdeal.Run
public import proofs.«01_k».proof.Proof.AttnSpec

@[expose] public section

set_option maxRecDepth 16384

noncomputable section

namespace Cert.AttnBRefIdeal.At

open Cert.AttnBRefIdeal Cert.AttnBRefIdeal.Gen Cert.AttnBRefIdeal.Value Cert.Rows Cert.AttnSpec Idealize.ShloMosaic Idealize.ShloMosaic.TcCoe

section Terms
variable {F : FTy → Type} [FloatOps F] (m : (ℓ : Loc nD τ sig) → Buf (Elt F) ℓ) (c : Dev nD)

/-- The scores. -/
def sT : FVec F S2x2x4x2048x2048 .f32 :=
  transpose S2x2x4x2048x2048 [0, 1, 4, 3, 2] (Host.dotGeneral dot_S2x2048x2x64_S2x2048x2x4x64_S2x2x2048x2048x4_3_4_1_13_02_02 none (m ((c.tc : Thread nD τ).loc main_arg1)) (m ((c.tc : Thread nD τ).loc main_arg0))) transposes_S2x2x2048x2048x4_S2x2x4x2048x2048_0_1_4_3_2

/-- Their exponentials, lowered by the row's greatest score. -/
def eT : FVec F S2x2x4x2048x2048 .f32 :=
  Host.exp (subf (sT m c) (broadcastInDim S2x2x4x2048x2048 ![0, 1, 2, 3, 4] bcast_S2x2x4x2048x1_S2x2x4x2048x2048_0_1_2_3_4 (broadcastInDim S2x2x4x2048x1 ![0, 1, 2, 3] bcast_S2x2x4x2048_S2x2x4x2048x1_0_1_2_3 (maximumf (broadcastInDim S2x2x4x2048 ![] bcast_S_S2x2x4x2048 (constant S_ .f32 0xFF800000#32)) (Host.reduce FloatOps.maximumf (sT m c) (constant S_ .f32 0xFF800000#32) reducesTo_S2x2x4x2048x2048_S2x2x4x2048_d4 h_S_)))))

/-- The exponentials' sums. -/
def zT : FVec F S2x2x4x2048 .f32 :=
  Host.reduceAdd (eT m c) (constant S_ .f32 0x00000000#32) reducesTo_S2x2x4x2048x2048_S2x2x4x2048_d4 h_S_

/-- The gradient of the weights. -/
def pT : FVec F S2x2x4x2048x2048 .f32 :=
  Host.dotGeneral dot_S2x2x64x4x2048_S2x2048x2x64_S2x2x4x2048x2048_2_3_34_1_01_02 none (transpose S2x2x64x4x2048 [0, 2, 4, 3, 1] (m ((c.tc : Thread nD τ).loc main_arg3)) transposes_S2x2048x2x4x64_S2x2x64x4x2048_0_2_4_3_1) (m ((c.tc : Thread nD τ).loc main_arg2))

/-- The gradient of the scores. -/
def gT : FVec F S2x2x4x2048x2048 .f32 :=
  mulf (addf (Host.divf (pT m c) (broadcastInDim S2x2x4x2048x2048 ![0, 1, 2, 3, 4] bcast_S2x2x4x2048x1_S2x2x4x2048x2048_0_1_2_3_4 (broadcastInDim S2x2x4x2048x1 ![0, 1, 2, 3] bcast_S2x2x4x2048_S2x2x4x2048x1_0_1_2_3 (zT m c)))) (broadcastInDim S2x2x4x2048x2048 ![0, 1, 2, 3] bcast_S2x2x4x2048_S2x2x4x2048x2048_0_1_2_3 (Host.reduceAdd (Host.negf (shapeCast _ (Host.reduceAdd (mulf (mulf (pT m c) (broadcastInDim S2x2x4x2048x2048 ![0, 1, 2, 3, 4] bcast_S2x2x4x2048x1_S2x2x4x2048x2048_0_1_2_3_4 (Host.divf (broadcastInDim S2x2x4x2048x1 ![] bcast_S_S2x2x4x2048x1 (constant S_ .f32 0x3F800000#32)) (mulf (broadcastInDim S2x2x4x2048x1 ![0, 1, 2, 3] bcast_S2x2x4x2048_S2x2x4x2048x1_0_1_2_3 (zT m c)) (broadcastInDim S2x2x4x2048x1 ![0, 1, 2, 3] bcast_S2x2x4x2048_S2x2x4x2048x1_0_1_2_3 (zT m c)))))) (eT m c)) (constant S_ .f32 0x00000000#32) reducesTo_S2x2x4x2048x2048_S2x2x4x2048_d4 h_S_) shapeCasts_S2x2x4x2048_S2x2x4x2048x1)) (constant S_ .f32 0x00000000#32) reducesTo_S2x2x4x2048x1_S2x2x4x2048_d4 h_S_))) (eT m c)

/-- The gradients of the values, the queries and the keys, as the program returns them. -/
def vT : FVec F S4096x256 .bf16 :=
  truncf .bf16 (shapeCast _ (pad S4096x2x128 ![0, 0, 0] ![0, 0, 64] ![0, 0, 0] (shapeCast _ (transpose S2x2048x2x64 [0, 3, 1, 2] (Host.dotGeneral dot_S2x2x64x4x2048_S2x2x4x2048x2048_S2x2x64x2048_34_23_2_4_01_01 none (transpose S2x2x64x4x2048 [0, 2, 4, 3, 1] (m ((c.tc : Thread nD τ).loc main_arg3)) transposes_S2x2048x2x4x64_S2x2x64x4x2048_0_2_4_3_1) (Host.divf (eT m c) (broadcastInDim S2x2x4x2048x2048 ![0, 1, 2, 3, 4] bcast_S2x2x4x2048x1_S2x2x4x2048x2048_0_1_2_3_4 (broadcastInDim S2x2x4x2048x1 ![0, 1, 2, 3] bcast_S2x2x4x2048_S2x2x4x2048x1_0_1_2_3 (zT m c))))) transposes_S2x2x64x2048_S2x2048x2x64_0_3_1_2) shapeCasts_S2x2048x2x64_S4096x2x64) (sitofp .f32 (constantI S_ 32 0#32)) pads_S4096x2x64_S4096x2x128_000_000_0640 h_S_) shapeCasts_S4096x2x128_S4096x256) bitsLt_bf16_f32

def qT : FVec F S4096x1024 .bf16 :=
  truncf .bf16 (shapeCast _ (pad S4096x8x128 ![0, 0, 0] ![0, 0, 64] ![0, 0, 0] (shapeCast _ (transpose S2x2048x2x4x64 [0, 2, 1, 3, 4] (Host.dotGeneral dot_S2x2x2048x2048x4_S2x2048x2x64_S2x2x2048x4x64_2_1_34_3_01_02 none (transpose S2x2x2048x2048x4 [0, 1, 4, 3, 2] (gT m c) transposes_S2x2x4x2048x2048_S2x2x2048x2048x4_0_1_4_3_2) (m ((c.tc : Thread nD τ).loc main_arg1))) transposes_S2x2x2048x4x64_S2x2048x2x4x64_0_2_1_3_4) shapeCasts_S2x2048x2x4x64_S4096x8x64) (sitofp .f32 (constantI S_ 32 0#32)) pads_S4096x8x64_S4096x8x128_000_000_0640 h_S_) shapeCasts_S4096x8x128_S4096x1024) bitsLt_bf16_f32

def kT : FVec F S4096x256 .bf16 :=
  truncf .bf16 (shapeCast _ (pad S4096x2x128 ![0, 0, 0] ![0, 0, 64] ![0, 0, 0] (shapeCast _ (transpose S2x2048x2x64 [0, 2, 1, 3] (Host.dotGeneral dot_S2x2x2048x2048x4_S2x2048x2x4x64_S2x2x2048x64_34_13_2_4_01_02 none (transpose S2x2x2048x2048x4 [0, 1, 4, 3, 2] (gT m c) transposes_S2x2x4x2048x2048_S2x2x2048x2048x4_0_1_4_3_2) (m ((c.tc : Thread nD τ).loc main_arg0))) transposes_S2x2x2048x64_S2x2048x2x64_0_2_1_3) shapeCasts_S2x2048x2x64_S4096x2x64) (sitofp .f32 (constantI S_ 32 0#32)) pads_S4096x2x64_S4096x2x128_000_000_0640 h_S_) shapeCasts_S4096x2x128_S4096x256) bitsLt_bf16_f32

theorem q_term : res_main_v56 m c = qT m c := by
  unfold res_main_v56 qT gT pT zT eT sT; rfl

theorem k_term : res_main_v60 m c = kT m c := by
  unfold res_main_v60 kT gT pT zT eT sT; rfl

end Terms

end Cert.AttnBRefIdeal.At

end
-- ==== Proof.AttnBRef.lean ====
/- What the reference computes for one head's gradients, read at an index. -/
module

public import proofs.«01_k».proof.Proof.AttnBTerm

@[expose] public section

set_option maxRecDepth 16384

noncomputable section

namespace Cert.AttnBRefIdeal.At

open Cert.AttnBRefIdeal Cert.AttnBRefIdeal.Gen Cert.AttnBRefIdeal.Value Cert.Rows Cert.AttnSpec Idealize.ShloMosaic Idealize.ShloMosaic.TcCoe

variable (m : (ℓ : Loc nD τ sig) → Buf (Elt Ideal) ℓ) (c : Dev nD)
  (q dd : Fin 2 → Fin 2048 → Fin 2 → Fin 4 → Fin 64 → ℝ) (k v : Fin 2 → Fin 2048 → Fin 2 → Fin 64 → ℝ)
  (h0 : ∀ b s h g d, (m ((c.tc : Thread nD τ).loc main_arg0) : FVec Ideal S2x2048x2x4x64 .f32) (ix5 b s h g d) = ((q b s h g d : ℝ) : EReal))
  (h1 : ∀ b s h d, (m ((c.tc : Thread nD τ).loc main_arg1) : FVec Ideal S2x2048x2x64 .f32) (ix4 b s h d) = ((k b s h d : ℝ) : EReal))
  (h2 : ∀ b s h d, (m ((c.tc : Thread nD τ).loc main_arg2) : FVec Ideal S2x2048x2x64 .f32) (ix4 b s h d) = ((v b s h d : ℝ) : EReal))
  (h3 : ∀ b s h g d, (m ((c.tc : Thread nD τ).loc main_arg3) : FVec Ideal S2x2048x2x4x64 .f32) (ix5 b s h g d) = ((dd b s h g d : ℝ) : EReal))
  (b : Fin 2) (h : Fin 2) (g : Fin 4) (i j : Fin 2048)

/-- A head's queries, keys and the row's greatest score. -/
def hq (b : Fin 2) (h : Fin 2) (g : Fin 4) (i : Fin 2048) (d : Fin 64) : ℝ := q b i h g d
def hk (b : Fin 2) (h : Fin 2) (i : Fin 2048) (d : Fin 64) : ℝ := k b i h d
def mx (b : Fin 2) (h : Fin 2) (g : Fin 4) (i : Fin 2048) : ℝ := rowmax (sc (hq q b h g) (hk k b h) i)

include h0 h1 in
theorem s_at : sT m c (ix5 b h g i j) = ((sc (hq q b h g) (hk k b h) i j : ℝ) : EReal) := by
  pointwise [sT]
  simp only [h0, h1, coe_sum, ← EReal.coe_mul]
  exact congrArg _ (Finset.sum_congr rfl fun d _ => mul_comm _ _)

theorem m_fold : (Host.reduce FloatOps.maximumf (sT m c) (constant S_ .f32 0xFF800000#32) reducesTo_S2x2x4x2048x2048_S2x2x4x2048_d4 h_S_ : FVec Ideal S2x2x4x2048 .f32) (ix4 b h g i)
    = Finset.univ.fold max (Ideal.ofBits .f32 0xFF800000#32) (fun j => sT m c (ix5 b h g i j)) := by
  pointwise []

include h0 h1 in
theorem m_row : Finset.univ.fold max (⊥ : EReal) (fun j => sT m c (ix5 b h g i j)) = ((mx q k b h g i : ℝ) : EReal) := by
  unfold mx
  rw [← fold_max (n := 2048) (by norm_num)]
  exact congrArg (fun f => Finset.univ.fold max (⊥ : EReal) f) (funext fun j => s_at m c q k h0 h1 b h g i j)

theorem e_term (M : FVec Ideal S2x2x4x2048 .f32) (hM : (Host.reduce FloatOps.maximumf (sT m c) (constant S_ .f32 0xFF800000#32) reducesTo_S2x2x4x2048x2048_S2x2x4x2048_d4 h_S_ : FVec Ideal S2x2x4x2048 .f32) = M) :
    eT m c (ix5 b h g i j) = Ideal.exp (sT m c (ix5 b h g i j) - max (Ideal.ofBits .f32 0xFF800000#32) (M (ix4 b h g i))) := by
  unfold eT; rw [hM]
  pointwise []

include h0 h1 in
theorem e_at : eT m c (ix5 b h g i j) = ((Real.exp (sc (hq q b h g) (hk k b h) i j - mx q k b h g i) : ℝ) : EReal) := by
  rw [e_term m c b h g i j _ rfl, m_fold, s_at m c q k h0 h1, ofBits_ninf, m_row m c q k h0 h1, max_eq_right bot_le, ← EReal.coe_sub, exp_real]

include h0 h1 in
theorem z_at : zT m c (ix4 b h g i) = ((zs (hq q b h g) (hk k b h) (mx q k b h g i) i : ℝ) : EReal) := by
  pointwise [zT]
  simp only [e_at m c q k h0 h1, coe_sum, zero_add]
  rfl

include h2 h3 in
theorem p_at : pT m c (ix5 b h g i j) = ((dp (hk v b h) (hq dd b h g) i j : ℝ) : EReal) := by
  pointwise [pT]
  simp only [h2, h3, coe_sum, ← EReal.coe_mul]
  rfl

include h0 h1 h2 h3 in
theorem g_at : gT m c (ix5 b h g i j) = ((ds (hq q b h g) (hk k b h) (hk v b h) (hq dd b h g) i j : ℝ) : EReal) := by
  have hz := (zs_pos (hq q b h g) (hk k b h) (mx q k b h g i) i).ne'
  pointwise [gT]
  simp only [e_at m c q k h0 h1, z_at m c q k h0 h1, p_at m c dd v h2 h3, ← EReal.coe_mul, div_real _ hz, ← EReal.coe_one,
    div_real _ (mul_ne_zero hz hz), coe_sum, ← EReal.coe_neg, zero_add, ← EReal.coe_add]
  rw [← ds_div (hq q b h g) (hk k b h) (hk v b h) (hq dd b h g) (mx q k b h g i) i j]
  first | rfl | simp

theorem zero_32 : FloatOps.sitofp (F := Ideal) .f32 (0#32 : BitVec 32) = ((0 : ℝ) : EReal) := by
  simp [FloatOps.sitofp]

include h0 h1 h2 h3 in
theorem q_at (R : Fin 4096) (C : Fin 1024) (d : Fin 128) (hb : R.val / 2048 = b.val) (hi : R.val % 2048 = i.val)
    (hh : C.val / 128 / 4 = h.val) (hg : C.val / 128 % 4 = g.val) (hd : C.val % 128 = d.val) :
    qT m c (ix2 R C) = ((lane 128 (dq (hq q b h g) (hk k b h) (hk v b h) (hq dd b h g) i) d : ℝ) : EReal) := by
  have lb : R.val / 2048 < 2 := by clear hb hi hh hd; omega
  have li : R.val % 2048 < 2048 := by clear hb hi hh hd; omega
  have lh : C.val / 128 / 4 < 2 := by clear hb hi hh hd; omega
  have lg : C.val / 128 % 4 < 4 := by clear hb hi hh hd; omega
  have ld : C.val % 128 < 128 := by clear hb hi hh hd; omega
  obtain rfl : (⟨R.val / 2048, lb⟩ : Fin 2) = b := Fin.ext hb
  obtain rfl : (⟨R.val % 2048, li⟩ : Fin 2048) = i := Fin.ext hi
  obtain rfl : (⟨C.val / 128 / 4, lh⟩ : Fin 2) = h := Fin.ext hh
  obtain rfl : (⟨C.val / 128 % 4, lg⟩ : Fin 4) = g := Fin.ext hg
  obtain rfl : (⟨C.val % 128, ld⟩ : Fin 128) = d := Fin.ext hd
  pointwise [qT]
  simp only [g_at m c q dd k v h0 h1 h2 h3, h1, coe_sum, ← EReal.coe_mul, zero_32]
  unfold lane
  split_ifs with c1 c2 c2
  · rfl
  · exact absurd c1.2 c2
  · exact absurd ⟨by omega, c2⟩ c1
  · rfl

include h0 h1 h2 h3 in
theorem k_at (R : Fin 4096) (C : Fin 256) (d : Fin 128) (hb : R.val / 2048 = b.val) (hi : R.val % 2048 = i.val)
    (hh : C.val / 128 = h.val) (hd : C.val % 128 = d.val) :
    kT m c (ix2 R C) = ((∑ g, lane 128 (dk (hq q b h g) (hk k b h) (hk v b h) (hq dd b h g) i) d : ℝ) : EReal) := by
  have lb : R.val / 2048 < 2 := by clear hb hi hh hd; omega
  have li : R.val % 2048 < 2048 := by clear hb hi hh hd; omega
  have lh : C.val / 128 < 2 := by clear hb hi hh hd; omega
  have ld : C.val % 128 < 128 := by clear hb hi hh hd; omega
  obtain rfl : (⟨R.val / 2048, lb⟩ : Fin 2) = b := Fin.ext hb
  obtain rfl : (⟨R.val % 2048, li⟩ : Fin 2048) = i := Fin.ext hi
  obtain rfl : (⟨C.val / 128, lh⟩ : Fin 2) = h := Fin.ext hh
  obtain rfl : (⟨C.val % 128, ld⟩ : Fin 128) = d := Fin.ext hd
  pointwise [kT]
  simp only [g_at m c q dd k v h0 h1 h2 h3, h0, coe_sum, ← EReal.coe_mul, zero_32]
  unfold lane
  split_ifs with c1 c2 c2
  · rw [Finset.sum_comm]; rfl
  · exact absurd c1.2 c2
  · exact absurd ⟨by omega, c2⟩ c1
  · rw [Finset.sum_const_zero]

include h0 h1 h3 in
theorem v_at (R : Fin 4096) (C : Fin 256) (d : Fin 128) (hb : R.val / 2048 = b.val) (hi : R.val % 2048 = i.val)
    (hh : C.val / 128 = h.val) (hd : C.val % 128 = d.val) :
    vT m c (ix2 R C) = ((∑ g, lane 128 (dv (hq q b h g) (hk k b h) (hq dd b h g) i) d : ℝ) : EReal) := by
  have lb : R.val / 2048 < 2 := by clear hb hi hh hd; omega
  have li : R.val % 2048 < 2048 := by clear hb hi hh hd; omega
  have lh : C.val / 128 < 2 := by clear hb hi hh hd; omega
  have ld : C.val % 128 < 128 := by clear hb hi hh hd; omega
  obtain rfl : (⟨R.val / 2048, lb⟩ : Fin 2) = b := Fin.ext hb
  obtain rfl : (⟨R.val % 2048, li⟩ : Fin 2048) = i := Fin.ext hi
  obtain rfl : (⟨C.val / 128, lh⟩ : Fin 2) = h := Fin.ext hh
  obtain rfl : (⟨C.val % 128, ld⟩ : Fin 128) = d := Fin.ext hd
  have hz := fun b h g i => (zs_pos (hq q b h g) (hk k b h) (mx q k b h g i) i).ne'
  pointwise [vT]
  simp only [e_at m c q k h0 h1, z_at m c q k h0 h1, h3, div_real _ (hz _ _ _ _), shift, coe_sum, ← EReal.coe_mul, zero_32]
  unfold lane
  split_ifs with c1 c2 c2
  · exact congrArg _ (Finset.sum_congr rfl fun g _ => Finset.sum_congr rfl fun i' _ => mul_comm _ _)
  · exact absurd c1.2 c2
  · exact absurd ⟨by omega, c2⟩ c1
  · rw [Finset.sum_const_zero]

end Cert.AttnBRefIdeal.At

end
-- ==== Proof.AttnBFinite.lean ====
/- The precondition of the attention's claim: every entry of the arrays it names is a real number. -/
module

public import proofs.«01_k».proof.Pre_finite_attn_b
public import proofs.«01_k».proof.Proof.Finite

@[expose] public section

set_option maxRecDepth 16384

noncomputable section

namespace Cert.Pre_finite_attn_b

open Cert.Rows Idealize.ShloMosaic

variable [Facts]

theorem reals {a0 : FVec Ideal S2x2048x2x4x64 .f32} {a1 a2 : FVec Ideal S2x2048x2x64 .f32} {a3 : FVec Ideal S2x2048x2x4x64 .f32}
    (h : fn (F := Ideal) a0 a1 a2 a3 = fun _ => 1#1) :
    (∀ i, a0 i = (((a0 i).toReal : ℝ) : EReal)) ∧ (∀ i, a1 i = (((a1 i).toReal : ℝ) : EReal)) ∧ (∀ i, a2 i = (((a2 i).toReal : ℝ) : EReal))
    ∧ (∀ i, a3 i = (((a3 i).toReal : ℝ) : EReal)) := by
  have e := congrFun h (Shape.Idx.first (s := S_) Facts.h_S_)
  obtain ⟨e, e3⟩ := andi_one e
  obtain ⟨e, e2⟩ := andi_one e
  obtain ⟨e, e1⟩ := andi_one e
  obtain ⟨_, e0⟩ := andi_one e
  exact ⟨real_of_all _ _ _ _ _ _ e0, real_of_all _ _ _ _ _ _ e1, real_of_all _ _ _ _ _ _ e2, real_of_all _ _ _ _ _ _ e3⟩

end Cert.Pre_finite_attn_b

end
-- ==== Proof.AttnBPair.lean ====
/- The attention's backward kernel agrees with its reference. -/
module

public import proofs.«01_k».proof.Defs
public import proofs.«01_k».proof.Proof.Gen.Pre_finite_attn_b
public import proofs.«01_k».proof.Proof.AttnBFin
public import proofs.«01_k».proof.Proof.AttnBRef
public import proofs.«01_k».proof.Proof.AttnBFinite

@[expose] public section

set_option maxRecDepth 16384

noncomputable section

namespace Cert.AttnBPair

open Cert.Rows Idealize.ShloMosaic Idealize.ShloMosaic.TcCoe Idealize.SL.Sem
open Cert.AttnBIdeal (S2x2048x2x4x64 S2x2048x2x64)
open Cert.AttnBIdeal.Fin (gr gl kl)

/-- The real arrays behind a memory's arguments. -/
abbrev r5 (V : FVec Ideal S2x2048x2x4x64 .f32) : Fin 2 → Fin 2048 → Fin 2 → Fin 4 → Fin 64 → ℝ := fun b s h g d => (V (ix5 b s h g d)).toReal
abbrev r4 (V : FVec Ideal S2x2048x2x64 .f32) : Fin 2 → Fin 2048 → Fin 2 → Fin 64 → ℝ := fun b s h d => (V (ix4 b s h d)).toReal

theorem ref_frame : @Cert.quiescent_AttnBRefIdeal Cert.AttnBRefIdeal.Gen.facts := fun m g _ =>
  (θ_run Cert.AttnBRefIdeal.defs _ _).mono (fun r h => ⟨fun c => (h c).2.2.2, Idealize.ShloMosaic.sem_eq_zero_of_no_sems (by decide) r.2⟩)
    (Cert.AttnBRefIdeal.Value.run (F := Ideal) m g)

theorem row (b : Fin 2) (i : Fin 2048) : (gr b i).val / 2048 = b.val ∧ (gr b i).val % 2048 = i.val := by unfold gr; dsimp only; omega
theorem col (h : Fin 2) (g : Fin 4) (d : Fin 128) :
    (gl h g d).val / 128 / 4 = h.val ∧ (gl h g d).val / 128 % 4 = g.val ∧ (gl h g d).val % 128 = d.val := by unfold gl; dsimp only; omega
theorem kcol (h : Fin 2) (d : Fin 128) : (kl h d).val / 128 = h.val ∧ (kl h d).val % 128 = d.val := by unfold kl; dsimp only; omega

set_option maxHeartbeats 1600000 in
theorem algebraic : @Cert.algebraic_AttnBIdeal_AttnBRefIdeal_pre_finite_attn_b Cert.AttnBIdeal.Gen.facts Cert.AttnBRefIdeal.Gen.facts Cert.Pre_finite_attn_b.Gen.facts := by
  pair_intro
  · run_from Cert.AttnBIdeal.Gen.run_main m g
    all_goals
      simp only [Cert.AttnBIdeal.Gen.hostOps0, Cert.AttnBIdeal.Gen.hostOps0_1, Cert.AttnBIdeal.Gen.hostOps0_2, Cert.AttnBIdeal.Gen.hostOps0_3,
        Cert.AttnBIdeal.Gen.hostOps0_4, Cert.AttnBIdeal.Gen.hostOps0_5, Cert.AttnBIdeal.Gen.hostOps0_6, Cert.AttnBIdeal.Gen.hostOps0_7,
        Cert.AttnBIdeal.Gen.hostOps0_8, Cert.AttnBIdeal.Gen.hostOps0_9, Cert.AttnBIdeal.Gen.hostOps0_10,
        List.flatten_cons, List.flatten_nil, List.cons_append, List.nil_append, List.append_nil]
      after_results_simp
      try rfl
  · run_from Cert.AttnBRefIdeal.Value.run m' g'
    all_goals
      obtain ⟨e0, e1, e2, e3⟩ := Cert.Pre_finite_attn_b.reals (hpre c)
      obtain ⟨a0, a1, a2, a3⟩ := hagree c
    · rw [Cert.AttnBRefIdeal.At.q_term]
      exact (Cert.AttnBIdeal.Fin.fin6 m c (r5 (m (c.tc.loc Cert.AttnBIdeal.main_arg0))) (r5 (m (c.tc.loc Cert.AttnBIdeal.main_arg3))) (r4 (m (c.tc.loc Cert.AttnBIdeal.main_arg1))) (r4 (m (c.tc.loc Cert.AttnBIdeal.main_arg2)))
        (fun b s h g d => e0 (ix5 b s h g d)) (fun b s h d => e1 (ix4 b s h d)) (fun b s h d => e2 (ix4 b s h d)) (fun b s h g d => e3 (ix5 b s h g d)) _
        (fun b i h g d => Cert.AttnBRefIdeal.At.q_at m' c (r5 (m (c.tc.loc Cert.AttnBIdeal.main_arg0))) (r5 (m (c.tc.loc Cert.AttnBIdeal.main_arg3))) (r4 (m (c.tc.loc Cert.AttnBIdeal.main_arg1))) (r4 (m (c.tc.loc Cert.AttnBIdeal.main_arg2)))
          (fun b s h g d => (congrFun a0 (ix5 b s h g d)).trans (e0 (ix5 b s h g d))) (fun b s h d => (congrFun a1 (ix4 b s h d)).trans (e1 (ix4 b s h d))) (fun b s h d => (congrFun a2 (ix4 b s h d)).trans (e2 (ix4 b s h d))) (fun b s h g d => (congrFun a3 (ix5 b s h g d)).trans (e3 (ix5 b s h g d)))
          b h g i _ _ d (row b i).1 (row b i).2 (col h g d).1 (col h g d).2.1 (col h g d).2.2)).symm
    · rw [Cert.AttnBRefIdeal.At.k_term]
      exact (Cert.AttnBIdeal.Fin.fin7 m c (r5 (m (c.tc.loc Cert.AttnBIdeal.main_arg0))) (r5 (m (c.tc.loc Cert.AttnBIdeal.main_arg3))) (r4 (m (c.tc.loc Cert.AttnBIdeal.main_arg1))) (r4 (m (c.tc.loc Cert.AttnBIdeal.main_arg2)))
        (fun b s h g d => e0 (ix5 b s h g d)) (fun b s h d => e1 (ix4 b s h d)) (fun b s h d => e2 (ix4 b s h d)) (fun b s h g d => e3 (ix5 b s h g d)) _
        (fun b i h d => Cert.AttnBRefIdeal.At.k_at m' c (r5 (m (c.tc.loc Cert.AttnBIdeal.main_arg0))) (r5 (m (c.tc.loc Cert.AttnBIdeal.main_arg3))) (r4 (m (c.tc.loc Cert.AttnBIdeal.main_arg1))) (r4 (m (c.tc.loc Cert.AttnBIdeal.main_arg2)))
          (fun b s h g d => (congrFun a0 (ix5 b s h g d)).trans (e0 (ix5 b s h g d))) (fun b s h d => (congrFun a1 (ix4 b s h d)).trans (e1 (ix4 b s h d))) (fun b s h d => (congrFun a2 (ix4 b s h d)).trans (e2 (ix4 b s h d))) (fun b s h g d => (congrFun a3 (ix5 b s h g d)).trans (e3 (ix5 b s h g d)))
          b h i _ _ d (row b i).1 (row b i).2 (kcol h d).1 (kcol h d).2)).symm
    · rw [← a0, ← a1, ← a3]
      refine Eq.trans (b := Cert.AttnBRefIdeal.At.vT m' c) (by
        unfold Cert.AttnBRefIdeal.At.vT Cert.AttnBRefIdeal.At.zT Cert.AttnBRefIdeal.At.eT Cert.AttnBRefIdeal.At.sT; rfl) ?_
      exact (Cert.AttnBIdeal.Fin.fin8 m c (r5 (m (c.tc.loc Cert.AttnBIdeal.main_arg0))) (r5 (m (c.tc.loc Cert.AttnBIdeal.main_arg3))) (r4 (m (c.tc.loc Cert.AttnBIdeal.main_arg1))) (r4 (m (c.tc.loc Cert.AttnBIdeal.main_arg2)))
        (fun b s h g d => e0 (ix5 b s h g d)) (fun b s h d => e1 (ix4 b s h d)) (fun b s h d => e2 (ix4 b s h d)) (fun b s h g d => e3 (ix5 b s h g d)) _
        (fun b i h d => Cert.AttnBRefIdeal.At.v_at m' c (r5 (m (c.tc.loc Cert.AttnBIdeal.main_arg0))) (r5 (m (c.tc.loc Cert.AttnBIdeal.main_arg3))) (r4 (m (c.tc.loc Cert.AttnBIdeal.main_arg1)))
          (fun b s h g d => (congrFun a0 (ix5 b s h g d)).trans (e0 (ix5 b s h g d))) (fun b s h d => (congrFun a1 (ix4 b s h d)).trans (e1 (ix4 b s h d))) (fun b s h g d => (congrFun a3 (ix5 b s h g d)).trans (e3 (ix5 b s h g d)))
          b h i _ _ d (row b i).1 (row b i).2 (kcol h d).1 (kcol h d).2)).symm

end Cert.AttnBPair

end
-- ==== Proof.AttnABlocks.lean ====
/- What the one-group attention's blocks hold, at the arguments' entries: the point's head, its lanes padded with zeros, and what the forward call saves of it. -/
module

public import proofs.«01_k».proof.Proof.Gen.AttnAIdeal.Frame.RunA
public import proofs.«01_k».proof.Proof.AttnSpec
public import Idealize.ShloMosaic.Lib.Claim
public import Idealize.ShloMosaic.Lib.Pipeline.ValueKit

@[expose] public section

set_option maxRecDepth 16384

noncomputable section

namespace Cert.AttnAIdeal.Blk

open Cert.AttnAIdeal Cert.AttnAIdeal.Gen Cert.Rows Cert.AttnSpec Idealize.ShloMosaic Idealize.ShloMosaic.TcCoe

variable (m : (ℓ : Loc nD τ sig) → Buf (Elt Ideal) ℓ) (c : Dev nD)

theorem idx : ∀ t : Fin cfg0.N, win0_0.index t = ![t.val / 8, t.val % 8] ∧ win0_1.index t = ![t.val / 8, t.val % 8]
    ∧ win0_2.index t = ![t.val / 8, t.val % 8] ∧ win0_3.index t = ![t.val / 8, t.val % 8] ∧ win0_4.index t = ![t.val / 8, t.val % 8]
    ∧ win0_5.index t = ![t.val / 8, t.val % 8] ∧ win0_6.index t = ![t.val / 8, t.val % 8]
    ∧ win0_7.index t = ![t.val / 8, t.val % 8] ∧ win0_8.index t = ![t.val / 8, t.val % 8] :=
  (by decide +kernel : ∀ t : Fin grid0.N, _)

theorem lt_N (t : Fin cfg0.N) : t.val < 16 := by have := t.isLt; have : cfg0.N = 16 := N_0; omega

/-- The point's batch element and its head. -/
def pb (t : ℕ) : Fin 2 := ⟨t / 8 % 2, by omega⟩
def ph (t : ℕ) : Fin 8 := ⟨t % 8, by omega⟩

/-- Row `i` and lane `d` of the point's block, in the array. -/
def tr (t : Fin cfg0.N) (i : Fin 2048) : Fin 4096 := ⟨t.val / 8 * 2048 + i.val, by have := lt_N t; omega⟩
def tq (t : Fin cfg0.N) (d : Fin 128) : Fin 1024 := ⟨t.val % 8 * 128 + d.val, by omega⟩

section Read
variable (q : Fin 2 → Fin 2048 → Fin 8 → Fin 96 → ℝ) (dd : Fin 2 → Fin 2048 → Fin 8 → Fin 64 → ℝ)
  (k : Fin 2 → Fin 2048 → Fin 8 → Fin 96 → ℝ) (v : Fin 2 → Fin 2048 → Fin 8 → Fin 64 → ℝ)
  (h0 : ∀ b s h g d, m (c, Proc.tc.devRef main_arg0) (ix5 b s h g d) = ((q b s h d : ℝ) : EReal))
  (h1 : ∀ b s h d, m (c, Proc.tc.devRef main_arg1) (ix4 b s h d) = ((k b s h d : ℝ) : EReal))
  (h2 : ∀ b s h d, m (c, Proc.tc.devRef main_arg2) (ix4 b s h d) = ((v b s h d : ℝ) : EReal))
  (h3 : ∀ b s h g d, m (c, Proc.tc.devRef main_arg3) (ix5 b s h g d) = ((dd b s h d : ℝ) : EReal))

/-- The point's head of an array. -/
def hd {a : ℕ} (q : Fin 2 → Fin 2048 → Fin 8 → Fin a → ℝ) (t : ℕ) (i : Fin 2048) (d : Fin a) : ℝ := q (pb t) i (ph t) d

theorem sitofp_zero : (FloatOps.sitofp (F := Ideal) FTy.bf16 (0#32) : EReal) = ((0 : ℝ) : EReal) := by
  show (((0#32).toInt : ℝ) : EReal) = _; simp

theorem eb (t : Fin cfg0.N) (i : Fin 2048) (h) : (⟨(tr t i).val / 2048, h⟩ : Fin 2) = pb t.val :=
  Fin.ext (by have := lt_N t; simp only [tr, pb]; omega)
theorem es (t : Fin cfg0.N) (i : Fin 2048) (h) : (⟨(tr t i).val % 2048, h⟩ : Fin 2048) = i :=
  Fin.ext (by simp only [tr]; omega)
theorem eh (t : Fin cfg0.N) (h) : (⟨(tq t 0).val / 128, h⟩ : Fin 8) = ph t.val := Fin.ext (by simp only [tq, ph]; simp)
theorem col (t : Fin cfg0.N) (d : Fin 128) (a : ℕ) (hd : d.val < a) :
    ((tq t d).val / 128 * a + (tq t d).val % 128) / a = t.val % 8 ∧ ((tq t d).val / 128 * a + (tq t d).val % 128) % a = d.val := by
  have e1 : (tq t d).val / 128 = t.val % 8 := by simp only [tq]; omega
  have e2 : (tq t d).val % 128 = d.val := by simp only [tq]; omega
  rw [e1, e2, Nat.add_comm, Nat.add_mul_div_right _ _ (by omega), Nat.add_mul_mod_self_right, Nat.div_eq_of_lt hd, Nat.mod_eq_of_lt hd, Nat.zero_add]
  exact ⟨rfl, rfl⟩
theorem ch (t : Fin cfg0.N) (d : Fin 128) (a : ℕ) (hd : d.val < a) (h) :
    (⟨((tq t d).val / 128 * a + (tq t d).val % 128) / a, h⟩ : Fin 8) = ph t.val := Fin.ext (col t d a hd).1
theorem cd (t : Fin cfg0.N) (d : Fin 128) (a : ℕ) (hd : d.val < a) (h) :
    (⟨((tq t d).val / 128 * a + (tq t d).val % 128) % a, h⟩ : Fin a) = ⟨d.val, hd⟩ := Fin.ext (col t d a hd).2

include h0 in
theorem read0 (t : Fin cfg0.N) (i : Fin 2048) (d : Fin 128) :
    iblk m c 0 t (ix2 i d) = ((lane 128 (hd q t.val i) d : ℝ) : EReal) := by
  blk_simp [iblk, idx t]
  have e : (win0_0.blk t).view.emb (ix2 i d) = (ix2 (tr t i) (tq t d) : S4096x1024.Idx) := by blk_ext [idx t, tr, tq]
  rw [e]
  unfold V
  simp only [hostOps0, hostOps0_1, hostOps0_2, hostOps0_3, hostOps0_4, hostOps0_5, hostOps0_6, hostOps0_7, hostOps0_8,
    hostOps0_9, hostOps0_10, List.flatten_cons, List.flatten_nil, List.cons_append, List.nil_append, List.append_nil]
  after_results_simp
  pointwise []
  simp only [StableHlo.TRef.toBuf, StableHlo.TRef.ofBuf, cast_eq]
  pointwise []
  have hm : (tq t d).val % 128 = d.val := by simp only [tq]; omega
  by_cases hd' : d.val < 96
  · rw [dif_pos ⟨by have := (tq t d).isLt; omega, by omega⟩]
    simp only [eb, es, ch t d 96 hd', cd t d 96 hd', h0]
    unfold lane; rw [dif_pos hd']; rfl
  · rw [dif_neg (fun h => hd' (by omega)), sitofp_zero]; unfold lane; rw [dif_neg hd']

include h1 in
theorem read1 (t : Fin cfg0.N) (i : Fin 2048) (d : Fin 128) :
    iblk m c 1 t (ix2 i d) = ((lane 128 (hd k t.val i) d : ℝ) : EReal) := by
  blk_simp [iblk, idx t]
  have e : (win0_1.blk t).view.emb (ix2 i d) = (ix2 (tr t i) (tq t d) : S4096x1024.Idx) := by blk_ext [idx t, tr, tq]
  rw [e]
  unfold V
  simp only [hostOps0, hostOps0_1, hostOps0_2, hostOps0_3, hostOps0_4, hostOps0_5, hostOps0_6, hostOps0_7, hostOps0_8,
    hostOps0_9, hostOps0_10, List.flatten_cons, List.flatten_nil, List.cons_append, List.nil_append, List.append_nil]
  after_results_simp
  pointwise []
  simp only [StableHlo.TRef.toBuf, StableHlo.TRef.ofBuf, cast_eq]
  pointwise []
  have hm : (tq t d).val % 128 = d.val := by simp only [tq]; omega
  by_cases hd' : d.val < 96
  · rw [dif_pos ⟨by have := (tq t d).isLt; omega, by omega⟩]
    simp only [eb, es, ch t d 96 hd', cd t d 96 hd', h1]
    unfold lane; rw [dif_pos hd']; rfl
  · rw [dif_neg (fun h => hd' (by omega)), sitofp_zero]; unfold lane; rw [dif_neg hd']

include h2 in
theorem read2 (t : Fin cfg0.N) (i : Fin 2048) (d : Fin 128) :
    iblk m c 2 t (ix2 i d) = ((lane 128 (hd v t.val i) d : ℝ) : EReal) := by
  blk_simp [iblk, idx t]
  have e : (win0_2.blk t).view.emb (ix2 i d) = (ix2 (tr t i) (tq t d) : S4096x1024.Idx) := by blk_ext [idx t, tr, tq]
  rw [e]
  unfold V
  simp only [hostOps0, hostOps0_1, hostOps0_2, hostOps0_3, hostOps0_4, hostOps0_5, hostOps0_6, hostOps0_7, hostOps0_8,
    hostOps0_9, hostOps0_10, List.flatten_cons, List.flatten_nil, List.cons_append, List.nil_append, List.append_nil]
  after_results_simp
  pointwise []
  simp only [StableHlo.TRef.toBuf, StableHlo.TRef.ofBuf, cast_eq]
  pointwise []
  have hm : (tq t d).val % 128 = d.val := by simp only [tq]; omega
  by_cases hd' : d.val < 64
  · rw [dif_pos ⟨by have := (tq t d).isLt; omega, by omega⟩]
    simp only [eb, es, ch t d 64 hd', cd t d 64 hd', h2]
    unfold lane; rw [dif_pos hd']; rfl
  · rw [dif_neg (fun h => hd' (by omega)), sitofp_zero]; unfold lane; rw [dif_neg hd']

include h3 in
theorem read3 (t : Fin cfg0.N) (i : Fin 2048) (d : Fin 128) :
    iblk m c 3 t (ix2 i d) = ((lane 128 (hd dd t.val i) d : ℝ) : EReal) := by
  blk_simp [iblk, idx t]
  have e : (win0_3.blk t).view.emb (ix2 i d) = (ix2 (tr t i) (tq t d) : S4096x1024.Idx) := by blk_ext [idx t, tr, tq]
  rw [e]
  unfold V
  simp only [hostOps0, hostOps0_1, hostOps0_2, hostOps0_3, hostOps0_4, hostOps0_5, hostOps0_6, hostOps0_7, hostOps0_8,
    hostOps0_9, hostOps0_10, List.flatten_cons, List.flatten_nil, List.cons_append, List.nil_append, List.append_nil]
  after_results_simp
  pointwise []
  simp only [StableHlo.TRef.toBuf, StableHlo.TRef.ofBuf, cast_eq]
  pointwise []
  have hm : (tq t d).val % 128 = d.val := by simp only [tq]; omega
  by_cases hd' : d.val < 64
  · rw [dif_pos ⟨by have := (tq t d).isLt; omega, by omega⟩]
    simp only [eb, es, ch t d 64 hd', cd t d 64 hd', h3]
    unfold lane; rw [dif_pos hd']; rfl
  · rw [dif_neg (fun h => hd' (by omega)), sitofp_zero]; unfold lane; rw [dif_neg hd']

/-- What every query's scores are lowered by. -/
def top (t : ℕ) (i : Fin 2048) : ℝ := rowmax fun j => sc (hd q t) (hd k t) i j

theorem sc_eq (t : Fin cfg0.N) (i x : Fin 2048) : (∑ d, k (pb t.val) x (ph t.val) d * q (pb t.val) i (ph t.val) d) = sc (hd q t.val) (hd k t.val) i x :=
  Finset.sum_congr rfl fun _ _ => mul_comm _ _

include h0 h1 in
theorem read5 (t : Fin cfg0.N) (i : Fin 2048) :
    iblk m c 5 t (ix2 i 0) = ((lse (hd q t.val) (hd k t.val) (top q k t.val) i : ℝ) : EReal) := by
  blk_simp [iblk, idx t]
  have e : (win0_5.blk t).view.emb (ix2 i 0) = (ix2 (tr t i) (tq t 0) : S4096x1024.Idx) := by blk_ext [idx t, tr, tq]
  rw [e]
  unfold V
  simp only [hostOps0, hostOps0_1, hostOps0_2, hostOps0_3, hostOps0_4, hostOps0_5, hostOps0_6, hostOps0_7, hostOps0_8,
    hostOps0_9, hostOps0_10, List.flatten_cons, List.flatten_nil, List.cons_append, List.nil_append, List.append_nil]
  after_results_simp
  pointwise []
  simp only [eb, es, eh, h0, h1, ← EReal.coe_mul, coe_sum, sc_eq, ofBits_ninf, fold_max (n := 2048) (by norm_num), ← EReal.coe_sub, exp_real]
  have hz := zs_pos (hd q t.val) (hd k t.val) (rowmax fun x => sc (hd q t.val) (hd k t.val) i x) i
  unfold zs at hz
  rw [log_real hz, ← EReal.coe_add]; rfl

include h0 h1 h2 in
theorem read4 (t : Fin cfg0.N) (i : Fin 2048) (d : Fin 128) :
    iblk m c 4 t (ix2 i d) = ((lane 128 (out (hd q t.val) (hd k t.val) (hd v t.val) i) d : ℝ) : EReal) := by
  blk_simp [iblk, idx t]
  have e : (win0_4.blk t).view.emb (ix2 i d) = (ix2 (tr t i) (tq t d) : S4096x1024.Idx) := by blk_ext [idx t, tr, tq]
  rw [e]
  unfold V
  simp only [hostOps0, hostOps0_1, hostOps0_2, hostOps0_3, hostOps0_4, hostOps0_5, hostOps0_6, hostOps0_7, hostOps0_8,
    hostOps0_9, hostOps0_10, List.flatten_cons, List.flatten_nil, List.cons_append, List.nil_append, List.append_nil]
  after_results_simp
  pointwise []
  simp only [StableHlo.TRef.toBuf, StableHlo.TRef.ofBuf, cast_eq]
  pointwise []
  have hm : (tq t d).val % 128 = d.val := by simp only [tq]; omega
  by_cases hd' : d.val < 64
  · rw [dif_pos ⟨by have := (tq t d).isLt; omega, by omega⟩]
    have hz := (zs_pos (hd q t.val) (hd k t.val) (rowmax fun x => sc (hd q t.val) (hd k t.val) i x) i).ne'
    unfold zs at hz
    simp only [eb, es, ch t d 64 hd', cd t d 64 hd', h0, h1, h2, ← EReal.coe_mul, coe_sum, sc_eq, ofBits_ninf, fold_max (n := 2048) (by norm_num),
      ← EReal.coe_sub, exp_real, zero_add, div_real _ hz]
    refine congrArg _ ?_
    unfold lane out; rw [dif_pos hd']
    exact Finset.sum_congr rfl fun j _ => by
      rw [← shift (hd q t.val) (hd k t.val) (rowmax fun x => sc (hd q t.val) (hd k t.val) i x) i j, mul_comm]; rfl
  · rw [dif_neg (fun h => hd' (by omega)), sitofp_zero]; unfold lane; rw [dif_neg hd']

end Read

end Cert.AttnAIdeal.Blk

end
-- ==== Proof.AttnAFin.lean ====
/- What one point of the one-group attention's backward leaves, and the arrays its points leave. -/
module

public import proofs.«01_k».proof.Proof.Gen.AttnAIdeal.Value
public import proofs.«01_k».proof.Proof.AttnABlocks
public import proofs.«01_k».proof.Proof.AttnBPay
public import proofs.«01_k».proof.Proof.Slabs

@[expose] public section

set_option maxRecDepth 16384

noncomputable section

namespace Cert.AttnAIdeal.Fin

open Cert.AttnAIdeal Cert.AttnAIdeal.Gen Cert.Rows Cert.AttnSpec Cert.AttnAIdeal.Blk Idealize.ShloMosaic Idealize.ShloMosaic.TcCoe

variable (m : (ℓ : Loc nD τ sig) → Buf (Elt Ideal) ℓ) (c : Dev nD)
  (q : Fin 2 → Fin 2048 → Fin 8 → Fin 96 → ℝ) (dd : Fin 2 → Fin 2048 → Fin 8 → Fin 64 → ℝ)
  (k : Fin 2 → Fin 2048 → Fin 8 → Fin 96 → ℝ) (v : Fin 2 → Fin 2048 → Fin 8 → Fin 64 → ℝ)
  (h0 : ∀ b s h g d, m (c, Proc.tc.devRef main_arg0) (ix5 b s h g d) = ((q b s h d : ℝ) : EReal))
  (h1 : ∀ b s h d, m (c, Proc.tc.devRef main_arg1) (ix4 b s h d) = ((k b s h d : ℝ) : EReal))
  (h2 : ∀ b s h d, m (c, Proc.tc.devRef main_arg2) (ix4 b s h d) = ((v b s h d : ℝ) : EReal))
  (h3 : ∀ b s h g d, m (c, Proc.tc.devRef main_arg3) (ix5 b s h g d) = ((dd b s h d : ℝ) : EReal))

include h0 h1 h2 h3 in
theorem ds_pt (t : Fin cfg0.N) (j i : Fin 2048) :
    View.canon (Cert.AttnBIdeal.Pay.dsL (iblk m c 0 t) (iblk m c 1 t) (iblk m c 2 t) (iblk m c 3 t) (iblk m c 4 t) (iblk m c 5 t)) (ix2 j i)
      = ((ds (hd q t.val) (hd k t.val) (hd v t.val) (hd dd t.val) i j : ℝ) : EReal) :=
  (Cert.AttnBIdeal.Pay.dsL_at _ _ _ _ _ _ _ _ _ _ _ _ (read0 m c q h0 t) (read1 m c k h1 t) (read2 m c v h2 t) (read3 m c dd h3 t)
    (read4 m c q k v h0 h1 h2 t) (read5 m c q k h0 h1 t) j i).trans
    (congrArg _ (dst_eq (N := 128) _ _ _ _ _ (by norm_num) (by norm_num) j i))

include h0 h1 in
theorem pr_pt (t : Fin cfg0.N) (j i : Fin 2048) :
    View.canon (Cert.AttnBIdeal.Pay.ptL (iblk m c 0 t) (iblk m c 1 t) (iblk m c 5 t)) (ix2 j i)
      = ((pr (hd q t.val) (hd k t.val) i j : ℝ) : EReal) :=
  (Cert.AttnBIdeal.Pay.ptL_at _ _ _ _ _ _ (read0 m c q h0 t) (read1 m c k h1 t) (read5 m c q k h0 h1 t) j i).trans
    (congrArg _ (pt_eq (N := 128) _ _ _ (by norm_num) j i))

/-- A point's gradients of its queries, its keys and its values. -/
def gq (t : ℕ) (i : Fin 2048) (d : Fin 96) : ℝ := dq (hd q t) (hd k t) (hd v t) (hd dd t) i d
def gk (t : ℕ) (j : Fin 2048) (d : Fin 96) : ℝ := dk (hd q t) (hd k t) (hd v t) (hd dd t) j d
def gv (t : ℕ) (j : Fin 2048) (d : Fin 64) : ℝ := dv (hd q t) (hd k t) (hd dd t) j d

include h0 h1 h2 h3 in
theorem out6 (t : Fin cfg0.N) (i : Fin 2048) (d : Fin 128) :
    (outsAt0 m c t).1 (ix2 i d) = ((lane 128 (gq q dd k v t.val i) d : ℝ) : EReal) := by
  unfold outsAt0
  frame_out
  refine (Cert.AttnBIdeal.Pay.dqL_at _ _ _ _ _ _ _ _ _ _ _ _ (read0 m c q h0 t) (read1 m c k h1 t) (read2 m c v h2 t) (read3 m c dd h3 t)
    (read4 m c q k v h0 h1 h2 t) (read5 m c q k h0 h1 t) i d).trans (congrArg _ ?_)
  simp only [fun j => dst_eq (N := 128) (hd q t.val) (hd k t.val) (hd v t.val) (hd dd t.val) (top q k t.val) (by norm_num) (by norm_num) j i]
  exact comb_lane _ _ d

include h0 h1 h2 h3 in
theorem out7 (t : Fin cfg0.N) (j : Fin 2048) (d : Fin 128) :
    (outsAt0 m c t).2.1 (ix2 j d) = ((lane 128 (gk q dd k v t.val j) d : ℝ) : EReal) := by
  unfold outsAt0
  frame_out
  refine (Cert.AttnBIdeal.Pay.acc_at _ _ (iblk m c 0 t) (fun _ _ => 0) _ (fun j i => ds (hd q t.val) (hd k t.val) (hd v t.val) (hd dd t.val) i j)
    (fun j d => ?_) (fun j i => ?_) (read0 m c q h0 t) j d).trans ?_
  rotate_left 1
  · exact (Slabs.read_whole _ j i _ _).trans (ds_pt m c q dd k v h0 h1 h2 h3 t j i)
  · rw [zero_add, comb_lane]; rfl
  · pointwise [k0_pay1]; first | done | exact EReal.coe_zero.symm

include h0 h1 h2 h3 in
theorem out8 (t : Fin cfg0.N) (j : Fin 2048) (d : Fin 128) :
    (outsAt0 m c t).2.2 (ix2 j d) = ((lane 128 (gv q dd k t.val j) d : ℝ) : EReal) := by
  unfold outsAt0
  frame_out
  refine (Cert.AttnBIdeal.Pay.acc_at _ _ (iblk m c 3 t) (fun _ _ => 0) _ (fun j i => pr (hd q t.val) (hd k t.val) i j)
    (fun j d => ?_) (fun j i => ?_) (read3 m c dd h3 t) j d).trans ?_
  rotate_left 1
  · exact (Slabs.read_whole _ j i _ _).trans (pr_pt m c q k h0 h1 t j i)
  · rw [zero_add, comb_lane]; rfl
  · pointwise [k0_pay2]; first | done | exact EReal.coe_zero.symm

/-- A row of the arrays and a head's lane. -/
def gr (b : Fin 2) (i : Fin 2048) : Fin 4096 := ⟨b.val * 2048 + i.val, by omega⟩
def gl (h : Fin 8) (d : Fin 128) : Fin 1024 := ⟨h.val * 128 + d.val, by omega⟩

theorem tr_gr (t : Fin cfg0.N) (i : Fin 2048) : tr t i = gr (pb t) i := Fin.ext (by have := lt_N t; simp only [tr, gr, pb]; omega)
theorem tq_gl (t : Fin cfg0.N) (d : Fin 128) : tq t d = gl (ph t) d := Fin.ext (by simp only [tq, gl, ph])

include h0 h1 h2 h3 in
theorem fin6 (G : FVec Ideal S4096x1024 .bf16) (hG : ∀ b i h d, G (ix2 (gr b i) (gl h d))
      = ((lane 128 (dq (fun i d => q b i h d) (fun j d => k b j h d) (fun j d => v b j h d) (fun i d => dd b i h d) i) d : ℝ) : EReal)) :
    (dats m 0 c).arrAt 6 (cfgs 0).N = G := by
  refine (dats m 0 c).arrAt_eq_of_covers 6 _ (by decide +kernel) fun t hf y => ?_
  blk_simp
  rw [after0_6]
  idx_vars y
  have e : (win0_6.blk t).view.emb (ix2 y0 y1) = (ix2 (tr t y0) (tq t y1) : S4096x1024.Idx) := by blk_ext [idx t, tr, tq]
  rw [e, tr_gr, tq_gl]
  exact (out6 m c q dd k v h0 h1 h2 h3 t y0 y1).trans (hG _ _ _ _).symm

include h0 h1 h2 h3 in
theorem fin7 (G : FVec Ideal S4096x1024 .bf16) (hG : ∀ b j h d, G (ix2 (gr b j) (gl h d))
      = ((lane 128 (dk (fun i d => q b i h d) (fun j d => k b j h d) (fun j d => v b j h d) (fun i d => dd b i h d) j) d : ℝ) : EReal)) :
    (dats m 0 c).arrAt 7 (cfgs 0).N = G := by
  refine (dats m 0 c).arrAt_eq_of_covers 7 _ (by decide +kernel) fun t hf y => ?_
  blk_simp
  rw [after0_7]
  idx_vars y
  have e : (win0_7.blk t).view.emb (ix2 y0 y1) = (ix2 (tr t y0) (tq t y1) : S4096x1024.Idx) := by blk_ext [idx t, tr, tq]
  rw [e, tr_gr, tq_gl]
  exact (out7 m c q dd k v h0 h1 h2 h3 t y0 y1).trans (hG _ _ _ _).symm

include h0 h1 h2 h3 in
theorem fin8 (G : FVec Ideal S4096x1024 .bf16) (hG : ∀ b j h d, G (ix2 (gr b j) (gl h d))
      = ((lane 128 (dv (fun i d => q b i h d) (fun j d => k b j h d) (fun i d => dd b i h d) j) d : ℝ) : EReal)) :
    (dats m 0 c).arrAt 8 (cfgs 0).N = G := by
  refine (dats m 0 c).arrAt_eq_of_covers 8 _ (by decide +kernel) fun t hf y => ?_
  blk_simp
  rw [after0_8]
  idx_vars y
  have e : (win0_8.blk t).view.emb (ix2 y0 y1) = (ix2 (tr t y0) (tq t y1) : S4096x1024.Idx) := by blk_ext [idx t, tr, tq]
  rw [e, tr_gr, tq_gl]
  exact (out8 m c q dd k v h0 h1 h2 h3 t y0 y1).trans (hG _ _ _ _).symm

end Cert.AttnAIdeal.Fin

end
-- ==== Proof.AttnATerm.lean ====
/- What the reference computes for one head's gradients, read at an index. -/
module

public import proofs.«01_k».proof.Proof.Gen.AttnARefIdeal.Run
public import proofs.«01_k».proof.Proof.AttnSpec

@[expose] public section

set_option maxRecDepth 16384

noncomputable section

namespace Cert.AttnARefIdeal.At

open Cert.AttnARefIdeal Cert.AttnARefIdeal.Gen Cert.AttnARefIdeal.Value Cert.Rows Cert.AttnSpec Idealize.ShloMosaic Idealize.ShloMosaic.TcCoe

section Terms
variable {F : FTy → Type} [FloatOps F] (m : (ℓ : Loc nD τ sig) → Buf (Elt F) ℓ) (c : Dev nD)

/-- The scores. -/
def sT : FVec F S2x8x1x2048x2048 .f32 :=
  transpose S2x8x1x2048x2048 [0, 1, 4, 3, 2] (Host.dotGeneral dot_S2x2048x8x96_S2x2048x8x1x96_S2x8x2048x2048x1_3_4_1_13_02_02 none (m ((c.tc : Thread nD τ).loc main_arg1)) (m ((c.tc : Thread nD τ).loc main_arg0))) transposes_S2x8x2048x2048x1_S2x8x1x2048x2048_0_1_4_3_2

/-- Their exponentials, lowered by the row's greatest score. -/
def eT : FVec F S2x8x1x2048x2048 .f32 :=
  Host.exp (subf (sT m c) (broadcastInDim S2x8x1x2048x2048 ![0, 1, 2, 3, 4] bcast_S2x8x1x2048x1_S2x8x1x2048x2048_0_1_2_3_4 (broadcastInDim S2x8x1x2048x1 ![0, 1, 2, 3] bcast_S2x8x1x2048_S2x8x1x2048x1_0_1_2_3 (maximumf (broadcastInDim S2x8x1x2048 ![] bcast_S_S2x8x1x2048 (constant S_ .f32 0xFF800000#32)) (Host.reduce FloatOps.maximumf (sT m c) (constant S_ .f32 0xFF800000#32) reducesTo_S2x8x1x2048x2048_S2x8x1x2048_d4 h_S_)))))

/-- The exponentials' sums. -/
def zT : FVec F S2x8x1x2048 .f32 :=
  Host.reduceAdd (eT m c) (constant S_ .f32 0x00000000#32) reducesTo_S2x8x1x2048x2048_S2x8x1x2048_d4 h_S_

/-- The gradient of the weights. -/
def pT : FVec F S2x8x1x2048x2048 .f32 :=
  Host.dotGeneral dot_S2x8x64x1x2048_S2x2048x8x64_S2x8x1x2048x2048_2_3_34_1_01_02 none (transpose S2x8x64x1x2048 [0, 2, 4, 3, 1] (m ((c.tc : Thread nD τ).loc main_arg3)) transposes_S2x2048x8x1x64_S2x8x64x1x2048_0_2_4_3_1) (m ((c.tc : Thread nD τ).loc main_arg2))

/-- The gradient of the scores. -/
def gT : FVec F S2x8x1x2048x2048 .f32 :=
  mulf (addf (Host.divf (pT m c) (broadcastInDim S2x8x1x2048x2048 ![0, 1, 2, 3, 4] bcast_S2x8x1x2048x1_S2x8x1x2048x2048_0_1_2_3_4 (broadcastInDim S2x8x1x2048x1 ![0, 1, 2, 3] bcast_S2x8x1x2048_S2x8x1x2048x1_0_1_2_3 (zT m c)))) (broadcastInDim S2x8x1x2048x2048 ![0, 1, 2, 3] bcast_S2x8x1x2048_S2x8x1x2048x2048_0_1_2_3 (broadcastInDim S2x8x1x2048 ![0, 1, 3] bcast_S2x8x2048_S2x8x1x2048_0_1_3 (Host.reduceAdd (Host.negf (shapeCast _ (Host.reduceAdd (mulf (mulf (pT m c) (broadcastInDim S2x8x1x2048x2048 ![0, 1, 2, 3, 4] bcast_S2x8x1x2048x1_S2x8x1x2048x2048_0_1_2_3_4 (Host.divf (broadcastInDim S2x8x1x2048x1 ![] bcast_S_S2x8x1x2048x1 (constant S_ .f32 0x3F800000#32)) (mulf (broadcastInDim S2x8x1x2048x1 ![0, 1, 2, 3] bcast_S2x8x1x2048_S2x8x1x2048x1_0_1_2_3 (zT m c)) (broadcastInDim S2x8x1x2048x1 ![0, 1, 2, 3] bcast_S2x8x1x2048_S2x8x1x2048x1_0_1_2_3 (zT m c)))))) (eT m c)) (constant S_ .f32 0x00000000#32) reducesTo_S2x8x1x2048x2048_S2x8x1x2048_d4 h_S_) shapeCasts_S2x8x1x2048_S2x8x1x2048x1)) (constant S_ .f32 0x00000000#32) reducesTo_S2x8x1x2048x1_S2x8x2048_d2_4 h_S_)))) (eT m c)

/-- The gradients of the values, the queries and the keys, as the program returns them. -/
def vT : FVec F S4096x1024 .bf16 :=
  truncf .bf16 (shapeCast _ (pad S4096x8x128 ![0, 0, 0] ![0, 0, 64] ![0, 0, 0] (shapeCast _ (transpose S2x2048x8x64 [0, 3, 1, 2] (Host.dotGeneral dot_S2x8x64x1x2048_S2x8x1x2048x2048_S2x8x64x2048_34_23_2_4_01_01 none (transpose S2x8x64x1x2048 [0, 2, 4, 3, 1] (m ((c.tc : Thread nD τ).loc main_arg3)) transposes_S2x2048x8x1x64_S2x8x64x1x2048_0_2_4_3_1) (Host.divf (eT m c) (broadcastInDim S2x8x1x2048x2048 ![0, 1, 2, 3, 4] bcast_S2x8x1x2048x1_S2x8x1x2048x2048_0_1_2_3_4 (broadcastInDim S2x8x1x2048x1 ![0, 1, 2, 3] bcast_S2x8x1x2048_S2x8x1x2048x1_0_1_2_3 (zT m c))))) transposes_S2x8x64x2048_S2x2048x8x64_0_3_1_2) shapeCasts_S2x2048x8x64_S4096x8x64) (sitofp .f32 (constantI S_ 32 0#32)) pads_S4096x8x64_S4096x8x128_000_000_0640 h_S_) shapeCasts_S4096x8x128_S4096x1024) bitsLt_bf16_f32

def qT : FVec F S4096x1024 .bf16 :=
  truncf .bf16 (shapeCast _ (pad S4096x8x128 ![0, 0, 0] ![0, 0, 32] ![0, 0, 0] (shapeCast _ (transpose S2x2048x8x1x96 [0, 2, 1, 3, 4] (Host.dotGeneral dot_S2x8x2048x2048x1_S2x2048x8x96_S2x8x2048x1x96_2_1_34_3_01_02 none (transpose S2x8x2048x2048x1 [0, 1, 4, 3, 2] (gT m c) transposes_S2x8x1x2048x2048_S2x8x2048x2048x1_0_1_4_3_2) (m ((c.tc : Thread nD τ).loc main_arg1))) transposes_S2x8x2048x1x96_S2x2048x8x1x96_0_2_1_3_4) shapeCasts_S2x2048x8x1x96_S4096x8x96) (sitofp .f32 (constantI S_ 32 0#32)) pads_S4096x8x96_S4096x8x128_000_000_0320 h_S_) shapeCasts_S4096x8x128_S4096x1024) bitsLt_bf16_f32

def kT : FVec F S4096x1024 .bf16 :=
  truncf .bf16 (shapeCast _ (pad S4096x8x128 ![0, 0, 0] ![0, 0, 32] ![0, 0, 0] (shapeCast _ (transpose S2x2048x8x96 [0, 2, 1, 3] (Host.dotGeneral dot_S2x8x2048x2048x1_S2x2048x8x1x96_S2x8x2048x96_34_13_2_4_01_02 none (transpose S2x8x2048x2048x1 [0, 1, 4, 3, 2] (gT m c) transposes_S2x8x1x2048x2048_S2x8x2048x2048x1_0_1_4_3_2) (m ((c.tc : Thread nD τ).loc main_arg0))) transposes_S2x8x2048x96_S2x2048x8x96_0_2_1_3) shapeCasts_S2x2048x8x96_S4096x8x96) (sitofp .f32 (constantI S_ 32 0#32)) pads_S4096x8x96_S4096x8x128_000_000_0320 h_S_) shapeCasts_S4096x8x128_S4096x1024) bitsLt_bf16_f32

theorem q_term : res_main_v57 m c = qT m c := by
  unfold res_main_v57 qT gT pT zT eT sT; rfl

theorem k_term : res_main_v61 m c = kT m c := by
  unfold res_main_v61 kT gT pT zT eT sT; rfl

end Terms

end Cert.AttnARefIdeal.At

end
-- ==== Proof.AttnARef.lean ====
/- What the reference computes for a one-group head's gradients, read at an index. -/
module

public import proofs.«01_k».proof.Proof.AttnATerm

@[expose] public section

set_option maxRecDepth 16384

noncomputable section

namespace Cert.AttnARefIdeal.At

open Cert.AttnARefIdeal Cert.AttnARefIdeal.Gen Cert.AttnARefIdeal.Value Cert.Rows Cert.AttnSpec Idealize.ShloMosaic Idealize.ShloMosaic.TcCoe

/-- A sum over two axes of length one. -/
theorem sum_one (h : (⟨5, ![2, 8, 1, 2048, 1]⟩ : Shape).ReducesTo [2, 4] ⟨3, ![2, 8, 2048]⟩) (v : (⟨5, ![2, 8, 1, 2048, 1]⟩ : Shape).Idx → EReal)
    (z : EReal) (b : Fin 2) (e : Fin 8) (i : Fin 2048) : Ideal.hostReduceAdd h v z (ix3 b e i) = z + v (ix5 b e 0 i 0) := by
  unfold Ideal.hostReduceAdd
  refine congrArg (z + ·) (Finset.sum_eq_single_of_mem _ (Finset.mem_filter.2 ⟨Finset.mem_univ _, ?_⟩) fun y hy hn => absurd ?_ hn)
  · funext a
    apply Fin.ext
    match a with
    | ⟨0, _⟩ => rfl
    | ⟨1, _⟩ => rfl
    | ⟨2, _⟩ => rfl
  · have e0 : (y 0).val = b.val := congrArg Fin.val (congrFun (Finset.mem_filter.1 hy).2 0)
    have e1 : (y 1).val = e.val := congrArg Fin.val (congrFun (Finset.mem_filter.1 hy).2 1)
    have e3 : (y 3).val = i.val := congrArg Fin.val (congrFun (Finset.mem_filter.1 hy).2 2)
    have e2 : (y 2).val < 1 := (y 2).isLt
    have e4 : (y 4).val < 1 := (y 4).isLt
    funext a
    apply Fin.ext
    match a with
    | ⟨0, _⟩ => exact e0
    | ⟨1, _⟩ => exact e1
    | ⟨2, _⟩ => exact Nat.lt_one_iff.1 e2
    | ⟨3, _⟩ => exact e3
    | ⟨4, _⟩ => exact Nat.lt_one_iff.1 e4

variable (m : (ℓ : Loc nD τ sig) → Buf (Elt Ideal) ℓ) (c : Dev nD)
  (q k : Fin 2 → Fin 2048 → Fin 8 → Fin 96 → ℝ) (dd v : Fin 2 → Fin 2048 → Fin 8 → Fin 64 → ℝ)
  (h0 : ∀ b s h g d, (m ((c.tc : Thread nD τ).loc main_arg0) : FVec Ideal S2x2048x8x1x96 .f32) (ix5 b s h g d) = ((q b s h d : ℝ) : EReal))
  (h1 : ∀ b s h d, (m ((c.tc : Thread nD τ).loc main_arg1) : FVec Ideal S2x2048x8x96 .f32) (ix4 b s h d) = ((k b s h d : ℝ) : EReal))
  (h2 : ∀ b s h d, (m ((c.tc : Thread nD τ).loc main_arg2) : FVec Ideal S2x2048x8x64 .f32) (ix4 b s h d) = ((v b s h d : ℝ) : EReal))
  (h3 : ∀ b s h g d, (m ((c.tc : Thread nD τ).loc main_arg3) : FVec Ideal S2x2048x8x1x64 .f32) (ix5 b s h g d) = ((dd b s h d : ℝ) : EReal))
  (b : Fin 2) (h : Fin 8) (g : Fin 1) (i j : Fin 2048)

/-- A head's slice of an array and the row's greatest score. -/
def hd {a : ℕ} (x : Fin 2 → Fin 2048 → Fin 8 → Fin a → ℝ) (b : Fin 2) (h : Fin 8) (i : Fin 2048) (d : Fin a) : ℝ := x b i h d
def mx (b : Fin 2) (h : Fin 8) (i : Fin 2048) : ℝ := rowmax (sc (hd q b h) (hd k b h) i)

include h0 h1 in
theorem s_at : sT m c (ix5 b h g i j) = ((sc (hd q b h) (hd k b h) i j : ℝ) : EReal) := by
  pointwise [sT]
  simp only [h0, h1, coe_sum, ← EReal.coe_mul]
  exact congrArg _ (Finset.sum_congr rfl fun d _ => mul_comm _ _)

theorem m_fold : (Host.reduce FloatOps.maximumf (sT m c) (constant S_ .f32 0xFF800000#32) reducesTo_S2x8x1x2048x2048_S2x8x1x2048_d4 h_S_ : FVec Ideal S2x8x1x2048 .f32) (ix4 b h g i)
    = Finset.univ.fold max (Ideal.ofBits .f32 0xFF800000#32) (fun j => sT m c (ix5 b h g i j)) := by
  obtain rfl : g = 0 := Subsingleton.elim _ _
  pointwise []

include h0 h1 in
theorem m_row : Finset.univ.fold max (⊥ : EReal) (fun j => sT m c (ix5 b h g i j)) = ((mx q k b h i : ℝ) : EReal) := by
  unfold mx
  rw [← fold_max (n := 2048) (by norm_num)]
  exact congrArg (fun f => Finset.univ.fold max (⊥ : EReal) f) (funext fun j => s_at m c q k h0 h1 b h g i j)

theorem e_term (M : FVec Ideal S2x8x1x2048 .f32) (hM : (Host.reduce FloatOps.maximumf (sT m c) (constant S_ .f32 0xFF800000#32) reducesTo_S2x8x1x2048x2048_S2x8x1x2048_d4 h_S_ : FVec Ideal S2x8x1x2048 .f32) = M) :
    eT m c (ix5 b h g i j) = Ideal.exp (sT m c (ix5 b h g i j) - max (Ideal.ofBits .f32 0xFF800000#32) (M (ix4 b h g i))) := by
  obtain rfl : g = 0 := Subsingleton.elim _ _
  unfold eT; rw [hM]
  pointwise []

include h0 h1 in
theorem e_at : eT m c (ix5 b h g i j) = ((Real.exp (sc (hd q b h) (hd k b h) i j - mx q k b h i) : ℝ) : EReal) := by
  rw [e_term m c b h g i j _ rfl, m_fold, s_at m c q k h0 h1, ofBits_ninf, m_row m c q k h0 h1, max_eq_right bot_le, ← EReal.coe_sub, exp_real]

include h0 h1 in
theorem z_at : zT m c (ix4 b h g i) = ((zs (hd q b h) (hd k b h) (mx q k b h i) i : ℝ) : EReal) := by
  pointwise [zT]
  simp only [e_at m c q k h0 h1, coe_sum, zero_add]
  rfl

include h2 h3 in
theorem p_at : pT m c (ix5 b h g i j) = ((dp (hd v b h) (hd dd b h) i j : ℝ) : EReal) := by
  pointwise [pT]
  simp only [h2, h3, coe_sum, ← EReal.coe_mul]
  rfl

include h0 h1 h2 h3 in
theorem g_at : gT m c (ix5 b h g i j) = ((ds (hd q b h) (hd k b h) (hd v b h) (hd dd b h) i j : ℝ) : EReal) := by
  have hz := (zs_pos (hd q b h) (hd k b h) (mx q k b h i) i).ne'
  obtain rfl : g = 0 := Subsingleton.elim _ _
  pointwise [gT]
  rw [sum_one]
  pointwise []
  simp only [e_at m c q k h0 h1, z_at m c q k h0 h1, p_at m c dd v h2 h3, ← EReal.coe_mul, div_real _ hz, ← EReal.coe_one,
    div_real _ (mul_ne_zero hz hz), coe_sum, ← EReal.coe_neg, zero_add, ← EReal.coe_add]
  rw [← ds_div (hd q b h) (hd k b h) (hd v b h) (hd dd b h) (mx q k b h i) i j]

theorem zero_32 : FloatOps.sitofp (F := Ideal) .f32 (0#32 : BitVec 32) = ((0 : ℝ) : EReal) := by
  simp [FloatOps.sitofp]

include h0 h1 h2 h3 in
theorem q_at (R : Fin 4096) (C : Fin 1024) (d : Fin 128) (hb : R.val / 2048 = b.val) (hi : R.val % 2048 = i.val)
    (hh : C.val / 128 = h.val) (hd : C.val % 128 = d.val) :
    qT m c (ix2 R C) = ((lane 128 (dq (At.hd q b h) (At.hd k b h) (At.hd v b h) (At.hd dd b h) i) d : ℝ) : EReal) := by
  have lb : R.val / 2048 < 2 := by clear hb hi hh hd; omega
  have li : R.val % 2048 < 2048 := by clear hb hi hh hd; omega
  have lh : C.val / 128 < 8 := by clear hb hi hh hd; omega
  have ld : C.val % 128 < 128 := by clear hb hi hh hd; omega
  obtain rfl : (⟨R.val / 2048, lb⟩ : Fin 2) = b := Fin.ext hb
  obtain rfl : (⟨R.val % 2048, li⟩ : Fin 2048) = i := Fin.ext hi
  obtain rfl : (⟨C.val / 128, lh⟩ : Fin 8) = h := Fin.ext hh
  obtain rfl : (⟨C.val % 128, ld⟩ : Fin 128) = d := Fin.ext hd
  pointwise [qT]
  simp only [g_at m c q k dd v h0 h1 h2 h3, h1, coe_sum, ← EReal.coe_mul, zero_32]
  unfold lane
  split_ifs with c1 c2 c2
  · rfl
  · exact absurd c1.2 c2
  · exact absurd ⟨by omega, c2⟩ c1
  · rfl

include h0 h1 h2 h3 in
theorem k_at (R : Fin 4096) (C : Fin 1024) (d : Fin 128) (hb : R.val / 2048 = b.val) (hi : R.val % 2048 = i.val)
    (hh : C.val / 128 = h.val) (hd : C.val % 128 = d.val) :
    kT m c (ix2 R C) = ((lane 128 (dk (At.hd q b h) (At.hd k b h) (At.hd v b h) (At.hd dd b h) i) d : ℝ) : EReal) := by
  have lb : R.val / 2048 < 2 := by clear hb hi hh hd; omega
  have li : R.val % 2048 < 2048 := by clear hb hi hh hd; omega
  have lh : C.val / 128 < 8 := by clear hb hi hh hd; omega
  have ld : C.val % 128 < 128 := by clear hb hi hh hd; omega
  obtain rfl : (⟨R.val / 2048, lb⟩ : Fin 2) = b := Fin.ext hb
  obtain rfl : (⟨R.val % 2048, li⟩ : Fin 2048) = i := Fin.ext hi
  obtain rfl : (⟨C.val / 128, lh⟩ : Fin 8) = h := Fin.ext hh
  obtain rfl : (⟨C.val % 128, ld⟩ : Fin 128) = d := Fin.ext hd
  pointwise [kT]
  simp only [g_at m c q k dd v h0 h1 h2 h3, h0, coe_sum, ← EReal.coe_mul, zero_32]
  unfold lane
  split_ifs with c1 c2 c2
  · first | rfl | (simp only [Fin.sum_univ_one]; rfl)
  · exact absurd c1.2 c2
  · exact absurd ⟨by omega, c2⟩ c1
  · first | rfl | simp

include h0 h1 h3 in
theorem v_at (R : Fin 4096) (C : Fin 1024) (d : Fin 128) (hb : R.val / 2048 = b.val) (hi : R.val % 2048 = i.val)
    (hh : C.val / 128 = h.val) (hd : C.val % 128 = d.val) :
    vT m c (ix2 R C) = ((lane 128 (dv (At.hd q b h) (At.hd k b h) (At.hd dd b h) i) d : ℝ) : EReal) := by
  have lb : R.val / 2048 < 2 := by clear hb hi hh hd; omega
  have li : R.val % 2048 < 2048 := by clear hb hi hh hd; omega
  have lh : C.val / 128 < 8 := by clear hb hi hh hd; omega
  have ld : C.val % 128 < 128 := by clear hb hi hh hd; omega
  obtain rfl : (⟨R.val / 2048, lb⟩ : Fin 2) = b := Fin.ext hb
  obtain rfl : (⟨R.val % 2048, li⟩ : Fin 2048) = i := Fin.ext hi
  obtain rfl : (⟨C.val / 128, lh⟩ : Fin 8) = h := Fin.ext hh
  obtain rfl : (⟨C.val % 128, ld⟩ : Fin 128) = d := Fin.ext hd
  have hz := fun b h i => (zs_pos (At.hd q b h) (At.hd k b h) (mx q k b h i) i).ne'
  pointwise [vT]
  simp only [e_at m c q k h0 h1, z_at m c q k h0 h1, h3, div_real _ (hz _ _ _), shift, coe_sum, ← EReal.coe_mul, zero_32]
  unfold lane
  split_ifs with c1 c2 c2
  · first | exact congrArg _ (Finset.sum_congr rfl fun i' _ => mul_comm _ _) | (simp only [Fin.sum_univ_one]; exact congrArg _ (Finset.sum_congr rfl fun i' _ => mul_comm _ _))
  · exact absurd c1.2 c2
  · exact absurd ⟨by omega, c2⟩ c1
  · first | rfl | simp

end Cert.AttnARefIdeal.At

end
-- ==== Proof.AttnAFinite.lean ====
/- The precondition of the one-group attention's claim: every entry of the arrays it names is a real number. -/
module

public import proofs.«01_k».proof.Pre_finite_attn_a
public import proofs.«01_k».proof.Proof.Finite

@[expose] public section

set_option maxRecDepth 16384

noncomputable section

namespace Cert.Pre_finite_attn_a

open Cert.Rows Idealize.ShloMosaic

variable [Facts]

theorem reals {a0 : FVec Ideal S2x2048x8x1x96 .f32} {a1 : FVec Ideal S2x2048x8x96 .f32} {a2 : FVec Ideal S2x2048x8x64 .f32} {a3 : FVec Ideal S2x2048x8x1x64 .f32}
    (h : fn (F := Ideal) a0 a1 a2 a3 = fun _ => 1#1) :
    (∀ i, a0 i = (((a0 i).toReal : ℝ) : EReal)) ∧ (∀ i, a1 i = (((a1 i).toReal : ℝ) : EReal)) ∧ (∀ i, a2 i = (((a2 i).toReal : ℝ) : EReal))
    ∧ (∀ i, a3 i = (((a3 i).toReal : ℝ) : EReal)) := by
  have e := congrFun h (Shape.Idx.first (s := S_) Facts.h_S_)
  obtain ⟨e, e3⟩ := andi_one e
  obtain ⟨e, e2⟩ := andi_one e
  obtain ⟨e, e1⟩ := andi_one e
  obtain ⟨_, e0⟩ := andi_one e
  exact ⟨real_of_all _ _ _ _ _ _ e0, real_of_all _ _ _ _ _ _ e1, real_of_all _ _ _ _ _ _ e2, real_of_all _ _ _ _ _ _ e3⟩

end Cert.Pre_finite_attn_a

end
-- ==== Proof.AttnAPair.lean ====
/- The one-group attention's backward kernel agrees with its reference. -/
module

public import proofs.«01_k».proof.Defs
public import proofs.«01_k».proof.Proof.Gen.Pre_finite_attn_a
public import proofs.«01_k».proof.Proof.AttnAFin
public import proofs.«01_k».proof.Proof.AttnARef
public import proofs.«01_k».proof.Proof.AttnAFinite

@[expose] public section

set_option maxRecDepth 16384

noncomputable section

namespace Cert.AttnAPair

open Cert.Rows Idealize.ShloMosaic Idealize.ShloMosaic.TcCoe Idealize.SL.Sem
open Cert.AttnAIdeal (S2x2048x8x1x96 S2x2048x8x1x64 S2x2048x8x96 S2x2048x8x64)
open Cert.AttnAIdeal.Fin (gr gl)

/-- The real arrays behind a memory's arguments. -/
abbrev rq (V : FVec Ideal S2x2048x8x1x96 .f32) : Fin 2 → Fin 2048 → Fin 8 → Fin 96 → ℝ := fun b s h d => (V (ix5 b s h 0 d)).toReal
abbrev rd (V : FVec Ideal S2x2048x8x1x64 .f32) : Fin 2 → Fin 2048 → Fin 8 → Fin 64 → ℝ := fun b s h d => (V (ix5 b s h 0 d)).toReal
abbrev rk (V : FVec Ideal S2x2048x8x96 .f32) : Fin 2 → Fin 2048 → Fin 8 → Fin 96 → ℝ := fun b s h d => (V (ix4 b s h d)).toReal
abbrev rv (V : FVec Ideal S2x2048x8x64 .f32) : Fin 2 → Fin 2048 → Fin 8 → Fin 64 → ℝ := fun b s h d => (V (ix4 b s h d)).toReal

/-- A group axis of length one has one index. -/
theorem one5 {a : ℕ} {V : FVec Ideal ⟨5, ![2, 2048, 8, 1, a]⟩ .f32} (e : ∀ y, V y = ((V y).toReal : EReal)) (b : Fin 2) (s : Fin 2048) (h : Fin 8) (g : Fin 1) (d : Fin a) :
    V (ix5 b s h g d) = (((V (ix5 b s h 0 d)).toReal : ℝ) : EReal) := by
  obtain rfl : g = 0 := Subsingleton.elim _ _
  exact e _

theorem ref_frame : @Cert.quiescent_AttnARefIdeal Cert.AttnARefIdeal.Gen.facts := fun m g _ =>
  (θ_run Cert.AttnARefIdeal.defs _ _).mono (fun r h => ⟨fun c => (h c).2.2.2, Idealize.ShloMosaic.sem_eq_zero_of_no_sems (by decide) r.2⟩)
    (Cert.AttnARefIdeal.Value.run (F := Ideal) m g)

theorem row (b : Fin 2) (i : Fin 2048) : (gr b i).val / 2048 = b.val ∧ (gr b i).val % 2048 = i.val := by unfold gr; dsimp only; omega
theorem col (h : Fin 8) (d : Fin 128) : (gl h d).val / 128 = h.val ∧ (gl h d).val % 128 = d.val := by unfold gl; dsimp only; omega

set_option maxHeartbeats 1600000 in
theorem algebraic : @Cert.algebraic_AttnAIdeal_AttnARefIdeal_pre_finite_attn_a Cert.AttnAIdeal.Gen.facts Cert.AttnARefIdeal.Gen.facts Cert.Pre_finite_attn_a.Gen.facts := by
  pair_intro
  · run_from Cert.AttnAIdeal.Value.run_blocks m g
  · run_from Cert.AttnARefIdeal.Value.run m' g'
    all_goals
      obtain ⟨e0, e1, e2, e3⟩ := Cert.Pre_finite_attn_a.reals (hpre c)
      obtain ⟨a0, a1, a2, a3⟩ := hagree c
    · rw [Cert.AttnARefIdeal.At.q_term]
      exact (Cert.AttnAIdeal.Fin.fin6 m c (rq (m (c.tc.loc Cert.AttnAIdeal.main_arg0))) (rd (m (c.tc.loc Cert.AttnAIdeal.main_arg3))) (rk (m (c.tc.loc Cert.AttnAIdeal.main_arg1))) (rv (m (c.tc.loc Cert.AttnAIdeal.main_arg2)))
        (one5 e0) (fun b s h d => e1 (ix4 b s h d)) (fun b s h d => e2 (ix4 b s h d)) (one5 e3) _
        (fun b i h d => Cert.AttnARefIdeal.At.q_at m' c (rq (m (c.tc.loc Cert.AttnAIdeal.main_arg0))) (rk (m (c.tc.loc Cert.AttnAIdeal.main_arg1))) (rd (m (c.tc.loc Cert.AttnAIdeal.main_arg3))) (rv (m (c.tc.loc Cert.AttnAIdeal.main_arg2)))
          (fun b s h g d => (congrFun a0 (ix5 b s h g d)).trans (one5 e0 b s h g d)) (fun b s h d => (congrFun a1 (ix4 b s h d)).trans (e1 (ix4 b s h d))) (fun b s h d => (congrFun a2 (ix4 b s h d)).trans (e2 (ix4 b s h d))) (fun b s h g d => (congrFun a3 (ix5 b s h g d)).trans (one5 e3 b s h g d))
          b h i _ _ d (row b i).1 (row b i).2 (col h d).1 (col h d).2)).symm
    · rw [Cert.AttnARefIdeal.At.k_term]
      exact (Cert.AttnAIdeal.Fin.fin7 m c (rq (m (c.tc.loc Cert.AttnAIdeal.main_arg0))) (rd (m (c.tc.loc Cert.AttnAIdeal.main_arg3))) (rk (m (c.tc.loc Cert.AttnAIdeal.main_arg1))) (rv (m (c.tc.loc Cert.AttnAIdeal.main_arg2)))
        (one5 e0) (fun b s h d => e1 (ix4 b s h d)) (fun b s h d => e2 (ix4 b s h d)) (one5 e3) _
        (fun b i h d => Cert.AttnARefIdeal.At.k_at m' c (rq (m (c.tc.loc Cert.AttnAIdeal.main_arg0))) (rk (m (c.tc.loc Cert.AttnAIdeal.main_arg1))) (rd (m (c.tc.loc Cert.AttnAIdeal.main_arg3))) (rv (m (c.tc.loc Cert.AttnAIdeal.main_arg2)))
          (fun b s h g d => (congrFun a0 (ix5 b s h g d)).trans (one5 e0 b s h g d)) (fun b s h d => (congrFun a1 (ix4 b s h d)).trans (e1 (ix4 b s h d))) (fun b s h d => (congrFun a2 (ix4 b s h d)).trans (e2 (ix4 b s h d))) (fun b s h g d => (congrFun a3 (ix5 b s h g d)).trans (one5 e3 b s h g d))
          b h i _ _ d (row b i).1 (row b i).2 (col h d).1 (col h d).2)).symm
    · rw [← a0, ← a1, ← a3]
      refine Eq.trans (b := Cert.AttnARefIdeal.At.vT m' c) (by
        unfold Cert.AttnARefIdeal.At.vT Cert.AttnARefIdeal.At.zT Cert.AttnARefIdeal.At.eT Cert.AttnARefIdeal.At.sT; rfl) ?_
      exact (Cert.AttnAIdeal.Fin.fin8 m c (rq (m (c.tc.loc Cert.AttnAIdeal.main_arg0))) (rd (m (c.tc.loc Cert.AttnAIdeal.main_arg3))) (rk (m (c.tc.loc Cert.AttnAIdeal.main_arg1))) (rv (m (c.tc.loc Cert.AttnAIdeal.main_arg2)))
        (one5 e0) (fun b s h d => e1 (ix4 b s h d)) (fun b s h d => e2 (ix4 b s h d)) (one5 e3) _
        (fun b i h d => Cert.AttnARefIdeal.At.v_at m' c (rq (m (c.tc.loc Cert.AttnAIdeal.main_arg0))) (rk (m (c.tc.loc Cert.AttnAIdeal.main_arg1))) (rd (m (c.tc.loc Cert.AttnAIdeal.main_arg3)))
          (fun b s h g d => (congrFun a0 (ix5 b s h g d)).trans (one5 e0 b s h g d)) (fun b s h d => (congrFun a1 (ix4 b s h d)).trans (e1 (ix4 b s h d))) (fun b s h g d => (congrFun a3 (ix5 b s h g d)).trans (one5 e3 b s h g d))
          b h i _ _ d (row b i).1 (row b i).2 (col h d).1 (col h d).2)).symm

end Cert.AttnAPair

end
-- ==== Proof.Cols.lean ====
/- The columns of the combined input projection in the order the kernel keeps them, each head widened to 128 columns. -/
module

public import proofs.«01_k».proof.Proof.Rows

@[expose] public section

noncomputable section

namespace Cert.Rows

/-- The column of the projection that column `c` of the wide array holds; 3232 where it holds none. -/
def src (c : ℕ) : ℕ :=
  if c < 1024 then c + 1184
  else if c < 2048 then c + 1184
  else if c < 3072 then (if c % 128 < 64 then 416 + (c - 2048) / 128 * 64 + c % 128 else 3232)
  else if c < 3328 then c - 3072
  else if c < 3584 then (if c % 128 < 64 then 928 + (c - 3328) / 128 * 64 + c % 128 else 3232)
  else if c < 3840 then (if c % 128 < 64 then 1056 + (c - 3584) / 128 * 64 + c % 128 else 3232)
  else if c < 3968 then c - 3840 + 256
  else if c < 4032 then 3232
  else if c < 4064 then c - 4032 + 384
  else 3232

/-- Where column `k` of the projection is kept. -/
def dst (k : ℕ) : ℕ :=
  if k < 256 then k + 3072
  else if k < 384 then k - 256 + 3840
  else if k < 416 then k - 384 + 4032
  else if k < 928 then 2048 + (k - 416) / 64 * 128 + (k - 416) % 64
  else if k < 1056 then 3328 + (k - 928) / 64 * 128 + (k - 928) % 64
  else if k < 1184 then 3584 + (k - 1056) / 64 * 128 + (k - 1056) % 64
  else k - 1184

theorem dst_lt (k : ℕ) (h : k < 3232) : dst k < 4096 := by unfold dst; split_ifs <;> omega
theorem src_dst : ∀ k : Fin 3232, src (dst k.val) = k.val := by decide +kernel
theorem dst_src : ∀ c : Fin 4096, src c.val < 3232 → dst (src c.val) = c.val := by decide +kernel

/-- A row of the projection, kept in the wide order. -/
def wide (f : Fin 3232 → ℝ) (c : Fin 4096) : ℝ := if h : src c.val < 3232 then f ⟨src c.val, h⟩ else 0

theorem wide_of (f : Fin 3232 → ℝ) (c : Fin 4096) (k : ℕ) (hk : k < 3232) (e : src c.val = k) : wide f c = f ⟨k, hk⟩ := by
  subst e; exact dif_pos hk
theorem wide_pad (f : Fin 3232 → ℝ) (c : Fin 4096) (e : src c.val = 3232) : wide f c = 0 := dif_neg (by omega)

theorem sum_wide (f g : Fin 3232 → ℝ) : ∑ c, wide f c * wide g c = ∑ k, f k * g k := by
  refine (Finset.sum_of_injOn (fun k : Fin 3232 => (⟨dst k.val, dst_lt k.val k.isLt⟩ : Fin 4096)) ?_ (fun _ _ => Finset.mem_coe.2 (Finset.mem_univ _)) ?_ ?_).symm
  · intro a _ b _ e
    have e' : dst a.val = dst b.val := congrArg Fin.val e
    exact Fin.ext ((src_dst a).symm.trans ((congrArg src e').trans (src_dst b)))
  · intro c _ hc
    by_cases h : src c.val < 3232
    · exact absurd ⟨⟨src c.val, h⟩, Finset.mem_coe.2 (Finset.mem_univ _), Fin.ext (dst_src c h)⟩ hc
    · unfold wide; rw [dif_neg h, zero_mul]
  · intro k _
    rw [wide_of f _ k.val k.isLt (src_dst k), wide_of g _ k.val k.isLt (src_dst k)]

end Cert.Rows

end
-- ==== Proof.InPay.lean ====
/- The norm before the input projection: the gradients through it over the reals, and what one grid point of the kernel
   computes from the blocks it reads. -/
module

public import proofs.«01_k».proof.Proof.Gen.InIdeal.Skeleton
public import proofs.«01_k».proof.Proof.Cols

@[expose] public section

set_option maxRecDepth 16384

noncomputable section

namespace Cert.InSpec

open Cert.Rows

variable (z : Fin 3232 → ℝ) (x d1 g : Fin 1024 → ℝ) (w : Fin 1024 → Fin 3232 → ℝ)

/-- The gradient of the row the projection is applied to. -/
def dh (j : Fin 1024) : ℝ := ∑ k, z k * w j k
/-- The gradient of the input's row: what comes past the norm, and what comes through it. -/
def dx (j : Fin 1024) : ℝ := d1 j + back x (fun k => dh z w k * g k) j

end Cert.InSpec

namespace Cert.InIdeal.Pay

open Cert.InIdeal Cert.InIdeal.Gen Cert.Rows Idealize.ShloMosaic Idealize.ShloMosaic.TcCoe

variable (v3 : Vec Ideal S512x4096 .bf16) (v5 : Vec Ideal S4096x1024 .bf16) (v8 v28 : Vec Ideal S512x1024 .f32) (v10 : Vec Ideal S1x1024 .f32)
  (r : Fin 512) (z : Fin 3232 → ℝ) (x d1 g : Fin 1024 → ℝ) (w : Fin 1024 → Fin 3232 → ℝ)
  (h3 : ∀ c, v3 (ix2 r c) = ((wide z c : ℝ) : EReal)) (h5 : ∀ c j, v5 (ix2 c j) = ((wide (w j) c : ℝ) : EReal))
  (h8 : ∀ k, v8 (ix2 r k) = ((x k : ℝ) : EReal)) (h28 : ∀ k, v28 (ix2 r k) = ((d1 k : ℝ) : EReal))
  (h10 : ∀ k, v10 (ix2 0 k) = ((g k : ℝ) : EReal))

include h3 h5 in
theorem dh_at (j : Fin 1024) : k0_pay3 (F := Ideal) v3 v5 (ix2 r j) = ((InSpec.dh z w j : ℝ) : EReal) := by
  pointwise [k0_pay3]
  simp only [h3, h5, coe_sum, ← EReal.coe_mul, sum_wide]
  rfl

include h8 in
theorem rs_at : k0_pay5 (F := Ideal) v8 (ix2 r 0) = ((rs x : ℝ) : EReal) := by
  pointwise [k0_pay5, k0_pay4]
  simp only [h8, ofBits_inv1024, ofBits_eps, coe_sum, ← EReal.coe_mul, ← EReal.coe_add]
  have e : (∑ k, x k * x k) * (1 / 1024) + eps = ms x := by unfold ms; push_cast; ring
  rw [e, rsqrt_real (ms_pos x)]; rfl

include h8 in
theorem nrm_at (k : Fin 1024) : k0_pay6 (F := Ideal) v8 (ix2 r k) = ((nrm x k : ℝ) : EReal) := by
  pointwise [k0_pay6, k0_pay4]
  rw [rs_at v8 r x h8, h8, ← EReal.coe_mul]; rfl

include h3 h5 h8 h28 h10 in
theorem dx_at (j : Fin 1024) : k0_pay1 (F := Ideal) (k0_pay5 v8) (k0_pay6 v8) (k0_pay8 v28) (k0_pay9 v3 v5 v10) (k0_pay10 v3 v5 v8 v10) (ix2 r j)
    = ((InSpec.dx z x d1 g w j : ℝ) : EReal) := by
  pointwise [k0_pay1, k0_pay8, k0_pay9, k0_pay10]
  simp only [rs_at v8 r x h8, nrm_at v8 r x h8, dh_at v3 v5 r z w h3 h5, h28, h10, ofBits_inv1024, coe_sum, ← EReal.coe_mul, ← EReal.coe_sub, ← EReal.coe_add]
  refine congrArg _ ?_
  unfold InSpec.dx back
  push_cast
  ring_nf

end Cert.InIdeal.Pay

namespace Cert.InIdeal.Pay

open Cert.InIdeal Cert.InIdeal.Gen Cert.Rows Idealize.ShloMosaic Idealize.ShloMosaic.TcCoe

theorem dg_at (v3 : Vec Ideal S512x4096 .bf16) (v5 : Vec Ideal S4096x1024 .bf16) (v8 : Vec Ideal S512x1024 .f32) (v21 : Vec Ideal S1x1024 .f32)
    (z : Fin 512 → Fin 3232 → ℝ) (x : Fin 512 → Fin 1024 → ℝ) (w : Fin 1024 → Fin 3232 → ℝ) (s : ℝ) (k : Fin 1024)
    (h3 : ∀ r c, v3 (ix2 r c) = ((wide (z r) c : ℝ) : EReal)) (h5 : ∀ c j, v5 (ix2 c j) = ((wide (w j) c : ℝ) : EReal))
    (h8 : ∀ r k, v8 (ix2 r k) = ((x r k : ℝ) : EReal)) (h21 : v21 (ix2 0 k) = ((s : ℝ) : EReal)) :
    k0_pay7 (F := Ideal) v3 v5 v8 v21 (ix2 0 k) = ((s + ∑ r, InSpec.dh (z r) w k * nrm (x r) k : ℝ) : EReal) := by
  pointwise [k0_pay7]
  simp only [fun r => nrm_at v8 r (x r) (h8 r), fun r => dh_at v3 v5 r (z r) w (h3 r) h5, h21, coe_sum, ← EReal.coe_mul, ← EReal.coe_add]

end Cert.InIdeal.Pay

end
-- ==== Proof.InSide.lean ====
/- Arrays laid side by side from the parts of the input projection, read at an index. -/
module

public import proofs.«01_k».proof.Proof.Gen.InIdeal.Skeleton
public import proofs.«01_k».proof.Proof.Cols

@[expose] public section

set_option maxRecDepth 16384

noncomputable section

namespace Cert.InIdeal.Blk

open Cert.InIdeal Cert.InIdeal.Gen Cert.Rows Idealize.ShloMosaic Idealize.ShloMosaic.TcCoe

theorem dcase {p : Prop} [Decidable p] {α : Type*} {A : p → α} {B : ¬p → α} {v : α} (h1 : ∀ h, A h = v) (h2 : ∀ h, B h = v) : dite p A B = v := by
  by_cases h : p
  · exact (dif_pos h).trans (h1 h)
  · exact (dif_neg h).trans (h2 h)

theorem wcongr (f : Fin 3232 → ℝ) (a k : Fin 4096) (h : a.val = k.val) : ((wide f a : ℝ) : EReal) = ((wide f k : ℝ) : EReal) := by
  rw [Fin.ext h]

/-- An array laid side by side from ten, read at an index. -/
theorem side_cols (a0 : FVec Ideal S4096x1024 .bf16) (a1 : FVec Ideal S4096x1024 .bf16) (a2 : FVec Ideal S4096x1024 .bf16) (a3 : FVec Ideal S4096x256 .bf16) (a4 : FVec Ideal S4096x256 .bf16) (a5 : FVec Ideal S4096x256 .bf16) (a6 : FVec Ideal S4096x128 .bf16) (a7 : FVec Ideal S4096x64 .bf16) (a8 : FVec Ideal S4096x32 .bf16) (a9 : FVec Ideal S4096x32 .bf16)
    (hc) (f : Fin 3232 → ℝ) (r : Fin 4096)
    (e0 : ∀ j : Fin 1024, a0 (ix2 r j) = ((wide f ⟨0 + j.val, by omega⟩ : ℝ) : EReal))
    (e1 : ∀ j : Fin 1024, a1 (ix2 r j) = ((wide f ⟨1024 + j.val, by omega⟩ : ℝ) : EReal))
    (e2 : ∀ j : Fin 1024, a2 (ix2 r j) = ((wide f ⟨2048 + j.val, by omega⟩ : ℝ) : EReal))
    (e3 : ∀ j : Fin 256, a3 (ix2 r j) = ((wide f ⟨3072 + j.val, by omega⟩ : ℝ) : EReal))
    (e4 : ∀ j : Fin 256, a4 (ix2 r j) = ((wide f ⟨3328 + j.val, by omega⟩ : ℝ) : EReal))
    (e5 : ∀ j : Fin 256, a5 (ix2 r j) = ((wide f ⟨3584 + j.val, by omega⟩ : ℝ) : EReal))
    (e6 : ∀ j : Fin 128, a6 (ix2 r j) = ((wide f ⟨3840 + j.val, by omega⟩ : ℝ) : EReal))
    (e7 : ∀ j : Fin 64, a7 (ix2 r j) = ((wide f ⟨3968 + j.val, by omega⟩ : ℝ) : EReal))
    (e8 : ∀ j : Fin 32, a8 (ix2 r j) = ((wide f ⟨4032 + j.val, by omega⟩ : ℝ) : EReal))
    (e9 : ∀ j : Fin 32, a9 (ix2 r j) = ((wide f ⟨4064 + j.val, by omega⟩ : ℝ) : EReal)) (k : Fin 4096) :
    (concatenate S4096x4096 1 [⟨S4096x1024, a0⟩, ⟨S4096x1024, a1⟩, ⟨S4096x1024, a2⟩, ⟨S4096x256, a3⟩, ⟨S4096x256, a4⟩, ⟨S4096x256, a5⟩, ⟨S4096x128, a6⟩, ⟨S4096x64, a7⟩, ⟨S4096x32, a8⟩, ⟨S4096x32, a9⟩] hc : FVec Ideal S4096x4096 .bf16) (ix2 r k) = ((wide f k : ℝ) : EReal) := by
  pointwise []
  refine dcase (fun h => (e0 _).trans (wcongr f _ k (by dsimp only; omega))) (fun n0 => ?_)
  refine dcase (fun h => (e1 _).trans (wcongr f _ k (by dsimp only; omega))) (fun n1 => ?_)
  refine dcase (fun h => (e2 _).trans (wcongr f _ k (by dsimp only; omega))) (fun n2 => ?_)
  refine dcase (fun h => (e3 _).trans (wcongr f _ k (by dsimp only; omega))) (fun n3 => ?_)
  refine dcase (fun h => (e4 _).trans (wcongr f _ k (by dsimp only; omega))) (fun n4 => ?_)
  refine dcase (fun h => (e5 _).trans (wcongr f _ k (by dsimp only; omega))) (fun n5 => ?_)
  refine dcase (fun h => (e6 _).trans (wcongr f _ k (by dsimp only; omega))) (fun n6 => ?_)
  refine dcase (fun h => (e7 _).trans (wcongr f _ k (by dsimp only; omega))) (fun n7 => ?_)
  refine dcase (fun h => (e8 _).trans (wcongr f _ k (by dsimp only; omega))) (fun n8 => ?_)
  exact (e9 _).trans (wcongr f _ k (by dsimp only; omega))

/-- An array laid side by side from ten, read at an index. -/
theorem side_rows (a0 : FVec Ideal S1024x1024 .bf16) (a1 : FVec Ideal S1024x1024 .bf16) (a2 : FVec Ideal S1024x1024 .bf16) (a3 : FVec Ideal S256x1024 .bf16) (a4 : FVec Ideal S256x1024 .bf16) (a5 : FVec Ideal S256x1024 .bf16) (a6 : FVec Ideal S128x1024 .bf16) (a7 : FVec Ideal S64x1024 .bf16) (a8 : FVec Ideal S32x1024 .bf16) (a9 : FVec Ideal S32x1024 .bf16)
    (hc) (f : Fin 3232 → ℝ) (r : Fin 1024)
    (e0 : ∀ j : Fin 1024, a0 (ix2 j r) = ((wide f ⟨0 + j.val, by omega⟩ : ℝ) : EReal))
    (e1 : ∀ j : Fin 1024, a1 (ix2 j r) = ((wide f ⟨1024 + j.val, by omega⟩ : ℝ) : EReal))
    (e2 : ∀ j : Fin 1024, a2 (ix2 j r) = ((wide f ⟨2048 + j.val, by omega⟩ : ℝ) : EReal))
    (e3 : ∀ j : Fin 256, a3 (ix2 j r) = ((wide f ⟨3072 + j.val, by omega⟩ : ℝ) : EReal))
    (e4 : ∀ j : Fin 256, a4 (ix2 j r) = ((wide f ⟨3328 + j.val, by omega⟩ : ℝ) : EReal))
    (e5 : ∀ j : Fin 256, a5 (ix2 j r) = ((wide f ⟨3584 + j.val, by omega⟩ : ℝ) : EReal))
    (e6 : ∀ j : Fin 128, a6 (ix2 j r) = ((wide f ⟨3840 + j.val, by omega⟩ : ℝ) : EReal))
    (e7 : ∀ j : Fin 64, a7 (ix2 j r) = ((wide f ⟨3968 + j.val, by omega⟩ : ℝ) : EReal))
    (e8 : ∀ j : Fin 32, a8 (ix2 j r) = ((wide f ⟨4032 + j.val, by omega⟩ : ℝ) : EReal))
    (e9 : ∀ j : Fin 32, a9 (ix2 j r) = ((wide f ⟨4064 + j.val, by omega⟩ : ℝ) : EReal)) (k : Fin 4096) :
    (concatenate S4096x1024 0 [⟨S1024x1024, a0⟩, ⟨S1024x1024, a1⟩, ⟨S1024x1024, a2⟩, ⟨S256x1024, a3⟩, ⟨S256x1024, a4⟩, ⟨S256x1024, a5⟩, ⟨S128x1024, a6⟩, ⟨S64x1024, a7⟩, ⟨S32x1024, a8⟩, ⟨S32x1024, a9⟩] hc : FVec Ideal S4096x1024 .bf16) (ix2 k r) = ((wide f k : ℝ) : EReal) := by
  pointwise []
  refine dcase (fun h => (e0 _).trans (wcongr f _ k (by dsimp only; omega))) (fun n0 => ?_)
  refine dcase (fun h => (e1 _).trans (wcongr f _ k (by dsimp only; omega))) (fun n1 => ?_)
  refine dcase (fun h => (e2 _).trans (wcongr f _ k (by dsimp only; omega))) (fun n2 => ?_)
  refine dcase (fun h => (e3 _).trans (wcongr f _ k (by dsimp only; omega))) (fun n3 => ?_)
  refine dcase (fun h => (e4 _).trans (wcongr f _ k (by dsimp only; omega))) (fun n4 => ?_)
  refine dcase (fun h => (e5 _).trans (wcongr f _ k (by dsimp only; omega))) (fun n5 => ?_)
  refine dcase (fun h => (e6 _).trans (wcongr f _ k (by dsimp only; omega))) (fun n6 => ?_)
  refine dcase (fun h => (e7 _).trans (wcongr f _ k (by dsimp only; omega))) (fun n7 => ?_)
  refine dcase (fun h => (e8 _).trans (wcongr f _ k (by dsimp only; omega))) (fun n8 => ?_)
  exact (e9 _).trans (wcongr f _ k (by dsimp only; omega))

end Cert.InIdeal.Blk

end
-- ==== Proof.InBlocks.lean ====
/- What the input norm's blocks hold, at the arguments' entries. -/
module

public import proofs.«01_k».proof.Proof.Gen.InIdeal.Value
public import proofs.«01_k».proof.Proof.InPay
public import proofs.«01_k».proof.Proof.InSide
public import proofs.«01_k».proof.Proof.Tokens
public import Idealize.ShloMosaic.Lib.Claim
public import Idealize.ShloMosaic.Lib.Pipeline.ValueKit

@[expose] public section

set_option maxRecDepth 16384

noncomputable section

namespace Cert.InIdeal.Blk

open Cert.InIdeal Cert.InIdeal.Gen Cert.Rows Idealize.ShloMosaic Idealize.ShloMosaic.TcCoe

variable (m : (ℓ : Loc nD τ sig) → Buf (Elt Ideal) ℓ) (c : Dev nD)
  (x d1 : Fin 2 → Fin 2048 → Fin 1024 → ℝ) (z : Fin 2 → Fin 2048 → Fin 3232 → ℝ) (g : Fin 1024 → ℝ) (w : Fin 1024 → Fin 3232 → ℝ)
  (h0 : ∀ b s k, (m ((c : Thread nD τ).loc main_arg0) : FVec Ideal S2x2048x1024 .f32) (ix3 b s k) = ((x b s k : ℝ) : EReal))
  (h1 : ∀ b s k, (m ((c : Thread nD τ).loc main_arg1) : FVec Ideal S2x2048x1024 .f32) (ix3 b s k) = ((d1 b s k : ℝ) : EReal))
  (h2 : ∀ b s k, (m ((c : Thread nD τ).loc main_arg2) : FVec Ideal S2x2048x3232 .f32) (ix3 b s k) = ((z b s k : ℝ) : EReal))
  (h3 : ∀ k, (m ((c : Thread nD τ).loc main_arg3) : FVec Ideal S1x1024 .f32) (ix2 0 k) = ((g k : ℝ) : EReal))
  (h4 : ∀ j k, (m ((c : Thread nD τ).loc main_arg4) : FVec Ideal S1x1024x3232 .f32) (ix3 0 j k) = ((w j k : ℝ) : EReal))

theorem tb_eq (t : Fin cfg0.N) (r : Fin 512) (h : (t.val * 512 + r.val) / 2048 < 2) : (⟨(t.val * 512 + r.val) / 2048, h⟩ : Fin 2) = tb t.val r :=
  Fin.ext (Nat.mod_eq_of_lt h).symm

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0] :=
  (by decide +kernel : ∀ t : Fin grid0.N, _)

/-- Row `r` of the block at point `t`. -/
def tr (t : Fin cfg0.N) (r : Fin 512) : Fin 4096 := ⟨t.val * 512 + r.val, by have := t.isLt; have : cfg0.N = 8 := N_0; omega⟩

/-- A zero pad's value. -/
theorem pad_zero : FloatOps.sitofp (F := Ideal) .bf16 (0#32 : BitVec 32) = ((0 : ℝ) : EReal) := by
  simp [FloatOps.sitofp]

include h2 in
/-- An entry of the projection's gradient, at its place in the wide order. -/
theorem col_at (t : Fin cfg0.N) (r : Fin 512) (q : Fin 3232) (C : Fin 4096) (e : src C.val = q.val) (hb hs) :
    (m ((c : Thread nD τ).loc main_arg2) : FVec Ideal S2x2048x3232 .f32) (ix3 ⟨(tr t r).val / 2048, hb⟩ ⟨(tr t r).val % 2048, hs⟩ q)
      = ((wide (z (tb t.val r) (ts t.val r)) C : ℝ) : EReal) := by
  rw [wide_of _ C q.val q.isLt e]
  exact (congrArg _ (congrArg (ix3 · (ts t.val r) q) (tb_eq t r _))).trans (h2 _ _ _)

include h4 in
/-- An entry of the projection's weight, at its place in the wide order. -/
theorem row_at (j : Fin 1024) (q : Fin 3232) (C : Fin 4096) (e : src C.val = q.val) :
    (m ((c : Thread nD τ).loc main_arg4) : FVec Ideal S1x1024x3232 .f32) (ix3 0 j q) = ((wide (w j) C : ℝ) : EReal) := by
  rw [wide_of _ C q.val q.isLt e]
  exact h4 _ _

include h0 in
theorem read1 (t : Fin cfg0.N) (r : Fin 512) (k : Fin 1024) :
    iblk m c 1 t (ix2 r k) = ((x (tb t.val r) (ts t.val r) k : ℝ) : EReal) := by
  blk_simp [iblk, idx t]
  have e : (win0_1.blk t).view.emb (ix2 r k) = (ix2 (tr t r) k : S4096x1024.Idx) := by blk_ext [idx t, tr]
  rw [e]
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  after_results_simp
  pointwise []
  try simp only [StableHlo.TRef.toBuf, StableHlo.TRef.ofBuf, cast_eq]
  try pointwise []
  exact (congrArg _ (congrArg (ix3 · (ts t.val r) k) (tb_eq t r _))).trans (h0 _ _ _)

include h1 in
theorem read2 (t : Fin cfg0.N) (r : Fin 512) (k : Fin 1024) :
    iblk m c 2 t (ix2 r k) = ((d1 (tb t.val r) (ts t.val r) k : ℝ) : EReal) := by
  blk_simp [iblk, idx t]
  have e : (win0_2.blk t).view.emb (ix2 r k) = (ix2 (tr t r) k : S4096x1024.Idx) := by blk_ext [idx t, tr]
  rw [e]
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  after_results_simp
  pointwise []
  try simp only [StableHlo.TRef.toBuf, StableHlo.TRef.ofBuf, cast_eq]
  try pointwise []
  exact (congrArg _ (congrArg (ix3 · (ts t.val r) k) (tb_eq t r _))).trans (h1 _ _ _)

include h3 in
theorem read3 (t : Fin cfg0.N) (k : Fin 1024) :
    iblk m c 3 t (ix2 0 k) = ((g k : ℝ) : EReal) := by
  blk_simp [iblk, idx t]
  have e : (win0_3.blk t).view.emb (ix2 0 k) = (ix2 0 k : S1x1024.Idx) := by blk_ext [idx t, tr]
  rw [e]
  entry_read
  pointwise []
  exact h3 _

end Cert.InIdeal.Blk

end
-- ==== Proof.InCols.lean ====
/- What the input norm's block of the projection's gradient holds, at the arguments' entries. -/
module

public import proofs.«01_k».proof.Proof.InBlocks
public import proofs.«01_k».proof.Proof.InSide

@[expose] public section

set_option maxRecDepth 16384

noncomputable section

namespace Cert.InIdeal.Blk

open Cert.InIdeal Cert.InIdeal.Gen Cert.Rows Idealize.ShloMosaic Idealize.ShloMosaic.TcCoe

variable (m : (ℓ : Loc nD τ sig) → Buf (Elt Ideal) ℓ) (c : Dev nD)
  (x d1 : Fin 2 → Fin 2048 → Fin 1024 → ℝ) (z : Fin 2 → Fin 2048 → Fin 3232 → ℝ) (g : Fin 1024 → ℝ) (w : Fin 1024 → Fin 3232 → ℝ)
  (h0 : ∀ b s k, (m ((c : Thread nD τ).loc main_arg0) : FVec Ideal S2x2048x1024 .f32) (ix3 b s k) = ((x b s k : ℝ) : EReal))
  (h1 : ∀ b s k, (m ((c : Thread nD τ).loc main_arg1) : FVec Ideal S2x2048x1024 .f32) (ix3 b s k) = ((d1 b s k : ℝ) : EReal))
  (h2 : ∀ b s k, (m ((c : Thread nD τ).loc main_arg2) : FVec Ideal S2x2048x3232 .f32) (ix3 b s k) = ((z b s k : ℝ) : EReal))
  (h3 : ∀ k, (m ((c : Thread nD τ).loc main_arg3) : FVec Ideal S1x1024 .f32) (ix2 0 k) = ((g k : ℝ) : EReal))
  (h4 : ∀ j k, (m ((c : Thread nD τ).loc main_arg4) : FVec Ideal S1x1024x3232 .f32) (ix3 0 j k) = ((w j k : ℝ) : EReal))

set_option maxHeartbeats 4000000 in
include h2 in
theorem read0 (t : Fin cfg0.N) (r : Fin 512) (k : Fin 4096) :
    iblk m c 0 t (ix2 r k) = ((wide (z (tb t.val r) (ts t.val r)) k : ℝ) : EReal) := by
  blk_simp [iblk, idx t]
  have e : (win0_0.blk t).view.emb (ix2 r k) = (ix2 (tr t r) k : S4096x4096.Idx) := by blk_ext [idx t, tr]
  rw [e]
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  after_results_simp
  refine side_cols _ _ _ _ _ _ _ _ _ _ _ _ _ ?_ ?_ ?_ ?_ ?_ ?_ ?_ ?_ ?_ ?_ _
  · intro j
    simp only [Matrix.cons_val]
    after_results_simp
    pointwise []
    try simp only [StableHlo.TRef.toBuf, StableHlo.TRef.ofBuf, cast_eq]
    try pointwise []
    exact col_at m c z h2 t r _ _ (by dsimp only; unfold src; split_ifs <;> omega) _ _
  · intro j
    simp only [Matrix.cons_val]
    after_results_simp
    pointwise []
    try simp only [StableHlo.TRef.toBuf, StableHlo.TRef.ofBuf, cast_eq]
    try pointwise []
    exact col_at m c z h2 t r _ _ (by dsimp only; unfold src; split_ifs <;> omega) _ _
  · intro j
    simp only [Matrix.cons_val]
    after_results_simp
    pointwise []
    try simp only [StableHlo.TRef.toBuf, StableHlo.TRef.ofBuf, cast_eq]
    try pointwise []
    split_ifs with h
    · exact col_at m c z h2 t r _ _ (by dsimp only; unfold src; split_ifs <;> omega) _ _
    · rw [wide_pad _ _ (by dsimp only; unfold src; split_ifs <;> omega), pad_zero]
  · intro j
    simp only [Matrix.cons_val]
    after_results_simp
    pointwise []
    try simp only [StableHlo.TRef.toBuf, StableHlo.TRef.ofBuf, cast_eq]
    try pointwise []
    exact col_at m c z h2 t r _ _ (by dsimp only; unfold src; split_ifs <;> omega) _ _
  · intro j
    simp only [Matrix.cons_val]
    after_results_simp
    pointwise []
    try simp only [StableHlo.TRef.toBuf, StableHlo.TRef.ofBuf, cast_eq]
    try pointwise []
    split_ifs with h
    · exact col_at m c z h2 t r _ _ (by dsimp only; unfold src; split_ifs <;> omega) _ _
    · rw [wide_pad _ _ (by dsimp only; unfold src; split_ifs <;> omega), pad_zero]
  · intro j
    simp only [Matrix.cons_val]
    after_results_simp
    pointwise []
    try simp only [StableHlo.TRef.toBuf, StableHlo.TRef.ofBuf, cast_eq]
    try pointwise []
    split_ifs with h
    · exact col_at m c z h2 t r _ _ (by dsimp only; unfold src; split_ifs <;> omega) _ _
    · rw [wide_pad _ _ (by dsimp only; unfold src; split_ifs <;> omega), pad_zero]
  · intro j
    simp only [Matrix.cons_val]
    after_results_simp
    pointwise []
    try simp only [StableHlo.TRef.toBuf, StableHlo.TRef.ofBuf, cast_eq]
    try pointwise []
    exact col_at m c z h2 t r _ _ (by dsimp only; unfold src; split_ifs <;> omega) _ _
  · intro j
    simp only [Matrix.cons_val]
    after_results_simp
    pointwise []
    try simp only [StableHlo.TRef.toBuf, StableHlo.TRef.ofBuf, cast_eq]
    try pointwise []
    rw [wide_pad _ _ (by dsimp only; unfold src; split_ifs <;> omega)]
    first | rfl | exact EReal.coe_zero.symm | simp
  · intro j
    simp only [Matrix.cons_val]
    after_results_simp
    pointwise []
    try simp only [StableHlo.TRef.toBuf, StableHlo.TRef.ofBuf, cast_eq]
    try pointwise []
    exact col_at m c z h2 t r _ _ (by dsimp only; unfold src; split_ifs <;> omega) _ _
  · intro j
    simp only [Matrix.cons_val]
    after_results_simp
    pointwise []
    try simp only [StableHlo.TRef.toBuf, StableHlo.TRef.ofBuf, cast_eq]
    try pointwise []
    rw [wide_pad _ _ (by dsimp only; unfold src; split_ifs <;> omega)]
    first | rfl | exact EReal.coe_zero.symm | simp

end Cert.InIdeal.Blk

end
-- ==== Proof.InRows.lean ====
/- What the input norm's block of the projection's weight holds, at the arguments' entries. -/
module

public import proofs.«01_k».proof.Proof.InBlocks
public import proofs.«01_k».proof.Proof.InSide

@[expose] public section

set_option maxRecDepth 16384

noncomputable section

namespace Cert.InIdeal.Blk

open Cert.InIdeal Cert.InIdeal.Gen Cert.Rows Idealize.ShloMosaic Idealize.ShloMosaic.TcCoe

variable (m : (ℓ : Loc nD τ sig) → Buf (Elt Ideal) ℓ) (c : Dev nD)
  (x d1 : Fin 2 → Fin 2048 → Fin 1024 → ℝ) (z : Fin 2 → Fin 2048 → Fin 3232 → ℝ) (g : Fin 1024 → ℝ) (w : Fin 1024 → Fin 3232 → ℝ)
  (h0 : ∀ b s k, (m ((c : Thread nD τ).loc main_arg0) : FVec Ideal S2x2048x1024 .f32) (ix3 b s k) = ((x b s k : ℝ) : EReal))
  (h1 : ∀ b s k, (m ((c : Thread nD τ).loc main_arg1) : FVec Ideal S2x2048x1024 .f32) (ix3 b s k) = ((d1 b s k : ℝ) : EReal))
  (h2 : ∀ b s k, (m ((c : Thread nD τ).loc main_arg2) : FVec Ideal S2x2048x3232 .f32) (ix3 b s k) = ((z b s k : ℝ) : EReal))
  (h3 : ∀ k, (m ((c : Thread nD τ).loc main_arg3) : FVec Ideal S1x1024 .f32) (ix2 0 k) = ((g k : ℝ) : EReal))
  (h4 : ∀ j k, (m ((c : Thread nD τ).loc main_arg4) : FVec Ideal S1x1024x3232 .f32) (ix3 0 j k) = ((w j k : ℝ) : EReal))

set_option maxHeartbeats 4000000 in
include h4 in
theorem read4 (t : Fin cfg0.N) (k : Fin 4096) (j : Fin 1024) :
    iblk m c 4 t (ix2 k j) = ((wide (w j) k : ℝ) : EReal) := by
  blk_simp [iblk, idx t]
  have e : (win0_4.blk t).view.emb (ix2 k j) = (ix2 k j : S4096x1024.Idx) := by blk_ext [idx t]
  rw [e]
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.cons_append, List.nil_append, List.append_nil]
  after_results_simp
  refine side_rows _ _ _ _ _ _ _ _ _ _ _ _ _ ?_ ?_ ?_ ?_ ?_ ?_ ?_ ?_ ?_ ?_ _
  · intro i
    simp only [Matrix.cons_val]
    after_results_simp
    pointwise []
    try simp only [StableHlo.TRef.toBuf, StableHlo.TRef.ofBuf, cast_eq]
    try pointwise []
    exact row_at m c w h4 _ _ _ (by dsimp only; unfold src; split_ifs <;> omega)
  · intro i
    simp only [Matrix.cons_val]
    after_results_simp
    pointwise []
    try simp only [StableHlo.TRef.toBuf, StableHlo.TRef.ofBuf, cast_eq]
    try pointwise []
    exact row_at m c w h4 _ _ _ (by dsimp only; unfold src; split_ifs <;> omega)
  · intro i
    simp only [Matrix.cons_val]
    after_results_simp
    pointwise []
    try simp only [StableHlo.TRef.toBuf, StableHlo.TRef.ofBuf, cast_eq]
    try pointwise []
    split_ifs with h
    · exact row_at m c w h4 _ _ _ (by dsimp only; unfold src; split_ifs <;> omega)
    · rw [wide_pad _ _ (by dsimp only; unfold src; split_ifs <;> omega), pad_zero]
  · intro i
    simp only [Matrix.cons_val]
    after_results_simp
    pointwise []
    try simp only [StableHlo.TRef.toBuf, StableHlo.TRef.ofBuf, cast_eq]
    try pointwise []
    exact row_at m c w h4 _ _ _ (by dsimp only; unfold src; split_ifs <;> omega)
  · intro i
    simp only [Matrix.cons_val]
    after_results_simp
    pointwise []
    try simp only [StableHlo.TRef.toBuf, StableHlo.TRef.ofBuf, cast_eq]
    try pointwise []
    split_ifs with h
    · exact row_at m c w h4 _ _ _ (by dsimp only; unfold src; split_ifs <;> omega)
    · rw [wide_pad _ _ (by dsimp only; unfold src; split_ifs <;> omega), pad_zero]
  · intro i
    simp only [Matrix.cons_val]
    after_results_simp
    pointwise []
    try simp only [StableHlo.TRef.toBuf, StableHlo.TRef.ofBuf, cast_eq]
    try pointwise []
    split_ifs with h
    · exact row_at m c w h4 _ _ _ (by dsimp only; unfold src; split_ifs <;> omega)
    · rw [wide_pad _ _ (by dsimp only; unfold src; split_ifs <;> omega), pad_zero]
  · intro i
    simp only [Matrix.cons_val]
    after_results_simp
    pointwise []
    try simp only [StableHlo.TRef.toBuf, StableHlo.TRef.ofBuf, cast_eq]
    try pointwise []
    exact row_at m c w h4 _ _ _ (by dsimp only; unfold src; split_ifs <;> omega)
  · intro i
    simp only [Matrix.cons_val]
    after_results_simp
    pointwise []
    try simp only [StableHlo.TRef.toBuf, StableHlo.TRef.ofBuf, cast_eq]
    try pointwise []
    rw [wide_pad _ _ (by dsimp only; unfold src; split_ifs <;> omega)]
    first | rfl | exact EReal.coe_zero.symm | simp
  · intro i
    simp only [Matrix.cons_val]
    after_results_simp
    pointwise []
    try simp only [StableHlo.TRef.toBuf, StableHlo.TRef.ofBuf, cast_eq]
    try pointwise []
    exact row_at m c w h4 _ _ _ (by dsimp only; unfold src; split_ifs <;> omega)
  · intro i
    simp only [Matrix.cons_val]
    after_results_simp
    pointwise []
    try simp only [StableHlo.TRef.toBuf, StableHlo.TRef.ofBuf, cast_eq]
    try pointwise []
    rw [wide_pad _ _ (by dsimp only; unfold src; split_ifs <;> omega)]
    first | rfl | exact EReal.coe_zero.symm | simp

end Cert.InIdeal.Blk

end
-- ==== Proof.InFin.lean ====
/- The arrays the input norm's backward kernel leaves, from their entries. -/
module

public import proofs.«01_k».proof.Proof.InCols
public import proofs.«01_k».proof.Proof.InRows

@[expose] public section

set_option maxRecDepth 16384

noncomputable section

namespace Cert.InIdeal.Out

open Cert.InIdeal Cert.InIdeal.Gen Cert.InIdeal.Blk Cert.Rows Idealize.ShloMosaic Idealize.ShloMosaic.TcCoe

variable (m : (ℓ : Loc nD τ sig) → Buf (Elt Ideal) ℓ) (c : Dev nD)
  (x d1 : Fin 2 → Fin 2048 → Fin 1024 → ℝ) (z : Fin 2 → Fin 2048 → Fin 3232 → ℝ) (g : Fin 1024 → ℝ) (w : Fin 1024 → Fin 3232 → ℝ)
  (h0 : ∀ b s k, (m ((c : Thread nD τ).loc main_arg0) : FVec Ideal S2x2048x1024 .f32) (ix3 b s k) = ((x b s k : ℝ) : EReal))
  (h1 : ∀ b s k, (m ((c : Thread nD τ).loc main_arg1) : FVec Ideal S2x2048x1024 .f32) (ix3 b s k) = ((d1 b s k : ℝ) : EReal))
  (h2 : ∀ b s k, (m ((c : Thread nD τ).loc main_arg2) : FVec Ideal S2x2048x3232 .f32) (ix3 b s k) = ((z b s k : ℝ) : EReal))
  (h3 : ∀ k, (m ((c : Thread nD τ).loc main_arg3) : FVec Ideal S1x1024 .f32) (ix2 0 k) = ((g k : ℝ) : EReal))
  (h4 : ∀ j k, (m ((c : Thread nD τ).loc main_arg4) : FVec Ideal S1x1024x3232 .f32) (ix3 0 j k) = ((w j k : ℝ) : EReal))

include h0 h1 h2 h3 h4 in
theorem out5 (t : Fin cfg0.N) (r : Fin 512) (k : Fin 1024) : (outsAt0 m c t.val t.isLt).1 (ix2 r k)
    = ((InSpec.dx (z (tb t.val r) (ts t.val r)) (x (tb t.val r) (ts t.val r)) (d1 (tb t.val r) (ts t.val r)) g w k : ℝ) : EReal) := by
  by_cases h : t.val % 8 = 0
  · rw [outsAt0_A m c t h]
    frame_out
    exact Pay.dx_at _ _ _ _ _ r _ _ _ _ _ (read0 m c z h2 t r) (read4 m c w h4 t) (read1 m c x h0 t r) (read2 m c d1 h1 t r) (read3 m c g h3 t) k
  · rw [outsAt0_B m c t h]
    frame_out
    exact Pay.dx_at _ _ _ _ _ r _ _ _ _ _ (read0 m c z h2 t r) (read4 m c w h4 t) (read1 m c x h0 t r) (read2 m c d1 h1 t r) (read3 m c g h3 t) k

/-- A token's part of the gain's gradient. -/
abbrev dgrow (k : Fin 1024) (b : Fin 2) (s : Fin 2048) : ℝ := InSpec.dh (z b s) w k * nrm (x b s) k

/-- What the tokens of one block add to the row. -/
def blockSum (F : Fin 2 → Fin 2048 → ℝ) (u : ℕ) : ℝ := ∑ r : Fin 512, F (tb u r) (ts u r)

include h0 h2 h4 in
theorem first (t : Fin cfg0.N) (h : t.val % 8 = 0) (k : Fin 1024) : (outsAt0 m c t.val t.isLt).2 (ix2 0 k)
    = ((0 + blockSum (dgrow x z w k) t.val : ℝ) : EReal) := by
  rw [outsAt0_A m c t h]
  frame_out
  refine Pay.dg_at _ _ _ _ (fun r => z (tb t.val r) (ts t.val r)) (fun r => x (tb t.val r) (ts t.val r)) w _ k (read0 m c z h2 t) (read4 m c w h4 t) (read1 m c x h0 t) ?_
  pointwise [k0_pay2]
  exact EReal.coe_zero.symm

include h0 h2 h4 in
theorem next (t : Fin cfg0.N) (h : ¬t.val % 8 = 0) (k : Fin 1024) (v : ℝ)
    (hz : (outsAt0 m c (t.val - 1) (by have := t.isLt; omega)).2 (ix2 0 k) = ((v : ℝ) : EReal)) :
    (outsAt0 m c t.val t.isLt).2 (ix2 0 k) = ((v + blockSum (dgrow x z w k) t.val : ℝ) : EReal) := by
  rw [outsAt0_B m c t h]
  frame_out
  refine Pay.dg_at _ _ _ _ (fun r => z (tb t.val r) (ts t.val r)) (fun r => x (tb t.val r) (ts t.val r)) w _ k (read0 m c z h2 t) (read4 m c w h4 t) (read1 m c x h0 t) ?_
  exact hz

include h0 h2 h4 in
theorem stat (n : ℕ) (hn : n < cfg0.N) (k : Fin 1024) : (outsAt0 m c n hn).2 (ix2 0 k)
    = ((∑ u ∈ Finset.range (n + 1), blockSum (dgrow x z w k) u : ℝ) : EReal) := by
  induction n with
  | zero =>
    rw [Finset.sum_range_succ, Finset.sum_range_zero]
    exact first m c x z w h0 h2 h4 ⟨0, hn⟩ rfl k
  | succ n ih =>
    rw [Finset.sum_range_succ]
    have hN : cfg0.N = 8 := N_0
    exact next m c x z w h0 h2 h4 ⟨n + 1, hn⟩ (by show ¬(n + 1) % 8 = 0; omega) k _ (ih _)

theorem row (t : Fin cfg0.N) (r : Fin 512) : tb t.val r = qb (tr t r) ∧ ts t.val r = qs (tr t r) :=
  ⟨tb_qb _ _ _, rfl⟩

include h0 h1 h2 h3 h4 in
theorem fin5 (G : FVec Ideal S4096x1024 .f32) (hG : ∀ (q : Fin 4096) (k : Fin 1024), G (ix2 q k) = ((InSpec.dx (z (qb q) (qs q)) (x (qb q) (qs q)) (d1 (qb q) (qs q)) g w k : ℝ) : EReal)) :
    (dats m 0 c).arrAt 5 (cfgs 0).N = G := by
  refine (dats m 0 c).arrAt_eq_of_covers 5 _ (by decide +kernel) fun t hf y => ?_
  blk_simp
  rw [after0_5]
  idx_vars y
  have e : (win0_5.blk t).view.emb (ix2 y0 y1) = (ix2 (tr t y0) y1 : S4096x1024.Idx) := by blk_ext [idx t, tr]
  rw [e]
  refine (out5 m c x d1 z g w h0 h1 h2 h3 h4 t y0 y1).trans (Eq.trans ?_ (hG (tr t y0) y1).symm)
  rw [(row t y0).1, (row t y0).2]

include h0 h2 h4 in
theorem fin6 (G : FVec Ideal S1x1024 .f32) (hG : ∀ k, G (ix2 0 k) = ((∑ b, ∑ s, dgrow x z w k b s : ℝ) : EReal)) :
    (dats m 0 c).arrAt 6 (cfgs 0).N = G := by
  refine (dats m 0 c).arrAt_eq_of_after_last 6 t0_7 (by decide +kernel) _ fun j => ?_
  blk_simp
  rw [after0_6]
  idx_vars j
  obtain rfl : j0 = 0 := Subsingleton.elim _ _
  have hL : (t0_7 : Fin cfg0.N).val + 1 = 8 := rfl
  refine (stat m c x z w h0 h2 h4 _ _ j1).trans (Eq.trans (congrArg _ ?_) (hG j1).symm)
  rw [hL]; exact sum_tokens (dgrow x z w j1)

end Cert.InIdeal.Out

end
-- ==== Proof.InRef.lean ====
/- What the reference computes for the gradients through the norm before the input projection, read at an index. -/
module

public import proofs.«01_k».proof.Proof.Gen.InRefIdeal.Run
public import proofs.«01_k».proof.Proof.InPay
public import proofs.«01_k».proof.Proof.Tokens
public import proofs.«01_k».proof.Proof.SumAxes

@[expose] public section

set_option maxRecDepth 16384

noncomputable section

namespace Cert.InRefIdeal.At

open Cert.InRefIdeal Cert.InRefIdeal.Gen Cert.InRefIdeal.Value Cert.Rows Idealize.ShloMosaic Idealize.ShloMosaic.TcCoe

section Terms
variable {F : FTy → Type} [FloatOps F] (m : (ℓ : Loc nD τ sig) → Buf (Elt F) ℓ) (c : Dev nD)

/-- The mean of a row's squares, with the small constant. -/
def msT : FVec F S2x2048x1 .f32 :=
  addf (Host.divf (broadcastInDim S2x2048x1 ![0, 1] bcast_S2x2048_S2x2048x1_0_1 (Host.reduceAdd (mulf (m ((c.tc : Thread nD τ).loc main_arg0)) (m ((c.tc : Thread nD τ).loc main_arg0))) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))

/-- Its inverse square root. -/
def rsT : FVec F S2x2048x1 .f32 :=
  Host.rsqrt (msT m c)

/-- The gradient of the normalised and scaled rows. -/
def dhT : FVec F S2x2048x1024 .f32 :=
  Host.dotGeneral dot_S2x2048x3232_S1024x3232_S2x2048x1024_2_1_01_0_n_n none (m ((c.tc : Thread nD τ).loc main_arg2)) (shapeCast _ (m ((c.tc : Thread nD τ).loc main_arg4)) shapeCasts_S1x1024x3232_S1024x3232)

/-- The gradient of the normalised rows. -/
def dgT : FVec F S2x2048x1024 .f32 :=
  mulf (dhT m c) (broadcastInDim S2x2048x1024 ![0, 1, 2] bcast_S1x1x1024_S2x2048x1024_0_1_2 (broadcastInDim S1x1x1024 ![2] bcast_S1024_S1x1x1024_2 (shapeCast _ (m ((c.tc : Thread nD τ).loc main_arg3)) shapeCasts_S1x1024_S1024)))

/-- The factor of a row in what comes through its square. -/
def kT : FVec F S2x2048x1024 .f32 :=
  broadcastInDim S2x2048x1024 ![0, 1] bcast_S2x2048_S2x2048x1024_0_1 (Host.reduceAdd (Host.divf (mulf (shapeCast _ (Host.reduceAdd (mulf (m ((c.tc : Thread nD τ).loc main_arg0)) (dgT m c)) (constant S_ .f32 0x00000000#32) reducesTo_S2x2048x1024_S2x2048_d2 h_S_) shapeCasts_S2x2048_S2x2048x1) (mulf (broadcastInDim S2x2048x1 ![] bcast_S_S2x2048x1 (constant S_ .f32 0xBF000000#32)) (Host.divf (rsT m c) (msT m c)))) (broadcastInDim S2x2048x1 ![] bcast_S_S2x2048x1 (constant S_ .f32 0x44800000#32))) (constant S_ .f32 0x00000000#32) reducesTo_S2x2048x1_S2x2048_d2 h_S_)

/-- The gradients of the rows and of the gain, as the program returns them. -/
def xT : FVec F S4096x1024 .f32 :=
  shapeCast _ (addf (addf (addf (m ((c.tc : Thread nD τ).loc main_arg1)) (mulf (dgT m c) (broadcastInDim S2x2048x1024 ![0, 1, 2] bcast_S2x2048x1_S2x2048x1024_0_1_2 (rsT m c)))) (mulf (m ((c.tc : Thread nD τ).loc main_arg0)) (kT m c))) (mulf (kT m c) (m ((c.tc : Thread nD τ).loc main_arg0)))) shapeCasts_S2x2048x1024_S4096x1024

def gT : FVec F S1x1024 .f32 :=
  broadcastInDim S1x1024 ![1] bcast_S1024_S1x1024_1 (Host.reduceAdd (shapeCast _ (Host.reduceAdd (mulf (mulf (m ((c.tc : Thread nD τ).loc main_arg0)) (broadcastInDim S2x2048x1024 ![0, 1, 2] bcast_S2x2048x1_S2x2048x1024_0_1_2 (rsT m c))) (dhT m c)) (constant S_ .f32 0x00000000#32) reducesTo_S2x2048x1024_S1024_d0_1 h_S_) shapeCasts_S1024_S1x1x1024) (constant S_ .f32 0x00000000#32) reducesTo_S1x1x1024_S1024_d0_1 h_S_)

theorem x_term : res_main_v42 m c = xT m c := by
  unfold res_main_v42 xT kT dgT dhT rsT msT; rfl

end Terms

theorem w_at (a : FVec Ideal S1x1024x3232 .f32) (w : Fin 1024 → Fin 3232 → ℝ)
    (h4 : ∀ j k, a (ix3 0 j k) = ((w j k : ℝ) : EReal)) (j : Fin 1024) (k : Fin 3232) :
    (shapeCast S1024x3232 a shapeCasts_S1x1024x3232_S1024x3232 : FVec Ideal S1024x3232 .f32) (ix2 j k) = ((w j k : ℝ) : EReal) := by
  pointwise []
  exact h4 _ _

theorem dot_at (a : FVec Ideal S2x2048x3232 .f32) (v : FVec Ideal S1024x3232 .f32) (z : Fin 2 → Fin 2048 → Fin 3232 → ℝ) (w : Fin 1024 → Fin 3232 → ℝ)
    (h2 : ∀ b s k, a (ix3 b s k) = ((z b s k : ℝ) : EReal)) (h4 : ∀ j k, v (ix2 j k) = ((w j k : ℝ) : EReal)) (b : Fin 2) (s : Fin 2048) (k : Fin 1024) :
    (Host.dotGeneral dot_S2x2048x3232_S1024x3232_S2x2048x1024_2_1_01_0_n_n none a v : FVec Ideal S2x2048x1024 .f32) (ix3 b s k) = ((InSpec.dh (z b s) w k : ℝ) : EReal) := by
  pointwise []
  simp only [h2, h4, coe_sum, ← EReal.coe_mul]; rfl

theorem rows_at (a : FVec Ideal S2x2048x1024 .f32) (q : Fin 4096) (k : Fin 1024) :
    (shapeCast S4096x1024 a shapeCasts_S2x2048x1024_S4096x1024 : FVec Ideal S4096x1024 .f32) (ix2 q k) = a (ix3 (qb q) (qs q) k) := by
  pointwise []
  rfl

variable (m : (ℓ : Loc nD τ sig) → Buf (Elt Ideal) ℓ) (c : Dev nD)
  (x d1 : Fin 2 → Fin 2048 → Fin 1024 → ℝ) (z : Fin 2 → Fin 2048 → Fin 3232 → ℝ) (g : Fin 1024 → ℝ) (w : Fin 1024 → Fin 3232 → ℝ)
  (h0 : ∀ b s k, (m ((c : Thread nD τ).loc main_arg0) : FVec Ideal S2x2048x1024 .f32) (ix3 b s k) = ((x b s k : ℝ) : EReal))
  (h1 : ∀ b s k, (m ((c : Thread nD τ).loc main_arg1) : FVec Ideal S2x2048x1024 .f32) (ix3 b s k) = ((d1 b s k : ℝ) : EReal))
  (h2 : ∀ b s k, (m ((c : Thread nD τ).loc main_arg2) : FVec Ideal S2x2048x3232 .f32) (ix3 b s k) = ((z b s k : ℝ) : EReal))
  (h3 : ∀ k, (m ((c : Thread nD τ).loc main_arg3) : FVec Ideal S1x1024 .f32) (ix2 0 k) = ((g k : ℝ) : EReal))
  (h4 : ∀ j k, (m ((c : Thread nD τ).loc main_arg4) : FVec Ideal S1x1024x3232 .f32) (ix3 0 j k) = ((w j k : ℝ) : EReal))
  (b : Fin 2) (s : Fin 2048)

include h0 in
theorem ms_at : msT (F := Ideal) m c (ix3 b s 0) = ((ms (x b s) : ℝ) : EReal) := by
  pointwise [msT]
  simp only [h0, ofBits_1024, ofBits_eps, zero_add, coe_sum, ← EReal.coe_mul, div_real _ (by norm_num : (1024 : ℝ) ≠ 0), ← EReal.coe_add]
  unfold ms; push_cast; rfl

include h0 in
theorem rs_at : rsT (F := Ideal) m c (ix3 b s 0) = ((rs (x b s) : ℝ) : EReal) := by
  pointwise [rsT]
  rw [ms_at m c x h0, rsqrt_real (ms_pos _)]; rfl

include h2 h4 in
theorem dh_at (k : Fin 1024) : dhT (F := Ideal) m c (ix3 b s k) = ((InSpec.dh (z b s) w k : ℝ) : EReal) := by
  unfold dhT
  exact dot_at _ _ z w h2 (w_at _ w h4) b s k

include h2 h3 h4 in
theorem dg_at (k : Fin 1024) : dgT (F := Ideal) m c (ix3 b s k) = ((InSpec.dh (z b s) w k * g k : ℝ) : EReal) := by
  pointwise [dgT]
  rw [dh_at m c z w h2 h4, h3, ← EReal.coe_mul]

include h0 h2 h3 h4 in
theorem k_at (k : Fin 1024) : kT (F := Ideal) m c (ix3 b s k)
    = (((∑ k, x b s k * (InSpec.dh (z b s) w k * g k)) * (-(1 / 2) * (rs (x b s) / ms (x b s))) / (1024 : ℕ) : ℝ) : EReal) := by
  pointwise [kT]
  simp only [dg_at m c z g w h2 h3 h4, rs_at m c x h0, ms_at m c x h0, h0, ofBits_neg_half, ofBits_1024, zero_add, Fin.sum_univ_one, coe_sum, ← EReal.coe_mul,
    div_real _ (ms_pos _).ne', div_real _ (by norm_num : (1024 : ℝ) ≠ 0)]
  push_cast
  rfl

include h0 h1 h2 h3 h4 in
theorem x_at (q : Fin 4096) (k : Fin 1024) : (res_main_v42 (F := Ideal) m c : FVec Ideal S4096x1024 .f32) (ix2 q k)
    = ((InSpec.dx (z (qb q) (qs q)) (x (qb q) (qs q)) (d1 (qb q) (qs q)) g w k : ℝ) : EReal) := by
  refine (congrFun (x_term (F := Ideal) m c) (ix2 q k)).trans ?_
  unfold xT
  rw [rows_at]
  generalize qb q = b
  generalize qs q = s
  pointwise []
  rw [k_at m c x z g w h0 h2 h3 h4, dg_at m c z g w h2 h3 h4, rs_at m c x h0, h0, h1, ← EReal.coe_mul, ← EReal.coe_mul, ← EReal.coe_mul, ← EReal.coe_add, ← EReal.coe_add, ← EReal.coe_add]
  refine congrArg _ ?_
  unfold InSpec.dx
  rw [← chain_eq_back]
  ring

include h0 h2 h4 in
theorem g_at (k : Fin 1024) : gT (F := Ideal) m c (ix2 0 k) = ((∑ b, ∑ s, InSpec.dh (z b s) w k * nrm (x b s) k : ℝ) : EReal) := by
  pointwise [gT]
  refine (sum_lead_real _ _ k (fun _ _ => ∑ b, ∑ s, InSpec.dh (z b s) w k * nrm (x b s) k) fun i j => ?_).trans (by simp)
  obtain rfl : i = 0 := Subsingleton.elim _ _
  obtain rfl : j = 0 := Subsingleton.elim _ _
  pointwise []
  refine sum_lead_real _ _ k _ fun b s => ?_
  pointwise []
  rw [dh_at m c z w h2 h4, rs_at m c x h0, h0, ← EReal.coe_mul, ← EReal.coe_mul]
  refine congrArg _ ?_
  unfold nrm; ring

end Cert.InRefIdeal.At

end
-- ==== Proof.InFinite.lean ====
/- The precondition of the input norm's claim: every entry of the arrays it names is a real number. -/
module

public import proofs.«01_k».proof.Pre_finite_in
public import proofs.«01_k».proof.Proof.Finite

@[expose] public section

set_option maxRecDepth 16384

noncomputable section

namespace Cert.Pre_finite_in

open Cert.Rows Idealize.ShloMosaic

variable [Facts]

theorem reals {a0 a1 : FVec Ideal S2x2048x1024 .f32} {a2 : FVec Ideal S2x2048x3232 .f32} {a3 : FVec Ideal S1x1024 .f32}
    {a4 : FVec Ideal S1x1024x3232 .f32} (h : fn (F := Ideal) a0 a1 a2 a3 a4 = fun _ => 1#1) :
    (∀ i, a0 i = (((a0 i).toReal : ℝ) : EReal)) ∧ (∀ i, a1 i = (((a1 i).toReal : ℝ) : EReal)) ∧ (∀ i, a2 i = (((a2 i).toReal : ℝ) : EReal))
    ∧ (∀ i, a3 i = (((a3 i).toReal : ℝ) : EReal)) ∧ (∀ i, a4 i = (((a4 i).toReal : ℝ) : EReal)) := by
  have e := congrFun h (Shape.Idx.first (s := S_) Facts.h_S_)
  obtain ⟨e, e4⟩ := andi_one e
  obtain ⟨e, e3⟩ := andi_one e
  obtain ⟨e, e2⟩ := andi_one e
  obtain ⟨e, e1⟩ := andi_one e
  obtain ⟨_, e0⟩ := andi_one e
  exact ⟨real_of_all _ _ _ _ _ _ e0, real_of_all _ _ _ _ _ _ e1, real_of_all _ _ _ _ _ _ e2, real_of_all _ _ _ _ _ _ e3, real_of_all _ _ _ _ _ _ e4⟩

end Cert.Pre_finite_in

end
-- ==== Proof.InPair.lean ====
/- The input norm's backward kernel agrees with its reference. -/
module

public import proofs.«01_k».proof.Defs
public import proofs.«01_k».proof.Proof.Gen.Pre_finite_in
public import proofs.«01_k».proof.Proof.InFin
public import proofs.«01_k».proof.Proof.InRef
public import proofs.«01_k».proof.Proof.InFinite

@[expose] public section

set_option maxRecDepth 16384

noncomputable section

namespace Cert.InPair

open Cert.Rows Idealize.ShloMosaic Idealize.ShloMosaic.TcCoe Idealize.SL.Sem
open Cert.InIdeal (S2x2048x1024 S2x2048x3232 S1x1024 S1x1024x3232)

/-- The real arrays behind a memory's arguments. -/
abbrev rx (V : FVec Ideal S2x2048x1024 .f32) : Fin 2 → Fin 2048 → Fin 1024 → ℝ := fun b s k => (V (ix3 b s k)).toReal
abbrev rz (V : FVec Ideal S2x2048x3232 .f32) : Fin 2 → Fin 2048 → Fin 3232 → ℝ := fun b s k => (V (ix3 b s k)).toReal
abbrev rg (V : FVec Ideal S1x1024 .f32) : Fin 1024 → ℝ := fun k => (V (ix2 0 k)).toReal
abbrev rw4 (V : FVec Ideal S1x1024x3232 .f32) : Fin 1024 → Fin 3232 → ℝ := fun j k => (V (ix3 0 j k)).toReal

theorem ref_frame : @Cert.quiescent_InRefIdeal Cert.InRefIdeal.Gen.facts := fun m g _ =>
  (θ_run Cert.InRefIdeal.defs _ _).mono (fun r h => ⟨fun c => (h c).2.2, Idealize.ShloMosaic.sem_eq_zero_of_no_sems (by decide) r.2⟩)
    (Cert.InRefIdeal.Value.run (F := Ideal) m g)

set_option maxHeartbeats 1600000 in
theorem algebraic : @Cert.algebraic_InIdeal_InRefIdeal_pre_finite_in Cert.InIdeal.Gen.facts Cert.InRefIdeal.Gen.facts Cert.Pre_finite_in.Gen.facts := by
  pair_intro
  · run_from Cert.InIdeal.Value.run_blocks m g
  · run_from Cert.InRefIdeal.Value.run m' g'
    all_goals
      obtain ⟨e0, e1, e2, e3, e4⟩ := Cert.Pre_finite_in.reals (hpre c)
      obtain ⟨a0, a1, a2, a3, a4⟩ := hagree c
    · exact (Cert.InIdeal.Out.fin5 m c (rx (m (c.tc.loc Cert.InIdeal.main_arg0))) (rx (m (c.tc.loc Cert.InIdeal.main_arg1))) (rz (m (c.tc.loc Cert.InIdeal.main_arg2))) (rg (m (c.tc.loc Cert.InIdeal.main_arg3))) (rw4 (m (c.tc.loc Cert.InIdeal.main_arg4)))
        (fun b s k => e0 (ix3 b s k)) (fun b s k => e1 (ix3 b s k)) (fun b s k => e2 (ix3 b s k)) (fun k => e3 (ix2 0 k)) (fun j k => e4 (ix3 0 j k)) _
        (fun q k => Cert.InRefIdeal.At.x_at m' c (rx (m (c.tc.loc Cert.InIdeal.main_arg0))) (rx (m (c.tc.loc Cert.InIdeal.main_arg1))) (rz (m (c.tc.loc Cert.InIdeal.main_arg2))) (rg (m (c.tc.loc Cert.InIdeal.main_arg3))) (rw4 (m (c.tc.loc Cert.InIdeal.main_arg4)))
          (fun b s k => (congrFun a0 (ix3 b s k)).trans (e0 (ix3 b s k))) (fun b s k => (congrFun a1 (ix3 b s k)).trans (e1 (ix3 b s k))) (fun b s k => (congrFun a2 (ix3 b s k)).trans (e2 (ix3 b s k)))
          (fun k => (congrFun a3 (ix2 0 k)).trans (e3 (ix2 0 k))) (fun j k => (congrFun a4 (ix3 0 j k)).trans (e4 (ix3 0 j k))) q k)).symm
    · rw [← a0, ← a2, ← a4]
      refine Eq.trans (b := Cert.InRefIdeal.At.gT m' c) (by
        unfold Cert.InRefIdeal.At.gT Cert.InRefIdeal.At.dhT Cert.InRefIdeal.At.rsT Cert.InRefIdeal.At.msT; rfl) ?_
      exact (Cert.InIdeal.Out.fin6 m c (rx (m (c.tc.loc Cert.InIdeal.main_arg0))) (rz (m (c.tc.loc Cert.InIdeal.main_arg2))) (rw4 (m (c.tc.loc Cert.InIdeal.main_arg4)))
        (fun b s k => e0 (ix3 b s k)) (fun b s k => e2 (ix3 b s k)) (fun j k => e4 (ix3 0 j k)) _
        (fun k => Cert.InRefIdeal.At.g_at m' c (rx (m (c.tc.loc Cert.InIdeal.main_arg0))) (rz (m (c.tc.loc Cert.InIdeal.main_arg2))) (rw4 (m (c.tc.loc Cert.InIdeal.main_arg4)))
          (fun b s k => (congrFun a0 (ix3 b s k)).trans (e0 (ix3 b s k))) (fun b s k => (congrFun a2 (ix3 b s k)).trans (e2 (ix3 b s k))) (fun j k => (congrFun a4 (ix3 0 j k)).trans (e4 (ix3 0 j k))) k)).symm

end Cert.InPair

end
-- ==== Proof.MlpPay.lean ====
/- The MLP with its norm: the gradients through it over the reals, and what one grid point of the backward kernel computes
   from the blocks it reads, a quarter of the hidden width at a time. -/
module

public import proofs.«01_k».proof.Proof.Gen.MlpIdeal.Skeleton
public import proofs.«01_k».proof.Proof.Rows

@[expose] public section

set_option maxRecDepth 16384

noncomputable section

namespace Cert.MlpSpec

open Cert.Rows

variable (x d g : Fin 1024 → ℝ) (wu : Fin 1024 → Fin 4096 → ℝ) (wd : Fin 4096 → Fin 1024 → ℝ)

/-- The normalised and scaled row. -/
def h (j : Fin 1024) : ℝ := nrm x j * g j
/-- The hidden units before they are rectified, and after. -/
def a (f : Fin 4096) : ℝ := ∑ j, h x g j * wu j f
def u (f : Fin 4096) : ℝ := max (a x g wu f) 0
/-- The gradient of the hidden units before they are rectified. -/
def da (f : Fin 4096) : ℝ := (∑ k, d k * wd f k) * (2 * u x g wu f)
/-- The gradient of the row the up projection is applied to. -/
def dh (j : Fin 1024) : ℝ := ∑ f, da x d g wu wd f * wu j f
/-- The gradient of the input's row: what comes past the MLP, and what comes through it. -/
def dx (j : Fin 1024) : ℝ := d j + back x (fun k => dh x d g wu wd k * g k) j

/-- Where column `k` of quarter `q` of the hidden width stands. -/
def ch (q : Fin 4) (k : Fin 1024) : Fin 4096 := ⟨k.val + 1024 * q.val, by omega⟩

/-- Which device of a pair a row of a quarter belongs to, and which of its rows it is. -/
theorem hi_lt (f : Fin 1024) : f.val / 512 < 2 := by omega
theorem lo_lt (f : Fin 1024) : f.val % 512 < 512 := by omega

theorem sum_quarters (F : Fin 4096 → ℝ) : (∑ f, F f) = (∑ k, F (ch 0 k)) + (∑ k, F (ch 1 k)) + (∑ k, F (ch 2 k)) + ∑ k, F (ch 3 k) := by
  rw [← Equiv.sum_comp (finProdFinEquiv : Fin 4 × Fin 1024 ≃ Fin (4 * 1024)) F, Fintype.sum_prod_type, Fin.sum_univ_four]
  rfl

end Cert.MlpSpec

namespace Cert.MlpIdeal.Pay

open Cert.MlpIdeal Cert.MlpIdeal.Gen Cert.Rows Cert.MlpSpec Idealize.ShloMosaic Idealize.ShloMosaic.TcCoe

section Norm
variable (v75 : Vec Ideal S512x1024 .f32) (v77 : Vec Ideal S1x1024 .f32) (r : Fin 512) (x g : Fin 1024 → ℝ)
  (h75 : ∀ k, v75 (ix2 r k) = ((x k : ℝ) : EReal)) (h77 : ∀ k, v77 (ix2 0 k) = ((g k : ℝ) : EReal))

include h75 in
theorem rs_at : k0_pay19 (F := Ideal) v75 (ix2 r 0) = ((rs x : ℝ) : EReal) := by
  pointwise [k0_pay19, k0_pay18]
  simp only [h75, ofBits_inv1024, ofBits_eps, coe_sum, ← EReal.coe_mul, ← EReal.coe_add]
  have e : (∑ k, x k * x k) * (1 / 1024) + eps = ms x := by unfold ms; push_cast; ring
  rw [e, rsqrt_real (ms_pos x)]; rfl

include h75 in
theorem nrm_at (k : Fin 1024) : k0_pay20 (F := Ideal) v75 (ix2 r k) = ((nrm x k : ℝ) : EReal) := by
  pointwise [k0_pay20, k0_pay18]
  rw [rs_at v75 r x h75, h75, ← EReal.coe_mul]; rfl

include h75 h77 in
theorem h_at (k : Fin 1024) : k0_pay21 (F := Ideal) v75 v77 (ix2 r k) = ((MlpSpec.h x g k : ℝ) : EReal) := by
  pointwise [k0_pay21]
  rw [nrm_at v75 r x h75, h77, ← EReal.coe_mul]; rfl

end Norm

/-! A quarter of the hidden units' gradient, however the kernel groups the loads. -/

section Quarter
variable (v3 : Vec Ideal S512x1024 .f32) (v7 : Vec Ideal S2x512x1024 .bf16) (v11 : Vec Ideal S512x1024 .bf16)
  (r : Fin 512) (d : Fin 1024 → ℝ) (wd : Fin 1024 → Fin 1024 → ℝ) (u : Fin 1024 → ℝ)
  (h3 : ∀ k, v3 (ix2 r k) = ((d k : ℝ) : EReal)) (h7 : ∀ (f k : Fin 1024), v7 (ix3 ⟨f.val / 512, hi_lt f⟩ ⟨f.val % 512, lo_lt f⟩ k) = ((wd f k : ℝ) : EReal))
  (h11 : ∀ f, v11 (ix2 r f) = ((u f : ℝ) : EReal))

include h3 h7 in
theorem s_at (f : Fin 1024) : k0_pay8 (F := Ideal) v3 v7 (ix2 r f) = ((∑ k, d k * wd f k : ℝ) : EReal) := by
  pointwise [k0_pay8, k0_pay5, k0_pay4]
  simp only [h3, h7, coe_sum, ← EReal.coe_mul]

include h3 h7 h11 in
theorem da0_at (f : Fin 1024) : k0_pay6 (F := Ideal) v3 v7 v11 (ix2 r f) = (((∑ k, d k * wd f k) * (2 * u f) : ℝ) : EReal) := by
  pointwise [k0_pay6, k0_pay5, k0_pay4]
  simp only [h3, h7, h11, ofBits_two, coe_sum, ← EReal.coe_mul]

include h3 h7 h11 in
theorem da1_at (f : Fin 1024) : k0_pay11 (F := Ideal) (k0_pay8 v3 v7) (k0_pay9 v11) k0_pay10 (ix2 r f) = (((∑ k, d k * wd f k) * (2 * u f) : ℝ) : EReal) := by
  pointwise [k0_pay11, k0_pay9, k0_pay10]
  simp only [s_at v3 v7 r d wd h3 h7, h11, ofBits_two, ← EReal.coe_mul]

include h3 h7 h11 in
theorem da2_at (f : Fin 1024) : k0_pay12 (F := Ideal) (k0_pay5 v3) v7 v11 (ix2 r f) = (((∑ k, d k * wd f k) * (2 * u f) : ℝ) : EReal) := by
  pointwise [k0_pay12, k0_pay5, k0_pay4]
  simp only [h3, h7, h11, ofBits_two, coe_sum, ← EReal.coe_mul]

include h3 h7 h11 in
theorem da3_at (f : Fin 1024) : k0_pay16 (F := Ideal) (k0_pay14 (k0_pay5 v3) v7) (k0_pay15 v11) (ix2 r f) = (((∑ k, d k * wd f k) * (2 * u f) : ℝ) : EReal) := by
  pointwise [k0_pay16, k0_pay14, k0_pay15, k0_pay5, k0_pay4]
  simp only [h3, h7, h11, ofBits_two, coe_sum, ← EReal.coe_mul]

end Quarter

section Row
variable (v3 v75 : Vec Ideal S512x1024 .f32) (v77 : Vec Ideal S1x1024 .f32) (v7 v24 v41 v58 v19 v36 v53 v70 : Vec Ideal S2x512x1024 .bf16)
  (v11 v28 v45 v62 : Vec Ideal S512x1024 .bf16)

/-- The four quarters' products added up. -/
abbrev dhP : FVec Ideal S512x1024 .f32 :=
  k0_pay17 (k0_pay13 (k0_pay5 v3) (k0_pay7 v3 v7 v11 v19) (k0_pay8 v3 v24) (k0_pay9 v28) k0_pay10 v36 v41 v45 v53) (k0_pay14 (k0_pay5 v3) v58) (k0_pay15 v62) v70

variable (r : Fin 512) (x d g : Fin 1024 → ℝ) (wu : Fin 1024 → Fin 4096 → ℝ) (wd : Fin 4096 → Fin 1024 → ℝ)
  (h3 : ∀ k, v3 (ix2 r k) = ((d k : ℝ) : EReal))
  (h75 : ∀ k, v75 (ix2 r k) = ((x k : ℝ) : EReal)) (h77 : ∀ k, v77 (ix2 0 k) = ((g k : ℝ) : EReal))
  (h7 : ∀ (f k : Fin 1024), v7 (ix3 ⟨f.val / 512, hi_lt f⟩ ⟨f.val % 512, lo_lt f⟩ k) = ((wd (ch 0 f) k : ℝ) : EReal))
  (h24 : ∀ (f k : Fin 1024), v24 (ix3 ⟨f.val / 512, hi_lt f⟩ ⟨f.val % 512, lo_lt f⟩ k) = ((wd (ch 1 f) k : ℝ) : EReal))
  (h41 : ∀ (f k : Fin 1024), v41 (ix3 ⟨f.val / 512, hi_lt f⟩ ⟨f.val % 512, lo_lt f⟩ k) = ((wd (ch 2 f) k : ℝ) : EReal))
  (h58 : ∀ (f k : Fin 1024), v58 (ix3 ⟨f.val / 512, hi_lt f⟩ ⟨f.val % 512, lo_lt f⟩ k) = ((wd (ch 3 f) k : ℝ) : EReal))
  (h19 : ∀ (f k : Fin 1024), v19 (ix3 ⟨f.val / 512, hi_lt f⟩ ⟨f.val % 512, lo_lt f⟩ k) = ((wu k (ch 0 f) : ℝ) : EReal))
  (h36 : ∀ (f k : Fin 1024), v36 (ix3 ⟨f.val / 512, hi_lt f⟩ ⟨f.val % 512, lo_lt f⟩ k) = ((wu k (ch 1 f) : ℝ) : EReal))
  (h53 : ∀ (f k : Fin 1024), v53 (ix3 ⟨f.val / 512, hi_lt f⟩ ⟨f.val % 512, lo_lt f⟩ k) = ((wu k (ch 2 f) : ℝ) : EReal))
  (h70 : ∀ (f k : Fin 1024), v70 (ix3 ⟨f.val / 512, hi_lt f⟩ ⟨f.val % 512, lo_lt f⟩ k) = ((wu k (ch 3 f) : ℝ) : EReal))
  (h11 : ∀ f, v11 (ix2 r f) = ((u x g wu (ch 0 f) : ℝ) : EReal)) (h28 : ∀ f, v28 (ix2 r f) = ((u x g wu (ch 1 f) : ℝ) : EReal))
  (h45 : ∀ f, v45 (ix2 r f) = ((u x g wu (ch 2 f) : ℝ) : EReal)) (h62 : ∀ f, v62 (ix2 r f) = ((u x g wu (ch 3 f) : ℝ) : EReal))

include h3 h7 h24 h41 h58 h19 h36 h53 h70 h11 h28 h45 h62 in
theorem dh_at (j : Fin 1024) : dhP v3 v7 v24 v41 v58 v19 v36 v53 v70 v11 v28 v45 v62 (ix2 r j) = ((MlpSpec.dh x d g wu wd j : ℝ) : EReal) := by
  pointwise [k0_pay17, k0_pay13, k0_pay7]
  simp only [da0_at v3 v7 v11 r d _ _ h3 h7 h11, da1_at v3 v24 v28 r d _ _ h3 h24 h28, da2_at v3 v41 v45 r d _ _ h3 h41 h45, da3_at v3 v58 v62 r d _ _ h3 h58 h62,
    h19, h36, h53, h70, zero_add, coe_sum, ← EReal.coe_mul, ← EReal.coe_add]
  refine congrArg _ ?_
  unfold MlpSpec.dh
  rw [sum_quarters]
  rfl

include h3 h75 h77 h7 h24 h41 h58 h19 h36 h53 h70 h11 h28 h45 h62 in
theorem dx_at (j : Fin 1024) : k0_pay1 (F := Ideal) (k0_pay4 v3) (k0_pay19 v75) (k0_pay20 v75)
      (k0_pay23 (k0_pay13 (k0_pay5 v3) (k0_pay7 v3 v7 v11 v19) (k0_pay8 v3 v24) (k0_pay9 v28) k0_pay10 v36 v41 v45 v53) (k0_pay14 (k0_pay5 v3) v58) (k0_pay15 v62) v70 v77) (ix2 r j)
    = ((MlpSpec.dx x d g wu wd j : ℝ) : EReal) := by
  pointwise [k0_pay1, k0_pay23, k0_pay4]
  have hd := dh_at v3 v7 v24 v41 v58 v19 v36 v53 v70 v11 v28 v45 v62 r x d g wu wd h3 h7 h24 h41 h58 h19 h36 h53 h70 h11 h28 h45 h62
  unfold dhP at hd
  simp only [rs_at v75 r x h75, nrm_at v75 r x h75, hd, h3, h77, ofBits_inv1024, coe_sum, ← EReal.coe_mul, ← EReal.coe_sub, ← EReal.coe_add]
  refine congrArg _ ?_
  unfold MlpSpec.dx back
  push_cast
  ring_nf

end Row

/-- A block's part of the gain's gradient, added to what the row held. -/
theorem dg_at (v3 v75 : Vec Ideal S512x1024 .f32) (v92 : Vec Ideal S1x1024 .f32) (v7 v24 v41 v58 v19 v36 v53 v70 : Vec Ideal S2x512x1024 .bf16)
    (v11 v28 v45 v62 : Vec Ideal S512x1024 .bf16) (x d : Fin 512 → Fin 1024 → ℝ) (g : Fin 1024 → ℝ) (wu : Fin 1024 → Fin 4096 → ℝ) (wd : Fin 4096 → Fin 1024 → ℝ) (s : ℝ) (k : Fin 1024)
    (h75 : ∀ r k, v75 (ix2 r k) = ((x r k : ℝ) : EReal)) (h92 : v92 (ix2 0 k) = ((s : ℝ) : EReal))
    (hd : ∀ r k, dhP v3 v7 v24 v41 v58 v19 v36 v53 v70 v11 v28 v45 v62 (ix2 r k) = ((MlpSpec.dh (x r) (d r) g wu wd k : ℝ) : EReal)) :
    k0_pay22 (F := Ideal) (k0_pay13 (k0_pay5 v3) (k0_pay7 v3 v7 v11 v19) (k0_pay8 v3 v24) (k0_pay9 v28) k0_pay10 v36 v41 v45 v53) (k0_pay14 (k0_pay5 v3) v58) (k0_pay15 v62) v70 v75 v92 (ix2 0 k)
      = ((s + ∑ r, MlpSpec.dh (x r) (d r) g wu wd k * nrm (x r) k : ℝ) : EReal) := by
  pointwise [k0_pay22]
  unfold dhP at hd
  simp only [fun r => nrm_at v75 r (x r) (h75 r), hd, h92, coe_sum, ← EReal.coe_mul, ← EReal.coe_add]

end Cert.MlpIdeal.Pay

end
-- ==== Proof.MlpBlocks.lean ====
/- What the MLP's backward blocks hold, at the arguments' entries. -/
module

public import proofs.«01_k».proof.Proof.Gen.MlpIdeal.Value
public import proofs.«01_k».proof.Proof.MlpPay
public import proofs.«01_k».proof.Proof.Tokens
public import Idealize.ShloMosaic.Lib.Claim
public import Idealize.ShloMosaic.Lib.Pipeline.ValueKit

@[expose] public section

set_option maxRecDepth 16384

noncomputable section

namespace Cert.MlpIdeal.Blk

open Cert.MlpIdeal Cert.MlpIdeal.Gen Cert.Rows Cert.MlpSpec Idealize.ShloMosaic Idealize.ShloMosaic.TcCoe

section Host
variable (a0 : FVec Ideal S2x2048x1024 .f32) (a2 : FVec Ideal S1x1024 .f32) (a3 : FVec Ideal S1x1024x4096 .f32)

/-- The host's lines of the forward pass: the normalised and scaled rows, and the rectified hidden units. -/
def hA : FVec Ideal S2x2048x1024 .f32 :=
  mulf (mulf a0 (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf a0 a0) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![2] bcast_S1024_S1x1x1024_2 (shapeCast _ a2 shapeCasts_S1x1024_S1024)))

def aA : FVec Ideal S2x2048x4096 .f32 :=
  Host.dotGeneral dot_S2x2048x1024_S1024x4096_S2x2048x4096_2_0_01_1_n_n none (hA a0 a2) (shapeCast S1024x4096 a3 shapeCasts_S1x1024x4096_S1024x4096)

def uA : FVec Ideal S4096x4096 .bf16 :=
  shapeCast S4096x4096 (truncf .bf16 (maximumf (aA a0 a2 a3) (broadcastInDim S2x2048x4096 ![] bcast_S_S2x2048x4096 (constant S_ .f32 0x00000000#32))) bitsLt_bf16_f32 : FVec Ideal S2x2048x4096 .bf16) shapeCasts_S2x2048x4096_S4096x4096

variable (x : Fin 2 → Fin 2048 → Fin 1024 → ℝ) (g : Fin 1024 → ℝ) (wu : Fin 1024 → Fin 4096 → ℝ)
  (h0 : ∀ b s k, a0 (ix3 b s k) = ((x b s k : ℝ) : EReal)) (h2 : ∀ k, a2 (ix2 0 k) = ((g k : ℝ) : EReal))
  (h3 : ∀ j k, a3 (ix3 0 j k) = ((wu j k : ℝ) : EReal))

include h0 h2 in
theorem hA_at (b : Fin 2) (s : Fin 2048) (k : Fin 1024) : hA a0 a2 (ix3 b s k) = ((MlpSpec.h (x b s) g k : ℝ) : EReal) := by
  pointwise [hA]
  simp only [h0, h2, ofBits_1024, ofBits_eps, zero_add, coe_sum, ← EReal.coe_mul, div_real _ (by norm_num : (1024 : ℝ) ≠ 0), ← EReal.coe_add]
  have e : (∑ k, x b s k * x b s k) / 1024 + eps = ms (x b s) := by unfold ms; push_cast; rfl
  rw [e, rsqrt_real (ms_pos _), ← EReal.coe_mul, ← EReal.coe_mul]; rfl

theorem dot_at (v : FVec Ideal S2x2048x1024 .f32) (w : FVec Ideal S1024x4096 .f32) (b : Fin 2) (s : Fin 2048) (f : Fin 4096) (p : Fin 1024 → ℝ) (q : Fin 1024 → ℝ)
    (hv : ∀ k, v (ix3 b s k) = ((p k : ℝ) : EReal)) (hw : ∀ k, w (ix2 k f) = ((q k : ℝ) : EReal)) :
    (Host.dotGeneral dot_S2x2048x1024_S1024x4096_S2x2048x4096_2_0_01_1_n_n none v w : FVec Ideal S2x2048x4096 .f32) (ix3 b s f) = ((∑ k, p k * q k : ℝ) : EReal) := by
  pointwise []
  simp only [hv, hw, coe_sum, ← EReal.coe_mul]

include h3 in
theorem wu_at (j : Fin 1024) (f : Fin 4096) : (shapeCast S1024x4096 a3 shapeCasts_S1x1024x4096_S1024x4096 : FVec Ideal S1024x4096 .f32) (ix2 j f) = ((wu j f : ℝ) : EReal) := by
  pointwise []
  exact h3 _ _

include h0 h2 h3 in
theorem aA_at (b : Fin 2) (s : Fin 2048) (f : Fin 4096) : aA a0 a2 a3 (ix3 b s f) = ((MlpSpec.a (x b s) g wu f : ℝ) : EReal) := by
  unfold aA
  exact dot_at _ _ b s f _ _ (hA_at a0 a2 x g h0 h2 b s) fun k => wu_at a3 wu h3 k f

theorem rows_at (v : FVec Ideal S2x2048x4096 .bf16) (q : Fin 4096) (f : Fin 4096) :
    (shapeCast S4096x4096 v shapeCasts_S2x2048x4096_S4096x4096 : FVec Ideal S4096x4096 .bf16) (ix2 q f) = v (ix3 (qb q) (qs q) f) := by
  pointwise []
  rfl

include h0 h2 h3 in
theorem uA_at (q : Fin 4096) (f : Fin 4096) : uA a0 a2 a3 (ix2 q f) = ((MlpSpec.u (x (qb q) (qs q)) g wu f : ℝ) : EReal) := by
  unfold uA
  rw [rows_at]
  generalize qb q = b
  generalize qs q = s
  pointwise []
  rw [aA_at a0 a2 a3 x g wu h0 h2 h3]
  unfold MlpSpec.u
  first | exact (EReal.coe_strictMono.monotone.map_max).symm | (rw [← EReal.coe_zero]; exact (EReal.coe_strictMono.monotone.map_max).symm)

end Host

variable (m : (ℓ : Loc nD τ sig) → Buf (Elt Ideal) ℓ) (c : Dev nD)

theorem tb_eq (t : Fin cfg0.N) (r : Fin 512) (h : (t.val * 512 + r.val) / 2048 < 2) : (⟨(t.val * 512 + r.val) / 2048, h⟩ : Fin 2) = tb t.val r :=
  Fin.ext (Nat.mod_eq_of_lt h).symm

theorem idx : ∀ t : Fin cfg0.N, win0_0.index t = ![t.val, 0] ∧ win0_1.index t = ![t.val, 0] ∧ win0_2.index t = ![t.val, 0]
    ∧ win0_3.index t = ![0, 0] ∧ win0_4.index t = ![0, 0, 0] ∧ win0_5.index t = ![0, 1, 0] ∧ win0_6.index t = ![t.val, 0]
    ∧ win0_7.index t = ![t.val, 0] ∧ win0_8.index t = ![t.val, 0] ∧ win0_9.index t = ![0, 0] ∧ win0_10.index t = ![t.val, 0] :=
  (by decide +kernel : ∀ t : Fin grid0.N, _)

/-- Row `r` of the block at point `t`. -/
def tr (t : Fin cfg0.N) (r : Fin 512) : Fin 4096 := ⟨t.val * 512 + r.val, by have := t.isLt; have : cfg0.N = 8 := N_0; omega⟩

theorem row (t : Fin cfg0.N) (r : Fin 512) : tb t.val r = qb (tr t r) ∧ ts t.val r = qs (tr t r) :=
  ⟨tb_qb _ _ _, rfl⟩

/-- The two parts of the packed weights, read back. -/
theorem pack_first (a b : FVec Ideal S8x512x1024 .bf16) (d : Fin 8) (r : Fin 512) (k : Fin 1024) (hc) :
    (concatenate S8x1024x1024 1 [⟨S8x512x1024, a⟩, ⟨S8x512x1024, b⟩] hc : FVec Ideal S8x1024x1024 .bf16) (ix3 d ⟨r.val, by omega⟩ k) = a (ix3 d r k) := by
  pointwise []

theorem pack_second (a b : FVec Ideal S8x512x1024 .bf16) (d : Fin 8) (r : Fin 512) (k : Fin 1024) (hc) :
    (concatenate S8x1024x1024 1 [⟨S8x512x1024, a⟩, ⟨S8x512x1024, b⟩] hc : FVec Ideal S8x1024x1024 .bf16) (ix3 d ⟨512 + r.val, by omega⟩ k) = b (ix3 d r k) := by
  pointwise []

variable (x d : Fin 2 → Fin 2048 → Fin 1024 → ℝ) (g : Fin 1024 → ℝ) (wu : Fin 1024 → Fin 4096 → ℝ) (wd : Fin 4096 → Fin 1024 → ℝ)
  (h0 : ∀ b s k, (m ((c : Thread nD τ).loc main_arg0) : FVec Ideal S2x2048x1024 .f32) (ix3 b s k) = ((x b s k : ℝ) : EReal))
  (h1 : ∀ b s k, (m ((c : Thread nD τ).loc main_arg1) : FVec Ideal S2x2048x1024 .f32) (ix3 b s k) = ((d b s k : ℝ) : EReal))
  (h2 : ∀ k, (m ((c : Thread nD τ).loc main_arg2) : FVec Ideal S1x1024 .f32) (ix2 0 k) = ((g k : ℝ) : EReal))
  (h3 : ∀ j k, (m ((c : Thread nD τ).loc main_arg3) : FVec Ideal S1x1024x4096 .f32) (ix3 0 j k) = ((wu j k : ℝ) : EReal))
  (h4 : ∀ j k, (m ((c : Thread nD τ).loc main_arg4) : FVec Ideal S1x4096x1024 .f32) (ix3 0 j k) = ((wd j k : ℝ) : EReal))

include h1 in
theorem read0 (t : Fin cfg0.N) (r : Fin 512) (k : Fin 1024) : iblk m c 0 t (ix2 r k) = ((d (tb t.val r) (ts t.val r) k : ℝ) : EReal) := by
  blk_simp [iblk, idx t]
  have e : (win0_0.blk t).view.emb (ix2 r k) = (ix2 (tr t r) k : S4096x1024.Idx) := by blk_ext [idx t, tr]
  rw [e]
  unfold V
  simp only [hostOps0, hostOps0_1, hostOps0_2, List.flatten_cons, List.flatten_nil, List.cons_append, List.nil_append, List.append_nil]
  after_results_simp
  pointwise []
  rw [(row t r).1, (row t r).2]
  exact h1 _ _ _

include h0 in
theorem read1 (t : Fin cfg0.N) (r : Fin 512) (k : Fin 1024) : iblk m c 1 t (ix2 r k) = ((x (tb t.val r) (ts t.val r) k : ℝ) : EReal) := by
  blk_simp [iblk, idx t]
  have e : (win0_1.blk t).view.emb (ix2 r k) = (ix2 (tr t r) k : S4096x1024.Idx) := by blk_ext [idx t, tr]
  rw [e]
  unfold V
  simp only [hostOps0, hostOps0_1, hostOps0_2, List.flatten_cons, List.flatten_nil, List.cons_append, List.nil_append, List.append_nil]
  after_results_simp
  pointwise []
  rw [(row t r).1, (row t r).2]
  exact h0 _ _ _

include h0 h2 h3 in
theorem read2 (t : Fin cfg0.N) (r : Fin 512) (f : Fin 4096) : iblk m c 2 t (ix2 r f) = ((MlpSpec.u (x (tb t.val r) (ts t.val r)) g wu f : ℝ) : EReal) := by
  blk_simp [iblk, idx t]
  have e : (win0_2.blk t).view.emb (ix2 r f) = (ix2 (tr t r) f : S4096x4096.Idx) := by blk_ext [idx t, tr]
  rw [e]
  unfold V
  simp only [hostOps0, hostOps0_1, hostOps0_2, List.flatten_cons, List.flatten_nil, List.cons_append, List.nil_append, List.append_nil]
  after_results_simp
  simp only [StableHlo.TRef.toBuf, StableHlo.TRef.ofBuf, cast_eq]
  rw [(row t r).1, (row t r).2]
  exact uA_at _ _ _ x g wu h0 h2 h3 (tr t r) f

include h2 in
theorem read3 (t : Fin cfg0.N) (k : Fin 1024) : iblk m c 3 t (ix2 0 k) = ((g k : ℝ) : EReal) := by
  blk_simp [iblk, idx t]
  have e : (win0_3.blk t).view.emb (ix2 0 k) = (ix2 0 k : S1x1024.Idx) := by blk_ext [idx t]
  rw [e]
  unfold V
  simp only [hostOps0, hostOps0_1, hostOps0_2, List.flatten_cons, List.flatten_nil, List.cons_append, List.nil_append, List.append_nil]
  after_results_simp
  exact h2 k

include h3 in
theorem read4 (t : Fin cfg0.N) (p : Fin 8) (r : Fin 512) (k : Fin 1024) : iblk m c 4 t (ix3 p r k) = ((wu k ⟨p.val * 512 + r.val, by omega⟩ : ℝ) : EReal) := by
  blk_simp [iblk, idx t]
  have e : (win0_4.blk t).view.emb (ix3 p r k) = (ix3 p ⟨r.val, by omega⟩ k : S8x1024x1024.Idx) := by blk_ext [idx t]
  rw [e]
  unfold V
  simp only [hostOps0, hostOps0_1, hostOps0_2, List.flatten_cons, List.flatten_nil, List.cons_append, List.nil_append, List.append_nil]
  after_results_simp
  refine (pack_first _ _ _ _ _ _).trans ?_
  try after_results_simp
  pointwise []
  refine Eq.trans ?_ (h3 _ _)
  blk_ext []

include h4 in
theorem read5 (t : Fin cfg0.N) (p : Fin 8) (r : Fin 512) (k : Fin 1024) : iblk m c 5 t (ix3 p r k) = ((wd ⟨p.val * 512 + r.val, by omega⟩ k : ℝ) : EReal) := by
  blk_simp [iblk, idx t]
  have e : (win0_5.blk t).view.emb (ix3 p r k) = (ix3 p ⟨512 + r.val, by omega⟩ k : S8x1024x1024.Idx) := by blk_ext [idx t]
  rw [e]
  unfold V
  simp only [hostOps0, hostOps0_1, hostOps0_2, List.flatten_cons, List.flatten_nil, List.cons_append, List.nil_append, List.append_nil]
  after_results_simp
  refine (pack_second _ _ _ _ _ _).trans ?_
  try after_results_simp
  pointwise []
  refine Eq.trans ?_ (h4 _ _)
  blk_ext []

end Cert.MlpIdeal.Blk

end
-- ==== Proof.MlpFin.lean ====
/- The arrays the MLP's backward kernel leaves, from their entries. -/
module

public import proofs.«01_k».proof.Proof.MlpBlocks
public import proofs.«01_k».proof.Proof.Slabs

@[expose] public section

set_option maxRecDepth 16384

noncomputable section

namespace Cert.MlpIdeal.Out

open Cert.MlpIdeal Cert.MlpIdeal.Gen Cert.MlpIdeal.Blk Cert.Rows Cert.MlpSpec Idealize.ShloMosaic Idealize.ShloMosaic.TcCoe

/-- Two devices' rows loaded from a block of all devices' rows. -/
theorem ld_pair (X : Vec Ideal S8x512x1024 .bf16) (a : ℕ) (p : Fin 2) (r : Fin 512) (k : Fin 1024) (p' : Fin 8) (hp : p'.val = a + p.val)
    (inb : ∀ y, (![a, 0, 0] : Fin 3 → ℕ) y + S2x512x1024.size y ≤ S8x512x1024.size y) :
    View.ld (Val := Elt Ideal) (e' := .bf16) X (Rect.unit (s := S8x512x1024) ![a, 0, 0] S2x512x1024.size inb) (ix3 p r k : S2x512x1024.Idx) = X (ix3 p' r k) := by
  refine congrArg X ?_
  funext y; apply Fin.ext
  fin_cases y
  · show a + 1 * p.val = p'.val; omega
  · show 0 + 1 * r.val = r.val; omega
  · show 0 + 1 * k.val = k.val; omega

variable (m : (ℓ : Loc nD τ sig) → Buf (Elt Ideal) ℓ) (c : Dev nD)
  (x d : Fin 2 → Fin 2048 → Fin 1024 → ℝ) (g : Fin 1024 → ℝ) (wu : Fin 1024 → Fin 4096 → ℝ) (wd : Fin 4096 → Fin 1024 → ℝ)
  (h0 : ∀ b s k, (m ((c : Thread nD τ).loc main_arg0) : FVec Ideal S2x2048x1024 .f32) (ix3 b s k) = ((x b s k : ℝ) : EReal))
  (h1 : ∀ b s k, (m ((c : Thread nD τ).loc main_arg1) : FVec Ideal S2x2048x1024 .f32) (ix3 b s k) = ((d b s k : ℝ) : EReal))
  (h2 : ∀ k, (m ((c : Thread nD τ).loc main_arg2) : FVec Ideal S1x1024 .f32) (ix2 0 k) = ((g k : ℝ) : EReal))
  (h3 : ∀ j k, (m ((c : Thread nD τ).loc main_arg3) : FVec Ideal S1x1024x4096 .f32) (ix3 0 j k) = ((wu j k : ℝ) : EReal))
  (h4 : ∀ j k, (m ((c : Thread nD τ).loc main_arg4) : FVec Ideal S1x4096x1024 .f32) (ix3 0 j k) = ((wd j k : ℝ) : EReal))

include h3 in
theorem ldU (t : Fin cfg0.N) (q : Fin 4) (a : ℕ) (ha : a = 2 * q.val) (inb) (f k : Fin 1024) :
    View.ld (Val := Elt Ideal) (e' := .bf16) (iblk m c 4 t : Vec Ideal S8x512x1024 .bf16) (Rect.unit (s := S8x512x1024) ![a, 0, 0] S2x512x1024.size inb)
      (ix3 ⟨f.val / 512, MlpSpec.hi_lt f⟩ ⟨f.val % 512, MlpSpec.lo_lt f⟩ k : S2x512x1024.Idx) = ((wu k (ch q f) : ℝ) : EReal) := by
  refine (ld_pair _ a ⟨f.val / 512, MlpSpec.hi_lt f⟩ ⟨f.val % 512, MlpSpec.lo_lt f⟩ k ⟨a + f.val / 512, by omega⟩ rfl inb).trans ((read4 m c wu h3 t _ _ k).trans ?_)
  refine congrArg (fun i => ((wu k i : ℝ) : EReal)) (Fin.ext ?_)
  show (a + f.val / 512) * 512 + f.val % 512 = f.val + 1024 * q.val
  omega

include h4 in
theorem ldD (t : Fin cfg0.N) (q : Fin 4) (a : ℕ) (ha : a = 2 * q.val) (inb) (f k : Fin 1024) :
    View.ld (Val := Elt Ideal) (e' := .bf16) (iblk m c 5 t : Vec Ideal S8x512x1024 .bf16) (Rect.unit (s := S8x512x1024) ![a, 0, 0] S2x512x1024.size inb)
      (ix3 ⟨f.val / 512, MlpSpec.hi_lt f⟩ ⟨f.val % 512, MlpSpec.lo_lt f⟩ k : S2x512x1024.Idx) = ((wd (ch q f) k : ℝ) : EReal) := by
  refine (ld_pair _ a ⟨f.val / 512, MlpSpec.hi_lt f⟩ ⟨f.val % 512, MlpSpec.lo_lt f⟩ k ⟨a + f.val / 512, by omega⟩ rfl inb).trans ((read5 m c wd h4 t _ _ k).trans ?_)
  refine congrArg (fun i => ((wd i k : ℝ) : EReal)) (Fin.ext ?_)
  show (a + f.val / 512) * 512 + f.val % 512 = f.val + 1024 * q.val
  omega

include h0 h2 h3 in
theorem ldC (t : Fin cfg0.N) (q : Fin 4) (a : ℕ) (ha : a = 1024 * q.val) (inb) (r : Fin 512) (f : Fin 1024) :
    View.ld (Val := Elt Ideal) (e' := .bf16) (iblk m c 2 t : Vec Ideal S512x4096 .bf16) (Rect.unit (s := S512x4096) ![0, a] S512x1024.size inb)
      (ix2 r f : S512x1024.Idx) = ((MlpSpec.u (x (tb t.val r) (ts t.val r)) g wu (ch q f) : ℝ) : EReal) :=
  (Slabs.ld_slab (Val := Elt Ideal) (e := .bf16) (iblk m c 2 t : Vec Ideal S512x4096 .bf16) 0 a r f r (ch q f) (by omega) (by show f.val + 1024 * q.val = _; omega) inb).trans
    (read2 m c x g wu h0 h2 h3 t r (ch q f))

/-- A stored quarter holds its part of a function of rows and columns. -/
theorem slab_at (G : Fin 512 → Fin 4096 → EReal) (q : Fin 4) (a : ℕ) (ha : a = 1024 * q.val)
    (inb : ∀ y, (![0, a] : Fin 2 → ℕ) y + S512x1024.size y ≤ S512x4096.size y) (w : Vec Ideal S512x1024 .bf16) (hw : ∀ r f, w (ix2 r f) = G r (ch q f))
    (y : (Rect.unit (s := S512x4096) ![0, a] S512x1024.size inb).shape.Idx) :
    w y = G ((Rect.unit (s := S512x4096) ![0, a] S512x1024.size inb).emb y 0) ((Rect.unit (s := S512x4096) ![0, a] S512x1024.size inb).emb y 1) := by
  revert y
  show ∀ y : S512x1024.Idx, _
  intro y; idx_vars y
  obtain ⟨r, hr⟩ : ∃ r, r = y0 := ⟨_, rfl⟩
  obtain ⟨f, hf⟩ : ∃ f, f = y1 := ⟨_, rfl⟩
  rw [← hr, ← hf]
  have e : (Rect.unit (s := S512x4096) ![0, a] S512x1024.size inb).emb (ix2 r f : S512x1024.Idx) = (ix2 r (ch q f) : S512x4096.Idx) :=
    Slabs.emb_slab 0 a r f _ _ (by omega) (by show f.val + 1024 * q.val = _; omega) inb
  rw [e]
  exact hw r f

set_option maxHeartbeats 2000000 in
include h0 h1 h2 h3 h4 in
theorem out6 (t : Fin cfg0.N) (r : Fin 512) (k : Fin 1024) : (outsAt0 m c t.val t.isLt).1 (ix2 r k)
    = ((MlpSpec.dx (x (tb t.val r) (ts t.val r)) (d (tb t.val r) (ts t.val r)) g wu wd k : ℝ) : EReal) := by
  by_cases h : t.val % 8 = 0
  · rw [outsAt0_A m c t h]
    frame_out
    exact Pay.dx_at _ _ _ _ _ _ _ _ _ _ _ _ _ _ _ r _ _ g wu wd (read0 m c d h1 t r) (read1 m c x h0 t r) (read3 m c g h2 t)
      (ldD m c wd h4 t 0 0 rfl (by decide)) (ldD m c wd h4 t 1 2 rfl (by decide)) (ldD m c wd h4 t 2 4 rfl (by decide)) (ldD m c wd h4 t 3 6 rfl (by decide))
      (ldU m c wu h3 t 0 0 rfl (by decide)) (ldU m c wu h3 t 1 2 rfl (by decide)) (ldU m c wu h3 t 2 4 rfl (by decide)) (ldU m c wu h3 t 3 6 rfl (by decide))
      (ldC m c x g wu h0 h2 h3 t 0 0 rfl (by decide) r) (ldC m c x g wu h0 h2 h3 t 1 1024 rfl (by decide) r) (ldC m c x g wu h0 h2 h3 t 2 2048 rfl (by decide) r) (ldC m c x g wu h0 h2 h3 t 3 3072 rfl (by decide) r) k
  · rw [outsAt0_B m c t h]
    frame_out
    exact Pay.dx_at _ _ _ _ _ _ _ _ _ _ _ _ _ _ _ r _ _ g wu wd (read0 m c d h1 t r) (read1 m c x h0 t r) (read3 m c g h2 t)
      (ldD m c wd h4 t 0 0 rfl (by decide)) (ldD m c wd h4 t 1 2 rfl (by decide)) (ldD m c wd h4 t 2 4 rfl (by decide)) (ldD m c wd h4 t 3 6 rfl (by decide))
      (ldU m c wu h3 t 0 0 rfl (by decide)) (ldU m c wu h3 t 1 2 rfl (by decide)) (ldU m c wu h3 t 2 4 rfl (by decide)) (ldU m c wu h3 t 3 6 rfl (by decide))
      (ldC m c x g wu h0 h2 h3 t 0 0 rfl (by decide) r) (ldC m c x g wu h0 h2 h3 t 1 1024 rfl (by decide) r) (ldC m c x g wu h0 h2 h3 t 2 2048 rfl (by decide) r) (ldC m c x g wu h0 h2 h3 t 3 3072 rfl (by decide) r) k

set_option maxHeartbeats 2000000 in
include h0 h1 h2 h3 h4 in
theorem out10 (t : Fin cfg0.N) (r : Fin 512) (k : Fin 1024) : (outsAt0 m c t.val t.isLt).2.2.2.2 (ix2 r k)
    = ((MlpSpec.dx (x (tb t.val r) (ts t.val r)) (d (tb t.val r) (ts t.val r)) g wu wd k : ℝ) : EReal) := by
  refine Eq.trans ?_ (out6 m c x d g wu wd h0 h1 h2 h3 h4 t r k)
  by_cases h : t.val % 8 = 0
  · rw [outsAt0_A m c t h]
    frame_out
    pointwise [k0_pay2]
  · rw [outsAt0_B m c t h]
    frame_out
    pointwise [k0_pay2]

include h0 h2 in
theorem out8 (t : Fin cfg0.N) (r : Fin 512) (k : Fin 1024) : (outsAt0 m c t.val t.isLt).2.2.1 (ix2 r k)
    = ((MlpSpec.h (x (tb t.val r) (ts t.val r)) g k : ℝ) : EReal) := by
  by_cases h : t.val % 8 = 0
  · rw [outsAt0_A m c t h]
    frame_out
    exact Pay.h_at _ _ r _ g (read1 m c x h0 t r) (read3 m c g h2 t) k
  · rw [outsAt0_B m c t h]
    frame_out
    exact Pay.h_at _ _ r _ g (read1 m c x h0 t r) (read3 m c g h2 t) k

/-- The hidden units' gradient over one block. -/
def Gda (t : Fin cfg0.N) (r : Fin 512) (f : Fin 4096) : EReal := ((MlpSpec.da (x (tb t.val r) (ts t.val r)) (d (tb t.val r) (ts t.val r)) g wu wd f : ℝ) : EReal)

set_option maxHeartbeats 2000000 in
include h0 h1 h2 h3 h4 in
theorem out7 (t : Fin cfg0.N) (r : Fin 512) (f : Fin 4096) : (outsAt0 m c t.val t.isLt).2.1 (ix2 r f)
    = ((MlpSpec.da (x (tb t.val r) (ts t.val r)) (d (tb t.val r) (ts t.val r)) g wu wd f : ℝ) : EReal) := by
  by_cases h : t.val % 8 = 0
  · rw [outsAt0_A m c t h]
    frame_out
    refine Slabs.canon_slabs (Val := Elt Ideal) (e := .bf16) (Gda x d g wu wd t) _ r f
      (View.cover_of_tiled_head _ _ _ rfl _) fun p hp => ?_
    simp only [List.mem_cons, List.not_mem_nil, or_false] at hp
    rcases hp with rfl | rfl | rfl | rfl
    · exact slab_at (Gda x d g wu wd t) 3 3072 rfl (by decide) _ fun r f => Pay.da3_at _ _ _ r _ (fun f k => wd (ch 3 f) k) (fun f => MlpSpec.u (x (tb t.val r) (ts t.val r)) g wu (ch 3 f)) (read0 m c d h1 t r) (ldD m c wd h4 t 3 6 rfl (by decide)) (ldC m c x g wu h0 h2 h3 t 3 3072 rfl (by decide) r) f
    · exact slab_at (Gda x d g wu wd t) 2 2048 rfl (by decide) _ fun r f => Pay.da2_at _ _ _ r _ (fun f k => wd (ch 2 f) k) (fun f => MlpSpec.u (x (tb t.val r) (ts t.val r)) g wu (ch 2 f)) (read0 m c d h1 t r) (ldD m c wd h4 t 2 4 rfl (by decide)) (ldC m c x g wu h0 h2 h3 t 2 2048 rfl (by decide) r) f
    · exact slab_at (Gda x d g wu wd t) 1 1024 rfl (by decide) _ fun r f => Pay.da1_at _ _ _ r _ (fun f k => wd (ch 1 f) k) (fun f => MlpSpec.u (x (tb t.val r) (ts t.val r)) g wu (ch 1 f)) (read0 m c d h1 t r) (ldD m c wd h4 t 1 2 rfl (by decide)) (ldC m c x g wu h0 h2 h3 t 1 1024 rfl (by decide) r) f
    · exact slab_at (Gda x d g wu wd t) 0 0 rfl (by decide) _ fun r f => Pay.da0_at _ _ _ r _ (fun f k => wd (ch 0 f) k) (fun f => MlpSpec.u (x (tb t.val r) (ts t.val r)) g wu (ch 0 f)) (read0 m c d h1 t r) (ldD m c wd h4 t 0 0 rfl (by decide)) (ldC m c x g wu h0 h2 h3 t 0 0 rfl (by decide) r) f
  · rw [outsAt0_B m c t h]
    frame_out
    refine Slabs.canon_slabs (Val := Elt Ideal) (e := .bf16) (Gda x d g wu wd t) _ r f
      (View.cover_of_tiled_head _ _ _ rfl _) fun p hp => ?_
    simp only [List.mem_cons, List.not_mem_nil, or_false] at hp
    rcases hp with rfl | rfl | rfl | rfl
    · exact slab_at (Gda x d g wu wd t) 3 3072 rfl (by decide) _ fun r f => Pay.da3_at _ _ _ r _ (fun f k => wd (ch 3 f) k) (fun f => MlpSpec.u (x (tb t.val r) (ts t.val r)) g wu (ch 3 f)) (read0 m c d h1 t r) (ldD m c wd h4 t 3 6 rfl (by decide)) (ldC m c x g wu h0 h2 h3 t 3 3072 rfl (by decide) r) f
    · exact slab_at (Gda x d g wu wd t) 2 2048 rfl (by decide) _ fun r f => Pay.da2_at _ _ _ r _ (fun f k => wd (ch 2 f) k) (fun f => MlpSpec.u (x (tb t.val r) (ts t.val r)) g wu (ch 2 f)) (read0 m c d h1 t r) (ldD m c wd h4 t 2 4 rfl (by decide)) (ldC m c x g wu h0 h2 h3 t 2 2048 rfl (by decide) r) f
    · exact slab_at (Gda x d g wu wd t) 1 1024 rfl (by decide) _ fun r f => Pay.da1_at _ _ _ r _ (fun f k => wd (ch 1 f) k) (fun f => MlpSpec.u (x (tb t.val r) (ts t.val r)) g wu (ch 1 f)) (read0 m c d h1 t r) (ldD m c wd h4 t 1 2 rfl (by decide)) (ldC m c x g wu h0 h2 h3 t 1 1024 rfl (by decide) r) f
    · exact slab_at (Gda x d g wu wd t) 0 0 rfl (by decide) _ fun r f => Pay.da0_at _ _ _ r _ (fun f k => wd (ch 0 f) k) (fun f => MlpSpec.u (x (tb t.val r) (ts t.val r)) g wu (ch 0 f)) (read0 m c d h1 t r) (ldD m c wd h4 t 0 0 rfl (by decide)) (ldC m c x g wu h0 h2 h3 t 0 0 rfl (by decide) r) f

/-- A token's part of the gain's gradient. -/
abbrev dgrow (k : Fin 1024) (b : Fin 2) (s : Fin 2048) : ℝ := MlpSpec.dh (x b s) (d b s) g wu wd k * nrm (x b s) k

/-- What the tokens of one block add to the row. -/
def blockSum (F : Fin 2 → Fin 2048 → ℝ) (u : ℕ) : ℝ := ∑ r : Fin 512, F (tb u r) (ts u r)

set_option maxHeartbeats 2000000 in
include h0 h1 h2 h3 h4 in
theorem first (t : Fin cfg0.N) (h : t.val % 8 = 0) (k : Fin 1024) : (outsAt0 m c t.val t.isLt).2.2.2.1 (ix2 0 k)
    = ((0 + blockSum (dgrow x d g wu wd k) t.val : ℝ) : EReal) := by
  rw [outsAt0_A m c t h]
  frame_out
  refine Pay.dg_at _ _ _ _ _ _ _ _ _ _ _ _ _ _ _ (fun r => x (tb t.val r) (ts t.val r)) (fun r => d (tb t.val r) (ts t.val r)) g wu wd _ k (read1 m c x h0 t) ?_
    fun r => Pay.dh_at _ _ _ _ _ _ _ _ _ _ _ _ _ r _ _ g wu wd (read0 m c d h1 t r)
      (ldD m c wd h4 t 0 0 rfl (by decide)) (ldD m c wd h4 t 1 2 rfl (by decide)) (ldD m c wd h4 t 2 4 rfl (by decide)) (ldD m c wd h4 t 3 6 rfl (by decide))
      (ldU m c wu h3 t 0 0 rfl (by decide)) (ldU m c wu h3 t 1 2 rfl (by decide)) (ldU m c wu h3 t 2 4 rfl (by decide)) (ldU m c wu h3 t 3 6 rfl (by decide))
      (ldC m c x g wu h0 h2 h3 t 0 0 rfl (by decide) r) (ldC m c x g wu h0 h2 h3 t 1 1024 rfl (by decide) r) (ldC m c x g wu h0 h2 h3 t 2 2048 rfl (by decide) r) (ldC m c x g wu h0 h2 h3 t 3 3072 rfl (by decide) r)
  pointwise [k0_pay3]
  exact EReal.coe_zero.symm

set_option maxHeartbeats 2000000 in
include h0 h1 h2 h3 h4 in
theorem next (t : Fin cfg0.N) (h : ¬t.val % 8 = 0) (k : Fin 1024) (v : ℝ)
    (hz : (outsAt0 m c (t.val - 1) (by have := t.isLt; omega)).2.2.2.1 (ix2 0 k) = ((v : ℝ) : EReal)) :
    (outsAt0 m c t.val t.isLt).2.2.2.1 (ix2 0 k) = ((v + blockSum (dgrow x d g wu wd k) t.val : ℝ) : EReal) := by
  rw [outsAt0_B m c t h]
  frame_out
  exact Pay.dg_at _ _ _ _ _ _ _ _ _ _ _ _ _ _ _ (fun r => x (tb t.val r) (ts t.val r)) (fun r => d (tb t.val r) (ts t.val r)) g wu wd _ k (read1 m c x h0 t) hz
    fun r => Pay.dh_at _ _ _ _ _ _ _ _ _ _ _ _ _ r _ _ g wu wd (read0 m c d h1 t r)
      (ldD m c wd h4 t 0 0 rfl (by decide)) (ldD m c wd h4 t 1 2 rfl (by decide)) (ldD m c wd h4 t 2 4 rfl (by decide)) (ldD m c wd h4 t 3 6 rfl (by decide))
      (ldU m c wu h3 t 0 0 rfl (by decide)) (ldU m c wu h3 t 1 2 rfl (by decide)) (ldU m c wu h3 t 2 4 rfl (by decide)) (ldU m c wu h3 t 3 6 rfl (by decide))
      (ldC m c x g wu h0 h2 h3 t 0 0 rfl (by decide) r) (ldC m c x g wu h0 h2 h3 t 1 1024 rfl (by decide) r) (ldC m c x g wu h0 h2 h3 t 2 2048 rfl (by decide) r) (ldC m c x g wu h0 h2 h3 t 3 3072 rfl (by decide) r)

include h0 h1 h2 h3 h4 in
theorem stat (n : ℕ) (hn : n < cfg0.N) (k : Fin 1024) : (outsAt0 m c n hn).2.2.2.1 (ix2 0 k)
    = ((∑ u ∈ Finset.range (n + 1), blockSum (dgrow x d g wu wd k) u : ℝ) : EReal) := by
  induction n with
  | zero =>
    rw [Finset.sum_range_succ, Finset.sum_range_zero]
    exact first m c x d g wu wd h0 h1 h2 h3 h4 ⟨0, hn⟩ rfl k
  | succ n ih =>
    rw [Finset.sum_range_succ]
    have hN : cfg0.N = 8 := N_0
    exact next m c x d g wu wd h0 h1 h2 h3 h4 ⟨n + 1, hn⟩ (by show ¬(n + 1) % 8 = 0; omega) k _ (ih _)

include h0 h1 h2 h3 h4 in
theorem fin6 (G : FVec Ideal S4096x1024 .f32) (hG : ∀ (q : Fin 4096) (k : Fin 1024), G (ix2 q k) = ((MlpSpec.dx (x (qb q) (qs q)) (d (qb q) (qs q)) g wu wd k : ℝ) : EReal)) :
    (dats m 0 c).arrAt 6 (cfgs 0).N = G := by
  refine (dats m 0 c).arrAt_eq_of_covers 6 _ (by decide +kernel) fun t hf y => ?_
  blk_simp
  rw [after0_6]
  idx_vars y
  have e : (win0_6.blk t).view.emb (ix2 y0 y1) = (ix2 (tr t y0) y1 : S4096x1024.Idx) := by blk_ext [idx t, tr]
  rw [e]
  refine (out6 m c x d g wu wd h0 h1 h2 h3 h4 t y0 y1).trans (Eq.trans ?_ (hG (tr t y0) y1).symm)
  rw [(row t y0).1, (row t y0).2]

include h0 h1 h2 h3 h4 in
theorem fin7 (G : FVec Ideal S4096x4096 .bf16) (hG : ∀ (q : Fin 4096) (f : Fin 4096), G (ix2 q f) = ((MlpSpec.da (x (qb q) (qs q)) (d (qb q) (qs q)) g wu wd f : ℝ) : EReal)) :
    (dats m 0 c).arrAt 7 (cfgs 0).N = G := by
  refine (dats m 0 c).arrAt_eq_of_covers 7 _ (by decide +kernel) fun t hf y => ?_
  blk_simp
  rw [after0_7]
  idx_vars y
  have e : (win0_7.blk t).view.emb (ix2 y0 y1) = (ix2 (tr t y0) y1 : S4096x4096.Idx) := by blk_ext [idx t, tr]
  rw [e]
  refine (out7 m c x d g wu wd h0 h1 h2 h3 h4 t y0 y1).trans (Eq.trans ?_ (hG (tr t y0) y1).symm)
  rw [(row t y0).1, (row t y0).2]

include h0 h2 in
theorem fin8 (G : FVec Ideal S4096x1024 .bf16) (hG : ∀ (q : Fin 4096) (k : Fin 1024), G (ix2 q k) = ((MlpSpec.h (x (qb q) (qs q)) g k : ℝ) : EReal)) :
    (dats m 0 c).arrAt 8 (cfgs 0).N = G := by
  refine (dats m 0 c).arrAt_eq_of_covers 8 _ (by decide +kernel) fun t hf y => ?_
  blk_simp
  rw [after0_8]
  idx_vars y
  have e : (win0_8.blk t).view.emb (ix2 y0 y1) = (ix2 (tr t y0) y1 : S4096x1024.Idx) := by blk_ext [idx t, tr]
  rw [e]
  refine (out8 m c x g h0 h2 t y0 y1).trans (Eq.trans ?_ (hG (tr t y0) y1).symm)
  rw [(row t y0).1, (row t y0).2]

include h0 h1 h2 h3 h4 in
theorem fin9 (G : FVec Ideal S1x1024 .f32) (hG : ∀ k, G (ix2 0 k) = ((∑ b, ∑ s, dgrow x d g wu wd k b s : ℝ) : EReal)) :
    (dats m 0 c).arrAt 9 (cfgs 0).N = G := by
  refine (dats m 0 c).arrAt_eq_of_after_last 9 t0_7 (by decide +kernel) _ fun j => ?_
  blk_simp
  rw [after0_9]
  idx_vars j
  obtain rfl : j0 = 0 := Subsingleton.elim _ _
  have hL : (t0_7 : Fin cfg0.N).val + 1 = 8 := rfl
  refine (stat m c x d g wu wd h0 h1 h2 h3 h4 _ _ j1).trans (Eq.trans (congrArg _ ?_) (hG j1).symm)
  rw [hL]; exact sum_tokens (dgrow x d g wu wd j1)

include h0 h1 h2 h3 h4 in
theorem fin10 (G : FVec Ideal S4096x1024 .bf16) (hG : ∀ (q : Fin 4096) (k : Fin 1024), G (ix2 q k) = ((MlpSpec.dx (x (qb q) (qs q)) (d (qb q) (qs q)) g wu wd k : ℝ) : EReal)) :
    (dats m 0 c).arrAt 10 (cfgs 0).N = G := by
  refine (dats m 0 c).arrAt_eq_of_covers 10 _ (by decide +kernel) fun t hf y => ?_
  blk_simp
  rw [after0_10]
  idx_vars y
  have e : (win0_10.blk t).view.emb (ix2 y0 y1) = (ix2 (tr t y0) y1 : S4096x1024.Idx) := by blk_ext [idx t, tr]
  rw [e]
  refine (out10 m c x d g wu wd h0 h1 h2 h3 h4 t y0 y1).trans (Eq.trans ?_ (hG (tr t y0) y1).symm)
  rw [(row t y0).1, (row t y0).2]

end Cert.MlpIdeal.Out

end
-- ==== Proof.MlpRef.lean ====
/- What the reference computes for the gradients through the MLP with its norm, read at an index. -/
module

public import proofs.«01_k».proof.Proof.Gen.MlpRefIdeal.Run
public import proofs.«01_k».proof.Proof.MlpPay
public import proofs.«01_k».proof.Proof.Tokens
public import proofs.«01_k».proof.Proof.SumAxes

@[expose] public section

set_option maxRecDepth 16384

noncomputable section

namespace Cert.MlpRefIdeal.At

open Cert.MlpRefIdeal Cert.MlpRefIdeal.Gen Cert.MlpRefIdeal.Value Cert.Rows Idealize.ShloMosaic Idealize.ShloMosaic.TcCoe

section Terms
variable {F : FTy → Type} [FloatOps F] (m : (ℓ : Loc nD τ sig) → Buf (Elt F) ℓ) (c : Dev nD)

/-- The mean of a row's squares, with the small constant. -/
def msT : FVec F S2x2048x1 .f32 :=
  addf (Host.divf (broadcastInDim S2x2048x1 ![0, 1] bcast_S2x2048_S2x2048x1_0_1 (Host.reduceAdd (mulf (m ((c.tc : Thread nD τ).loc main_arg0)) (m ((c.tc : Thread nD τ).loc main_arg0))) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))

/-- Its inverse square root. -/
def rsT : FVec F S2x2048x1 .f32 :=
  Host.rsqrt (msT m c)

/-- The normalised and scaled rows. -/
def hT : FVec F S2x2048x1024 .f32 :=
  mulf (mulf (m ((c.tc : Thread nD τ).loc main_arg0)) (broadcastInDim S2x2048x1024 ![0, 1, 2] bcast_S2x2048x1_S2x2048x1024_0_1_2 (rsT m c))) (broadcastInDim S2x2048x1024 ![0, 1, 2] bcast_S1x1x1024_S2x2048x1024_0_1_2 (broadcastInDim S1x1x1024 ![2] bcast_S1024_S1x1x1024_2 (shapeCast _ (m ((c.tc : Thread nD τ).loc main_arg2)) shapeCasts_S1x1024_S1024)))

/-- The hidden units before they are rectified. -/
def aT : FVec F S2x2048x4096 .f32 :=
  Host.dotGeneral dot_S2x2048x1024_S1024x4096_S2x2048x4096_2_0_01_1_n_n none (hT m c) (shapeCast _ (m ((c.tc : Thread nD τ).loc main_arg3)) shapeCasts_S1x1024x4096_S1024x4096)

/-- The rectified hidden units. -/
def uT : FVec F S2x2048x4096 .f32 :=
  maximumf (aT m c) (broadcastInDim S2x2048x4096 ![] bcast_S_S2x2048x4096 (constant S_ .f32 0x00000000#32))

/-- The gradient of their squares. -/
def sT : FVec F S2x2048x4096 .f32 :=
  Host.dotGeneral dot_S2x2048x1024_S4096x1024_S2x2048x4096_2_1_01_0_n_n none (shapeCast _ (m ((c.tc : Thread nD τ).loc main_arg1)) shapeCasts_S2x2048x1024_S2x2048x1024) (shapeCast _ (m ((c.tc : Thread nD τ).loc main_arg4)) shapeCasts_S1x4096x1024_S4096x1024)

/-- The gradient of the hidden units before they are rectified. -/
def daT : FVec F S2x2048x4096 .f32 :=
  select (cmpf .ogt (aT m c) (broadcastInDim S2x2048x4096 ![] bcast_S_S2x2048x4096 (constant S_ .f32 0x00000000#32))) (addf (mulf (uT m c) (sT m c)) (mulf (sT m c) (uT m c))) (broadcastInDim S2x2048x4096 ![] bcast_S_S2x2048x4096 (constant S_ .f32 0x00000000#32))

/-- The gradient of the normalised and scaled rows. -/
def dhT : FVec F S2x2048x1024 .f32 :=
  Host.dotGeneral dot_S2x2048x4096_S1024x4096_S2x2048x1024_2_1_01_0_n_n none (daT m c) (shapeCast _ (m ((c.tc : Thread nD τ).loc main_arg3)) shapeCasts_S1x1024x4096_S1024x4096)

/-- The gradient of the normalised rows. -/
def dgT : FVec F S2x2048x1024 .f32 :=
  mulf (dhT m c) (broadcastInDim S2x2048x1024 ![0, 1, 2] bcast_S1x1x1024_S2x2048x1024_0_1_2 (broadcastInDim S1x1x1024 ![2] bcast_S1024_S1x1x1024_2 (shapeCast _ (m ((c.tc : Thread nD τ).loc main_arg2)) shapeCasts_S1x1024_S1024)))

/-- The factor of a row in what comes through its square. -/
def kT : FVec F S2x2048x1024 .f32 :=
  broadcastInDim S2x2048x1024 ![0, 1] bcast_S2x2048_S2x2048x1024_0_1 (Host.reduceAdd (Host.divf (mulf (shapeCast _ (Host.reduceAdd (mulf (m ((c.tc : Thread nD τ).loc main_arg0)) (dgT m c)) (constant S_ .f32 0x00000000#32) reducesTo_S2x2048x1024_S2x2048_d2 h_S_) shapeCasts_S2x2048_S2x2048x1) (mulf (broadcastInDim S2x2048x1 ![] bcast_S_S2x2048x1 (constant S_ .f32 0xBF000000#32)) (Host.divf (rsT m c) (msT m c)))) (broadcastInDim S2x2048x1 ![] bcast_S_S2x2048x1 (constant S_ .f32 0x44800000#32))) (constant S_ .f32 0x00000000#32) reducesTo_S2x2048x1_S2x2048_d2 h_S_)

/-- The gradient of the rows, as the program returns it. -/
def xT : FVec F S4096x1024 .f32 :=
  shapeCast _ (addf (addf (addf (m ((c.tc : Thread nD τ).loc main_arg1)) (mulf (dgT m c) (broadcastInDim S2x2048x1024 ![0, 1, 2] bcast_S2x2048x1_S2x2048x1024_0_1_2 (rsT m c)))) (mulf (m ((c.tc : Thread nD τ).loc main_arg0)) (kT m c))) (mulf (kT m c) (m ((c.tc : Thread nD τ).loc main_arg0)))) shapeCasts_S2x2048x1024_S4096x1024

def gT : FVec F S1x1024 .f32 :=
  broadcastInDim S1x1024 ![1] bcast_S1024_S1x1024_1 (Host.reduceAdd (shapeCast _ (Host.reduceAdd (mulf (mulf (m ((c.tc : Thread nD τ).loc main_arg0)) (broadcastInDim S2x2048x1024 ![0, 1, 2] bcast_S2x2048x1_S2x2048x1024_0_1_2 (rsT m c))) (dhT m c)) (constant S_ .f32 0x00000000#32) reducesTo_S2x2048x1024_S1024_d0_1 h_S_) shapeCasts_S1024_S1x1x1024) (constant S_ .f32 0x00000000#32) reducesTo_S1x1x1024_S1024_d0_1 h_S_)

def daR : FVec F S4096x4096 .bf16 :=
  truncf .bf16 (shapeCast _ (daT m c) shapeCasts_S2x2048x4096_S4096x4096) bitsLt_bf16_f32

def hR : FVec F S4096x1024 .bf16 :=
  truncf .bf16 (shapeCast _ (hT m c) shapeCasts_S2x2048x1024_S4096x1024) bitsLt_bf16_f32

theorem x_term : res_main_v71 m c = xT m c := by
  unfold res_main_v71 xT kT dgT dhT daT sT uT aT hT rsT msT; rfl

theorem xb_term : res_main_v77 m c = truncf .bf16 (xT m c) bitsLt_bf16_f32 := by
  unfold res_main_v77 xT kT dgT dhT daT sT uT aT hT rsT msT; rfl

theorem g_term : res_main_v56 m c = gT m c := by
  unfold res_main_v56 gT dhT daT sT uT aT hT rsT msT; rfl

end Terms

theorem wu_at (v : FVec Ideal S1x1024x4096 .f32) (w : Fin 1024 → Fin 4096 → ℝ) (h : ∀ j k, v (ix3 0 j k) = ((w j k : ℝ) : EReal)) (j : Fin 1024) (f : Fin 4096) :
    (shapeCast S1024x4096 v shapeCasts_S1x1024x4096_S1024x4096 : FVec Ideal S1024x4096 .f32) (ix2 j f) = ((w j f : ℝ) : EReal) := by
  pointwise []
  exact h _ _

theorem wd_at (v : FVec Ideal S1x4096x1024 .f32) (w : Fin 4096 → Fin 1024 → ℝ) (h : ∀ j k, v (ix3 0 j k) = ((w j k : ℝ) : EReal)) (f : Fin 4096) (k : Fin 1024) :
    (shapeCast S4096x1024 v shapeCasts_S1x4096x1024_S4096x1024 : FVec Ideal S4096x1024 .f32) (ix2 f k) = ((w f k : ℝ) : EReal) := by
  pointwise []
  exact h _ _

theorem same_at (v : FVec Ideal S2x2048x1024 .f32) (b : Fin 2) (s : Fin 2048) (k : Fin 1024) :
    (shapeCast S2x2048x1024 v shapeCasts_S2x2048x1024_S2x2048x1024 : FVec Ideal S2x2048x1024 .f32) (ix3 b s k) = v (ix3 b s k) := by
  pointwise []

theorem up_at (v : FVec Ideal S2x2048x1024 .f32) (w : FVec Ideal S1024x4096 .f32) (b : Fin 2) (s : Fin 2048) (f : Fin 4096) (p q : Fin 1024 → ℝ)
    (hv : ∀ k, v (ix3 b s k) = ((p k : ℝ) : EReal)) (hw : ∀ k, w (ix2 k f) = ((q k : ℝ) : EReal)) :
    (Host.dotGeneral dot_S2x2048x1024_S1024x4096_S2x2048x4096_2_0_01_1_n_n none v w : FVec Ideal S2x2048x4096 .f32) (ix3 b s f) = ((∑ k, p k * q k : ℝ) : EReal) := by
  pointwise []
  simp only [hv, hw, coe_sum, ← EReal.coe_mul]

theorem down_at (v : FVec Ideal S2x2048x1024 .f32) (w : FVec Ideal S4096x1024 .f32) (b : Fin 2) (s : Fin 2048) (f : Fin 4096) (p q : Fin 1024 → ℝ)
    (hv : ∀ k, v (ix3 b s k) = ((p k : ℝ) : EReal)) (hw : ∀ k, w (ix2 f k) = ((q k : ℝ) : EReal)) :
    (Host.dotGeneral dot_S2x2048x1024_S4096x1024_S2x2048x4096_2_1_01_0_n_n none v w : FVec Ideal S2x2048x4096 .f32) (ix3 b s f) = ((∑ k, p k * q k : ℝ) : EReal) := by
  pointwise []
  simp only [hv, hw, coe_sum, ← EReal.coe_mul]

theorem back_at (v : FVec Ideal S2x2048x4096 .f32) (w : FVec Ideal S1024x4096 .f32) (b : Fin 2) (s : Fin 2048) (j : Fin 1024) (p q : Fin 4096 → ℝ)
    (hv : ∀ f, v (ix3 b s f) = ((p f : ℝ) : EReal)) (hw : ∀ f, w (ix2 j f) = ((q f : ℝ) : EReal)) :
    (Host.dotGeneral dot_S2x2048x4096_S1024x4096_S2x2048x1024_2_1_01_0_n_n none v w : FVec Ideal S2x2048x1024 .f32) (ix3 b s j) = ((∑ f, p f * q f : ℝ) : EReal) := by
  pointwise []
  simp only [hv, hw, coe_sum, ← EReal.coe_mul]

theorem rows_at (a : FVec Ideal S2x2048x1024 .f32) (q : Fin 4096) (k : Fin 1024) :
    (shapeCast S4096x1024 a shapeCasts_S2x2048x1024_S4096x1024 : FVec Ideal S4096x1024 .f32) (ix2 q k) = a (ix3 (qb q) (qs q) k) := by
  pointwise []
  rfl

theorem wide_at (a : FVec Ideal S2x2048x4096 .f32) (q : Fin 4096) (k : Fin 4096) :
    (truncf .bf16 (shapeCast S4096x4096 a shapeCasts_S2x2048x4096_S4096x4096) bitsLt_bf16_f32 : FVec Ideal S4096x4096 .bf16) (ix2 q k) = a (ix3 (qb q) (qs q) k) := by
  pointwise []
  rfl

theorem narrow_at (a : FVec Ideal S2x2048x1024 .f32) (q : Fin 4096) (k : Fin 1024) :
    (truncf .bf16 (shapeCast S4096x1024 a shapeCasts_S2x2048x1024_S4096x1024) bitsLt_bf16_f32 : FVec Ideal S4096x1024 .bf16) (ix2 q k) = a (ix3 (qb q) (qs q) k) := by
  pointwise []
  rfl

/-- The rectifier's gradient, as a choice and as a product. -/
theorem rect_at (a u s : EReal) (ar sr : ℝ) (ha : a = ((ar : ℝ) : EReal)) (hu : u = ((max ar 0 : ℝ) : EReal)) (hs : s = ((sr : ℝ) : EReal)) :
    (if ((0 : ℝ) : EReal) < a then u * s + s * u else ((0 : ℝ) : EReal)) = ((sr * (2 * max ar 0) : ℝ) : EReal) := by
  subst ha hu hs
  by_cases h : 0 < ar
  · rw [if_pos (EReal.coe_lt_coe_iff.mpr h), ← EReal.coe_mul, ← EReal.coe_mul, ← EReal.coe_add]
    exact congrArg _ (by ring)
  · rw [if_neg (fun h' => h (EReal.coe_lt_coe_iff.mp h')), max_eq_right (not_lt.mp h)]
    exact congrArg _ (by ring)

variable (m : (ℓ : Loc nD τ sig) → Buf (Elt Ideal) ℓ) (c : Dev nD)
  (x d : Fin 2 → Fin 2048 → Fin 1024 → ℝ) (g : Fin 1024 → ℝ) (wu : Fin 1024 → Fin 4096 → ℝ) (wd : Fin 4096 → Fin 1024 → ℝ)
  (h0 : ∀ b s k, (m ((c : Thread nD τ).loc main_arg0) : FVec Ideal S2x2048x1024 .f32) (ix3 b s k) = ((x b s k : ℝ) : EReal))
  (h1 : ∀ b s k, (m ((c : Thread nD τ).loc main_arg1) : FVec Ideal S2x2048x1024 .f32) (ix3 b s k) = ((d b s k : ℝ) : EReal))
  (h2 : ∀ k, (m ((c : Thread nD τ).loc main_arg2) : FVec Ideal S1x1024 .f32) (ix2 0 k) = ((g k : ℝ) : EReal))
  (h3 : ∀ j k, (m ((c : Thread nD τ).loc main_arg3) : FVec Ideal S1x1024x4096 .f32) (ix3 0 j k) = ((wu j k : ℝ) : EReal))
  (h4 : ∀ j k, (m ((c : Thread nD τ).loc main_arg4) : FVec Ideal S1x4096x1024 .f32) (ix3 0 j k) = ((wd j k : ℝ) : EReal))
  (b : Fin 2) (s : Fin 2048)

include h0 in
theorem ms_at : msT (F := Ideal) m c (ix3 b s 0) = ((ms (x b s) : ℝ) : EReal) := by
  pointwise [msT]
  simp only [h0, ofBits_1024, ofBits_eps, zero_add, coe_sum, ← EReal.coe_mul, div_real _ (by norm_num : (1024 : ℝ) ≠ 0), ← EReal.coe_add]
  unfold ms; push_cast; rfl

include h0 in
theorem rs_at : rsT (F := Ideal) m c (ix3 b s 0) = ((rs (x b s) : ℝ) : EReal) := by
  pointwise [rsT]
  rw [ms_at m c x h0, rsqrt_real (ms_pos _)]; rfl

include h0 h2 in
theorem h_at (k : Fin 1024) : hT (F := Ideal) m c (ix3 b s k) = ((MlpSpec.h (x b s) g k : ℝ) : EReal) := by
  pointwise [hT]
  rw [rs_at m c x h0, h0, h2, ← EReal.coe_mul, ← EReal.coe_mul]; rfl

include h0 h2 h3 in
theorem a_at (f : Fin 4096) : aT (F := Ideal) m c (ix3 b s f) = ((MlpSpec.a (x b s) g wu f : ℝ) : EReal) := by
  unfold aT
  exact up_at _ _ b s f _ _ (h_at m c x g h0 h2 b s) fun k => wu_at _ wu h3 k f

include h1 h4 in
theorem s_at (f : Fin 4096) : sT (F := Ideal) m c (ix3 b s f) = ((∑ k, d b s k * wd f k : ℝ) : EReal) := by
  unfold sT
  exact down_at _ _ b s f _ _ (fun k => (same_at _ b s k).trans (h1 b s k)) fun k => wd_at _ wd h4 f k

include h0 h2 h3 in
theorem u_at (f : Fin 4096) : uT (F := Ideal) m c (ix3 b s f) = ((MlpSpec.u (x b s) g wu f : ℝ) : EReal) := by
  pointwise [uT]
  rw [a_at m c x g wu h0 h2 h3]
  first | exact (EReal.coe_strictMono.monotone.map_max).symm | (rw [← EReal.coe_zero]; exact (EReal.coe_strictMono.monotone.map_max).symm)

include h0 h1 h2 h3 h4 in
theorem da_at (f : Fin 4096) : daT (F := Ideal) m c (ix3 b s f) = ((MlpSpec.da (x b s) (d b s) g wu wd f : ℝ) : EReal) := by
  pointwise [daT]
  have h := rect_at _ _ _ _ _ (a_at m c x g wu h0 h2 h3 b s f) (u_at m c x g wu h0 h2 h3 b s f) (s_at m c d wd h1 h4 b s f)
  first | exact h | (rw [← EReal.coe_zero]; exact h) | (simpa using h)

include h0 h1 h2 h3 h4 in
theorem dh_at (k : Fin 1024) : dhT (F := Ideal) m c (ix3 b s k) = ((MlpSpec.dh (x b s) (d b s) g wu wd k : ℝ) : EReal) := by
  unfold dhT
  exact back_at _ _ b s k _ _ (da_at m c x d g wu wd h0 h1 h2 h3 h4 b s) fun f => wu_at _ wu h3 k f

include h0 h1 h2 h3 h4 in
theorem dg_at (k : Fin 1024) : dgT (F := Ideal) m c (ix3 b s k) = ((MlpSpec.dh (x b s) (d b s) g wu wd k * g k : ℝ) : EReal) := by
  pointwise [dgT]
  rw [dh_at m c x d g wu wd h0 h1 h2 h3 h4, h2, ← EReal.coe_mul]

include h0 h1 h2 h3 h4 in
theorem k_at (k : Fin 1024) : kT (F := Ideal) m c (ix3 b s k)
    = (((∑ k, x b s k * (MlpSpec.dh (x b s) (d b s) g wu wd k * g k)) * (-(1 / 2) * (rs (x b s) / ms (x b s))) / (1024 : ℕ) : ℝ) : EReal) := by
  pointwise [kT]
  simp only [dg_at m c x d g wu wd h0 h1 h2 h3 h4, rs_at m c x h0, ms_at m c x h0, h0, ofBits_neg_half, ofBits_1024, zero_add, Fin.sum_univ_one, coe_sum, ← EReal.coe_mul,
    div_real _ (ms_pos _).ne', div_real _ (by norm_num : (1024 : ℝ) ≠ 0)]
  push_cast
  rfl

include h0 h1 h2 h3 h4 in
theorem xT_at (q : Fin 4096) (k : Fin 1024) : xT (F := Ideal) m c (ix2 q k)
    = ((MlpSpec.dx (x (qb q) (qs q)) (d (qb q) (qs q)) g wu wd k : ℝ) : EReal) := by
  unfold xT
  rw [rows_at]
  generalize qb q = b
  generalize qs q = s
  pointwise []
  rw [k_at m c x d g wu wd h0 h1 h2 h3 h4, dg_at m c x d g wu wd h0 h1 h2 h3 h4, rs_at m c x h0, h0, h1, ← EReal.coe_mul, ← EReal.coe_mul, ← EReal.coe_mul, ← EReal.coe_add, ← EReal.coe_add, ← EReal.coe_add]
  refine congrArg _ ?_
  unfold MlpSpec.dx
  rw [← chain_eq_back]
  ring

include h0 h1 h2 h3 h4 in
theorem x_at (q : Fin 4096) (k : Fin 1024) : (res_main_v71 (F := Ideal) m c : FVec Ideal S4096x1024 .f32) (ix2 q k)
    = ((MlpSpec.dx (x (qb q) (qs q)) (d (qb q) (qs q)) g wu wd k : ℝ) : EReal) :=
  (congrFun (x_term (F := Ideal) m c) (ix2 q k)).trans (xT_at m c x d g wu wd h0 h1 h2 h3 h4 q k)

theorem trunc_at (a : FVec Ideal S4096x1024 .f32) (q : Fin 4096) (k : Fin 1024) : (truncf .bf16 a bitsLt_bf16_f32 : FVec Ideal S4096x1024 .bf16) (ix2 q k) = a (ix2 q k) := by
  pointwise []

include h0 h1 h2 h3 h4 in
theorem xb_at (q : Fin 4096) (k : Fin 1024) : (res_main_v77 (F := Ideal) m c : FVec Ideal S4096x1024 .bf16) (ix2 q k)
    = ((MlpSpec.dx (x (qb q) (qs q)) (d (qb q) (qs q)) g wu wd k : ℝ) : EReal) :=
  (congrFun (xb_term (F := Ideal) m c) (ix2 q k)).trans ((trunc_at _ q k).trans (xT_at m c x d g wu wd h0 h1 h2 h3 h4 q k))

include h0 h1 h2 h3 h4 in
theorem daR_at (q f : Fin 4096) : daR (F := Ideal) m c (ix2 q f) = ((MlpSpec.da (x (qb q) (qs q)) (d (qb q) (qs q)) g wu wd f : ℝ) : EReal) := by
  unfold daR
  exact (wide_at _ q f).trans (da_at m c x d g wu wd h0 h1 h2 h3 h4 _ _ f)

include h0 h2 in
theorem hR_at (q : Fin 4096) (k : Fin 1024) : hR (F := Ideal) m c (ix2 q k) = ((MlpSpec.h (x (qb q) (qs q)) g k : ℝ) : EReal) := by
  unfold hR
  exact (narrow_at _ q k).trans (h_at m c x g h0 h2 _ _ k)

include h0 h1 h2 h3 h4 in
theorem g_at (k : Fin 1024) : (res_main_v56 (F := Ideal) m c : FVec Ideal S1x1024 .f32) (ix2 0 k) = ((∑ b, ∑ s, MlpSpec.dh (x b s) (d b s) g wu wd k * nrm (x b s) k : ℝ) : EReal) := by
  refine (congrFun (g_term (F := Ideal) m c) (ix2 0 k)).trans ?_
  pointwise [gT]
  refine (sum_lead_real _ _ k (fun _ _ => ∑ b, ∑ s, MlpSpec.dh (x b s) (d b s) g wu wd k * nrm (x b s) k) fun i j => ?_).trans (by simp)
  obtain rfl : i = 0 := Subsingleton.elim _ _
  obtain rfl : j = 0 := Subsingleton.elim _ _
  pointwise []
  refine sum_lead_real _ _ k _ fun b s => ?_
  pointwise []
  rw [dh_at m c x d g wu wd h0 h1 h2 h3 h4, rs_at m c x h0, h0, ← EReal.coe_mul, ← EReal.coe_mul]
  refine congrArg _ ?_
  unfold nrm; ring

end Cert.MlpRefIdeal.At

end
-- ==== Proof.MlpFinite.lean ====
/- The precondition of the MLP's claim: every entry of the arrays it names is a real number. -/
module

public import proofs.«01_k».proof.Pre_finite_mlp
public import proofs.«01_k».proof.Proof.Finite

@[expose] public section

set_option maxRecDepth 16384

noncomputable section

namespace Cert.Pre_finite_mlp

open Cert.Rows Idealize.ShloMosaic

variable [Facts]

theorem reals {a0 a1 : FVec Ideal S2x2048x1024 .f32} {a2 : FVec Ideal S1x1024 .f32} {a3 : FVec Ideal S1x1024x4096 .f32}
    {a4 : FVec Ideal S1x4096x1024 .f32} (h : fn (F := Ideal) a0 a1 a2 a3 a4 = fun _ => 1#1) :
    (∀ i, a0 i = (((a0 i).toReal : ℝ) : EReal)) ∧ (∀ i, a1 i = (((a1 i).toReal : ℝ) : EReal)) ∧ (∀ i, a2 i = (((a2 i).toReal : ℝ) : EReal))
    ∧ (∀ i, a3 i = (((a3 i).toReal : ℝ) : EReal)) ∧ (∀ i, a4 i = (((a4 i).toReal : ℝ) : EReal)) := by
  have e := congrFun h (Shape.Idx.first (s := S_) Facts.h_S_)
  obtain ⟨e, e4⟩ := andi_one e
  obtain ⟨e, e3⟩ := andi_one e
  obtain ⟨e, e2⟩ := andi_one e
  obtain ⟨e, e1⟩ := andi_one e
  obtain ⟨_, e0⟩ := andi_one e
  exact ⟨real_of_all _ _ _ _ _ _ e0, real_of_all _ _ _ _ _ _ e1, real_of_all _ _ _ _ _ _ e2, real_of_all _ _ _ _ _ _ e3, real_of_all _ _ _ _ _ _ e4⟩

end Cert.Pre_finite_mlp

end
-- ==== Proof.MlpPair.lean ====
/- The MLP's backward kernel agrees with its reference. -/
module

public import proofs.«01_k».proof.Defs
public import proofs.«01_k».proof.Proof.Gen.Pre_finite_mlp
public import proofs.«01_k».proof.Proof.MlpFin
public import proofs.«01_k».proof.Proof.MlpRef
public import proofs.«01_k».proof.Proof.MlpFinite

@[expose] public section

set_option maxRecDepth 16384

noncomputable section

namespace Cert.MlpPair

open Cert.Rows Idealize.ShloMosaic Idealize.ShloMosaic.TcCoe Idealize.SL.Sem
open Cert.MlpIdeal (S2x2048x1024 S1x1024 S1x1024x4096 S1x4096x1024)

/-- The real arrays behind a memory's arguments. -/
abbrev rx (V : FVec Ideal S2x2048x1024 .f32) : Fin 2 → Fin 2048 → Fin 1024 → ℝ := fun b s k => (V (ix3 b s k)).toReal
abbrev rg (V : FVec Ideal S1x1024 .f32) : Fin 1024 → ℝ := fun k => (V (ix2 0 k)).toReal
abbrev rw3 (V : FVec Ideal S1x1024x4096 .f32) : Fin 1024 → Fin 4096 → ℝ := fun j k => (V (ix3 0 j k)).toReal
abbrev rw4 (V : FVec Ideal S1x4096x1024 .f32) : Fin 4096 → Fin 1024 → ℝ := fun j k => (V (ix3 0 j k)).toReal

theorem ref_frame : @Cert.quiescent_MlpRefIdeal Cert.MlpRefIdeal.Gen.facts := fun m g _ =>
  (θ_run Cert.MlpRefIdeal.defs _ _).mono (fun r h => ⟨fun c => (h c).2.2.2.2.2, Idealize.ShloMosaic.sem_eq_zero_of_no_sems (by decide) r.2⟩)
    (Cert.MlpRefIdeal.Value.run (F := Ideal) m g)

set_option maxHeartbeats 1600000 in
theorem algebraic : @Cert.algebraic_MlpIdeal_MlpRefIdeal_pre_finite_mlp Cert.MlpIdeal.Gen.facts Cert.MlpRefIdeal.Gen.facts Cert.Pre_finite_mlp.Gen.facts := by
  pair_intro
  · run_from Cert.MlpIdeal.Value.run_blocks m g
  · run_from Cert.MlpRefIdeal.Value.run m' g'
    all_goals
      obtain ⟨e0, e1, e2, e3, e4⟩ := Cert.Pre_finite_mlp.reals (hpre c)
      obtain ⟨a0, a1, a2, a3, a4⟩ := hagree c
    · exact (Cert.MlpIdeal.Out.fin6 m c (rx (m (c.tc.loc Cert.MlpIdeal.main_arg0))) (rx (m (c.tc.loc Cert.MlpIdeal.main_arg1))) (rg (m (c.tc.loc Cert.MlpIdeal.main_arg2))) (rw3 (m (c.tc.loc Cert.MlpIdeal.main_arg3))) (rw4 (m (c.tc.loc Cert.MlpIdeal.main_arg4)))
        (fun b s k => e0 (ix3 b s k)) (fun b s k => e1 (ix3 b s k)) (fun k => e2 (ix2 0 k)) (fun j k => e3 (ix3 0 j k)) (fun j k => e4 (ix3 0 j k)) _
        (fun q k => Cert.MlpRefIdeal.At.x_at m' c (rx (m (c.tc.loc Cert.MlpIdeal.main_arg0))) (rx (m (c.tc.loc Cert.MlpIdeal.main_arg1))) (rg (m (c.tc.loc Cert.MlpIdeal.main_arg2))) (rw3 (m (c.tc.loc Cert.MlpIdeal.main_arg3))) (rw4 (m (c.tc.loc Cert.MlpIdeal.main_arg4)))
          (fun b s k => (congrFun a0 (ix3 b s k)).trans (e0 (ix3 b s k))) (fun b s k => (congrFun a1 (ix3 b s k)).trans (e1 (ix3 b s k))) (fun k => (congrFun a2 (ix2 0 k)).trans (e2 (ix2 0 k)))
          (fun j k => (congrFun a3 (ix3 0 j k)).trans (e3 (ix3 0 j k))) (fun j k => (congrFun a4 (ix3 0 j k)).trans (e4 (ix3 0 j k))) q k)).symm
    · rw [← a0, ← a1, ← a2, ← a3, ← a4]
      refine Eq.trans (b := Cert.MlpRefIdeal.At.daR m' c) (by
        unfold Cert.MlpRefIdeal.At.daR Cert.MlpRefIdeal.At.daT Cert.MlpRefIdeal.At.sT Cert.MlpRefIdeal.At.uT Cert.MlpRefIdeal.At.aT Cert.MlpRefIdeal.At.hT Cert.MlpRefIdeal.At.rsT Cert.MlpRefIdeal.At.msT; rfl) ?_
      exact (Cert.MlpIdeal.Out.fin7 m c (rx (m (c.tc.loc Cert.MlpIdeal.main_arg0))) (rx (m (c.tc.loc Cert.MlpIdeal.main_arg1))) (rg (m (c.tc.loc Cert.MlpIdeal.main_arg2))) (rw3 (m (c.tc.loc Cert.MlpIdeal.main_arg3))) (rw4 (m (c.tc.loc Cert.MlpIdeal.main_arg4)))
        (fun b s k => e0 (ix3 b s k)) (fun b s k => e1 (ix3 b s k)) (fun k => e2 (ix2 0 k)) (fun j k => e3 (ix3 0 j k)) (fun j k => e4 (ix3 0 j k)) _
        (fun q f => Cert.MlpRefIdeal.At.daR_at m' c (rx (m (c.tc.loc Cert.MlpIdeal.main_arg0))) (rx (m (c.tc.loc Cert.MlpIdeal.main_arg1))) (rg (m (c.tc.loc Cert.MlpIdeal.main_arg2))) (rw3 (m (c.tc.loc Cert.MlpIdeal.main_arg3))) (rw4 (m (c.tc.loc Cert.MlpIdeal.main_arg4)))
          (fun b s k => (congrFun a0 (ix3 b s k)).trans (e0 (ix3 b s k))) (fun b s k => (congrFun a1 (ix3 b s k)).trans (e1 (ix3 b s k))) (fun k => (congrFun a2 (ix2 0 k)).trans (e2 (ix2 0 k)))
          (fun j k => (congrFun a3 (ix3 0 j k)).trans (e3 (ix3 0 j k))) (fun j k => (congrFun a4 (ix3 0 j k)).trans (e4 (ix3 0 j k))) q f)).symm
    · rw [← a0, ← a2]
      refine Eq.trans (b := Cert.MlpRefIdeal.At.hR m' c) (by
        unfold Cert.MlpRefIdeal.At.hR Cert.MlpRefIdeal.At.hT Cert.MlpRefIdeal.At.rsT Cert.MlpRefIdeal.At.msT; rfl) ?_
      exact (Cert.MlpIdeal.Out.fin8 m c (rx (m (c.tc.loc Cert.MlpIdeal.main_arg0))) (rg (m (c.tc.loc Cert.MlpIdeal.main_arg2))) (fun b s k => e0 (ix3 b s k)) (fun k => e2 (ix2 0 k)) _
        (fun q k => Cert.MlpRefIdeal.At.hR_at m' c (rx (m (c.tc.loc Cert.MlpIdeal.main_arg0))) (rg (m (c.tc.loc Cert.MlpIdeal.main_arg2))) (fun b s k => (congrFun a0 (ix3 b s k)).trans (e0 (ix3 b s k))) (fun k => (congrFun a2 (ix2 0 k)).trans (e2 (ix2 0 k))) q k)).symm
    · exact (Cert.MlpIdeal.Out.fin9 m c (rx (m (c.tc.loc Cert.MlpIdeal.main_arg0))) (rx (m (c.tc.loc Cert.MlpIdeal.main_arg1))) (rg (m (c.tc.loc Cert.MlpIdeal.main_arg2))) (rw3 (m (c.tc.loc Cert.MlpIdeal.main_arg3))) (rw4 (m (c.tc.loc Cert.MlpIdeal.main_arg4)))
        (fun b s k => e0 (ix3 b s k)) (fun b s k => e1 (ix3 b s k)) (fun k => e2 (ix2 0 k)) (fun j k => e3 (ix3 0 j k)) (fun j k => e4 (ix3 0 j k)) _
        (fun k => Cert.MlpRefIdeal.At.g_at m' c (rx (m (c.tc.loc Cert.MlpIdeal.main_arg0))) (rx (m (c.tc.loc Cert.MlpIdeal.main_arg1))) (rg (m (c.tc.loc Cert.MlpIdeal.main_arg2))) (rw3 (m (c.tc.loc Cert.MlpIdeal.main_arg3))) (rw4 (m (c.tc.loc Cert.MlpIdeal.main_arg4)))
          (fun b s k => (congrFun a0 (ix3 b s k)).trans (e0 (ix3 b s k))) (fun b s k => (congrFun a1 (ix3 b s k)).trans (e1 (ix3 b s k))) (fun k => (congrFun a2 (ix2 0 k)).trans (e2 (ix2 0 k)))
          (fun j k => (congrFun a3 (ix3 0 j k)).trans (e3 (ix3 0 j k))) (fun j k => (congrFun a4 (ix3 0 j k)).trans (e4 (ix3 0 j k))) k)).symm
    · exact (Cert.MlpIdeal.Out.fin10 m c (rx (m (c.tc.loc Cert.MlpIdeal.main_arg0))) (rx (m (c.tc.loc Cert.MlpIdeal.main_arg1))) (rg (m (c.tc.loc Cert.MlpIdeal.main_arg2))) (rw3 (m (c.tc.loc Cert.MlpIdeal.main_arg3))) (rw4 (m (c.tc.loc Cert.MlpIdeal.main_arg4)))
        (fun b s k => e0 (ix3 b s k)) (fun b s k => e1 (ix3 b s k)) (fun k => e2 (ix2 0 k)) (fun j k => e3 (ix3 0 j k)) (fun j k => e4 (ix3 0 j k)) _
        (fun q k => Cert.MlpRefIdeal.At.xb_at m' c (rx (m (c.tc.loc Cert.MlpIdeal.main_arg0))) (rx (m (c.tc.loc Cert.MlpIdeal.main_arg1))) (rg (m (c.tc.loc Cert.MlpIdeal.main_arg2))) (rw3 (m (c.tc.loc Cert.MlpIdeal.main_arg3))) (rw4 (m (c.tc.loc Cert.MlpIdeal.main_arg4)))
          (fun b s k => (congrFun a0 (ix3 b s k)).trans (e0 (ix3 b s k))) (fun b s k => (congrFun a1 (ix3 b s k)).trans (e1 (ix3 b s k))) (fun k => (congrFun a2 (ix2 0 k)).trans (e2 (ix2 0 k)))
          (fun j k => (congrFun a3 (ix3 0 j k)).trans (e3 (ix3 0 j k))) (fun j k => (congrFun a4 (ix3 0 j k)).trans (e4 (ix3 0 j k))) q k)).symm

end Cert.MlpPair

end
-- ==== Proof.MergePay.lean ====
/- The two gates of the merge: the gradients through them over the reals, and what one grid point of the backward kernel
   computes from the blocks it reads. -/
module

public import proofs.«01_k».proof.Proof.Gen.MergeIdeal.Skeleton
public import proofs.«01_k».proof.Proof.Rows

@[expose] public section

set_option maxRecDepth 16384

noncomputable section

namespace Cert.MergeSpec

open Cert.Rows

variable (d : Fin 1024 → ℝ) (wo : Fin 1024 → Fin 1024 → ℝ) (g : Fin 1024 → ℝ) (o : Fin 512 → ℝ) (w : Fin 512 → Fin 1024 → ℝ)

/-- The gradient of the merged row. -/
def dm (j : Fin 1024) : ℝ := ∑ k, d k * wo j k
/-- One attention's row of the merge before its gate. -/
def y (k : Fin 1024) : ℝ := ∑ e, o e * w e k
/-- The gradient of that row, and of its gate before the logistic function. -/
def dy (k : Fin 1024) : ℝ := dm d wo k * sg (g k)
def dz (k : Fin 1024) : ℝ := dm d wo k * y o w k * sg (g k) * (1 - sg (g k))

theorem hi_lt (j : Fin 1024) : j.val / 128 < 8 := by omega
theorem lo_lt (j : Fin 1024) : j.val % 128 < 128 := by omega
theorem col_lt (c : Fin 1024) (h : c.val % 128 < 64) : c.val / 128 * 64 + c.val % 128 < 512 := by omega

/-- The merge's weights with each head's columns padded to twice their number. -/
def wp (k c : Fin 1024) : ℝ := if h : c.val % 128 < 64 then w ⟨c.val / 128 * 64 + c.val % 128, col_lt c h⟩ k else 0
/-- The gradient of the attention's output, each head's columns padded. -/
def dq (c : Fin 1024) : ℝ := ∑ k, dy d wo g k * wp w k c

end Cert.MergeSpec

namespace Cert.MergeIdeal.Pay

open Cert.MergeIdeal Cert.MergeIdeal.Gen Cert.Rows Cert.MergeSpec Idealize.ShloMosaic Idealize.ShloMosaic.TcCoe

variable (v0 v6 v13 : Vec Ideal S512x1024 .bf16) (v2 : Vec Ideal S8x128x1024 .bf16) (v23 : Vec Ideal S1024x1024 .bf16)
  (r : Fin 512) (d : Fin 1024 → ℝ) (wo : Fin 1024 → Fin 1024 → ℝ) (g : Fin 1024 → ℝ) (o : Fin 512 → ℝ) (w : Fin 512 → Fin 1024 → ℝ)
  (h0 : ∀ k, v0 (ix2 r k) = ((d k : ℝ) : EReal))
  (h2 : ∀ j k : Fin 1024, v2 (ix3 ⟨j.val / 128, hi_lt j⟩ ⟨j.val % 128, lo_lt j⟩ k) = ((wo j k : ℝ) : EReal))
  (h6 : ∀ k, v6 (ix2 r k) = ((g k : ℝ) : EReal)) (h13 : ∀ k, v13 (ix2 r k) = ((y o w k : ℝ) : EReal))
  (h23 : ∀ k c, v23 (ix2 k c) = ((wp w k c : ℝ) : EReal))

include h0 h2 in
theorem dm_at (j : Fin 1024) : k0_pay3 (F := Ideal) v0 v2 (ix2 r j) = ((dm d wo j : ℝ) : EReal) := by
  pointwise [k0_pay3]
  simp only [h0, h2, coe_sum, ← EReal.coe_mul]; rfl

include h6 in
theorem ga_at (k : Fin 1024) : k0_pay4 (F := Ideal) v6 (ix2 r k) = ((sg (g k) : ℝ) : EReal) := by
  pointwise [k0_pay4]
  rw [h6, logistic_real]

include h6 in
theorem gb_at (k : Fin 1024) : k0_pay8 (F := Ideal) v6 (ix2 r k) = ((sg (g k) : ℝ) : EReal) := by
  pointwise [k0_pay8]
  rw [h6, logistic_real]

include h0 h2 h6 in
theorem dya_at (k : Fin 1024) : k0_pay5 (F := Ideal) v0 v2 v6 (ix2 r k) = ((dy d wo g k : ℝ) : EReal) := by
  pointwise [k0_pay5]
  rw [dm_at v0 v2 r d wo h0 h2, ga_at v6 r g h6, ← EReal.coe_mul]; rfl

include h0 h2 h6 in
theorem dyb_at (k : Fin 1024) : k0_pay9 (F := Ideal) v0 v2 v6 (ix2 r k) = ((dy d wo g k : ℝ) : EReal) := by
  pointwise [k0_pay9]
  rw [dm_at v0 v2 r d wo h0 h2, gb_at v6 r g h6, ← EReal.coe_mul]; rfl

include h0 h2 h6 h13 in
theorem dza_at (k : Fin 1024) : k0_pay6 (F := Ideal) v0 v2 v6 v13 (ix2 r k) = ((dz d wo g o w k : ℝ) : EReal) := by
  pointwise [k0_pay6]
  rw [dm_at v0 v2 r d wo h0 h2, ga_at v6 r g h6, h13]
  simp only [← EReal.coe_one, ← EReal.coe_mul, ← EReal.coe_sub]; rfl

include h0 h2 h6 h13 in
theorem dzb_at (k : Fin 1024) : k0_pay1 (F := Ideal) (k0_pay3 v0 v2) (k0_pay8 v6) v13 (ix2 r k) = ((dz d wo g o w k : ℝ) : EReal) := by
  pointwise [k0_pay1]
  rw [dm_at v0 v2 r d wo h0 h2, gb_at v6 r g h6, h13]
  simp only [← EReal.coe_one, ← EReal.coe_mul, ← EReal.coe_sub]; rfl

include h0 h2 h6 h23 in
theorem dqa_at (c : Fin 1024) : k0_pay7 (F := Ideal) v0 v2 v6 v23 (ix2 r c) = ((dq d wo g w c : ℝ) : EReal) := by
  pointwise [k0_pay7]
  simp only [dya_at v0 v6 v2 r d wo g h0 h2 h6, h23, coe_sum, ← EReal.coe_mul]; rfl

include h0 h2 h6 h23 in
theorem dqb_at (c : Fin 1024) : k0_pay2 (F := Ideal) (k0_pay9 v0 v2 v6) v23 (ix2 r c) = ((dq d wo g w c : ℝ) : EReal) := by
  pointwise [k0_pay2]
  simp only [dyb_at v0 v6 v2 r d wo g h0 h2 h6, h23, coe_sum, ← EReal.coe_mul]; rfl

end Cert.MergeIdeal.Pay

end
-- ==== Proof.MergeBlocks.lean ====
/- What the merge's backward blocks hold, at the arguments' entries. -/
module

public import proofs.«01_k».proof.Proof.Gen.MergeIdeal.Value
public import proofs.«01_k».proof.Proof.MergePay
public import proofs.«01_k».proof.Proof.Tokens
public import Idealize.ShloMosaic.Lib.Claim
public import Idealize.ShloMosaic.Lib.Pipeline.ValueKit

@[expose] public section

set_option maxRecDepth 16384

noncomputable section

namespace Cert.MergeIdeal.Blk

open Cert.MergeIdeal Cert.MergeIdeal.Gen Cert.Rows Cert.MergeSpec Idealize.ShloMosaic Idealize.ShloMosaic.TcCoe

section Host

/-- The host's rows before the gates, the two attentions' side by side. -/
def yA (oa ob : FVec Ideal S2x2048x512 .f32) (wa wb : FVec Ideal S1x512x1024 .f32) : FVec Ideal S4096x2048 .bf16 :=
  truncf .bf16 (shapeCast S4096x2048 (concatenate S2x2048x2048 2
    [⟨S2x2048x1024, Host.dotGeneral dot_S2x2048x512_S512x1024_S2x2048x1024_2_0_01_1_n_n none oa (shapeCast S512x1024 wa shapeCasts_S1x512x1024_S512x1024)⟩,
     ⟨S2x2048x1024, Host.dotGeneral dot_S2x2048x512_S512x1024_S2x2048x1024_2_0_01_1_n_n none ob (shapeCast S512x1024 wb shapeCasts_S1x512x1024_S512x1024)⟩]
    concatenates_S2x2048x1024_S2x2048x1024_S2x2048x2048_d2 : FVec Ideal S2x2048x2048 .f32) shapeCasts_S2x2048x2048_S4096x2048 : FVec Ideal S4096x2048 .f32) bitsLt_bf16_f32

theorem w_at (v : FVec Ideal S1x512x1024 .f32) (w : Fin 512 → Fin 1024 → ℝ) (h : ∀ j k, v (ix3 0 j k) = ((w j k : ℝ) : EReal)) (j : Fin 512) (k : Fin 1024) :
    (shapeCast S512x1024 v shapeCasts_S1x512x1024_S512x1024 : FVec Ideal S512x1024 .f32) (ix2 j k) = ((w j k : ℝ) : EReal) := by
  pointwise []
  exact h _ _

theorem dot_at (v : FVec Ideal S2x2048x512 .f32) (w : FVec Ideal S512x1024 .f32) (b : Fin 2) (s : Fin 2048) (f : Fin 1024) (p : Fin 512 → ℝ) (q : Fin 512 → Fin 1024 → ℝ)
    (hv : ∀ k, v (ix3 b s k) = ((p k : ℝ) : EReal)) (hw : ∀ k f, w (ix2 k f) = ((q k f : ℝ) : EReal)) :
    (Host.dotGeneral dot_S2x2048x512_S512x1024_S2x2048x1024_2_0_01_1_n_n none v w : FVec Ideal S2x2048x1024 .f32) (ix3 b s f) = ((y p q f : ℝ) : EReal) := by
  pointwise []
  simp only [hv, hw, coe_sum, ← EReal.coe_mul]; rfl

/-- Two arrays of columns side by side, their rows packed. -/
theorem left_at (u v : FVec Ideal S2x2048x1024 .f32) (q : Fin 4096) (k : Fin 1024) (hc hr) :
    (truncf .bf16 (shapeCast S4096x2048 (concatenate S2x2048x2048 2 [⟨S2x2048x1024, u⟩, ⟨S2x2048x1024, v⟩] hc : FVec Ideal S2x2048x2048 .f32) hr : FVec Ideal S4096x2048 .f32)
      bitsLt_bf16_f32 : FVec Ideal S4096x2048 .bf16) (ix2 q ⟨k.val, by omega⟩) = u (ix3 (qb q) (qs q) k) := by
  pointwise []
  rfl

theorem right_at (u v : FVec Ideal S2x2048x1024 .f32) (q : Fin 4096) (k : Fin 1024) (hc hr) :
    (truncf .bf16 (shapeCast S4096x2048 (concatenate S2x2048x2048 2 [⟨S2x2048x1024, u⟩, ⟨S2x2048x1024, v⟩] hc : FVec Ideal S2x2048x2048 .f32) hr : FVec Ideal S4096x2048 .f32)
      bitsLt_bf16_f32 : FVec Ideal S4096x2048 .bf16) (ix2 q ⟨1024 + k.val, by omega⟩) = v (ix3 (qb q) (qs q) k) := by
  pointwise []
  rfl

/-- The first, third and fourth parts of the packed weights. -/
theorem pack_first (a0 a1 : FVec Ideal S8x128x1024 .bf16) (a2 a3 : FVec Ideal S8x64x1024 .bf16) (a4 : FVec Ideal S8x32x1024 .bf16)
    (d : Fin 8) (r : Fin 128) (k : Fin 1024) (hc) :
    (concatenate S8x416x1024 1 [⟨S8x128x1024, a0⟩, ⟨S8x128x1024, a1⟩, ⟨S8x64x1024, a2⟩, ⟨S8x64x1024, a3⟩, ⟨S8x32x1024, a4⟩] hc
        : FVec Ideal S8x416x1024 .bf16) (ix3 d ⟨r.val, by omega⟩ k)
      = a0 (ix3 d r k) := by
  pointwise []

theorem pad_zero : FloatOps.sitofp (F := Ideal) .bf16 (0#32 : BitVec 32) = ((0 : ℝ) : EReal) := by simp [FloatOps.sitofp]

/-- A head's columns padded to twice their number. -/
theorem padA (a0 a1 : FVec Ideal S8x128x1024 .bf16) (a2 a3 : FVec Ideal S8x64x1024 .bf16) (a4 : FVec Ideal S8x32x1024 .bf16) (w : Fin 512 → Fin 1024 → ℝ)
    (h : ∀ (j : Fin 1024) (k : Fin 512), (shapeCast S1024x512 a2 shapeCasts_S8x64x1024_S1024x512 : FVec Ideal S1024x512 .bf16) (ix2 j k) = ((w k j : ℝ) : EReal))
    (k c : Fin 1024) (hc) :
    (shapeCast S1024x1024 (pad S1024x8x128 ![0, 0, 0] ![0, 0, 64] ![0, 0, 0] (shapeCast S1024x8x64 (shapeCast S1024x512 (extractStridedSlice S8x64x1024 ![0, 256, 0]
      (concatenate S8x416x1024 1 [⟨S8x128x1024, a0⟩, ⟨S8x128x1024, a1⟩, ⟨S8x64x1024, a2⟩, ⟨S8x64x1024, a3⟩, ⟨S8x32x1024, a4⟩] hc)
      slices_S8x416x1024_S8x64x1024_0_256_0) shapeCasts_S8x64x1024_S1024x512 : FVec Ideal S1024x512 .bf16) shapeCasts_S1024x512_S1024x8x64 : FVec Ideal S1024x8x64 .bf16)
      (sitofp .bf16 (constantI S_ 32 0#32) : FVec Ideal S_ .bf16) pads_S1024x8x64_S1024x8x128_000_000_0640 h_S_ : FVec Ideal S1024x8x128 .bf16)
      shapeCasts_S1024x8x128_S1024x1024 : FVec Ideal S1024x1024 .bf16) (ix2 k c) = ((wp w k c : ℝ) : EReal) := by
  have e : (extractStridedSlice S8x64x1024 ![0, 256, 0]
      (concatenate S8x416x1024 1 [⟨S8x128x1024, a0⟩, ⟨S8x128x1024, a1⟩, ⟨S8x64x1024, a2⟩, ⟨S8x64x1024, a3⟩, ⟨S8x32x1024, a4⟩] hc)
      slices_S8x416x1024_S8x64x1024_0_256_0 : FVec Ideal S8x64x1024 .bf16) = a2 := by
    funext y; idx_vars y
    pointwise []
    rw [dif_neg (by omega), dif_neg (by omega), dif_pos (by omega)]
    blk_ext []
  rw [e]
  generalize (shapeCast S1024x512 a2 shapeCasts_S8x64x1024_S1024x512 : FVec Ideal S1024x512 .bf16) = X at h
  pointwise []
  unfold wp
  by_cases h1 : c.val % 128 < 64
  · rw [dif_pos h1, dif_pos ⟨by omega, h1⟩]
    refine Eq.trans ?_ (h _ _)
    try blk_ext []
  · rw [dif_neg h1, dif_neg (by omega)]
    exact pad_zero

theorem padB (a0 a1 : FVec Ideal S8x128x1024 .bf16) (a2 a3 : FVec Ideal S8x64x1024 .bf16) (a4 : FVec Ideal S8x32x1024 .bf16) (w : Fin 512 → Fin 1024 → ℝ)
    (h : ∀ (j : Fin 1024) (k : Fin 512), (shapeCast S1024x512 a3 shapeCasts_S8x64x1024_S1024x512 : FVec Ideal S1024x512 .bf16) (ix2 j k) = ((w k j : ℝ) : EReal))
    (k c : Fin 1024) (hc) :
    (shapeCast S1024x1024 (pad S1024x8x128 ![0, 0, 0] ![0, 0, 64] ![0, 0, 0] (shapeCast S1024x8x64 (shapeCast S1024x512 (extractStridedSlice S8x64x1024 ![0, 320, 0]
      (concatenate S8x416x1024 1 [⟨S8x128x1024, a0⟩, ⟨S8x128x1024, a1⟩, ⟨S8x64x1024, a2⟩, ⟨S8x64x1024, a3⟩, ⟨S8x32x1024, a4⟩] hc)
      slices_S8x416x1024_S8x64x1024_0_320_0) shapeCasts_S8x64x1024_S1024x512 : FVec Ideal S1024x512 .bf16) shapeCasts_S1024x512_S1024x8x64 : FVec Ideal S1024x8x64 .bf16)
      (sitofp .bf16 (constantI S_ 32 0#32) : FVec Ideal S_ .bf16) pads_S1024x8x64_S1024x8x128_000_000_0640 h_S_ : FVec Ideal S1024x8x128 .bf16)
      shapeCasts_S1024x8x128_S1024x1024 : FVec Ideal S1024x1024 .bf16) (ix2 k c) = ((wp w k c : ℝ) : EReal) := by
  have e : (extractStridedSlice S8x64x1024 ![0, 320, 0]
      (concatenate S8x416x1024 1 [⟨S8x128x1024, a0⟩, ⟨S8x128x1024, a1⟩, ⟨S8x64x1024, a2⟩, ⟨S8x64x1024, a3⟩, ⟨S8x32x1024, a4⟩] hc)
      slices_S8x416x1024_S8x64x1024_0_320_0 : FVec Ideal S8x64x1024 .bf16) = a3 := by
    funext y; idx_vars y
    pointwise []
    rw [dif_neg (by omega), dif_neg (by omega), dif_neg (by omega), dif_pos (by omega)]
    blk_ext []
  rw [e]
  generalize (shapeCast S1024x512 a3 shapeCasts_S8x64x1024_S1024x512 : FVec Ideal S1024x512 .bf16) = X at h
  pointwise []
  unfold wp
  by_cases h1 : c.val % 128 < 64
  · rw [dif_pos h1, dif_pos ⟨by omega, h1⟩]
    refine Eq.trans ?_ (h _ _)
    try blk_ext []
  · rw [dif_neg h1, dif_neg (by omega)]
    exact pad_zero

/-- The transposed weights, packed by device and read back. -/
theorem tr_at (v : FVec Ideal S1x512x1024 .f32) (w : Fin 512 → Fin 1024 → ℝ) (h : ∀ j k, v (ix3 0 j k) = ((w j k : ℝ) : EReal)) (j : Fin 1024) (k : Fin 512) :
    (shapeCast S1024x512 (truncf .bf16 (shapeCast S8x64x1024 (transpose S1024x512 [1, 0] (shapeCast S512x1024 v shapeCasts_S1x512x1024_S512x1024)
      transposes_S512x1024_S1024x512_1_0 : FVec Ideal S1024x512 .f32) shapeCasts_S1024x512_S8x64x1024 : FVec Ideal S8x64x1024 .f32) bitsLt_bf16_f32 : FVec Ideal S8x64x1024 .bf16)
      shapeCasts_S8x64x1024_S1024x512 : FVec Ideal S1024x512 .bf16) (ix2 j k) = ((w k j : ℝ) : EReal) := by
  pointwise []
  refine Eq.trans ?_ (h _ _)
  blk_ext []

end Host

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![t.val, 1] ∧ win0_4.index t = ![0, 0] ∧ win0_5.index t = ![0, 0] ∧ win0_6.index t = ![0, 0, 0]
    ∧ win0_7.index t = ![t.val, 0] ∧ win0_8.index t = ![t.val, 0] ∧ win0_9.index t = ![t.val, 0] ∧ win0_10.index t = ![t.val, 0] ∧ win0_11.index t = ![t.val, 0] :=
  (by decide +kernel : ∀ t : Fin grid0.N, _)

/-- Row `r` of the block at point `t`. -/
def tr (t : Fin cfg0.N) (r : Fin 512) : Fin 4096 := ⟨t.val * 512 + r.val, by have := t.isLt; have : cfg0.N = 8 := N_0; omega⟩

theorem row (t : Fin cfg0.N) (r : Fin 512) : tb t.val r = qb (tr t r) ∧ ts t.val r = qs (tr t r) :=
  ⟨tb_qb _ _ _, rfl⟩

variable (oa ob : Fin 2 → Fin 2048 → Fin 512 → ℝ) (ga gb d : Fin 2 → Fin 2048 → Fin 1024 → ℝ) (wo : Fin 1024 → Fin 1024 → ℝ) (wa wb : Fin 512 → Fin 1024 → ℝ)
  (h0 : ∀ b s k, (m ((c : Thread nD τ).loc main_arg0) : FVec Ideal S2x2048x512 .f32) (ix3 b s k) = ((oa b s k : ℝ) : EReal))
  (h1 : ∀ b s k, (m ((c : Thread nD τ).loc main_arg1) : FVec Ideal S2x2048x512 .f32) (ix3 b s k) = ((ob b s k : ℝ) : EReal))
  (h2 : ∀ b s k, (m ((c : Thread nD τ).loc main_arg2) : FVec Ideal S2x2048x1024 .f32) (ix3 b s k) = ((ga b s k : ℝ) : EReal))
  (h3 : ∀ b s k, (m ((c : Thread nD τ).loc main_arg3) : FVec Ideal S2x2048x1024 .f32) (ix3 b s k) = ((gb b s k : ℝ) : EReal))
  (h4 : ∀ b s k, (m ((c : Thread nD τ).loc main_arg4) : FVec Ideal S2x2048x1024 .f32) (ix3 b s k) = ((d b s k : ℝ) : EReal))
  (h5 : ∀ j k, (m ((c : Thread nD τ).loc main_arg5) : FVec Ideal S1x1024x1024 .f32) (ix3 0 j k) = ((wo j k : ℝ) : EReal))
  (h7 : ∀ j k, (m ((c : Thread nD τ).loc main_arg7) : FVec Ideal S1x512x1024 .f32) (ix3 0 j k) = ((wa j k : ℝ) : EReal))
  (h8 : ∀ j k, (m ((c : Thread nD τ).loc main_arg8) : FVec Ideal S1x512x1024 .f32) (ix3 0 j k) = ((wb j k : ℝ) : EReal))

include h4 in
theorem read0 (t : Fin cfg0.N) (r : Fin 512) (k : Fin 1024) : iblk m c 0 t (ix2 r k) = ((d (tb t.val r) (ts t.val r) k : ℝ) : EReal) := by
  blk_simp [iblk, idx t]
  have e : (win0_0.blk t).view.emb (ix2 r k) = (ix2 (tr t r) k : S4096x1024.Idx) := by blk_ext [idx t, tr]
  rw [e]
  unfold V
  simp only [hostOps0, hostOps0_1, hostOps0_2, hostOps0_3, hostOps0_4, List.flatten_cons, List.flatten_nil, List.cons_append, List.nil_append, List.append_nil]
  after_results_simp
  pointwise []
  rw [(row t r).1, (row t r).2]
  exact h4 _ _ _

include h0 h1 h7 h8 in
theorem read1a (t : Fin cfg0.N) (r : Fin 512) (k : Fin 1024) (k' : Fin 2048) (hk : k'.val = k.val) :
    iblk m c 1 t (ix2 r k') = ((y (oa (tb t.val r) (ts t.val r)) wa k : ℝ) : EReal) := by
  obtain rfl : k' = ⟨k.val, Nat.lt_of_lt_of_le k.isLt (by decide)⟩ := Fin.ext hk
  blk_simp [iblk, idx t]
  have e : (win0_1.blk t).view.emb (ix2 r ⟨k.val, by omega⟩) = (ix2 (tr t r) ⟨k.val, by omega⟩ : S4096x2048.Idx) := by blk_ext [idx t, tr]
  rw [e]
  unfold V
  simp only [hostOps0, hostOps0_1, hostOps0_2, hostOps0_3, hostOps0_4, List.flatten_cons, List.flatten_nil, List.cons_append, List.nil_append, List.append_nil]
  after_results_simp
  rw [(row t r).1, (row t r).2]
  refine (left_at _ _ _ _ _ _).trans ?_
  exact dot_at _ _ _ _ _ _ _ (h0 _ _) (w_at _ wa h7)

include h0 h1 h7 h8 in
theorem read1b (t : Fin cfg0.N) (r : Fin 512) (k : Fin 1024) (k' : Fin 2048) (hk : k'.val = 1024 + k.val) :
    iblk m c 1 t (ix2 r k') = ((y (ob (tb t.val r) (ts t.val r)) wb k : ℝ) : EReal) := by
  obtain rfl : k' = ⟨1024 + k.val, Nat.add_lt_add_left k.isLt 1024⟩ := Fin.ext hk
  blk_simp [iblk, idx t]
  have e : (win0_1.blk t).view.emb (ix2 r ⟨1024 + k.val, by omega⟩) = (ix2 (tr t r) ⟨1024 + k.val, by omega⟩ : S4096x2048.Idx) := by blk_ext [idx t, tr]
  rw [e]
  unfold V
  simp only [hostOps0, hostOps0_1, hostOps0_2, hostOps0_3, hostOps0_4, List.flatten_cons, List.flatten_nil, List.cons_append, List.nil_append, List.append_nil]
  after_results_simp
  rw [(row t r).1, (row t r).2]
  refine (right_at _ _ _ _ _ _).trans ?_
  exact dot_at _ _ _ _ _ _ _ (h1 _ _) (w_at _ wb h8)

include h2 in
theorem read2 (t : Fin cfg0.N) (r : Fin 512) (k : Fin 1024) : iblk m c 2 t (ix2 r k) = ((ga (tb t.val r) (ts t.val r) k : ℝ) : EReal) := by
  blk_simp [iblk, idx t]
  have e : (win0_2.blk t).view.emb (ix2 r k) = (ix2 (tr t r) ⟨k.val, by omega⟩ : S4096x2048.Idx) := by blk_ext [idx t, tr]
  rw [e]
  unfold V
  simp only [hostOps0, hostOps0_1, hostOps0_2, hostOps0_3, hostOps0_4, List.flatten_cons, List.flatten_nil, List.cons_append, List.nil_append, List.append_nil]
  after_results_simp
  rw [(row t r).1, (row t r).2]
  exact (left_at _ _ _ _ _ _).trans (h2 _ _ _)

include h3 in
theorem read3 (t : Fin cfg0.N) (r : Fin 512) (k : Fin 1024) : iblk m c 3 t (ix2 r k) = ((gb (tb t.val r) (ts t.val r) k : ℝ) : EReal) := by
  blk_simp [iblk, idx t]
  have e : (win0_3.blk t).view.emb (ix2 r k) = (ix2 (tr t r) ⟨1024 + k.val, by omega⟩ : S4096x2048.Idx) := by blk_ext [idx t, tr]
  rw [e]
  unfold V
  simp only [hostOps0, hostOps0_1, hostOps0_2, hostOps0_3, hostOps0_4, List.flatten_cons, List.flatten_nil, List.cons_append, List.nil_append, List.append_nil]
  after_results_simp
  rw [(row t r).1, (row t r).2]
  exact (right_at _ _ _ _ _ _).trans (h3 _ _ _)

include h7 in
theorem read4 (t : Fin cfg0.N) (k j : Fin 1024) : iblk m c 4 t (ix2 k j) = ((wp wa k j : ℝ) : EReal) := by
  blk_simp [iblk, idx t]
  have e : (win0_4.blk t).view.emb (ix2 k j) = (ix2 k j : S1024x1024.Idx) := by blk_ext [idx t]
  rw [e]
  unfold V
  simp only [hostOps0, hostOps0_1, hostOps0_2, hostOps0_3, hostOps0_4, List.flatten_cons, List.flatten_nil, List.cons_append, List.nil_append, List.append_nil]
  after_results_simp
  simp only [StableHlo.TRef.toBuf, StableHlo.TRef.ofBuf, cast_eq]
  refine padA _ _ _ _ _ wa (fun j k => ?_) k j _
  simp only [Matrix.cons_val]
  try after_results_simp
  exact tr_at _ wa h7 j k

include h8 in
theorem read5 (t : Fin cfg0.N) (k j : Fin 1024) : iblk m c 5 t (ix2 k j) = ((wp wb k j : ℝ) : EReal) := by
  blk_simp [iblk, idx t]
  have e : (win0_5.blk t).view.emb (ix2 k j) = (ix2 k j : S1024x1024.Idx) := by blk_ext [idx t]
  rw [e]
  unfold V
  simp only [hostOps0, hostOps0_1, hostOps0_2, hostOps0_3, hostOps0_4, List.flatten_cons, List.flatten_nil, List.cons_append, List.nil_append, List.append_nil]
  after_results_simp
  simp only [StableHlo.TRef.toBuf, StableHlo.TRef.ofBuf, cast_eq]
  refine padB _ _ _ _ _ wb (fun j k => ?_) k j _
  simp only [Matrix.cons_val]
  try after_results_simp
  exact tr_at _ wb h8 j k

include h5 in
theorem read6 (t : Fin cfg0.N) (j k : Fin 1024) :
    X0_6 m c t (ix3 ⟨j.val / 128, hi_lt j⟩ ⟨j.val % 128, lo_lt j⟩ k : S8x128x1024.Idx) = ((wo j k : ℝ) : EReal) := by
  unfold X0_6 Pipeline.Window.fill
  rw [dif_pos (moved0_6 t _)]
  blk_simp [iblk, idx t]
  generalize hx : (win0_6.blk t).view.emb _ = x
  have e : x = (ix3 ⟨j.val / 128, hi_lt j⟩ ⟨j.val % 128, by omega⟩ k : S8x416x1024.Idx) := by
    rw [← hx]; blk_ext [idx t]
  rw [e]
  unfold V
  simp only [hostOps0, hostOps0_1, hostOps0_2, hostOps0_3, hostOps0_4, List.flatten_cons, List.flatten_nil, List.cons_append, List.nil_append, List.append_nil]
  after_results_simp
  refine (pack_first _ _ _ _ _ _ ⟨j.val % 128, lo_lt j⟩ _ _).trans ?_
  simp only [Matrix.cons_val]
  try after_results_simp
  pointwise []
  refine Eq.trans ?_ (h5 _ _)
  blk_ext []

end Cert.MergeIdeal.Blk

end
-- ==== Proof.MergeFin.lean ====
/- The arrays the merge's backward kernel leaves, from their entries. -/
module

public import proofs.«01_k».proof.Proof.MergeBlocks
public import proofs.«01_k».proof.Proof.Slabs

@[expose] public section

set_option maxRecDepth 16384

noncomputable section

namespace Cert.MergeIdeal.Out

open Cert.MergeIdeal Cert.MergeIdeal.Gen Cert.MergeIdeal.Blk Cert.Rows Cert.MergeSpec Idealize.ShloMosaic Idealize.ShloMosaic.TcCoe

variable (m : (ℓ : Loc nD τ sig) → Buf (Elt Ideal) ℓ) (c : Dev nD)
  (oa ob : Fin 2 → Fin 2048 → Fin 512 → ℝ) (ga gb d : Fin 2 → Fin 2048 → Fin 1024 → ℝ) (wo : Fin 1024 → Fin 1024 → ℝ) (wa wb : Fin 512 → Fin 1024 → ℝ)
  (h0 : ∀ b s k, (m ((c : Thread nD τ).loc main_arg0) : FVec Ideal S2x2048x512 .f32) (ix3 b s k) = ((oa b s k : ℝ) : EReal))
  (h1 : ∀ b s k, (m ((c : Thread nD τ).loc main_arg1) : FVec Ideal S2x2048x512 .f32) (ix3 b s k) = ((ob b s k : ℝ) : EReal))
  (h2 : ∀ b s k, (m ((c : Thread nD τ).loc main_arg2) : FVec Ideal S2x2048x1024 .f32) (ix3 b s k) = ((ga b s k : ℝ) : EReal))
  (h3 : ∀ b s k, (m ((c : Thread nD τ).loc main_arg3) : FVec Ideal S2x2048x1024 .f32) (ix3 b s k) = ((gb b s k : ℝ) : EReal))
  (h4 : ∀ b s k, (m ((c : Thread nD τ).loc main_arg4) : FVec Ideal S2x2048x1024 .f32) (ix3 b s k) = ((d b s k : ℝ) : EReal))
  (h5 : ∀ j k, (m ((c : Thread nD τ).loc main_arg5) : FVec Ideal S1x1024x1024 .f32) (ix3 0 j k) = ((wo j k : ℝ) : EReal))
  (h7 : ∀ j k, (m ((c : Thread nD τ).loc main_arg7) : FVec Ideal S1x512x1024 .f32) (ix3 0 j k) = ((wa j k : ℝ) : EReal))
  (h8 : ∀ j k, (m ((c : Thread nD τ).loc main_arg8) : FVec Ideal S1x512x1024 .f32) (ix3 0 j k) = ((wb j k : ℝ) : EReal))

/-- A stored half of a block's columns holds its part of a function of rows and columns. -/
theorem slab_at (G : Fin 512 → Fin 2048 → EReal) (a : ℕ) (ch : Fin 1024 → Fin 2048) (hc : ∀ k, (ch k).val = k.val + a)
    (inb : ∀ y, (![0, a] : Fin 2 → ℕ) y + S512x1024.size y ≤ S512x2048.size y) (w : Vec Ideal S512x1024 .bf16) (hw : ∀ r f, w (ix2 r f) = G r (ch f))
    (y : (Rect.unit (s := S512x2048) ![0, a] S512x1024.size inb).shape.Idx) :
    w y = G ((Rect.unit (s := S512x2048) ![0, a] S512x1024.size inb).emb y 0) ((Rect.unit (s := S512x2048) ![0, a] S512x1024.size inb).emb y 1) := by
  revert y
  show ∀ y : S512x1024.Idx, _
  intro y; idx_vars y
  obtain ⟨r, hr⟩ : ∃ r, r = y0 := ⟨_, rfl⟩
  obtain ⟨f, hf⟩ : ∃ f, f = y1 := ⟨_, rfl⟩
  rw [← hr, ← hf]
  have e : (Rect.unit (s := S512x2048) ![0, a] S512x1024.size inb).emb (ix2 r f : S512x1024.Idx) = (ix2 r (ch f) : S512x2048.Idx) :=
    Slabs.emb_slab 0 a r f _ _ (by omega) (by have := hc f; omega) inb
  rw [e]
  exact hw r f

theorem left_lt (k : Fin 1024) : k.val < 2048 := by omega
theorem right_lt (k : Fin 1024) : 1024 + k.val < 2048 := by omega

include h0 h1 h7 h8 in
theorem ldA (t : Fin cfg0.N) (inb) (r : Fin 512) (k : Fin 1024) :
    View.ld (Val := Elt Ideal) (e' := .bf16) (iblk m c 1 t : Vec Ideal S512x2048 .bf16) (Rect.unit (s := S512x2048) ![0, 0] S512x1024.size inb)
      (ix2 r k : S512x1024.Idx) = ((y (oa (tb t.val r) (ts t.val r)) wa k : ℝ) : EReal) :=
  (Slabs.ld_slab (Val := Elt Ideal) (e := .bf16) (iblk m c 1 t : Vec Ideal S512x2048 .bf16) 0 0 r k r ⟨k.val, left_lt k⟩ (by omega) (by show k.val = _; omega) inb).trans
    (read1a m c oa ob wa wb h0 h1 h7 h8 t r k _ rfl)

include h0 h1 h7 h8 in
theorem ldB (t : Fin cfg0.N) (inb) (r : Fin 512) (k : Fin 1024) :
    View.ld (Val := Elt Ideal) (e' := .bf16) (iblk m c 1 t : Vec Ideal S512x2048 .bf16) (Rect.unit (s := S512x2048) ![0, 1024] S512x1024.size inb)
      (ix2 r k : S512x1024.Idx) = ((y (ob (tb t.val r) (ts t.val r)) wb k : ℝ) : EReal) :=
  (Slabs.ld_slab (Val := Elt Ideal) (e := .bf16) (iblk m c 1 t : Vec Ideal S512x2048 .bf16) 0 1024 r k r ⟨1024 + k.val, right_lt k⟩ (by omega) (by show 1024 + k.val = _; omega) inb).trans
    (read1b m c oa ob wa wb h0 h1 h7 h8 t r k _ rfl)

include h2 h4 h5 h7 in
theorem out7 (t : Fin cfg0.N) (r : Fin 512) (k : Fin 1024) : (outsAt0 m c t).1 (ix2 r k)
    = ((dq (d (tb t.val r) (ts t.val r)) wo (ga (tb t.val r) (ts t.val r)) wa k : ℝ) : EReal) := by
  unfold outsAt0
  frame_out
  exact Pay.dqa_at _ _ _ _ r _ wo _ wa (read0 m c d h4 t r) (read6 m c wo h5 t) (read2 m c ga h2 t r) (read4 m c wa h7 t) k

include h3 h4 h5 h8 in
theorem out8 (t : Fin cfg0.N) (r : Fin 512) (k : Fin 1024) : (outsAt0 m c t).2.1 (ix2 r k)
    = ((dq (d (tb t.val r) (ts t.val r)) wo (gb (tb t.val r) (ts t.val r)) wb k : ℝ) : EReal) := by
  unfold outsAt0
  frame_out
  exact Pay.dqb_at _ _ _ _ r _ wo _ wb (read0 m c d h4 t r) (read6 m c wo h5 t) (read3 m c gb h3 t r) (read5 m c wb h8 t) k

include h2 h4 h5 in
theorem out10 (t : Fin cfg0.N) (r : Fin 512) (k : Fin 1024) : (outsAt0 m c t).2.2.2.1 (ix2 r k)
    = ((dy (d (tb t.val r) (ts t.val r)) wo (ga (tb t.val r) (ts t.val r)) k : ℝ) : EReal) := by
  unfold outsAt0
  frame_out
  exact Pay.dya_at _ _ _ r _ wo _ (read0 m c d h4 t r) (read6 m c wo h5 t) (read2 m c ga h2 t r) k

include h3 h4 h5 in
theorem out11 (t : Fin cfg0.N) (r : Fin 512) (k : Fin 1024) : (outsAt0 m c t).2.2.2.2 (ix2 r k)
    = ((dy (d (tb t.val r) (ts t.val r)) wo (gb (tb t.val r) (ts t.val r)) k : ℝ) : EReal) := by
  unfold outsAt0
  frame_out
  exact Pay.dyb_at _ _ _ r _ wo _ (read0 m c d h4 t r) (read6 m c wo h5 t) (read3 m c gb h3 t r) k

/-- The gates' gradients over one token's columns: the first attention's, then the second's. -/
def zrow (b : Fin 2) (s : Fin 2048) (k : Fin 2048) : EReal :=
  if h : k.val < 1024 then ((dz (d b s) wo (ga b s) (oa b s) wa ⟨k.val, h⟩ : ℝ) : EReal)
  else ((dz (d b s) wo (gb b s) (ob b s) wb ⟨k.val - 1024, by omega⟩ : ℝ) : EReal)

theorem zrow_left (b : Fin 2) (s : Fin 2048) (k : Fin 1024) : zrow oa ob ga gb d wo wa wb b s ⟨k.val, left_lt k⟩ = ((dz (d b s) wo (ga b s) (oa b s) wa k : ℝ) : EReal) :=
  dif_pos k.isLt

theorem zrow_right (b : Fin 2) (s : Fin 2048) (k : Fin 1024) : zrow oa ob ga gb d wo wa wb b s ⟨1024 + k.val, right_lt k⟩ = ((dz (d b s) wo (gb b s) (ob b s) wb k : ℝ) : EReal) := by
  unfold zrow
  rw [dif_neg (by simp)]
  refine congrArg (fun i => ((dz (d b s) wo (gb b s) (ob b s) wb i : ℝ) : EReal)) (Fin.ext ?_)
  show 1024 + k.val - 1024 = k.val
  omega

def Gz (t : Fin cfg0.N) (r : Fin 512) (k : Fin 2048) : EReal := zrow oa ob ga gb d wo wa wb (tb t.val r) (ts t.val r) k

include h0 h1 h2 h3 h4 h5 h7 h8 in
theorem out9 (t : Fin cfg0.N) (r : Fin 512) (k : Fin 2048) : (outsAt0 m c t).2.2.1 (ix2 r k) = zrow oa ob ga gb d wo wa wb (tb t.val r) (ts t.val r) k := by
  unfold outsAt0
  frame_out
  refine Slabs.canon_slabs (Val := Elt Ideal) (e := .bf16) (Gz oa ob ga gb d wo wa wb t) _ r k
    (View.cover_of_tiled_head _ _ _ rfl _) fun p hp => ?_
  simp only [List.mem_cons, List.not_mem_nil, or_false] at hp
  rcases hp with rfl | rfl
  · exact slab_at (Gz oa ob ga gb d wo wa wb t) 1024 (fun k => ⟨1024 + k.val, right_lt k⟩) (fun k => Nat.add_comm _ _) (by decide) _ fun r f =>
      (Pay.dzb_at _ _ _ _ r _ wo _ _ wb (read0 m c d h4 t r) (read6 m c wo h5 t) (read3 m c gb h3 t r) (ldB m c oa ob wa wb h0 h1 h7 h8 t (by decide) r) f).trans
        (zrow_right oa ob ga gb d wo wa wb _ _ f).symm
  · exact slab_at (Gz oa ob ga gb d wo wa wb t) 0 (fun k => ⟨k.val, left_lt k⟩) (fun k => rfl) (by decide) _ fun r f =>
      (Pay.dza_at _ _ _ _ r _ wo _ _ wa (read0 m c d h4 t r) (read6 m c wo h5 t) (read2 m c ga h2 t r) (ldA m c oa ob wa wb h0 h1 h7 h8 t (by decide) r) f).trans
        (zrow_left oa ob ga gb d wo wa wb _ _ f).symm

include h2 h4 h5 h7 in
theorem fin7 (G : FVec Ideal S4096x1024 .bf16) (hG : ∀ (q : Fin 4096) (k : Fin 1024), G (ix2 q k) = ((dq (d (qb q) (qs q)) wo (ga (qb q) (qs q)) wa k : ℝ) : EReal)) :
    (dats m 0 c).arrAt 7 (cfgs 0).N = G := by
  refine (dats m 0 c).arrAt_eq_of_covers 7 _ (by decide +kernel) fun t hf y => ?_
  blk_simp
  rw [after0_7]
  idx_vars y
  have e : (win0_7.blk t).view.emb (ix2 y0 y1) = (ix2 (tr t y0) y1 : S4096x1024.Idx) := by blk_ext [idx t, tr]
  rw [e]
  refine (out7 m c ga d wo wa h2 h4 h5 h7 t y0 y1).trans (Eq.trans ?_ (hG (tr t y0) y1).symm)
  rw [(row t y0).1, (row t y0).2]

include h3 h4 h5 h8 in
theorem fin8 (G : FVec Ideal S4096x1024 .bf16) (hG : ∀ (q : Fin 4096) (k : Fin 1024), G (ix2 q k) = ((dq (d (qb q) (qs q)) wo (gb (qb q) (qs q)) wb k : ℝ) : EReal)) :
    (dats m 0 c).arrAt 8 (cfgs 0).N = G := by
  refine (dats m 0 c).arrAt_eq_of_covers 8 _ (by decide +kernel) fun t hf y => ?_
  blk_simp
  rw [after0_8]
  idx_vars y
  have e : (win0_8.blk t).view.emb (ix2 y0 y1) = (ix2 (tr t y0) y1 : S4096x1024.Idx) := by blk_ext [idx t, tr]
  rw [e]
  refine (out8 m c gb d wo wb h3 h4 h5 h8 t y0 y1).trans (Eq.trans ?_ (hG (tr t y0) y1).symm)
  rw [(row t y0).1, (row t y0).2]

include h2 h4 h5 in
theorem fin10 (G : FVec Ideal S4096x1024 .bf16) (hG : ∀ (q : Fin 4096) (k : Fin 1024), G (ix2 q k) = ((dy (d (qb q) (qs q)) wo (ga (qb q) (qs q)) k : ℝ) : EReal)) :
    (dats m 0 c).arrAt 10 (cfgs 0).N = G := by
  refine (dats m 0 c).arrAt_eq_of_covers 10 _ (by decide +kernel) fun t hf y => ?_
  blk_simp
  rw [after0_10]
  idx_vars y
  have e : (win0_10.blk t).view.emb (ix2 y0 y1) = (ix2 (tr t y0) y1 : S4096x1024.Idx) := by blk_ext [idx t, tr]
  rw [e]
  refine (out10 m c ga d wo h2 h4 h5 t y0 y1).trans (Eq.trans ?_ (hG (tr t y0) y1).symm)
  rw [(row t y0).1, (row t y0).2]

include h3 h4 h5 in
theorem fin11 (G : FVec Ideal S4096x1024 .bf16) (hG : ∀ (q : Fin 4096) (k : Fin 1024), G (ix2 q k) = ((dy (d (qb q) (qs q)) wo (gb (qb q) (qs q)) k : ℝ) : EReal)) :
    (dats m 0 c).arrAt 11 (cfgs 0).N = G := by
  refine (dats m 0 c).arrAt_eq_of_covers 11 _ (by decide +kernel) fun t hf y => ?_
  blk_simp
  rw [after0_11]
  idx_vars y
  have e : (win0_11.blk t).view.emb (ix2 y0 y1) = (ix2 (tr t y0) y1 : S4096x1024.Idx) := by blk_ext [idx t, tr]
  rw [e]
  refine (out11 m c gb d wo h3 h4 h5 t y0 y1).trans (Eq.trans ?_ (hG (tr t y0) y1).symm)
  rw [(row t y0).1, (row t y0).2]

include h0 h1 h2 h3 h4 h5 h7 h8 in
/-- The gates' gradients, where the kernel writes them: the array's first half of columns. -/
theorem fin9 (G : FVec Ideal S4096x4096 .bf16)
    (hL : ∀ (q : Fin 4096) (k : Fin 1024), G (ix2 q ⟨k.val, by omega⟩) = ((dz (d (qb q) (qs q)) wo (ga (qb q) (qs q)) (oa (qb q) (qs q)) wa k : ℝ) : EReal))
    (hR : ∀ (q : Fin 4096) (k : Fin 1024), G (ix2 q ⟨1024 + k.val, by omega⟩) = ((dz (d (qb q) (qs q)) wo (gb (qb q) (qs q)) (ob (qb q) (qs q)) wb k : ℝ) : EReal))
    (i : S4096x4096.Idx) (hi : (i 1).val < 2048) :
    (dats m 0 c).arrAt 9 (cfgs 0).N i = G i := by
  refine ((dats m 0 c).arrAt_apply_of_coversWhere 9 G (P := fun i : S4096x4096.Idx => (i 1).val < 2048) (fun β => β (1 : Fin _) = 0) (by decide +kernel)
    (fun t hf y => ?_) (fun j => by blk_simp [Pipeline.Window.cell_apply]; omega) i).trans (if_pos hi)
  blk_simp
  rw [after0_9]
  idx_vars y
  have hy : y1.val < 2048 := y1.isLt
  have e : (win0_9.blk t).view.emb (ix2 y0 y1) = (ix2 (tr t y0) ⟨y1.val, Nat.lt_of_lt_of_le hy (by decide)⟩ : S4096x4096.Idx) := by blk_ext [idx t, tr]
  rw [e]
  refine (out9 m c oa ob ga gb d wo wa wb h0 h1 h2 h3 h4 h5 h7 h8 t y0 y1).trans ?_
  rw [(row t y0).1, (row t y0).2]
  by_cases h : y1.val < 1024
  · exact (zrow_left oa ob ga gb d wo wa wb _ _ ⟨y1.val, h⟩).trans (hL (tr t y0) ⟨y1.val, h⟩).symm
  · obtain ⟨k, hk⟩ : ∃ k : Fin 1024, y1.val = 1024 + k.val := ⟨⟨y1.val - 1024, by omega⟩, by show _ = 1024 + (y1.val - 1024); omega⟩
    have e1 : (y1 : Fin 2048) = ⟨1024 + k.val, right_lt k⟩ := Fin.ext hk
    have e2 : (⟨y1.val, Nat.lt_of_lt_of_le hy (by decide)⟩ : Fin 4096) = ⟨1024 + k.val, by omega⟩ := Fin.ext hk
    refine (congrArg (zrow oa ob ga gb d wo wa wb _ _) e1).trans ((zrow_right oa ob ga gb d wo wa wb _ _ k).trans ?_)
    refine (hR (tr t y0) k).symm.trans (congrArg (fun z => G (ix2 (tr t y0) z)) e2.symm)

end Cert.MergeIdeal.Out

end
-- ==== Proof.MergeRef.lean ====
/- What the reference computes for the gradients through the merge's gates, read at an index. -/
module

public import proofs.«01_k».proof.Proof.Gen.MergeRefIdeal.Run
public import proofs.«01_k».proof.Proof.MergePay
public import proofs.«01_k».proof.Proof.Tokens

@[expose] public section

set_option maxRecDepth 16384

noncomputable section

namespace Cert.MergeRefIdeal.At

open Cert.MergeRefIdeal Cert.MergeRefIdeal.Gen Cert.Rows Cert.MergeSpec Idealize.ShloMosaic Idealize.ShloMosaic.TcCoe

section Terms
variable (G D : FVec Ideal S2x2048x1024 .f32) (WO : FVec Ideal S1x1024x1024 .f32) (O : FVec Ideal S2x2048x512 .f32) (W : FVec Ideal S1x512x1024 .f32)

/-- The gate, the gradient of the merged rows, and the rows before the gate. -/
def sgT : FVec Ideal S2x2048x1024 .f32 :=
  Host.divf (broadcastInDim S2x2048x1024 ![] bcast_S_S2x2048x1024 (constant S_ .f32 0x3F800000#32)) (addf (broadcastInDim S2x2048x1024 ![] bcast_S_S2x2048x1024 (constant S_ .f32 0x3F800000#32)) (Host.exp (Host.negf G)))
def dmT : FVec Ideal S2x2048x1024 .f32 :=
  Host.dotGeneral dot_S2x2048x1024_S1024x1024_S2x2048x1024_2_1_01_0_n_n none D (shapeCast S1024x1024 WO shapeCasts_S1x1024x1024_S1024x1024)
def yT : FVec Ideal S2x2048x1024 .f32 :=
  Host.dotGeneral dot_S2x2048x512_S512x1024_S2x2048x1024_2_0_01_1_n_n none O (shapeCast S512x1024 W shapeCasts_S1x512x1024_S512x1024)
/-- The gradient of the rows before the gate, of the gate before its logistic function, and of the attention's output. -/
def dyT : FVec Ideal S2x2048x1024 .f32 := mulf (sgT G) (dmT D WO)
def dzT : FVec Ideal S2x2048x1024 .f32 :=
  mulf (mulf (dmT D WO) (yT O W)) (mulf (sgT G) (subf (broadcastInDim S2x2048x1024 ![] bcast_S_S2x2048x1024 (constant S_ .f32 0x3F800000#32)) (sgT G)))
def doT : FVec Ideal S2x2048x512 .f32 :=
  Host.dotGeneral dot_S2x2048x1024_S512x1024_S2x2048x512_2_1_01_0_n_n none (dyT G D WO) (shapeCast S512x1024 W shapeCasts_S1x512x1024_S512x1024)
/-- The results as the program returns them. -/
def dyR : FVec Ideal S4096x1024 .bf16 := truncf .bf16 (shapeCast S4096x1024 (dyT G D WO) shapeCasts_S2x2048x1024_S4096x1024 : FVec Ideal S4096x1024 .f32) bitsLt_bf16_f32
def doR : FVec Ideal S4096x1024 .bf16 :=
  truncf .bf16 (shapeCast S4096x1024 (pad S4096x8x128 ![0, 0, 0] ![0, 0, 64] ![0, 0, 0] (shapeCast S4096x8x64 (doT G D WO W) shapeCasts_S2x2048x512_S4096x8x64 : FVec Ideal S4096x8x64 .f32) (sitofp .f32 (constantI S_ 32 0#32)) pads_S4096x8x64_S4096x8x128_000_000_0640 h_S_) shapeCasts_S4096x8x128_S4096x1024 : FVec Ideal S4096x1024 .f32) bitsLt_bf16_f32
def catR (A B : FVec Ideal S2x2048x1024 .f32) : FVec Ideal S4096x4096 .bf16 :=
  pad S4096x4096 ![0, 0] ![0, 2048] ![0, 0] (truncf .bf16 (shapeCast S4096x2048 (concatenate S2x2048x2048 2 [⟨S2x2048x1024, A⟩, ⟨S2x2048x1024, B⟩] concatenates_S2x2048x1024_S2x2048x1024_S2x2048x2048_d2 : FVec Ideal S2x2048x2048 .f32) shapeCasts_S2x2048x2048_S4096x2048 : FVec Ideal S4096x2048 .f32) bitsLt_bf16_f32) (sitofp .bf16 (constantI S_ 32 0#32)) pads_S4096x2048_S4096x4096_000_020480 h_S_

variable (g d : Fin 2 → Fin 2048 → Fin 1024 → ℝ) (wo : Fin 1024 → Fin 1024 → ℝ) (o : Fin 2 → Fin 2048 → Fin 512 → ℝ) (w : Fin 512 → Fin 1024 → ℝ)
  (hG : ∀ b s k, G (ix3 b s k) = ((g b s k : ℝ) : EReal)) (hD : ∀ b s k, D (ix3 b s k) = ((d b s k : ℝ) : EReal))
  (hWO : ∀ j k, WO (ix3 0 j k) = ((wo j k : ℝ) : EReal)) (hO : ∀ b s k, O (ix3 b s k) = ((o b s k : ℝ) : EReal))
  (hW : ∀ j k, W (ix3 0 j k) = ((w j k : ℝ) : EReal))

include hWO in
theorem wo_at (j k : Fin 1024) : (shapeCast S1024x1024 WO shapeCasts_S1x1024x1024_S1024x1024 : FVec Ideal S1024x1024 .f32) (ix2 j k) = ((wo j k : ℝ) : EReal) := by
  pointwise []
  exact hWO _ _

include hW in
theorem w_at (j : Fin 512) (k : Fin 1024) : (shapeCast S512x1024 W shapeCasts_S1x512x1024_S512x1024 : FVec Ideal S512x1024 .f32) (ix2 j k) = ((w j k : ℝ) : EReal) := by
  pointwise []
  exact hW _ _

include hG in
theorem sgT_at (b : Fin 2) (s : Fin 2048) (k : Fin 1024) : sgT G (ix3 b s k) = ((sg (g b s k) : ℝ) : EReal) := by
  pointwise [sgT]
  have e : (1 : ℝ) + Real.exp (-g b s k) ≠ 0 := by positivity
  rw [hG]
  simp only [← EReal.coe_neg, exp_real, ← EReal.coe_one, ← EReal.coe_add, div_real _ e]
  unfold sg
  rw [one_div]

include hD hWO in
theorem dmT_at (b : Fin 2) (s : Fin 2048) (j : Fin 1024) : dmT D WO (ix3 b s j) = ((dm (d b s) wo j : ℝ) : EReal) := by
  have h := wo_at WO wo hWO
  unfold dmT
  generalize (shapeCast S1024x1024 WO shapeCasts_S1x1024x1024_S1024x1024 : FVec Ideal S1024x1024 .f32) = X at h
  pointwise []
  simp only [hD, h, coe_sum, ← EReal.coe_mul]; rfl

include hO hW in
theorem yT_at (b : Fin 2) (s : Fin 2048) (k : Fin 1024) : yT O W (ix3 b s k) = ((y (o b s) w k : ℝ) : EReal) := by
  have h := w_at W w hW
  unfold yT
  generalize (shapeCast S512x1024 W shapeCasts_S1x512x1024_S512x1024 : FVec Ideal S512x1024 .f32) = X at h
  pointwise []
  simp only [hO, h, coe_sum, ← EReal.coe_mul]; rfl

include hG hD hWO in
theorem dyT_at (b : Fin 2) (s : Fin 2048) (k : Fin 1024) : dyT G D WO (ix3 b s k) = ((dy (d b s) wo (g b s) k : ℝ) : EReal) := by
  pointwise [dyT]
  rw [sgT_at G g hG, dmT_at D WO d wo hD hWO, ← EReal.coe_mul, mul_comm]; rfl

include hG hD hWO hO hW in
theorem dzT_at (b : Fin 2) (s : Fin 2048) (k : Fin 1024) : dzT G D WO O W (ix3 b s k) = ((dz (d b s) wo (g b s) (o b s) w k : ℝ) : EReal) := by
  pointwise [dzT]
  rw [sgT_at G g hG, dmT_at D WO d wo hD hWO, yT_at O W o w hO hW]
  simp only [← EReal.coe_one, ← EReal.coe_sub, ← EReal.coe_mul]
  unfold dz
  rw [mul_assoc (dm (d b s) wo k * y (o b s) w k)]

include hG hD hWO hW in
theorem doT_at (b : Fin 2) (s : Fin 2048) (e : Fin 512) : doT G D WO W (ix3 b s e) = ((∑ k, dy (d b s) wo (g b s) k * w e k : ℝ) : EReal) := by
  have h := w_at W w hW
  have h' := dyT_at G D WO g d wo hG hD hWO
  unfold doT
  generalize (shapeCast S512x1024 W shapeCasts_S1x512x1024_S512x1024 : FVec Ideal S512x1024 .f32) = X at h
  generalize dyT G D WO = Y at h'
  pointwise []
  simp only [h', h, coe_sum, ← EReal.coe_mul]

include hG hD hWO in
theorem dyR_at (q : Fin 4096) (k : Fin 1024) : dyR G D WO (ix2 q k) = ((dy (d (qb q) (qs q)) wo (g (qb q) (qs q)) k : ℝ) : EReal) := by
  have h' := dyT_at G D WO g d wo hG hD hWO
  unfold dyR
  generalize dyT G D WO = Y at h'
  pointwise []
  exact h' (qb q) (qs q) k

theorem pad_zero : FloatOps.sitofp (F := Ideal) .f32 (0#32 : BitVec 32) = ((0 : ℝ) : EReal) := by simp [FloatOps.sitofp]

theorem heads_at (Y : FVec Ideal S2x2048x512 .f32) (q : Fin 4096) (a : Fin 8) (i : Fin 64) :
    (shapeCast S4096x8x64 Y shapeCasts_S2x2048x512_S4096x8x64 : FVec Ideal S4096x8x64 .f32) (ix3 q a i) = Y (ix3 (qb q) (qs q) ⟨a.val * 64 + i.val, by omega⟩) := by
  pointwise []
  rfl

include hG hD hWO hW in
theorem doR_at (q : Fin 4096) (c : Fin 1024) : doR G D WO W (ix2 q c) = ((dq (d (qb q) (qs q)) wo (g (qb q) (qs q)) w c : ℝ) : EReal) := by
  have h' := doT_at G D WO W g d wo w hG hD hWO hW
  unfold doR
  generalize doT G D WO W = Y at h'
  have h2 := heads_at Y q
  generalize (shapeCast S4096x8x64 Y shapeCasts_S2x2048x512_S4096x8x64 : FVec Ideal S4096x8x64 .f32) = Z at h2
  pointwise []
  unfold dq wp
  by_cases h1 : c.val % 128 < 64
  · rw [dif_pos ⟨by omega, h1⟩, h2, h']
    simp only [dif_pos h1]
  · rw [dif_neg (by omega), pad_zero]
    simp only [dif_neg h1, mul_zero, Finset.sum_const_zero]

theorem cat_left (A B : FVec Ideal S2x2048x1024 .f32) (q : Fin 4096) (k : Fin 1024) :
    catR A B (ix2 q ⟨k.val, by omega⟩) = A (ix3 (qb q) (qs q) k) := by
  pointwise [catR]
  exact dif_pos (by omega)

theorem cat_right (A B : FVec Ideal S2x2048x1024 .f32) (q : Fin 4096) (k : Fin 1024) :
    catR A B (ix2 q ⟨1024 + k.val, by omega⟩) = B (ix3 (qb q) (qs q) k) := by
  pointwise [catR]
  exact dif_pos (by omega)

end Terms

end Cert.MergeRefIdeal.At

end
-- ==== Proof.MergeFinite.lean ====
/- The precondition of the merge's claim: every entry of the arrays it names is a real number. -/
module

public import proofs.«01_k».proof.Pre_finite_merge
public import proofs.«01_k».proof.Proof.Finite

@[expose] public section

set_option maxRecDepth 16384

noncomputable section

namespace Cert.Pre_finite_merge

open Cert.Rows Idealize.ShloMosaic

variable [Facts]

theorem reals {a0 a1 : FVec Ideal S2x2048x512 .f32} {a2 a3 a4 : FVec Ideal S2x2048x1024 .f32}
    {a5 a6 : FVec Ideal S1x1024x1024 .f32} {a7 a8 : FVec Ideal S1x512x1024 .f32}
    {a9 : FVec Ideal S1x256x1024 .f32} (h : fn (F := Ideal) a0 a1 a2 a3 a4 a5 a6 a7 a8 a9 = fun _ => 1#1) :
    (∀ i, a0 i = (((a0 i).toReal : ℝ) : EReal)) ∧ (∀ i, a1 i = (((a1 i).toReal : ℝ) : EReal)) ∧ (∀ i, a2 i = (((a2 i).toReal : ℝ) : EReal))
    ∧ (∀ i, a3 i = (((a3 i).toReal : ℝ) : EReal)) ∧ (∀ i, a4 i = (((a4 i).toReal : ℝ) : EReal)) ∧ (∀ i, a5 i = (((a5 i).toReal : ℝ) : EReal))
    ∧ (∀ i, a7 i = (((a7 i).toReal : ℝ) : EReal)) ∧ (∀ i, a8 i = (((a8 i).toReal : ℝ) : EReal)) := by
  have e := congrFun h (Shape.Idx.first (s := S_) Facts.h_S_)
  obtain ⟨e, e8⟩ := andi_one e
  obtain ⟨e, e7⟩ := andi_one e
  obtain ⟨e, e5⟩ := andi_one e
  obtain ⟨e, e4⟩ := andi_one e
  obtain ⟨e, e3⟩ := andi_one e
  obtain ⟨e, e2⟩ := andi_one e
  obtain ⟨e, e1⟩ := andi_one e
  obtain ⟨_, e0⟩ := andi_one e
  exact ⟨real_of_all _ _ _ _ _ _ e0, real_of_all _ _ _ _ _ _ e1, real_of_all _ _ _ _ _ _ e2, real_of_all _ _ _ _ _ _ e3,
    real_of_all _ _ _ _ _ _ e4, real_of_all _ _ _ _ _ _ e5, real_of_all _ _ _ _ _ _ e7, real_of_all _ _ _ _ _ _ e8⟩

end Cert.Pre_finite_merge

end
-- ==== Proof.MergePair.lean ====
/- The merge's backward kernel agrees with its reference wherever it writes. -/
module

public import proofs.«01_k».proof.Defs
public import proofs.«01_k».proof.Proof.Gen.Pre_finite_merge
public import proofs.«01_k».proof.Proof.Gen.On_written_merge
public import proofs.«01_k».proof.Proof.MergeFin
public import proofs.«01_k».proof.Proof.MergeRef
public import proofs.«01_k».proof.Proof.MergeFinite

@[expose] public section

set_option maxRecDepth 16384

noncomputable section

namespace Cert.MergePair

open Cert.Rows Idealize.ShloMosaic Idealize.ShloMosaic.TcCoe Idealize.SL.Sem
open Cert.MergeIdeal (S2x2048x512 S2x2048x1024 S1x1024x1024 S1x512x1024 S4096x4096)

/-- The real arrays behind a memory's arguments. -/
abbrev ro (V : FVec Ideal S2x2048x512 .f32) : Fin 2 → Fin 2048 → Fin 512 → ℝ := fun b s k => (V (ix3 b s k)).toReal
abbrev rx (V : FVec Ideal S2x2048x1024 .f32) : Fin 2 → Fin 2048 → Fin 1024 → ℝ := fun b s k => (V (ix3 b s k)).toReal
abbrev rs (V : FVec Ideal S1x1024x1024 .f32) : Fin 1024 → Fin 1024 → ℝ := fun j k => (V (ix3 0 j k)).toReal
abbrev rw4 (V : FVec Ideal S1x512x1024 .f32) : Fin 512 → Fin 1024 → ℝ := fun j k => (V (ix3 0 j k)).toReal

/-- A column number the comparison with 2048 passes is under 2048. -/
theorem col_lt (k : ℕ) (hk : k < 4096) (h : IntOp.cmpi .slt (BitVec.ofNat 32 k) (2048#32) = 1#1) : k < 2048 := by
  have e : (BitVec.ofNat 32 k).toInt = k := by
    have en : (BitVec.ofNat 32 k).toNat = k := by rw [BitVec.toNat_ofNat]; exact Nat.mod_eq_of_lt (by omega)
    rw [BitVec.toInt_eq_toNat_of_lt (by omega), en]
  have h2 : (2048#32 : BitVec 32).toInt = 2048 := by decide
  by_contra hn
  have hf : (BitVec.ofNat 32 k).slt (2048#32) = false := by
    rw [BitVec.slt, e, h2]
    exact decide_eq_false (by omega)
  have hz : IntOp.cmpi .slt (BitVec.ofNat 32 k) (2048#32) = 0#1 := by
    show BitVec.ofBool ((BitVec.ofNat 32 k).slt (2048#32)) = _
    rw [hf]; rfl
  rw [hz] at h
  exact absurd h (by decide)

theorem ref_frame : @Cert.quiescent_MergeRefIdeal Cert.MergeRefIdeal.Gen.facts := fun m g _ =>
  (θ_run Cert.MergeRefIdeal.defs _ _).mono (fun r h => ⟨fun c => (h c).2.2.2.2.2, Idealize.ShloMosaic.sem_eq_zero_of_no_sems (by decide) r.2⟩)
    (Cert.MergeRefIdeal.Value.run (F := Ideal) m g)

set_option maxHeartbeats 1600000 in
theorem algebraic : @Cert.algebraic_MergeIdeal_MergeRefIdeal_on_written_merge_pre_finite_merge Cert.MergeIdeal.Gen.facts Cert.MergeRefIdeal.Gen.facts Cert.Pre_finite_merge.Gen.facts Cert.On_written_merge.Gen.facts := by
  intro m g m' g' hpre hagree
  refine ⟨fun c => (Cert.MergeIdeal.Gen.dats m 0 c).arrAt 7 (Cert.MergeIdeal.cfgs 0).N, fun c => (Cert.MergeIdeal.Gen.dats m 0 c).arrAt 8 (Cert.MergeIdeal.cfgs 0).N,
    fun c => (Cert.MergeIdeal.Gen.dats m 0 c).arrAt 9 (Cert.MergeIdeal.cfgs 0).N, fun c => (Cert.MergeIdeal.Gen.dats m 0 c).arrAt 10 (Cert.MergeIdeal.cfgs 0).N,
    fun c => (Cert.MergeIdeal.Gen.dats m 0 c).arrAt 11 (Cert.MergeIdeal.cfgs 0).N, ?_, ?_⟩
  · run_from Cert.MergeIdeal.Value.run_blocks m g
    all_goals exact fun i _ => trivial
  · run_from Cert.MergeRefIdeal.Value.run m' g'
    all_goals
      obtain ⟨e0, e1, e2, e3, e4, e5, e7, e8⟩ := Cert.Pre_finite_merge.reals (hpre c)
    · intro i _
      refine Eq.trans (b := Cert.MergeRefIdeal.At.doR (m (c.tc.loc Cert.MergeIdeal.main_arg2)) (m (c.tc.loc Cert.MergeIdeal.main_arg4)) (m (c.tc.loc Cert.MergeIdeal.main_arg5)) (m (c.tc.loc Cert.MergeIdeal.main_arg7)) i) (by
        unfold Cert.MergeRefIdeal.At.doR Cert.MergeRefIdeal.At.doT Cert.MergeRefIdeal.At.dyT Cert.MergeRefIdeal.At.sgT Cert.MergeRefIdeal.At.dmT; rfl) ?_
      exact (congrFun (Cert.MergeIdeal.Out.fin7 m c (rx (m (c.tc.loc Cert.MergeIdeal.main_arg2))) (rx (m (c.tc.loc Cert.MergeIdeal.main_arg4))) (rs (m (c.tc.loc Cert.MergeIdeal.main_arg5))) (rw4 (m (c.tc.loc Cert.MergeIdeal.main_arg7))) (fun b s k => e2 (ix3 b s k)) (fun b s k => e4 (ix3 b s k)) (fun j k => e5 (ix3 0 j k)) (fun j k => e7 (ix3 0 j k)) _
        (fun q k => Cert.MergeRefIdeal.At.doR_at (m (c.tc.loc Cert.MergeIdeal.main_arg2)) (m (c.tc.loc Cert.MergeIdeal.main_arg4)) (m (c.tc.loc Cert.MergeIdeal.main_arg5)) (m (c.tc.loc Cert.MergeIdeal.main_arg7)) (rx (m (c.tc.loc Cert.MergeIdeal.main_arg2))) (rx (m (c.tc.loc Cert.MergeIdeal.main_arg4))) (rs (m (c.tc.loc Cert.MergeIdeal.main_arg5))) (rw4 (m (c.tc.loc Cert.MergeIdeal.main_arg7))) (fun b s k => e2 (ix3 b s k)) (fun b s k => e4 (ix3 b s k)) (fun j k => e5 (ix3 0 j k)) (fun j k => e7 (ix3 0 j k)) q k)) i).symm
    · intro i _
      refine Eq.trans (b := Cert.MergeRefIdeal.At.doR (m (c.tc.loc Cert.MergeIdeal.main_arg3)) (m (c.tc.loc Cert.MergeIdeal.main_arg4)) (m (c.tc.loc Cert.MergeIdeal.main_arg5)) (m (c.tc.loc Cert.MergeIdeal.main_arg8)) i) (by
        unfold Cert.MergeRefIdeal.At.doR Cert.MergeRefIdeal.At.doT Cert.MergeRefIdeal.At.dyT Cert.MergeRefIdeal.At.sgT Cert.MergeRefIdeal.At.dmT; rfl) ?_
      exact (congrFun (Cert.MergeIdeal.Out.fin8 m c (rx (m (c.tc.loc Cert.MergeIdeal.main_arg3))) (rx (m (c.tc.loc Cert.MergeIdeal.main_arg4))) (rs (m (c.tc.loc Cert.MergeIdeal.main_arg5))) (rw4 (m (c.tc.loc Cert.MergeIdeal.main_arg8))) (fun b s k => e3 (ix3 b s k)) (fun b s k => e4 (ix3 b s k)) (fun j k => e5 (ix3 0 j k)) (fun j k => e8 (ix3 0 j k)) _
        (fun q k => Cert.MergeRefIdeal.At.doR_at (m (c.tc.loc Cert.MergeIdeal.main_arg3)) (m (c.tc.loc Cert.MergeIdeal.main_arg4)) (m (c.tc.loc Cert.MergeIdeal.main_arg5)) (m (c.tc.loc Cert.MergeIdeal.main_arg8)) (rx (m (c.tc.loc Cert.MergeIdeal.main_arg3))) (rx (m (c.tc.loc Cert.MergeIdeal.main_arg4))) (rs (m (c.tc.loc Cert.MergeIdeal.main_arg5))) (rw4 (m (c.tc.loc Cert.MergeIdeal.main_arg8))) (fun b s k => e3 (ix3 b s k)) (fun b s k => e4 (ix3 b s k)) (fun j k => e5 (ix3 0 j k)) (fun j k => e8 (ix3 0 j k)) q k)) i).symm
    · intro i hi
      obtain ⟨_, _, _, _, a4, a5, _, a7, a8, _⟩ := hagree c
      rw [a4, a5, a7, a8]
      refine Eq.trans (b := Cert.MergeRefIdeal.At.catR (Cert.MergeRefIdeal.At.dzT (m (c.tc.loc Cert.MergeIdeal.main_arg2)) (m (c.tc.loc Cert.MergeIdeal.main_arg4)) (m (c.tc.loc Cert.MergeIdeal.main_arg5)) (m (c.tc.loc Cert.MergeIdeal.main_arg0)) (m (c.tc.loc Cert.MergeIdeal.main_arg7))) (Cert.MergeRefIdeal.At.dzT (m (c.tc.loc Cert.MergeIdeal.main_arg3)) (m (c.tc.loc Cert.MergeIdeal.main_arg4)) (m (c.tc.loc Cert.MergeIdeal.main_arg5)) (m (c.tc.loc Cert.MergeIdeal.main_arg1)) (m (c.tc.loc Cert.MergeIdeal.main_arg8))) i) (by
        unfold Cert.MergeRefIdeal.At.catR Cert.MergeRefIdeal.At.dzT Cert.MergeRefIdeal.At.yT Cert.MergeRefIdeal.At.sgT Cert.MergeRefIdeal.At.dmT; rfl) ?_
      exact (Cert.MergeIdeal.Out.fin9 m c (ro (m (c.tc.loc Cert.MergeIdeal.main_arg0))) (ro (m (c.tc.loc Cert.MergeIdeal.main_arg1))) (rx (m (c.tc.loc Cert.MergeIdeal.main_arg2))) (rx (m (c.tc.loc Cert.MergeIdeal.main_arg3))) (rx (m (c.tc.loc Cert.MergeIdeal.main_arg4))) (rs (m (c.tc.loc Cert.MergeIdeal.main_arg5))) (rw4 (m (c.tc.loc Cert.MergeIdeal.main_arg7))) (rw4 (m (c.tc.loc Cert.MergeIdeal.main_arg8)))
        (fun b s k => e0 (ix3 b s k)) (fun b s k => e1 (ix3 b s k)) (fun b s k => e2 (ix3 b s k)) (fun b s k => e3 (ix3 b s k)) (fun b s k => e4 (ix3 b s k)) (fun j k => e5 (ix3 0 j k)) (fun j k => e7 (ix3 0 j k)) (fun j k => e8 (ix3 0 j k)) _
        (fun q k => (Cert.MergeRefIdeal.At.cat_left (Cert.MergeRefIdeal.At.dzT (m (c.tc.loc Cert.MergeIdeal.main_arg2)) (m (c.tc.loc Cert.MergeIdeal.main_arg4)) (m (c.tc.loc Cert.MergeIdeal.main_arg5)) (m (c.tc.loc Cert.MergeIdeal.main_arg0)) (m (c.tc.loc Cert.MergeIdeal.main_arg7))) (Cert.MergeRefIdeal.At.dzT (m (c.tc.loc Cert.MergeIdeal.main_arg3)) (m (c.tc.loc Cert.MergeIdeal.main_arg4)) (m (c.tc.loc Cert.MergeIdeal.main_arg5)) (m (c.tc.loc Cert.MergeIdeal.main_arg1)) (m (c.tc.loc Cert.MergeIdeal.main_arg8))) q k).trans (Cert.MergeRefIdeal.At.dzT_at (m (c.tc.loc Cert.MergeIdeal.main_arg2)) (m (c.tc.loc Cert.MergeIdeal.main_arg4)) (m (c.tc.loc Cert.MergeIdeal.main_arg5)) (m (c.tc.loc Cert.MergeIdeal.main_arg0)) (m (c.tc.loc Cert.MergeIdeal.main_arg7)) (rx (m (c.tc.loc Cert.MergeIdeal.main_arg2))) (rx (m (c.tc.loc Cert.MergeIdeal.main_arg4))) (rs (m (c.tc.loc Cert.MergeIdeal.main_arg5))) (ro (m (c.tc.loc Cert.MergeIdeal.main_arg0))) (rw4 (m (c.tc.loc Cert.MergeIdeal.main_arg7))) (fun b s k => e2 (ix3 b s k)) (fun b s k => e4 (ix3 b s k)) (fun j k => e5 (ix3 0 j k)) (fun b s k => e0 (ix3 b s k)) (fun j k => e7 (ix3 0 j k)) _ _ k))
        (fun q k => (Cert.MergeRefIdeal.At.cat_right (Cert.MergeRefIdeal.At.dzT (m (c.tc.loc Cert.MergeIdeal.main_arg2)) (m (c.tc.loc Cert.MergeIdeal.main_arg4)) (m (c.tc.loc Cert.MergeIdeal.main_arg5)) (m (c.tc.loc Cert.MergeIdeal.main_arg0)) (m (c.tc.loc Cert.MergeIdeal.main_arg7))) (Cert.MergeRefIdeal.At.dzT (m (c.tc.loc Cert.MergeIdeal.main_arg3)) (m (c.tc.loc Cert.MergeIdeal.main_arg4)) (m (c.tc.loc Cert.MergeIdeal.main_arg5)) (m (c.tc.loc Cert.MergeIdeal.main_arg1)) (m (c.tc.loc Cert.MergeIdeal.main_arg8))) q k).trans (Cert.MergeRefIdeal.At.dzT_at (m (c.tc.loc Cert.MergeIdeal.main_arg3)) (m (c.tc.loc Cert.MergeIdeal.main_arg4)) (m (c.tc.loc Cert.MergeIdeal.main_arg5)) (m (c.tc.loc Cert.MergeIdeal.main_arg1)) (m (c.tc.loc Cert.MergeIdeal.main_arg8)) (rx (m (c.tc.loc Cert.MergeIdeal.main_arg3))) (rx (m (c.tc.loc Cert.MergeIdeal.main_arg4))) (rs (m (c.tc.loc Cert.MergeIdeal.main_arg5))) (ro (m (c.tc.loc Cert.MergeIdeal.main_arg1))) (rw4 (m (c.tc.loc Cert.MergeIdeal.main_arg8))) (fun b s k => e3 (ix3 b s k)) (fun b s k => e4 (ix3 b s k)) (fun j k => e5 (ix3 0 j k)) (fun b s k => e1 (ix3 b s k)) (fun j k => e8 (ix3 0 j k)) _ _ k))
        i (col_lt _ (i 1).isLt hi)).symm
    · intro i _
      refine Eq.trans (b := Cert.MergeRefIdeal.At.dyR (m (c.tc.loc Cert.MergeIdeal.main_arg2)) (m (c.tc.loc Cert.MergeIdeal.main_arg4)) (m (c.tc.loc Cert.MergeIdeal.main_arg5)) i) (by
        unfold Cert.MergeRefIdeal.At.dyR Cert.MergeRefIdeal.At.dyT Cert.MergeRefIdeal.At.sgT Cert.MergeRefIdeal.At.dmT; rfl) ?_
      exact (congrFun (Cert.MergeIdeal.Out.fin10 m c (rx (m (c.tc.loc Cert.MergeIdeal.main_arg2))) (rx (m (c.tc.loc Cert.MergeIdeal.main_arg4))) (rs (m (c.tc.loc Cert.MergeIdeal.main_arg5))) (fun b s k => e2 (ix3 b s k)) (fun b s k => e4 (ix3 b s k)) (fun j k => e5 (ix3 0 j k)) _
        (fun q k => Cert.MergeRefIdeal.At.dyR_at (m (c.tc.loc Cert.MergeIdeal.main_arg2)) (m (c.tc.loc Cert.MergeIdeal.main_arg4)) (m (c.tc.loc Cert.MergeIdeal.main_arg5)) (rx (m (c.tc.loc Cert.MergeIdeal.main_arg2))) (rx (m (c.tc.loc Cert.MergeIdeal.main_arg4))) (rs (m (c.tc.loc Cert.MergeIdeal.main_arg5))) (fun b s k => e2 (ix3 b s k)) (fun b s k => e4 (ix3 b s k)) (fun j k => e5 (ix3 0 j k)) q k)) i).symm
    · intro i _
      refine Eq.trans (b := Cert.MergeRefIdeal.At.dyR (m (c.tc.loc Cert.MergeIdeal.main_arg3)) (m (c.tc.loc Cert.MergeIdeal.main_arg4)) (m (c.tc.loc Cert.MergeIdeal.main_arg5)) i) (by
        unfold Cert.MergeRefIdeal.At.dyR Cert.MergeRefIdeal.At.dyT Cert.MergeRefIdeal.At.sgT Cert.MergeRefIdeal.At.dmT; rfl) ?_
      exact (congrFun (Cert.MergeIdeal.Out.fin11 m c (rx (m (c.tc.loc Cert.MergeIdeal.main_arg3))) (rx (m (c.tc.loc Cert.MergeIdeal.main_arg4))) (rs (m (c.tc.loc Cert.MergeIdeal.main_arg5))) (fun b s k => e3 (ix3 b s k)) (fun b s k => e4 (ix3 b s k)) (fun j k => e5 (ix3 0 j k)) _
        (fun q k => Cert.MergeRefIdeal.At.dyR_at (m (c.tc.loc Cert.MergeIdeal.main_arg3)) (m (c.tc.loc Cert.MergeIdeal.main_arg4)) (m (c.tc.loc Cert.MergeIdeal.main_arg5)) (rx (m (c.tc.loc Cert.MergeIdeal.main_arg3))) (rx (m (c.tc.loc Cert.MergeIdeal.main_arg4))) (rs (m (c.tc.loc Cert.MergeIdeal.main_arg5))) (fun b s k => e3 (ix3 b s k)) (fun b s k => e4 (ix3 b s k)) (fun j k => e5 (ix3 0 j k)) q k)) i).symm

end Cert.MergePair

end
-- ==== Proof.FwdABlocks.lean ====
/- What the one-group attention's forward blocks hold, at the arguments' entries: the point's head, its lanes padded with zeros. -/
module

public import proofs.«01_k».proof.Proof.Gen.FwdAIdeal.Frame
public import proofs.«01_k».proof.Proof.AttnSpec
public import Idealize.ShloMosaic.Lib.Claim
public import Idealize.ShloMosaic.Lib.Pipeline.ValueKit

@[expose] public section

set_option maxRecDepth 16384

noncomputable section

namespace Cert.FwdAIdeal.Blk

open Cert.FwdAIdeal Cert.FwdAIdeal.Gen Cert.Rows Cert.AttnSpec Idealize.ShloMosaic Idealize.ShloMosaic.TcCoe

variable (m : (ℓ : Loc nD τ sig) → Buf (Elt Ideal) ℓ) (c : Dev nD)

theorem idx : ∀ t : Fin cfg0.N, win0_0.index t = ![t.val / 8, t.val % 8] ∧ win0_1.index t = ![t.val / 8, t.val % 8]
    ∧ win0_2.index t = ![t.val / 8, t.val % 8] ∧ win0_3.index t = ![t.val / 8, t.val % 8] ∧ win0_4.index t = ![t.val / 8, t.val % 8] :=
  (by decide +kernel : ∀ t : Fin grid0.N, _)

theorem lt_N (t : Fin cfg0.N) : t.val < 16 := by have := t.isLt; have : cfg0.N = 16 := N_0; omega

/-- The point's batch element and its head. -/
def pb (t : ℕ) : Fin 2 := ⟨t / 8 % 2, by omega⟩
def ph (t : ℕ) : Fin 8 := ⟨t % 8, by omega⟩

/-- Row `i` and lane `d` of the point's block, in the array. -/
def tr (t : Fin cfg0.N) (i : Fin 2048) : Fin 4096 := ⟨t.val / 8 * 2048 + i.val, by have := lt_N t; omega⟩
def tq (t : Fin cfg0.N) (d : Fin 128) : Fin 1024 := ⟨t.val % 8 * 128 + d.val, by omega⟩

section Read
variable (q : Fin 2 → Fin 2048 → Fin 8 → Fin 96 → ℝ)
  (k : Fin 2 → Fin 2048 → Fin 8 → Fin 96 → ℝ) (v : Fin 2 → Fin 2048 → Fin 8 → Fin 64 → ℝ)
  (h0 : ∀ b s h g d, m (c, Proc.tc.devRef main_arg0) (ix5 b s h g d) = ((q b s h d : ℝ) : EReal))
  (h1 : ∀ b s h d, m (c, Proc.tc.devRef main_arg1) (ix4 b s h d) = ((k b s h d : ℝ) : EReal))
  (h2 : ∀ b s h d, m (c, Proc.tc.devRef main_arg2) (ix4 b s h d) = ((v b s h d : ℝ) : EReal))

/-- The point's head of an array. -/
def hd {a : ℕ} (q : Fin 2 → Fin 2048 → Fin 8 → Fin a → ℝ) (t : ℕ) (i : Fin 2048) (d : Fin a) : ℝ := q (pb t) i (ph t) d

theorem sitofp_zero : (FloatOps.sitofp (F := Ideal) FTy.bf16 (0#32) : EReal) = ((0 : ℝ) : EReal) := by
  show (((0#32).toInt : ℝ) : EReal) = _; simp

theorem eb (t : Fin cfg0.N) (i : Fin 2048) (h) : (⟨(tr t i).val / 2048, h⟩ : Fin 2) = pb t.val :=
  Fin.ext (by have := lt_N t; simp only [tr, pb]; omega)
theorem es (t : Fin cfg0.N) (i : Fin 2048) (h) : (⟨(tr t i).val % 2048, h⟩ : Fin 2048) = i :=
  Fin.ext (by simp only [tr]; omega)
theorem col (t : Fin cfg0.N) (d : Fin 128) (a : ℕ) (hd : d.val < a) :
    ((tq t d).val / 128 * a + (tq t d).val % 128) / a = t.val % 8 ∧ ((tq t d).val / 128 * a + (tq t d).val % 128) % a = d.val := by
  have e1 : (tq t d).val / 128 = t.val % 8 := by simp only [tq]; omega
  have e2 : (tq t d).val % 128 = d.val := by simp only [tq]; omega
  rw [e1, e2, Nat.add_comm, Nat.add_mul_div_right _ _ (by omega), Nat.add_mul_mod_self_right, Nat.div_eq_of_lt hd, Nat.mod_eq_of_lt hd, Nat.zero_add]
  exact ⟨rfl, rfl⟩
theorem ch (t : Fin cfg0.N) (d : Fin 128) (a : ℕ) (hd : d.val < a) (h) :
    (⟨((tq t d).val / 128 * a + (tq t d).val % 128) / a, h⟩ : Fin 8) = ph t.val := Fin.ext (col t d a hd).1
theorem cd (t : Fin cfg0.N) (d : Fin 128) (a : ℕ) (hd : d.val < a) (h) :
    (⟨((tq t d).val / 128 * a + (tq t d).val % 128) % a, h⟩ : Fin a) = ⟨d.val, hd⟩ := Fin.ext (col t d a hd).2

include h0 in
theorem read0 (t : Fin cfg0.N) (i : Fin 2048) (d : Fin 128) :
    iblk m c 0 t (ix2 i d) = ((lane 128 (hd q t.val i) d : ℝ) : EReal) := by
  blk_simp [iblk, idx t]
  have e : (win0_0.blk t).view.emb (ix2 i d) = (ix2 (tr t i) (tq t d) : S4096x1024.Idx) := by blk_ext [idx t, tr, tq]
  rw [e]
  unfold V
  simp only [hostOps0, hostOps0_1, hostOps0_2, hostOps0_3, hostOps0_4, hostOps0_5, hostOps0_6, List.flatten_cons, List.flatten_nil, List.cons_append, List.nil_append, List.append_nil]
  after_results_simp
  pointwise []
  simp only [StableHlo.TRef.toBuf, StableHlo.TRef.ofBuf, cast_eq]
  pointwise []
  have hm : (tq t d).val % 128 = d.val := by simp only [tq]; omega
  by_cases hd' : d.val < 96
  · rw [dif_pos ⟨by have := (tq t d).isLt; omega, by omega⟩]
    simp only [eb, es, ch t d 96 hd', cd t d 96 hd', h0]
    unfold lane; rw [dif_pos hd']; rfl
  · rw [dif_neg (fun h => hd' (by omega)), sitofp_zero]; unfold lane; rw [dif_neg hd']

include h1 in
theorem read1 (t : Fin cfg0.N) (i : Fin 2048) (d : Fin 128) :
    iblk m c 1 t (ix2 i d) = ((lane 128 (hd k t.val i) d : ℝ) : EReal) := by
  blk_simp [iblk, idx t]
  have e : (win0_1.blk t).view.emb (ix2 i d) = (ix2 (tr t i) (tq t d) : S4096x1024.Idx) := by blk_ext [idx t, tr, tq]
  rw [e]
  unfold V
  simp only [hostOps0, hostOps0_1, hostOps0_2, hostOps0_3, hostOps0_4, hostOps0_5, hostOps0_6, List.flatten_cons, List.flatten_nil, List.cons_append, List.nil_append, List.append_nil]
  after_results_simp
  pointwise []
  simp only [StableHlo.TRef.toBuf, StableHlo.TRef.ofBuf, cast_eq]
  pointwise []
  have hm : (tq t d).val % 128 = d.val := by simp only [tq]; omega
  by_cases hd' : d.val < 96
  · rw [dif_pos ⟨by have := (tq t d).isLt; omega, by omega⟩]
    simp only [eb, es, ch t d 96 hd', cd t d 96 hd', h1]
    unfold lane; rw [dif_pos hd']; rfl
  · rw [dif_neg (fun h => hd' (by omega)), sitofp_zero]; unfold lane; rw [dif_neg hd']

include h2 in
theorem read2 (t : Fin cfg0.N) (i : Fin 2048) (d : Fin 128) :
    iblk m c 2 t (ix2 i d) = ((lane 128 (hd v t.val i) d : ℝ) : EReal) := by
  blk_simp [iblk, idx t]
  have e : (win0_2.blk t).view.emb (ix2 i d) = (ix2 (tr t i) (tq t d) : S4096x1024.Idx) := by blk_ext [idx t, tr, tq]
  rw [e]
  unfold V
  simp only [hostOps0, hostOps0_1, hostOps0_2, hostOps0_3, hostOps0_4, hostOps0_5, hostOps0_6, List.flatten_cons, List.flatten_nil, List.cons_append, List.nil_append, List.append_nil]
  after_results_simp
  pointwise []
  simp only [StableHlo.TRef.toBuf, StableHlo.TRef.ofBuf, cast_eq]
  pointwise []
  have hm : (tq t d).val % 128 = d.val := by simp only [tq]; omega
  by_cases hd' : d.val < 64
  · rw [dif_pos ⟨by have := (tq t d).isLt; omega, by omega⟩]
    simp only [eb, es, ch t d 64 hd', cd t d 64 hd', h2]
    unfold lane; rw [dif_pos hd']; rfl
  · rw [dif_neg (fun h => hd' (by omega)), sitofp_zero]; unfold lane; rw [dif_neg hd']

end Read

end Cert.FwdAIdeal.Blk

end
-- ==== Proof.FwdAPay.lean ====
/- What one grid point of the attention's forward kernel computes from the blocks it reads, read at an index: 256 queries at a
   time the scores, their greatest, the exponentials and their sum, then the output and the log-sum of exponentials. -/
module

public import proofs.«01_k».proof.Proof.Gen.FwdAIdeal.Skeleton
public import proofs.«01_k».proof.Proof.AttnSpec
public import proofs.«01_k».proof.Proof.Slabs

@[expose] public section

set_option maxRecDepth 16384

noncomputable section

namespace Cert.FwdAIdeal.Pay

open Cert.FwdAIdeal Cert.FwdAIdeal.Gen Cert.Rows Cert.AttnSpec Idealize.ShloMosaic Idealize.ShloMosaic.TcCoe

/-- What every query's scores are lowered by. -/
def tp {a : ℕ} (qp kp : Fin 2048 → Fin a → ℝ) (i : Fin 2048) : ℝ := rowmax fun j => sc qp kp i j

section Slab
variable (k v : Vec Ideal S2048x128 .bf16) (q : Vec Ideal S256x128 .bf16) (kp vp qp : Fin 2048 → Fin 128 → ℝ) (r : Fin 256 → Fin 2048)
  (hk : ∀ j d, k (ix2 j d) = ((kp j d : ℝ) : EReal)) (hv : ∀ j d, v (ix2 j d) = ((vp j d : ℝ) : EReal))
  (hq : ∀ i d, q (ix2 i d) = ((qp (r i) d : ℝ) : EReal))

include hk hq in
theorem sc_at (i : Fin 256) (j : Fin 2048) : k0_pay3 (F := Ideal) k q (ix2 i j) = ((sc qp kp (r i) j : ℝ) : EReal) := by
  pointwise [k0_pay3, k0_pay1]
  simp only [hk, hq, coe_sum, ← EReal.coe_mul, zero_add]
  rfl

include hk hq in
theorem mx_at (i : Fin 256) : k0_pay4 (F := Ideal) k q (ix2 i 0) = ((tp qp kp (r i) : ℝ) : EReal) := by
  pointwise [k0_pay4]
  simp only [sc_at k q kp qp r hk hq, ofBits_ninf, fold_max (n := 2048) (by norm_num)]
  rfl

include hk hq in
theorem ex_at (i : Fin 256) (j : Fin 2048) :
    k0_pay5 (F := Ideal) k q (ix2 i j) = ((Real.exp (sc qp kp (r i) j - tp qp kp (r i)) : ℝ) : EReal) := by
  pointwise [k0_pay5]
  rw [sc_at k q kp qp r hk hq, mx_at k q kp qp r hk hq, ← EReal.coe_sub, exp_real]

include hk hq in
theorem zs_at (i : Fin 256) : k0_pay6 (F := Ideal) k q (ix2 i 0) = ((zs qp kp (tp qp kp (r i)) (r i) : ℝ) : EReal) := by
  pointwise [k0_pay6]
  simp only [ex_at k q kp qp r hk hq, coe_sum, zero_add]
  rfl

include hk hv hq in
theorem out_at (i : Fin 256) (d : Fin 128) : k0_pay7 (F := Ideal) k v q (ix2 i d) = ((out qp kp vp (r i) d : ℝ) : EReal) := by
  have hz := (zs_pos qp kp (tp qp kp (r i)) (r i)).ne'
  pointwise [k0_pay7, k0_pay2]
  simp only [ex_at k q kp qp r hk hq, zs_at k q kp qp r hk hq, hv, ← EReal.coe_mul, coe_sum, ← EReal.coe_one, div_real _ hz, zero_add]
  refine congrArg _ ?_
  unfold out
  rw [Finset.sum_mul]
  exact Finset.sum_congr rfl fun j _ => by rw [← shift qp kp (tp qp kp (r i)) (r i) j]; ring

include hk hq in
theorem lse_at (i : Fin 256) (d : Fin 128) : k0_pay8 (F := Ideal) k q (ix2 i d) = ((lse qp kp (tp qp kp) (r i) : ℝ) : EReal) := by
  have hz := zs_pos qp kp (tp qp kp (r i)) (r i)
  pointwise [k0_pay8]
  rw [mx_at k q kp qp r hk hq, zs_at k q kp qp r hk hq, log_real hz, ← EReal.coe_add, add_comm]
  rfl

end Slab

theorem inb (o : ℕ) (h : o + 256 ≤ 2048) : ∀ a, (![o, 0] : Fin 2 → ℕ) a + (![256, 128] : Fin 2 → ℕ) a ≤ S2048x128.size a := by
  intro a; fin_cases a
  · exact h
  · exact le_refl _

section Stores
variable (x0 x1 x2 : Vec Ideal S2048x128 .bf16) (o : ℕ) (h : o + 256 ≤ 2048)

/-- The rows of the block's 256 queries from `o` on. -/
def rows : Vec Ideal S256x128 .bf16 := View.ld x0 (Rect.unit ![o, 0] ![256, 128] (inb o h))

/-- The output and the log-sums stored for them. -/
def oP : View.Piece (Elt Ideal) S2048x128 .bf16 := ⟨Rect.unit ![o, 0] ![256, 128] (inb o h), k0_pay7 x1 x2 (rows x0 o h)⟩
def lP : View.Piece (Elt Ideal) S2048x128 .f32 := ⟨Rect.unit ![o, 0] ![256, 128] (inb o h), k0_pay8 x1 (rows x0 o h)⟩

variable (kp vp qp : Fin 2048 → Fin 128 → ℝ)
  (h0 : ∀ i d, x0 (ix2 i d) = ((qp i d : ℝ) : EReal)) (h1 : ∀ j d, x1 (ix2 j d) = ((kp j d : ℝ) : EReal))
  (h2 : ∀ j d, x2 (ix2 j d) = ((vp j d : ℝ) : EReal))

theorem rows_at (i : Fin 256) (d : Fin 128) : rows x0 o h (ix2 i d) = x0 (ix2 ⟨o + i.val, by omega⟩ d) :=
  Slabs.ld_slab (Val := Elt Ideal) (e := .bf16) x0 o 0 i d _ d rfl (by omega) (inb o h)

include h0 h1 h2 in
theorem oP_at (x : (oP x0 x1 x2 o h).1.shape.Idx) :
    (oP x0 x1 x2 o h).2 x = ((out qp kp vp ((oP x0 x1 x2 o h).1.emb x 0) ((oP x0 x1 x2 o h).1.emb x 1) : ℝ) : EReal) := by
  revert x
  show ∀ x : S256x128.Idx, _
  intro y; idx_vars y
  obtain ⟨i, hi⟩ : ∃ i, i = y0 := ⟨_, rfl⟩
  obtain ⟨d, hd⟩ : ∃ d, d = y1 := ⟨_, rfl⟩
  rw [← hi, ← hd]
  have e : (oP x0 x1 x2 o h).1.emb (ix2 i d) = (ix2 ⟨o + i.val, by omega⟩ d : S2048x128.Idx) :=
    Slabs.emb_slab o 0 i d _ _ rfl (by omega) (inb o h)
  rw [e]
  exact out_at x1 x2 (rows x0 o h) kp vp qp (fun i => ⟨o + i.val, by omega⟩) h1 h2 (fun i d => (rows_at x0 o h i d).trans (h0 _ d)) i d

include h0 h1 in
theorem lP_at (x : (lP x0 x1 o h).1.shape.Idx) :
    (lP x0 x1 o h).2 x = ((lse qp kp (tp qp kp) ((lP x0 x1 o h).1.emb x 0) : ℝ) : EReal) := by
  revert x
  show ∀ x : S256x128.Idx, _
  intro y; idx_vars y
  obtain ⟨i, hi⟩ : ∃ i, i = y0 := ⟨_, rfl⟩
  obtain ⟨d, hd⟩ : ∃ d, d = y1 := ⟨_, rfl⟩
  rw [← hi, ← hd]
  have e : (lP x0 x1 o h).1.emb (ix2 i d) = (ix2 ⟨o + i.val, by omega⟩ d : S2048x128.Idx) :=
    Slabs.emb_slab o 0 i d _ _ rfl (by omega) (inb o h)
  rw [e]
  exact lse_at x1 (rows x0 o h) kp qp (fun i => ⟨o + i.val, by omega⟩) h1 (fun i d => (rows_at x0 o h i d).trans (h0 _ d)) i d

/-- The stores of one point, the last first. -/
def oL : List (View.Piece (Elt Ideal) S2048x128 .bf16) :=
  [oP x0 x1 x2 1792 (by norm_num), oP x0 x1 x2 1536 (by norm_num), oP x0 x1 x2 1280 (by norm_num), oP x0 x1 x2 1024 (by norm_num),
    oP x0 x1 x2 768 (by norm_num), oP x0 x1 x2 512 (by norm_num), oP x0 x1 x2 256 (by norm_num), oP x0 x1 x2 0 (by norm_num)]
def lL : List (View.Piece (Elt Ideal) S2048x128 .f32) :=
  [lP x0 x1 1792 (by norm_num), lP x0 x1 1536 (by norm_num), lP x0 x1 1280 (by norm_num), lP x0 x1 1024 (by norm_num),
    lP x0 x1 768 (by norm_num), lP x0 x1 512 (by norm_num), lP x0 x1 256 (by norm_num), lP x0 x1 0 (by norm_num)]

include h0 h1 h2 in
theorem oL_at (i : Fin 2048) (d : Fin 128) : View.canon (oL x0 x1 x2) (ix2 i d) = ((out qp kp vp i d : ℝ) : EReal) :=
  Slabs.canon_slabs (Val := Elt Ideal) (e := .bf16) (fun i d => ((out qp kp vp i d : ℝ) : EReal)) (oL x0 x1 x2) i d
    (View.cover_of_tiled_head _ _ _ rfl _) fun p hp => by
      simp only [oL, List.mem_cons, List.not_mem_nil, or_false] at hp
      rcases hp with rfl | rfl | rfl | rfl | rfl | rfl | rfl | rfl <;> exact oP_at x0 x1 x2 _ _ kp vp qp h0 h1 h2

include h0 h1 in
theorem lL_at (i : Fin 2048) (d : Fin 128) : View.canon (lL x0 x1) (ix2 i d) = ((lse qp kp (tp qp kp) i : ℝ) : EReal) :=
  Slabs.canon_slabs (Val := Elt Ideal) (e := .f32) (fun i _ => ((lse qp kp (tp qp kp) i : ℝ) : EReal)) (lL x0 x1) i d
    (View.cover_of_tiled_head _ _ _ rfl _) fun p hp => by
      simp only [lL, List.mem_cons, List.not_mem_nil, or_false] at hp
      rcases hp with rfl | rfl | rfl | rfl | rfl | rfl | rfl | rfl <;> exact lP_at x0 x1 _ _ kp qp h0 h1

end Stores

/-! ### The padded lanes -/

section Lanes
variable {a b : ℕ} (ha : a ≤ 128) (Q K : Fin 2048 → Fin a → ℝ) (V : Fin 2048 → Fin b → ℝ)

include ha in
theorem sc_lane (i j : Fin 2048) : sc (fun i => lane 128 (Q i)) (fun j => lane 128 (K j)) i j = sc Q K i j := sum_lane ha _ _

include ha in
theorem out_lane (i : Fin 2048) (d : Fin 128) :
    out (fun i => lane 128 (Q i)) (fun j => lane 128 (K j)) (fun j => lane 128 (V j)) i d = lane 128 (out Q K V i) d := by
  unfold out pr
  simp only [sc_lane ha]
  exact comb_lane _ _ d

include ha in
theorem lse_lane (i : Fin 2048) : lse (fun i => lane 128 (Q i)) (fun j => lane 128 (K j)) (tp (fun i => lane 128 (Q i)) (fun j => lane 128 (K j))) i
    = lse Q K (tp Q K) i := by
  unfold lse zs tp
  simp only [sc_lane ha]

end Lanes

end Cert.FwdAIdeal.Pay

end
-- ==== Proof.FwdAOut.lean ====
/- One point of the one-group attention's forward's stores, every slab by the first slab's formula. -/
module

public import proofs.«01_k».proof.Proof.Gen.FwdAIdeal.Frame
public import proofs.«01_k».proof.Proof.FwdAPay

@[expose] public section

set_option maxRecDepth 16384

noncomputable section

namespace Cert.FwdAIdeal.Pay

open Cert.FwdAIdeal Cert.FwdAIdeal.Gen Cert.Rows Cert.AttnSpec Idealize.ShloMosaic Idealize.ShloMosaic.TcCoe

section Same
variable (k v : Vec Ideal S2048x128 .bf16) (q : Vec Ideal S256x128 .bf16)

theorem o8 : k0_pay49 (k0_pay1 k) (k0_pay2 v) q = k0_pay7 (F := Ideal) k v q := by
  unfold k0_pay49 k0_pay48 k0_pay47 k0_pay46 k0_pay45 k0_pay7 k0_pay6 k0_pay5 k0_pay4 k0_pay3; rfl
theorem l8 : k0_pay50 (k0_pay1 k) q = k0_pay8 (F := Ideal) k q := by
  unfold k0_pay50 k0_pay48 k0_pay47 k0_pay46 k0_pay45 k0_pay8 k0_pay6 k0_pay5 k0_pay4 k0_pay3; rfl
theorem o7 : k0_pay43 (k0_pay2 v) (k0_pay41 (k0_pay1 k) q) = k0_pay7 (F := Ideal) k v q := by
  unfold k0_pay43 k0_pay42 k0_pay41 k0_pay40 k0_pay39 k0_pay7 k0_pay6 k0_pay5 k0_pay4 k0_pay3; rfl
theorem l7 : k0_pay44 (k0_pay40 (k0_pay1 k) q) (k0_pay41 (k0_pay1 k) q) = k0_pay8 (F := Ideal) k q := by
  unfold k0_pay44 k0_pay42 k0_pay41 k0_pay40 k0_pay39 k0_pay8 k0_pay6 k0_pay5 k0_pay4 k0_pay3; rfl
theorem o6 : k0_pay37 (k0_pay1 k) (k0_pay2 v) q = k0_pay7 (F := Ideal) k v q := by
  unfold k0_pay37 k0_pay36 k0_pay35 k0_pay34 k0_pay33 k0_pay7 k0_pay6 k0_pay5 k0_pay4 k0_pay3; rfl
theorem l6 : k0_pay38 (k0_pay1 k) q = k0_pay8 (F := Ideal) k q := by
  unfold k0_pay38 k0_pay36 k0_pay35 k0_pay34 k0_pay33 k0_pay8 k0_pay6 k0_pay5 k0_pay4 k0_pay3; rfl
theorem o5 : k0_pay31 (k0_pay1 k) (k0_pay2 v) q = k0_pay7 (F := Ideal) k v q := by
  unfold k0_pay31 k0_pay30 k0_pay29 k0_pay28 k0_pay27 k0_pay7 k0_pay6 k0_pay5 k0_pay4 k0_pay3; rfl
theorem l5 : k0_pay32 (k0_pay28 (k0_pay1 k) q) (k0_pay30 (k0_pay1 k) q) = k0_pay8 (F := Ideal) k q := by
  unfold k0_pay32 k0_pay30 k0_pay29 k0_pay28 k0_pay27 k0_pay8 k0_pay6 k0_pay5 k0_pay4 k0_pay3; rfl
theorem o4 : k0_pay25 (k0_pay1 k) (k0_pay2 v) q = k0_pay7 (F := Ideal) k v q := by
  unfold k0_pay25 k0_pay24 k0_pay23 k0_pay22 k0_pay21 k0_pay7 k0_pay6 k0_pay5 k0_pay4 k0_pay3; rfl
theorem l4 : k0_pay26 (k0_pay1 k) q = k0_pay8 (F := Ideal) k q := by
  unfold k0_pay26 k0_pay24 k0_pay23 k0_pay22 k0_pay21 k0_pay8 k0_pay6 k0_pay5 k0_pay4 k0_pay3; rfl
theorem o3 : k0_pay19 (k0_pay1 k) (k0_pay2 v) q = k0_pay7 (F := Ideal) k v q := by
  unfold k0_pay19 k0_pay18 k0_pay17 k0_pay16 k0_pay15 k0_pay7 k0_pay6 k0_pay5 k0_pay4 k0_pay3; rfl
theorem l3 : k0_pay20 (k0_pay1 k) q = k0_pay8 (F := Ideal) k q := by
  unfold k0_pay20 k0_pay18 k0_pay17 k0_pay16 k0_pay15 k0_pay8 k0_pay6 k0_pay5 k0_pay4 k0_pay3; rfl
theorem o2 : k0_pay13 (k0_pay2 v) (k0_pay11 k q) = k0_pay7 (F := Ideal) k v q := by
  unfold k0_pay13 k0_pay12 k0_pay11 k0_pay10 k0_pay9 k0_pay7 k0_pay6 k0_pay5 k0_pay4 k0_pay3; rfl
theorem l2 : k0_pay14 (k0_pay10 k q) (k0_pay11 k q) = k0_pay8 (F := Ideal) k q := by
  unfold k0_pay14 k0_pay12 k0_pay11 k0_pay10 k0_pay9 k0_pay8 k0_pay6 k0_pay5 k0_pay4 k0_pay3; rfl

end Same

variable (x0 x1 x2 : Vec Ideal S2048x128 .bf16)

theorem whole (x : Vec Ideal S2048x128 .bf16) (j : Fin 2048) (d : Fin 128) : (View.ld x r0_0 : Vec Ideal S2048x128 .bf16) (ix2 j d) = x (ix2 j d) :=
  Slabs.ld_slab (Val := Elt Ideal) (e := .bf16) x 0 0 j d j d (by omega) (by omega) (fun a => by fin_cases a <;> exact le_refl _)

theorem out0_3_eq : out0_3 (F := Ideal) x0 x1 x2 = View.canon (oL x0 (View.ld x1 r0_0) (View.ld x2 r0_0)) := by
  unfold out0_3 k0_pay54 k0_pay53 k0_pay52 k0_pay51
  rw [o8, o7, o6, o5, o4, o3, o2]
  rfl

theorem out0_4_eq : out0_4 (F := Ideal) x0 x1 x2 = View.canon (lL x0 (View.ld x1 r0_0)) := by
  unfold out0_4 k0_pay54 k0_pay53 k0_pay51
  rw [l8, l7, l6, l5, l4, l3, l2]
  rfl

end Cert.FwdAIdeal.Pay

end
-- ==== Proof.FwdAFin.lean ====
/- What one point of the one-group attention's forward leaves, and the arrays its points leave. -/
module

public import proofs.«01_k».proof.Proof.Gen.FwdAIdeal.Value
public import proofs.«01_k».proof.Proof.FwdABlocks
public import proofs.«01_k».proof.Proof.FwdAOut

@[expose] public section

set_option maxRecDepth 16384

noncomputable section

namespace Cert.FwdAIdeal.Fin

open Cert.FwdAIdeal Cert.FwdAIdeal.Gen Cert.Rows Cert.AttnSpec Cert.FwdAIdeal.Blk Idealize.ShloMosaic Idealize.ShloMosaic.TcCoe

variable (m : (ℓ : Loc nD τ sig) → Buf (Elt Ideal) ℓ) (c : Dev nD)
  (q k : Fin 2 → Fin 2048 → Fin 8 → Fin 96 → ℝ) (v : Fin 2 → Fin 2048 → Fin 8 → Fin 64 → ℝ)
  (h0 : ∀ b s h g d, m (c, Proc.tc.devRef main_arg0) (ix5 b s h g d) = ((q b s h d : ℝ) : EReal))
  (h1 : ∀ b s h d, m (c, Proc.tc.devRef main_arg1) (ix4 b s h d) = ((k b s h d : ℝ) : EReal))
  (h2 : ∀ b s h d, m (c, Proc.tc.devRef main_arg2) (ix4 b s h d) = ((v b s h d : ℝ) : EReal))

include h0 h1 h2 in
theorem out3 (t : Fin cfg0.N) (i : Fin 2048) (d : Fin 128) :
    out0_3 (iblk m c 0 t) (iblk m c 1 t) (iblk m c 2 t) (ix2 i d)
      = ((lane 128 (out (hd q t.val) (hd k t.val) (hd v t.val) i) d : ℝ) : EReal) := by
  rw [Cert.FwdAIdeal.Pay.out0_3_eq]
  exact (Cert.FwdAIdeal.Pay.oL_at (iblk m c 0 t) _ _ _ _ _ (read0 m c q h0 t)
    (fun j d => (Cert.FwdAIdeal.Pay.whole _ j d).trans (read1 m c k h1 t j d)) (fun j d => (Cert.FwdAIdeal.Pay.whole _ j d).trans (read2 m c v h2 t j d)) i d).trans (congrArg _ (Cert.FwdAIdeal.Pay.out_lane (by norm_num) _ _ _ i d))

include h0 h1 in
theorem out4 (t : Fin cfg0.N) (i : Fin 2048) (d : Fin 128) :
    out0_4 (iblk m c 0 t) (iblk m c 1 t) (iblk m c 2 t) (ix2 i d)
      = ((lse (hd q t.val) (hd k t.val) (Cert.FwdAIdeal.Pay.tp (hd q t.val) (hd k t.val)) i : ℝ) : EReal) := by
  rw [Cert.FwdAIdeal.Pay.out0_4_eq]
  exact (Cert.FwdAIdeal.Pay.lL_at (iblk m c 0 t) _ _ _ (read0 m c q h0 t)
    (fun j d => (Cert.FwdAIdeal.Pay.whole _ j d).trans (read1 m c k h1 t j d)) i d).trans (congrArg _ (Cert.FwdAIdeal.Pay.lse_lane (by norm_num) _ _ i))

/-- A row of the arrays and a head's lane. -/
def gr (b : Fin 2) (i : Fin 2048) : Fin 4096 := ⟨b.val * 2048 + i.val, by omega⟩
def gl (h : Fin 8) (d : Fin 128) : Fin 1024 := ⟨h.val * 128 + d.val, by omega⟩

theorem tr_gr (t : Fin cfg0.N) (i : Fin 2048) : tr t i = gr (pb t) i := Fin.ext (by have := lt_N t; simp only [tr, gr, pb]; omega)
theorem tq_gl (t : Fin cfg0.N) (d : Fin 128) : tq t d = gl (ph t) d := Fin.ext (by simp only [tq, gl, ph])

include h0 h1 h2 in
theorem fin3 (G : FVec Ideal S4096x1024 .bf16) (hG : ∀ b i h d, G (ix2 (gr b i) (gl h d))
      = ((lane 128 (out (fun i d => q b i h d) (fun j d => k b j h d) (fun j d => v b j h d) i) d : ℝ) : EReal)) :
    (dats m 0 c).arrAt 3 (cfgs 0).N = G := by
  refine (dats m 0 c).arrAt_eq_of_covers 3 _ (by decide +kernel) fun t hf y => ?_
  blk_simp
  rw [after0_3]
  idx_vars y
  have e : (win0_3.blk t).view.emb (ix2 y0 y1) = (ix2 (tr t y0) (tq t y1) : S4096x1024.Idx) := by blk_ext [idx t, tr, tq]
  rw [e, tr_gr, tq_gl]
  exact (out3 m c q k v h0 h1 h2 t y0 y1).trans (hG _ _ _ _).symm

include h0 h1 in
theorem fin4 (G : FVec Ideal S4096x1024 .f32) (hG : ∀ b i h d, G (ix2 (gr b i) (gl h d))
      = ((lse (fun i d => q b i h d) (fun j d => k b j h d) (Cert.FwdAIdeal.Pay.tp (fun i d => q b i h d) (fun j d => k b j h d)) i : ℝ) : EReal)) :
    (dats m 0 c).arrAt 4 (cfgs 0).N = G := by
  refine (dats m 0 c).arrAt_eq_of_covers 4 _ (by decide +kernel) fun t hf y => ?_
  blk_simp
  rw [after0_4]
  idx_vars y
  have e : (win0_4.blk t).view.emb (ix2 y0 y1) = (ix2 (tr t y0) (tq t y1) : S4096x1024.Idx) := by blk_ext [idx t, tr, tq]
  rw [e, tr_gr, tq_gl]
  exact (out4 m c q k h0 h1 t y0 y1).trans (hG _ _ _ _).symm

end Cert.FwdAIdeal.Fin

end
-- ==== Proof.FwdATerm.lean ====
/- What the one-group attention's forward reference computes, read at an index. -/
module

public import proofs.«01_k».proof.Proof.Gen.FwdARefIdeal.Run
public import proofs.«01_k».proof.Proof.AttnSpec

@[expose] public section

set_option maxRecDepth 16384

noncomputable section

namespace Cert.FwdARefIdeal.At

open Cert.FwdARefIdeal Cert.FwdARefIdeal.Gen Cert.FwdARefIdeal.Value Cert.Rows Cert.AttnSpec Idealize.ShloMosaic Idealize.ShloMosaic.TcCoe

section Terms
variable {F : FTy → Type} [FloatOps F] (m : (ℓ : Loc nD τ sig) → Buf (Elt F) ℓ) (c : Dev nD)

/-- The scores. -/
def sT : FVec F S2x8x1x2048x2048 .f32 :=
  transpose S2x8x1x2048x2048 [0, 1, 4, 3, 2] (Host.dotGeneral dot_S2x2048x8x96_S2x2048x8x1x96_S2x8x2048x2048x1_3_4_1_13_02_02 none (m ((c.tc : Thread nD τ).loc main_arg1)) (m ((c.tc : Thread nD τ).loc main_arg0))) transposes_S2x8x2048x2048x1_S2x8x1x2048x2048_0_1_4_3_2

/-- Their exponentials, lowered by the row's greatest score. -/
def eT : FVec F S2x8x1x2048x2048 .f32 :=
  Host.exp (subf (sT m c) (broadcastInDim S2x8x1x2048x2048 ![0, 1, 2, 3, 4] bcast_S2x8x1x2048x1_S2x8x1x2048x2048_0_1_2_3_4 (broadcastInDim S2x8x1x2048x1 ![0, 1, 2, 3] bcast_S2x8x1x2048_S2x8x1x2048x1_0_1_2_3 (maximumf (broadcastInDim S2x8x1x2048 ![] bcast_S_S2x8x1x2048 (constant S_ .f32 0xFF800000#32)) (Host.reduce FloatOps.maximumf (sT m c) (constant S_ .f32 0xFF800000#32) reducesTo_S2x8x1x2048x2048_S2x8x1x2048_d4 h_S_)))))

/-- The exponentials' sums. -/
def zT : FVec F S2x8x1x2048 .f32 :=
  Host.reduceAdd (eT m c) (constant S_ .f32 0x00000000#32) reducesTo_S2x8x1x2048x2048_S2x8x1x2048_d4 h_S_

/-- The rows' greatest scores, and the exponentials as the log-sums take them. -/
def mT : FVec F S2x8x1x2048 .f32 :=
  Host.reduce FloatOps.maximumf (sT m c) (constant S_ .f32 0xFF800000#32) reducesTo_S2x8x1x2048x2048_S2x8x1x2048_d4 h_S_
def fT : FVec F S2x8x1x2048x2048 .f32 :=
  Host.exp (subf (sT m c) (broadcastInDim S2x8x1x2048x2048 ![0, 1, 2, 3, 4] bcast_S2x8x1x2048x1_S2x8x1x2048x2048_0_1_2_3_4 (broadcastInDim S2x8x1x2048x1 ![0, 1, 2, 3] bcast_S2x8x1x2048_S2x8x1x2048x1_0_1_2_3 (mT m c))))

/-- The output and the log-sums of exponentials, as the program returns them. -/
def oT : FVec F S4096x1024 .bf16 :=
  truncf .bf16 (shapeCast _ (pad S4096x8x128 ![0, 0, 0] ![0, 0, 64] ![0, 0, 0] (shapeCast _ (transpose S2x2048x8x1x64 [0, 4, 1, 3, 2] (Host.dotGeneral dot_S2x2048x8x64_S2x8x1x2048x2048_S2x8x64x1x2048_1_4_3_23_02_01 none (m ((c.tc : Thread nD τ).loc main_arg2)) (Host.divf (eT m c) (broadcastInDim S2x8x1x2048x2048 ![0, 1, 2, 3, 4] bcast_S2x8x1x2048x1_S2x8x1x2048x2048_0_1_2_3_4 (broadcastInDim S2x8x1x2048x1 ![0, 1, 2, 3] bcast_S2x8x1x2048_S2x8x1x2048x1_0_1_2_3 (zT m c))))) transposes_S2x8x64x1x2048_S2x2048x8x1x64_0_4_1_3_2) shapeCasts_S2x2048x8x1x64_S4096x8x64) (sitofp .f32 (constantI S_ 32 0#32)) pads_S4096x8x64_S4096x8x128_000_000_0640 h_S_) shapeCasts_S4096x8x128_S4096x1024) bitsLt_bf16_f32

def lT : FVec F S4096x1024 .f32 :=
  shapeCast _ (broadcastInDim S4096x8x128 ![0, 1, 2] bcast_S4096x8x1_S4096x8x128_0_1_2 (shapeCast _ (transpose S2x2048x8x1 [0, 3, 1, 2] (addf (Host.log (Host.reduceAdd (fT m c) (constant S_ .f32 0x00000000#32) reducesTo_S2x8x1x2048x2048_S2x8x1x2048_d4 h_S_)) (mT m c)) transposes_S2x8x1x2048_S2x2048x8x1_0_3_1_2) shapeCasts_S2x2048x8x1_S4096x8x1)) shapeCasts_S4096x8x128_S4096x1024

end Terms

variable (m : (ℓ : Loc nD τ sig) → Buf (Elt Ideal) ℓ) (c : Dev nD)
  (q k : Fin 2 → Fin 2048 → Fin 8 → Fin 96 → ℝ) (v : Fin 2 → Fin 2048 → Fin 8 → Fin 64 → ℝ)
  (h0 : ∀ b s h g d, (m ((c.tc : Thread nD τ).loc main_arg0) : FVec Ideal S2x2048x8x1x96 .f32) (ix5 b s h g d) = ((q b s h d : ℝ) : EReal))
  (h1 : ∀ b s h d, (m ((c.tc : Thread nD τ).loc main_arg1) : FVec Ideal S2x2048x8x96 .f32) (ix4 b s h d) = ((k b s h d : ℝ) : EReal))
  (h2 : ∀ b s h d, (m ((c.tc : Thread nD τ).loc main_arg2) : FVec Ideal S2x2048x8x64 .f32) (ix4 b s h d) = ((v b s h d : ℝ) : EReal))
  (b : Fin 2) (h : Fin 8) (g : Fin 1) (i j : Fin 2048)

/-- A head's slice of an array and the row's greatest score. -/
def hd {a : ℕ} (x : Fin 2 → Fin 2048 → Fin 8 → Fin a → ℝ) (b : Fin 2) (h : Fin 8) (i : Fin 2048) (d : Fin a) : ℝ := x b i h d
def mx (b : Fin 2) (h : Fin 8) (i : Fin 2048) : ℝ := rowmax (sc (hd q b h) (hd k b h) i)

include h0 h1 in
theorem s_at : sT m c (ix5 b h g i j) = ((sc (hd q b h) (hd k b h) i j : ℝ) : EReal) := by
  pointwise [sT]
  simp only [h0, h1, coe_sum, ← EReal.coe_mul]
  exact congrArg _ (Finset.sum_congr rfl fun d _ => mul_comm _ _)

theorem m_fold : (Host.reduce FloatOps.maximumf (sT m c) (constant S_ .f32 0xFF800000#32) reducesTo_S2x8x1x2048x2048_S2x8x1x2048_d4 h_S_ : FVec Ideal S2x8x1x2048 .f32) (ix4 b h g i)
    = Finset.univ.fold max (Ideal.ofBits .f32 0xFF800000#32) (fun j => sT m c (ix5 b h g i j)) := by
  obtain rfl : g = 0 := Subsingleton.elim _ _
  pointwise []

include h0 h1 in
theorem m_row : Finset.univ.fold max (⊥ : EReal) (fun j => sT m c (ix5 b h g i j)) = ((mx q k b h i : ℝ) : EReal) := by
  unfold mx
  rw [← fold_max (n := 2048) (by norm_num)]
  exact congrArg (fun f => Finset.univ.fold max (⊥ : EReal) f) (funext fun j => s_at m c q k h0 h1 b h g i j)

theorem e_term (M : FVec Ideal S2x8x1x2048 .f32) (hM : (Host.reduce FloatOps.maximumf (sT m c) (constant S_ .f32 0xFF800000#32) reducesTo_S2x8x1x2048x2048_S2x8x1x2048_d4 h_S_ : FVec Ideal S2x8x1x2048 .f32) = M) :
    eT m c (ix5 b h g i j) = Ideal.exp (sT m c (ix5 b h g i j) - max (Ideal.ofBits .f32 0xFF800000#32) (M (ix4 b h g i))) := by
  obtain rfl : g = 0 := Subsingleton.elim _ _
  unfold eT; rw [hM]
  pointwise []

include h0 h1 in
theorem e_at : eT m c (ix5 b h g i j) = ((Real.exp (sc (hd q b h) (hd k b h) i j - mx q k b h i) : ℝ) : EReal) := by
  rw [e_term m c b h g i j _ rfl, m_fold, s_at m c q k h0 h1, ofBits_ninf, m_row m c q k h0 h1, max_eq_right bot_le, ← EReal.coe_sub, exp_real]

include h0 h1 in
theorem z_at : zT m c (ix4 b h g i) = ((zs (hd q b h) (hd k b h) (mx q k b h i) i : ℝ) : EReal) := by
  pointwise [zT]
  simp only [e_at m c q k h0 h1, coe_sum, zero_add]
  rfl

theorem m_at' (h0 : ∀ b s h g d, (m ((c.tc : Thread nD τ).loc main_arg0) : FVec Ideal S2x2048x8x1x96 .f32) (ix5 b s h g d) = ((q b s h d : ℝ) : EReal))
    (h1 : ∀ b s h d, (m ((c.tc : Thread nD τ).loc main_arg1) : FVec Ideal S2x2048x8x96 .f32) (ix4 b s h d) = ((k b s h d : ℝ) : EReal)) :
    mT m c (ix4 b h g i) = ((mx q k b h i : ℝ) : EReal) := by
  unfold mT; rw [m_fold, ofBits_ninf, m_row m c q k h0 h1]

include h0 h1 in
theorem f_at : fT m c (ix5 b h g i j) = ((Real.exp (sc (hd q b h) (hd k b h) i j - mx q k b h i) : ℝ) : EReal) := by
  obtain rfl : g = 0 := Subsingleton.elim _ _
  pointwise [fT]
  rw [m_at' m c q k b h 0 i h0 h1, s_at m c q k h0 h1, ← EReal.coe_sub, exp_real]

theorem zero_32 : FloatOps.sitofp (F := Ideal) .f32 (0#32 : BitVec 32) = ((0 : ℝ) : EReal) := by
  simp [FloatOps.sitofp]

include h0 h1 h2 in
theorem o_at (R : Fin 4096) (C : Fin 1024) (d : Fin 128) (hb : R.val / 2048 = b.val) (hi : R.val % 2048 = i.val)
    (hh : C.val / 128 = h.val) (hd : C.val % 128 = d.val) :
    oT m c (ix2 R C) = ((lane 128 (out (At.hd q b h) (At.hd k b h) (At.hd v b h) i) d : ℝ) : EReal) := by
  have lb : R.val / 2048 < 2 := by clear hb hi hh hd; omega
  have li : R.val % 2048 < 2048 := by clear hb hi hh hd; omega
  have lh : C.val / 128 < 8 := by clear hb hi hh hd; omega
  have ld : C.val % 128 < 128 := by clear hb hi hh hd; omega
  obtain rfl : (⟨R.val / 2048, lb⟩ : Fin 2) = b := Fin.ext hb
  obtain rfl : (⟨R.val % 2048, li⟩ : Fin 2048) = i := Fin.ext hi
  obtain rfl : (⟨C.val / 128, lh⟩ : Fin 8) = h := Fin.ext hh
  obtain rfl : (⟨C.val % 128, ld⟩ : Fin 128) = d := Fin.ext hd
  have hz := fun b h i => (zs_pos (At.hd q b h) (At.hd k b h) (mx q k b h i) i).ne'
  pointwise [oT]
  simp only [e_at m c q k h0 h1, z_at m c q k h0 h1, h2, div_real _ (hz _ _ _), shift, coe_sum, ← EReal.coe_mul, zero_32]
  unfold lane
  split_ifs with c1 c2 c2
  · exact congrArg _ (Finset.sum_congr rfl fun i' _ => mul_comm _ _)
  · exact absurd c1.2 c2
  · exact absurd ⟨by omega, c2⟩ c1
  · rfl

include h0 h1 in
theorem l_at (R : Fin 4096) (C : Fin 1024) (hb : R.val / 2048 = b.val) (hi : R.val % 2048 = i.val) (hh : C.val / 128 = h.val) :
    lT m c (ix2 R C) = ((lse (At.hd q b h) (At.hd k b h) (mx q k b h) i : ℝ) : EReal) := by
  have lb : R.val / 2048 < 2 := by clear hb hi hh; omega
  have li : R.val % 2048 < 2048 := by clear hb hi hh; omega
  have lh : C.val / 128 < 8 := by clear hb hi hh; omega
  obtain rfl : (⟨R.val / 2048, lb⟩ : Fin 2) = b := Fin.ext hb
  obtain rfl : (⟨R.val % 2048, li⟩ : Fin 2048) = i := Fin.ext hi
  obtain rfl : (⟨C.val / 128, lh⟩ : Fin 8) = h := Fin.ext hh
  pointwise [lT]
  simp only [f_at m c q k h0 h1, m_at' m c q k _ _ _ _ h0 h1, coe_sum, zero_add]
  have hz := zs_pos (At.hd q ⟨R.val / 2048, lb⟩ ⟨C.val / 128, lh⟩) (At.hd k ⟨R.val / 2048, lb⟩ ⟨C.val / 128, lh⟩)
    (mx q k ⟨R.val / 2048, lb⟩ ⟨C.val / 128, lh⟩ ⟨R.val % 2048, li⟩) ⟨R.val % 2048, li⟩
  unfold zs at hz
  rw [log_real hz, ← EReal.coe_add]
  rfl

end Cert.FwdARefIdeal.At

end
-- ==== Proof.FwdAFinite.lean ====
/- The precondition of the one-group attention's forward claim: every entry of the arrays it names is a real number. -/
module

public import proofs.«01_k».proof.Pre_finite_fwd_a
public import proofs.«01_k».proof.Proof.Finite

@[expose] public section

set_option maxRecDepth 16384

noncomputable section

namespace Cert.Pre_finite_fwd_a

open Cert.Rows Idealize.ShloMosaic

variable [Facts]

theorem reals {a0 : FVec Ideal S2x2048x8x1x96 .f32} {a1 : FVec Ideal S2x2048x8x96 .f32} {a2 : FVec Ideal S2x2048x8x64 .f32}
    (h : fn (F := Ideal) a0 a1 a2 = fun _ => 1#1) :
    (∀ i, a0 i = (((a0 i).toReal : ℝ) : EReal)) ∧ (∀ i, a1 i = (((a1 i).toReal : ℝ) : EReal)) ∧ (∀ i, a2 i = (((a2 i).toReal : ℝ) : EReal)) := by
  have e := congrFun h (Shape.Idx.first (s := S_) Facts.h_S_)
  obtain ⟨e, e2⟩ := andi_one e
  obtain ⟨e, e1⟩ := andi_one e
  obtain ⟨_, e0⟩ := andi_one e
  exact ⟨real_of_all _ _ _ _ _ _ e0, real_of_all _ _ _ _ _ _ e1, real_of_all _ _ _ _ _ _ e2⟩

end Cert.Pre_finite_fwd_a

end
-- ==== Proof.FwdAPair.lean ====
/- The one-group attention's forward kernel agrees with its reference. -/
module

public import proofs.«01_k».proof.Defs
public import proofs.«01_k».proof.Proof.Gen.Pre_finite_fwd_a
public import proofs.«01_k».proof.Proof.FwdAFin
public import proofs.«01_k».proof.Proof.FwdATerm
public import proofs.«01_k».proof.Proof.FwdAFinite

@[expose] public section

set_option maxRecDepth 16384

noncomputable section

namespace Cert.FwdAPair

open Cert.Rows Idealize.ShloMosaic Idealize.ShloMosaic.TcCoe Idealize.SL.Sem
open Cert.FwdAIdeal (S2x2048x8x1x96 S2x2048x8x96 S2x2048x8x64)
open Cert.FwdAIdeal.Fin (gr gl)

/-- The real arrays behind a memory's arguments. -/
abbrev rq (V : FVec Ideal S2x2048x8x1x96 .f32) : Fin 2 → Fin 2048 → Fin 8 → Fin 96 → ℝ := fun b s h d => (V (ix5 b s h 0 d)).toReal
abbrev rk (V : FVec Ideal S2x2048x8x96 .f32) : Fin 2 → Fin 2048 → Fin 8 → Fin 96 → ℝ := fun b s h d => (V (ix4 b s h d)).toReal
abbrev rv (V : FVec Ideal S2x2048x8x64 .f32) : Fin 2 → Fin 2048 → Fin 8 → Fin 64 → ℝ := fun b s h d => (V (ix4 b s h d)).toReal

/-- A group axis of length one has one index. -/
theorem one5 {a : ℕ} {V : FVec Ideal ⟨5, ![2, 2048, 8, 1, a]⟩ .f32} (e : ∀ y, V y = ((V y).toReal : EReal)) (b : Fin 2) (s : Fin 2048) (h : Fin 8) (g : Fin 1) (d : Fin a) :
    V (ix5 b s h g d) = (((V (ix5 b s h 0 d)).toReal : ℝ) : EReal) := by
  obtain rfl : g = 0 := Subsingleton.elim _ _
  exact e _

theorem ref_frame : @Cert.quiescent_FwdARefIdeal Cert.FwdARefIdeal.Gen.facts := fun m g _ =>
  (θ_run Cert.FwdARefIdeal.defs _ _).mono (fun r h => ⟨fun c => (h c).2.2, Idealize.ShloMosaic.sem_eq_zero_of_no_sems (by decide) r.2⟩)
    (Cert.FwdARefIdeal.Value.run (F := Ideal) m g)

theorem row (b : Fin 2) (i : Fin 2048) : (gr b i).val / 2048 = b.val ∧ (gr b i).val % 2048 = i.val := by unfold gr; dsimp only; omega
theorem col (h : Fin 8) (d : Fin 128) : (gl h d).val / 128 = h.val ∧ (gl h d).val % 128 = d.val := by unfold gl; dsimp only; omega

set_option maxHeartbeats 1600000 in
theorem algebraic : @Cert.algebraic_FwdAIdeal_FwdARefIdeal_pre_finite_fwd_a Cert.FwdAIdeal.Gen.facts Cert.FwdARefIdeal.Gen.facts Cert.Pre_finite_fwd_a.Gen.facts := by
  pair_intro
  · run_from Cert.FwdAIdeal.Value.run_blocks m g
  · run_from Cert.FwdARefIdeal.Value.run m' g'
    all_goals
      obtain ⟨e0, e1, e2⟩ := Cert.Pre_finite_fwd_a.reals (hpre c)
      obtain ⟨a0, a1, a2⟩ := hagree c
    · rw [← a0, ← a1, ← a2]
      refine Eq.trans (b := Cert.FwdARefIdeal.At.oT m' c) (by
        unfold Cert.FwdARefIdeal.At.oT Cert.FwdARefIdeal.At.zT Cert.FwdARefIdeal.At.eT Cert.FwdARefIdeal.At.sT; rfl) ?_
      exact (Cert.FwdAIdeal.Fin.fin3 m c (rq (m (c.tc.loc Cert.FwdAIdeal.main_arg0))) (rk (m (c.tc.loc Cert.FwdAIdeal.main_arg1))) (rv (m (c.tc.loc Cert.FwdAIdeal.main_arg2)))
        (one5 e0) (fun b s h d => e1 (ix4 b s h d)) (fun b s h d => e2 (ix4 b s h d)) _
        (fun b i h d => Cert.FwdARefIdeal.At.o_at m' c (rq (m (c.tc.loc Cert.FwdAIdeal.main_arg0))) (rk (m (c.tc.loc Cert.FwdAIdeal.main_arg1))) (rv (m (c.tc.loc Cert.FwdAIdeal.main_arg2)))
          (fun b s h g d => (congrFun a0 (ix5 b s h g d)).trans (one5 e0 b s h g d)) (fun b s h d => (congrFun a1 (ix4 b s h d)).trans (e1 (ix4 b s h d))) (fun b s h d => (congrFun a2 (ix4 b s h d)).trans (e2 (ix4 b s h d)))
          b h i _ _ d (row b i).1 (row b i).2 (col h d).1 (col h d).2)).symm
    · rw [← a0, ← a1]
      refine Eq.trans (b := Cert.FwdARefIdeal.At.lT m' c) (by
        unfold Cert.FwdARefIdeal.At.lT Cert.FwdARefIdeal.At.fT Cert.FwdARefIdeal.At.mT Cert.FwdARefIdeal.At.sT; rfl) ?_
      exact (Cert.FwdAIdeal.Fin.fin4 m c (rq (m (c.tc.loc Cert.FwdAIdeal.main_arg0))) (rk (m (c.tc.loc Cert.FwdAIdeal.main_arg1)))
        (one5 e0) (fun b s h d => e1 (ix4 b s h d)) _
        (fun b i h d => Cert.FwdARefIdeal.At.l_at m' c (rq (m (c.tc.loc Cert.FwdAIdeal.main_arg0))) (rk (m (c.tc.loc Cert.FwdAIdeal.main_arg1)))
          (fun b s h g d => (congrFun a0 (ix5 b s h g d)).trans (one5 e0 b s h g d)) (fun b s h d => (congrFun a1 (ix4 b s h d)).trans (e1 (ix4 b s h d)))
          b h i _ _ (row b i).1 (row b i).2 (col h d).1)).symm

end Cert.FwdAPair

end
-- ==== Proof.FwdBBlocks.lean ====
/- What the grouped attention's forward blocks hold, at the arguments' entries: the point's head, its lanes padded with zeros. -/
module

public import proofs.«01_k».proof.Proof.Gen.FwdBIdeal.Frame
public import proofs.«01_k».proof.Proof.AttnSpec
public import Idealize.ShloMosaic.Lib.Claim
public import Idealize.ShloMosaic.Lib.Pipeline.ValueKit

@[expose] public section

set_option maxRecDepth 16384

noncomputable section

namespace Cert.FwdBIdeal.Blk

open Cert.FwdBIdeal Cert.FwdBIdeal.Gen Cert.Rows Cert.AttnSpec Idealize.ShloMosaic Idealize.ShloMosaic.TcCoe

variable (m : (ℓ : Loc nD τ sig) → Buf (Elt Ideal) ℓ) (c : Dev nD)

theorem idx : ∀ t : Fin cfg0.N, win0_0.index t = ![t.val / 8, t.val % 8] ∧ win0_1.index t = ![t.val / 8, t.val / 4 % 2]
    ∧ win0_2.index t = ![t.val / 8, t.val / 4 % 2] ∧ win0_3.index t = ![t.val / 8, t.val % 8] ∧ win0_4.index t = ![t.val / 8, t.val % 8] :=
  (by decide +kernel : ∀ t : Fin grid0.N, _)

theorem lt_N (t : Fin cfg0.N) : t.val < 16 := by have := t.isLt; have : cfg0.N = 16 := N_0; omega

/-- The point's batch element, its key head and its query head of that group. -/
def pb (t : ℕ) : Fin 2 := ⟨t / 8 % 2, by omega⟩
def ph (t : ℕ) : Fin 2 := ⟨t / 4 % 2, by omega⟩
def pg (t : ℕ) : Fin 4 := ⟨t % 4, by omega⟩

/-- Row `i` and lane `d` of the point's block, in the array. -/
def tr (t : Fin cfg0.N) (i : Fin 2048) : Fin 4096 := ⟨t.val / 8 * 2048 + i.val, by have := lt_N t; omega⟩
def tq (t : Fin cfg0.N) (d : Fin 128) : Fin 1024 := ⟨t.val % 8 * 128 + d.val, by omega⟩
def tk (t : Fin cfg0.N) (d : Fin 128) : Fin 256 := ⟨t.val / 4 % 2 * 128 + d.val, by omega⟩

section Read
variable (q : Fin 2 → Fin 2048 → Fin 2 → Fin 4 → Fin 64 → ℝ) (k v : Fin 2 → Fin 2048 → Fin 2 → Fin 64 → ℝ)
  (h0 : ∀ b s h g d, m (c, Proc.tc.devRef main_arg0) (ix5 b s h g d) = ((q b s h g d : ℝ) : EReal))
  (h1 : ∀ b s h d, m (c, Proc.tc.devRef main_arg1) (ix4 b s h d) = ((k b s h d : ℝ) : EReal))
  (h2 : ∀ b s h d, m (c, Proc.tc.devRef main_arg2) (ix4 b s h d) = ((v b s h d : ℝ) : EReal))

/-- The point's queries, keys and values. -/
def hq (t : ℕ) (i : Fin 2048) (d : Fin 64) : ℝ := q (pb t) i (ph t) (pg t) d
def hk (t : ℕ) (j : Fin 2048) (d : Fin 64) : ℝ := k (pb t) j (ph t) d

theorem eb (t : Fin cfg0.N) (i : Fin 2048) (h) : (⟨(tr t i).val / 2048, h⟩ : Fin 2) = pb t.val :=
  Fin.ext (by have := lt_N t; simp only [tr, pb]; omega)
theorem es (t : Fin cfg0.N) (i : Fin 2048) (h) : (⟨(tr t i).val % 2048, h⟩ : Fin 2048) = i :=
  Fin.ext (by simp only [tr]; omega)
theorem e5h (t : Fin cfg0.N) (d : Fin 128) (hd : d.val < 64) (h) : (⟨((tq t d).val / 128 * 64 + (tq t d).val % 128) / 256, h⟩ : Fin 2) = ph t.val :=
  Fin.ext (by simp only [tq, ph]; omega)
theorem e5g (t : Fin cfg0.N) (d : Fin 128) (hd : d.val < 64) (h) : (⟨((tq t d).val / 128 * 64 + (tq t d).val % 128) / 64 % 4, h⟩ : Fin 4) = pg t.val :=
  Fin.ext (by simp only [tq, pg]; omega)
theorem e5d (t : Fin cfg0.N) (d : Fin 128) (hd : d.val < 64) (h) : (⟨((tq t d).val / 128 * 64 + (tq t d).val % 128) % 64, h⟩ : Fin 64) = ⟨d.val, hd⟩ :=
  Fin.ext (by simp only [tq]; omega)
theorem e4h (t : Fin cfg0.N) (d : Fin 128) (hd : d.val < 64) (h) : (⟨((tk t d).val / 128 * 64 + (tk t d).val % 128) / 64, h⟩ : Fin 2) = ph t.val :=
  Fin.ext (by simp only [tk, ph]; omega)
theorem e4d (t : Fin cfg0.N) (d : Fin 128) (hd : d.val < 64) (h) : (⟨((tk t d).val / 128 * 64 + (tk t d).val % 128) % 64, h⟩ : Fin 64) = ⟨d.val, hd⟩ :=
  Fin.ext (by simp only [tk]; omega)
theorem sitofp_zero : (FloatOps.sitofp (F := Ideal) FTy.bf16 (0#32) : EReal) = ((0 : ℝ) : EReal) := by
  show (((0#32).toInt : ℝ) : EReal) = _; simp

include h0 in
theorem read0 (t : Fin cfg0.N) (i : Fin 2048) (d : Fin 128) :
    iblk m c 0 t (ix2 i d) = ((lane 128 (hq q t.val i) d : ℝ) : EReal) := by
  blk_simp [iblk, idx t]
  have e : (win0_0.blk t).view.emb (ix2 i d) = (ix2 (tr t i) (tq t d) : S4096x1024.Idx) := by blk_ext [idx t, tr, tq]
  rw [e]
  unfold V
  simp only [hostOps0, hostOps0_1, hostOps0_2, hostOps0_3, hostOps0_4, hostOps0_5, hostOps0_6, List.flatten_cons, List.flatten_nil, List.cons_append, List.nil_append, List.append_nil]
  after_results_simp
  pointwise []
  simp only [StableHlo.TRef.toBuf, StableHlo.TRef.ofBuf, cast_eq]
  pointwise []
  have hm : (tq t d).val % 128 = d.val := by simp only [tq]; omega
  by_cases hd : d.val < 64
  · rw [dif_pos ⟨by have := (tq t d).isLt; omega, by omega⟩]
    simp only [eb, es, e5h t d hd, e5g t d hd, e5d t d hd, h0]
    unfold lane; rw [dif_pos hd]; rfl
  · rw [dif_neg (fun h => hd (by omega)), sitofp_zero]; unfold lane; rw [dif_neg hd]

include h1 in
theorem read1 (t : Fin cfg0.N) (i : Fin 2048) (d : Fin 128) :
    iblk m c 1 t (ix2 i d) = ((lane 128 (hk k t.val i) d : ℝ) : EReal) := by
  blk_simp [iblk, idx t]
  have e : (win0_1.blk t).view.emb (ix2 i d) = (ix2 (tr t i) (tk t d) : S4096x256.Idx) := by blk_ext [idx t, tr, tk]
  rw [e]
  unfold V
  simp only [hostOps0, hostOps0_1, hostOps0_2, hostOps0_3, hostOps0_4, hostOps0_5, hostOps0_6, List.flatten_cons, List.flatten_nil, List.cons_append, List.nil_append, List.append_nil]
  after_results_simp
  pointwise []
  simp only [StableHlo.TRef.toBuf, StableHlo.TRef.ofBuf, cast_eq]
  pointwise []
  have hm : (tk t d).val % 128 = d.val := by simp only [tk]; omega
  by_cases hd : d.val < 64
  · rw [dif_pos ⟨by have := (tk t d).isLt; omega, by omega⟩]
    simp only [eb, es, e4h t d hd, e4d t d hd, h1]
    unfold lane; rw [dif_pos hd]; rfl
  · rw [dif_neg (fun h => hd (by omega)), sitofp_zero]; unfold lane; rw [dif_neg hd]

include h2 in
theorem read2 (t : Fin cfg0.N) (i : Fin 2048) (d : Fin 128) :
    iblk m c 2 t (ix2 i d) = ((lane 128 (hk v t.val i) d : ℝ) : EReal) := by
  blk_simp [iblk, idx t]
  have e : (win0_2.blk t).view.emb (ix2 i d) = (ix2 (tr t i) (tk t d) : S4096x256.Idx) := by blk_ext [idx t, tr, tk]
  rw [e]
  unfold V
  simp only [hostOps0, hostOps0_1, hostOps0_2, hostOps0_3, hostOps0_4, hostOps0_5, hostOps0_6, List.flatten_cons, List.flatten_nil, List.cons_append, List.nil_append, List.append_nil]
  after_results_simp
  pointwise []
  simp only [StableHlo.TRef.toBuf, StableHlo.TRef.ofBuf, cast_eq]
  pointwise []
  have hm : (tk t d).val % 128 = d.val := by simp only [tk]; omega
  by_cases hd : d.val < 64
  · rw [dif_pos ⟨by have := (tk t d).isLt; omega, by omega⟩]
    simp only [eb, es, e4h t d hd, e4d t d hd, h2]
    unfold lane; rw [dif_pos hd]; rfl
  · rw [dif_neg (fun h => hd (by omega)), sitofp_zero]; unfold lane; rw [dif_neg hd]

end Read

end Cert.FwdBIdeal.Blk

end
-- ==== Proof.FwdBPay.lean ====
/- What one grid point of the grouped attention's forward kernel computes from the blocks it reads, read at an index: 256 queries at a
   time the scores, their greatest, the exponentials and their sum, then the output and the log-sum of exponentials. -/
module

public import proofs.«01_k».proof.Proof.Gen.FwdBIdeal.Skeleton
public import proofs.«01_k».proof.Proof.AttnSpec
public import proofs.«01_k».proof.Proof.Slabs

@[expose] public section

set_option maxRecDepth 16384

noncomputable section

namespace Cert.FwdBIdeal.Pay

open Cert.FwdBIdeal Cert.FwdBIdeal.Gen Cert.Rows Cert.AttnSpec Idealize.ShloMosaic Idealize.ShloMosaic.TcCoe

/-- What every query's scores are lowered by. -/
def tp {a : ℕ} (qp kp : Fin 2048 → Fin a → ℝ) (i : Fin 2048) : ℝ := rowmax fun j => sc qp kp i j

section Slab
variable (k v : Vec Ideal S2048x128 .bf16) (q : Vec Ideal S256x128 .bf16) (kp vp qp : Fin 2048 → Fin 128 → ℝ) (r : Fin 256 → Fin 2048)
  (hk : ∀ j d, k (ix2 j d) = ((kp j d : ℝ) : EReal)) (hv : ∀ j d, v (ix2 j d) = ((vp j d : ℝ) : EReal))
  (hq : ∀ i d, q (ix2 i d) = ((qp (r i) d : ℝ) : EReal))

include hk hq in
theorem sc_at (i : Fin 256) (j : Fin 2048) : k0_pay3 (F := Ideal) k q (ix2 i j) = ((sc qp kp (r i) j : ℝ) : EReal) := by
  pointwise [k0_pay3, k0_pay1]
  simp only [hk, hq, coe_sum, ← EReal.coe_mul, zero_add]
  rfl

include hk hq in
theorem mx_at (i : Fin 256) : k0_pay4 (F := Ideal) k q (ix2 i 0) = ((tp qp kp (r i) : ℝ) : EReal) := by
  pointwise [k0_pay4]
  simp only [sc_at k q kp qp r hk hq, ofBits_ninf, fold_max (n := 2048) (by norm_num)]
  rfl

include hk hq in
theorem ex_at (i : Fin 256) (j : Fin 2048) :
    k0_pay5 (F := Ideal) k q (ix2 i j) = ((Real.exp (sc qp kp (r i) j - tp qp kp (r i)) : ℝ) : EReal) := by
  pointwise [k0_pay5]
  rw [sc_at k q kp qp r hk hq, mx_at k q kp qp r hk hq, ← EReal.coe_sub, exp_real]

include hk hq in
theorem zs_at (i : Fin 256) : k0_pay6 (F := Ideal) k q (ix2 i 0) = ((zs qp kp (tp qp kp (r i)) (r i) : ℝ) : EReal) := by
  pointwise [k0_pay6]
  simp only [ex_at k q kp qp r hk hq, coe_sum, zero_add]
  rfl

include hk hv hq in
theorem out_at (i : Fin 256) (d : Fin 128) : k0_pay7 (F := Ideal) k v q (ix2 i d) = ((out qp kp vp (r i) d : ℝ) : EReal) := by
  have hz := (zs_pos qp kp (tp qp kp (r i)) (r i)).ne'
  pointwise [k0_pay7, k0_pay2]
  simp only [ex_at k q kp qp r hk hq, zs_at k q kp qp r hk hq, hv, ← EReal.coe_mul, coe_sum, ← EReal.coe_one, div_real _ hz, zero_add]
  refine congrArg _ ?_
  unfold out
  rw [Finset.sum_mul]
  exact Finset.sum_congr rfl fun j _ => by rw [← shift qp kp (tp qp kp (r i)) (r i) j]; ring

include hk hq in
theorem lse_at (i : Fin 256) (d : Fin 128) : k0_pay8 (F := Ideal) k q (ix2 i d) = ((lse qp kp (tp qp kp) (r i) : ℝ) : EReal) := by
  have hz := zs_pos qp kp (tp qp kp (r i)) (r i)
  pointwise [k0_pay8]
  rw [mx_at k q kp qp r hk hq, zs_at k q kp qp r hk hq, log_real hz, ← EReal.coe_add, add_comm]
  rfl

end Slab

theorem inb (o : ℕ) (h : o + 256 ≤ 2048) : ∀ a, (![o, 0] : Fin 2 → ℕ) a + (![256, 128] : Fin 2 → ℕ) a ≤ S2048x128.size a := by
  intro a; fin_cases a
  · exact h
  · exact le_refl _

section Stores
variable (x0 x1 x2 : Vec Ideal S2048x128 .bf16) (o : ℕ) (h : o + 256 ≤ 2048)

/-- The rows of the block's 256 queries from `o` on. -/
def rows : Vec Ideal S256x128 .bf16 := View.ld x0 (Rect.unit ![o, 0] ![256, 128] (inb o h))

/-- The output and the log-sums stored for them. -/
def oP : View.Piece (Elt Ideal) S2048x128 .bf16 := ⟨Rect.unit ![o, 0] ![256, 128] (inb o h), k0_pay7 x1 x2 (rows x0 o h)⟩
def lP : View.Piece (Elt Ideal) S2048x128 .f32 := ⟨Rect.unit ![o, 0] ![256, 128] (inb o h), k0_pay8 x1 (rows x0 o h)⟩

variable (kp vp qp : Fin 2048 → Fin 128 → ℝ)
  (h0 : ∀ i d, x0 (ix2 i d) = ((qp i d : ℝ) : EReal)) (h1 : ∀ j d, x1 (ix2 j d) = ((kp j d : ℝ) : EReal))
  (h2 : ∀ j d, x2 (ix2 j d) = ((vp j d : ℝ) : EReal))

theorem rows_at (i : Fin 256) (d : Fin 128) : rows x0 o h (ix2 i d) = x0 (ix2 ⟨o + i.val, by omega⟩ d) :=
  Slabs.ld_slab (Val := Elt Ideal) (e := .bf16) x0 o 0 i d _ d rfl (by omega) (inb o h)

include h0 h1 h2 in
theorem oP_at (x : (oP x0 x1 x2 o h).1.shape.Idx) :
    (oP x0 x1 x2 o h).2 x = ((out qp kp vp ((oP x0 x1 x2 o h).1.emb x 0) ((oP x0 x1 x2 o h).1.emb x 1) : ℝ) : EReal) := by
  revert x
  show ∀ x : S256x128.Idx, _
  intro y; idx_vars y
  obtain ⟨i, hi⟩ : ∃ i, i = y0 := ⟨_, rfl⟩
  obtain ⟨d, hd⟩ : ∃ d, d = y1 := ⟨_, rfl⟩
  rw [← hi, ← hd]
  have e : (oP x0 x1 x2 o h).1.emb (ix2 i d) = (ix2 ⟨o + i.val, by omega⟩ d : S2048x128.Idx) :=
    Slabs.emb_slab o 0 i d _ _ rfl (by omega) (inb o h)
  rw [e]
  exact out_at x1 x2 (rows x0 o h) kp vp qp (fun i => ⟨o + i.val, by omega⟩) h1 h2 (fun i d => (rows_at x0 o h i d).trans (h0 _ d)) i d

include h0 h1 in
theorem lP_at (x : (lP x0 x1 o h).1.shape.Idx) :
    (lP x0 x1 o h).2 x = ((lse qp kp (tp qp kp) ((lP x0 x1 o h).1.emb x 0) : ℝ) : EReal) := by
  revert x
  show ∀ x : S256x128.Idx, _
  intro y; idx_vars y
  obtain ⟨i, hi⟩ : ∃ i, i = y0 := ⟨_, rfl⟩
  obtain ⟨d, hd⟩ : ∃ d, d = y1 := ⟨_, rfl⟩
  rw [← hi, ← hd]
  have e : (lP x0 x1 o h).1.emb (ix2 i d) = (ix2 ⟨o + i.val, by omega⟩ d : S2048x128.Idx) :=
    Slabs.emb_slab o 0 i d _ _ rfl (by omega) (inb o h)
  rw [e]
  exact lse_at x1 (rows x0 o h) kp qp (fun i => ⟨o + i.val, by omega⟩) h1 (fun i d => (rows_at x0 o h i d).trans (h0 _ d)) i d

/-- The stores of one point, the last first. -/
def oL : List (View.Piece (Elt Ideal) S2048x128 .bf16) :=
  [oP x0 x1 x2 1792 (by norm_num), oP x0 x1 x2 1536 (by norm_num), oP x0 x1 x2 1280 (by norm_num), oP x0 x1 x2 1024 (by norm_num),
    oP x0 x1 x2 768 (by norm_num), oP x0 x1 x2 512 (by norm_num), oP x0 x1 x2 256 (by norm_num), oP x0 x1 x2 0 (by norm_num)]
def lL : List (View.Piece (Elt Ideal) S2048x128 .f32) :=
  [lP x0 x1 1792 (by norm_num), lP x0 x1 1536 (by norm_num), lP x0 x1 1280 (by norm_num), lP x0 x1 1024 (by norm_num),
    lP x0 x1 768 (by norm_num), lP x0 x1 512 (by norm_num), lP x0 x1 256 (by norm_num), lP x0 x1 0 (by norm_num)]

include h0 h1 h2 in
theorem oL_at (i : Fin 2048) (d : Fin 128) : View.canon (oL x0 x1 x2) (ix2 i d) = ((out qp kp vp i d : ℝ) : EReal) :=
  Slabs.canon_slabs (Val := Elt Ideal) (e := .bf16) (fun i d => ((out qp kp vp i d : ℝ) : EReal)) (oL x0 x1 x2) i d
    (View.cover_of_tiled_head _ _ _ rfl _) fun p hp => by
      simp only [oL, List.mem_cons, List.not_mem_nil, or_false] at hp
      rcases hp with rfl | rfl | rfl | rfl | rfl | rfl | rfl | rfl <;> exact oP_at x0 x1 x2 _ _ kp vp qp h0 h1 h2

include h0 h1 in
theorem lL_at (i : Fin 2048) (d : Fin 128) : View.canon (lL x0 x1) (ix2 i d) = ((lse qp kp (tp qp kp) i : ℝ) : EReal) :=
  Slabs.canon_slabs (Val := Elt Ideal) (e := .f32) (fun i _ => ((lse qp kp (tp qp kp) i : ℝ) : EReal)) (lL x0 x1) i d
    (View.cover_of_tiled_head _ _ _ rfl _) fun p hp => by
      simp only [lL, List.mem_cons, List.not_mem_nil, or_false] at hp
      rcases hp with rfl | rfl | rfl | rfl | rfl | rfl | rfl | rfl <;> exact lP_at x0 x1 _ _ kp qp h0 h1

end Stores

/-! ### The padded lanes -/

section Lanes
variable {a b : ℕ} (ha : a ≤ 128) (Q K : Fin 2048 → Fin a → ℝ) (V : Fin 2048 → Fin b → ℝ)

include ha in
theorem sc_lane (i j : Fin 2048) : sc (fun i => lane 128 (Q i)) (fun j => lane 128 (K j)) i j = sc Q K i j := sum_lane ha _ _

include ha in
theorem out_lane (i : Fin 2048) (d : Fin 128) :
    out (fun i => lane 128 (Q i)) (fun j => lane 128 (K j)) (fun j => lane 128 (V j)) i d = lane 128 (out Q K V i) d := by
  unfold out pr
  simp only [sc_lane ha]
  exact comb_lane _ _ d

include ha in
theorem lse_lane (i : Fin 2048) : lse (fun i => lane 128 (Q i)) (fun j => lane 128 (K j)) (tp (fun i => lane 128 (Q i)) (fun j => lane 128 (K j))) i
    = lse Q K (tp Q K) i := by
  unfold lse zs tp
  simp only [sc_lane ha]

end Lanes

end Cert.FwdBIdeal.Pay

end
-- ==== Proof.FwdBOut.lean ====
/- One point of the grouped attention's forward's stores, every slab by the first slab's formula. -/
module

public import proofs.«01_k».proof.Proof.Gen.FwdBIdeal.Frame
public import proofs.«01_k».proof.Proof.FwdBPay

@[expose] public section

set_option maxRecDepth 16384

noncomputable section

namespace Cert.FwdBIdeal.Pay

open Cert.FwdBIdeal Cert.FwdBIdeal.Gen Cert.Rows Cert.AttnSpec Idealize.ShloMosaic Idealize.ShloMosaic.TcCoe

section Same
variable (k v : Vec Ideal S2048x128 .bf16) (q : Vec Ideal S256x128 .bf16)

theorem o8 : k0_pay49 (k0_pay1 k) (k0_pay2 v) q = k0_pay7 (F := Ideal) k v q := by
  unfold k0_pay49 k0_pay48 k0_pay47 k0_pay46 k0_pay45 k0_pay7 k0_pay6 k0_pay5 k0_pay4 k0_pay3; rfl
theorem l8 : k0_pay50 (k0_pay1 k) q = k0_pay8 (F := Ideal) k q := by
  unfold k0_pay50 k0_pay48 k0_pay47 k0_pay46 k0_pay45 k0_pay8 k0_pay6 k0_pay5 k0_pay4 k0_pay3; rfl
theorem o7 : k0_pay43 (k0_pay2 v) (k0_pay41 (k0_pay1 k) q) = k0_pay7 (F := Ideal) k v q := by
  unfold k0_pay43 k0_pay42 k0_pay41 k0_pay40 k0_pay39 k0_pay7 k0_pay6 k0_pay5 k0_pay4 k0_pay3; rfl
theorem l7 : k0_pay44 (k0_pay40 (k0_pay1 k) q) (k0_pay41 (k0_pay1 k) q) = k0_pay8 (F := Ideal) k q := by
  unfold k0_pay44 k0_pay42 k0_pay41 k0_pay40 k0_pay39 k0_pay8 k0_pay6 k0_pay5 k0_pay4 k0_pay3; rfl
theorem o6 : k0_pay37 (k0_pay1 k) (k0_pay2 v) q = k0_pay7 (F := Ideal) k v q := by
  unfold k0_pay37 k0_pay36 k0_pay35 k0_pay34 k0_pay33 k0_pay7 k0_pay6 k0_pay5 k0_pay4 k0_pay3; rfl
theorem l6 : k0_pay38 (k0_pay1 k) q = k0_pay8 (F := Ideal) k q := by
  unfold k0_pay38 k0_pay36 k0_pay35 k0_pay34 k0_pay33 k0_pay8 k0_pay6 k0_pay5 k0_pay4 k0_pay3; rfl
theorem o5 : k0_pay31 (k0_pay1 k) (k0_pay2 v) q = k0_pay7 (F := Ideal) k v q := by
  unfold k0_pay31 k0_pay30 k0_pay29 k0_pay28 k0_pay27 k0_pay7 k0_pay6 k0_pay5 k0_pay4 k0_pay3; rfl
theorem l5 : k0_pay32 (k0_pay28 (k0_pay1 k) q) (k0_pay30 (k0_pay1 k) q) = k0_pay8 (F := Ideal) k q := by
  unfold k0_pay32 k0_pay30 k0_pay29 k0_pay28 k0_pay27 k0_pay8 k0_pay6 k0_pay5 k0_pay4 k0_pay3; rfl
theorem o4 : k0_pay25 (k0_pay1 k) (k0_pay2 v) q = k0_pay7 (F := Ideal) k v q := by
  unfold k0_pay25 k0_pay24 k0_pay23 k0_pay22 k0_pay21 k0_pay7 k0_pay6 k0_pay5 k0_pay4 k0_pay3; rfl
theorem l4 : k0_pay26 (k0_pay1 k) q = k0_pay8 (F := Ideal) k q := by
  unfold k0_pay26 k0_pay24 k0_pay23 k0_pay22 k0_pay21 k0_pay8 k0_pay6 k0_pay5 k0_pay4 k0_pay3; rfl
theorem o3 : k0_pay19 (k0_pay1 k) (k0_pay2 v) q = k0_pay7 (F := Ideal) k v q := by
  unfold k0_pay19 k0_pay18 k0_pay17 k0_pay16 k0_pay15 k0_pay7 k0_pay6 k0_pay5 k0_pay4 k0_pay3; rfl
theorem l3 : k0_pay20 (k0_pay1 k) q = k0_pay8 (F := Ideal) k q := by
  unfold k0_pay20 k0_pay18 k0_pay17 k0_pay16 k0_pay15 k0_pay8 k0_pay6 k0_pay5 k0_pay4 k0_pay3; rfl
theorem o2 : k0_pay13 (k0_pay2 v) (k0_pay11 k q) = k0_pay7 (F := Ideal) k v q := by
  unfold k0_pay13 k0_pay12 k0_pay11 k0_pay10 k0_pay9 k0_pay7 k0_pay6 k0_pay5 k0_pay4 k0_pay3; rfl
theorem l2 : k0_pay14 (k0_pay10 k q) (k0_pay11 k q) = k0_pay8 (F := Ideal) k q := by
  unfold k0_pay14 k0_pay12 k0_pay11 k0_pay10 k0_pay9 k0_pay8 k0_pay6 k0_pay5 k0_pay4 k0_pay3; rfl

end Same

variable (x0 x1 x2 : Vec Ideal S2048x128 .bf16)

theorem whole (x : Vec Ideal S2048x128 .bf16) (j : Fin 2048) (d : Fin 128) : (View.ld x r0_0 : Vec Ideal S2048x128 .bf16) (ix2 j d) = x (ix2 j d) :=
  Slabs.ld_slab (Val := Elt Ideal) (e := .bf16) x 0 0 j d j d (by omega) (by omega) (fun a => by fin_cases a <;> exact le_refl _)

theorem out0_3_eq : out0_3 (F := Ideal) x0 x1 x2 = View.canon (oL x0 (View.ld x1 r0_0) (View.ld x2 r0_0)) := by
  unfold out0_3 k0_pay54 k0_pay53 k0_pay52 k0_pay51
  rw [o8, o7, o6, o5, o4, o3, o2]
  rfl

theorem out0_4_eq : out0_4 (F := Ideal) x0 x1 x2 = View.canon (lL x0 (View.ld x1 r0_0)) := by
  unfold out0_4 k0_pay54 k0_pay53 k0_pay51
  rw [l8, l7, l6, l5, l4, l3, l2]
  rfl

end Cert.FwdBIdeal.Pay

end
-- ==== Proof.FwdBFin.lean ====
/- What one point of the grouped attention's forward leaves, and the arrays its points leave. -/
module

public import proofs.«01_k».proof.Proof.Gen.FwdBIdeal.Value
public import proofs.«01_k».proof.Proof.FwdBBlocks
public import proofs.«01_k».proof.Proof.FwdBOut

@[expose] public section

set_option maxRecDepth 16384

noncomputable section

namespace Cert.FwdBIdeal.Fin

open Cert.FwdBIdeal Cert.FwdBIdeal.Gen Cert.Rows Cert.AttnSpec Cert.FwdBIdeal.Blk Idealize.ShloMosaic Idealize.ShloMosaic.TcCoe

variable (m : (ℓ : Loc nD τ sig) → Buf (Elt Ideal) ℓ) (c : Dev nD)
  (q : Fin 2 → Fin 2048 → Fin 2 → Fin 4 → Fin 64 → ℝ) (k v : Fin 2 → Fin 2048 → Fin 2 → Fin 64 → ℝ)
  (h0 : ∀ b s h g d, m (c, Proc.tc.devRef main_arg0) (ix5 b s h g d) = ((q b s h g d : ℝ) : EReal))
  (h1 : ∀ b s h d, m (c, Proc.tc.devRef main_arg1) (ix4 b s h d) = ((k b s h d : ℝ) : EReal))
  (h2 : ∀ b s h d, m (c, Proc.tc.devRef main_arg2) (ix4 b s h d) = ((v b s h d : ℝ) : EReal))

include h0 h1 h2 in
theorem out3 (t : Fin cfg0.N) (i : Fin 2048) (d : Fin 128) :
    out0_3 (iblk m c 0 t) (iblk m c 1 t) (iblk m c 2 t) (ix2 i d)
      = ((lane 128 (out (hq q t.val) (hk k t.val) (hk v t.val) i) d : ℝ) : EReal) := by
  rw [Cert.FwdBIdeal.Pay.out0_3_eq]
  exact (Cert.FwdBIdeal.Pay.oL_at (iblk m c 0 t) _ _ _ _ _ (read0 m c q h0 t)
    (fun j d => (Cert.FwdBIdeal.Pay.whole _ j d).trans (read1 m c k h1 t j d)) (fun j d => (Cert.FwdBIdeal.Pay.whole _ j d).trans (read2 m c v h2 t j d)) i d).trans (congrArg _ (Cert.FwdBIdeal.Pay.out_lane (by norm_num) _ _ _ i d))

include h0 h1 in
theorem out4 (t : Fin cfg0.N) (i : Fin 2048) (d : Fin 128) :
    out0_4 (iblk m c 0 t) (iblk m c 1 t) (iblk m c 2 t) (ix2 i d)
      = ((lse (hq q t.val) (hk k t.val) (Cert.FwdBIdeal.Pay.tp (hq q t.val) (hk k t.val)) i : ℝ) : EReal) := by
  rw [Cert.FwdBIdeal.Pay.out0_4_eq]
  exact (Cert.FwdBIdeal.Pay.lL_at (iblk m c 0 t) _ _ _ (read0 m c q h0 t)
    (fun j d => (Cert.FwdBIdeal.Pay.whole _ j d).trans (read1 m c k h1 t j d)) i d).trans (congrArg _ (Cert.FwdBIdeal.Pay.lse_lane (by norm_num) _ _ i))

/-- A row of the arrays and a head's lane. -/
def gr (b : Fin 2) (i : Fin 2048) : Fin 4096 := ⟨b.val * 2048 + i.val, by omega⟩
def gl (h : Fin 2) (g : Fin 4) (d : Fin 128) : Fin 1024 := ⟨(h.val * 4 + g.val) * 128 + d.val, by omega⟩

theorem tr_gr (t : Fin cfg0.N) (i : Fin 2048) : tr t i = gr (pb t) i := Fin.ext (by have := lt_N t; simp only [tr, gr, pb]; omega)
theorem tq_gl (t : Fin cfg0.N) (d : Fin 128) : tq t d = gl (ph t) (pg t) d := Fin.ext (by simp only [tq, gl, ph, pg]; omega)

include h0 h1 h2 in
theorem fin3 (G : FVec Ideal S4096x1024 .bf16) (hG : ∀ b i h g d, G (ix2 (gr b i) (gl h g d))
      = ((lane 128 (out (fun i d => q b i h g d) (fun j d => k b j h d) (fun j d => v b j h d) i) d : ℝ) : EReal)) :
    (dats m 0 c).arrAt 3 (cfgs 0).N = G := by
  refine (dats m 0 c).arrAt_eq_of_covers 3 _ (by decide +kernel) fun t hf y => ?_
  blk_simp
  rw [after0_3]
  idx_vars y
  have e : (win0_3.blk t).view.emb (ix2 y0 y1) = (ix2 (tr t y0) (tq t y1) : S4096x1024.Idx) := by blk_ext [idx t, tr, tq]
  rw [e, tr_gr, tq_gl]
  exact (out3 m c q k v h0 h1 h2 t y0 y1).trans (hG _ _ _ _ _).symm

include h0 h1 in
theorem fin4 (G : FVec Ideal S4096x1024 .f32) (hG : ∀ b i h g d, G (ix2 (gr b i) (gl h g d))
      = ((lse (fun i d => q b i h g d) (fun j d => k b j h d) (Cert.FwdBIdeal.Pay.tp (fun i d => q b i h g d) (fun j d => k b j h d)) i : ℝ) : EReal)) :
    (dats m 0 c).arrAt 4 (cfgs 0).N = G := by
  refine (dats m 0 c).arrAt_eq_of_covers 4 _ (by decide +kernel) fun t hf y => ?_
  blk_simp
  rw [after0_4]
  idx_vars y
  have e : (win0_4.blk t).view.emb (ix2 y0 y1) = (ix2 (tr t y0) (tq t y1) : S4096x1024.Idx) := by blk_ext [idx t, tr, tq]
  rw [e, tr_gr, tq_gl]
  exact (out4 m c q k h0 h1 t y0 y1).trans (hG _ _ _ _ _).symm

end Cert.FwdBIdeal.Fin

end
-- ==== Proof.FwdBTerm.lean ====
/- What the grouped attention's forward reference computes, read at an index. -/
module

public import proofs.«01_k».proof.Proof.Gen.FwdBRefIdeal.Run
public import proofs.«01_k».proof.Proof.AttnSpec

@[expose] public section

set_option maxRecDepth 16384

noncomputable section

namespace Cert.FwdBRefIdeal.At

open Cert.FwdBRefIdeal Cert.FwdBRefIdeal.Gen Cert.FwdBRefIdeal.Value Cert.Rows Cert.AttnSpec Idealize.ShloMosaic Idealize.ShloMosaic.TcCoe

section Terms
variable {F : FTy → Type} [FloatOps F] (m : (ℓ : Loc nD τ sig) → Buf (Elt F) ℓ) (c : Dev nD)

/-- The scores. -/
def sT : FVec F S2x2x4x2048x2048 .f32 :=
  transpose S2x2x4x2048x2048 [0, 1, 4, 3, 2] (Host.dotGeneral dot_S2x2048x2x64_S2x2048x2x4x64_S2x2x2048x2048x4_3_4_1_13_02_02 none (m ((c.tc : Thread nD τ).loc main_arg1)) (m ((c.tc : Thread nD τ).loc main_arg0))) transposes_S2x2x2048x2048x4_S2x2x4x2048x2048_0_1_4_3_2

/-- Their exponentials, lowered by the row's greatest score. -/
def eT : FVec F S2x2x4x2048x2048 .f32 :=
  Host.exp (subf (sT m c) (broadcastInDim S2x2x4x2048x2048 ![0, 1, 2, 3, 4] bcast_S2x2x4x2048x1_S2x2x4x2048x2048_0_1_2_3_4 (broadcastInDim S2x2x4x2048x1 ![0, 1, 2, 3] bcast_S2x2x4x2048_S2x2x4x2048x1_0_1_2_3 (maximumf (broadcastInDim S2x2x4x2048 ![] bcast_S_S2x2x4x2048 (constant S_ .f32 0xFF800000#32)) (Host.reduce FloatOps.maximumf (sT m c) (constant S_ .f32 0xFF800000#32) reducesTo_S2x2x4x2048x2048_S2x2x4x2048_d4 h_S_)))))

/-- The exponentials' sums. -/
def zT : FVec F S2x2x4x2048 .f32 :=
  Host.reduceAdd (eT m c) (constant S_ .f32 0x00000000#32) reducesTo_S2x2x4x2048x2048_S2x2x4x2048_d4 h_S_

/-- The rows' greatest scores, and the exponentials as the log-sums take them. -/
def mT : FVec F S2x2x4x2048 .f32 :=
  Host.reduce FloatOps.maximumf (sT m c) (constant S_ .f32 0xFF800000#32) reducesTo_S2x2x4x2048x2048_S2x2x4x2048_d4 h_S_
def fT : FVec F S2x2x4x2048x2048 .f32 :=
  Host.exp (subf (sT m c) (broadcastInDim S2x2x4x2048x2048 ![0, 1, 2, 3, 4] bcast_S2x2x4x2048x1_S2x2x4x2048x2048_0_1_2_3_4 (broadcastInDim S2x2x4x2048x1 ![0, 1, 2, 3] bcast_S2x2x4x2048_S2x2x4x2048x1_0_1_2_3 (mT m c))))

/-- The output and the log-sums of exponentials, as the program returns them. -/
def oT : FVec F S4096x1024 .bf16 :=
  truncf .bf16 (shapeCast _ (pad S4096x8x128 ![0, 0, 0] ![0, 0, 64] ![0, 0, 0] (shapeCast _ (transpose S2x2048x2x4x64 [0, 4, 1, 3, 2] (Host.dotGeneral dot_S2x2048x2x64_S2x2x4x2048x2048_S2x2x64x4x2048_1_4_3_23_02_01 none (m ((c.tc : Thread nD τ).loc main_arg2)) (Host.divf (eT m c) (broadcastInDim S2x2x4x2048x2048 ![0, 1, 2, 3, 4] bcast_S2x2x4x2048x1_S2x2x4x2048x2048_0_1_2_3_4 (broadcastInDim S2x2x4x2048x1 ![0, 1, 2, 3] bcast_S2x2x4x2048_S2x2x4x2048x1_0_1_2_3 (zT m c))))) transposes_S2x2x64x4x2048_S2x2048x2x4x64_0_4_1_3_2) shapeCasts_S2x2048x2x4x64_S4096x8x64) (sitofp .f32 (constantI S_ 32 0#32)) pads_S4096x8x64_S4096x8x128_000_000_0640 h_S_) shapeCasts_S4096x8x128_S4096x1024) bitsLt_bf16_f32

def lT : FVec F S4096x1024 .f32 :=
  shapeCast _ (broadcastInDim S4096x8x128 ![0, 1, 2] bcast_S4096x8x1_S4096x8x128_0_1_2 (shapeCast _ (transpose S2x2048x2x4 [0, 3, 1, 2] (addf (Host.log (Host.reduceAdd (fT m c) (constant S_ .f32 0x00000000#32) reducesTo_S2x2x4x2048x2048_S2x2x4x2048_d4 h_S_)) (mT m c)) transposes_S2x2x4x2048_S2x2048x2x4_0_3_1_2) shapeCasts_S2x2048x2x4_S4096x8x1)) shapeCasts_S4096x8x128_S4096x1024

end Terms

variable (m : (ℓ : Loc nD τ sig) → Buf (Elt Ideal) ℓ) (c : Dev nD)
  (q : Fin 2 → Fin 2048 → Fin 2 → Fin 4 → Fin 64 → ℝ) (k v : Fin 2 → Fin 2048 → Fin 2 → Fin 64 → ℝ)
  (h0 : ∀ b s h g d, (m ((c.tc : Thread nD τ).loc main_arg0) : FVec Ideal S2x2048x2x4x64 .f32) (ix5 b s h g d) = ((q b s h g d : ℝ) : EReal))
  (h1 : ∀ b s h d, (m ((c.tc : Thread nD τ).loc main_arg1) : FVec Ideal S2x2048x2x64 .f32) (ix4 b s h d) = ((k b s h d : ℝ) : EReal))
  (h2 : ∀ b s h d, (m ((c.tc : Thread nD τ).loc main_arg2) : FVec Ideal S2x2048x2x64 .f32) (ix4 b s h d) = ((v b s h d : ℝ) : EReal))
  (b : Fin 2) (h : Fin 2) (g : Fin 4) (i j : Fin 2048)

/-- A head's queries, keys and the row's greatest score. -/
def hq (b : Fin 2) (h : Fin 2) (g : Fin 4) (i : Fin 2048) (d : Fin 64) : ℝ := q b i h g d
def hk (b : Fin 2) (h : Fin 2) (i : Fin 2048) (d : Fin 64) : ℝ := k b i h d
def mx (b : Fin 2) (h : Fin 2) (g : Fin 4) (i : Fin 2048) : ℝ := rowmax (sc (hq q b h g) (hk k b h) i)

include h0 h1 in
theorem s_at : sT m c (ix5 b h g i j) = ((sc (hq q b h g) (hk k b h) i j : ℝ) : EReal) := by
  pointwise [sT]
  simp only [h0, h1, coe_sum, ← EReal.coe_mul]
  exact congrArg _ (Finset.sum_congr rfl fun d _ => mul_comm _ _)

theorem m_fold : (Host.reduce FloatOps.maximumf (sT m c) (constant S_ .f32 0xFF800000#32) reducesTo_S2x2x4x2048x2048_S2x2x4x2048_d4 h_S_ : FVec Ideal S2x2x4x2048 .f32) (ix4 b h g i)
    = Finset.univ.fold max (Ideal.ofBits .f32 0xFF800000#32) (fun j => sT m c (ix5 b h g i j)) := by
  pointwise []

include h0 h1 in
theorem m_row : Finset.univ.fold max (⊥ : EReal) (fun j => sT m c (ix5 b h g i j)) = ((mx q k b h g i : ℝ) : EReal) := by
  unfold mx
  rw [← fold_max (n := 2048) (by norm_num)]
  exact congrArg (fun f => Finset.univ.fold max (⊥ : EReal) f) (funext fun j => s_at m c q k h0 h1 b h g i j)

theorem e_term (M : FVec Ideal S2x2x4x2048 .f32) (hM : (Host.reduce FloatOps.maximumf (sT m c) (constant S_ .f32 0xFF800000#32) reducesTo_S2x2x4x2048x2048_S2x2x4x2048_d4 h_S_ : FVec Ideal S2x2x4x2048 .f32) = M) :
    eT m c (ix5 b h g i j) = Ideal.exp (sT m c (ix5 b h g i j) - max (Ideal.ofBits .f32 0xFF800000#32) (M (ix4 b h g i))) := by
  unfold eT; rw [hM]
  pointwise []

include h0 h1 in
theorem e_at : eT m c (ix5 b h g i j) = ((Real.exp (sc (hq q b h g) (hk k b h) i j - mx q k b h g i) : ℝ) : EReal) := by
  rw [e_term m c b h g i j _ rfl, m_fold, s_at m c q k h0 h1, ofBits_ninf, m_row m c q k h0 h1, max_eq_right bot_le, ← EReal.coe_sub, exp_real]

include h0 h1 in
theorem z_at : zT m c (ix4 b h g i) = ((zs (hq q b h g) (hk k b h) (mx q k b h g i) i : ℝ) : EReal) := by
  pointwise [zT]
  simp only [e_at m c q k h0 h1, coe_sum, zero_add]
  rfl

theorem m_at'
    (h0 : ∀ b s h g d, (m ((c.tc : Thread nD τ).loc main_arg0) : FVec Ideal S2x2048x2x4x64 .f32) (ix5 b s h g d) = ((q b s h g d : ℝ) : EReal))
    (h1 : ∀ b s h d, (m ((c.tc : Thread nD τ).loc main_arg1) : FVec Ideal S2x2048x2x64 .f32) (ix4 b s h d) = ((k b s h d : ℝ) : EReal)) :
    mT m c (ix4 b h g i) = ((mx q k b h g i : ℝ) : EReal) := by
  unfold mT; rw [m_fold, ofBits_ninf, m_row m c q k h0 h1]

include h0 h1 in
theorem f_at : fT m c (ix5 b h g i j) = ((Real.exp (sc (hq q b h g) (hk k b h) i j - mx q k b h g i) : ℝ) : EReal) := by
  pointwise [fT]
  rw [m_at' m c q k b h g i h0 h1, s_at m c q k h0 h1, ← EReal.coe_sub, exp_real]

theorem zero_32 : FloatOps.sitofp (F := Ideal) .f32 (0#32 : BitVec 32) = ((0 : ℝ) : EReal) := by
  simp [FloatOps.sitofp]

include h0 h1 h2 in
theorem o_at (R : Fin 4096) (C : Fin 1024) (d : Fin 128) (hb : R.val / 2048 = b.val) (hi : R.val % 2048 = i.val)
    (hh : C.val / 128 / 4 = h.val) (hg : C.val / 128 % 4 = g.val) (hd : C.val % 128 = d.val) :
    oT m c (ix2 R C) = ((lane 128 (out (hq q b h g) (hk k b h) (hk v b h) i) d : ℝ) : EReal) := by
  have lb : R.val / 2048 < 2 := by clear hb hi hh hg hd; omega
  have li : R.val % 2048 < 2048 := by clear hb hi hh hg hd; omega
  have lh : C.val / 128 / 4 < 2 := by clear hb hi hh hg hd; omega
  have lg : C.val / 128 % 4 < 4 := by clear hb hi hh hg hd; omega
  have ld : C.val % 128 < 128 := by clear hb hi hh hg hd; omega
  obtain rfl : (⟨R.val / 2048, lb⟩ : Fin 2) = b := Fin.ext hb
  obtain rfl : (⟨R.val % 2048, li⟩ : Fin 2048) = i := Fin.ext hi
  obtain rfl : (⟨C.val / 128 / 4, lh⟩ : Fin 2) = h := Fin.ext hh
  obtain rfl : (⟨C.val / 128 % 4, lg⟩ : Fin 4) = g := Fin.ext hg
  obtain rfl : (⟨C.val % 128, ld⟩ : Fin 128) = d := Fin.ext hd
  have hz := fun b h g i => (zs_pos (hq q b h g) (hk k b h) (mx q k b h g i) i).ne'
  pointwise [oT]
  simp only [e_at m c q k h0 h1, z_at m c q k h0 h1, h2, div_real _ (hz _ _ _ _), shift, coe_sum, ← EReal.coe_mul, zero_32]
  unfold lane
  split_ifs with c1 c2 c2
  · exact congrArg _ (Finset.sum_congr rfl fun i' _ => mul_comm _ _)
  · exact absurd c1.2 c2
  · exact absurd ⟨by omega, c2⟩ c1
  · rfl

include h0 h1 in
theorem l_at (R : Fin 4096) (C : Fin 1024) (hb : R.val / 2048 = b.val) (hi : R.val % 2048 = i.val)
    (hh : C.val / 128 / 4 = h.val) (hg : C.val / 128 % 4 = g.val) :
    lT m c (ix2 R C) = ((lse (hq q b h g) (hk k b h) (mx q k b h g) i : ℝ) : EReal) := by
  have lb : R.val / 2048 < 2 := by clear hb hi hh hg; omega
  have li : R.val % 2048 < 2048 := by clear hb hi hh hg; omega
  have lh : C.val / 128 / 4 < 2 := by clear hb hi hh hg; omega
  have lg : C.val / 128 % 4 < 4 := by clear hb hi hh hg; omega
  obtain rfl : (⟨R.val / 2048, lb⟩ : Fin 2) = b := Fin.ext hb
  obtain rfl : (⟨R.val % 2048, li⟩ : Fin 2048) = i := Fin.ext hi
  obtain rfl : (⟨C.val / 128 / 4, lh⟩ : Fin 2) = h := Fin.ext hh
  obtain rfl : (⟨C.val / 128 % 4, lg⟩ : Fin 4) = g := Fin.ext hg
  pointwise [lT]
  simp only [f_at m c q k h0 h1, m_at' m c q k _ _ _ _ h0 h1, coe_sum, zero_add]
  have hz := zs_pos (hq q ⟨R.val / 2048, lb⟩ ⟨C.val / 128 / 4, lh⟩ ⟨C.val / 128 % 4, lg⟩) (hk k ⟨R.val / 2048, lb⟩ ⟨C.val / 128 / 4, lh⟩)
    (mx q k ⟨R.val / 2048, lb⟩ ⟨C.val / 128 / 4, lh⟩ ⟨C.val / 128 % 4, lg⟩ ⟨R.val % 2048, li⟩) ⟨R.val % 2048, li⟩
  unfold zs at hz
  rw [log_real hz, ← EReal.coe_add]
  rfl

end Cert.FwdBRefIdeal.At

end
-- ==== Proof.FwdBFinite.lean ====
/- The precondition of the grouped attention's forward claim: every entry of the arrays it names is a real number. -/
module

public import proofs.«01_k».proof.Pre_finite_fwd_b
public import proofs.«01_k».proof.Proof.Finite

@[expose] public section

set_option maxRecDepth 16384

noncomputable section

namespace Cert.Pre_finite_fwd_b

open Cert.Rows Idealize.ShloMosaic

variable [Facts]

theorem reals {a0 : FVec Ideal S2x2048x2x4x64 .f32} {a1 a2 : FVec Ideal S2x2048x2x64 .f32}
    (h : fn (F := Ideal) a0 a1 a2 = fun _ => 1#1) :
    (∀ i, a0 i = (((a0 i).toReal : ℝ) : EReal)) ∧ (∀ i, a1 i = (((a1 i).toReal : ℝ) : EReal)) ∧ (∀ i, a2 i = (((a2 i).toReal : ℝ) : EReal)) := by
  have e := congrFun h (Shape.Idx.first (s := S_) Facts.h_S_)
  obtain ⟨e, e2⟩ := andi_one e
  obtain ⟨e, e1⟩ := andi_one e
  obtain ⟨_, e0⟩ := andi_one e
  exact ⟨real_of_all _ _ _ _ _ _ e0, real_of_all _ _ _ _ _ _ e1, real_of_all _ _ _ _ _ _ e2⟩

end Cert.Pre_finite_fwd_b

end
-- ==== Proof.FwdBPair.lean ====
/- The grouped attention's forward kernel agrees with its reference. -/
module

public import proofs.«01_k».proof.Defs
public import proofs.«01_k».proof.Proof.Gen.Pre_finite_fwd_b
public import proofs.«01_k».proof.Proof.FwdBFin
public import proofs.«01_k».proof.Proof.FwdBTerm
public import proofs.«01_k».proof.Proof.FwdBFinite

@[expose] public section

set_option maxRecDepth 16384

noncomputable section

namespace Cert.FwdBPair

open Cert.Rows Idealize.ShloMosaic Idealize.ShloMosaic.TcCoe Idealize.SL.Sem
open Cert.FwdBIdeal (S2x2048x2x4x64 S2x2048x2x64)
open Cert.FwdBIdeal.Fin (gr gl)

/-- The real arrays behind a memory's arguments. -/
abbrev r5 (V : FVec Ideal S2x2048x2x4x64 .f32) : Fin 2 → Fin 2048 → Fin 2 → Fin 4 → Fin 64 → ℝ := fun b s h g d => (V (ix5 b s h g d)).toReal
abbrev r4 (V : FVec Ideal S2x2048x2x64 .f32) : Fin 2 → Fin 2048 → Fin 2 → Fin 64 → ℝ := fun b s h d => (V (ix4 b s h d)).toReal

theorem ref_frame : @Cert.quiescent_FwdBRefIdeal Cert.FwdBRefIdeal.Gen.facts := fun m g _ =>
  (θ_run Cert.FwdBRefIdeal.defs _ _).mono (fun r h => ⟨fun c => (h c).2.2, Idealize.ShloMosaic.sem_eq_zero_of_no_sems (by decide) r.2⟩)
    (Cert.FwdBRefIdeal.Value.run (F := Ideal) m g)

theorem row (b : Fin 2) (i : Fin 2048) : (gr b i).val / 2048 = b.val ∧ (gr b i).val % 2048 = i.val := by unfold gr; dsimp only; omega
theorem col (h : Fin 2) (g : Fin 4) (d : Fin 128) :
    (gl h g d).val / 128 / 4 = h.val ∧ (gl h g d).val / 128 % 4 = g.val ∧ (gl h g d).val % 128 = d.val := by unfold gl; dsimp only; omega

set_option maxHeartbeats 1600000 in
theorem algebraic : @Cert.algebraic_FwdBIdeal_FwdBRefIdeal_pre_finite_fwd_b Cert.FwdBIdeal.Gen.facts Cert.FwdBRefIdeal.Gen.facts Cert.Pre_finite_fwd_b.Gen.facts := by
  pair_intro
  · run_from Cert.FwdBIdeal.Value.run_blocks m g
  · run_from Cert.FwdBRefIdeal.Value.run m' g'
    all_goals
      obtain ⟨e0, e1, e2⟩ := Cert.Pre_finite_fwd_b.reals (hpre c)
      obtain ⟨a0, a1, a2⟩ := hagree c
    · rw [← a0, ← a1, ← a2]
      refine Eq.trans (b := Cert.FwdBRefIdeal.At.oT m' c) (by
        unfold Cert.FwdBRefIdeal.At.oT Cert.FwdBRefIdeal.At.zT Cert.FwdBRefIdeal.At.eT Cert.FwdBRefIdeal.At.sT; rfl) ?_
      exact (Cert.FwdBIdeal.Fin.fin3 m c (r5 (m (c.tc.loc Cert.FwdBIdeal.main_arg0))) (r4 (m (c.tc.loc Cert.FwdBIdeal.main_arg1))) (r4 (m (c.tc.loc Cert.FwdBIdeal.main_arg2)))
        (fun b s h g d => e0 (ix5 b s h g d)) (fun b s h d => e1 (ix4 b s h d)) (fun b s h d => e2 (ix4 b s h d)) _
        (fun b i h g d => Cert.FwdBRefIdeal.At.o_at m' c (r5 (m (c.tc.loc Cert.FwdBIdeal.main_arg0))) (r4 (m (c.tc.loc Cert.FwdBIdeal.main_arg1))) (r4 (m (c.tc.loc Cert.FwdBIdeal.main_arg2)))
          (fun b s h g d => (congrFun a0 (ix5 b s h g d)).trans (e0 (ix5 b s h g d))) (fun b s h d => (congrFun a1 (ix4 b s h d)).trans (e1 (ix4 b s h d))) (fun b s h d => (congrFun a2 (ix4 b s h d)).trans (e2 (ix4 b s h d)))
          b h g i _ _ d (row b i).1 (row b i).2 (col h g d).1 (col h g d).2.1 (col h g d).2.2)).symm
    · rw [← a0, ← a1]
      refine Eq.trans (b := Cert.FwdBRefIdeal.At.lT m' c) (by
        unfold Cert.FwdBRefIdeal.At.lT Cert.FwdBRefIdeal.At.fT Cert.FwdBRefIdeal.At.mT Cert.FwdBRefIdeal.At.sT; rfl) ?_
      exact (Cert.FwdBIdeal.Fin.fin4 m c (r5 (m (c.tc.loc Cert.FwdBIdeal.main_arg0))) (r4 (m (c.tc.loc Cert.FwdBIdeal.main_arg1)))
        (fun b s h g d => e0 (ix5 b s h g d)) (fun b s h d => e1 (ix4 b s h d)) _
        (fun b i h g d => Cert.FwdBRefIdeal.At.l_at m' c (r5 (m (c.tc.loc Cert.FwdBIdeal.main_arg0))) (r4 (m (c.tc.loc Cert.FwdBIdeal.main_arg1)))
          (fun b s h g d => (congrFun a0 (ix5 b s h g d)).trans (e0 (ix5 b s h g d))) (fun b s h d => (congrFun a1 (ix4 b s h d)).trans (e1 (ix4 b s h d)))
          b h g i _ _ (row b i).1 (row b i).2 (col h g d).1 (col h g d).2.1)).symm

end Cert.FwdBPair

end
-- ==== Proof.FwdMlpBlocks.lean ====
/- What the MLP's forward blocks hold, at the arguments' entries. -/
module

public import proofs.«01_k».proof.Proof.Gen.FwdMlpIdeal.Frame
public import proofs.«01_k».proof.Proof.MlpPay
public import proofs.«01_k».proof.Proof.Tokens
public import Idealize.ShloMosaic.Lib.Claim
public import Idealize.ShloMosaic.Lib.Pipeline.ValueKit

@[expose] public section

set_option maxRecDepth 16384

noncomputable section

namespace Cert.FwdMlpIdeal.Blk

open Cert.FwdMlpIdeal Cert.FwdMlpIdeal.Gen Cert.Rows Cert.MlpSpec Idealize.ShloMosaic Idealize.ShloMosaic.TcCoe

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0, 0]
    ∧ win0_3.index t = ![0, 1, 0] ∧ win0_4.index t = ![t.val, 0] ∧ win0_5.index t = ![t.val, 0] :=
  (by decide +kernel : ∀ t : Fin grid0.N, _)

/-- Row `r` of the block at point `t`. -/
def tr (t : Fin cfg0.N) (r : Fin 512) : Fin 4096 := ⟨t.val * 512 + r.val, by have := t.isLt; have : cfg0.N = 8 := N_0; omega⟩

theorem row (t : Fin cfg0.N) (r : Fin 512) : tb t.val r = qb (tr t r) ∧ ts t.val r = qs (tr t r) :=
  ⟨tb_qb _ _ _, rfl⟩

/-- The two parts of the packed weights, read back. -/
theorem pack_first (a b : FVec Ideal S8x512x1024 .bf16) (d : Fin 8) (r : Fin 512) (k : Fin 1024) (hc) :
    (concatenate S8x1024x1024 1 [⟨S8x512x1024, a⟩, ⟨S8x512x1024, b⟩] hc : FVec Ideal S8x1024x1024 .bf16) (ix3 d ⟨r.val, by omega⟩ k) = a (ix3 d r k) := by
  pointwise []

theorem pack_second (a b : FVec Ideal S8x512x1024 .bf16) (d : Fin 8) (r : Fin 512) (k : Fin 1024) (hc) :
    (concatenate S8x1024x1024 1 [⟨S8x512x1024, a⟩, ⟨S8x512x1024, b⟩] hc : FVec Ideal S8x1024x1024 .bf16) (ix3 d ⟨512 + r.val, by omega⟩ k) = b (ix3 d r k) := by
  pointwise []

variable (x : Fin 2 → Fin 2048 → Fin 1024 → ℝ) (g : Fin 1024 → ℝ) (wu : Fin 1024 → Fin 4096 → ℝ) (wd : Fin 4096 → Fin 1024 → ℝ)
  (h0 : ∀ b s k, (m ((c : Thread nD τ).loc main_arg0) : FVec Ideal S2x2048x1024 .f32) (ix3 b s k) = ((x b s k : ℝ) : EReal))
  (h1 : ∀ k, (m ((c : Thread nD τ).loc main_arg1) : FVec Ideal S1x1024 .f32) (ix2 0 k) = ((g k : ℝ) : EReal))
  (h2 : ∀ j k, (m ((c : Thread nD τ).loc main_arg2) : FVec Ideal S1x1024x4096 .f32) (ix3 0 j k) = ((wu j k : ℝ) : EReal))
  (h3 : ∀ j k, (m ((c : Thread nD τ).loc main_arg3) : FVec Ideal S1x4096x1024 .f32) (ix3 0 j k) = ((wd j k : ℝ) : EReal))

include h0 in
theorem read0 (t : Fin cfg0.N) (r : Fin 512) (k : Fin 1024) : iblk m c 0 t (ix2 r k) = ((x (tb t.val r) (ts t.val r) k : ℝ) : EReal) := by
  blk_simp [iblk, idx t]
  have e : (win0_0.blk t).view.emb (ix2 r k) = (ix2 (tr t r) k : S4096x1024.Idx) := by blk_ext [idx t, tr]
  rw [e]
  unfold V
  simp only [hostOps0]
  after_results_simp
  pointwise []
  rw [(row t r).1, (row t r).2]
  exact h0 _ _ _

include h1 in
theorem read1 (t : Fin cfg0.N) (k : Fin 1024) : iblk m c 1 t (ix2 0 k) = ((g k : ℝ) : EReal) := by
  blk_simp [iblk, idx t]
  have e : (win0_1.blk t).view.emb (ix2 0 k) = (ix2 0 k : S1x1024.Idx) := by blk_ext [idx t]
  rw [e]
  unfold V
  simp only [hostOps0]
  after_results_simp
  exact h1 k

include h2 in
theorem read2 (t : Fin cfg0.N) (p : Fin 8) (r : Fin 512) (k : Fin 1024) : iblk m c 2 t (ix3 p r k) = ((wu k ⟨p.val * 512 + r.val, by omega⟩ : ℝ) : EReal) := by
  blk_simp [iblk, idx t]
  have e : (win0_2.blk t).view.emb (ix3 p r k) = (ix3 p ⟨r.val, by omega⟩ k : S8x1024x1024.Idx) := by blk_ext [idx t]
  rw [e]
  unfold V
  simp only [hostOps0]
  after_results_simp
  refine (pack_first _ _ _ _ _ _).trans ?_
  try after_results_simp
  pointwise []
  refine Eq.trans ?_ (h2 _ _)
  blk_ext []

include h3 in
theorem read3 (t : Fin cfg0.N) (p : Fin 8) (r : Fin 512) (k : Fin 1024) : iblk m c 3 t (ix3 p r k) = ((wd ⟨p.val * 512 + r.val, by omega⟩ k : ℝ) : EReal) := by
  blk_simp [iblk, idx t]
  have e : (win0_3.blk t).view.emb (ix3 p r k) = (ix3 p ⟨512 + r.val, by omega⟩ k : S8x1024x1024.Idx) := by blk_ext [idx t]
  rw [e]
  unfold V
  simp only [hostOps0]
  after_results_simp
  refine (pack_second _ _ _ _ _ _).trans ?_
  try after_results_simp
  pointwise []
  refine Eq.trans ?_ (h3 _ _)
  blk_ext []

end Cert.FwdMlpIdeal.Blk

end
-- ==== Proof.FwdMlpPay.lean ====
/- The MLP with its norm, forward: what one grid point of the kernel computes from the blocks it reads, a quarter of the hidden
   width at a time. -/
module

public import proofs.«01_k».proof.Proof.Gen.FwdMlpIdeal.Frame
public import proofs.«01_k».proof.Proof.MlpPay

@[expose] public section

set_option maxRecDepth 16384

noncomputable section

namespace Cert.MlpSpec

variable (x g : Fin 1024 → ℝ) (wu : Fin 1024 → Fin 4096 → ℝ) (wd : Fin 4096 → Fin 1024 → ℝ)

/-- The row past the MLP. -/
def y (k : Fin 1024) : ℝ := x k + ∑ f, u x g wu f * u x g wu f * wd f k

end Cert.MlpSpec

namespace Cert.FwdMlpIdeal.Pay

open Cert.FwdMlpIdeal Cert.FwdMlpIdeal.Gen Cert.Rows Cert.MlpSpec Idealize.ShloMosaic Idealize.ShloMosaic.TcCoe

theorem zero_bits : (Scalar.ofBits (F := Ideal) .f32 0x00000000#32 : EReal) = ((0 : ℝ) : EReal) := by
  show Ideal.ofBits .f32 0x00000000#32 = _
  simp [Ideal.ofBits, Ideal.ieee]

theorem max_coe (a : ℝ) : max ((a : ℝ) : EReal) ((0 : ℝ) : EReal) = ((max a 0 : ℝ) : EReal) :=
  (EReal.coe_strictMono.monotone.map_max).symm

section Norm
variable (v0 : Vec Ideal S512x1024 .f32) (v12 : Vec Ideal S1x1024 .f32) (r : Fin 512) (x g : Fin 1024 → ℝ)
  (h0 : ∀ k, v0 (ix2 r k) = ((x k : ℝ) : EReal)) (h12 : ∀ k, v12 (ix2 0 k) = ((g k : ℝ) : EReal))

include h0 h12 in
theorem h_at (k : Fin 1024) : k0_pay3 (F := Ideal) v0 v12 (ix2 r k) = ((MlpSpec.h x g k : ℝ) : EReal) := by
  pointwise [k0_pay3, k0_pay2]
  simp only [h0, h12, ofBits_inv1024, ofBits_eps, coe_sum, ← EReal.coe_mul, ← EReal.coe_add]
  have e : (∑ k, x k * x k) * (1 / 1024) + eps = ms x := by unfold ms; push_cast; ring
  rw [e, rsqrt_real (ms_pos x), ← EReal.coe_mul, ← EReal.coe_mul]; rfl

end Norm

/-! A quarter of the hidden units, however the kernel groups the loads. -/

section Quarter
variable (v0 : Vec Ideal S512x1024 .f32) (v12 : Vec Ideal S1x1024 .f32) (w : Vec Ideal S2x512x1024 .bf16)
  (r : Fin 512) (x g : Fin 1024 → ℝ) (wq : Fin 1024 → Fin 1024 → ℝ)
  (h0 : ∀ k, v0 (ix2 r k) = ((x k : ℝ) : EReal)) (h12 : ∀ k, v12 (ix2 0 k) = ((g k : ℝ) : EReal))
  (hw : ∀ (f k : Fin 1024), w (ix3 ⟨f.val / 512, hi_lt f⟩ ⟨f.val % 512, lo_lt f⟩ k) = ((wq f k : ℝ) : EReal))

include h0 h12 hw in
theorem u0_at (f : Fin 1024) : k0_pay4 (F := Ideal) v0 v12 w (ix2 r f) = ((max (∑ k, MlpSpec.h x g k * wq f k) 0 : ℝ) : EReal) := by
  pointwise [k0_pay4]
  simp only [h_at v0 v12 r x g h0 h12, hw, coe_sum, ← EReal.coe_mul]
  first | exact max_coe _ | (rw [← EReal.coe_zero]; exact max_coe _)

include h0 h12 hw in
theorem u1_at (z : Ideal .f32) (hz : z = ((0 : ℝ) : EReal)) (f : Fin 1024) : k0_pay8 (F := Ideal) (k0_pay7 v0 v12 w) z (ix2 r f) = ((max (∑ k, MlpSpec.h x g k * wq f k) 0 : ℝ) : EReal) := by
  pointwise [k0_pay8, k0_pay7]
  rw [hz]
  simp only [h_at v0 v12 r x g h0 h12, hw, coe_sum, ← EReal.coe_mul]
  first | exact max_coe _ | (rw [← EReal.coe_zero]; exact max_coe _)

include h0 h12 hw in
theorem u2_at (f : Fin 1024) : k0_pay10 (F := Ideal) (k0_pay3 v0 v12) w (ix2 r f) = ((max (∑ k, MlpSpec.h x g k * wq f k) 0 : ℝ) : EReal) := by
  pointwise [k0_pay10]
  simp only [h_at v0 v12 r x g h0 h12, hw, coe_sum, ← EReal.coe_mul]
  first | exact max_coe _ | (rw [← EReal.coe_zero]; exact max_coe _)

include h0 h12 hw in
theorem u3_at (f : Fin 1024) : k0_pay13 (F := Ideal) (k0_pay3 v0 v12) w (ix2 r f) = ((max (∑ k, MlpSpec.h x g k * wq f k) 0 : ℝ) : EReal) := by
  pointwise [k0_pay13]
  simp only [h_at v0 v12 r x g h0 h12, hw, coe_sum, ← EReal.coe_mul]
  first | exact max_coe _ | (rw [← EReal.coe_zero]; exact max_coe _)

include h0 h12 hw in
theorem s0_at (f : Fin 1024) : k0_pay5 (F := Ideal) v0 v12 w (ix2 r f) = ((max (∑ k, MlpSpec.h x g k * wq f k) 0 : ℝ) : EReal) := by
  pointwise [k0_pay5]
  exact u0_at v0 v12 w r x g wq h0 h12 hw f

include h0 h12 hw in
theorem s1_at (z : Ideal .f32) (hz : z = ((0 : ℝ) : EReal)) (f : Fin 1024) : k0_pay9 (F := Ideal) (k0_pay7 v0 v12 w) z (ix2 r f) = ((max (∑ k, MlpSpec.h x g k * wq f k) 0 : ℝ) : EReal) := by
  pointwise [k0_pay9]
  exact u1_at v0 v12 w r x g wq h0 h12 hw z hz f

include h0 h12 hw in
theorem s2_at (f : Fin 1024) : k0_pay11 (F := Ideal) (k0_pay3 v0 v12) w (ix2 r f) = ((max (∑ k, MlpSpec.h x g k * wq f k) 0 : ℝ) : EReal) := by
  pointwise [k0_pay11]
  exact u2_at v0 v12 w r x g wq h0 h12 hw f

include h0 h12 hw in
theorem s3_at (f : Fin 1024) : k0_pay14 (F := Ideal) (k0_pay3 v0 v12) w (ix2 r f) = ((max (∑ k, MlpSpec.h x g k * wq f k) 0 : ℝ) : EReal) := by
  pointwise [k0_pay14]
  exact u3_at v0 v12 w r x g wq h0 h12 hw f

end Quarter

section Row
variable (v0 : Vec Ideal S512x1024 .f32) (v12 : Vec Ideal S1x1024 .f32) (w0 w1 w2 w3 d0 d1 d2 d3 : Vec Ideal S2x512x1024 .bf16)
variable (r : Fin 512) (x g : Fin 1024 → ℝ) (wu : Fin 1024 → Fin 4096 → ℝ) (wd : Fin 4096 → Fin 1024 → ℝ)
  (h0 : ∀ k, v0 (ix2 r k) = ((x k : ℝ) : EReal)) (h12 : ∀ k, v12 (ix2 0 k) = ((g k : ℝ) : EReal))
  (hw0 : ∀ (f k : Fin 1024), w0 (ix3 ⟨f.val / 512, hi_lt f⟩ ⟨f.val % 512, lo_lt f⟩ k) = ((wu k (ch 0 f) : ℝ) : EReal))
  (hw1 : ∀ (f k : Fin 1024), w1 (ix3 ⟨f.val / 512, hi_lt f⟩ ⟨f.val % 512, lo_lt f⟩ k) = ((wu k (ch 1 f) : ℝ) : EReal))
  (hw2 : ∀ (f k : Fin 1024), w2 (ix3 ⟨f.val / 512, hi_lt f⟩ ⟨f.val % 512, lo_lt f⟩ k) = ((wu k (ch 2 f) : ℝ) : EReal))
  (hw3 : ∀ (f k : Fin 1024), w3 (ix3 ⟨f.val / 512, hi_lt f⟩ ⟨f.val % 512, lo_lt f⟩ k) = ((wu k (ch 3 f) : ℝ) : EReal))
  (hd0 : ∀ (f k : Fin 1024), d0 (ix3 ⟨f.val / 512, hi_lt f⟩ ⟨f.val % 512, lo_lt f⟩ k) = ((wd (ch 0 f) k : ℝ) : EReal))
  (hd1 : ∀ (f k : Fin 1024), d1 (ix3 ⟨f.val / 512, hi_lt f⟩ ⟨f.val % 512, lo_lt f⟩ k) = ((wd (ch 1 f) k : ℝ) : EReal))
  (hd2 : ∀ (f k : Fin 1024), d2 (ix3 ⟨f.val / 512, hi_lt f⟩ ⟨f.val % 512, lo_lt f⟩ k) = ((wd (ch 2 f) k : ℝ) : EReal))
  (hd3 : ∀ (f k : Fin 1024), d3 (ix3 ⟨f.val / 512, hi_lt f⟩ ⟨f.val % 512, lo_lt f⟩ k) = ((wd (ch 3 f) k : ℝ) : EReal))

include h0 h12 hw0 hw1 hw2 hw3 hd0 hd1 hd2 hd3 in
theorem y_at (z : Ideal .f32) (hz : z = ((0 : ℝ) : EReal)) (k : Fin 1024) :
    k0_pay1 (F := Ideal) (k0_pay12 (k0_pay3 v0 v12) (k0_pay6 v0 v12 w0 d0) (k0_pay7 v0 v12 w1) z d1 w2 d2) (k0_pay13 (k0_pay3 v0 v12) w3) d3 (ix2 r k)
      = ((MlpSpec.y x g wu wd k : ℝ) : EReal) := by
  pointwise [k0_pay1, k0_pay12, k0_pay6, k0_pay2]
  simp only [u0_at v0 v12 w0 r x g _ h0 h12 hw0, u1_at v0 v12 w1 r x g _ h0 h12 hw1 z hz, u2_at v0 v12 w2 r x g _ h0 h12 hw2, u3_at v0 v12 w3 r x g _ h0 h12 hw3,
    h0, hd0, hd1, hd2, hd3, coe_sum, ← EReal.coe_mul, ← EReal.coe_add]
  refine congrArg _ ?_
  unfold MlpSpec.y
  rw [sum_quarters]
  unfold MlpSpec.u MlpSpec.a
  ring

end Row

end Cert.FwdMlpIdeal.Pay

end
-- ==== Proof.FwdMlpOut.lean ====
/- What one point of the MLP's forward kernel stores, from the entries of its blocks. -/
module

public import proofs.«01_k».proof.Proof.Gen.FwdMlpIdeal.Frame
public import proofs.«01_k».proof.Proof.FwdMlpPay
public import proofs.«01_k».proof.Proof.Slabs

@[expose] public section

set_option maxRecDepth 16384

noncomputable section

namespace Cert.FwdMlpIdeal.Pay

open Cert.FwdMlpIdeal Cert.FwdMlpIdeal.Gen Cert.Rows Cert.MlpSpec Idealize.ShloMosaic Idealize.ShloMosaic.TcCoe

/-- Two devices' rows loaded from a block of all devices' rows. -/
theorem ld_pair (X : Vec Ideal S8x512x1024 .bf16) (a : ℕ) (p : Fin 2) (r : Fin 512) (k : Fin 1024) (p' : Fin 8) (hp : p'.val = a + p.val)
    (inb : ∀ y, (![a, 0, 0] : Fin 3 → ℕ) y + S2x512x1024.size y ≤ S8x512x1024.size y) :
    View.ld (Val := Elt Ideal) (e' := .bf16) X (Rect.unit (s := S8x512x1024) ![a, 0, 0] S2x512x1024.size inb) (ix3 p r k : S2x512x1024.Idx) = X (ix3 p' r k) := by
  refine congrArg X ?_
  funext y; apply Fin.ext
  fin_cases y
  · show a + 1 * p.val = p'.val; omega
  · show 0 + 1 * r.val = r.val; omega
  · show 0 + 1 * k.val = k.val; omega

theorem whole (X : Vec Ideal S512x1024 .f32) (r : Fin 512) (k : Fin 1024) : View.ld (Val := Elt Ideal) X r0_0 (ix2 r k : S512x1024.Idx) = X (ix2 r k) := by
  refine congrArg X ?_
  funext y; apply Fin.ext
  fin_cases y
  · show 0 + 1 * r.val = r.val; omega
  · show 0 + 1 * k.val = k.val; omega

theorem whole1 (X : Vec Ideal S1x1024 .f32) (k : Fin 1024) : View.ld (Val := Elt Ideal) X r0_1 (ix2 0 k : S1x1024.Idx) = X (ix2 0 k) := by
  refine congrArg X ?_
  funext y; apply Fin.ext
  fin_cases y
  · rfl
  · show 0 + 1 * k.val = k.val; omega

/-- A stored quarter holds its part of a function of rows and columns. -/
theorem slab_at (G : Fin 512 → Fin 4096 → EReal) (q : Fin 4) (a : ℕ) (ha : a = 1024 * q.val)
    (inb : ∀ y, (![0, a] : Fin 2 → ℕ) y + S512x1024.size y ≤ S512x4096.size y) (w : Vec Ideal S512x1024 .bf16) (hw : ∀ r f, w (ix2 r f) = G r (ch q f))
    (y : (Rect.unit (s := S512x4096) ![0, a] S512x1024.size inb).shape.Idx) :
    w y = G ((Rect.unit (s := S512x4096) ![0, a] S512x1024.size inb).emb y 0) ((Rect.unit (s := S512x4096) ![0, a] S512x1024.size inb).emb y 1) := by
  revert y
  show ∀ y : S512x1024.Idx, _
  intro y; idx_vars y
  obtain ⟨r, hr⟩ : ∃ r, r = y0 := ⟨_, rfl⟩
  obtain ⟨f, hf⟩ : ∃ f, f = y1 := ⟨_, rfl⟩
  rw [← hr, ← hf]
  have e : (Rect.unit (s := S512x4096) ![0, a] S512x1024.size inb).emb (ix2 r f : S512x1024.Idx) = (ix2 r (ch q f) : S512x4096.Idx) :=
    Slabs.emb_slab 0 a r f _ _ (by omega) (by show f.val + 1024 * q.val = _; omega) inb
  rw [e]
  exact hw r f

/-- A row of weights as one load of two devices' parts reads it. -/
theorem ldW (X : Vec Ideal S8x512x1024 .bf16) (W : Fin 4096 → Fin 1024 → ℝ)
    (hX : ∀ (p : Fin 8) (r : Fin 512) (k : Fin 1024) (f : Fin 4096), f.val = p.val * 512 + r.val → X (ix3 p r k) = ((W f k : ℝ) : EReal))
    (q : Fin 4) (a : ℕ) (ha : a = 2 * q.val) (inb) (f k : Fin 1024) :
    View.ld (Val := Elt Ideal) (e' := .bf16) X (Rect.unit (s := S8x512x1024) ![a, 0, 0] S2x512x1024.size inb)
      (ix3 ⟨f.val / 512, MlpSpec.hi_lt f⟩ ⟨f.val % 512, MlpSpec.lo_lt f⟩ k : S2x512x1024.Idx) = ((W (ch q f) k : ℝ) : EReal) := by
  refine (ld_pair X a ⟨f.val / 512, MlpSpec.hi_lt f⟩ ⟨f.val % 512, MlpSpec.lo_lt f⟩ k ⟨a + f.val / 512, by omega⟩ rfl inb).trans (hX _ _ _ _ ?_)
  show f.val + 1024 * q.val = (a + f.val / 512) * 512 + f.val % 512
  omega

section Store
variable (X0 : Vec Ideal S512x1024 .f32) (X1 : Vec Ideal S1x1024 .f32) (X2 X3 : Vec Ideal S8x512x1024 .bf16)
  (x : Fin 512 → Fin 1024 → ℝ) (g : Fin 1024 → ℝ) (wu : Fin 1024 → Fin 4096 → ℝ) (wd : Fin 4096 → Fin 1024 → ℝ)
  (h0 : ∀ r k, X0 (ix2 r k) = ((x r k : ℝ) : EReal)) (h1 : ∀ k, X1 (ix2 0 k) = ((g k : ℝ) : EReal))
  (h2 : ∀ (p : Fin 8) (r : Fin 512) (k : Fin 1024) (f : Fin 4096), f.val = p.val * 512 + r.val → X2 (ix3 p r k) = ((wu k f : ℝ) : EReal))
  (h3 : ∀ (p : Fin 8) (r : Fin 512) (k : Fin 1024) (f : Fin 4096), f.val = p.val * 512 + r.val → X3 (ix3 p r k) = ((wd f k : ℝ) : EReal))

include h0 h1 h2 h3 in
theorem out4_at (r : Fin 512) (k : Fin 1024) : out0_4 X0 X1 X2 X3 (ix2 r k) = ((MlpSpec.y (x r) g wu wd k : ℝ) : EReal) := by
  unfold_out out0_4
  frame_out
  exact y_at X0 X1 (View.ld X2 r0_2) (View.ld X2 r0_4) (View.ld X2 r0_6) (View.ld X2 r0_8)
    (View.ld X3 r0_2) (View.ld X3 r0_4) (View.ld X3 r0_6) (View.ld X3 r0_8) r (x r) g wu wd
    (h0 r) h1
    (ldW X2 (fun f k => wu k f) h2 0 0 rfl (by decide)) (ldW X2 (fun f k => wu k f) h2 1 2 rfl (by decide)) (ldW X2 (fun f k => wu k f) h2 2 4 rfl (by decide)) (ldW X2 (fun f k => wu k f) h2 3 6 rfl (by decide))
    (ldW X3 wd h3 0 0 rfl (by decide)) (ldW X3 wd h3 1 2 rfl (by decide)) (ldW X3 wd h3 2 4 rfl (by decide)) (ldW X3 wd h3 3 6 rfl (by decide)) _ zero_bits k

/-- The hidden units over one block. -/
def Gu (r : Fin 512) (f : Fin 4096) : EReal := ((MlpSpec.u (x r) g wu f : ℝ) : EReal)

include h0 h1 h2 in
theorem t3 (r : Fin 512) (f : Fin 1024) : k0_pay14 (F := Ideal) (k0_pay3 (View.ld X0 r0_0) (View.ld X1 r0_1)) (View.ld X2 r0_8) (ix2 r f) = Gu x g wu r (ch 3 f) :=
  s3_at (View.ld X0 r0_0) (View.ld X1 r0_1) (View.ld X2 r0_8) r (x r) g (fun f k => wu k (ch 3 f))
    (fun k => (whole X0 r k).trans (h0 r k)) (fun k => (whole1 X1 k).trans (h1 k)) (ldW X2 (fun f k => wu k f) h2 3 6 rfl (by decide)) f
include h0 h1 h2 in
theorem t2 (r : Fin 512) (f : Fin 1024) : k0_pay11 (F := Ideal) (k0_pay3 (View.ld X0 r0_0) (View.ld X1 r0_1)) (View.ld X2 r0_6) (ix2 r f) = Gu x g wu r (ch 2 f) :=
  s2_at (View.ld X0 r0_0) (View.ld X1 r0_1) (View.ld X2 r0_6) r (x r) g (fun f k => wu k (ch 2 f))
    (fun k => (whole X0 r k).trans (h0 r k)) (fun k => (whole1 X1 k).trans (h1 k)) (ldW X2 (fun f k => wu k f) h2 2 4 rfl (by decide)) f
include h0 h1 h2 in
theorem t1 (z : Ideal .f32) (hz : z = ((0 : ℝ) : EReal)) (r : Fin 512) (f : Fin 1024) : k0_pay9 (F := Ideal) (k0_pay7 (View.ld X0 r0_0) (View.ld X1 r0_1) (View.ld X2 r0_4)) z (ix2 r f) = Gu x g wu r (ch 1 f) :=
  s1_at (View.ld X0 r0_0) (View.ld X1 r0_1) (View.ld X2 r0_4) r (x r) g (fun f k => wu k (ch 1 f))
    (fun k => (whole X0 r k).trans (h0 r k)) (fun k => (whole1 X1 k).trans (h1 k)) (ldW X2 (fun f k => wu k f) h2 1 2 rfl (by decide)) z hz f
include h0 h1 h2 in
theorem t0 (r : Fin 512) (f : Fin 1024) : k0_pay5 (F := Ideal) (View.ld X0 r0_0) (View.ld X1 r0_1) (View.ld X2 r0_2) (ix2 r f) = Gu x g wu r (ch 0 f) :=
  s0_at (View.ld X0 r0_0) (View.ld X1 r0_1) (View.ld X2 r0_2) r (x r) g (fun f k => wu k (ch 0 f))
    (fun k => (whole X0 r k).trans (h0 r k)) (fun k => (whole1 X1 k).trans (h1 k)) (ldW X2 (fun f k => wu k f) h2 0 0 rfl (by decide)) f

include h0 h1 h2 in
theorem out5_at (r : Fin 512) (f : Fin 4096) : out0_5 X0 X1 X2 X3 (ix2 r f) = ((MlpSpec.u (x r) g wu f : ℝ) : EReal) := by
  unfold_out out0_5
  refine Slabs.canon_slabs (Val := Elt Ideal) (e := .bf16) (Gu x g wu) _ r f
    (View.cover_of_tiled_head _ _ _ rfl _) fun p hp => ?_
  simp only [List.mem_cons, List.not_mem_nil, or_false] at hp
  rcases hp with rfl | rfl | rfl | rfl
  · exact slab_at (Gu x g wu) 3 3072 rfl (by decide) _ (t3 X0 X1 X2 x g wu h0 h1 h2)
  · exact slab_at (Gu x g wu) 2 2048 rfl (by decide) _ (t2 X0 X1 X2 x g wu h0 h1 h2)
  · exact slab_at (Gu x g wu) 1 1024 rfl (by decide) _ (t1 X0 X1 X2 x g wu h0 h1 h2 _ zero_bits)
  · exact slab_at (Gu x g wu) 0 0 rfl (by decide) _ (t0 X0 X1 X2 x g wu h0 h1 h2)

end Store

end Cert.FwdMlpIdeal.Pay

end
-- ==== Proof.FwdMlpFin.lean ====
/- The arrays the MLP's forward kernel leaves, from their entries. -/
module

public import proofs.«01_k».proof.Proof.Gen.FwdMlpIdeal.Value
public import proofs.«01_k».proof.Proof.FwdMlpBlocks
public import proofs.«01_k».proof.Proof.FwdMlpOut

@[expose] public section

set_option maxRecDepth 16384

noncomputable section

namespace Cert.FwdMlpIdeal.Out

open Cert.FwdMlpIdeal Cert.FwdMlpIdeal.Gen Cert.FwdMlpIdeal.Blk Cert.Rows Cert.MlpSpec Idealize.ShloMosaic Idealize.ShloMosaic.TcCoe

variable (m : (ℓ : Loc nD τ sig) → Buf (Elt Ideal) ℓ) (c : Dev nD)
  (x : Fin 2 → Fin 2048 → Fin 1024 → ℝ) (g : Fin 1024 → ℝ) (wu : Fin 1024 → Fin 4096 → ℝ) (wd : Fin 4096 → Fin 1024 → ℝ)
  (h0 : ∀ b s k, (m ((c : Thread nD τ).loc main_arg0) : FVec Ideal S2x2048x1024 .f32) (ix3 b s k) = ((x b s k : ℝ) : EReal))
  (h1 : ∀ k, (m ((c : Thread nD τ).loc main_arg1) : FVec Ideal S1x1024 .f32) (ix2 0 k) = ((g k : ℝ) : EReal))
  (h2 : ∀ j k, (m ((c : Thread nD τ).loc main_arg2) : FVec Ideal S1x1024x4096 .f32) (ix3 0 j k) = ((wu j k : ℝ) : EReal))
  (h3 : ∀ j k, (m ((c : Thread nD τ).loc main_arg3) : FVec Ideal S1x4096x1024 .f32) (ix3 0 j k) = ((wd j k : ℝ) : EReal))

include h0 h1 h2 h3 in
theorem out4 (t : Fin cfg0.N) (r : Fin 512) (k : Fin 1024) : out0_4 (iblk m c 0 t) (iblk m c 1 t) (iblk m c 2 t) (iblk m c 3 t) (ix2 r k)
    = ((MlpSpec.y (x (tb t.val r) (ts t.val r)) g wu wd k : ℝ) : EReal) :=
  Pay.out4_at _ _ _ _ (fun r => x (tb t.val r) (ts t.val r)) g wu wd (read0 m c x h0 t) (read1 m c g h1 t)
    (fun p r k f e => (read2 m c wu h2 t p r k).trans (congrArg (fun i => ((wu k i : ℝ) : EReal)) (Fin.ext e.symm)))
    (fun p r k f e => (read3 m c wd h3 t p r k).trans (congrArg (fun i => ((wd i k : ℝ) : EReal)) (Fin.ext e.symm))) r k

include h0 h1 h2 in
theorem out5 (t : Fin cfg0.N) (r : Fin 512) (f : Fin 4096) : out0_5 (iblk m c 0 t) (iblk m c 1 t) (iblk m c 2 t) (iblk m c 3 t) (ix2 r f)
    = ((MlpSpec.u (x (tb t.val r) (ts t.val r)) g wu f : ℝ) : EReal) :=
  Pay.out5_at _ _ _ _ (fun r => x (tb t.val r) (ts t.val r)) g wu (read0 m c x h0 t) (read1 m c g h1 t)
    (fun p r k f e => (read2 m c wu h2 t p r k).trans (congrArg (fun i => ((wu k i : ℝ) : EReal)) (Fin.ext e.symm))) r f

include h0 h1 h2 h3 in
theorem fin4 (G : FVec Ideal S4096x1024 .f32) (hG : ∀ (q : Fin 4096) (k : Fin 1024), G (ix2 q k) = ((MlpSpec.y (x (qb q) (qs q)) g wu wd k : ℝ) : EReal)) :
    (dats m 0 c).arrAt 4 (cfgs 0).N = G := by
  refine (dats m 0 c).arrAt_eq_of_covers 4 _ (by decide +kernel) fun t hf y => ?_
  blk_simp
  rw [after0_4]
  idx_vars y
  have e : (win0_4.blk t).view.emb (ix2 y0 y1) = (ix2 (tr t y0) y1 : S4096x1024.Idx) := by blk_ext [idx t, tr]
  rw [e]
  refine (out4 m c x g wu wd h0 h1 h2 h3 t y0 y1).trans (Eq.trans ?_ (hG (tr t y0) y1).symm)
  rw [(row t y0).1, (row t y0).2]

include h0 h1 h2 in
theorem fin5 (G : FVec Ideal S4096x4096 .bf16) (hG : ∀ (q : Fin 4096) (f : Fin 4096), G (ix2 q f) = ((MlpSpec.u (x (qb q) (qs q)) g wu f : ℝ) : EReal)) :
    (dats m 0 c).arrAt 5 (cfgs 0).N = G := by
  refine (dats m 0 c).arrAt_eq_of_covers 5 _ (by decide +kernel) fun t hf y => ?_
  blk_simp
  rw [after0_5]
  idx_vars y
  have e : (win0_5.blk t).view.emb (ix2 y0 y1) = (ix2 (tr t y0) y1 : S4096x4096.Idx) := by blk_ext [idx t, tr]
  rw [e]
  refine (out5 m c x g wu h0 h1 h2 t y0 y1).trans (Eq.trans ?_ (hG (tr t y0) y1).symm)
  rw [(row t y0).1, (row t y0).2]

end Cert.FwdMlpIdeal.Out

end
-- ==== Proof.FwdMlpTerm.lean ====
/- What the reference computes for the MLP with its norm, read at an index. -/
module

public import proofs.«01_k».proof.Proof.Gen.FwdMlpRefIdeal.Run
public import proofs.«01_k».proof.Proof.FwdMlpPay
public import proofs.«01_k».proof.Proof.Tokens

@[expose] public section

set_option maxRecDepth 16384

noncomputable section

namespace Cert.FwdMlpRefIdeal.At

open Cert.FwdMlpRefIdeal Cert.FwdMlpRefIdeal.Gen Cert.FwdMlpRefIdeal.Value Cert.Rows Idealize.ShloMosaic Idealize.ShloMosaic.TcCoe

section Terms
variable {F : FTy → Type} [FloatOps F] (m : (ℓ : Loc nD τ sig) → Buf (Elt F) ℓ) (c : Dev nD)

/-- The normalised and scaled rows. -/
def hT : FVec F S2x2048x1024 .f32 :=
  mulf (mulf (m ((c.tc : Thread nD τ).loc main_arg0)) (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (m ((c.tc : Thread nD τ).loc main_arg0)) (m ((c.tc : Thread nD τ).loc main_arg0))) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![2] bcast_S1024_S1x1x1024_2 (shapeCast _ (m ((c.tc : Thread nD τ).loc main_arg1)) shapeCasts_S1x1024_S1024)))

/-- The hidden units before they are rectified. -/
def aT : FVec F S2x2048x4096 .f32 :=
  Host.dotGeneral dot_S2x2048x1024_S1024x4096_S2x2048x4096_2_0_01_1_n_n none (hT m c) (shapeCast _ (m ((c.tc : Thread nD τ).loc main_arg2)) shapeCasts_S1x1024x4096_S1024x4096)

/-- The rectified hidden units. -/
def uT : FVec F S2x2048x4096 .f32 :=
  maximumf (aT m c) (broadcastInDim S2x2048x4096 ![] bcast_S_S2x2048x4096 (constant S_ .f32 0x00000000#32))

/-- What the MLP adds to the rows. -/
def dT : FVec F S2x2048x1024 .f32 :=
  Host.dotGeneral dot_S2x2048x4096_S4096x1024_S2x2048x1024_2_0_01_1_n_n none (mulf (uT m c) (uT m c)) (shapeCast _ (m ((c.tc : Thread nD τ).loc main_arg3)) shapeCasts_S1x4096x1024_S4096x1024)

/-- The rows past the MLP, and the hidden units, as the program returns them. -/
def yT : FVec F S4096x1024 .f32 :=
  shapeCast _ (addf (m ((c.tc : Thread nD τ).loc main_arg0)) (dT m c)) shapeCasts_S2x2048x1024_S4096x1024

def uR : FVec F S4096x4096 .bf16 :=
  truncf .bf16 (shapeCast _ (uT m c) shapeCasts_S2x2048x4096_S4096x4096) bitsLt_bf16_f32

end Terms

theorem wu_at (v : FVec Ideal S1x1024x4096 .f32) (w : Fin 1024 → Fin 4096 → ℝ) (h : ∀ j k, v (ix3 0 j k) = ((w j k : ℝ) : EReal)) (j : Fin 1024) (f : Fin 4096) :
    (shapeCast S1024x4096 v shapeCasts_S1x1024x4096_S1024x4096 : FVec Ideal S1024x4096 .f32) (ix2 j f) = ((w j f : ℝ) : EReal) := by
  pointwise []
  exact h _ _

theorem wd_at (v : FVec Ideal S1x4096x1024 .f32) (w : Fin 4096 → Fin 1024 → ℝ) (h : ∀ j k, v (ix3 0 j k) = ((w j k : ℝ) : EReal)) (f : Fin 4096) (k : Fin 1024) :
    (shapeCast S4096x1024 v shapeCasts_S1x4096x1024_S4096x1024 : FVec Ideal S4096x1024 .f32) (ix2 f k) = ((w f k : ℝ) : EReal) := by
  pointwise []
  exact h _ _

theorem up_at (v : FVec Ideal S2x2048x1024 .f32) (w : FVec Ideal S1024x4096 .f32) (b : Fin 2) (s : Fin 2048) (f : Fin 4096) (p q : Fin 1024 → ℝ)
    (hv : ∀ k, v (ix3 b s k) = ((p k : ℝ) : EReal)) (hw : ∀ k, w (ix2 k f) = ((q k : ℝ) : EReal)) :
    (Host.dotGeneral dot_S2x2048x1024_S1024x4096_S2x2048x4096_2_0_01_1_n_n none v w : FVec Ideal S2x2048x4096 .f32) (ix3 b s f) = ((∑ k, p k * q k : ℝ) : EReal) := by
  pointwise []
  simp only [hv, hw, coe_sum, ← EReal.coe_mul]

theorem down_at (v : FVec Ideal S2x2048x4096 .f32) (w : FVec Ideal S4096x1024 .f32) (b : Fin 2) (s : Fin 2048) (k : Fin 1024) (p q : Fin 4096 → ℝ)
    (hv : ∀ f, v (ix3 b s f) = ((p f : ℝ) : EReal)) (hw : ∀ f, w (ix2 f k) = ((q f : ℝ) : EReal)) :
    (Host.dotGeneral dot_S2x2048x4096_S4096x1024_S2x2048x1024_2_0_01_1_n_n none v w : FVec Ideal S2x2048x1024 .f32) (ix3 b s k) = ((∑ f, p f * q f : ℝ) : EReal) := by
  pointwise []
  simp only [hv, hw, coe_sum, ← EReal.coe_mul]

theorem square_at (v : FVec Ideal S2x2048x4096 .f32) (b : Fin 2) (s : Fin 2048) (f : Fin 4096) (p : ℝ) (hv : v (ix3 b s f) = ((p : ℝ) : EReal)) :
    (mulf v v : FVec Ideal S2x2048x4096 .f32) (ix3 b s f) = ((p * p : ℝ) : EReal) := by
  pointwise []
  rw [hv, ← EReal.coe_mul]

theorem rows_at (a : FVec Ideal S2x2048x1024 .f32) (q : Fin 4096) (k : Fin 1024) :
    (shapeCast S4096x1024 a shapeCasts_S2x2048x1024_S4096x1024 : FVec Ideal S4096x1024 .f32) (ix2 q k) = a (ix3 (qb q) (qs q) k) := by
  pointwise []
  rfl

theorem wide_at (a : FVec Ideal S2x2048x4096 .f32) (q : Fin 4096) (k : Fin 4096) :
    (truncf .bf16 (shapeCast S4096x4096 a shapeCasts_S2x2048x4096_S4096x4096) bitsLt_bf16_f32 : FVec Ideal S4096x4096 .bf16) (ix2 q k) = a (ix3 (qb q) (qs q) k) := by
  pointwise []
  rfl

variable (m : (ℓ : Loc nD τ sig) → Buf (Elt Ideal) ℓ) (c : Dev nD)
  (x : Fin 2 → Fin 2048 → Fin 1024 → ℝ) (g : Fin 1024 → ℝ) (wu : Fin 1024 → Fin 4096 → ℝ) (wd : Fin 4096 → Fin 1024 → ℝ)
  (h0 : ∀ b s k, (m ((c : Thread nD τ).loc main_arg0) : FVec Ideal S2x2048x1024 .f32) (ix3 b s k) = ((x b s k : ℝ) : EReal))
  (h1 : ∀ k, (m ((c : Thread nD τ).loc main_arg1) : FVec Ideal S1x1024 .f32) (ix2 0 k) = ((g k : ℝ) : EReal))
  (h2 : ∀ j k, (m ((c : Thread nD τ).loc main_arg2) : FVec Ideal S1x1024x4096 .f32) (ix3 0 j k) = ((wu j k : ℝ) : EReal))
  (h3 : ∀ j k, (m ((c : Thread nD τ).loc main_arg3) : FVec Ideal S1x4096x1024 .f32) (ix3 0 j k) = ((wd j k : ℝ) : EReal))
  (b : Fin 2) (s : Fin 2048)

include h0 h1 in
theorem h_at (k : Fin 1024) : hT (F := Ideal) m c (ix3 b s k) = ((MlpSpec.h (x b s) g k : ℝ) : EReal) := by
  pointwise [hT]
  simp only [h0, h1, ofBits_1024, ofBits_eps, zero_add, coe_sum, ← EReal.coe_mul, div_real _ (by norm_num : (1024 : ℝ) ≠ 0), ← EReal.coe_add]
  have e : (∑ k, x b s k * x b s k) / 1024 + eps = ms (x b s) := by unfold ms; push_cast; rfl
  rw [e, rsqrt_real (ms_pos _), ← EReal.coe_mul, ← EReal.coe_mul]; rfl

include h0 h1 h2 in
theorem a_at (f : Fin 4096) : aT (F := Ideal) m c (ix3 b s f) = ((MlpSpec.a (x b s) g wu f : ℝ) : EReal) := by
  unfold aT
  exact up_at _ _ b s f _ _ (h_at m c x g h0 h1 b s) fun k => wu_at _ wu h2 k f

include h0 h1 h2 in
theorem u_at (f : Fin 4096) : uT (F := Ideal) m c (ix3 b s f) = ((MlpSpec.u (x b s) g wu f : ℝ) : EReal) := by
  pointwise [uT]
  rw [a_at m c x g wu h0 h1 h2]
  first | exact (EReal.coe_strictMono.monotone.map_max).symm | (rw [← EReal.coe_zero]; exact (EReal.coe_strictMono.monotone.map_max).symm)

include h0 h1 h2 h3 in
theorem d_at (k : Fin 1024) : dT (F := Ideal) m c (ix3 b s k) = ((∑ f, MlpSpec.u (x b s) g wu f * MlpSpec.u (x b s) g wu f * wd f k : ℝ) : EReal) := by
  unfold dT
  exact down_at _ _ b s k _ _ (fun f => square_at _ b s f _ (u_at m c x g wu h0 h1 h2 b s f)) fun f => wd_at _ wd h3 f k

include h0 h1 h2 h3 in
theorem y_at (q : Fin 4096) (k : Fin 1024) : yT (F := Ideal) m c (ix2 q k) = ((MlpSpec.y (x (qb q) (qs q)) g wu wd k : ℝ) : EReal) := by
  unfold yT
  rw [rows_at]
  generalize qb q = b
  generalize qs q = s
  pointwise []
  rw [d_at m c x g wu wd h0 h1 h2 h3, h0, ← EReal.coe_add]; rfl

include h0 h1 h2 in
theorem uR_at (q f : Fin 4096) : uR (F := Ideal) m c (ix2 q f) = ((MlpSpec.u (x (qb q) (qs q)) g wu f : ℝ) : EReal) := by
  unfold uR
  exact (wide_at _ q f).trans (u_at m c x g wu h0 h1 h2 _ _ f)

end Cert.FwdMlpRefIdeal.At

end
-- ==== Proof.FwdMlpFinite.lean ====
/- The precondition of the MLP's forward claim: every entry of the arrays it names is a real number. -/
module

public import proofs.«01_k».proof.Pre_finite_fwd_mlp
public import proofs.«01_k».proof.Proof.Finite

@[expose] public section

set_option maxRecDepth 16384

noncomputable section

namespace Cert.Pre_finite_fwd_mlp

open Cert.Rows Idealize.ShloMosaic

variable [Facts]

theorem reals {a0 : FVec Ideal S2x2048x1024 .f32} {a1 : FVec Ideal S1x1024 .f32} {a2 : FVec Ideal S1x1024x4096 .f32}
    {a3 : FVec Ideal S1x4096x1024 .f32} (h : fn (F := Ideal) a0 a1 a2 a3 = fun _ => 1#1) :
    (∀ i, a0 i = (((a0 i).toReal : ℝ) : EReal)) ∧ (∀ i, a1 i = (((a1 i).toReal : ℝ) : EReal)) ∧ (∀ i, a2 i = (((a2 i).toReal : ℝ) : EReal))
    ∧ (∀ i, a3 i = (((a3 i).toReal : ℝ) : EReal)) := by
  have e := congrFun h (Shape.Idx.first (s := S_) Facts.h_S_)
  obtain ⟨e, e3⟩ := andi_one e
  obtain ⟨e, e2⟩ := andi_one e
  obtain ⟨e, e1⟩ := andi_one e
  obtain ⟨_, e0⟩ := andi_one e
  exact ⟨real_of_all _ _ _ _ _ _ e0, real_of_all _ _ _ _ _ _ e1, real_of_all _ _ _ _ _ _ e2, real_of_all _ _ _ _ _ _ e3⟩

end Cert.Pre_finite_fwd_mlp

end
-- ==== Proof.FwdMlpPair.lean ====
/- The MLP's forward kernel agrees with its reference. -/
module

public import proofs.«01_k».proof.Defs
public import proofs.«01_k».proof.Proof.Gen.Pre_finite_fwd_mlp
public import proofs.«01_k».proof.Proof.FwdMlpFin
public import proofs.«01_k».proof.Proof.FwdMlpTerm
public import proofs.«01_k».proof.Proof.FwdMlpFinite

@[expose] public section

set_option maxRecDepth 16384

noncomputable section

namespace Cert.FwdMlpPair

open Cert.Rows Idealize.ShloMosaic Idealize.ShloMosaic.TcCoe Idealize.SL.Sem
open Cert.FwdMlpIdeal (S2x2048x1024 S1x1024 S1x1024x4096 S1x4096x1024)

/-- The real arrays behind a memory's arguments. -/
abbrev rx (V : FVec Ideal S2x2048x1024 .f32) : Fin 2 → Fin 2048 → Fin 1024 → ℝ := fun b s k => (V (ix3 b s k)).toReal
abbrev rg (V : FVec Ideal S1x1024 .f32) : Fin 1024 → ℝ := fun k => (V (ix2 0 k)).toReal
abbrev ru (V : FVec Ideal S1x1024x4096 .f32) : Fin 1024 → Fin 4096 → ℝ := fun j k => (V (ix3 0 j k)).toReal
abbrev rd (V : FVec Ideal S1x4096x1024 .f32) : Fin 4096 → Fin 1024 → ℝ := fun j k => (V (ix3 0 j k)).toReal

theorem ref_frame : @Cert.quiescent_FwdMlpRefIdeal Cert.FwdMlpRefIdeal.Gen.facts := fun m g _ =>
  (θ_run Cert.FwdMlpRefIdeal.defs _ _).mono (fun r h => ⟨fun c => (h c).2.2, Idealize.ShloMosaic.sem_eq_zero_of_no_sems (by decide) r.2⟩)
    (Cert.FwdMlpRefIdeal.Value.run (F := Ideal) m g)

set_option maxHeartbeats 1600000 in
theorem algebraic : @Cert.algebraic_FwdMlpIdeal_FwdMlpRefIdeal_pre_finite_fwd_mlp Cert.FwdMlpIdeal.Gen.facts Cert.FwdMlpRefIdeal.Gen.facts Cert.Pre_finite_fwd_mlp.Gen.facts := by
  pair_intro
  · run_from Cert.FwdMlpIdeal.Value.run_blocks m g
  · run_from Cert.FwdMlpRefIdeal.Value.run m' g'
    all_goals
      obtain ⟨e0, e1, e2, e3⟩ := Cert.Pre_finite_fwd_mlp.reals (hpre c)
      obtain ⟨a0, a1, a2, a3⟩ := hagree c
    · rw [← a0, ← a1, ← a2, ← a3]
      refine Eq.trans (b := Cert.FwdMlpRefIdeal.At.yT m' c) (by
        unfold Cert.FwdMlpRefIdeal.At.yT Cert.FwdMlpRefIdeal.At.dT Cert.FwdMlpRefIdeal.At.uT Cert.FwdMlpRefIdeal.At.aT Cert.FwdMlpRefIdeal.At.hT; rfl) ?_
      exact (Cert.FwdMlpIdeal.Out.fin4 m c (rx (m (c.tc.loc Cert.FwdMlpIdeal.main_arg0))) (rg (m (c.tc.loc Cert.FwdMlpIdeal.main_arg1))) (ru (m (c.tc.loc Cert.FwdMlpIdeal.main_arg2))) (rd (m (c.tc.loc Cert.FwdMlpIdeal.main_arg3)))
        (fun b s k => e0 (ix3 b s k)) (fun k => e1 (ix2 0 k)) (fun j k => e2 (ix3 0 j k)) (fun j k => e3 (ix3 0 j k)) _
        (fun q k => Cert.FwdMlpRefIdeal.At.y_at m' c (rx (m (c.tc.loc Cert.FwdMlpIdeal.main_arg0))) (rg (m (c.tc.loc Cert.FwdMlpIdeal.main_arg1))) (ru (m (c.tc.loc Cert.FwdMlpIdeal.main_arg2))) (rd (m (c.tc.loc Cert.FwdMlpIdeal.main_arg3)))
          (fun b s k => (congrFun a0 (ix3 b s k)).trans (e0 (ix3 b s k))) (fun k => (congrFun a1 (ix2 0 k)).trans (e1 (ix2 0 k)))
          (fun j k => (congrFun a2 (ix3 0 j k)).trans (e2 (ix3 0 j k))) (fun j k => (congrFun a3 (ix3 0 j k)).trans (e3 (ix3 0 j k))) q k)).symm
    · rw [← a0, ← a1, ← a2]
      refine Eq.trans (b := Cert.FwdMlpRefIdeal.At.uR m' c) (by
        unfold Cert.FwdMlpRefIdeal.At.uR Cert.FwdMlpRefIdeal.At.uT Cert.FwdMlpRefIdeal.At.aT Cert.FwdMlpRefIdeal.At.hT; rfl) ?_
      exact (Cert.FwdMlpIdeal.Out.fin5 m c (rx (m (c.tc.loc Cert.FwdMlpIdeal.main_arg0))) (rg (m (c.tc.loc Cert.FwdMlpIdeal.main_arg1))) (ru (m (c.tc.loc Cert.FwdMlpIdeal.main_arg2)))
        (fun b s k => e0 (ix3 b s k)) (fun k => e1 (ix2 0 k)) (fun j k => e2 (ix3 0 j k)) _
        (fun q f => Cert.FwdMlpRefIdeal.At.uR_at m' c (rx (m (c.tc.loc Cert.FwdMlpIdeal.main_arg0))) (rg (m (c.tc.loc Cert.FwdMlpIdeal.main_arg1))) (ru (m (c.tc.loc Cert.FwdMlpIdeal.main_arg2)))
          (fun b s k => (congrFun a0 (ix3 b s k)).trans (e0 (ix3 b s k))) (fun k => (congrFun a1 (ix2 0 k)).trans (e1 (ix2 0 k)))
          (fun j k => (congrFun a2 (ix3 0 j k)).trans (e2 (ix3 0 j k))) q f)).symm

end Cert.FwdMlpPair

end
-- ==== Proof.lean ====
/- The claims, put together from the generated frames and from each pair's module. -/
module

public import proofs.«01_k».proof.Defs
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleRefIdeal
public import proofs.«01_k».proof.Proof.Gen.Pre_finite_ple
public import proofs.«01_k».proof.Proof.Gen.PleIdeal.Value
public import proofs.«01_k».proof.Proof.Gen.PleRefIdeal.Run
public import proofs.«01_k».proof.Proof.PlePair
public import proofs.«01_k».proof.Proof.Gen.AttnB
public import proofs.«01_k».proof.Proof.Gen.AttnB.Skeleton
public import proofs.«01_k».proof.Proof.Gen.AttnB.Launch
public import proofs.«01_k».proof.Proof.Gen.AttnB.Points
public import proofs.«01_k».proof.Proof.Gen.AttnB.Frame
public import proofs.«01_k».proof.Proof.Gen.AttnBIdeal
public import proofs.«01_k».proof.Proof.Gen.AttnBIdeal.Skeleton
public import proofs.«01_k».proof.Proof.Gen.AttnBIdeal.Launch
public import proofs.«01_k».proof.Proof.Gen.AttnBIdeal.Points
public import proofs.«01_k».proof.Proof.Gen.AttnBIdeal.Frame
public import proofs.«01_k».proof.Proof.Gen.AttnBRefIdeal
public import proofs.«01_k».proof.Proof.Gen.Pre_finite_attn_b
public import proofs.«01_k».proof.Proof.Gen.AttnBIdeal.Value
public import proofs.«01_k».proof.Proof.Gen.AttnBRefIdeal.Run
public import proofs.«01_k».proof.Proof.AttnBPair
public import proofs.«01_k».proof.Proof.Gen.AttnA
public import proofs.«01_k».proof.Proof.Gen.AttnA.Skeleton
public import proofs.«01_k».proof.Proof.Gen.AttnA.Launch
public import proofs.«01_k».proof.Proof.Gen.AttnA.Points
public import proofs.«01_k».proof.Proof.Gen.AttnA.Frame
public import proofs.«01_k».proof.Proof.Gen.AttnAIdeal
public import proofs.«01_k».proof.Proof.Gen.AttnAIdeal.Skeleton
public import proofs.«01_k».proof.Proof.Gen.AttnAIdeal.Launch
public import proofs.«01_k».proof.Proof.Gen.AttnAIdeal.Points
public import proofs.«01_k».proof.Proof.Gen.AttnAIdeal.Frame
public import proofs.«01_k».proof.Proof.Gen.AttnARefIdeal
public import proofs.«01_k».proof.Proof.Gen.Pre_finite_attn_a
public import proofs.«01_k».proof.Proof.Gen.AttnAIdeal.Value
public import proofs.«01_k».proof.Proof.Gen.AttnARefIdeal.Run
public import proofs.«01_k».proof.Proof.AttnAPair
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InRefIdeal
public import proofs.«01_k».proof.Proof.Gen.Pre_finite_in
public import proofs.«01_k».proof.Proof.Gen.InIdeal.Value
public import proofs.«01_k».proof.Proof.Gen.InRefIdeal.Run
public import proofs.«01_k».proof.Proof.InPair
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.Pre_finite_mlp
public import proofs.«01_k».proof.Proof.Gen.MlpIdeal.Value
public import proofs.«01_k».proof.Proof.Gen.MlpRefIdeal.Run
public import proofs.«01_k».proof.Proof.MlpPair
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Pre_finite_merge
public import proofs.«01_k».proof.Proof.Gen.MergeIdeal.Value
public import proofs.«01_k».proof.Proof.Gen.MergeRefIdeal.Run
public import proofs.«01_k».proof.Proof.Gen.On_written_merge
public import proofs.«01_k».proof.Proof.MergePair
public import proofs.«01_k».proof.Proof.Gen.FwdA
public import proofs.«01_k».proof.Proof.Gen.FwdA.Skeleton
public import proofs.«01_k».proof.Proof.Gen.FwdA.Launch
public import proofs.«01_k».proof.Proof.Gen.FwdA.Points
public import proofs.«01_k».proof.Proof.Gen.FwdA.Frame
public import proofs.«01_k».proof.Proof.Gen.FwdAIdeal
public import proofs.«01_k».proof.Proof.Gen.FwdAIdeal.Skeleton
public import proofs.«01_k».proof.Proof.Gen.FwdAIdeal.Launch
public import proofs.«01_k».proof.Proof.Gen.FwdAIdeal.Points
public import proofs.«01_k».proof.Proof.Gen.FwdAIdeal.Frame
public import proofs.«01_k».proof.Proof.Gen.FwdARefIdeal
public import proofs.«01_k».proof.Proof.Gen.Pre_finite_fwd_a
public import proofs.«01_k».proof.Proof.Gen.FwdAIdeal.Value
public import proofs.«01_k».proof.Proof.Gen.FwdARefIdeal.Run
public import proofs.«01_k».proof.Proof.FwdAPair
public import proofs.«01_k».proof.Proof.Gen.FwdB
public import proofs.«01_k».proof.Proof.Gen.FwdB.Skeleton
public import proofs.«01_k».proof.Proof.Gen.FwdB.Launch
public import proofs.«01_k».proof.Proof.Gen.FwdB.Points
public import proofs.«01_k».proof.Proof.Gen.FwdB.Frame
public import proofs.«01_k».proof.Proof.Gen.FwdBIdeal
public import proofs.«01_k».proof.Proof.Gen.FwdBIdeal.Skeleton
public import proofs.«01_k».proof.Proof.Gen.FwdBIdeal.Launch
public import proofs.«01_k».proof.Proof.Gen.FwdBIdeal.Points
public import proofs.«01_k».proof.Proof.Gen.FwdBIdeal.Frame
public import proofs.«01_k».proof.Proof.Gen.FwdBRefIdeal
public import proofs.«01_k».proof.Proof.Gen.Pre_finite_fwd_b
public import proofs.«01_k».proof.Proof.Gen.FwdBIdeal.Value
public import proofs.«01_k».proof.Proof.Gen.FwdBRefIdeal.Run
public import proofs.«01_k».proof.Proof.FwdBPair
public import proofs.«01_k».proof.Proof.Gen.FwdMlp
public import proofs.«01_k».proof.Proof.Gen.FwdMlp.Skeleton
public import proofs.«01_k».proof.Proof.Gen.FwdMlp.Launch
public import proofs.«01_k».proof.Proof.Gen.FwdMlp.Points
public import proofs.«01_k».proof.Proof.Gen.FwdMlp.Frame
public import proofs.«01_k».proof.Proof.Gen.FwdMlpIdeal
public import proofs.«01_k».proof.Proof.Gen.FwdMlpIdeal.Skeleton
public import proofs.«01_k».proof.Proof.Gen.FwdMlpIdeal.Launch
public import proofs.«01_k».proof.Proof.Gen.FwdMlpIdeal.Points
public import proofs.«01_k».proof.Proof.Gen.FwdMlpIdeal.Frame
public import proofs.«01_k».proof.Proof.Gen.FwdMlpRefIdeal
public import proofs.«01_k».proof.Proof.Gen.Pre_finite_fwd_mlp
public import proofs.«01_k».proof.Proof.Gen.FwdMlpIdeal.Value
public import proofs.«01_k».proof.Proof.Gen.FwdMlpRefIdeal.Run
public import proofs.«01_k».proof.Proof.FwdMlpPair
public import Idealize.ShloMosaic.Adequacy
public import Idealize.ShloMosaic.Init

@[expose] public section

noncomputable section

namespace Cert.Proof

open Idealize.ShloMosaic Idealize.SL.Sem

theorem claim : Cert.Claim := ⟨Cert.Ple.Gen.facts, Cert.PleIdeal.Gen.facts, Cert.PleRefIdeal.Gen.facts,
  Cert.AttnB.Gen.facts, Cert.AttnBIdeal.Gen.facts, Cert.AttnBRefIdeal.Gen.facts,
  Cert.AttnA.Gen.facts, Cert.AttnAIdeal.Gen.facts, Cert.AttnARefIdeal.Gen.facts,
  Cert.In.Gen.facts, Cert.InIdeal.Gen.facts, Cert.InRefIdeal.Gen.facts,
  Cert.Mlp.Gen.facts, Cert.MlpIdeal.Gen.facts, Cert.MlpRefIdeal.Gen.facts,
  Cert.Merge.Gen.facts, Cert.MergeIdeal.Gen.facts, Cert.MergeRefIdeal.Gen.facts,
  Cert.FwdA.Gen.facts, Cert.FwdAIdeal.Gen.facts, Cert.FwdARefIdeal.Gen.facts,
  Cert.FwdB.Gen.facts, Cert.FwdBIdeal.Gen.facts, Cert.FwdBRefIdeal.Gen.facts,
  Cert.FwdMlp.Gen.facts, Cert.FwdMlpIdeal.Gen.facts, Cert.FwdMlpRefIdeal.Gen.facts,
  Cert.Pre_finite_ple.Gen.facts,
  Cert.Pre_finite_attn_b.Gen.facts,
  Cert.Pre_finite_attn_a.Gen.facts,
  Cert.Pre_finite_in.Gen.facts,
  Cert.Pre_finite_mlp.Gen.facts,
  Cert.Pre_finite_merge.Gen.facts,
  Cert.Pre_finite_fwd_a.Gen.facts,
  Cert.Pre_finite_fwd_b.Gen.facts,
  Cert.Pre_finite_fwd_mlp.Gen.facts,
  Cert.On_written_merge.Gen.facts,
  fun m ρ _ => Cert.Ple.Gen.frame m ρ, fun m ρ _ => Cert.PleIdeal.Gen.frame m ρ, fun m ρ _ => Cert.PleIdeal.Gen.frame m ρ,
  Cert.PlePair.ref_frame, fun m ρ _ => Cert.PlePair.ref_frame m ρ trivial,
  fun m ρ _ => Cert.AttnB.Gen.frame m ρ, fun m ρ _ => Cert.AttnBIdeal.Gen.frame m ρ, fun m ρ _ => Cert.AttnBIdeal.Gen.frame m ρ,
  Cert.AttnBPair.ref_frame, fun m ρ _ => Cert.AttnBPair.ref_frame m ρ trivial,
  fun m ρ _ => Cert.AttnA.Gen.frame m ρ, fun m ρ _ => Cert.AttnAIdeal.Gen.frame m ρ, fun m ρ _ => Cert.AttnAIdeal.Gen.frame m ρ,
  Cert.AttnAPair.ref_frame, fun m ρ _ => Cert.AttnAPair.ref_frame m ρ trivial,
  fun m ρ _ => Cert.In.Gen.frame m ρ, fun m ρ _ => Cert.InIdeal.Gen.frame m ρ, fun m ρ _ => Cert.InIdeal.Gen.frame m ρ,
  Cert.InPair.ref_frame, fun m ρ _ => Cert.InPair.ref_frame m ρ trivial,
  fun m ρ _ => Cert.Mlp.Gen.frame m ρ, fun m ρ _ => Cert.MlpIdeal.Gen.frame m ρ, fun m ρ _ => Cert.MlpIdeal.Gen.frame m ρ,
  Cert.MlpPair.ref_frame, fun m ρ _ => Cert.MlpPair.ref_frame m ρ trivial,
  fun m ρ _ => Cert.Merge.Gen.frame m ρ, fun m ρ _ => Cert.MergeIdeal.Gen.frame m ρ, fun m ρ _ => Cert.MergeIdeal.Gen.frame m ρ,
  Cert.MergePair.ref_frame, fun m ρ _ => Cert.MergePair.ref_frame m ρ trivial,
  fun m ρ _ => Cert.FwdA.Gen.frame m ρ, fun m ρ _ => Cert.FwdAIdeal.Gen.frame m ρ, fun m ρ _ => Cert.FwdAIdeal.Gen.frame m ρ,
  Cert.FwdAPair.ref_frame, fun m ρ _ => Cert.FwdAPair.ref_frame m ρ trivial,
  fun m ρ _ => Cert.FwdB.Gen.frame m ρ, fun m ρ _ => Cert.FwdBIdeal.Gen.frame m ρ, fun m ρ _ => Cert.FwdBIdeal.Gen.frame m ρ,
  Cert.FwdBPair.ref_frame, fun m ρ _ => Cert.FwdBPair.ref_frame m ρ trivial,
  fun m ρ _ => Cert.FwdMlp.Gen.frame m ρ, fun m ρ _ => Cert.FwdMlpIdeal.Gen.frame m ρ, fun m ρ _ => Cert.FwdMlpIdeal.Gen.frame m ρ,
  Cert.FwdMlpPair.ref_frame, fun m ρ _ => Cert.FwdMlpPair.ref_frame m ρ trivial,
  trivial, Cert.PlePair.algebraic,
  trivial, Cert.AttnBPair.algebraic,
  trivial, Cert.AttnAPair.algebraic,
  trivial, Cert.InPair.algebraic,
  trivial, Cert.MlpPair.algebraic,
  trivial, Cert.MergePair.algebraic,
  trivial, Cert.FwdAPair.algebraic,
  trivial, Cert.FwdBPair.algebraic,
  trivial, Cert.FwdMlpPair.algebraic⟩

end Cert.Proof

end
